-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_LatentProject (m : (ℓ : Loc Cert.LatentProject.nD Cert.LatentProject.τ Cert.LatentProject.sig) → Buf (Elt Bits) ℓ) : Prop :=
  True

def Pre_LatentProjectIdeal (m : (ℓ : Loc Cert.LatentProjectIdeal.nD Cert.LatentProjectIdeal.τ Cert.LatentProjectIdeal.sig) → Buf (Elt Ideal) ℓ) : Prop :=
  True

def Pre_LatentProjectReferenceIdeal (m : (ℓ : Loc Cert.LatentProjectReferenceIdeal.nD Cert.LatentProjectReferenceIdeal.τ Cert.LatentProjectReferenceIdeal.sig) → Buf (Elt Ideal) ℓ) : Prop :=
  True

def Pre_RotatedProject (m : (ℓ : Loc Cert.RotatedProject.nD Cert.RotatedProject.τ Cert.RotatedProject.sig) → Buf (Elt Bits) ℓ) : Prop :=
  True

def Pre_RotatedProjectIdeal (m : (ℓ : Loc Cert.RotatedProjectIdeal.nD Cert.RotatedProjectIdeal.τ Cert.RotatedProjectIdeal.sig) → Buf (Elt Ideal) ℓ) : Prop :=
  True

def Pre_RotatedProjectReferenceIdeal (m : (ℓ : Loc Cert.RotatedProjectReferenceIdeal.nD Cert.RotatedProjectReferenceIdeal.τ Cert.RotatedProjectReferenceIdeal.sig) → Buf (Elt Ideal) ℓ) : Prop :=
  True

def Pre_WindowProject (m : (ℓ : Loc Cert.WindowProject.nD Cert.WindowProject.τ Cert.WindowProject.sig) → Buf (Elt Bits) ℓ) : Prop :=
  True

def Pre_WindowProjectIdeal (m : (ℓ : Loc Cert.WindowProjectIdeal.nD Cert.WindowProjectIdeal.τ Cert.WindowProjectIdeal.sig) → Buf (Elt Ideal) ℓ) : Prop :=
  True

def Pre_WindowProjectReferenceIdeal (m : (ℓ : Loc Cert.WindowProjectReferenceIdeal.nD Cert.WindowProjectReferenceIdeal.τ Cert.WindowProjectReferenceIdeal.sig) → Buf (Elt Ideal) ℓ) : Prop :=
  True

def Pre_RotatedWindowProject (m : (ℓ : Loc Cert.RotatedWindowProject.nD Cert.RotatedWindowProject.τ Cert.RotatedWindowProject.sig) → Buf (Elt Bits) ℓ) : Prop :=
  True

def Pre_RotatedWindowProjectIdeal (m : (ℓ : Loc Cert.RotatedWindowProjectIdeal.nD Cert.RotatedWindowProjectIdeal.τ Cert.RotatedWindowProjectIdeal.sig) → Buf (Elt Ideal) ℓ) : Prop :=
  True

def Pre_RotatedWindowProjectReferenceIdeal (m : (ℓ : Loc Cert.RotatedWindowProjectReferenceIdeal.nD Cert.RotatedWindowProjectReferenceIdeal.τ Cert.RotatedWindowProjectReferenceIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteReferenceIdeal (m : (ℓ : Loc Cert.RouteReferenceIdeal.nD Cert.RouteReferenceIdeal.τ Cert.RouteReferenceIdeal.sig) → Buf (Elt Ideal) ℓ) : Prop :=
  True

def Pre_ContextAttention (m : (ℓ : Loc Cert.ContextAttention.nD Cert.ContextAttention.τ Cert.ContextAttention.sig) → Buf (Elt Bits) ℓ) : Prop :=
  True

def Pre_ContextAttentionIdeal (m : (ℓ : Loc Cert.ContextAttentionIdeal.nD Cert.ContextAttentionIdeal.τ Cert.ContextAttentionIdeal.sig) → Buf (Elt Ideal) ℓ) : Prop :=
  True

def Pre_ContextAttentionIdeal_finite_context_queries_and_keys [hPre_finite_context_queries_and_keys : Cert.Pre_finite_context_queries_and_keys.Facts] (m : (ℓ : Loc Cert.ContextAttentionIdeal.nD Cert.ContextAttentionIdeal.τ Cert.ContextAttentionIdeal.sig) → Buf (Elt Ideal) ℓ) : Prop :=
  ∀ c : Dev Cert.ContextAttentionIdeal.nD,
    (Cert.Pre_finite_context_queries_and_keys.fn (F := Ideal) (m ((c.tc : Thread Cert.ContextAttentionIdeal.nD Cert.ContextAttentionIdeal.τ).loc Cert.ContextAttentionIdeal.main_arg0)) (m ((c.tc : Thread Cert.ContextAttentionIdeal.nD Cert.ContextAttentionIdeal.τ).loc Cert.ContextAttentionIdeal.main_arg1)) (m ((c.tc : Thread Cert.ContextAttentionIdeal.nD Cert.ContextAttentionIdeal.τ).loc Cert.ContextAttentionIdeal.main_arg2))) = (fun _ => 1#1)

def Pre_ContextAttentionReferenceIdeal (m : (ℓ : Loc Cert.ContextAttentionReferenceIdeal.nD Cert.ContextAttentionReferenceIdeal.τ Cert.ContextAttentionReferenceIdeal.sig) → Buf (Elt Ideal) ℓ) : Prop :=
  True

def Pre_ContextAttentionReferenceIdeal_finite_context_queries_and_keys [hPre_finite_context_queries_and_keys : Cert.Pre_finite_context_queries_and_keys.Facts] (m : (ℓ : Loc Cert.ContextAttentionReferenceIdeal.nD Cert.ContextAttentionReferenceIdeal.τ Cert.ContextAttentionReferenceIdeal.sig) → Buf (Elt Ideal) ℓ) : Prop :=
  ∀ c : Dev Cert.ContextAttentionReferenceIdeal.nD,
    (Cert.Pre_finite_context_queries_and_keys.fn (F := Ideal) (m ((c.tc : Thread Cert.ContextAttentionReferenceIdeal.nD Cert.ContextAttentionReferenceIdeal.τ).loc Cert.ContextAttentionReferenceIdeal.main_arg0)) (m ((c.tc : Thread Cert.ContextAttentionReferenceIdeal.nD Cert.ContextAttentionReferenceIdeal.τ).loc Cert.ContextAttentionReferenceIdeal.main_arg1)) (m ((c.tc : Thread Cert.ContextAttentionReferenceIdeal.nD Cert.ContextAttentionReferenceIdeal.τ).loc Cert.ContextAttentionReferenceIdeal.main_arg2))) = (fun _ => 1#1)

def Pre_PlainContextAttention (m : (ℓ : Loc Cert.PlainContextAttention.nD Cert.PlainContextAttention.τ Cert.PlainContextAttention.sig) → Buf (Elt Bits) ℓ) : Prop :=
  True

def Pre_PlainContextAttentionIdeal (m : (ℓ : Loc Cert.PlainContextAttentionIdeal.nD Cert.PlainContextAttentionIdeal.τ Cert.PlainContextAttentionIdeal.sig) → Buf (Elt Ideal) ℓ) : Prop :=
  True

def Pre_PlainContextAttentionIdeal_finite_plain_queries_and_keys [hPre_finite_plain_queries_and_keys : Cert.Pre_finite_plain_queries_and_keys.Facts] (m : (ℓ : Loc Cert.PlainContextAttentionIdeal.nD Cert.PlainContextAttentionIdeal.τ Cert.PlainContextAttentionIdeal.sig) → Buf (Elt Ideal) ℓ) : Prop :=
  ∀ c : Dev Cert.PlainContextAttentionIdeal.nD,
    (Cert.Pre_finite_plain_queries_and_keys.fn (F := Ideal) (m ((c.tc : Thread Cert.PlainContextAttentionIdeal.nD Cert.PlainContextAttentionIdeal.τ).loc Cert.PlainContextAttentionIdeal.main_arg0))) = (fun _ => 1#1)

def Pre_PlainContextAttentionReferenceIdeal (m : (ℓ : Loc Cert.PlainContextAttentionReferenceIdeal.nD Cert.PlainContextAttentionReferenceIdeal.τ Cert.PlainContextAttentionReferenceIdeal.sig) → Buf (Elt Ideal) ℓ) : Prop :=
  True

def Pre_PlainContextAttentionReferenceIdeal_finite_plain_queries_and_keys [hPre_finite_plain_queries_and_keys : Cert.Pre_finite_plain_queries_and_keys.Facts] (m : (ℓ : Loc Cert.PlainContextAttentionReferenceIdeal.nD Cert.PlainContextAttentionReferenceIdeal.τ Cert.PlainContextAttentionReferenceIdeal.sig) → Buf (Elt Ideal) ℓ) : Prop :=
  ∀ c : Dev Cert.PlainContextAttentionReferenceIdeal.nD,
    (Cert.Pre_finite_plain_queries_and_keys.fn (F := Ideal) (m ((c.tc : Thread Cert.PlainContextAttentionReferenceIdeal.nD Cert.PlainContextAttentionReferenceIdeal.τ).loc Cert.PlainContextAttentionReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0)

def quiescent_LatentProject [hLatentProject : Cert.LatentProject.Facts] : Prop :=
  ∀ (m : (ℓ : Loc Cert.LatentProject.nD Cert.LatentProject.τ Cert.LatentProject.sig) → Buf (Elt Bits) ℓ) (g : Dev Cert.LatentProject.nD → PrngReg), Pre_LatentProject m →
    θ_run (Cert.LatentProject.defs (F := Bits)) (onTc (τ := Cert.LatentProject.τ) (Cert.LatentProject.main (F := Bits))) ⟨m, fun _ => 0, g⟩ (fun r => (∀ c : Dev Cert.LatentProject.nD,
      r.2.mem ((c.tc : Thread Cert.LatentProject.nD Cert.LatentProject.τ).loc Cert.LatentProject.main_arg0) = m ((c.tc : Thread Cert.LatentProject.nD Cert.LatentProject.τ).loc Cert.LatentProject.main_arg0)
      ∧ r.2.mem ((c.tc : Thread Cert.LatentProject.nD Cert.LatentProject.τ).loc Cert.LatentProject.main_arg1) = m ((c.tc : Thread Cert.LatentProject.nD Cert.LatentProject.τ).loc Cert.LatentProject.main_arg1)
      ∧ r.2.mem ((c.tc : Thread Cert.LatentProject.nD Cert.LatentProject.τ).loc Cert.LatentProject.main_arg2) = m ((c.tc : Thread Cert.LatentProject.nD Cert.LatentProject.τ).loc Cert.LatentProject.main_arg2)
      ∧ r.2.mem ((c.tc : Thread Cert.LatentProject.nD Cert.LatentProject.τ).loc Cert.LatentProject.main_arg3) = m ((c.tc : Thread Cert.LatentProject.nD Cert.LatentProject.τ).loc Cert.LatentProject.main_arg3)
      ∧ r.2.mem ((c.tc : Thread Cert.LatentProject.nD Cert.LatentProject.τ).loc Cert.LatentProject.main_arg4) = m ((c.tc : Thread Cert.LatentProject.nD Cert.LatentProject.τ).loc Cert.LatentProject.main_arg4)
      ∧ r.2.mem ((c.tc : Thread Cert.LatentProject.nD Cert.LatentProject.τ).loc Cert.LatentProject.main_arg5) = m ((c.tc : Thread Cert.LatentProject.nD Cert.LatentProject.τ).loc Cert.LatentProject.main_arg5))
      ∧ r.2.sem = fun _ => 0)

def quiescent_LatentProjectIdeal [hLatentProjectIdeal : Cert.LatentProjectIdeal.Facts] : Prop :=
  ∀ (m : (ℓ : Loc Cert.LatentProjectIdeal.nD Cert.LatentProjectIdeal.τ Cert.LatentProjectIdeal.sig) → Buf (Elt Ideal) ℓ) (g : Dev Cert.LatentProjectIdeal.nD → PrngReg), Pre_LatentProjectIdeal m →
    θ_run (Cert.LatentProjectIdeal.defs (F := Ideal)) (onTc (τ := Cert.LatentProjectIdeal.τ) (Cert.LatentProjectIdeal.main (F := Ideal))) ⟨m, fun _ => 0, g⟩ (fun r => (∀ c : Dev Cert.LatentProjectIdeal.nD,
      r.2.mem ((c.tc : Thread Cert.LatentProjectIdeal.nD Cert.LatentProjectIdeal.τ).loc Cert.LatentProjectIdeal.main_arg0) = m ((c.tc : Thread Cert.LatentProjectIdeal.nD Cert.LatentProjectIdeal.τ).loc Cert.LatentProjectIdeal.main_arg0)
      ∧ r.2.mem ((c.tc : Thread Cert.LatentProjectIdeal.nD Cert.LatentProjectIdeal.τ).loc Cert.LatentProjectIdeal.main_arg1) = m ((c.tc : Thread Cert.LatentProjectIdeal.nD Cert.LatentProjectIdeal.τ).loc Cert.LatentProjectIdeal.main_arg1)
      ∧ r.2.mem ((c.tc : Thread Cert.LatentProjectIdeal.nD Cert.LatentProjectIdeal.τ).loc Cert.LatentProjectIdeal.main_arg2) = m ((c.tc : Thread Cert.LatentProjectIdeal.nD Cert.LatentProjectIdeal.τ).loc Cert.LatentProjectIdeal.main_arg2)
      ∧ r.2.mem ((c.tc : Thread Cert.LatentProjectIdeal.nD Cert.LatentProjectIdeal.τ).loc Cert.LatentProjectIdeal.main_arg3) = m ((c.tc : Thread Cert.LatentProjectIdeal.nD Cert.LatentProjectIdeal.τ).loc Cert.LatentProjectIdeal.main_arg3)
      ∧ r.2.mem ((c.tc : Thread Cert.LatentProjectIdeal.nD Cert.LatentProjectIdeal.τ).loc Cert.LatentProjectIdeal.main_arg4) = m ((c.tc : Thread Cert.LatentProjectIdeal.nD Cert.LatentProjectIdeal.τ).loc Cert.LatentProjectIdeal.main_arg4)
      ∧ r.2.mem ((c.tc : Thread Cert.LatentProjectIdeal.nD Cert.LatentProjectIdeal.τ).loc Cert.LatentProjectIdeal.main_arg5) = m ((c.tc : Thread Cert.LatentProjectIdeal.nD Cert.LatentProjectIdeal.τ).loc Cert.LatentProjectIdeal.main_arg5))
      ∧ r.2.sem = fun _ => 0)

def quiescent_LatentProjectReferenceIdeal [hLatentProjectReferenceIdeal : Cert.LatentProjectReferenceIdeal.Facts] : Prop :=
  ∀ (m : (ℓ : Loc Cert.LatentProjectReferenceIdeal.nD Cert.LatentProjectReferenceIdeal.τ Cert.LatentProjectReferenceIdeal.sig) → Buf (Elt Ideal) ℓ) (g : Dev Cert.LatentProjectReferenceIdeal.nD → PrngReg), Pre_LatentProjectReferenceIdeal m →
    θ_run (Cert.LatentProjectReferenceIdeal.defs (F := Ideal)) (onTc (τ := Cert.LatentProjectReferenceIdeal.τ) (Cert.LatentProjectReferenceIdeal.main (F := Ideal))) ⟨m, fun _ => 0, g⟩ (fun r => (∀ c : Dev Cert.LatentProjectReferenceIdeal.nD,
      r.2.mem ((c.tc : Thread Cert.LatentProjectReferenceIdeal.nD Cert.LatentProjectReferenceIdeal.τ).loc Cert.LatentProjectReferenceIdeal.main_arg0) = m ((c.tc : Thread Cert.LatentProjectReferenceIdeal.nD Cert.LatentProjectReferenceIdeal.τ).loc Cert.LatentProjectReferenceIdeal.main_arg0)
      ∧ r.2.mem ((c.tc : Thread Cert.LatentProjectReferenceIdeal.nD Cert.LatentProjectReferenceIdeal.τ).loc Cert.LatentProjectReferenceIdeal.main_arg1) = m ((c.tc : Thread Cert.LatentProjectReferenceIdeal.nD Cert.LatentProjectReferenceIdeal.τ).loc Cert.LatentProjectReferenceIdeal.main_arg1)
      ∧ r.2.mem ((c.tc : Thread Cert.LatentProjectReferenceIdeal.nD Cert.LatentProjectReferenceIdeal.τ).loc Cert.LatentProjectReferenceIdeal.main_arg2) = m ((c.tc : Thread Cert.LatentProjectReferenceIdeal.nD Cert.LatentProjectReferenceIdeal.τ).loc Cert.LatentProjectReferenceIdeal.main_arg2)
      ∧ r.2.mem ((c.tc : Thread Cert.LatentProjectReferenceIdeal.nD Cert.LatentProjectReferenceIdeal.τ).loc Cert.LatentProjectReferenceIdeal.main_arg3) = m ((c.tc : Thread Cert.LatentProjectReferenceIdeal.nD Cert.LatentProjectReferenceIdeal.τ).loc Cert.LatentProjectReferenceIdeal.main_arg3)
      ∧ r.2.mem ((c.tc : Thread Cert.LatentProjectReferenceIdeal.nD Cert.LatentProjectReferenceIdeal.τ).loc Cert.LatentProjectReferenceIdeal.main_arg4) = m ((c.tc : Thread Cert.LatentProjectReferenceIdeal.nD Cert.LatentProjectReferenceIdeal.τ).loc Cert.LatentProjectReferenceIdeal.main_arg4)
      ∧ r.2.mem ((c.tc : Thread Cert.LatentProjectReferenceIdeal.nD Cert.LatentProjectReferenceIdeal.τ).loc Cert.LatentProjectReferenceIdeal.main_arg5) = m ((c.tc : Thread Cert.LatentProjectReferenceIdeal.nD Cert.LatentProjectReferenceIdeal.τ).loc Cert.LatentProjectReferenceIdeal.main_arg5))
      ∧ r.2.sem = fun _ => 0)

def quiescent_RotatedProject [hRotatedProject : Cert.RotatedProject.Facts] : Prop :=
  ∀ (m : (ℓ : Loc Cert.RotatedProject.nD Cert.RotatedProject.τ Cert.RotatedProject.sig) → Buf (Elt Bits) ℓ) (g : Dev Cert.RotatedProject.nD → PrngReg), Pre_RotatedProject m →
    θ_run (Cert.RotatedProject.defs (F := Bits)) (onTc (τ := Cert.RotatedProject.τ) (Cert.RotatedProject.main (F := Bits))) ⟨m, fun _ => 0, g⟩ (fun r => (∀ c : Dev Cert.RotatedProject.nD,
      r.2.mem ((c.tc : Thread Cert.RotatedProject.nD Cert.RotatedProject.τ).loc Cert.RotatedProject.main_arg0) = m ((c.tc : Thread Cert.RotatedProject.nD Cert.RotatedProject.τ).loc Cert.RotatedProject.main_arg0)
      ∧ r.2.mem ((c.tc : Thread Cert.RotatedProject.nD Cert.RotatedProject.τ).loc Cert.RotatedProject.main_arg1) = m ((c.tc : Thread Cert.RotatedProject.nD Cert.RotatedProject.τ).loc Cert.RotatedProject.main_arg1)
      ∧ r.2.mem ((c.tc : Thread Cert.RotatedProject.nD Cert.RotatedProject.τ).loc Cert.RotatedProject.main_arg2) = m ((c.tc : Thread Cert.RotatedProject.nD Cert.RotatedProject.τ).loc Cert.RotatedProject.main_arg2)
      ∧ r.2.mem ((c.tc : Thread Cert.RotatedProject.nD Cert.RotatedProject.τ).loc Cert.RotatedProject.main_arg3) = m ((c.tc : Thread Cert.RotatedProject.nD Cert.RotatedProject.τ).loc Cert.RotatedProject.main_arg3)
      ∧ r.2.mem ((c.tc : Thread Cert.RotatedProject.nD Cert.RotatedProject.τ).loc Cert.RotatedProject.main_arg4) = m ((c.tc : Thread Cert.RotatedProject.nD Cert.RotatedProject.τ).loc Cert.RotatedProject.main_arg4)
      ∧ r.2.mem ((c.tc : Thread Cert.RotatedProject.nD Cert.RotatedProject.τ).loc Cert.RotatedProject.main_arg5) = m ((c.tc : Thread Cert.RotatedProject.nD Cert.RotatedProject.τ).loc Cert.RotatedProject.main_arg5)
      ∧ r.2.mem ((c.tc : Thread Cert.RotatedProject.nD Cert.RotatedProject.τ).loc Cert.RotatedProject.main_arg6) = m ((c.tc : Thread Cert.RotatedProject.nD Cert.RotatedProject.τ).loc Cert.RotatedProject.main_arg6)
      ∧ r.2.mem ((c.tc : Thread Cert.RotatedProject.nD Cert.RotatedProject.τ).loc Cert.RotatedProject.main_arg7) = m ((c.tc : Thread Cert.RotatedProject.nD Cert.RotatedProject.τ).loc Cert.RotatedProject.main_arg7))
      ∧ r.2.sem = fun _ => 0)

def quiescent_RotatedProjectIdeal [hRotatedProjectIdeal : Cert.RotatedProjectIdeal.Facts] : Prop :=
  ∀ (m : (ℓ : Loc Cert.RotatedProjectIdeal.nD Cert.RotatedProjectIdeal.τ Cert.RotatedProjectIdeal.sig) → Buf (Elt Ideal) ℓ) (g : Dev Cert.RotatedProjectIdeal.nD → PrngReg), Pre_RotatedProjectIdeal m →
    θ_run (Cert.RotatedProjectIdeal.defs (F := Ideal)) (onTc (τ := Cert.RotatedProjectIdeal.τ) (Cert.RotatedProjectIdeal.main (F := Ideal))) ⟨m, fun _ => 0, g⟩ (fun r => (∀ c : Dev Cert.RotatedProjectIdeal.nD,
      r.2.mem ((c.tc : Thread Cert.RotatedProjectIdeal.nD Cert.RotatedProjectIdeal.τ).loc Cert.RotatedProjectIdeal.main_arg0) = m ((c.tc : Thread Cert.RotatedProjectIdeal.nD Cert.RotatedProjectIdeal.τ).loc Cert.RotatedProjectIdeal.main_arg0)
      ∧ r.2.mem ((c.tc : Thread Cert.RotatedProjectIdeal.nD Cert.RotatedProjectIdeal.τ).loc Cert.RotatedProjectIdeal.main_arg1) = m ((c.tc : Thread Cert.RotatedProjectIdeal.nD Cert.RotatedProjectIdeal.τ).loc Cert.RotatedProjectIdeal.main_arg1)
      ∧ r.2.mem ((c.tc : Thread Cert.RotatedProjectIdeal.nD Cert.RotatedProjectIdeal.τ).loc Cert.RotatedProjectIdeal.main_arg2) = m ((c.tc : Thread Cert.RotatedProjectIdeal.nD Cert.RotatedProjectIdeal.τ).loc Cert.RotatedProjectIdeal.main_arg2)
      ∧ r.2.mem ((c.tc : Thread Cert.RotatedProjectIdeal.nD Cert.RotatedProjectIdeal.τ).loc Cert.RotatedProjectIdeal.main_arg3) = m ((c.tc : Thread Cert.RotatedProjectIdeal.nD Cert.RotatedProjectIdeal.τ).loc Cert.RotatedProjectIdeal.main_arg3)
      ∧ r.2.mem ((c.tc : Thread Cert.RotatedProjectIdeal.nD Cert.RotatedProjectIdeal.τ).loc Cert.RotatedProjectIdeal.main_arg4) = m ((c.tc : Thread Cert.RotatedProjectIdeal.nD Cert.RotatedProjectIdeal.τ).loc Cert.RotatedProjectIdeal.main_arg4)
      ∧ r.2.mem ((c.tc : Thread Cert.RotatedProjectIdeal.nD Cert.RotatedProjectIdeal.τ).loc Cert.RotatedProjectIdeal.main_arg5) = m ((c.tc : Thread Cert.RotatedProjectIdeal.nD Cert.RotatedProjectIdeal.τ).loc Cert.RotatedProjectIdeal.main_arg5)
      ∧ r.2.mem ((c.tc : Thread Cert.RotatedProjectIdeal.nD Cert.RotatedProjectIdeal.τ).loc Cert.RotatedProjectIdeal.main_arg6) = m ((c.tc : Thread Cert.RotatedProjectIdeal.nD Cert.RotatedProjectIdeal.τ).loc Cert.RotatedProjectIdeal.main_arg6)
      ∧ r.2.mem ((c.tc : Thread Cert.RotatedProjectIdeal.nD Cert.RotatedProjectIdeal.τ).loc Cert.RotatedProjectIdeal.main_arg7) = m ((c.tc : Thread Cert.RotatedProjectIdeal.nD Cert.RotatedProjectIdeal.τ).loc Cert.RotatedProjectIdeal.main_arg7))
      ∧ r.2.sem = fun _ => 0)

def quiescent_RotatedProjectReferenceIdeal [hRotatedProjectReferenceIdeal : Cert.RotatedProjectReferenceIdeal.Facts] : Prop :=
  ∀ (m : (ℓ : Loc Cert.RotatedProjectReferenceIdeal.nD Cert.RotatedProjectReferenceIdeal.τ Cert.RotatedProjectReferenceIdeal.sig) → Buf (Elt Ideal) ℓ) (g : Dev Cert.RotatedProjectReferenceIdeal.nD → PrngReg), Pre_RotatedProjectReferenceIdeal m →
    θ_run (Cert.RotatedProjectReferenceIdeal.defs (F := Ideal)) (onTc (τ := Cert.RotatedProjectReferenceIdeal.τ) (Cert.RotatedProjectReferenceIdeal.main (F := Ideal))) ⟨m, fun _ => 0, g⟩ (fun r => (∀ c : Dev Cert.RotatedProjectReferenceIdeal.nD,
      r.2.mem ((c.tc : Thread Cert.RotatedProjectReferenceIdeal.nD Cert.RotatedProjectReferenceIdeal.τ).loc Cert.RotatedProjectReferenceIdeal.main_arg0) = m ((c.tc : Thread Cert.RotatedProjectReferenceIdeal.nD Cert.RotatedProjectReferenceIdeal.τ).loc Cert.RotatedProjectReferenceIdeal.main_arg0)
      ∧ r.2.mem ((c.tc : Thread Cert.RotatedProjectReferenceIdeal.nD Cert.RotatedProjectReferenceIdeal.τ).loc Cert.RotatedProjectReferenceIdeal.main_arg1) = m ((c.tc : Thread Cert.RotatedProjectReferenceIdeal.nD Cert.RotatedProjectReferenceIdeal.τ).loc Cert.RotatedProjectReferenceIdeal.main_arg1)
      ∧ r.2.mem ((c.tc : Thread Cert.RotatedProjectReferenceIdeal.nD Cert.RotatedProjectReferenceIdeal.τ).loc Cert.RotatedProjectReferenceIdeal.main_arg2) = m ((c.tc : Thread Cert.RotatedProjectReferenceIdeal.nD Cert.RotatedProjectReferenceIdeal.τ).loc Cert.RotatedProjectReferenceIdeal.main_arg2)
      ∧ r.2.mem ((c.tc : Thread Cert.RotatedProjectReferenceIdeal.nD Cert.RotatedProjectReferenceIdeal.τ).loc Cert.RotatedProjectReferenceIdeal.main_arg3) = m ((c.tc : Thread Cert.RotatedProjectReferenceIdeal.nD Cert.RotatedProjectReferenceIdeal.τ).loc Cert.RotatedProjectReferenceIdeal.main_arg3)
      ∧ r.2.mem ((c.tc : Thread Cert.RotatedProjectReferenceIdeal.nD Cert.RotatedProjectReferenceIdeal.τ).loc Cert.RotatedProjectReferenceIdeal.main_arg4) = m ((c.tc : Thread Cert.RotatedProjectReferenceIdeal.nD Cert.RotatedProjectReferenceIdeal.τ).loc Cert.RotatedProjectReferenceIdeal.main_arg4)
      ∧ r.2.mem ((c.tc : Thread Cert.RotatedProjectReferenceIdeal.nD Cert.RotatedProjectReferenceIdeal.τ).loc Cert.RotatedProjectReferenceIdeal.main_arg5) = m ((c.tc : Thread Cert.RotatedProjectReferenceIdeal.nD Cert.RotatedProjectReferenceIdeal.τ).loc Cert.RotatedProjectReferenceIdeal.main_arg5)
      ∧ r.2.mem ((c.tc : Thread Cert.RotatedProjectReferenceIdeal.nD Cert.RotatedProjectReferenceIdeal.τ).loc Cert.RotatedProjectReferenceIdeal.main_arg6) = m ((c.tc : Thread Cert.RotatedProjectReferenceIdeal.nD Cert.RotatedProjectReferenceIdeal.τ).loc Cert.RotatedProjectReferenceIdeal.main_arg6)
      ∧ r.2.mem ((c.tc : Thread Cert.RotatedProjectReferenceIdeal.nD Cert.RotatedProjectReferenceIdeal.τ).loc Cert.RotatedProjectReferenceIdeal.main_arg7) = m ((c.tc : Thread Cert.RotatedProjectReferenceIdeal.nD Cert.RotatedProjectReferenceIdeal.τ).loc Cert.RotatedProjectReferenceIdeal.main_arg7))
      ∧ r.2.sem = fun _ => 0)

def quiescent_WindowProject [hWindowProject : Cert.WindowProject.Facts] : Prop :=
  ∀ (m : (ℓ : Loc Cert.WindowProject.nD Cert.WindowProject.τ Cert.WindowProject.sig) → Buf (Elt Bits) ℓ) (g : Dev Cert.WindowProject.nD → PrngReg), Pre_WindowProject m →
    θ_run (Cert.WindowProject.defs (F := Bits)) (onTc (τ := Cert.WindowProject.τ) (Cert.WindowProject.main (F := Bits))) ⟨m, fun _ => 0, g⟩ (fun r => (∀ c : Dev Cert.WindowProject.nD,
      r.2.mem ((c.tc : Thread Cert.WindowProject.nD Cert.WindowProject.τ).loc Cert.WindowProject.main_arg0) = m ((c.tc : Thread Cert.WindowProject.nD Cert.WindowProject.τ).loc Cert.WindowProject.main_arg0)
      ∧ r.2.mem ((c.tc : Thread Cert.WindowProject.nD Cert.WindowProject.τ).loc Cert.WindowProject.main_arg1) = m ((c.tc : Thread Cert.WindowProject.nD Cert.WindowProject.τ).loc Cert.WindowProject.main_arg1)
      ∧ r.2.mem ((c.tc : Thread Cert.WindowProject.nD Cert.WindowProject.τ).loc Cert.WindowProject.main_arg2) = m ((c.tc : Thread Cert.WindowProject.nD Cert.WindowProject.τ).loc Cert.WindowProject.main_arg2)
      ∧ r.2.mem ((c.tc : Thread Cert.WindowProject.nD Cert.WindowProject.τ).loc Cert.WindowProject.main_arg3) = m ((c.tc : Thread Cert.WindowProject.nD Cert.WindowProject.τ).loc Cert.WindowProject.main_arg3)
      ∧ r.2.mem ((c.tc : Thread Cert.WindowProject.nD Cert.WindowProject.τ).loc Cert.WindowProject.main_arg4) = m ((c.tc : Thread Cert.WindowProject.nD Cert.WindowProject.τ).loc Cert.WindowProject.main_arg4)
      ∧ r.2.mem ((c.tc : Thread Cert.WindowProject.nD Cert.WindowProject.τ).loc Cert.WindowProject.main_arg5) = m ((c.tc : Thread Cert.WindowProject.nD Cert.WindowProject.τ).loc Cert.WindowProject.main_arg5))
      ∧ r.2.sem = fun _ => 0)

def quiescent_WindowProjectIdeal [hWindowProjectIdeal : Cert.WindowProjectIdeal.Facts] : Prop :=
  ∀ (m : (ℓ : Loc Cert.WindowProjectIdeal.nD Cert.WindowProjectIdeal.τ Cert.WindowProjectIdeal.sig) → Buf (Elt Ideal) ℓ) (g : Dev Cert.WindowProjectIdeal.nD → PrngReg), Pre_WindowProjectIdeal m →
    θ_run (Cert.WindowProjectIdeal.defs (F := Ideal)) (onTc (τ := Cert.WindowProjectIdeal.τ) (Cert.WindowProjectIdeal.main (F := Ideal))) ⟨m, fun _ => 0, g⟩ (fun r => (∀ c : Dev Cert.WindowProjectIdeal.nD,
      r.2.mem ((c.tc : Thread Cert.WindowProjectIdeal.nD Cert.WindowProjectIdeal.τ).loc Cert.WindowProjectIdeal.main_arg0) = m ((c.tc : Thread Cert.WindowProjectIdeal.nD Cert.WindowProjectIdeal.τ).loc Cert.WindowProjectIdeal.main_arg0)
      ∧ r.2.mem ((c.tc : Thread Cert.WindowProjectIdeal.nD Cert.WindowProjectIdeal.τ).loc Cert.WindowProjectIdeal.main_arg1) = m ((c.tc : Thread Cert.WindowProjectIdeal.nD Cert.WindowProjectIdeal.τ).loc Cert.WindowProjectIdeal.main_arg1)
      ∧ r.2.mem ((c.tc : Thread Cert.WindowProjectIdeal.nD Cert.WindowProjectIdeal.τ).loc Cert.WindowProjectIdeal.main_arg2) = m ((c.tc : Thread Cert.WindowProjectIdeal.nD Cert.WindowProjectIdeal.τ).loc Cert.WindowProjectIdeal.main_arg2)
      ∧ r.2.mem ((c.tc : Thread Cert.WindowProjectIdeal.nD Cert.WindowProjectIdeal.τ).loc Cert.WindowProjectIdeal.main_arg3) = m ((c.tc : Thread Cert.WindowProjectIdeal.nD Cert.WindowProjectIdeal.τ).loc Cert.WindowProjectIdeal.main_arg3)
      ∧ r.2.mem ((c.tc : Thread Cert.WindowProjectIdeal.nD Cert.WindowProjectIdeal.τ).loc Cert.WindowProjectIdeal.main_arg4) = m ((c.tc : Thread Cert.WindowProjectIdeal.nD Cert.WindowProjectIdeal.τ).loc Cert.WindowProjectIdeal.main_arg4)
      ∧ r.2.mem ((c.tc : Thread Cert.WindowProjectIdeal.nD Cert.WindowProjectIdeal.τ).loc Cert.WindowProjectIdeal.main_arg5) = m ((c.tc : Thread Cert.WindowProjectIdeal.nD Cert.WindowProjectIdeal.τ).loc Cert.WindowProjectIdeal.main_arg5))
      ∧ r.2.sem = fun _ => 0)

def quiescent_WindowProjectReferenceIdeal [hWindowProjectReferenceIdeal : Cert.WindowProjectReferenceIdeal.Facts] : Prop :=
  ∀ (m : (ℓ : Loc Cert.WindowProjectReferenceIdeal.nD Cert.WindowProjectReferenceIdeal.τ Cert.WindowProjectReferenceIdeal.sig) → Buf (Elt Ideal) ℓ) (g : Dev Cert.WindowProjectReferenceIdeal.nD → PrngReg), Pre_WindowProjectReferenceIdeal m →
    θ_run (Cert.WindowProjectReferenceIdeal.defs (F := Ideal)) (onTc (τ := Cert.WindowProjectReferenceIdeal.τ) (Cert.WindowProjectReferenceIdeal.main (F := Ideal))) ⟨m, fun _ => 0, g⟩ (fun r => (∀ c : Dev Cert.WindowProjectReferenceIdeal.nD,
      r.2.mem ((c.tc : Thread Cert.WindowProjectReferenceIdeal.nD Cert.WindowProjectReferenceIdeal.τ).loc Cert.WindowProjectReferenceIdeal.main_arg0) = m ((c.tc : Thread Cert.WindowProjectReferenceIdeal.nD Cert.WindowProjectReferenceIdeal.τ).loc Cert.WindowProjectReferenceIdeal.main_arg0)
      ∧ r.2.mem ((c.tc : Thread Cert.WindowProjectReferenceIdeal.nD Cert.WindowProjectReferenceIdeal.τ).loc Cert.WindowProjectReferenceIdeal.main_arg1) = m ((c.tc : Thread Cert.WindowProjectReferenceIdeal.nD Cert.WindowProjectReferenceIdeal.τ).loc Cert.WindowProjectReferenceIdeal.main_arg1)
      ∧ r.2.mem ((c.tc : Thread Cert.WindowProjectReferenceIdeal.nD Cert.WindowProjectReferenceIdeal.τ).loc Cert.WindowProjectReferenceIdeal.main_arg2) = m ((c.tc : Thread Cert.WindowProjectReferenceIdeal.nD Cert.WindowProjectReferenceIdeal.τ).loc Cert.WindowProjectReferenceIdeal.main_arg2)
      ∧ r.2.mem ((c.tc : Thread Cert.WindowProjectReferenceIdeal.nD Cert.WindowProjectReferenceIdeal.τ).loc Cert.WindowProjectReferenceIdeal.main_arg3) = m ((c.tc : Thread Cert.WindowProjectReferenceIdeal.nD Cert.WindowProjectReferenceIdeal.τ).loc Cert.WindowProjectReferenceIdeal.main_arg3)
      ∧ r.2.mem ((c.tc : Thread Cert.WindowProjectReferenceIdeal.nD Cert.WindowProjectReferenceIdeal.τ).loc Cert.WindowProjectReferenceIdeal.main_arg4) = m ((c.tc : Thread Cert.WindowProjectReferenceIdeal.nD Cert.WindowProjectReferenceIdeal.τ).loc Cert.WindowProjectReferenceIdeal.main_arg4)
      ∧ r.2.mem ((c.tc : Thread Cert.WindowProjectReferenceIdeal.nD Cert.WindowProjectReferenceIdeal.τ).loc Cert.WindowProjectReferenceIdeal.main_arg5) = m ((c.tc : Thread Cert.WindowProjectReferenceIdeal.nD Cert.WindowProjectReferenceIdeal.τ).loc Cert.WindowProjectReferenceIdeal.main_arg5))
      ∧ r.2.sem = fun _ => 0)

def quiescent_RotatedWindowProject [hRotatedWindowProject : Cert.RotatedWindowProject.Facts] : Prop :=
  ∀ (m : (ℓ : Loc Cert.RotatedWindowProject.nD Cert.RotatedWindowProject.τ Cert.RotatedWindowProject.sig) → Buf (Elt Bits) ℓ) (g : Dev Cert.RotatedWindowProject.nD → PrngReg), Pre_RotatedWindowProject m →
    θ_run (Cert.RotatedWindowProject.defs (F := Bits)) (onTc (τ := Cert.RotatedWindowProject.τ) (Cert.RotatedWindowProject.main (F := Bits))) ⟨m, fun _ => 0, g⟩ (fun r => (∀ c : Dev Cert.RotatedWindowProject.nD,
      r.2.mem ((c.tc : Thread Cert.RotatedWindowProject.nD Cert.RotatedWindowProject.τ).loc Cert.RotatedWindowProject.main_arg0) = m ((c.tc : Thread Cert.RotatedWindowProject.nD Cert.RotatedWindowProject.τ).loc Cert.RotatedWindowProject.main_arg0)
      ∧ r.2.mem ((c.tc : Thread Cert.RotatedWindowProject.nD Cert.RotatedWindowProject.τ).loc Cert.RotatedWindowProject.main_arg1) = m ((c.tc : Thread Cert.RotatedWindowProject.nD Cert.RotatedWindowProject.τ).loc Cert.RotatedWindowProject.main_arg1)
      ∧ r.2.mem ((c.tc : Thread Cert.RotatedWindowProject.nD Cert.RotatedWindowProject.τ).loc Cert.RotatedWindowProject.main_arg2) = m ((c.tc : Thread Cert.RotatedWindowProject.nD Cert.RotatedWindowProject.τ).loc Cert.RotatedWindowProject.main_arg2)
      ∧ r.2.mem ((c.tc : Thread Cert.RotatedWindowProject.nD Cert.RotatedWindowProject.τ).loc Cert.RotatedWindowProject.main_arg3) = m ((c.tc : Thread Cert.RotatedWindowProject.nD Cert.RotatedWindowProject.τ).loc Cert.RotatedWindowProject.main_arg3)
      ∧ r.2.mem ((c.tc : Thread Cert.RotatedWindowProject.nD Cert.RotatedWindowProject.τ).loc Cert.RotatedWindowProject.main_arg4) = m ((c.tc : Thread Cert.RotatedWindowProject.nD Cert.RotatedWindowProject.τ).loc Cert.RotatedWindowProject.main_arg4)
      ∧ r.2.mem ((c.tc : Thread Cert.RotatedWindowProject.nD Cert.RotatedWindowProject.τ).loc Cert.RotatedWindowProject.main_arg5) = m ((c.tc : Thread Cert.RotatedWindowProject.nD Cert.RotatedWindowProject.τ).loc Cert.RotatedWindowProject.main_arg5)
      ∧ r.2.mem ((c.tc : Thread Cert.RotatedWindowProject.nD Cert.RotatedWindowProject.τ).loc Cert.RotatedWindowProject.main_arg6) = m ((c.tc : Thread Cert.RotatedWindowProject.nD Cert.RotatedWindowProject.τ).loc Cert.RotatedWindowProject.main_arg6)
      ∧ r.2.mem ((c.tc : Thread Cert.RotatedWindowProject.nD Cert.RotatedWindowProject.τ).loc Cert.RotatedWindowProject.main_arg7) = m ((c.tc : Thread Cert.RotatedWindowProject.nD Cert.RotatedWindowProject.τ).loc Cert.RotatedWindowProject.main_arg7))
      ∧ r.2.sem = fun _ => 0)

def quiescent_RotatedWindowProjectIdeal [hRotatedWindowProjectIdeal : Cert.RotatedWindowProjectIdeal.Facts] : Prop :=
  ∀ (m : (ℓ : Loc Cert.RotatedWindowProjectIdeal.nD Cert.RotatedWindowProjectIdeal.τ Cert.RotatedWindowProjectIdeal.sig) → Buf (Elt Ideal) ℓ) (g : Dev Cert.RotatedWindowProjectIdeal.nD → PrngReg), Pre_RotatedWindowProjectIdeal m →
    θ_run (Cert.RotatedWindowProjectIdeal.defs (F := Ideal)) (onTc (τ := Cert.RotatedWindowProjectIdeal.τ) (Cert.RotatedWindowProjectIdeal.main (F := Ideal))) ⟨m, fun _ => 0, g⟩ (fun r => (∀ c : Dev Cert.RotatedWindowProjectIdeal.nD,
      r.2.mem ((c.tc : Thread Cert.RotatedWindowProjectIdeal.nD Cert.RotatedWindowProjectIdeal.τ).loc Cert.RotatedWindowProjectIdeal.main_arg0) = m ((c.tc : Thread Cert.RotatedWindowProjectIdeal.nD Cert.RotatedWindowProjectIdeal.τ).loc Cert.RotatedWindowProjectIdeal.main_arg0)
      ∧ r.2.mem ((c.tc : Thread Cert.RotatedWindowProjectIdeal.nD Cert.RotatedWindowProjectIdeal.τ).loc Cert.RotatedWindowProjectIdeal.main_arg1) = m ((c.tc : Thread Cert.RotatedWindowProjectIdeal.nD Cert.RotatedWindowProjectIdeal.τ).loc Cert.RotatedWindowProjectIdeal.main_arg1)
      ∧ r.2.mem ((c.tc : Thread Cert.RotatedWindowProjectIdeal.nD Cert.RotatedWindowProjectIdeal.τ).loc Cert.RotatedWindowProjectIdeal.main_arg2) = m ((c.tc : Thread Cert.RotatedWindowProjectIdeal.nD Cert.RotatedWindowProjectIdeal.τ).loc Cert.RotatedWindowProjectIdeal.main_arg2)
      ∧ r.2.mem ((c.tc : Thread Cert.RotatedWindowProjectIdeal.nD Cert.RotatedWindowProjectIdeal.τ).loc Cert.RotatedWindowProjectIdeal.main_arg3) = m ((c.tc : Thread Cert.RotatedWindowProjectIdeal.nD Cert.RotatedWindowProjectIdeal.τ).loc Cert.RotatedWindowProjectIdeal.main_arg3)
      ∧ r.2.mem ((c.tc : Thread Cert.RotatedWindowProjectIdeal.nD Cert.RotatedWindowProjectIdeal.τ).loc Cert.RotatedWindowProjectIdeal.main_arg4) = m ((c.tc : Thread Cert.RotatedWindowProjectIdeal.nD Cert.RotatedWindowProjectIdeal.τ).loc Cert.RotatedWindowProjectIdeal.main_arg4)
      ∧ r.2.mem ((c.tc : Thread Cert.RotatedWindowProjectIdeal.nD Cert.RotatedWindowProjectIdeal.τ).loc Cert.RotatedWindowProjectIdeal.main_arg5) = m ((c.tc : Thread Cert.RotatedWindowProjectIdeal.nD Cert.RotatedWindowProjectIdeal.τ).loc Cert.RotatedWindowProjectIdeal.main_arg5)
      ∧ r.2.mem ((c.tc : Thread Cert.RotatedWindowProjectIdeal.nD Cert.RotatedWindowProjectIdeal.τ).loc Cert.RotatedWindowProjectIdeal.main_arg6) = m ((c.tc : Thread Cert.RotatedWindowProjectIdeal.nD Cert.RotatedWindowProjectIdeal.τ).loc Cert.RotatedWindowProjectIdeal.main_arg6)
      ∧ r.2.mem ((c.tc : Thread Cert.RotatedWindowProjectIdeal.nD Cert.RotatedWindowProjectIdeal.τ).loc Cert.RotatedWindowProjectIdeal.main_arg7) = m ((c.tc : Thread Cert.RotatedWindowProjectIdeal.nD Cert.RotatedWindowProjectIdeal.τ).loc Cert.RotatedWindowProjectIdeal.main_arg7))
      ∧ r.2.sem = fun _ => 0)

def quiescent_RotatedWindowProjectReferenceIdeal [hRotatedWindowProjectReferenceIdeal : Cert.RotatedWindowProjectReferenceIdeal.Facts] : Prop :=
  ∀ (m : (ℓ : Loc Cert.RotatedWindowProjectReferenceIdeal.nD Cert.RotatedWindowProjectReferenceIdeal.τ Cert.RotatedWindowProjectReferenceIdeal.sig) → Buf (Elt Ideal) ℓ) (g : Dev Cert.RotatedWindowProjectReferenceIdeal.nD → PrngReg), Pre_RotatedWindowProjectReferenceIdeal m →
    θ_run (Cert.RotatedWindowProjectReferenceIdeal.defs (F := Ideal)) (onTc (τ := Cert.RotatedWindowProjectReferenceIdeal.τ) (Cert.RotatedWindowProjectReferenceIdeal.main (F := Ideal))) ⟨m, fun _ => 0, g⟩ (fun r => (∀ c : Dev Cert.RotatedWindowProjectReferenceIdeal.nD,
      r.2.mem ((c.tc : Thread Cert.RotatedWindowProjectReferenceIdeal.nD Cert.RotatedWindowProjectReferenceIdeal.τ).loc Cert.RotatedWindowProjectReferenceIdeal.main_arg0) = m ((c.tc : Thread Cert.RotatedWindowProjectReferenceIdeal.nD Cert.RotatedWindowProjectReferenceIdeal.τ).loc Cert.RotatedWindowProjectReferenceIdeal.main_arg0)
      ∧ r.2.mem ((c.tc : Thread Cert.RotatedWindowProjectReferenceIdeal.nD Cert.RotatedWindowProjectReferenceIdeal.τ).loc Cert.RotatedWindowProjectReferenceIdeal.main_arg1) = m ((c.tc : Thread Cert.RotatedWindowProjectReferenceIdeal.nD Cert.RotatedWindowProjectReferenceIdeal.τ).loc Cert.RotatedWindowProjectReferenceIdeal.main_arg1)
      ∧ r.2.mem ((c.tc : Thread Cert.RotatedWindowProjectReferenceIdeal.nD Cert.RotatedWindowProjectReferenceIdeal.τ).loc Cert.RotatedWindowProjectReferenceIdeal.main_arg2) = m ((c.tc : Thread Cert.RotatedWindowProjectReferenceIdeal.nD Cert.RotatedWindowProjectReferenceIdeal.τ).loc Cert.RotatedWindowProjectReferenceIdeal.main_arg2)
      ∧ r.2.mem ((c.tc : Thread Cert.RotatedWindowProjectReferenceIdeal.nD Cert.RotatedWindowProjectReferenceIdeal.τ).loc Cert.RotatedWindowProjectReferenceIdeal.main_arg3) = m ((c.tc : Thread Cert.RotatedWindowProjectReferenceIdeal.nD Cert.RotatedWindowProjectReferenceIdeal.τ).loc Cert.RotatedWindowProjectReferenceIdeal.main_arg3)
      ∧ r.2.mem ((c.tc : Thread Cert.RotatedWindowProjectReferenceIdeal.nD Cert.RotatedWindowProjectReferenceIdeal.τ).loc Cert.RotatedWindowProjectReferenceIdeal.main_arg4) = m ((c.tc : Thread Cert.RotatedWindowProjectReferenceIdeal.nD Cert.RotatedWindowProjectReferenceIdeal.τ).loc Cert.RotatedWindowProjectReferenceIdeal.main_arg4)
      ∧ r.2.mem ((c.tc : Thread Cert.RotatedWindowProjectReferenceIdeal.nD Cert.RotatedWindowProjectReferenceIdeal.τ).loc Cert.RotatedWindowProjectReferenceIdeal.main_arg5) = m ((c.tc : Thread Cert.RotatedWindowProjectReferenceIdeal.nD Cert.RotatedWindowProjectReferenceIdeal.τ).loc Cert.RotatedWindowProjectReferenceIdeal.main_arg5)
      ∧ r.2.mem ((c.tc : Thread Cert.RotatedWindowProjectReferenceIdeal.nD Cert.RotatedWindowProjectReferenceIdeal.τ).loc Cert.RotatedWindowProjectReferenceIdeal.main_arg6) = m ((c.tc : Thread Cert.RotatedWindowProjectReferenceIdeal.nD Cert.RotatedWindowProjectReferenceIdeal.τ).loc Cert.RotatedWindowProjectReferenceIdeal.main_arg6)
      ∧ r.2.mem ((c.tc : Thread Cert.RotatedWindowProjectReferenceIdeal.nD Cert.RotatedWindowProjectReferenceIdeal.τ).loc Cert.RotatedWindowProjectReferenceIdeal.main_arg7) = m ((c.tc : Thread Cert.RotatedWindowProjectReferenceIdeal.nD Cert.RotatedWindowProjectReferenceIdeal.τ).loc Cert.RotatedWindowProjectReferenceIdeal.main_arg7))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5)
      ∧ r.2.mem ((c.tc : Thread Cert.Route.nD Cert.Route.τ).loc Cert.Route.main_arg6) = m ((c.tc : Thread Cert.Route.nD Cert.Route.τ).loc Cert.Route.main_arg6))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
      ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6))
      ∧ r.2.sem = fun _ => 0)

def quiescent_RouteReferenceIdeal [hRouteReferenceIdeal : Cert.RouteReferenceIdeal.Facts] : Prop :=
  ∀ (m : (ℓ : Loc Cert.RouteReferenceIdeal.nD Cert.RouteReferenceIdeal.τ Cert.RouteReferenceIdeal.sig) → Buf (Elt Ideal) ℓ) (g : Dev Cert.RouteReferenceIdeal.nD → PrngReg), Pre_RouteReferenceIdeal m →
    θ_run (Cert.RouteReferenceIdeal.defs (F := Ideal)) (onTc (τ := Cert.RouteReferenceIdeal.τ) (Cert.RouteReferenceIdeal.main (F := Ideal))) ⟨m, fun _ => 0, g⟩ (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6))
      ∧ r.2.sem = fun _ => 0)

def quiescent_ContextAttention [hContextAttention : Cert.ContextAttention.Facts] : Prop :=
  ∀ (m : (ℓ : Loc Cert.ContextAttention.nD Cert.ContextAttention.τ Cert.ContextAttention.sig) → Buf (Elt Bits) ℓ) (g : Dev Cert.ContextAttention.nD → PrngReg), Pre_ContextAttention m →
    θ_run (Cert.ContextAttention.defs (F := Bits)) (onTc (τ := Cert.ContextAttention.τ) (Cert.ContextAttention.main (F := Bits))) ⟨m, fun _ => 0, g⟩ (fun r => (∀ c : Dev Cert.ContextAttention.nD,
      r.2.mem ((c.tc : Thread Cert.ContextAttention.nD Cert.ContextAttention.τ).loc Cert.ContextAttention.main_arg0) = m ((c.tc : Thread Cert.ContextAttention.nD Cert.ContextAttention.τ).loc Cert.ContextAttention.main_arg0)
      ∧ r.2.mem ((c.tc : Thread Cert.ContextAttention.nD Cert.ContextAttention.τ).loc Cert.ContextAttention.main_arg1) = m ((c.tc : Thread Cert.ContextAttention.nD Cert.ContextAttention.τ).loc Cert.ContextAttention.main_arg1)
      ∧ r.2.mem ((c.tc : Thread Cert.ContextAttention.nD Cert.ContextAttention.τ).loc Cert.ContextAttention.main_arg2) = m ((c.tc : Thread Cert.ContextAttention.nD Cert.ContextAttention.τ).loc Cert.ContextAttention.main_arg2))
      ∧ r.2.sem = fun _ => 0)

def quiescent_ContextAttentionIdeal [hContextAttentionIdeal : Cert.ContextAttentionIdeal.Facts] : Prop :=
  ∀ (m : (ℓ : Loc Cert.ContextAttentionIdeal.nD Cert.ContextAttentionIdeal.τ Cert.ContextAttentionIdeal.sig) → Buf (Elt Ideal) ℓ) (g : Dev Cert.ContextAttentionIdeal.nD → PrngReg), Pre_ContextAttentionIdeal m →
    θ_run (Cert.ContextAttentionIdeal.defs (F := Ideal)) (onTc (τ := Cert.ContextAttentionIdeal.τ) (Cert.ContextAttentionIdeal.main (F := Ideal))) ⟨m, fun _ => 0, g⟩ (fun r => (∀ c : Dev Cert.ContextAttentionIdeal.nD,
      r.2.mem ((c.tc : Thread Cert.ContextAttentionIdeal.nD Cert.ContextAttentionIdeal.τ).loc Cert.ContextAttentionIdeal.main_arg0) = m ((c.tc : Thread Cert.ContextAttentionIdeal.nD Cert.ContextAttentionIdeal.τ).loc Cert.ContextAttentionIdeal.main_arg0)
      ∧ r.2.mem ((c.tc : Thread Cert.ContextAttentionIdeal.nD Cert.ContextAttentionIdeal.τ).loc Cert.ContextAttentionIdeal.main_arg1) = m ((c.tc : Thread Cert.ContextAttentionIdeal.nD Cert.ContextAttentionIdeal.τ).loc Cert.ContextAttentionIdeal.main_arg1)
      ∧ r.2.mem ((c.tc : Thread Cert.ContextAttentionIdeal.nD Cert.ContextAttentionIdeal.τ).loc Cert.ContextAttentionIdeal.main_arg2) = m ((c.tc : Thread Cert.ContextAttentionIdeal.nD Cert.ContextAttentionIdeal.τ).loc Cert.ContextAttentionIdeal.main_arg2))
      ∧ r.2.sem = fun _ => 0)

def quiescent_ContextAttentionIdeal_pre_finite_context_queries_and_keys [hContextAttentionIdeal : Cert.ContextAttentionIdeal.Facts] [hPre_finite_context_queries_and_keys : Cert.Pre_finite_context_queries_and_keys.Facts] : Prop :=
  ∀ (m : (ℓ : Loc Cert.ContextAttentionIdeal.nD Cert.ContextAttentionIdeal.τ Cert.ContextAttentionIdeal.sig) → Buf (Elt Ideal) ℓ) (g : Dev Cert.ContextAttentionIdeal.nD → PrngReg), Pre_ContextAttentionIdeal_finite_context_queries_and_keys m →
    θ_run (Cert.ContextAttentionIdeal.defs (F := Ideal)) (onTc (τ := Cert.ContextAttentionIdeal.τ) (Cert.ContextAttentionIdeal.main (F := Ideal))) ⟨m, fun _ => 0, g⟩ (fun r => (∀ c : Dev Cert.ContextAttentionIdeal.nD,
      r.2.mem ((c.tc : Thread Cert.ContextAttentionIdeal.nD Cert.ContextAttentionIdeal.τ).loc Cert.ContextAttentionIdeal.main_arg0) = m ((c.tc : Thread Cert.ContextAttentionIdeal.nD Cert.ContextAttentionIdeal.τ).loc Cert.ContextAttentionIdeal.main_arg0)
      ∧ r.2.mem ((c.tc : Thread Cert.ContextAttentionIdeal.nD Cert.ContextAttentionIdeal.τ).loc Cert.ContextAttentionIdeal.main_arg1) = m ((c.tc : Thread Cert.ContextAttentionIdeal.nD Cert.ContextAttentionIdeal.τ).loc Cert.ContextAttentionIdeal.main_arg1)
      ∧ r.2.mem ((c.tc : Thread Cert.ContextAttentionIdeal.nD Cert.ContextAttentionIdeal.τ).loc Cert.ContextAttentionIdeal.main_arg2) = m ((c.tc : Thread Cert.ContextAttentionIdeal.nD Cert.ContextAttentionIdeal.τ).loc Cert.ContextAttentionIdeal.main_arg2))
      ∧ r.2.sem = fun _ => 0)

def quiescent_ContextAttentionReferenceIdeal [hContextAttentionReferenceIdeal : Cert.ContextAttentionReferenceIdeal.Facts] : Prop :=
  ∀ (m : (ℓ : Loc Cert.ContextAttentionReferenceIdeal.nD Cert.ContextAttentionReferenceIdeal.τ Cert.ContextAttentionReferenceIdeal.sig) → Buf (Elt Ideal) ℓ) (g : Dev Cert.ContextAttentionReferenceIdeal.nD → PrngReg), Pre_ContextAttentionReferenceIdeal m →
    θ_run (Cert.ContextAttentionReferenceIdeal.defs (F := Ideal)) (onTc (τ := Cert.ContextAttentionReferenceIdeal.τ) (Cert.ContextAttentionReferenceIdeal.main (F := Ideal))) ⟨m, fun _ => 0, g⟩ (fun r => (∀ c : Dev Cert.ContextAttentionReferenceIdeal.nD,
      r.2.mem ((c.tc : Thread Cert.ContextAttentionReferenceIdeal.nD Cert.ContextAttentionReferenceIdeal.τ).loc Cert.ContextAttentionReferenceIdeal.main_arg0) = m ((c.tc : Thread Cert.ContextAttentionReferenceIdeal.nD Cert.ContextAttentionReferenceIdeal.τ).loc Cert.ContextAttentionReferenceIdeal.main_arg0)
      ∧ r.2.mem ((c.tc : Thread Cert.ContextAttentionReferenceIdeal.nD Cert.ContextAttentionReferenceIdeal.τ).loc Cert.ContextAttentionReferenceIdeal.main_arg1) = m ((c.tc : Thread Cert.ContextAttentionReferenceIdeal.nD Cert.ContextAttentionReferenceIdeal.τ).loc Cert.ContextAttentionReferenceIdeal.main_arg1)
      ∧ r.2.mem ((c.tc : Thread Cert.ContextAttentionReferenceIdeal.nD Cert.ContextAttentionReferenceIdeal.τ).loc Cert.ContextAttentionReferenceIdeal.main_arg2) = m ((c.tc : Thread Cert.ContextAttentionReferenceIdeal.nD Cert.ContextAttentionReferenceIdeal.τ).loc Cert.ContextAttentionReferenceIdeal.main_arg2))
      ∧ r.2.sem = fun _ => 0)

def quiescent_ContextAttentionReferenceIdeal_pre_finite_context_queries_and_keys [hContextAttentionReferenceIdeal : Cert.ContextAttentionReferenceIdeal.Facts] [hPre_finite_context_queries_and_keys : Cert.Pre_finite_context_queries_and_keys.Facts] : Prop :=
  ∀ (m : (ℓ : Loc Cert.ContextAttentionReferenceIdeal.nD Cert.ContextAttentionReferenceIdeal.τ Cert.ContextAttentionReferenceIdeal.sig) → Buf (Elt Ideal) ℓ) (g : Dev Cert.ContextAttentionReferenceIdeal.nD → PrngReg), Pre_ContextAttentionReferenceIdeal_finite_context_queries_and_keys m →
    θ_run (Cert.ContextAttentionReferenceIdeal.defs (F := Ideal)) (onTc (τ := Cert.ContextAttentionReferenceIdeal.τ) (Cert.ContextAttentionReferenceIdeal.main (F := Ideal))) ⟨m, fun _ => 0, g⟩ (fun r => (∀ c : Dev Cert.ContextAttentionReferenceIdeal.nD,
      r.2.mem ((c.tc : Thread Cert.ContextAttentionReferenceIdeal.nD Cert.ContextAttentionReferenceIdeal.τ).loc Cert.ContextAttentionReferenceIdeal.main_arg0) = m ((c.tc : Thread Cert.ContextAttentionReferenceIdeal.nD Cert.ContextAttentionReferenceIdeal.τ).loc Cert.ContextAttentionReferenceIdeal.main_arg0)
      ∧ r.2.mem ((c.tc : Thread Cert.ContextAttentionReferenceIdeal.nD Cert.ContextAttentionReferenceIdeal.τ).loc Cert.ContextAttentionReferenceIdeal.main_arg1) = m ((c.tc : Thread Cert.ContextAttentionReferenceIdeal.nD Cert.ContextAttentionReferenceIdeal.τ).loc Cert.ContextAttentionReferenceIdeal.main_arg1)
      ∧ r.2.mem ((c.tc : Thread Cert.ContextAttentionReferenceIdeal.nD Cert.ContextAttentionReferenceIdeal.τ).loc Cert.ContextAttentionReferenceIdeal.main_arg2) = m ((c.tc : Thread Cert.ContextAttentionReferenceIdeal.nD Cert.ContextAttentionReferenceIdeal.τ).loc Cert.ContextAttentionReferenceIdeal.main_arg2))
      ∧ r.2.sem = fun _ => 0)

def quiescent_PlainContextAttention [hPlainContextAttention : Cert.PlainContextAttention.Facts] : Prop :=
  ∀ (m : (ℓ : Loc Cert.PlainContextAttention.nD Cert.PlainContextAttention.τ Cert.PlainContextAttention.sig) → Buf (Elt Bits) ℓ) (g : Dev Cert.PlainContextAttention.nD → PrngReg), Pre_PlainContextAttention m →
    θ_run (Cert.PlainContextAttention.defs (F := Bits)) (onTc (τ := Cert.PlainContextAttention.τ) (Cert.PlainContextAttention.main (F := Bits))) ⟨m, fun _ => 0, g⟩ (fun r => (∀ c : Dev Cert.PlainContextAttention.nD,
      r.2.mem ((c.tc : Thread Cert.PlainContextAttention.nD Cert.PlainContextAttention.τ).loc Cert.PlainContextAttention.main_arg0) = m ((c.tc : Thread Cert.PlainContextAttention.nD Cert.PlainContextAttention.τ).loc Cert.PlainContextAttention.main_arg0))
      ∧ r.2.sem = fun _ => 0)

def quiescent_PlainContextAttentionIdeal [hPlainContextAttentionIdeal : Cert.PlainContextAttentionIdeal.Facts] : Prop :=
  ∀ (m : (ℓ : Loc Cert.PlainContextAttentionIdeal.nD Cert.PlainContextAttentionIdeal.τ Cert.PlainContextAttentionIdeal.sig) → Buf (Elt Ideal) ℓ) (g : Dev Cert.PlainContextAttentionIdeal.nD → PrngReg), Pre_PlainContextAttentionIdeal m →
    θ_run (Cert.PlainContextAttentionIdeal.defs (F := Ideal)) (onTc (τ := Cert.PlainContextAttentionIdeal.τ) (Cert.PlainContextAttentionIdeal.main (F := Ideal))) ⟨m, fun _ => 0, g⟩ (fun r => (∀ c : Dev Cert.PlainContextAttentionIdeal.nD,
      r.2.mem ((c.tc : Thread Cert.PlainContextAttentionIdeal.nD Cert.PlainContextAttentionIdeal.τ).loc Cert.PlainContextAttentionIdeal.main_arg0) = m ((c.tc : Thread Cert.PlainContextAttentionIdeal.nD Cert.PlainContextAttentionIdeal.τ).loc Cert.PlainContextAttentionIdeal.main_arg0))
      ∧ r.2.sem = fun _ => 0)

def quiescent_PlainContextAttentionIdeal_pre_finite_plain_queries_and_keys [hPlainContextAttentionIdeal : Cert.PlainContextAttentionIdeal.Facts] [hPre_finite_plain_queries_and_keys : Cert.Pre_finite_plain_queries_and_keys.Facts] : Prop :=
  ∀ (m : (ℓ : Loc Cert.PlainContextAttentionIdeal.nD Cert.PlainContextAttentionIdeal.τ Cert.PlainContextAttentionIdeal.sig) → Buf (Elt Ideal) ℓ) (g : Dev Cert.PlainContextAttentionIdeal.nD → PrngReg), Pre_PlainContextAttentionIdeal_finite_plain_queries_and_keys m →
    θ_run (Cert.PlainContextAttentionIdeal.defs (F := Ideal)) (onTc (τ := Cert.PlainContextAttentionIdeal.τ) (Cert.PlainContextAttentionIdeal.main (F := Ideal))) ⟨m, fun _ => 0, g⟩ (fun r => (∀ c : Dev Cert.PlainContextAttentionIdeal.nD,
      r.2.mem ((c.tc : Thread Cert.PlainContextAttentionIdeal.nD Cert.PlainContextAttentionIdeal.τ).loc Cert.PlainContextAttentionIdeal.main_arg0) = m ((c.tc : Thread Cert.PlainContextAttentionIdeal.nD Cert.PlainContextAttentionIdeal.τ).loc Cert.PlainContextAttentionIdeal.main_arg0))
      ∧ r.2.sem = fun _ => 0)

def quiescent_PlainContextAttentionReferenceIdeal [hPlainContextAttentionReferenceIdeal : Cert.PlainContextAttentionReferenceIdeal.Facts] : Prop :=
  ∀ (m : (ℓ : Loc Cert.PlainContextAttentionReferenceIdeal.nD Cert.PlainContextAttentionReferenceIdeal.τ Cert.PlainContextAttentionReferenceIdeal.sig) → Buf (Elt Ideal) ℓ) (g : Dev Cert.PlainContextAttentionReferenceIdeal.nD → PrngReg), Pre_PlainContextAttentionReferenceIdeal m →
    θ_run (Cert.PlainContextAttentionReferenceIdeal.defs (F := Ideal)) (onTc (τ := Cert.PlainContextAttentionReferenceIdeal.τ) (Cert.PlainContextAttentionReferenceIdeal.main (F := Ideal))) ⟨m, fun _ => 0, g⟩ (fun r => (∀ c : Dev Cert.PlainContextAttentionReferenceIdeal.nD,
      r.2.mem ((c.tc : Thread Cert.PlainContextAttentionReferenceIdeal.nD Cert.PlainContextAttentionReferenceIdeal.τ).loc Cert.PlainContextAttentionReferenceIdeal.main_arg0) = m ((c.tc : Thread Cert.PlainContextAttentionReferenceIdeal.nD Cert.PlainContextAttentionReferenceIdeal.τ).loc Cert.PlainContextAttentionReferenceIdeal.main_arg0))
      ∧ r.2.sem = fun _ => 0)

def quiescent_PlainContextAttentionReferenceIdeal_pre_finite_plain_queries_and_keys [hPlainContextAttentionReferenceIdeal : Cert.PlainContextAttentionReferenceIdeal.Facts] [hPre_finite_plain_queries_and_keys : Cert.Pre_finite_plain_queries_and_keys.Facts] : Prop :=
  ∀ (m : (ℓ : Loc Cert.PlainContextAttentionReferenceIdeal.nD Cert.PlainContextAttentionReferenceIdeal.τ Cert.PlainContextAttentionReferenceIdeal.sig) → Buf (Elt Ideal) ℓ) (g : Dev Cert.PlainContextAttentionReferenceIdeal.nD → PrngReg), Pre_PlainContextAttentionReferenceIdeal_finite_plain_queries_and_keys m →
    θ_run (Cert.PlainContextAttentionReferenceIdeal.defs (F := Ideal)) (onTc (τ := Cert.PlainContextAttentionReferenceIdeal.τ) (Cert.PlainContextAttentionReferenceIdeal.main (F := Ideal))) ⟨m, fun _ => 0, g⟩ (fun r => (∀ c : Dev Cert.PlainContextAttentionReferenceIdeal.nD,
      r.2.mem ((c.tc : Thread Cert.PlainContextAttentionReferenceIdeal.nD Cert.PlainContextAttentionReferenceIdeal.τ).loc Cert.PlainContextAttentionReferenceIdeal.main_arg0) = m ((c.tc : Thread Cert.PlainContextAttentionReferenceIdeal.nD Cert.PlainContextAttentionReferenceIdeal.τ).loc Cert.PlainContextAttentionReferenceIdeal.main_arg0))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)) →
    ∃ (v0 : (c : Dev Cert.ProjectIdeal.nD) → Buf (Elt Ideal) ((c.tc : Thread Cert.ProjectIdeal.nD Cert.ProjectIdeal.τ).loc Cert.ProjectIdeal.main_v6_0)) (v1 : (c : Dev Cert.ProjectIdeal.nD) → Buf (Elt Ideal) ((c.tc : Thread Cert.ProjectIdeal.nD Cert.ProjectIdeal.τ).loc Cert.ProjectIdeal.main_v6_1)) (v2 : (c : Dev Cert.ProjectIdeal.nD) → Buf (Elt Ideal) ((c.tc : Thread Cert.ProjectIdeal.nD Cert.ProjectIdeal.τ).loc Cert.ProjectIdeal.main_v6_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v6_0) = v0 c
          ∧ r.2.mem ((c.tc : Thread Cert.ProjectIdeal.nD Cert.ProjectIdeal.τ).loc Cert.ProjectIdeal.main_v6_1) = v1 c
          ∧ r.2.mem ((c.tc : Thread Cert.ProjectIdeal.nD Cert.ProjectIdeal.τ).loc Cert.ProjectIdeal.main_v6_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v65) = v0 c
          ∧ r.2.mem ((c.tc : Thread Cert.ProjectReferenceIdeal.nD Cert.ProjectReferenceIdeal.τ).loc Cert.ProjectReferenceIdeal.main_v62) = v1 c
          ∧ r.2.mem ((c.tc : Thread Cert.ProjectReferenceIdeal.nD Cert.ProjectReferenceIdeal.τ).loc Cert.ProjectReferenceIdeal.main_v63) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5))

def preserves_LatentProject_LatentProjectIdeal : Prop :=
  True

def algebraic_LatentProjectIdeal_LatentProjectReferenceIdeal [hLatentProjectIdeal : Cert.LatentProjectIdeal.Facts] [hLatentProjectReferenceIdeal : Cert.LatentProjectReferenceIdeal.Facts] : Prop :=
  ∀ (m : (ℓ : Loc Cert.LatentProjectIdeal.nD Cert.LatentProjectIdeal.τ Cert.LatentProjectIdeal.sig) → Buf (Elt Ideal) ℓ) (g : Dev Cert.LatentProjectIdeal.nD → PrngReg)
    (m' : (ℓ : Loc Cert.LatentProjectReferenceIdeal.nD Cert.LatentProjectReferenceIdeal.τ Cert.LatentProjectReferenceIdeal.sig) → Buf (Elt Ideal) ℓ) (g' : Dev Cert.LatentProjectReferenceIdeal.nD → PrngReg), Pre_LatentProjectIdeal m →
    (∀ c : Dev Cert.LatentProjectIdeal.nD,
      m' ((c.tc : Thread Cert.LatentProjectReferenceIdeal.nD Cert.LatentProjectReferenceIdeal.τ).loc Cert.LatentProjectReferenceIdeal.main_arg0) = m ((c.tc : Thread Cert.LatentProjectIdeal.nD Cert.LatentProjectIdeal.τ).loc Cert.LatentProjectIdeal.main_arg0)
      ∧ m' ((c.tc : Thread Cert.LatentProjectReferenceIdeal.nD Cert.LatentProjectReferenceIdeal.τ).loc Cert.LatentProjectReferenceIdeal.main_arg1) = m ((c.tc : Thread Cert.LatentProjectIdeal.nD Cert.LatentProjectIdeal.τ).loc Cert.LatentProjectIdeal.main_arg1)
      ∧ m' ((c.tc : Thread Cert.LatentProjectReferenceIdeal.nD Cert.LatentProjectReferenceIdeal.τ).loc Cert.LatentProjectReferenceIdeal.main_arg2) = m ((c.tc : Thread Cert.LatentProjectIdeal.nD Cert.LatentProjectIdeal.τ).loc Cert.LatentProjectIdeal.main_arg2)
      ∧ m' ((c.tc : Thread Cert.LatentProjectReferenceIdeal.nD Cert.LatentProjectReferenceIdeal.τ).loc Cert.LatentProjectReferenceIdeal.main_arg3) = m ((c.tc : Thread Cert.LatentProjectIdeal.nD Cert.LatentProjectIdeal.τ).loc Cert.LatentProjectIdeal.main_arg3)
      ∧ m' ((c.tc : Thread Cert.LatentProjectReferenceIdeal.nD Cert.LatentProjectReferenceIdeal.τ).loc Cert.LatentProjectReferenceIdeal.main_arg4) = m ((c.tc : Thread Cert.LatentProjectIdeal.nD Cert.LatentProjectIdeal.τ).loc Cert.LatentProjectIdeal.main_arg4)
      ∧ m' ((c.tc : Thread Cert.LatentProjectReferenceIdeal.nD Cert.LatentProjectReferenceIdeal.τ).loc Cert.LatentProjectReferenceIdeal.main_arg5) = m ((c.tc : Thread Cert.LatentProjectIdeal.nD Cert.LatentProjectIdeal.τ).loc Cert.LatentProjectIdeal.main_arg5)) →
    ∃ (v0 : (c : Dev Cert.LatentProjectIdeal.nD) → Buf (Elt Ideal) ((c.tc : Thread Cert.LatentProjectIdeal.nD Cert.LatentProjectIdeal.τ).loc Cert.LatentProjectIdeal.main_v6)),
      θ_run (Cert.LatentProjectIdeal.defs (F := Ideal)) (onTc (τ := Cert.LatentProjectIdeal.τ) (Cert.LatentProjectIdeal.main (F := Ideal))) ⟨m, fun _ => 0, g⟩ (fun r => ∀ c : Dev Cert.LatentProjectIdeal.nD,
          r.2.mem ((c.tc : Thread Cert.LatentProjectIdeal.nD Cert.LatentProjectIdeal.τ).loc Cert.LatentProjectIdeal.main_v6) = v0 c
          ∧ r.2.mem ((c.tc : Thread Cert.LatentProjectIdeal.nD Cert.LatentProjectIdeal.τ).loc Cert.LatentProjectIdeal.main_arg0) = m ((c.tc : Thread Cert.LatentProjectIdeal.nD Cert.LatentProjectIdeal.τ).loc Cert.LatentProjectIdeal.main_arg0)
          ∧ r.2.mem ((c.tc : Thread Cert.LatentProjectIdeal.nD Cert.LatentProjectIdeal.τ).loc Cert.LatentProjectIdeal.main_arg1) = m ((c.tc : Thread Cert.LatentProjectIdeal.nD Cert.LatentProjectIdeal.τ).loc Cert.LatentProjectIdeal.main_arg1)
          ∧ r.2.mem ((c.tc : Thread Cert.LatentProjectIdeal.nD Cert.LatentProjectIdeal.τ).loc Cert.LatentProjectIdeal.main_arg2) = m ((c.tc : Thread Cert.LatentProjectIdeal.nD Cert.LatentProjectIdeal.τ).loc Cert.LatentProjectIdeal.main_arg2)
          ∧ r.2.mem ((c.tc : Thread Cert.LatentProjectIdeal.nD Cert.LatentProjectIdeal.τ).loc Cert.LatentProjectIdeal.main_arg3) = m ((c.tc : Thread Cert.LatentProjectIdeal.nD Cert.LatentProjectIdeal.τ).loc Cert.LatentProjectIdeal.main_arg3)
          ∧ r.2.mem ((c.tc : Thread Cert.LatentProjectIdeal.nD Cert.LatentProjectIdeal.τ).loc Cert.LatentProjectIdeal.main_arg4) = m ((c.tc : Thread Cert.LatentProjectIdeal.nD Cert.LatentProjectIdeal.τ).loc Cert.LatentProjectIdeal.main_arg4)
          ∧ r.2.mem ((c.tc : Thread Cert.LatentProjectIdeal.nD Cert.LatentProjectIdeal.τ).loc Cert.LatentProjectIdeal.main_arg5) = m ((c.tc : Thread Cert.LatentProjectIdeal.nD Cert.LatentProjectIdeal.τ).loc Cert.LatentProjectIdeal.main_arg5))
      ∧ θ_run (Cert.LatentProjectReferenceIdeal.defs (F := Ideal)) (onTc (τ := Cert.LatentProjectReferenceIdeal.τ) (Cert.LatentProjectReferenceIdeal.main (F := Ideal))) ⟨m', fun _ => 0, g'⟩ (fun r => ∀ c : Dev Cert.LatentProjectReferenceIdeal.nD,
          r.2.mem ((c.tc : Thread Cert.LatentProjectReferenceIdeal.nD Cert.LatentProjectReferenceIdeal.τ).loc Cert.LatentProjectReferenceIdeal.main_v65) = v0 c
          ∧ r.2.mem ((c.tc : Thread Cert.LatentProjectReferenceIdeal.nD Cert.LatentProjectReferenceIdeal.τ).loc Cert.LatentProjectReferenceIdeal.main_arg0) = m' ((c.tc : Thread Cert.LatentProjectReferenceIdeal.nD Cert.LatentProjectReferenceIdeal.τ).loc Cert.LatentProjectReferenceIdeal.main_arg0)
          ∧ r.2.mem ((c.tc : Thread Cert.LatentProjectReferenceIdeal.nD Cert.LatentProjectReferenceIdeal.τ).loc Cert.LatentProjectReferenceIdeal.main_arg1) = m' ((c.tc : Thread Cert.LatentProjectReferenceIdeal.nD Cert.LatentProjectReferenceIdeal.τ).loc Cert.LatentProjectReferenceIdeal.main_arg1)
          ∧ r.2.mem ((c.tc : Thread Cert.LatentProjectReferenceIdeal.nD Cert.LatentProjectReferenceIdeal.τ).loc Cert.LatentProjectReferenceIdeal.main_arg2) = m' ((c.tc : Thread Cert.LatentProjectReferenceIdeal.nD Cert.LatentProjectReferenceIdeal.τ).loc Cert.LatentProjectReferenceIdeal.main_arg2)
          ∧ r.2.mem ((c.tc : Thread Cert.LatentProjectReferenceIdeal.nD Cert.LatentProjectReferenceIdeal.τ).loc Cert.LatentProjectReferenceIdeal.main_arg3) = m' ((c.tc : Thread Cert.LatentProjectReferenceIdeal.nD Cert.LatentProjectReferenceIdeal.τ).loc Cert.LatentProjectReferenceIdeal.main_arg3)
          ∧ r.2.mem ((c.tc : Thread Cert.LatentProjectReferenceIdeal.nD Cert.LatentProjectReferenceIdeal.τ).loc Cert.LatentProjectReferenceIdeal.main_arg4) = m' ((c.tc : Thread Cert.LatentProjectReferenceIdeal.nD Cert.LatentProjectReferenceIdeal.τ).loc Cert.LatentProjectReferenceIdeal.main_arg4)
          ∧ r.2.mem ((c.tc : Thread Cert.LatentProjectReferenceIdeal.nD Cert.LatentProjectReferenceIdeal.τ).loc Cert.LatentProjectReferenceIdeal.main_arg5) = m' ((c.tc : Thread Cert.LatentProjectReferenceIdeal.nD Cert.LatentProjectReferenceIdeal.τ).loc Cert.LatentProjectReferenceIdeal.main_arg5))

def preserves_RotatedProject_RotatedProjectIdeal : Prop :=
  True

def algebraic_RotatedProjectIdeal_RotatedProjectReferenceIdeal [hRotatedProjectIdeal : Cert.RotatedProjectIdeal.Facts] [hRotatedProjectReferenceIdeal : Cert.RotatedProjectReferenceIdeal.Facts] : Prop :=
  ∀ (m : (ℓ : Loc Cert.RotatedProjectIdeal.nD Cert.RotatedProjectIdeal.τ Cert.RotatedProjectIdeal.sig) → Buf (Elt Ideal) ℓ) (g : Dev Cert.RotatedProjectIdeal.nD → PrngReg)
    (m' : (ℓ : Loc Cert.RotatedProjectReferenceIdeal.nD Cert.RotatedProjectReferenceIdeal.τ Cert.RotatedProjectReferenceIdeal.sig) → Buf (Elt Ideal) ℓ) (g' : Dev Cert.RotatedProjectReferenceIdeal.nD → PrngReg), Pre_RotatedProjectIdeal m →
    (∀ c : Dev Cert.RotatedProjectIdeal.nD,
      m' ((c.tc : Thread Cert.RotatedProjectReferenceIdeal.nD Cert.RotatedProjectReferenceIdeal.τ).loc Cert.RotatedProjectReferenceIdeal.main_arg0) = m ((c.tc : Thread Cert.RotatedProjectIdeal.nD Cert.RotatedProjectIdeal.τ).loc Cert.RotatedProjectIdeal.main_arg0)
      ∧ m' ((c.tc : Thread Cert.RotatedProjectReferenceIdeal.nD Cert.RotatedProjectReferenceIdeal.τ).loc Cert.RotatedProjectReferenceIdeal.main_arg1) = m ((c.tc : Thread Cert.RotatedProjectIdeal.nD Cert.RotatedProjectIdeal.τ).loc Cert.RotatedProjectIdeal.main_arg1)
      ∧ m' ((c.tc : Thread Cert.RotatedProjectReferenceIdeal.nD Cert.RotatedProjectReferenceIdeal.τ).loc Cert.RotatedProjectReferenceIdeal.main_arg2) = m ((c.tc : Thread Cert.RotatedProjectIdeal.nD Cert.RotatedProjectIdeal.τ).loc Cert.RotatedProjectIdeal.main_arg2)
      ∧ m' ((c.tc : Thread Cert.RotatedProjectReferenceIdeal.nD Cert.RotatedProjectReferenceIdeal.τ).loc Cert.RotatedProjectReferenceIdeal.main_arg3) = m ((c.tc : Thread Cert.RotatedProjectIdeal.nD Cert.RotatedProjectIdeal.τ).loc Cert.RotatedProjectIdeal.main_arg3)
      ∧ m' ((c.tc : Thread Cert.RotatedProjectReferenceIdeal.nD Cert.RotatedProjectReferenceIdeal.τ).loc Cert.RotatedProjectReferenceIdeal.main_arg4) = m ((c.tc : Thread Cert.RotatedProjectIdeal.nD Cert.RotatedProjectIdeal.τ).loc Cert.RotatedProjectIdeal.main_arg4)
      ∧ m' ((c.tc : Thread Cert.RotatedProjectReferenceIdeal.nD Cert.RotatedProjectReferenceIdeal.τ).loc Cert.RotatedProjectReferenceIdeal.main_arg5) = m ((c.tc : Thread Cert.RotatedProjectIdeal.nD Cert.RotatedProjectIdeal.τ).loc Cert.RotatedProjectIdeal.main_arg5)
      ∧ m' ((c.tc : Thread Cert.RotatedProjectReferenceIdeal.nD Cert.RotatedProjectReferenceIdeal.τ).loc Cert.RotatedProjectReferenceIdeal.main_arg6) = m ((c.tc : Thread Cert.RotatedProjectIdeal.nD Cert.RotatedProjectIdeal.τ).loc Cert.RotatedProjectIdeal.main_arg6)
      ∧ m' ((c.tc : Thread Cert.RotatedProjectReferenceIdeal.nD Cert.RotatedProjectReferenceIdeal.τ).loc Cert.RotatedProjectReferenceIdeal.main_arg7) = m ((c.tc : Thread Cert.RotatedProjectIdeal.nD Cert.RotatedProjectIdeal.τ).loc Cert.RotatedProjectIdeal.main_arg7)) →
    ∃ (v0 : (c : Dev Cert.RotatedProjectIdeal.nD) → Buf (Elt Ideal) ((c.tc : Thread Cert.RotatedProjectIdeal.nD Cert.RotatedProjectIdeal.τ).loc Cert.RotatedProjectIdeal.main_v12)),
      θ_run (Cert.RotatedProjectIdeal.defs (F := Ideal)) (onTc (τ := Cert.RotatedProjectIdeal.τ) (Cert.RotatedProjectIdeal.main (F := Ideal))) ⟨m, fun _ => 0, g⟩ (fun r => ∀ c : Dev Cert.RotatedProjectIdeal.nD,
          r.2.mem ((c.tc : Thread Cert.RotatedProjectIdeal.nD Cert.RotatedProjectIdeal.τ).loc Cert.RotatedProjectIdeal.main_v12) = v0 c
          ∧ r.2.mem ((c.tc : Thread Cert.RotatedProjectIdeal.nD Cert.RotatedProjectIdeal.τ).loc Cert.RotatedProjectIdeal.main_arg0) = m ((c.tc : Thread Cert.RotatedProjectIdeal.nD Cert.RotatedProjectIdeal.τ).loc Cert.RotatedProjectIdeal.main_arg0)
          ∧ r.2.mem ((c.tc : Thread Cert.RotatedProjectIdeal.nD Cert.RotatedProjectIdeal.τ).loc Cert.RotatedProjectIdeal.main_arg1) = m ((c.tc : Thread Cert.RotatedProjectIdeal.nD Cert.RotatedProjectIdeal.τ).loc Cert.RotatedProjectIdeal.main_arg1)
          ∧ r.2.mem ((c.tc : Thread Cert.RotatedProjectIdeal.nD Cert.RotatedProjectIdeal.τ).loc Cert.RotatedProjectIdeal.main_arg2) = m ((c.tc : Thread Cert.RotatedProjectIdeal.nD Cert.RotatedProjectIdeal.τ).loc Cert.RotatedProjectIdeal.main_arg2)
          ∧ r.2.mem ((c.tc : Thread Cert.RotatedProjectIdeal.nD Cert.RotatedProjectIdeal.τ).loc Cert.RotatedProjectIdeal.main_arg3) = m ((c.tc : Thread Cert.RotatedProjectIdeal.nD Cert.RotatedProjectIdeal.τ).loc Cert.RotatedProjectIdeal.main_arg3)
          ∧ r.2.mem ((c.tc : Thread Cert.RotatedProjectIdeal.nD Cert.RotatedProjectIdeal.τ).loc Cert.RotatedProjectIdeal.main_arg4) = m ((c.tc : Thread Cert.RotatedProjectIdeal.nD Cert.RotatedProjectIdeal.τ).loc Cert.RotatedProjectIdeal.main_arg4)
          ∧ r.2.mem ((c.tc : Thread Cert.RotatedProjectIdeal.nD Cert.RotatedProjectIdeal.τ).loc Cert.RotatedProjectIdeal.main_arg5) = m ((c.tc : Thread Cert.RotatedProjectIdeal.nD Cert.RotatedProjectIdeal.τ).loc Cert.RotatedProjectIdeal.main_arg5)
          ∧ r.2.mem ((c.tc : Thread Cert.RotatedProjectIdeal.nD Cert.RotatedProjectIdeal.τ).loc Cert.RotatedProjectIdeal.main_arg6) = m ((c.tc : Thread Cert.RotatedProjectIdeal.nD Cert.RotatedProjectIdeal.τ).loc Cert.RotatedProjectIdeal.main_arg6)
          ∧ r.2.mem ((c.tc : Thread Cert.RotatedProjectIdeal.nD Cert.RotatedProjectIdeal.τ).loc Cert.RotatedProjectIdeal.main_arg7) = m ((c.tc : Thread Cert.RotatedProjectIdeal.nD Cert.RotatedProjectIdeal.τ).loc Cert.RotatedProjectIdeal.main_arg7))
      ∧ θ_run (Cert.RotatedProjectReferenceIdeal.defs (F := Ideal)) (onTc (τ := Cert.RotatedProjectReferenceIdeal.τ) (Cert.RotatedProjectReferenceIdeal.main (F := Ideal))) ⟨m', fun _ => 0, g'⟩ (fun r => ∀ c : Dev Cert.RotatedProjectReferenceIdeal.nD,
          r.2.mem ((c.tc : Thread Cert.RotatedProjectReferenceIdeal.nD Cert.RotatedProjectReferenceIdeal.τ).loc Cert.RotatedProjectReferenceIdeal.main_v101) = v0 c
          ∧ r.2.mem ((c.tc : Thread Cert.RotatedProjectReferenceIdeal.nD Cert.RotatedProjectReferenceIdeal.τ).loc Cert.RotatedProjectReferenceIdeal.main_arg0) = m' ((c.tc : Thread Cert.RotatedProjectReferenceIdeal.nD Cert.RotatedProjectReferenceIdeal.τ).loc Cert.RotatedProjectReferenceIdeal.main_arg0)
          ∧ r.2.mem ((c.tc : Thread Cert.RotatedProjectReferenceIdeal.nD Cert.RotatedProjectReferenceIdeal.τ).loc Cert.RotatedProjectReferenceIdeal.main_arg1) = m' ((c.tc : Thread Cert.RotatedProjectReferenceIdeal.nD Cert.RotatedProjectReferenceIdeal.τ).loc Cert.RotatedProjectReferenceIdeal.main_arg1)
          ∧ r.2.mem ((c.tc : Thread Cert.RotatedProjectReferenceIdeal.nD Cert.RotatedProjectReferenceIdeal.τ).loc Cert.RotatedProjectReferenceIdeal.main_arg2) = m' ((c.tc : Thread Cert.RotatedProjectReferenceIdeal.nD Cert.RotatedProjectReferenceIdeal.τ).loc Cert.RotatedProjectReferenceIdeal.main_arg2)
          ∧ r.2.mem ((c.tc : Thread Cert.RotatedProjectReferenceIdeal.nD Cert.RotatedProjectReferenceIdeal.τ).loc Cert.RotatedProjectReferenceIdeal.main_arg3) = m' ((c.tc : Thread Cert.RotatedProjectReferenceIdeal.nD Cert.RotatedProjectReferenceIdeal.τ).loc Cert.RotatedProjectReferenceIdeal.main_arg3)
          ∧ r.2.mem ((c.tc : Thread Cert.RotatedProjectReferenceIdeal.nD Cert.RotatedProjectReferenceIdeal.τ).loc Cert.RotatedProjectReferenceIdeal.main_arg4) = m' ((c.tc : Thread Cert.RotatedProjectReferenceIdeal.nD Cert.RotatedProjectReferenceIdeal.τ).loc Cert.RotatedProjectReferenceIdeal.main_arg4)
          ∧ r.2.mem ((c.tc : Thread Cert.RotatedProjectReferenceIdeal.nD Cert.RotatedProjectReferenceIdeal.τ).loc Cert.RotatedProjectReferenceIdeal.main_arg5) = m' ((c.tc : Thread Cert.RotatedProjectReferenceIdeal.nD Cert.RotatedProjectReferenceIdeal.τ).loc Cert.RotatedProjectReferenceIdeal.main_arg5)
          ∧ r.2.mem ((c.tc : Thread Cert.RotatedProjectReferenceIdeal.nD Cert.RotatedProjectReferenceIdeal.τ).loc Cert.RotatedProjectReferenceIdeal.main_arg6) = m' ((c.tc : Thread Cert.RotatedProjectReferenceIdeal.nD Cert.RotatedProjectReferenceIdeal.τ).loc Cert.RotatedProjectReferenceIdeal.main_arg6)
          ∧ r.2.mem ((c.tc : Thread Cert.RotatedProjectReferenceIdeal.nD Cert.RotatedProjectReferenceIdeal.τ).loc Cert.RotatedProjectReferenceIdeal.main_arg7) = m' ((c.tc : Thread Cert.RotatedProjectReferenceIdeal.nD Cert.RotatedProjectReferenceIdeal.τ).loc Cert.RotatedProjectReferenceIdeal.main_arg7))

def preserves_WindowProject_WindowProjectIdeal : Prop :=
  True

def algebraic_WindowProjectIdeal_WindowProjectReferenceIdeal [hWindowProjectIdeal : Cert.WindowProjectIdeal.Facts] [hWindowProjectReferenceIdeal : Cert.WindowProjectReferenceIdeal.Facts] : Prop :=
  ∀ (m : (ℓ : Loc Cert.WindowProjectIdeal.nD Cert.WindowProjectIdeal.τ Cert.WindowProjectIdeal.sig) → Buf (Elt Ideal) ℓ) (g : Dev Cert.WindowProjectIdeal.nD → PrngReg)
    (m' : (ℓ : Loc Cert.WindowProjectReferenceIdeal.nD Cert.WindowProjectReferenceIdeal.τ Cert.WindowProjectReferenceIdeal.sig) → Buf (Elt Ideal) ℓ) (g' : Dev Cert.WindowProjectReferenceIdeal.nD → PrngReg), Pre_WindowProjectIdeal m →
    (∀ c : Dev Cert.WindowProjectIdeal.nD,
      m' ((c.tc : Thread Cert.WindowProjectReferenceIdeal.nD Cert.WindowProjectReferenceIdeal.τ).loc Cert.WindowProjectReferenceIdeal.main_arg0) = m ((c.tc : Thread Cert.WindowProjectIdeal.nD Cert.WindowProjectIdeal.τ).loc Cert.WindowProjectIdeal.main_arg0)
      ∧ m' ((c.tc : Thread Cert.WindowProjectReferenceIdeal.nD Cert.WindowProjectReferenceIdeal.τ).loc Cert.WindowProjectReferenceIdeal.main_arg1) = m ((c.tc : Thread Cert.WindowProjectIdeal.nD Cert.WindowProjectIdeal.τ).loc Cert.WindowProjectIdeal.main_arg1)
      ∧ m' ((c.tc : Thread Cert.WindowProjectReferenceIdeal.nD Cert.WindowProjectReferenceIdeal.τ).loc Cert.WindowProjectReferenceIdeal.main_arg2) = m ((c.tc : Thread Cert.WindowProjectIdeal.nD Cert.WindowProjectIdeal.τ).loc Cert.WindowProjectIdeal.main_arg2)
      ∧ m' ((c.tc : Thread Cert.WindowProjectReferenceIdeal.nD Cert.WindowProjectReferenceIdeal.τ).loc Cert.WindowProjectReferenceIdeal.main_arg3) = m ((c.tc : Thread Cert.WindowProjectIdeal.nD Cert.WindowProjectIdeal.τ).loc Cert.WindowProjectIdeal.main_arg3)
      ∧ m' ((c.tc : Thread Cert.WindowProjectReferenceIdeal.nD Cert.WindowProjectReferenceIdeal.τ).loc Cert.WindowProjectReferenceIdeal.main_arg4) = m ((c.tc : Thread Cert.WindowProjectIdeal.nD Cert.WindowProjectIdeal.τ).loc Cert.WindowProjectIdeal.main_arg4)
      ∧ m' ((c.tc : Thread Cert.WindowProjectReferenceIdeal.nD Cert.WindowProjectReferenceIdeal.τ).loc Cert.WindowProjectReferenceIdeal.main_arg5) = m ((c.tc : Thread Cert.WindowProjectIdeal.nD Cert.WindowProjectIdeal.τ).loc Cert.WindowProjectIdeal.main_arg5)) →
    ∃ (v0 : (c : Dev Cert.WindowProjectIdeal.nD) → Buf (Elt Ideal) ((c.tc : Thread Cert.WindowProjectIdeal.nD Cert.WindowProjectIdeal.τ).loc Cert.WindowProjectIdeal.main_v6_0)) (v1 : (c : Dev Cert.WindowProjectIdeal.nD) → Buf (Elt Ideal) ((c.tc : Thread Cert.WindowProjectIdeal.nD Cert.WindowProjectIdeal.τ).loc Cert.WindowProjectIdeal.main_v6_1)) (v2 : (c : Dev Cert.WindowProjectIdeal.nD) → Buf (Elt Ideal) ((c.tc : Thread Cert.WindowProjectIdeal.nD Cert.WindowProjectIdeal.τ).loc Cert.WindowProjectIdeal.main_v6_2)),
      θ_run (Cert.WindowProjectIdeal.defs (F := Ideal)) (onTc (τ := Cert.WindowProjectIdeal.τ) (Cert.WindowProjectIdeal.main (F := Ideal))) ⟨m, fun _ => 0, g⟩ (fun r => ∀ c : Dev Cert.WindowProjectIdeal.nD,
          r.2.mem ((c.tc : Thread Cert.WindowProjectIdeal.nD Cert.WindowProjectIdeal.τ).loc Cert.WindowProjectIdeal.main_v6_0) = v0 c
          ∧ r.2.mem ((c.tc : Thread Cert.WindowProjectIdeal.nD Cert.WindowProjectIdeal.τ).loc Cert.WindowProjectIdeal.main_v6_1) = v1 c
          ∧ r.2.mem ((c.tc : Thread Cert.WindowProjectIdeal.nD Cert.WindowProjectIdeal.τ).loc Cert.WindowProjectIdeal.main_v6_2) = v2 c
          ∧ r.2.mem ((c.tc : Thread Cert.WindowProjectIdeal.nD Cert.WindowProjectIdeal.τ).loc Cert.WindowProjectIdeal.main_arg0) = m ((c.tc : Thread Cert.WindowProjectIdeal.nD Cert.WindowProjectIdeal.τ).loc Cert.WindowProjectIdeal.main_arg0)
          ∧ r.2.mem ((c.tc : Thread Cert.WindowProjectIdeal.nD Cert.WindowProjectIdeal.τ).loc Cert.WindowProjectIdeal.main_arg1) = m ((c.tc : Thread Cert.WindowProjectIdeal.nD Cert.WindowProjectIdeal.τ).loc Cert.WindowProjectIdeal.main_arg1)
          ∧ r.2.mem ((c.tc : Thread Cert.WindowProjectIdeal.nD Cert.WindowProjectIdeal.τ).loc Cert.WindowProjectIdeal.main_arg2) = m ((c.tc : Thread Cert.WindowProjectIdeal.nD Cert.WindowProjectIdeal.τ).loc Cert.WindowProjectIdeal.main_arg2)
          ∧ r.2.mem ((c.tc : Thread Cert.WindowProjectIdeal.nD Cert.WindowProjectIdeal.τ).loc Cert.WindowProjectIdeal.main_arg3) = m ((c.tc : Thread Cert.WindowProjectIdeal.nD Cert.WindowProjectIdeal.τ).loc Cert.WindowProjectIdeal.main_arg3)
          ∧ r.2.mem ((c.tc : Thread Cert.WindowProjectIdeal.nD Cert.WindowProjectIdeal.τ).loc Cert.WindowProjectIdeal.main_arg4) = m ((c.tc : Thread Cert.WindowProjectIdeal.nD Cert.WindowProjectIdeal.τ).loc Cert.WindowProjectIdeal.main_arg4)
          ∧ r.2.mem ((c.tc : Thread Cert.WindowProjectIdeal.nD Cert.WindowProjectIdeal.τ).loc Cert.WindowProjectIdeal.main_arg5) = m ((c.tc : Thread Cert.WindowProjectIdeal.nD Cert.WindowProjectIdeal.τ).loc Cert.WindowProjectIdeal.main_arg5))
      ∧ θ_run (Cert.WindowProjectReferenceIdeal.defs (F := Ideal)) (onTc (τ := Cert.WindowProjectReferenceIdeal.τ) (Cert.WindowProjectReferenceIdeal.main (F := Ideal))) ⟨m', fun _ => 0, g'⟩ (fun r => ∀ c : Dev Cert.WindowProjectReferenceIdeal.nD,
          r.2.mem ((c.tc : Thread Cert.WindowProjectReferenceIdeal.nD Cert.WindowProjectReferenceIdeal.τ).loc Cert.WindowProjectReferenceIdeal.main_v75) = v0 c
          ∧ r.2.mem ((c.tc : Thread Cert.WindowProjectReferenceIdeal.nD Cert.WindowProjectReferenceIdeal.τ).loc Cert.WindowProjectReferenceIdeal.main_v62) = v1 c
          ∧ r.2.mem ((c.tc : Thread Cert.WindowProjectReferenceIdeal.nD Cert.WindowProjectReferenceIdeal.τ).loc Cert.WindowProjectReferenceIdeal.main_v63) = v2 c
          ∧ r.2.mem ((c.tc : Thread Cert.WindowProjectReferenceIdeal.nD Cert.WindowProjectReferenceIdeal.τ).loc Cert.WindowProjectReferenceIdeal.main_arg0) = m' ((c.tc : Thread Cert.WindowProjectReferenceIdeal.nD Cert.WindowProjectReferenceIdeal.τ).loc Cert.WindowProjectReferenceIdeal.main_arg0)
          ∧ r.2.mem ((c.tc : Thread Cert.WindowProjectReferenceIdeal.nD Cert.WindowProjectReferenceIdeal.τ).loc Cert.WindowProjectReferenceIdeal.main_arg1) = m' ((c.tc : Thread Cert.WindowProjectReferenceIdeal.nD Cert.WindowProjectReferenceIdeal.τ).loc Cert.WindowProjectReferenceIdeal.main_arg1)
          ∧ r.2.mem ((c.tc : Thread Cert.WindowProjectReferenceIdeal.nD Cert.WindowProjectReferenceIdeal.τ).loc Cert.WindowProjectReferenceIdeal.main_arg2) = m' ((c.tc : Thread Cert.WindowProjectReferenceIdeal.nD Cert.WindowProjectReferenceIdeal.τ).loc Cert.WindowProjectReferenceIdeal.main_arg2)
          ∧ r.2.mem ((c.tc : Thread Cert.WindowProjectReferenceIdeal.nD Cert.WindowProjectReferenceIdeal.τ).loc Cert.WindowProjectReferenceIdeal.main_arg3) = m' ((c.tc : Thread Cert.WindowProjectReferenceIdeal.nD Cert.WindowProjectReferenceIdeal.τ).loc Cert.WindowProjectReferenceIdeal.main_arg3)
          ∧ r.2.mem ((c.tc : Thread Cert.WindowProjectReferenceIdeal.nD Cert.WindowProjectReferenceIdeal.τ).loc Cert.WindowProjectReferenceIdeal.main_arg4) = m' ((c.tc : Thread Cert.WindowProjectReferenceIdeal.nD Cert.WindowProjectReferenceIdeal.τ).loc Cert.WindowProjectReferenceIdeal.main_arg4)
          ∧ r.2.mem ((c.tc : Thread Cert.WindowProjectReferenceIdeal.nD Cert.WindowProjectReferenceIdeal.τ).loc Cert.WindowProjectReferenceIdeal.main_arg5) = m' ((c.tc : Thread Cert.WindowProjectReferenceIdeal.nD Cert.WindowProjectReferenceIdeal.τ).loc Cert.WindowProjectReferenceIdeal.main_arg5))

def preserves_RotatedWindowProject_RotatedWindowProjectIdeal : Prop :=
  True

def algebraic_RotatedWindowProjectIdeal_RotatedWindowProjectReferenceIdeal [hRotatedWindowProjectIdeal : Cert.RotatedWindowProjectIdeal.Facts] [hRotatedWindowProjectReferenceIdeal : Cert.RotatedWindowProjectReferenceIdeal.Facts] : Prop :=
  ∀ (m : (ℓ : Loc Cert.RotatedWindowProjectIdeal.nD Cert.RotatedWindowProjectIdeal.τ Cert.RotatedWindowProjectIdeal.sig) → Buf (Elt Ideal) ℓ) (g : Dev Cert.RotatedWindowProjectIdeal.nD → PrngReg)
    (m' : (ℓ : Loc Cert.RotatedWindowProjectReferenceIdeal.nD Cert.RotatedWindowProjectReferenceIdeal.τ Cert.RotatedWindowProjectReferenceIdeal.sig) → Buf (Elt Ideal) ℓ) (g' : Dev Cert.RotatedWindowProjectReferenceIdeal.nD → PrngReg), Pre_RotatedWindowProjectIdeal m →
    (∀ c : Dev Cert.RotatedWindowProjectIdeal.nD,
      m' ((c.tc : Thread Cert.RotatedWindowProjectReferenceIdeal.nD Cert.RotatedWindowProjectReferenceIdeal.τ).loc Cert.RotatedWindowProjectReferenceIdeal.main_arg0) = m ((c.tc : Thread Cert.RotatedWindowProjectIdeal.nD Cert.RotatedWindowProjectIdeal.τ).loc Cert.RotatedWindowProjectIdeal.main_arg0)
      ∧ m' ((c.tc : Thread Cert.RotatedWindowProjectReferenceIdeal.nD Cert.RotatedWindowProjectReferenceIdeal.τ).loc Cert.RotatedWindowProjectReferenceIdeal.main_arg1) = m ((c.tc : Thread Cert.RotatedWindowProjectIdeal.nD Cert.RotatedWindowProjectIdeal.τ).loc Cert.RotatedWindowProjectIdeal.main_arg1)
      ∧ m' ((c.tc : Thread Cert.RotatedWindowProjectReferenceIdeal.nD Cert.RotatedWindowProjectReferenceIdeal.τ).loc Cert.RotatedWindowProjectReferenceIdeal.main_arg2) = m ((c.tc : Thread Cert.RotatedWindowProjectIdeal.nD Cert.RotatedWindowProjectIdeal.τ).loc Cert.RotatedWindowProjectIdeal.main_arg2)
      ∧ m' ((c.tc : Thread Cert.RotatedWindowProjectReferenceIdeal.nD Cert.RotatedWindowProjectReferenceIdeal.τ).loc Cert.RotatedWindowProjectReferenceIdeal.main_arg3) = m ((c.tc : Thread Cert.RotatedWindowProjectIdeal.nD Cert.RotatedWindowProjectIdeal.τ).loc Cert.RotatedWindowProjectIdeal.main_arg3)
      ∧ m' ((c.tc : Thread Cert.RotatedWindowProjectReferenceIdeal.nD Cert.RotatedWindowProjectReferenceIdeal.τ).loc Cert.RotatedWindowProjectReferenceIdeal.main_arg4) = m ((c.tc : Thread Cert.RotatedWindowProjectIdeal.nD Cert.RotatedWindowProjectIdeal.τ).loc Cert.RotatedWindowProjectIdeal.main_arg4)
      ∧ m' ((c.tc : Thread Cert.RotatedWindowProjectReferenceIdeal.nD Cert.RotatedWindowProjectReferenceIdeal.τ).loc Cert.RotatedWindowProjectReferenceIdeal.main_arg5) = m ((c.tc : Thread Cert.RotatedWindowProjectIdeal.nD Cert.RotatedWindowProjectIdeal.τ).loc Cert.RotatedWindowProjectIdeal.main_arg5)
      ∧ m' ((c.tc : Thread Cert.RotatedWindowProjectReferenceIdeal.nD Cert.RotatedWindowProjectReferenceIdeal.τ).loc Cert.RotatedWindowProjectReferenceIdeal.main_arg6) = m ((c.tc : Thread Cert.RotatedWindowProjectIdeal.nD Cert.RotatedWindowProjectIdeal.τ).loc Cert.RotatedWindowProjectIdeal.main_arg6)
      ∧ m' ((c.tc : Thread Cert.RotatedWindowProjectReferenceIdeal.nD Cert.RotatedWindowProjectReferenceIdeal.τ).loc Cert.RotatedWindowProjectReferenceIdeal.main_arg7) = m ((c.tc : Thread Cert.RotatedWindowProjectIdeal.nD Cert.RotatedWindowProjectIdeal.τ).loc Cert.RotatedWindowProjectIdeal.main_arg7)) →
    ∃ (v0 : (c : Dev Cert.RotatedWindowProjectIdeal.nD) → Buf (Elt Ideal) ((c.tc : Thread Cert.RotatedWindowProjectIdeal.nD Cert.RotatedWindowProjectIdeal.τ).loc Cert.RotatedWindowProjectIdeal.main_v12)),
      θ_run (Cert.RotatedWindowProjectIdeal.defs (F := Ideal)) (onTc (τ := Cert.RotatedWindowProjectIdeal.τ) (Cert.RotatedWindowProjectIdeal.main (F := Ideal))) ⟨m, fun _ => 0, g⟩ (fun r => ∀ c : Dev Cert.RotatedWindowProjectIdeal.nD,
          r.2.mem ((c.tc : Thread Cert.RotatedWindowProjectIdeal.nD Cert.RotatedWindowProjectIdeal.τ).loc Cert.RotatedWindowProjectIdeal.main_v12) = v0 c
          ∧ r.2.mem ((c.tc : Thread Cert.RotatedWindowProjectIdeal.nD Cert.RotatedWindowProjectIdeal.τ).loc Cert.RotatedWindowProjectIdeal.main_arg0) = m ((c.tc : Thread Cert.RotatedWindowProjectIdeal.nD Cert.RotatedWindowProjectIdeal.τ).loc Cert.RotatedWindowProjectIdeal.main_arg0)
          ∧ r.2.mem ((c.tc : Thread Cert.RotatedWindowProjectIdeal.nD Cert.RotatedWindowProjectIdeal.τ).loc Cert.RotatedWindowProjectIdeal.main_arg1) = m ((c.tc : Thread Cert.RotatedWindowProjectIdeal.nD Cert.RotatedWindowProjectIdeal.τ).loc Cert.RotatedWindowProjectIdeal.main_arg1)
          ∧ r.2.mem ((c.tc : Thread Cert.RotatedWindowProjectIdeal.nD Cert.RotatedWindowProjectIdeal.τ).loc Cert.RotatedWindowProjectIdeal.main_arg2) = m ((c.tc : Thread Cert.RotatedWindowProjectIdeal.nD Cert.RotatedWindowProjectIdeal.τ).loc Cert.RotatedWindowProjectIdeal.main_arg2)
          ∧ r.2.mem ((c.tc : Thread Cert.RotatedWindowProjectIdeal.nD Cert.RotatedWindowProjectIdeal.τ).loc Cert.RotatedWindowProjectIdeal.main_arg3) = m ((c.tc : Thread Cert.RotatedWindowProjectIdeal.nD Cert.RotatedWindowProjectIdeal.τ).loc Cert.RotatedWindowProjectIdeal.main_arg3)
          ∧ r.2.mem ((c.tc : Thread Cert.RotatedWindowProjectIdeal.nD Cert.RotatedWindowProjectIdeal.τ).loc Cert.RotatedWindowProjectIdeal.main_arg4) = m ((c.tc : Thread Cert.RotatedWindowProjectIdeal.nD Cert.RotatedWindowProjectIdeal.τ).loc Cert.RotatedWindowProjectIdeal.main_arg4)
          ∧ r.2.mem ((c.tc : Thread Cert.RotatedWindowProjectIdeal.nD Cert.RotatedWindowProjectIdeal.τ).loc Cert.RotatedWindowProjectIdeal.main_arg5) = m ((c.tc : Thread Cert.RotatedWindowProjectIdeal.nD Cert.RotatedWindowProjectIdeal.τ).loc Cert.RotatedWindowProjectIdeal.main_arg5)
          ∧ r.2.mem ((c.tc : Thread Cert.RotatedWindowProjectIdeal.nD Cert.RotatedWindowProjectIdeal.τ).loc Cert.RotatedWindowProjectIdeal.main_arg6) = m ((c.tc : Thread Cert.RotatedWindowProjectIdeal.nD Cert.RotatedWindowProjectIdeal.τ).loc Cert.RotatedWindowProjectIdeal.main_arg6)
          ∧ r.2.mem ((c.tc : Thread Cert.RotatedWindowProjectIdeal.nD Cert.RotatedWindowProjectIdeal.τ).loc Cert.RotatedWindowProjectIdeal.main_arg7) = m ((c.tc : Thread Cert.RotatedWindowProjectIdeal.nD Cert.RotatedWindowProjectIdeal.τ).loc Cert.RotatedWindowProjectIdeal.main_arg7))
      ∧ θ_run (Cert.RotatedWindowProjectReferenceIdeal.defs (F := Ideal)) (onTc (τ := Cert.RotatedWindowProjectReferenceIdeal.τ) (Cert.RotatedWindowProjectReferenceIdeal.main (F := Ideal))) ⟨m', fun _ => 0, g'⟩ (fun r => ∀ c : Dev Cert.RotatedWindowProjectReferenceIdeal.nD,
          r.2.mem ((c.tc : Thread Cert.RotatedWindowProjectReferenceIdeal.nD Cert.RotatedWindowProjectReferenceIdeal.τ).loc Cert.RotatedWindowProjectReferenceIdeal.main_v111) = v0 c
          ∧ r.2.mem ((c.tc : Thread Cert.RotatedWindowProjectReferenceIdeal.nD Cert.RotatedWindowProjectReferenceIdeal.τ).loc Cert.RotatedWindowProjectReferenceIdeal.main_arg0) = m' ((c.tc : Thread Cert.RotatedWindowProjectReferenceIdeal.nD Cert.RotatedWindowProjectReferenceIdeal.τ).loc Cert.RotatedWindowProjectReferenceIdeal.main_arg0)
          ∧ r.2.mem ((c.tc : Thread Cert.RotatedWindowProjectReferenceIdeal.nD Cert.RotatedWindowProjectReferenceIdeal.τ).loc Cert.RotatedWindowProjectReferenceIdeal.main_arg1) = m' ((c.tc : Thread Cert.RotatedWindowProjectReferenceIdeal.nD Cert.RotatedWindowProjectReferenceIdeal.τ).loc Cert.RotatedWindowProjectReferenceIdeal.main_arg1)
          ∧ r.2.mem ((c.tc : Thread Cert.RotatedWindowProjectReferenceIdeal.nD Cert.RotatedWindowProjectReferenceIdeal.τ).loc Cert.RotatedWindowProjectReferenceIdeal.main_arg2) = m' ((c.tc : Thread Cert.RotatedWindowProjectReferenceIdeal.nD Cert.RotatedWindowProjectReferenceIdeal.τ).loc Cert.RotatedWindowProjectReferenceIdeal.main_arg2)
          ∧ r.2.mem ((c.tc : Thread Cert.RotatedWindowProjectReferenceIdeal.nD Cert.RotatedWindowProjectReferenceIdeal.τ).loc Cert.RotatedWindowProjectReferenceIdeal.main_arg3) = m' ((c.tc : Thread Cert.RotatedWindowProjectReferenceIdeal.nD Cert.RotatedWindowProjectReferenceIdeal.τ).loc Cert.RotatedWindowProjectReferenceIdeal.main_arg3)
          ∧ r.2.mem ((c.tc : Thread Cert.RotatedWindowProjectReferenceIdeal.nD Cert.RotatedWindowProjectReferenceIdeal.τ).loc Cert.RotatedWindowProjectReferenceIdeal.main_arg4) = m' ((c.tc : Thread Cert.RotatedWindowProjectReferenceIdeal.nD Cert.RotatedWindowProjectReferenceIdeal.τ).loc Cert.RotatedWindowProjectReferenceIdeal.main_arg4)
          ∧ r.2.mem ((c.tc : Thread Cert.RotatedWindowProjectReferenceIdeal.nD Cert.RotatedWindowProjectReferenceIdeal.τ).loc Cert.RotatedWindowProjectReferenceIdeal.main_arg5) = m' ((c.tc : Thread Cert.RotatedWindowProjectReferenceIdeal.nD Cert.RotatedWindowProjectReferenceIdeal.τ).loc Cert.RotatedWindowProjectReferenceIdeal.main_arg5)
          ∧ r.2.mem ((c.tc : Thread Cert.RotatedWindowProjectReferenceIdeal.nD Cert.RotatedWindowProjectReferenceIdeal.τ).loc Cert.RotatedWindowProjectReferenceIdeal.main_arg6) = m' ((c.tc : Thread Cert.RotatedWindowProjectReferenceIdeal.nD Cert.RotatedWindowProjectReferenceIdeal.τ).loc Cert.RotatedWindowProjectReferenceIdeal.main_arg6)
          ∧ r.2.mem ((c.tc : Thread Cert.RotatedWindowProjectReferenceIdeal.nD Cert.RotatedWindowProjectReferenceIdeal.τ).loc Cert.RotatedWindowProjectReferenceIdeal.main_arg7) = m' ((c.tc : Thread Cert.RotatedWindowProjectReferenceIdeal.nD Cert.RotatedWindowProjectReferenceIdeal.τ).loc Cert.RotatedWindowProjectReferenceIdeal.main_arg7))

def preserves_Route_RouteIdeal : Prop :=
  True

def algebraic_RouteIdeal_RouteReferenceIdeal [hRouteIdeal : Cert.RouteIdeal.Facts] [hRouteReferenceIdeal : Cert.RouteReferenceIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteReferenceIdeal.nD Cert.RouteReferenceIdeal.τ Cert.RouteReferenceIdeal.sig) → Buf (Elt Ideal) ℓ) (g' : Dev Cert.RouteReferenceIdeal.nD → PrngReg), Pre_RouteIdeal m →
    (∀ c : Dev Cert.RouteIdeal.nD,
      m' ((c.tc : Thread Cert.RouteReferenceIdeal.nD Cert.RouteReferenceIdeal.τ).loc Cert.RouteReferenceIdeal.main_arg0) = m ((c.tc : Thread Cert.RouteIdeal.nD Cert.RouteIdeal.τ).loc Cert.RouteIdeal.main_arg0)
      ∧ m' ((c.tc : Thread Cert.RouteReferenceIdeal.nD Cert.RouteReferenceIdeal.τ).loc Cert.RouteReferenceIdeal.main_arg1) = m ((c.tc : Thread Cert.RouteIdeal.nD Cert.RouteIdeal.τ).loc Cert.RouteIdeal.main_arg1)
      ∧ m' ((c.tc : Thread Cert.RouteReferenceIdeal.nD Cert.RouteReferenceIdeal.τ).loc Cert.RouteReferenceIdeal.main_arg2) = m ((c.tc : Thread Cert.RouteIdeal.nD Cert.RouteIdeal.τ).loc Cert.RouteIdeal.main_arg2)
      ∧ m' ((c.tc : Thread Cert.RouteReferenceIdeal.nD Cert.RouteReferenceIdeal.τ).loc Cert.RouteReferenceIdeal.main_arg3) = m ((c.tc : Thread Cert.RouteIdeal.nD Cert.RouteIdeal.τ).loc Cert.RouteIdeal.main_arg3)
      ∧ m' ((c.tc : Thread Cert.RouteReferenceIdeal.nD Cert.RouteReferenceIdeal.τ).loc Cert.RouteReferenceIdeal.main_arg4) = m ((c.tc : Thread Cert.RouteIdeal.nD Cert.RouteIdeal.τ).loc Cert.RouteIdeal.main_arg4)
      ∧ m' ((c.tc : Thread Cert.RouteReferenceIdeal.nD Cert.RouteReferenceIdeal.τ).loc Cert.RouteReferenceIdeal.main_arg5) = m ((c.tc : Thread Cert.RouteIdeal.nD Cert.RouteIdeal.τ).loc Cert.RouteIdeal.main_arg5)
      ∧ m' ((c.tc : Thread Cert.RouteReferenceIdeal.nD Cert.RouteReferenceIdeal.τ).loc Cert.RouteReferenceIdeal.main_arg6) = m ((c.tc : Thread Cert.RouteIdeal.nD Cert.RouteIdeal.τ).loc Cert.RouteIdeal.main_arg6)) →
    ∃ (v0 : (c : Dev Cert.RouteIdeal.nD) → Buf (Elt Ideal) ((c.tc : Thread Cert.RouteIdeal.nD Cert.RouteIdeal.τ).loc Cert.RouteIdeal.main_v6_0)) (v1 : (c : Dev Cert.RouteIdeal.nD) → Buf (Elt Ideal) ((c.tc : Thread Cert.RouteIdeal.nD Cert.RouteIdeal.τ).loc Cert.RouteIdeal.main_v6_1)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v6_0) = v0 c
          ∧ r.2.mem ((c.tc : Thread Cert.RouteIdeal.nD Cert.RouteIdeal.τ).loc Cert.RouteIdeal.main_v6_1) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5)
          ∧ r.2.mem ((c.tc : Thread Cert.RouteIdeal.nD Cert.RouteIdeal.τ).loc Cert.RouteIdeal.main_arg6) = m ((c.tc : Thread Cert.RouteIdeal.nD Cert.RouteIdeal.τ).loc Cert.RouteIdeal.main_arg6))
      ∧ θ_run (Cert.RouteReferenceIdeal.defs (F := Ideal)) (onTc (τ := Cert.RouteReferenceIdeal.τ) (Cert.RouteReferenceIdeal.main (F := Ideal))) ⟨m', fun _ => 0, g'⟩ (fun r => ∀ c : Dev Cert.RouteReferenceIdeal.nD,
          r.2.mem ((c.tc : Thread Cert.RouteReferenceIdeal.nD Cert.RouteReferenceIdeal.τ).loc Cert.RouteReferenceIdeal.main_v74) = v0 c
          ∧ r.2.mem ((c.tc : Thread Cert.RouteReferenceIdeal.nD Cert.RouteReferenceIdeal.τ).loc Cert.RouteReferenceIdeal.main_v78) = v1 c
          ∧ r.2.mem ((c.tc : Thread Cert.RouteReferenceIdeal.nD Cert.RouteReferenceIdeal.τ).loc Cert.RouteReferenceIdeal.main_arg0) = m' ((c.tc : Thread Cert.RouteReferenceIdeal.nD Cert.RouteReferenceIdeal.τ).loc Cert.RouteReferenceIdeal.main_arg0)
          ∧ r.2.mem ((c.tc : Thread Cert.RouteReferenceIdeal.nD Cert.RouteReferenceIdeal.τ).loc Cert.RouteReferenceIdeal.main_arg1) = m' ((c.tc : Thread Cert.RouteReferenceIdeal.nD Cert.RouteReferenceIdeal.τ).loc Cert.RouteReferenceIdeal.main_arg1)
          ∧ r.2.mem ((c.tc : Thread Cert.RouteReferenceIdeal.nD Cert.RouteReferenceIdeal.τ).loc Cert.RouteReferenceIdeal.main_arg2) = m' ((c.tc : Thread Cert.RouteReferenceIdeal.nD Cert.RouteReferenceIdeal.τ).loc Cert.RouteReferenceIdeal.main_arg2)
          ∧ r.2.mem ((c.tc : Thread Cert.RouteReferenceIdeal.nD Cert.RouteReferenceIdeal.τ).loc Cert.RouteReferenceIdeal.main_arg3) = m' ((c.tc : Thread Cert.RouteReferenceIdeal.nD Cert.RouteReferenceIdeal.τ).loc Cert.RouteReferenceIdeal.main_arg3)
          ∧ r.2.mem ((c.tc : Thread Cert.RouteReferenceIdeal.nD Cert.RouteReferenceIdeal.τ).loc Cert.RouteReferenceIdeal.main_arg4) = m' ((c.tc : Thread Cert.RouteReferenceIdeal.nD Cert.RouteReferenceIdeal.τ).loc Cert.RouteReferenceIdeal.main_arg4)
          ∧ r.2.mem ((c.tc : Thread Cert.RouteReferenceIdeal.nD Cert.RouteReferenceIdeal.τ).loc Cert.RouteReferenceIdeal.main_arg5) = m' ((c.tc : Thread Cert.RouteReferenceIdeal.nD Cert.RouteReferenceIdeal.τ).loc Cert.RouteReferenceIdeal.main_arg5)
          ∧ r.2.mem ((c.tc : Thread Cert.RouteReferenceIdeal.nD Cert.RouteReferenceIdeal.τ).loc Cert.RouteReferenceIdeal.main_arg6) = m' ((c.tc : Thread Cert.RouteReferenceIdeal.nD Cert.RouteReferenceIdeal.τ).loc Cert.RouteReferenceIdeal.main_arg6))

def preserves_ContextAttention_ContextAttentionIdeal : Prop :=
  True

def algebraic_ContextAttentionIdeal_ContextAttentionReferenceIdeal_pre_finite_context_queries_and_keys [hContextAttentionIdeal : Cert.ContextAttentionIdeal.Facts] [hContextAttentionReferenceIdeal : Cert.ContextAttentionReferenceIdeal.Facts] [hPre_finite_context_queries_and_keys : Cert.Pre_finite_context_queries_and_keys.Facts] : Prop :=
  ∀ (m : (ℓ : Loc Cert.ContextAttentionIdeal.nD Cert.ContextAttentionIdeal.τ Cert.ContextAttentionIdeal.sig) → Buf (Elt Ideal) ℓ) (g : Dev Cert.ContextAttentionIdeal.nD → PrngReg)
    (m' : (ℓ : Loc Cert.ContextAttentionReferenceIdeal.nD Cert.ContextAttentionReferenceIdeal.τ Cert.ContextAttentionReferenceIdeal.sig) → Buf (Elt Ideal) ℓ) (g' : Dev Cert.ContextAttentionReferenceIdeal.nD → PrngReg), Pre_ContextAttentionIdeal_finite_context_queries_and_keys m →
    (∀ c : Dev Cert.ContextAttentionIdeal.nD,
      m' ((c.tc : Thread Cert.ContextAttentionReferenceIdeal.nD Cert.ContextAttentionReferenceIdeal.τ).loc Cert.ContextAttentionReferenceIdeal.main_arg0) = m ((c.tc : Thread Cert.ContextAttentionIdeal.nD Cert.ContextAttentionIdeal.τ).loc Cert.ContextAttentionIdeal.main_arg0)
      ∧ m' ((c.tc : Thread Cert.ContextAttentionReferenceIdeal.nD Cert.ContextAttentionReferenceIdeal.τ).loc Cert.ContextAttentionReferenceIdeal.main_arg1) = m ((c.tc : Thread Cert.ContextAttentionIdeal.nD Cert.ContextAttentionIdeal.τ).loc Cert.ContextAttentionIdeal.main_arg1)
      ∧ m' ((c.tc : Thread Cert.ContextAttentionReferenceIdeal.nD Cert.ContextAttentionReferenceIdeal.τ).loc Cert.ContextAttentionReferenceIdeal.main_arg2) = m ((c.tc : Thread Cert.ContextAttentionIdeal.nD Cert.ContextAttentionIdeal.τ).loc Cert.ContextAttentionIdeal.main_arg2)) →
    ∃ (v0 : (c : Dev Cert.ContextAttentionIdeal.nD) → Buf (Elt Ideal) ((c.tc : Thread Cert.ContextAttentionIdeal.nD Cert.ContextAttentionIdeal.τ).loc Cert.ContextAttentionIdeal.main_v3)),
      θ_run (Cert.ContextAttentionIdeal.defs (F := Ideal)) (onTc (τ := Cert.ContextAttentionIdeal.τ) (Cert.ContextAttentionIdeal.main (F := Ideal))) ⟨m, fun _ => 0, g⟩ (fun r => ∀ c : Dev Cert.ContextAttentionIdeal.nD,
          r.2.mem ((c.tc : Thread Cert.ContextAttentionIdeal.nD Cert.ContextAttentionIdeal.τ).loc Cert.ContextAttentionIdeal.main_v3) = v0 c
          ∧ r.2.mem ((c.tc : Thread Cert.ContextAttentionIdeal.nD Cert.ContextAttentionIdeal.τ).loc Cert.ContextAttentionIdeal.main_arg0) = m ((c.tc : Thread Cert.ContextAttentionIdeal.nD Cert.ContextAttentionIdeal.τ).loc Cert.ContextAttentionIdeal.main_arg0)
          ∧ r.2.mem ((c.tc : Thread Cert.ContextAttentionIdeal.nD Cert.ContextAttentionIdeal.τ).loc Cert.ContextAttentionIdeal.main_arg1) = m ((c.tc : Thread Cert.ContextAttentionIdeal.nD Cert.ContextAttentionIdeal.τ).loc Cert.ContextAttentionIdeal.main_arg1)
          ∧ r.2.mem ((c.tc : Thread Cert.ContextAttentionIdeal.nD Cert.ContextAttentionIdeal.τ).loc Cert.ContextAttentionIdeal.main_arg2) = m ((c.tc : Thread Cert.ContextAttentionIdeal.nD Cert.ContextAttentionIdeal.τ).loc Cert.ContextAttentionIdeal.main_arg2))
      ∧ θ_run (Cert.ContextAttentionReferenceIdeal.defs (F := Ideal)) (onTc (τ := Cert.ContextAttentionReferenceIdeal.τ) (Cert.ContextAttentionReferenceIdeal.main (F := Ideal))) ⟨m', fun _ => 0, g'⟩ (fun r => ∀ c : Dev Cert.ContextAttentionReferenceIdeal.nD,
          r.2.mem ((c.tc : Thread Cert.ContextAttentionReferenceIdeal.nD Cert.ContextAttentionReferenceIdeal.τ).loc Cert.ContextAttentionReferenceIdeal.main_v81) = v0 c
          ∧ r.2.mem ((c.tc : Thread Cert.ContextAttentionReferenceIdeal.nD Cert.ContextAttentionReferenceIdeal.τ).loc Cert.ContextAttentionReferenceIdeal.main_arg0) = m' ((c.tc : Thread Cert.ContextAttentionReferenceIdeal.nD Cert.ContextAttentionReferenceIdeal.τ).loc Cert.ContextAttentionReferenceIdeal.main_arg0)
          ∧ r.2.mem ((c.tc : Thread Cert.ContextAttentionReferenceIdeal.nD Cert.ContextAttentionReferenceIdeal.τ).loc Cert.ContextAttentionReferenceIdeal.main_arg1) = m' ((c.tc : Thread Cert.ContextAttentionReferenceIdeal.nD Cert.ContextAttentionReferenceIdeal.τ).loc Cert.ContextAttentionReferenceIdeal.main_arg1)
          ∧ r.2.mem ((c.tc : Thread Cert.ContextAttentionReferenceIdeal.nD Cert.ContextAttentionReferenceIdeal.τ).loc Cert.ContextAttentionReferenceIdeal.main_arg2) = m' ((c.tc : Thread Cert.ContextAttentionReferenceIdeal.nD Cert.ContextAttentionReferenceIdeal.τ).loc Cert.ContextAttentionReferenceIdeal.main_arg2))

def preserves_PlainContextAttention_PlainContextAttentionIdeal : Prop :=
  True

def algebraic_PlainContextAttentionIdeal_PlainContextAttentionReferenceIdeal_pre_finite_plain_queries_and_keys [hPlainContextAttentionIdeal : Cert.PlainContextAttentionIdeal.Facts] [hPlainContextAttentionReferenceIdeal : Cert.PlainContextAttentionReferenceIdeal.Facts] [hPre_finite_plain_queries_and_keys : Cert.Pre_finite_plain_queries_and_keys.Facts] : Prop :=
  ∀ (m : (ℓ : Loc Cert.PlainContextAttentionIdeal.nD Cert.PlainContextAttentionIdeal.τ Cert.PlainContextAttentionIdeal.sig) → Buf (Elt Ideal) ℓ) (g : Dev Cert.PlainContextAttentionIdeal.nD → PrngReg)
    (m' : (ℓ : Loc Cert.PlainContextAttentionReferenceIdeal.nD Cert.PlainContextAttentionReferenceIdeal.τ Cert.PlainContextAttentionReferenceIdeal.sig) → Buf (Elt Ideal) ℓ) (g' : Dev Cert.PlainContextAttentionReferenceIdeal.nD → PrngReg), Pre_PlainContextAttentionIdeal_finite_plain_queries_and_keys m →
    (∀ c : Dev Cert.PlainContextAttentionIdeal.nD,
      m' ((c.tc : Thread Cert.PlainContextAttentionReferenceIdeal.nD Cert.PlainContextAttentionReferenceIdeal.τ).loc Cert.PlainContextAttentionReferenceIdeal.main_arg0) = m ((c.tc : Thread Cert.PlainContextAttentionIdeal.nD Cert.PlainContextAttentionIdeal.τ).loc Cert.PlainContextAttentionIdeal.main_arg0)) →
    ∃ (v0 : (c : Dev Cert.PlainContextAttentionIdeal.nD) → Buf (Elt Ideal) ((c.tc : Thread Cert.PlainContextAttentionIdeal.nD Cert.PlainContextAttentionIdeal.τ).loc Cert.PlainContextAttentionIdeal.main_v0)),
      θ_run (Cert.PlainContextAttentionIdeal.defs (F := Ideal)) (onTc (τ := Cert.PlainContextAttentionIdeal.τ) (Cert.PlainContextAttentionIdeal.main (F := Ideal))) ⟨m, fun _ => 0, g⟩ (fun r => ∀ c : Dev Cert.PlainContextAttentionIdeal.nD,
          r.2.mem ((c.tc : Thread Cert.PlainContextAttentionIdeal.nD Cert.PlainContextAttentionIdeal.τ).loc Cert.PlainContextAttentionIdeal.main_v0) = v0 c
          ∧ r.2.mem ((c.tc : Thread Cert.PlainContextAttentionIdeal.nD Cert.PlainContextAttentionIdeal.τ).loc Cert.PlainContextAttentionIdeal.main_arg0) = m ((c.tc : Thread Cert.PlainContextAttentionIdeal.nD Cert.PlainContextAttentionIdeal.τ).loc Cert.PlainContextAttentionIdeal.main_arg0))
      ∧ θ_run (Cert.PlainContextAttentionReferenceIdeal.defs (F := Ideal)) (onTc (τ := Cert.PlainContextAttentionReferenceIdeal.τ) (Cert.PlainContextAttentionReferenceIdeal.main (F := Ideal))) ⟨m', fun _ => 0, g'⟩ (fun r => ∀ c : Dev Cert.PlainContextAttentionReferenceIdeal.nD,
          r.2.mem ((c.tc : Thread Cert.PlainContextAttentionReferenceIdeal.nD Cert.PlainContextAttentionReferenceIdeal.τ).loc Cert.PlainContextAttentionReferenceIdeal.main_v23) = v0 c
          ∧ r.2.mem ((c.tc : Thread Cert.PlainContextAttentionReferenceIdeal.nD Cert.PlainContextAttentionReferenceIdeal.τ).loc Cert.PlainContextAttentionReferenceIdeal.main_arg0) = m' ((c.tc : Thread Cert.PlainContextAttentionReferenceIdeal.nD Cert.PlainContextAttentionReferenceIdeal.τ).loc Cert.PlainContextAttentionReferenceIdeal.main_arg0))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hLatentProject : Cert.LatentProject.Facts) (hLatentProjectIdeal : Cert.LatentProjectIdeal.Facts) (hLatentProjectReferenceIdeal : Cert.LatentProjectReferenceIdeal.Facts) (hRotatedProject : Cert.RotatedProject.Facts) (hRotatedProjectIdeal : Cert.RotatedProjectIdeal.Facts) (hRotatedProjectReferenceIdeal : Cert.RotatedProjectReferenceIdeal.Facts) (hWindowProject : Cert.WindowProject.Facts) (hWindowProjectIdeal : Cert.WindowProjectIdeal.Facts) (hWindowProjectReferenceIdeal : Cert.WindowProjectReferenceIdeal.Facts) (hRotatedWindowProject : Cert.RotatedWindowProject.Facts) (hRotatedWindowProjectIdeal : Cert.RotatedWindowProjectIdeal.Facts) (hRotatedWindowProjectReferenceIdeal : Cert.RotatedWindowProjectReferenceIdeal.Facts) (hRoute : Cert.Route.Facts) (hRouteIdeal : Cert.RouteIdeal.Facts) (hRouteReferenceIdeal : Cert.RouteReferenceIdeal.Facts) (hContextAttention : Cert.ContextAttention.Facts) (hContextAttentionIdeal : Cert.ContextAttentionIdeal.Facts) (hContextAttentionReferenceIdeal : Cert.ContextAttentionReferenceIdeal.Facts) (hPlainContextAttention : Cert.PlainContextAttention.Facts) (hPlainContextAttentionIdeal : Cert.PlainContextAttentionIdeal.Facts) (hPlainContextAttentionReferenceIdeal : Cert.PlainContextAttentionReferenceIdeal.Facts) (hPre_finite_queries_and_keys : Cert.Pre_finite_queries_and_keys.Facts) (hPre_finite_context_queries_and_keys : Cert.Pre_finite_context_queries_and_keys.Facts) (hPre_finite_plain_queries_and_keys : Cert.Pre_finite_plain_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Project (hProject := hProject)
    ∧ quiescent_ProjectIdeal (hProjectIdeal := hProjectIdeal)
    ∧ quiescent_ProjectReferenceIdeal (hProjectReferenceIdeal := hProjectReferenceIdeal)
    ∧ quiescent_LatentProject (hLatentProject := hLatentProject)
    ∧ quiescent_LatentProjectIdeal (hLatentProjectIdeal := hLatentProjectIdeal)
    ∧ quiescent_LatentProjectReferenceIdeal (hLatentProjectReferenceIdeal := hLatentProjectReferenceIdeal)
    ∧ quiescent_RotatedProject (hRotatedProject := hRotatedProject)
    ∧ quiescent_RotatedProjectIdeal (hRotatedProjectIdeal := hRotatedProjectIdeal)
    ∧ quiescent_RotatedProjectReferenceIdeal (hRotatedProjectReferenceIdeal := hRotatedProjectReferenceIdeal)
    ∧ quiescent_WindowProject (hWindowProject := hWindowProject)
    ∧ quiescent_WindowProjectIdeal (hWindowProjectIdeal := hWindowProjectIdeal)
    ∧ quiescent_WindowProjectReferenceIdeal (hWindowProjectReferenceIdeal := hWindowProjectReferenceIdeal)
    ∧ quiescent_RotatedWindowProject (hRotatedWindowProject := hRotatedWindowProject)
    ∧ quiescent_RotatedWindowProjectIdeal (hRotatedWindowProjectIdeal := hRotatedWindowProjectIdeal)
    ∧ quiescent_RotatedWindowProjectReferenceIdeal (hRotatedWindowProjectReferenceIdeal := hRotatedWindowProjectReferenceIdeal)
    ∧ quiescent_Route (hRoute := hRoute)
    ∧ quiescent_RouteIdeal (hRouteIdeal := hRouteIdeal)
    ∧ quiescent_RouteReferenceIdeal (hRouteReferenceIdeal := hRouteReferenceIdeal)
    ∧ quiescent_ContextAttention (hContextAttention := hContextAttention)
    ∧ quiescent_ContextAttentionIdeal (hContextAttentionIdeal := hContextAttentionIdeal)
    ∧ quiescent_ContextAttentionIdeal_pre_finite_context_queries_and_keys (hContextAttentionIdeal := hContextAttentionIdeal) (hPre_finite_context_queries_and_keys := hPre_finite_context_queries_and_keys)
    ∧ quiescent_ContextAttentionReferenceIdeal (hContextAttentionReferenceIdeal := hContextAttentionReferenceIdeal)
    ∧ quiescent_ContextAttentionReferenceIdeal_pre_finite_context_queries_and_keys (hContextAttentionReferenceIdeal := hContextAttentionReferenceIdeal) (hPre_finite_context_queries_and_keys := hPre_finite_context_queries_and_keys)
    ∧ quiescent_PlainContextAttention (hPlainContextAttention := hPlainContextAttention)
    ∧ quiescent_PlainContextAttentionIdeal (hPlainContextAttentionIdeal := hPlainContextAttentionIdeal)
    ∧ quiescent_PlainContextAttentionIdeal_pre_finite_plain_queries_and_keys (hPlainContextAttentionIdeal := hPlainContextAttentionIdeal) (hPre_finite_plain_queries_and_keys := hPre_finite_plain_queries_and_keys)
    ∧ quiescent_PlainContextAttentionReferenceIdeal (hPlainContextAttentionReferenceIdeal := hPlainContextAttentionReferenceIdeal)
    ∧ quiescent_PlainContextAttentionReferenceIdeal_pre_finite_plain_queries_and_keys (hPlainContextAttentionReferenceIdeal := hPlainContextAttentionReferenceIdeal) (hPre_finite_plain_queries_and_keys := hPre_finite_plain_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Project_ProjectIdeal
    ∧ algebraic_ProjectIdeal_ProjectReferenceIdeal (hProjectIdeal := hProjectIdeal) (hProjectReferenceIdeal := hProjectReferenceIdeal)
    ∧ preserves_LatentProject_LatentProjectIdeal
    ∧ algebraic_LatentProjectIdeal_LatentProjectReferenceIdeal (hLatentProjectIdeal := hLatentProjectIdeal) (hLatentProjectReferenceIdeal := hLatentProjectReferenceIdeal)
    ∧ preserves_RotatedProject_RotatedProjectIdeal
    ∧ algebraic_RotatedProjectIdeal_RotatedProjectReferenceIdeal (hRotatedProjectIdeal := hRotatedProjectIdeal) (hRotatedProjectReferenceIdeal := hRotatedProjectReferenceIdeal)
    ∧ preserves_WindowProject_WindowProjectIdeal
    ∧ algebraic_WindowProjectIdeal_WindowProjectReferenceIdeal (hWindowProjectIdeal := hWindowProjectIdeal) (hWindowProjectReferenceIdeal := hWindowProjectReferenceIdeal)
    ∧ preserves_RotatedWindowProject_RotatedWindowProjectIdeal
    ∧ algebraic_RotatedWindowProjectIdeal_RotatedWindowProjectReferenceIdeal (hRotatedWindowProjectIdeal := hRotatedWindowProjectIdeal) (hRotatedWindowProjectReferenceIdeal := hRotatedWindowProjectReferenceIdeal)
    ∧ preserves_Route_RouteIdeal
    ∧ algebraic_RouteIdeal_RouteReferenceIdeal (hRouteIdeal := hRouteIdeal) (hRouteReferenceIdeal := hRouteReferenceIdeal)
    ∧ preserves_ContextAttention_ContextAttentionIdeal
    ∧ algebraic_ContextAttentionIdeal_ContextAttentionReferenceIdeal_pre_finite_context_queries_and_keys (hContextAttentionIdeal := hContextAttentionIdeal) (hContextAttentionReferenceIdeal := hContextAttentionReferenceIdeal) (hPre_finite_context_queries_and_keys := hPre_finite_context_queries_and_keys)
    ∧ preserves_PlainContextAttention_PlainContextAttentionIdeal
    ∧ algebraic_PlainContextAttentionIdeal_PlainContextAttentionReferenceIdeal_pre_finite_plain_queries_and_keys (hPlainContextAttentionIdeal := hPlainContextAttentionIdeal) (hPlainContextAttentionReferenceIdeal := hPlainContextAttentionReferenceIdeal) (hPre_finite_plain_queries_and_keys := hPre_finite_plain_queries_and_keys)
-- ==== Pre_finite_context_queries_and_keys.lean ====
abbrev S8192x3072 : Shape := ⟨2, ![8192, 3072]⟩
abbrev S1x4x64 : Shape := ⟨3, ![1, 4, 64]⟩
abbrev S1x128 : Shape := ⟨2, ![1, 128]⟩
abbrev S8192x2048 : Shape := ⟨2, ![8192, 2048]⟩
abbrev S_ : Shape := ⟨0, ![]⟩

class Facts : Prop where
  slices_S8192x3072_S8192x2048_0_0 : S8192x3072.Slices ![0, 0] S8192x2048
  bcast_S_S8192x2048 : S_.BroadcastsInDim S8192x2048 (![] : Fin 0 → Fin S8192x2048.rank)

variable [Facts]

def fn {F : FTy → Type} [FloatOps F] (main_arg0 : FVec F S8192x3072 .bf16) (main_arg1 : FVec F S1x4x64 .f32) (main_arg2 : FVec F S1x128 .f32) : IVec S8192x2048 1 :=
  let main_v0 : FVec F S8192x2048 .bf16 := (extractStridedSlice S8192x2048 ![0, 0] · slices_S8192x3072_S8192x2048_0_0) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  main_v3
-- ==== Pre_finite_plain_queries_and_keys.lean ====
abbrev S8192x3072 : Shape := ⟨2, ![8192, 3072]⟩
abbrev S8192x2048 : Shape := ⟨2, ![8192, 2048]⟩
abbrev S_ : Shape := ⟨0, ![]⟩

class Facts : Prop where
  slices_S8192x3072_S8192x2048_0_0 : S8192x3072.Slices ![0, 0] S8192x2048
  bcast_S_S8192x2048 : S_.BroadcastsInDim S8192x2048 (![] : Fin 0 → Fin S8192x2048.rank)

variable [Facts]

def fn {F : FTy → Type} [FloatOps F] (main_arg0 : FVec F S8192x3072 .bf16) : IVec S8192x2048 1 :=
  let main_v0 : FVec F S8192x2048 .bf16 := (extractStridedSlice S8192x2048 ![0, 0] · slices_S8192x3072_S8192x2048_0_0) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  main_v3
-- ==== Pre_finite_queries_and_keys.lean ====
abbrev S8192x3072 : Shape := ⟨2, ![8192, 3072]⟩
abbrev S2x1x512x8x128 : Shape := ⟨5, ![2, 1, 512, 8, 128]⟩
abbrev S1x4x64 : Shape := ⟨3, ![1, 4, 64]⟩
abbrev S1x128 : Shape := ⟨2, ![1, 128]⟩
abbrev S8192x2048 : Shape := ⟨2, ![8192, 2048]⟩
abbrev S_ : Shape := ⟨0, ![]⟩

class Facts : Prop where
  slices_S8192x3072_S8192x2048_0_0 : S8192x3072.Slices ![0, 0] S8192x2048
  bcast_S_S8192x2048 : S_.BroadcastsInDim S8192x2048 (![] : Fin 0 → Fin S8192x2048.rank)
  bcast_S_S2x1x512x8x128 : S_.BroadcastsInDim S2x1x512x8x128 (![] : Fin 0 → Fin S2x1x512x8x128.rank)

variable [Facts]

def fn {F : FTy → Type} [FloatOps F] (main_arg0 : FVec F S8192x3072 .bf16) (main_arg1 : FVec F S2x1x512x8x128 .f32) (main_arg2 : FVec F S2x1x512x8x128 .f32) (main_arg3 : FVec F S1x4x64 .f32) (main_arg4 : FVec F S1x128 .f32) : IVec S8192x2048 1 × IVec S2x1x512x8x128 1 :=
  let main_v0 : FVec F S8192x2048 .bf16 := (extractStridedSlice S8192x2048 ![0, 0] · slices_S8192x3072_S8192x2048_0_0) main_arg0
  let main_v1 : FVec F S8192x2048 .bf16 := Host.absf main_v0
  let main_cst : FVec F S_ .bf16 := constant S_ .bf16 0x7F80#16
  let main_v2 : FVec F S8192x2048 .bf16 := broadcastInDim S8192x2048 ![] bcast_S_S8192x2048 main_cst
  let main_v3 : IVec S8192x2048 1 := cmpf .olt main_v1 main_v2
  let main_v4 : FVec F S2x1x512x8x128 .f32 := Host.absf main_arg1
  let main_cst_0 : FVec F S_ .f32 := constant S_ .f32 0x7F800000#32
  let main_v5 : FVec F S2x1x512x8x128 .f32 := broadcastInDim S2x1x512x8x128 ![] bcast_S_S2x1x512x8x128 main_cst_0
  let main_v6 : IVec S2x1x512x8x128 1 := cmpf .olt main_v4 main_v5
  (main_v3, main_v6)
-- ==== Kernel.lean ====
abbrev S8192x3072 : Shape := ⟨2, ![8192, 3072]⟩
abbrev S2x1x512x8x128 : Shape := ⟨5, ![2, 1, 512, 8, 128]⟩
abbrev S1x4x64 : Shape := ⟨3, ![1, 4, 64]⟩
abbrev S1x128 : Shape := ⟨2, ![1, 128]⟩
abbrev S2x128 : Shape := ⟨2, ![2, 128]⟩
abbrev S4x64 : Shape := ⟨2, ![4, 64]⟩
abbrev S128 : Shape := ⟨1, ![128]⟩
abbrev S2x512x8x128 : Shape := ⟨4, ![2, 512, 8, 128]⟩
abbrev S2x512x1024 : Shape := ⟨3, ![2, 512, 1024]⟩
abbrev S8192x1024 : Shape := ⟨2, ![8192, 1024]⟩
abbrev S512x128 : Shape := ⟨2, ![512, 128]⟩
abbrev S4096x128 : Shape := ⟨2, ![4096, 128]⟩
abbrev S1x512x128 : Shape := ⟨3, ![1, 512, 128]⟩
abbrev S1x64 : Shape := ⟨2, ![1, 64]⟩
abbrev S1 : Shape := ⟨1, ![1]⟩
abbrev S1x1 : Shape := ⟨2, ![1, 1]⟩
abbrev S512x1 : Shape := ⟨2, ![512, 1]⟩
abbrev S512x512 : Shape := ⟨2, ![512, 512]⟩
abbrev S512 : Shape := ⟨1, ![512]⟩

abbrev nBuf : Space → Nat
  | .hbm => 16
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S2x1x512x8x128, .f32⟩
  | .hbm, ⟨2, _⟩ => ⟨S2x1x512x8x128, .f32⟩
  | .hbm, ⟨3, _⟩ => ⟨S1x4x64, .f32⟩
  | .hbm, ⟨4, _⟩ => ⟨S1x128, .f32⟩
  | .hbm, ⟨5, _⟩ => ⟨S2x128, .bf16⟩
  | .hbm, ⟨6, _⟩ => ⟨S4x64, .f32⟩
  | .hbm, ⟨7, _⟩ => ⟨S128, .f32⟩
  | .hbm, ⟨8, _⟩ => ⟨S1x128, .f32⟩
  | .hbm, ⟨9, _⟩ => ⟨S2x512x8x128, .f32⟩
  | .hbm, ⟨10, _⟩ => ⟨S2x512x1024, .f32⟩
  | .hbm, ⟨11, _⟩ => ⟨S2x512x1024, .bf16⟩
  | .hbm, ⟨12, _⟩ => ⟨S2x512x8x128, .f32⟩
  | .hbm, ⟨13, _⟩ => ⟨S2x512x1024, .f32⟩
  | .hbm, ⟨14, _⟩ => ⟨S2x512x1024, .bf16⟩
  | .hbm, ⟨15, _⟩ => ⟨S8192x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S2x128, .bf16⟩
  | .local _ .vmem, ⟨11, _⟩ => ⟨S4x64, .f32⟩
  | .local _ .vmem, ⟨12, _⟩ => ⟨S1x128, .f32⟩
  | .local _ .vmem, ⟨13, _⟩ => ⟨S512x128, .bf16⟩
  | .local _ .vmem, ⟨14, _⟩ => ⟨S512x128, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 8, 8], ![false, false, false]⟩

@[reducible] def k0_t1_loop : Scf.Loop 32 :=
  let c0_i32 : BitVec 32 := 0#32
  let c8_i32 : BitVec 32 := 8#32
  let v27 : BitVec 32 := Scalar.addi c0_i32 c8_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c512_i32 : BitVec 32 := 512#32
  let v94 : BitVec 32 := Scalar.muli arg12 c512_i32
  v94
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c512_i32 : BitVec 32 := 512#32
  let v94 : BitVec 32 := Scalar.muli arg12 c512_i32
  let v95 : BitVec 32 := v94
  let v96 : Index := Scalar.indexCast v95
  let c0_34 : Index := 0#32
  ![v96.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S2x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S8192x3072 : Shape := ⟨2, ![8192, 3072]⟩
abbrev S2x1x512x8x128 : Shape := ⟨5, ![2, 1, 512, 8, 128]⟩
abbrev S1x4x64 : Shape := ⟨3, ![1, 4, 64]⟩
abbrev S1x128 : Shape := ⟨2, ![1, 128]⟩
abbrev S2x4096x3072 : Shape := ⟨3, ![2, 4096, 3072]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S2x512x8x128 : Shape := ⟨4, ![2, 512, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x4096x8x1x64 : Shape := ⟨5, ![2, 4096, 8, 1, 64]⟩
abbrev S2x4096x8x64 : Shape := ⟨4, ![2, 4096, 8, 64]⟩
abbrev S2x512x8x64 : Shape := ⟨4, ![2, 512, 8, 64]⟩
abbrev S2x8x4096x4096 : Shape := ⟨4, ![2, 8, 4096, 4096]⟩
abbrev S2x8x4096x512 : Shape := ⟨4, ![2, 8, 4096, 512]⟩
abbrev S2x8x4096x4608 : Shape := ⟨4, ![2, 8, 4096, 4608]⟩
abbrev S2x8x4096 : Shape := ⟨3, ![2, 8, 4096]⟩
abbrev S2x8x4096x1 : Shape := ⟨4, ![2, 8, 4096, 1]⟩
abbrev S2x8x128x4096 : Shape := ⟨4, ![2, 8, 128, 4096]⟩
abbrev S128 : Shape := ⟨1, ![128]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S2x1x512x8x128, .f32⟩
  | .hbm, ⟨2, _⟩ => ⟨S2x1x512x8x128, .f32⟩
  | .hbm, ⟨3, _⟩ => ⟨S1x4x64, .f32⟩
  | .hbm, ⟨4, _⟩ => ⟨S1x128, .f32⟩
  | .hbm, ⟨5, _⟩ => ⟨S8192x3072, .f32⟩
  | .hbm, ⟨6, _⟩ => ⟨S2x4096x3072, .f32⟩
  | .hbm, ⟨7, _⟩ => ⟨S2x4096x1024, .f32⟩
  | .hbm, ⟨8, _⟩ => ⟨S2x4096x1024, .f32⟩
  | .hbm, ⟨9, _⟩ => ⟨S2x4096x1024, .f32⟩
  | .hbm, ⟨10, _⟩ => ⟨S2x4096x8x2x64, .f32⟩
  | .hbm, ⟨11, _⟩ => ⟨S2x4096x8x2x64, .f32⟩
  | .hbm, ⟨12, _⟩ => ⟨S2x4096x8x128, .f32⟩
  | .hbm, ⟨13, _⟩ => ⟨S2x512x8x128, .f32⟩
  | .hbm, ⟨14, _⟩ => ⟨S2x512x8x128, .f32⟩
  | .hbm, ⟨15, _⟩ => ⟨S4x64, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x4096x8x1x64, .f32⟩
  | .hbm, ⟨36, _⟩ => ⟨S2x4096x8x64, .f32⟩
  | .hbm, ⟨37, _⟩ => ⟨S2x4096x8x1x64, .f32⟩
  | .hbm, ⟨38, _⟩ => ⟨S2x4096x8x64, .f32⟩
  | .hbm, ⟨39, _⟩ => ⟨S2x512x8x64, .f32⟩
  | .hbm, ⟨40, _⟩ => ⟨S2x8x4096x4096, .f32⟩
  | .hbm, ⟨41, _⟩ => ⟨S2x8x4096x512, .f32⟩
  | .hbm, ⟨42, _⟩ => ⟨S2x8x4096x4608, .f32⟩
  | .hbm, ⟨43, _⟩ => ⟨S_, .f32⟩
  | .hbm, ⟨44, _⟩ => ⟨S2x8x4096, .f32⟩
  | .hbm, ⟨45, _⟩ => ⟨S_, .f32⟩
  | .hbm, ⟨46, _⟩ => ⟨S2x8x4096, .f32⟩
  | .hbm, ⟨47, _⟩ => ⟨S2x8x4096, .f32⟩
  | .hbm, ⟨48, _⟩ => ⟨S2x8x4096x1, .f32⟩
  | .hbm, ⟨49, _⟩ => ⟨S2x8x4096x4608, .f32⟩
  | .hbm, ⟨50, _⟩ => ⟨S2x8x4096x4608, .f32⟩
  | .hbm, ⟨51, _⟩ => ⟨S2x8x4096x4608, .f32⟩
  | .hbm, ⟨52, _⟩ => ⟨S_, .f32⟩
  | .hbm, ⟨53, _⟩ => ⟨S2x8x4096, .f32⟩
  | .hbm, ⟨54, _⟩ => ⟨S2x8x4096x1, .f32⟩
  | .hbm, ⟨55, _⟩ => ⟨S2x8x4096x4608, .f32⟩
  | .hbm, ⟨56, _⟩ => ⟨S2x8x4096x4608, .f32⟩
  | .hbm, ⟨57, _⟩ => ⟨S2x8x4096x4096, .f32⟩
  | .hbm, ⟨58, _⟩ => ⟨S2x8x128x4096, .f32⟩
  | .hbm, ⟨59, _⟩ => ⟨S2x4096x8x128, .f32⟩
  | .hbm, ⟨60, _⟩ => ⟨S2x8x4096x512, .f32⟩
  | .hbm, ⟨61, _⟩ => ⟨S2x8x128x4096, .f32⟩
  | .hbm, ⟨62, _⟩ => ⟨S2x4096x8x128, .f32⟩
  | .hbm, ⟨63, _⟩ => ⟨S2x4096x8x128, .f32⟩
  | .hbm, ⟨64, _⟩ => ⟨S2x4096x8x1x64, .f32⟩
  | .hbm, ⟨65, _⟩ => ⟨S2x4096x8x64, .f32⟩
  | .hbm, ⟨66, _⟩ => ⟨S2x4096x8x1x64, .f32⟩
  | .hbm, ⟨67, _⟩ => ⟨S2x4096x8x64, .f32⟩
  | .hbm, ⟨68, _⟩ => ⟨S2x512x8x64, .f32⟩
  | .hbm, ⟨69, _⟩ => ⟨S2x8x4096x4096, .f32⟩
  | .hbm, ⟨70, _⟩ => ⟨S2x8x4096x512, .f32⟩
  | .hbm, ⟨71, _⟩ => ⟨S2x8x4096x4608, .f32⟩
  | .hbm, ⟨72, _⟩ => ⟨S_, .f32⟩
  | .hbm, ⟨73, _⟩ => ⟨S2x8x4096, .f32⟩
  | .hbm, ⟨74, _⟩ => ⟨S_, .f32⟩
  | .hbm, ⟨75, _⟩ => ⟨S2x8x4096, .f32⟩
  | .hbm, ⟨76, _⟩ => ⟨S2x8x4096, .f32⟩
  | .hbm, ⟨77, _⟩ => ⟨S2x8x4096x1, .f32⟩
  | .hbm, ⟨78, _⟩ => ⟨S2x8x4096x4608, .f32⟩
  | .hbm, ⟨79, _⟩ => ⟨S2x8x4096x4608, .f32⟩
  | .hbm, ⟨80, _⟩ => ⟨S2x8x4096x4608, .f32⟩
  | .hbm, ⟨81, _⟩ => ⟨S_, .f32⟩
  | .hbm, ⟨82, _⟩ => ⟨S2x8x4096, .f32⟩
  | .hbm, ⟨83, _⟩ => ⟨S2x8x4096x1, .f32⟩
  | .hbm, ⟨84, _⟩ => ⟨S2x8x4096x4608, .f32⟩
  | .hbm, ⟨85, _⟩ => ⟨S2x8x4096x4608, .f32⟩
  | .hbm, ⟨86, _⟩ => ⟨S2x8x4096x4096, .f32⟩
  | .hbm, ⟨87, _⟩ => ⟨S2x8x128x4096, .f32⟩
  | .hbm, ⟨88, _⟩ => ⟨S2x4096x8x128, .f32⟩
  | .hbm, ⟨89, _⟩ => ⟨S2x8x4096x512, .f32⟩
  | .hbm, ⟨90, _⟩ => ⟨S2x8x128x4096, .f32⟩
  | .hbm, ⟨91, _⟩ => ⟨S2x4096x8x128, .f32⟩
  | .hbm, ⟨92, _⟩ => ⟨S2x4096x8x128, .f32⟩
  | .hbm, ⟨93, _⟩ => ⟨S2x4096x8x128, .f32⟩
  | .hbm, ⟨94, _⟩ => ⟨S2x4096x8x128, .f32⟩
  | .hbm, ⟨95, _⟩ => ⟨S2x4096x8x128, .f32⟩
  | .hbm, ⟨96, _⟩ => ⟨S128, .f32⟩
  | .hbm, ⟨97, _⟩ => ⟨S2x4096x8x128, .f32⟩
  | .hbm, ⟨98, _⟩ => ⟨S_, .f32⟩
  | .hbm, ⟨99, _⟩ => ⟨S2x4096x8, .f32⟩
  | .hbm, ⟨100, _⟩ => ⟨S2x4096x8x1, .f32⟩
  | .hbm, ⟨101, _⟩ => ⟨S_, .f32⟩
  | .hbm, ⟨102, _⟩ => ⟨S2x4096x8x1, .f32⟩
  | .hbm, ⟨103, _⟩ => ⟨S2x4096x8x1, .f32⟩
  | .hbm, ⟨104, _⟩ => ⟨S_, .f32⟩
  | .hbm, ⟨105, _⟩ => ⟨S2x4096x8x1, .f32⟩
  | .hbm, ⟨106, _⟩ => ⟨S2x4096x8x1, .f32⟩
  | .hbm, ⟨107, _⟩ => ⟨S2x4096x8x1, .f32⟩
  | .hbm, ⟨108, _⟩ => ⟨S2x4096x8x128, .f32⟩
  | .hbm, ⟨109, _⟩ => ⟨S2x4096x8x128, .f32⟩
  | .hbm, ⟨110, _⟩ => ⟨S1x1x1x128, .f32⟩
  | .hbm, ⟨111, _⟩ => ⟨S2x4096x8x128, .f32⟩
  | .hbm, ⟨112, _⟩ => ⟨S2x4096x8x128, .f32⟩
  | .hbm, ⟨113, _⟩ => ⟨S_, .f32⟩
  | .hbm, ⟨114, _⟩ => ⟨S2x4096x8x128, .f32⟩
  | .hbm, ⟨115, _⟩ => ⟨S2x4096x8x128, .f32⟩
  | .hbm, ⟨116, _⟩ => ⟨S8192x1024, .f32⟩
  | .hbm, ⟨117, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_5 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_8 : Ref sig .tc := ⟨.hbm, 98, rfl⟩
abbrev main_v84 : Ref sig .tc := ⟨.hbm, 99, rfl⟩
abbrev main_v85 : Ref sig .tc := ⟨.hbm, 100, rfl⟩
abbrev main_cst_9 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩

abbrev nD : Nat := 1
abbrev τ : Topo := Topo.v7x

variable {F : FTy → Type} [FloatOps F]
-- ==== Project.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S128x128 : Shape := ⟨2, ![128, 128]⟩
abbrev S1x1024 : Shape := ⟨2, ![1, 1024]⟩
abbrev S128 : Shape := ⟨1, ![128]⟩
abbrev S1x128 : Shape := ⟨2, ![1, 128]⟩
abbrev S8192x3072 : Shape := ⟨2, ![8192, 3072]⟩
abbrev S8192x1024 : Shape := ⟨2, ![8192, 1024]⟩
abbrev S512x1024 : Shape := ⟨2, ![512, 1024]⟩
abbrev S1x6x1024 : Shape := ⟨3, ![1, 6, 1024]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S128x128, .f32⟩
  | .hbm, ⟨7, _⟩ => ⟨S1x1024, .f32⟩
  | .hbm, ⟨8, _⟩ => ⟨S1024x3072, .bf16⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S8192x3072, .bf16⟩
  | .hbm, ⟨14, _⟩ => ⟨S8192x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x3072, .bf16⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S512x3072, .bf16⟩
  | .local _ .vmem, ⟨9, _⟩ => ⟨S512x3072, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectReferenceIdeal.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S8192x1024 : Shape := ⟨2, ![8192, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x3072 : Shape := ⟨3, ![32, 256, 3072]⟩
abbrev S32x256x8x2x64 : Shape := ⟨5, ![32, 256, 8, 2, 64]⟩
abbrev S32x256x8x2 : Shape := ⟨4, ![32, 256, 8, 2]⟩
abbrev S32x256x8x2x1 : Shape := ⟨5, ![32, 256, 8, 2, 1]⟩
abbrev S1x1x1x1x64 : Shape := ⟨5, ![1, 1, 1, 1, 64]⟩
abbrev S8192x3072 : Shape := ⟨2, ![8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S8192x1024, .f32⟩
  | .hbm, ⟨7, _⟩ => ⟨S32x256x1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x3072, .f32⟩
  | .hbm, ⟨38, _⟩ => ⟨S32x256x1024, .f32⟩
  | .hbm, ⟨39, _⟩ => ⟨S32x256x1024, .f32⟩
  | .hbm, ⟨40, _⟩ => ⟨S32x256x1024, .f32⟩
  | .hbm, ⟨41, _⟩ => ⟨S32x256x8x2x64, .f32⟩
  | .hbm, ⟨42, _⟩ => ⟨S32x256x8x2x64, .f32⟩
  | .hbm, ⟨43, _⟩ => ⟨S_, .f32⟩
  | .hbm, ⟨44, _⟩ => ⟨S32x256x8x2, .f32⟩
  | .hbm, ⟨45, _⟩ => ⟨S32x256x8x2x1, .f32⟩
  | .hbm, ⟨46, _⟩ => ⟨S_, .f32⟩
  | .hbm, ⟨47, _⟩ => ⟨S32x256x8x2x1, .f32⟩
  | .hbm, ⟨48, _⟩ => ⟨S32x256x8x2x1, .f32⟩
  | .hbm, ⟨49, _⟩ => ⟨S_, .f32⟩
  | .hbm, ⟨50, _⟩ => ⟨S32x256x8x2x1, .f32⟩
  | .hbm, ⟨51, _⟩ => ⟨S32x256x8x2x1, .f32⟩
  | .hbm, ⟨52, _⟩ => ⟨S32x256x8x2x1, .f32⟩
  | .hbm, ⟨53, _⟩ => ⟨S32x256x8x2x64, .f32⟩
  | .hbm, ⟨54, _⟩ => ⟨S32x256x8x2x64, .f32⟩
  | .hbm, ⟨55, _⟩ => ⟨S1x1x1x1x64, .f32⟩
  | .hbm, ⟨56, _⟩ => ⟨S32x256x8x2x64, .f32⟩
  | .hbm, ⟨57, _⟩ => ⟨S32x256x8x2x64, .f32⟩
  | .hbm, ⟨58, _⟩ => ⟨S32x256x8x2x64, .f32⟩
  | .hbm, ⟨59, _⟩ => ⟨S32x256x8x2x64, .f32⟩
  | .hbm, ⟨60, _⟩ => ⟨S_, .f32⟩
  | .hbm, ⟨61, _⟩ => ⟨S32x256x8x2, .f32⟩
  | .hbm, ⟨62, _⟩ => ⟨S32x256x8x2x1, .f32⟩
  | .hbm, ⟨63, _⟩ => ⟨S_, .f32⟩
  | .hbm, ⟨64, _⟩ => ⟨S32x256x8x2x1, .f32⟩
  | .hbm, ⟨65, _⟩ => ⟨S32x256x8x2x1, .f32⟩
  | .hbm, ⟨66, _⟩ => ⟨S_, .f32⟩
  | .hbm, ⟨67, _⟩ => ⟨S32x256x8x2x1, .f32⟩
  | .hbm, ⟨68, _⟩ => ⟨S32x256x8x2x1, .f32⟩
  | .hbm, ⟨69, _⟩ => ⟨S32x256x8x2x1, .f32⟩
  | .hbm, ⟨70, _⟩ => ⟨S32x256x8x2x64, .f32⟩
  | .hbm, ⟨71, _⟩ => ⟨S32x256x8x2x64, .f32⟩
  | .hbm, ⟨72, _⟩ => ⟨S1x1x1x1x64, .f32⟩
  | .hbm, ⟨73, _⟩ => ⟨S32x256x8x2x64, .f32⟩
  | .hbm, ⟨74, _⟩ => ⟨S32x256x8x2x64, .f32⟩
  | .hbm, ⟨75, _⟩ => ⟨S_, .f32⟩
  | .hbm, ⟨76, _⟩ => ⟨S32x256x8x2x64, .f32⟩
  | .hbm, ⟨77, _⟩ => ⟨S32x256x8x2x64, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x3072, .f32⟩
  | .hbm, ⟨82, _⟩ => ⟨S8192x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== LatentProject.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S128x128 : Shape := ⟨2, ![128, 128]⟩
abbrev S1x1024 : Shape := ⟨2, ![1, 1024]⟩
abbrev S128 : Shape := ⟨1, ![128]⟩
abbrev S1x128 : Shape := ⟨2, ![1, 128]⟩
abbrev S8192x3072 : Shape := ⟨2, ![8192, 3072]⟩
abbrev S512x1024 : Shape := ⟨2, ![512, 1024]⟩
abbrev S1x6x1024 : Shape := ⟨3, ![1, 6, 1024]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩
abbrev S512x128 : Shape := ⟨2, ![512, 128]⟩

abbrev nBuf : Space → Nat
  | .hbm => 14
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S128x128, .f32⟩
  | .hbm, ⟨7, _⟩ => ⟨S1x1024, .f32⟩
  | .hbm, ⟨8, _⟩ => ⟨S1024x3072, .bf16⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S512x3072, .bf16⟩
  | .local _ .vmem, ⟨10, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LatentProjectReferenceIdeal.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S8192x1024 : Shape := ⟨2, ![8192, 1024]⟩
abbrev S2x4096x1024 : Shape := ⟨3, ![2, 4096, 1024]⟩
abbrev S2x1x1024 : Shape := ⟨3, ![2, 1, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3072 : Shape := ⟨3, ![2, 4096, 3072]⟩
abbrev S2x4096x16x64 : Shape := ⟨4, ![2, 4096, 16, 64]⟩
abbrev S2x4096x16 : Shape := ⟨3, ![2, 4096, 16]⟩
abbrev S2x4096x16x1 : Shape := ⟨4, ![2, 4096, 16, 1]⟩
abbrev S1x1x1x64 : Shape := ⟨4, ![1, 1, 1, 64]⟩
abbrev S8192x3072 : Shape := ⟨2, ![8192, 3072]⟩

abbrev nBuf : Space → Nat
  | .hbm => 83
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S8192x1024, .f32⟩
  | .hbm, ⟨7, _⟩ => ⟨S2x4096x1024, .f32⟩
  | .hbm, ⟨8, _⟩ => ⟨S2x1x1024, .f32⟩
  | .hbm, ⟨9, _⟩ => ⟨S2x1024, .f32⟩
  | .hbm, ⟨10, _⟩ => ⟨S2x1x1024, .f32⟩
  | .hbm, ⟨11, _⟩ => ⟨S2x1x1024, .f32⟩
  | .hbm, ⟨12, _⟩ => ⟨S2x1024, .f32⟩
  | .hbm, ⟨13, _⟩ => ⟨S2x1x1024, .f32⟩
  | .hbm, ⟨14, _⟩ => ⟨S2x4096x1024, .f32⟩
  | .hbm, ⟨15, _⟩ => ⟨S_, .f32⟩
  | .hbm, ⟨16, _⟩ => ⟨S2x4096, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S_, .f32⟩
  | .hbm, ⟨22, _⟩ => ⟨S2x4096x1, .f32⟩
  | .hbm, ⟨23, _⟩ => ⟨S2x4096x1, .f32⟩
  | .hbm, ⟨24, _⟩ => ⟨S2x4096x1, .f32⟩
  | .hbm, ⟨25, _⟩ => ⟨S2x4096x1024, .f32⟩
  | .hbm, ⟨26, _⟩ => ⟨S2x4096x1024, .f32⟩
  | .hbm, ⟨27, _⟩ => ⟨S1x1x1024, .f32⟩
  | .hbm, ⟨28, _⟩ => ⟨S2x4096x1024, .f32⟩
  | .hbm, ⟨29, _⟩ => ⟨S2x4096x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x3072, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x16x64, .f32⟩
  | .hbm, ⟨42, _⟩ => ⟨S2x4096x16x64, .f32⟩
  | .hbm, ⟨43, _⟩ => ⟨S_, .f32⟩
  | .hbm, ⟨44, _⟩ => ⟨S2x4096x16, .f32⟩
  | .hbm, ⟨45, _⟩ => ⟨S2x4096x16x1, .f32⟩
  | .hbm, ⟨46, _⟩ => ⟨S_, .f32⟩
  | .hbm, ⟨47, _⟩ => ⟨S2x4096x16x1, .f32⟩
  | .hbm, ⟨48, _⟩ => ⟨S2x4096x16x1, .f32⟩
  | .hbm, ⟨49, _⟩ => ⟨S_, .f32⟩
  | .hbm, ⟨50, _⟩ => ⟨S2x4096x16x1, .f32⟩
  | .hbm, ⟨51, _⟩ => ⟨S2x4096x16x1, .f32⟩
  | .hbm, ⟨52, _⟩ => ⟨S2x4096x16x1, .f32⟩
  | .hbm, ⟨53, _⟩ => ⟨S2x4096x16x64, .f32⟩
  | .hbm, ⟨54, _⟩ => ⟨S2x4096x16x64, .f32⟩
  | .hbm, ⟨55, _⟩ => ⟨S1x1x1x64, .f32⟩
  | .hbm, ⟨56, _⟩ => ⟨S2x4096x16x64, .f32⟩
  | .hbm, ⟨57, _⟩ => ⟨S2x4096x16x64, .f32⟩
  | .hbm, ⟨58, _⟩ => ⟨S2x4096x16x64, .f32⟩
  | .hbm, ⟨59, _⟩ => ⟨S2x4096x16x64, .f32⟩
  | .hbm, ⟨60, _⟩ => ⟨S_, .f32⟩
  | .hbm, ⟨61, _⟩ => ⟨S2x4096x16, .f32⟩
  | .hbm, ⟨62, _⟩ => ⟨S2x4096x16x1, .f32⟩
  | .hbm, ⟨63, _⟩ => ⟨S_, .f32⟩
  | .hbm, ⟨64, _⟩ => ⟨S2x4096x16x1, .f32⟩
  | .hbm, ⟨65, _⟩ => ⟨S2x4096x16x1, .f32⟩
  | .hbm, ⟨66, _⟩ => ⟨S_, .f32⟩
  | .hbm, ⟨67, _⟩ => ⟨S2x4096x16x1, .f32⟩
  | .hbm, ⟨68, _⟩ => ⟨S2x4096x16x1, .f32⟩
  | .hbm, ⟨69, _⟩ => ⟨S2x4096x16x1, .f32⟩
  | .hbm, ⟨70, _⟩ => ⟨S2x4096x16x64, .f32⟩
  | .hbm, ⟨71, _⟩ => ⟨S2x4096x16x64, .f32⟩
  | .hbm, ⟨72, _⟩ => ⟨S1x1x1x64, .f32⟩
  | .hbm, ⟨73, _⟩ => ⟨S2x4096x16x64, .f32⟩
  | .hbm, ⟨74, _⟩ => ⟨S2x4096x16x64, .f32⟩
  | .hbm, ⟨75, _⟩ => ⟨S_, .f32⟩
  | .hbm, ⟨76, _⟩ => ⟨S2x4096x16x64, .f32⟩
  | .hbm, ⟨77, _⟩ => ⟨S2x4096x16x64, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x3072, .f32⟩
  | .hbm, ⟨82, _⟩ => ⟨S8192x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== RotatedProject.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S4096x64 : Shape := ⟨2, ![4096, 64]⟩
abbrev S128x128 : Shape := ⟨2, ![128, 128]⟩
abbrev S1x1024 : Shape := ⟨2, ![1, 1024]⟩
abbrev S128 : Shape := ⟨1, ![128]⟩
abbrev S1x128 : Shape := ⟨2, ![1, 128]⟩
abbrev S_ : Shape := ⟨0, ![]⟩
abbrev S4096x128 : Shape := ⟨2, ![4096, 128]⟩
abbrev S8192x3072 : Shape := ⟨2, ![8192, 3072]⟩
abbrev S512x1024 : Shape := ⟨2, ![512, 1024]⟩
abbrev S1x6x1024 : Shape := ⟨3, ![1, 6, 1024]⟩
abbrev S512x128 : Shape := ⟨2, ![512, 128]⟩
abbrev S512x3072 : Shape := ⟨2, ![512, 3072]⟩
abbrev S1x1x1024 : Shape := ⟨3, ![1, 1, 1024]⟩
abbrev S512 : Shape := ⟨1, ![512]⟩
abbrev S512x1 : Shape := ⟨2, ![512, 1]⟩

abbrev nBuf : Space → Nat
  | .hbm => 31
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S4096x64, .f32⟩
  | .hbm, ⟨7, _⟩ => ⟨S4096x64, .f32⟩
  | .hbm, ⟨8, _⟩ => ⟨S128x128, .f32⟩
  | .hbm, ⟨9, _⟩ => ⟨S64, .i1⟩
  | .hbm, ⟨10, _⟩ => ⟨S1x1024, .f32⟩
  | .hbm, ⟨11, _⟩ => ⟨S1024x3072, .bf16⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S4096x64, .f32⟩
  | .hbm, ⟨17, _⟩ => ⟨S_, .f32⟩
  | .hbm, ⟨18, _⟩ => ⟨S_, .f32⟩
  | .hbm, ⟨19, _⟩ => ⟨S4096x64, .i1⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S_, .f32⟩
  | .hbm, ⟨24, _⟩ => ⟨S4096x64, .i1⟩
  | .hbm, ⟨25, _⟩ => ⟨S4096x64, .f32⟩
  | .hbm, ⟨26, _⟩ => ⟨S4096x64, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x3072, .bf16⟩
  | .local _ .vmem, ⟨16, _⟩ => ⟨S512x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RotatedProjectReferenceIdeal.lean ====
abbrev S16384x1024 : Shape := ⟨2, ![16384, 1024]⟩
abbrev S8x6x1024 : Shape := ⟨3, ![8, 6, 1024]⟩
abbrev S1024 : Shape := ⟨1, ![1024]⟩
abbrev S1024x3072 : Shape := ⟨2, ![1024, 3072]⟩
abbrev S64 : Shape := ⟨1, ![64]⟩
abbrev S4096x64 : Shape := ⟨2, ![4096, 64]⟩
abbrev S8192x1024 : Shape := ⟨2, ![8192, 1024]⟩
abbrev S2x4096x1024 : Shape := ⟨3, ![2, 4096, 1024]⟩
abbrev S2x1x1024 : Shape := ⟨3, ![2, 1, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x3072 : Shape := ⟨3, ![2, 4096, 3072]⟩
abbrev S2x4096x8x2x64 : Shape := ⟨5, ![2, 4096, 8, 2, 64]⟩
abbrev S2x4096x8x2 : Shape := ⟨4, ![2, 4096, 8, 2]⟩
abbrev S2x4096x8x2x1 : Shape := ⟨5, ![2, 4096, 8, 2, 1]⟩
abbrev S1x1x1x1x64 : Shape := ⟨5, ![1, 1, 1, 1, 64]⟩
abbrev S2x4096x8x2x32 : Shape := ⟨5, ![2, 4096, 8, 2, 32]⟩
abbrev S2x4096x8x2x16 : Shape := ⟨5, ![2, 4096, 8, 2, 16]⟩
abbrev S1x4096x1x1x64 : Shape := ⟨5, ![1, 4096, 1, 1, 64]⟩
abbrev S8192x3072 : Shape := ⟨2, ![8192, 3072]⟩

abbrev nBuf : Space → Nat
  | .hbm => 121
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x3072, .f32⟩
  | .hbm, ⟨4, _⟩ => ⟨S64, .f32⟩
  | .hbm, ⟨5, _⟩ => ⟨S64, .f32⟩
  | .hbm, ⟨6, _⟩ => ⟨S4096x64, .f32⟩
  | .hbm, ⟨7, _⟩ => ⟨S4096x64, .f32⟩
  | .hbm, ⟨8, _⟩ => ⟨S8192x1024, .f32⟩
  | .hbm, ⟨9, _⟩ => ⟨S2x4096x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x4096x1024, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x1024, .f32⟩
  | .hbm, ⟨28, _⟩ => ⟨S2x4096x1024, .f32⟩
  | .hbm, ⟨29, _⟩ => ⟨S1x1x1024, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x1x1024, .f32⟩
  | .hbm, ⟨34, _⟩ => ⟨S2x1x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x3072, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x8x2x64, .f32⟩
  | .hbm, ⟨44, _⟩ => ⟨S2x4096x8x2x64, .f32⟩
  | .hbm, ⟨45, _⟩ => ⟨S_, .f32⟩
  | .hbm, ⟨46, _⟩ => ⟨S2x4096x8x2, .f32⟩
  | .hbm, ⟨47, _⟩ => ⟨S2x4096x8x2x1, .f32⟩
  | .hbm, ⟨48, _⟩ => ⟨S_, .f32⟩
  | .hbm, ⟨49, _⟩ => ⟨S2x4096x8x2x1, .f32⟩
  | .hbm, ⟨50, _⟩ => ⟨S2x4096x8x2x1, .f32⟩
  | .hbm, ⟨51, _⟩ => ⟨S_, .f32⟩
  | .hbm, ⟨52, _⟩ => ⟨S2x4096x8x2x1, .f32⟩
  | .hbm, ⟨53, _⟩ => ⟨S2x4096x8x2x1, .f32⟩
  | .hbm, ⟨54, _⟩ => ⟨S2x4096x8x2x1, .f32⟩
  | .hbm, ⟨55, _⟩ => ⟨S2x4096x8x2x64, .f32⟩
  | .hbm, ⟨56, _⟩ => ⟨S2x4096x8x2x64, .f32⟩
  | .hbm, ⟨57, _⟩ => ⟨S1x1x1x1x64, .f32⟩
  | .hbm, ⟨58, _⟩ => ⟨S2x4096x8x2x64, .f32⟩
  | .hbm, ⟨59, _⟩ => ⟨S2x4096x8x2x64, .f32⟩
  | .hbm, ⟨60, _⟩ => ⟨S2x4096x8x2x32, .f32⟩
  | .hbm, ⟨61, _⟩ => ⟨S2x4096x8x2x32, .f32⟩
  | .hbm, ⟨62, _⟩ => ⟨S2x4096x8x2x16, .f32⟩
  | .hbm, ⟨63, _⟩ => ⟨S2x4096x8x2x16, .f32⟩
  | .hbm, ⟨64, _⟩ => ⟨S2x4096x8x2x16, .f32⟩
  | .hbm, ⟨65, _⟩ => ⟨S2x4096x8x2x32, .f32⟩
  | .hbm, ⟨66, _⟩ => ⟨S2x4096x8x2x16, .f32⟩
  | .hbm, ⟨67, _⟩ => ⟨S2x4096x8x2x16, .f32⟩
  | .hbm, ⟨68, _⟩ => ⟨S2x4096x8x2x16, .f32⟩
  | .hbm, ⟨69, _⟩ => ⟨S2x4096x8x2x32, .f32⟩
  | .hbm, ⟨70, _⟩ => ⟨S2x4096x8x2x64, .f32⟩
  | .hbm, ⟨71, _⟩ => ⟨S1x4096x1x1x64, .f32⟩
  | .hbm, ⟨72, _⟩ => ⟨S2x4096x8x2x64, .f32⟩
  | .hbm, ⟨73, _⟩ => ⟨S2x4096x8x2x64, .f32⟩
  | .hbm, ⟨74, _⟩ => ⟨S1x4096x1x1x64, .f32⟩
  | .hbm, ⟨75, _⟩ => ⟨S2x4096x8x2x64, .f32⟩
  | .hbm, ⟨76, _⟩ => ⟨S2x4096x8x2x64, .f32⟩
  | .hbm, ⟨77, _⟩ => ⟨S2x4096x8x2x64, .f32⟩
  | .hbm, ⟨78, _⟩ => ⟨S2x4096x8x2x64, .f32⟩
  | .hbm, ⟨79, _⟩ => ⟨S2x4096x8x2x64, .f32⟩
  | .hbm, ⟨80, _⟩ => ⟨S_, .f32⟩
  | .hbm, ⟨81, _⟩ => ⟨S2x4096x8x2, .f32⟩
  | .hbm, ⟨82, _⟩ => ⟨S2x4096x8x2x1, .f32⟩
  | .hbm, ⟨83, _⟩ => ⟨S_, .f32⟩
  | .hbm, ⟨84, _⟩ => ⟨S2x4096x8x2x1, .f32⟩
  | .hbm, ⟨85, _⟩ => ⟨S2x4096x8x2x1, .f32⟩
  | .hbm, ⟨86, _⟩ => ⟨S_, .f32⟩
  | .hbm, ⟨87, _⟩ => ⟨S2x4096x8x2x1, .f32⟩
  | .hbm, ⟨88, _⟩ => ⟨S2x4096x8x2x1, .f32⟩
  | .hbm, ⟨89, _⟩ => ⟨S2x4096x8x2x1, .f32⟩
  | .hbm, ⟨90, _⟩ => ⟨S2x4096x8x2x64, .f32⟩
  | .hbm, ⟨91, _⟩ => ⟨S2x4096x8x2x64, .f32⟩
  | .hbm, ⟨92, _⟩ => ⟨S1x1x1x1x64, .f32⟩
  | .hbm, ⟨93, _⟩ => ⟨S2x4096x8x2x64, .f32⟩
  | .hbm, ⟨94, _⟩ => ⟨S2x4096x8x2x64, .f32⟩
  | .hbm, ⟨95, _⟩ => ⟨S2x4096x8x2x32, .f32⟩
  | .hbm, ⟨96, _⟩ => ⟨S2x4096x8x2x32, .f32⟩
  | .hbm, ⟨97, _⟩ => ⟨S2x4096x8x2x16, .f32⟩
  | .hbm, ⟨98, _⟩ => ⟨S2x4096x8x2x16, .f32⟩
  | .hbm, ⟨99, _⟩ => ⟨S2x4096x8x2x16, .f32⟩
  | .hbm, ⟨100, _⟩ => ⟨S2x4096x8x2x32, .f32⟩
  | .hbm, ⟨101, _⟩ => ⟨S2x4096x8x2x16, .f32⟩
  | .hbm, ⟨102, _⟩ => ⟨S2x4096x8x2x16, .f32⟩
  | .hbm, ⟨103, _⟩ => ⟨S2x4096x8x2x16, .f32⟩
  | .hbm, ⟨104, _⟩ => ⟨S2x4096x8x2x32, .f32⟩
  | .hbm, ⟨105, _⟩ => ⟨S2x4096x8x2x64, .f32⟩
  | .hbm, ⟨106, _⟩ => ⟨S1x4096x1x1x64, .f32⟩
  | .hbm, ⟨107, _⟩ => ⟨S2x4096x8x2x64, .f32⟩
  | .hbm, ⟨108, _⟩ => ⟨S2x4096x8x2x64, .f32⟩
  | .hbm, ⟨109, _⟩ => ⟨S1x4096x1x1x64, .f32⟩
  | .hbm, ⟨110, _⟩ => ⟨S2x4096x8x2x64, .f32⟩
  | .hbm, ⟨111, _⟩ => ⟨S2x4096x8x2x64, .f32⟩
  | .hbm, ⟨112, _⟩ => ⟨S2x4096x8x2x64, .f32⟩
  | .hbm, ⟨113, _⟩ => ⟨S_, .f32⟩
  | .hbm, ⟨114, _⟩ => ⟨S2x4096x8x2x64, .f32⟩
  | .hbm, ⟨115, _⟩ => ⟨S2x4096x8x2x64, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8192x3072, .f32⟩
  | .hbm, ⟨120, _⟩ => ⟨S8192x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩

abbrev nD : Nat := 1
abbrev τ : Topo := Topo.v7x

variable {F : FTy → Type} [FloatOps F]
-- ==== WindowProject.lean ====
abbrev S16384x1024 : Shape := ⟨2, ![16384, 1024]⟩
abbrev S8x6x1024 : Shape := ⟨3, ![8, 6, 1024]⟩
abbrev S1024 : Shape := ⟨1, ![1024]⟩
abbrev S1024x1536 : Shape := ⟨2, ![1024, 1536]⟩
abbrev S64 : Shape := ⟨1, ![64]⟩
abbrev S128x128 : Shape := ⟨2, ![128, 128]⟩
abbrev S1x1024 : Shape := ⟨2, ![1, 1024]⟩
abbrev S128 : Shape := ⟨1, ![128]⟩
abbrev S1x128 : Shape := ⟨2, ![1, 128]⟩
abbrev S8192x2048 : Shape := ⟨2, ![8192, 2048]⟩
abbrev S8192x256 : Shape := ⟨2, ![8192, 256]⟩
abbrev S512x1024 : Shape := ⟨2, ![512, 1024]⟩
abbrev S1x6x1024 : Shape := ⟨3, ![1, 6, 1024]⟩
abbrev S512x2048 : Shape := ⟨2, ![512, 2048]⟩
abbrev S512x256 : Shape := ⟨2, ![512, 256]⟩
abbrev S1x1x1024 : Shape := ⟨3, ![1, 1, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩

abbrev nBuf : Space → Nat
  | .hbm => 16
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S128x128, .f32⟩
  | .hbm, ⟨7, _⟩ => ⟨S1x1024, .f32⟩
  | .hbm, ⟨8, _⟩ => ⟨S1024x1536, .bf16⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S8192x2048, .bf16⟩
  | .hbm, ⟨14, _⟩ => ⟨S8192x256, .f32⟩
  | .hbm, ⟨15, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1536, .bf16⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S512x2048, .bf16⟩
  | .local _ .vmem, ⟨9, _⟩ => ⟨S512x2048, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== WindowProjectReferenceIdeal.lean ====
abbrev S16384x1024 : Shape := ⟨2, ![16384, 1024]⟩
abbrev S8x6x1024 : Shape := ⟨3, ![8, 6, 1024]⟩
abbrev S1024 : Shape := ⟨1, ![1024]⟩
abbrev S1024x1536 : Shape := ⟨2, ![1024, 1536]⟩
abbrev S64 : Shape := ⟨1, ![64]⟩
abbrev S8192x1024 : Shape := ⟨2, ![8192, 1024]⟩
abbrev S32x256x1024 : Shape := ⟨3, ![32, 256, 1024]⟩
abbrev S1x1x1024 : Shape := ⟨3, ![1, 1, 1024]⟩
abbrev S_ : Shape := ⟨0, ![]⟩
abbrev S32x256 : Shape := ⟨2, ![32, 256]⟩
abbrev S32x256x1 : Shape := ⟨3, ![32, 256, 1]⟩
abbrev S32x256x1536 : Shape := ⟨3, ![32, 256, 1536]⟩
abbrev S32x256x256 : Shape := ⟨3, ![32, 256, 256]⟩
abbrev S32x256x4x4x64 : Shape := ⟨5, ![32, 256, 4, 4, 64]⟩
abbrev S32x256x4x4 : Shape := ⟨4, ![32, 256, 4, 4]⟩
abbrev S32x256x4x4x1 : Shape := ⟨5, ![32, 256, 4, 4, 1]⟩
abbrev S1x1x1x1x64 : Shape := ⟨5, ![1, 1, 1, 1, 64]⟩
abbrev S32x256x4x64 : Shape := ⟨4, ![32, 256, 4, 64]⟩
abbrev S32x256x4 : Shape := ⟨3, ![32, 256, 4]⟩
abbrev S32x256x4x1 : Shape := ⟨4, ![32, 256, 4, 1]⟩
abbrev S1x1x1x64 : Shape := ⟨4, ![1, 1, 1, 64]⟩
abbrev S8192x256 : Shape := ⟨2, ![8192, 256]⟩
abbrev S8192x2x2x64 : Shape := ⟨4, ![8192, 2, 2, 64]⟩
abbrev S8192x2x1x64 : Shape := ⟨4, ![8192, 2, 1, 64]⟩
abbrev S8192x2048 : Shape := ⟨2, ![8192, 2048]⟩

abbrev nBuf : Space → Nat
  | .hbm => 93
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S8192x1024, .f32⟩
  | .hbm, ⟨7, _⟩ => ⟨S32x256x1024, .f32⟩
  | .hbm, ⟨8, _⟩ => ⟨S1x1x1024, .f32⟩
  | .hbm, ⟨9, _⟩ => ⟨S1024, .f32⟩
  | .hbm, ⟨10, _⟩ => ⟨S1x1x1024, .f32⟩
  | .hbm, ⟨11, _⟩ => ⟨S1024, .f32⟩
  | .hbm, ⟨12, _⟩ => ⟨S32x256x1024, .f32⟩
  | .hbm, ⟨13, _⟩ => ⟨S_, .f32⟩
  | .hbm, ⟨14, _⟩ => ⟨S32x256, .f32⟩
  | .hbm, ⟨15, _⟩ => ⟨S32x256x1, .f32⟩
  | .hbm, ⟨16, _⟩ => ⟨S_, .f32⟩
  | .hbm, ⟨17, _⟩ => ⟨S32x256x1, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x1, .f32⟩
  | .hbm, ⟨23, _⟩ => ⟨S32x256x1024, .f32⟩
  | .hbm, ⟨24, _⟩ => ⟨S32x256x1024, .f32⟩
  | .hbm, ⟨25, _⟩ => ⟨S1x1x1024, .f32⟩
  | .hbm, ⟨26, _⟩ => ⟨S32x256x1024, .f32⟩
  | .hbm, ⟨27, _⟩ => ⟨S32x256x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1x1024, .f32⟩
  | .hbm, ⟨32, _⟩ => ⟨S32x256x1024, .f32⟩
  | .hbm, ⟨33, _⟩ => ⟨S32x256x1024, .f32⟩
  | .hbm, ⟨34, _⟩ => ⟨S1x1x1024, .f32⟩
  | .hbm, ⟨35, _⟩ => ⟨S32x256x1024, .f32⟩
  | .hbm, ⟨36, _⟩ => ⟨S32x256x1024, .f32⟩
  | .hbm, ⟨37, _⟩ => ⟨S32x256x1536, .f32⟩
  | .hbm, ⟨38, _⟩ => ⟨S32x256x1024, .f32⟩
  | .hbm, ⟨39, _⟩ => ⟨S32x256x256, .f32⟩
  | .hbm, ⟨40, _⟩ => ⟨S32x256x256, .f32⟩
  | .hbm, ⟨41, _⟩ => ⟨S32x256x4x4x64, .f32⟩
  | .hbm, ⟨42, _⟩ => ⟨S32x256x4x4x64, .f32⟩
  | .hbm, ⟨43, _⟩ => ⟨S_, .f32⟩
  | .hbm, ⟨44, _⟩ => ⟨S32x256x4x4, .f32⟩
  | .hbm, ⟨45, _⟩ => ⟨S32x256x4x4x1, .f32⟩
  | .hbm, ⟨46, _⟩ => ⟨S_, .f32⟩
  | .hbm, ⟨47, _⟩ => ⟨S32x256x4x4x1, .f32⟩
  | .hbm, ⟨48, _⟩ => ⟨S32x256x4x4x1, .f32⟩
  | .hbm, ⟨49, _⟩ => ⟨S_, .f32⟩
  | .hbm, ⟨50, _⟩ => ⟨S32x256x4x4x1, .f32⟩
  | .hbm, ⟨51, _⟩ => ⟨S32x256x4x4x1, .f32⟩
  | .hbm, ⟨52, _⟩ => ⟨S32x256x4x4x1, .f32⟩
  | .hbm, ⟨53, _⟩ => ⟨S32x256x4x4x64, .f32⟩
  | .hbm, ⟨54, _⟩ => ⟨S32x256x4x4x64, .f32⟩
  | .hbm, ⟨55, _⟩ => ⟨S1x1x1x1x64, .f32⟩
  | .hbm, ⟨56, _⟩ => ⟨S32x256x4x4x64, .f32⟩
  | .hbm, ⟨57, _⟩ => ⟨S32x256x4x4x64, .f32⟩
  | .hbm, ⟨58, _⟩ => ⟨S32x256x4x64, .f32⟩
  | .hbm, ⟨59, _⟩ => ⟨S32x256x4x64, .f32⟩
  | .hbm, ⟨60, _⟩ => ⟨S_, .f32⟩
  | .hbm, ⟨61, _⟩ => ⟨S32x256x4, .f32⟩
  | .hbm, ⟨62, _⟩ => ⟨S32x256x4x1, .f32⟩
  | .hbm, ⟨63, _⟩ => ⟨S_, .f32⟩
  | .hbm, ⟨64, _⟩ => ⟨S32x256x4x1, .f32⟩
  | .hbm, ⟨65, _⟩ => ⟨S32x256x4x1, .f32⟩
  | .hbm, ⟨66, _⟩ => ⟨S_, .f32⟩
  | .hbm, ⟨67, _⟩ => ⟨S32x256x4x1, .f32⟩
  | .hbm, ⟨68, _⟩ => ⟨S32x256x4x1, .f32⟩
  | .hbm, ⟨69, _⟩ => ⟨S32x256x4x1, .f32⟩
  | .hbm, ⟨70, _⟩ => ⟨S32x256x4x64, .f32⟩
  | .hbm, ⟨71, _⟩ => ⟨S32x256x4x64, .f32⟩
  | .hbm, ⟨72, _⟩ => ⟨S1x1x1x64, .f32⟩
  | .hbm, ⟨73, _⟩ => ⟨S32x256x4x64, .f32⟩
  | .hbm, ⟨74, _⟩ => ⟨S32x256x4x64, .f32⟩
  | .hbm, ⟨75, _⟩ => ⟨S_, .f32⟩
  | .hbm, ⟨76, _⟩ => ⟨S32x256x4x4x64, .f32⟩
  | .hbm, ⟨77, _⟩ => ⟨S32x256x4x4x64, .f32⟩
  | .hbm, ⟨78, _⟩ => ⟨S8192x1024, .f32⟩
  | .hbm, ⟨79, _⟩ => ⟨S8192x256, .f32⟩
  | .hbm, ⟨80, _⟩ => ⟨S8192x256, .f32⟩
  | .hbm, ⟨81, _⟩ => ⟨S8192x2x2x64, .f32⟩
  | .hbm, ⟨82, _⟩ => ⟨S8192x2x1x64, .f32⟩
  | .hbm, ⟨83, _⟩ => ⟨S8192x2x1x64, .f32⟩
  | .hbm, ⟨84, _⟩ => ⟨S8192x2x2x64, .f32⟩
  | .hbm, ⟨85, _⟩ => ⟨S8192x256, .f32⟩
  | .hbm, ⟨86, _⟩ => ⟨S8192x2x2x64, .f32⟩
  | .hbm, ⟨87, _⟩ => ⟨S8192x2x1x64, .f32⟩
  | .hbm, ⟨88, _⟩ => ⟨S8192x2x1x64, .f32⟩
  | .hbm, ⟨89, _⟩ => ⟨S8192x2x2x64, .f32⟩
  | .hbm, ⟨90, _⟩ => ⟨S8192x256, .f32⟩
  | .hbm, ⟨91, _⟩ => ⟨S8192x2048, .f32⟩
  | .hbm, ⟨92, _⟩ => ⟨S8192x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩

abbrev nD : Nat := 1
abbrev τ : Topo := Topo.v7x

variable {F : FTy → Type} [FloatOps F]
-- ==== RotatedWindowProject.lean ====
abbrev S16384x1024 : Shape := ⟨2, ![16384, 1024]⟩
abbrev S8x6x1024 : Shape := ⟨3, ![8, 6, 1024]⟩
abbrev S1024 : Shape := ⟨1, ![1024]⟩
abbrev S1024x1536 : Shape := ⟨2, ![1024, 1536]⟩
abbrev S64 : Shape := ⟨1, ![64]⟩
abbrev S4096x64 : Shape := ⟨2, ![4096, 64]⟩
abbrev S128x128 : Shape := ⟨2, ![128, 128]⟩
abbrev S1x1024 : Shape := ⟨2, ![1, 1024]⟩
abbrev S128 : Shape := ⟨1, ![128]⟩
abbrev S1x128 : Shape := ⟨2, ![1, 128]⟩
abbrev S_ : Shape := ⟨0, ![]⟩
abbrev S4096x128 : Shape := ⟨2, ![4096, 128]⟩
abbrev S8192x2048 : Shape := ⟨2, ![8192, 2048]⟩
abbrev S512x1024 : Shape := ⟨2, ![512, 1024]⟩
abbrev S1x6x1024 : Shape := ⟨3, ![1, 6, 1024]⟩
abbrev S512x128 : Shape := ⟨2, ![512, 128]⟩
abbrev S512x2048 : Shape := ⟨2, ![512, 2048]⟩
abbrev S1x1x1024 : Shape := ⟨3, ![1, 1, 1024]⟩
abbrev S512 : Shape := ⟨1, ![512]⟩
abbrev S512x1 : Shape := ⟨2, ![512, 1]⟩
abbrev S512x1536 : Shape := ⟨2, ![512, 1536]⟩

abbrev nBuf : Space → Nat
  | .hbm => 31
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S8x6x1024, .f32⟩
  | .hbm, ⟨2, _⟩ => ⟨S1024, .f32⟩
  | .hbm, ⟨3, _⟩ => ⟨S1024x1536, .f32⟩
  | .hbm, ⟨4, _⟩ => ⟨S64, .f32⟩
  | .hbm, ⟨5, _⟩ => ⟨S64, .f32⟩
  | .hbm, ⟨6, _⟩ => ⟨S4096x64, .f32⟩
  | .hbm, ⟨7, _⟩ => ⟨S4096x64, .f32⟩
  | .hbm, ⟨8, _⟩ => ⟨S128x128, .f32⟩
  | .hbm, ⟨9, _⟩ => ⟨S64, .i1⟩
  | .hbm, ⟨10, _⟩ => ⟨S1x1024, .f32⟩
  | .hbm, ⟨11, _⟩ => ⟨S1024x1536, .bf16⟩
  | .hbm, ⟨12, _⟩ => ⟨S128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S4096x64, .f32⟩
  | .hbm, ⟨17, _⟩ => ⟨S_, .f32⟩
  | .hbm, ⟨18, _⟩ => ⟨S_, .f32⟩
  | .hbm, ⟨19, _⟩ => ⟨S4096x64, .i1⟩
  | .hbm, ⟨20, _⟩ => ⟨S4096x64, .f32⟩
  | .hbm, ⟨21, _⟩ => ⟨S4096x64, .f32⟩
  | .hbm, ⟨22, _⟩ => ⟨S_, .f32⟩
  | .hbm, ⟨23, _⟩ => ⟨S_, .f32⟩
  | .hbm, ⟨24, _⟩ => ⟨S4096x64, .i1⟩
  | .hbm, ⟨25, _⟩ => ⟨S4096x64, .f32⟩
  | .hbm, ⟨26, _⟩ => ⟨S4096x64, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x2048, .bf16⟩
  | .local _ .vmem, ⟨16, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v7 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RotatedWindowProjectReferenceIdeal.lean ====
abbrev S16384x1024 : Shape := ⟨2, ![16384, 1024]⟩
abbrev S8x6x1024 : Shape := ⟨3, ![8, 6, 1024]⟩
abbrev S1024 : Shape := ⟨1, ![1024]⟩
abbrev S1024x1536 : Shape := ⟨2, ![1024, 1536]⟩
abbrev S64 : Shape := ⟨1, ![64]⟩
abbrev S4096x64 : Shape := ⟨2, ![4096, 64]⟩
abbrev S8192x1024 : Shape := ⟨2, ![8192, 1024]⟩
abbrev S2x4096x1024 : Shape := ⟨3, ![2, 4096, 1024]⟩
abbrev S2x1x1024 : Shape := ⟨3, ![2, 1, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x4096x1536 : Shape := ⟨3, ![2, 4096, 1536]⟩
abbrev S2x4096x256 : Shape := ⟨3, ![2, 4096, 256]⟩
abbrev S2x4096x4x4x64 : Shape := ⟨5, ![2, 4096, 4, 4, 64]⟩
abbrev S2x4096x4x4 : Shape := ⟨4, ![2, 4096, 4, 4]⟩
abbrev S2x4096x4x4x1 : Shape := ⟨5, ![2, 4096, 4, 4, 1]⟩
abbrev S1x1x1x1x64 : Shape := ⟨5, ![1, 1, 1, 1, 64]⟩
abbrev S2x4096x4x4x32 : Shape := ⟨5, ![2, 4096, 4, 4, 32]⟩
abbrev S2x4096x4x4x16 : Shape := ⟨5, ![2, 4096, 4, 4, 16]⟩
abbrev S1x4096x1x1x64 : Shape := ⟨5, ![1, 4096, 1, 1, 64]⟩
abbrev S2x4096x4x64 : Shape := ⟨4, ![2, 4096, 4, 64]⟩
abbrev S2x4096x4 : Shape := ⟨3, ![2, 4096, 4]⟩
abbrev S2x4096x4x1 : Shape := ⟨4, ![2, 4096, 4, 1]⟩
abbrev S1x1x1x64 : Shape := ⟨4, ![1, 1, 1, 64]⟩
abbrev S2x4096x4x32 : Shape := ⟨4, ![2, 4096, 4, 32]⟩
abbrev S2x4096x4x16 : Shape := ⟨4, ![2, 4096, 4, 16]⟩
abbrev S1x4096x1x64 : Shape := ⟨4, ![1, 4096, 1, 64]⟩
abbrev S8192x256 : Shape := ⟨2, ![8192, 256]⟩
abbrev S8192x2x2x64 : Shape := ⟨4, ![8192, 2, 2, 64]⟩
abbrev S8192x2x1x64 : Shape := ⟨4, ![8192, 2, 1, 64]⟩
abbrev S8192x2048 : Shape := ⟨2, ![8192, 2048]⟩

abbrev nBuf : Space → Nat
  | .hbm => 131
  | .vmem => 0
  | .smem => 0
  | _ => 0

abbrev hbmTy0_0 (i : Nat) : BufTy := match i % 128 with
  | 0 => ⟨S16384x1024, .f32⟩
  | 1 => ⟨S8x6x1024, .f32⟩
  | 2 => ⟨S1024, .f32⟩
  | 3 => ⟨S1024x1536, .f32⟩
  | 4 => ⟨S64, .f32⟩
  | 5 => ⟨S64, .f32⟩
  | 6 => ⟨S4096x64, .f32⟩
  | 7 => ⟨S4096x64, .f32⟩
  | 8 => ⟨S8192x1024, .f32⟩
  | 9 => ⟨S2x4096x1024, .f32⟩
  | 10 => ⟨S2x1x1024, .f32⟩
  | 11 => ⟨S2x1024, .f32⟩
  | 12 => ⟨S2x1x1024, .f32⟩
  | 13 => ⟨S2x1x1024, .f32⟩
  | 14 => ⟨S2x1024, .f32⟩
  | 15 => ⟨S2x1x1024, .f32⟩
  | 16 => ⟨S2x4096x1024, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x1024, .f32⟩
  | 28 => ⟨S2x4096x1024, .f32⟩
  | 29 => ⟨S1x1x1024, .f32⟩
  | 30 => ⟨S2x4096x1024, .f32⟩
  | 31 => ⟨S2x4096x1024, .f32⟩
  | 32 => ⟨S_, .f32⟩
  | 33 => ⟨S2x1x1024, .f32⟩
  | 34 => ⟨S2x1x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S2x4096x1536, .f32⟩
  | 40 => ⟨S2x4096x1024, .f32⟩
  | 41 => ⟨S2x4096x256, .f32⟩
  | 42 => ⟨S2x4096x256, .f32⟩
  | 43 => ⟨S2x4096x4x4x64, .f32⟩
  | 44 => ⟨S2x4096x4x4x64, .f32⟩
  | 45 => ⟨S_, .f32⟩
  | 46 => ⟨S2x4096x4x4, .f32⟩
  | 47 => ⟨S2x4096x4x4x1, .f32⟩
  | 48 => ⟨S_, .f32⟩
  | 49 => ⟨S2x4096x4x4x1, .f32⟩
  | 50 => ⟨S2x4096x4x4x1, .f32⟩
  | 51 => ⟨S_, .f32⟩
  | 52 => ⟨S2x4096x4x4x1, .f32⟩
  | 53 => ⟨S2x4096x4x4x1, .f32⟩
  | 54 => ⟨S2x4096x4x4x1, .f32⟩
  | 55 => ⟨S2x4096x4x4x64, .f32⟩
  | 56 => ⟨S2x4096x4x4x64, .f32⟩
  | 57 => ⟨S1x1x1x1x64, .f32⟩
  | 58 => ⟨S2x4096x4x4x64, .f32⟩
  | 59 => ⟨S2x4096x4x4x64, .f32⟩
  | 60 => ⟨S2x4096x4x4x32, .f32⟩
  | 61 => ⟨S2x4096x4x4x32, .f32⟩
  | 62 => ⟨S2x4096x4x4x16, .f32⟩
  | 63 => ⟨S2x4096x4x4x16, .f32⟩
  | 64 => ⟨S2x4096x4x4x16, .f32⟩
  | 65 => ⟨S2x4096x4x4x32, .f32⟩
  | 66 => ⟨S2x4096x4x4x16, .f32⟩
  | 67 => ⟨S2x4096x4x4x16, .f32⟩
  | 68 => ⟨S2x4096x4x4x16, .f32⟩
  | 69 => ⟨S2x4096x4x4x32, .f32⟩
  | 70 => ⟨S2x4096x4x4x64, .f32⟩
  | 71 => ⟨S1x4096x1x1x64, .f32⟩
  | 72 => ⟨S2x4096x4x4x64, .f32⟩
  | 73 => ⟨S2x4096x4x4x64, .f32⟩
  | 74 => ⟨S1x4096x1x1x64, .f32⟩
  | 75 => ⟨S2x4096x4x4x64, .f32⟩
  | 76 => ⟨S2x4096x4x4x64, .f32⟩
  | 77 => ⟨S2x4096x4x4x64, .f32⟩
  | 78 => ⟨S2x4096x4x64, .f32⟩
  | 79 => ⟨S2x4096x4x64, .f32⟩
  | 80 => ⟨S_, .f32⟩
  | 81 => ⟨S2x4096x4, .f32⟩
  | 82 => ⟨S2x4096x4x1, .f32⟩
  | 83 => ⟨S_, .f32⟩
  | 84 => ⟨S2x4096x4x1, .f32⟩
  | 85 => ⟨S2x4096x4x1, .f32⟩
  | 86 => ⟨S_, .f32⟩
  | 87 => ⟨S2x4096x4x1, .f32⟩
  | 88 => ⟨S2x4096x4x1, .f32⟩
  | 89 => ⟨S2x4096x4x1, .f32⟩
  | 90 => ⟨S2x4096x4x64, .f32⟩
  | 91 => ⟨S2x4096x4x64, .f32⟩
  | 92 => ⟨S1x1x1x64, .f32⟩
  | 93 => ⟨S2x4096x4x64, .f32⟩
  | 94 => ⟨S2x4096x4x64, .f32⟩
  | 95 => ⟨S2x4096x4x32, .f32⟩
  | 96 => ⟨S2x4096x4x32, .f32⟩
  | 97 => ⟨S2x4096x4x16, .f32⟩
  | 98 => ⟨S2x4096x4x16, .f32⟩
  | 99 => ⟨S2x4096x4x16, .f32⟩
  | 100 => ⟨S2x4096x4x32, .f32⟩
  | 101 => ⟨S2x4096x4x16, .f32⟩
  | 102 => ⟨S2x4096x4x16, .f32⟩
  | 103 => ⟨S2x4096x4x16, .f32⟩
  | 104 => ⟨S2x4096x4x32, .f32⟩
  | 105 => ⟨S2x4096x4x64, .f32⟩
  | 106 => ⟨S1x4096x1x64, .f32⟩
  | 107 => ⟨S2x4096x4x64, .f32⟩
  | 108 => ⟨S2x4096x4x64, .f32⟩
  | 109 => ⟨S1x4096x1x64, .f32⟩
  | 110 => ⟨S2x4096x4x64, .f32⟩
  | 111 => ⟨S2x4096x4x64, .f32⟩
  | 112 => ⟨S2x4096x4x64, .f32⟩
  | 113 => ⟨S_, .f32⟩
  | 114 => ⟨S2x4096x4x4x64, .f32⟩
  | 115 => ⟨S2x4096x4x4x64, .f32⟩
  | 116 => ⟨S8192x1024, .f32⟩
  | 117 => ⟨S8192x256, .f32⟩
  | 118 => ⟨S8192x256, .f32⟩
  | 119 => ⟨S8192x2x2x64, .f32⟩
  | 120 => ⟨S8192x2x1x64, .f32⟩
  | 121 => ⟨S8192x2x1x64, .f32⟩
  | 122 => ⟨S8192x2x2x64, .f32⟩
  | 123 => ⟨S8192x256, .f32⟩
  | 124 => ⟨S8192x2x2x64, .f32⟩
  | 125 => ⟨S8192x2x1x64, .f32⟩
  | 126 => ⟨S8192x2x1x64, .f32⟩
  | 127 => ⟨S8192x2x2x64, .f32⟩
  | _ => ⟨S16384x1024, .f32⟩

abbrev hbmTy0_1 (i : Nat) : BufTy := match i % 128 with
  | 0 => ⟨S8192x256, .f32⟩
  | 1 => ⟨S8192x2048, .f32⟩
  | 2 => ⟨S8192x2048, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_6 : Ref sig .tc := ⟨.hbm, 80, rfl⟩
abbrev main_v65 : Ref sig .tc := ⟨.hbm, 81, rfl⟩
abbrev main_v66 : Ref sig .tc := ⟨.hbm, 82, rfl⟩
abbrev main_cst_7 : Ref sig .tc := ⟨.hbm, 83, rfl⟩
abbrev main_v67 : Ref sig .tc := ⟨.hbm, 84, rfl⟩
abbrev main_v68 : Ref sig .tc := ⟨.hbm, 85, rfl⟩
abbrev main_cst_8 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩

abbrev nD : Nat := 1
abbrev τ : Topo := Topo.v7x

variable {F : FTy → Type} [FloatOps F]
-- ==== Route.lean ====
abbrev S16384x1024 : Shape := ⟨2, ![16384, 1024]⟩
abbrev S8x6x1024 : Shape := ⟨3, ![8, 6, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S2048x1024 : Shape := ⟨2, ![2048, 1024]⟩
abbrev S16x128x128 : Shape := ⟨3, ![16, 128, 128]⟩
abbrev S1x1024 : Shape := ⟨2, ![1, 1024]⟩
abbrev S16384x128 : Shape := ⟨2, ![16384, 128]⟩
abbrev S512x1024 : Shape := ⟨2, ![512, 1024]⟩
abbrev S1x6x1024 : Shape := ⟨3, ![1, 6, 1024]⟩
abbrev S512x128 : Shape := ⟨2, ![512, 128]⟩
abbrev S2048x512 : Shape := ⟨2, ![2048, 512]⟩
abbrev S16x16x512 : Shape := ⟨3, ![16, 16, 512]⟩
abbrev S8x16x512 : Shape := ⟨3, ![8, 16, 512]⟩
abbrev S1x1x1024 : Shape := ⟨3, ![1, 1, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S1x128 : Shape := ⟨2, ![1, 128]⟩
abbrev S1x1x128 : Shape := ⟨3, ![1, 1, 128]⟩
abbrev S8x128 : Shape := ⟨2, ![8, 128]⟩
abbrev S1x16x128 : Shape := ⟨3, ![1, 16, 128]⟩
abbrev S16x128 : Shape := ⟨2, ![16, 128]⟩
abbrev S1x16x512 : Shape := ⟨3, ![1, 16, 512]⟩
abbrev S16x512 : Shape := ⟨2, ![16, 512]⟩
abbrev S1x512 : Shape := ⟨2, ![1, 512]⟩

abbrev nBuf : Space → Nat
  | .hbm => 18
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S2048x1024, .f32⟩
  | .hbm, ⟨8, _⟩ => ⟨S2048x1024, .bf16⟩
  | .hbm, ⟨9, _⟩ => ⟨S16x128x128, .f32⟩
  | .hbm, ⟨10, _⟩ => ⟨S16x128x128, .bf16⟩
  | .hbm, ⟨11, _⟩ => ⟨S1024x1024, .bf16⟩
  | .hbm, ⟨12, _⟩ => ⟨S1x1024, .f32⟩
  | .hbm, ⟨13, _⟩ => ⟨S16384x1024, .f32⟩
  | .hbm, ⟨14, _⟩ => ⟨S16384x1024, .bf16⟩
  | .hbm, ⟨15, _⟩ => ⟨S16384x128, .i32⟩
  | .hbm, ⟨16, _⟩ => ⟨S16384x128, .i32⟩
  | .hbm, ⟨17, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S2048x1024, .bf16⟩
  | .local _ .vmem, ⟨9, _⟩ => ⟨S16x128x128, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x128, .i32⟩
  | .local _ .vmem, ⟨15, _⟩ => ⟨S512x128, .i32⟩
  | .local _ .vmem, ⟨16, _⟩ => ⟨S512x128, .i32⟩
  | .local _ .vmem, ⟨17, _⟩ => ⟨S512x128, .i32⟩
  | .local _ .vmem, ⟨18, _⟩ => ⟨S512x128, .f32⟩
  | .local _ .vmem, ⟨19, _⟩ => ⟨S512x128, .f32⟩
  | .local _ .vmem, ⟨20, _⟩ => ⟨S2048x512, .bf16⟩
  | .local _ .vmem, ⟨21, _⟩ => ⟨S16x16x512, .f32⟩
  | .local _ .vmem, ⟨22, _⟩ => ⟨S16x16x512, .f32⟩
  | .local _ .vmem, ⟨23, _⟩ => ⟨S8x16x512, .f32⟩
  | .local _ .vmem, ⟨24, _⟩ => ⟨S8x16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v54 : BitVec 32 := Scalar.addi c0_i32 c16_i32
  let c1_i32 : BitVec 32 := 1#32
  ⟨c0_i32, v54, c1_i32⟩
def k0_off1 (k0_t1 : Fin k0_t1_loop.trips) : Fin 3 → Nat :=
  let c0_i32 : BitVec 32 := 0#32
  let c1_i32 : BitVec 32 := 1#32
  let arg18 : BitVec 32 := Scf.iv c0_i32 c1_i32 k0_t1
  let v362 : Index := Scalar.indexCast arg18
  let c0_323 : Index := 0#32
  let c0_324 : Index := 0#32
  ![v362.toNat, 0, 0]
def k0_mult1 (k0_t1 : Fin k0_t1_loop.trips) : BitVec 32 :=
  let c0_i32 : BitVec 32 := 0#32
  let c1_i32 : BitVec 32 := 1#32
  let arg18 : BitVec 32 := Scf.iv c0_i32 c1_i32 k0_t1
  let c128_i32 : BitVec 32 := 128#32
  let v365 : BitVec 32 := Scalar.muli arg18 c128_i32
  v365
def k0_off2 (k0_t1 : Fin k0_t1_loop.trips) : Fin 2 → Nat :=
  let c0_i32 : BitVec 32 := 0#32
  let c1_i32 : BitVec 32 := 1#32
  let arg18 : BitVec 32 := Scf.iv c0_i32 c1_i32 k0_t1
  let c128_i32 : BitVec 32 := 128#32
  let v365 : BitVec 32 := Scalar.muli arg18 c128_i32
  let v366 : BitVec 32 := v365
  let v367 : Index := Scalar.indexCast v366
  let c0_325 : Index := 0#32
  ![v367.toNat, 0]
def k0_off3 (k0_t1 : Fin k0_t1_loop.trips) : Fin 3 → Nat :=
  let c0_i32 : BitVec 32 := 0#32
  let c1_i32 : BitVec 32 := 1#32
  let arg18 : BitVec 32 := Scf.iv c0_i32 c1_i32 k0_t1
  let v379 : Index := Scalar.indexCast arg18
  let c0_330 : Index := 0#32
  let c0_331 : Index := 0#32
  ![v379.toNat, 0, 0]
def k0_off4 (k0_t1 : Fin k0_t1_loop.trips) : Fin 3 → Nat :=
  let c0_i32 : BitVec 32 := 0#32
  let c1_i32 : BitVec 32 := 1#32
  let arg18 : BitVec 32 := Scf.iv c0_i32 c1_i32 k0_t1
  let v399 : Index := Scalar.indexCast arg18
  let c1_338 : Index := 1#32
  let c0_339 : Index := 0#32
  ![v399.toNat, 1, 0]
def k0_off5 (k0_t1 : Fin k0_t1_loop.trips) : Fin 3 → Nat :=
  let c0_i32 : BitVec 32 := 0#32
  let c1_i32 : BitVec 32 := 1#32
  let arg18 : BitVec 32 := Scf.iv c0_i32 c1_i32 k0_t1
  let v419 : Index := Scalar.indexCast arg18
  let c2_346 : Index := 2#32
  let c0_347 : Index := 0#32
  ![v419.toNat, 2, 0]
def k0_off6 (k0_t1 : Fin k0_t1_loop.trips) : Fin 3 → Nat :=
  let c0_i32 : BitVec 32 := 0#32
  let c1_i32 : BitVec 32 := 1#32
  let arg18 : BitVec 32 := Scf.iv c0_i32 c1_i32 k0_t1
  let v439 : Index := Scalar.indexCast arg18
  let c3_354 : Index := 3#32
  let c0_355 : Index := 0#32
  ![v439.toNat, 3, 0]
def k0_off7 (k0_t1 : Fin k0_t1_loop.trips) : Fin 3 → Nat :=
  let c0_i32 : BitVec 32 := 0#32
  let c1_i32 : BitVec 32 := 1#32
  let arg18 : BitVec 32 := Scf.iv c0_i32 c1_i32 k0_t1
  let v459 : Index := Scalar.indexCast arg18
  let c4_362 : Index := 4#32
  let c0_363 : Index := 0#32
  ![v459.toNat, 4, 0]
def k0_off8 (k0_t1 : Fin k0_t1_loop.trips) : Fin 3 → Nat :=
  let c0_i32 : BitVec 32 := 0#32
  let c1_i32 : BitVec 32 := 1#32
  let arg18 : BitVec 32 := Scf.iv c0_i32 c1_i32 k0_t1
  let v479 : Index := Scalar.indexCast arg18
  let c5_370 : Index := 5#32
  let c0_371 : Index := 0#32
  ![v479.toNat, 5, 0]
def k0_off9 (k0_t1 : Fin k0_t1_loop.trips) : Fin 3 → Nat :=
  let c0_i32 : BitVec 32 := 0#32
  let c1_i32 : BitVec 32 := 1#32
  let arg18 : BitVec 32 := Scf.iv c0_i32 c1_i32 k0_t1
  let v499 : Index := Scalar.indexCast arg18
  let c6_378 : Index := 6#32
  let c0_379 : Index := 0#32
  ![v499.toNat, 6, 0]
def k0_off10 (k0_t1 : Fin k0_t1_loop.trips) : Fin 3 → Nat :=
  let c0_i32 : BitVec 32 := 0#32
  let c1_i32 : BitVec 32 := 1#32
  let arg18 : BitVec 32 := Scf.iv c0_i32 c1_i32 k0_t1
  let v519 : Index := Scalar.indexCast arg18
  let c7_386 : Index := 7#32
  let c0_387 : Index := 0#32
  ![v519.toNat, 7, 0]
def k0_off11 (k0_t1 : Fin k0_t1_loop.trips) : Fin 3 → Nat :=
  let c0_i32 : BitVec 32 := 0#32
  let c1_i32 : BitVec 32 := 1#32
  let arg18 : BitVec 32 := Scf.iv c0_i32 c1_i32 k0_t1
  let v539 : Index := Scalar.indexCast arg18
  let c8 : Index := 8#32
  let c0_394 : Index := 0#32
  ![v539.toNat, 8, 0]
def k0_off12 (k0_t1 : Fin k0_t1_loop.trips) : Fin 3 → Nat :=
  let c0_i32 : BitVec 32 := 0#32
  let c1_i32 : BitVec 32 := 1#32
  let arg18 : BitVec 32 := Scf.iv c0_i32 c1_i32 k0_t1
  let v559 : Index := Scalar.indexCast arg18
  let c9 : Index := 9#32
  let c0_401 : Index := 0#32
  ![v559.toNat, 9, 0]
def k0_off13 (k0_t1 : Fin k0_t1_loop.trips) : Fin 3 → Nat :=
  let c0_i32 : BitVec 32 := 0#32
  let c1_i32 : BitVec 32 := 1#32
  let arg18 : BitVec 32 := Scf.iv c0_i32 c1_i32 k0_t1
  let v579 : Index := Scalar.indexCast arg18
  let c10 : Index := 10#32
  let c0_408 : Index := 0#32
  ![v579.toNat, 10, 0]
def k0_off14 (k0_t1 : Fin k0_t1_loop.trips) : Fin 3 → Nat :=
  let c0_i32 : BitVec 32 := 0#32
  let c1_i32 : BitVec 32 := 1#32
  let arg18 : BitVec 32 := Scf.iv c0_i32 c1_i32 k0_t1
  let v599 : Index := Scalar.indexCast arg18
  let c11 : Index := 11#32
  let c0_415 : Index := 0#32
  ![v599.toNat, 11, 0]
def k0_off15 (k0_t1 : Fin k0_t1_loop.trips) : Fin 3 → Nat :=
  let c0_i32 : BitVec 32 := 0#32
  let c1_i32 : BitVec 32 := 1#32
  let arg18 : BitVec 32 := Scf.iv c0_i32 c1_i32 k0_t1
  let v619 : Index := Scalar.indexCast arg18
  let c12 : Index := 12#32
  let c0_422 : Index := 0#32
  ![v619.toNat, 12, 0]
def k0_off16 (k0_t1 : Fin k0_t1_loop.trips) : Fin 3 → Nat :=
  let c0_i32 : BitVec 32 := 0#32
  let c1_i32 : BitVec 32 := 1#32
  let arg18 : BitVec 32 := Scf.iv c0_i32 c1_i32 k0_t1
  let v639 : Index := Scalar.indexCast arg18
  let c13 : Index := 13#32
  let c0_429 : Index := 0#32
  ![v639.toNat, 13, 0]
def k0_off17 (k0_t1 : Fin k0_t1_loop.trips) : Fin 3 → Nat :=
  let c0_i32 : BitVec 32 := 0#32
  let c1_i32 : BitVec 32 := 1#32
  let arg18 : BitVec 32 := Scf.iv c0_i32 c1_i32 k0_t1
  let v659 : Index := Scalar.indexCast arg18
  let c14 : Index := 14#32
  let c0_436 : Index := 0#32
  ![v659.toNat, 14, 0]
def k0_off18 (k0_t1 : Fin k0_t1_loop.trips) : Fin 3 → Nat :=
  let c0_i32 : BitVec 32 := 0#32
  let c1_i32 : BitVec 32 := 1#32
  let arg18 : BitVec 32 := Scf.iv c0_i32 c1_i32 k0_t1
  let v679 : Index := Scalar.indexCast arg18
  let c15 : Index := 15#32
  let c0_443 : Index := 0#32
  ![v679.toNat, 15, 0]
def k0_off19 (k0_t1 : Fin k0_t1_loop.trips) : Fin 3 → Nat :=
  let c0_i32 : BitVec 32 := 0#32
  let c1_i32 : BitVec 32 := 1#32
  let arg18 : BitVec 32 := Scf.iv c0_i32 c1_i32 k0_t1
  let v696 : Index := Scalar.indexCast arg18
  let c0_449 : Index := 0#32
  let c128_450 : Index := 128#32
  ![v696.toNat, 0, 128]
def k0_off20 (k0_t1 : Fin k0_t1_loop.trips) : Fin 3 → Nat :=
  let c0_i32 : BitVec 32 := 0#32
  let c1_i32 : BitVec 32 := 1#32
  let arg18 : BitVec 32 := Scf.iv c0_i32 c1_i32 k0_t1
  let v716 : Index := Scalar.indexCast arg18
  let c1_457 : Index := 1#32
  let c128_458 : Index := 128#32
  ![v716.toNat, 1, 128]
def k0_off21 (k0_t1 : Fin k0_t1_loop.trips) : Fin 3 → Nat :=
  let c0_i32 : BitVec 32 := 0#32
  let c1_i32 : BitVec 32 := 1#32
  let arg18 : BitVec 32 := Scf.iv c0_i32 c1_i32 k0_t1
  let v736 : Index := Scalar.indexCast arg18
  let c2_465 : Index := 2#32
  let c128_466 : Index := 128#32
  ![v736.toNat, 2, 128]
def k0_off22 (k0_t1 : Fin k0_t1_loop.trips) : Fin 3 → Nat :=
  let c0_i32 : BitVec 32 := 0#32
  let c1_i32 : BitVec 32 := 1#32
  let arg18 : BitVec 32 := Scf.iv c0_i32 c1_i32 k0_t1
  let v756 : Index := Scalar.indexCast arg18
  let c3_473 : Index := 3#32
  let c128_474 : Index := 128#32
  ![v756.toNat, 3, 128]
def k0_off23 (k0_t1 : Fin k0_t1_loop.trips) : Fin 3 → Nat :=
  let c0_i32 : BitVec 32 := 0#32
  let c1_i32 : BitVec 32 := 1#32
  let arg18 : BitVec 32 := Scf.iv c0_i32 c1_i32 k0_t1
  let v776 : Index := Scalar.indexCast arg18
  let c4_481 : Index := 4#32
  let c128_482 : Index := 128#32
  ![v776.toNat, 4, 128]
def k0_off24 (k0_t1 : Fin k0_t1_loop.trips) : Fin 3 → Nat :=
  let c0_i32 : BitVec 32 := 0#32
  let c1_i32 : BitVec 32 := 1#32
  let arg18 : BitVec 32 := Scf.iv c0_i32 c1_i32 k0_t1
  let v796 : Index := Scalar.indexCast arg18
  let c5_489 : Index := 5#32
  let c128_490 : Index := 128#32
  ![v796.toNat, 5, 128]
def k0_off25 (k0_t1 : Fin k0_t1_loop.trips) : Fin 3 → Nat :=
  let c0_i32 : BitVec 32 := 0#32
  let c1_i32 : BitVec 32 := 1#32
  let arg18 : BitVec 32 := Scf.iv c0_i32 c1_i32 k0_t1
  let v816 : Index := Scalar.indexCast arg18
  let c6_497 : Index := 6#32
  let c128_498 : Index := 128#32
  ![v816.toNat, 6, 128]
def k0_off26 (k0_t1 : Fin k0_t1_loop.trips) : Fin 3 → Nat :=
  let c0_i32 : BitVec 32 := 0#32
  let c1_i32 : BitVec 32 := 1#32
  let arg18 : BitVec 32 := Scf.iv c0_i32 c1_i32 k0_t1
  let v836 : Index := Scalar.indexCast arg18
  let c7_505 : Index := 7#32
  let c128_506 : Index := 128#32
  ![v836.toNat, 7, 128]
def k0_off27 (k0_t1 : Fin k0_t1_loop.trips) : Fin 3 → Nat :=
  let c0_i32 : BitVec 32 := 0#32
  let c1_i32 : BitVec 32 := 1#32
  let arg18 : BitVec 32 := Scf.iv c0_i32 c1_i32 k0_t1
  let v856 : Index := Scalar.indexCast arg18
  let c8_513 : Index := 8#32
  let c128_514 : Index := 128#32
  ![v856.toNat, 8, 128]
def k0_off28 (k0_t1 : Fin k0_t1_loop.trips) : Fin 3 → Nat :=
  let c0_i32 : BitVec 32 := 0#32
  let c1_i32 : BitVec 32 := 1#32
  let arg18 : BitVec 32 := Scf.iv c0_i32 c1_i32 k0_t1
  let v876 : Index := Scalar.indexCast arg18
  let c9_521 : Index := 9#32
  let c128_522 : Index := 128#32
  ![v876.toNat, 9, 128]
def k0_off29 (k0_t1 : Fin k0_t1_loop.trips) : Fin 3 → Nat :=
  let c0_i32 : BitVec 32 := 0#32
  let c1_i32 : BitVec 32 := 1#32
  let arg18 : BitVec 32 := Scf.iv c0_i32 c1_i32 k0_t1
  let v896 : Index := Scalar.indexCast arg18
  let c10_529 : Index := 10#32
  let c128_530 : Index := 128#32
  ![v896.toNat, 10, 128]
def k0_off30 (k0_t1 : Fin k0_t1_loop.trips) : Fin 3 → Nat :=
  let c0_i32 : BitVec 32 := 0#32
  let c1_i32 : BitVec 32 := 1#32
  let arg18 : BitVec 32 := Scf.iv c0_i32 c1_i32 k0_t1
  let v916 : Index := Scalar.indexCast arg18
  let c11_537 : Index := 11#32
  let c128_538 : Index := 128#32
  ![v916.toNat, 11, 128]
def k0_off31 (k0_t1 : Fin k0_t1_loop.trips) : Fin 3 → Nat :=
  let c0_i32 : BitVec 32 := 0#32
  let c1_i32 : BitVec 32 := 1#32
  let arg18 : BitVec 32 := Scf.iv c0_i32 c1_i32 k0_t1
  let v936 : Index := Scalar.indexCast arg18
  let c12_545 : Index := 12#32
  let c128_546 : Index := 128#32
  ![v936.toNat, 12, 128]
def k0_off32 (k0_t1 : Fin k0_t1_loop.trips) : Fin 3 → Nat :=
  let c0_i32 : BitVec 32 := 0#32
  let c1_i32 : BitVec 32 := 1#32
  let arg18 : BitVec 32 := Scf.iv c0_i32 c1_i32 k0_t1
  let v956 : Index := Scalar.indexCast arg18
  let c13_553 : Index := 13#32
  let c128_554 : Index := 128#32
  ![v956.toNat, 13, 128]
def k0_off33 (k0_t1 : Fin k0_t1_loop.trips) : Fin 3 → Nat :=
  let c0_i32 : BitVec 32 := 0#32
  let c1_i32 : BitVec 32 := 1#32
  let arg18 : BitVec 32 := Scf.iv c0_i32 c1_i32 k0_t1
  let v976 : Index := Scalar.indexCast arg18
  let c14_561 : Index := 14#32
  let c128_562 : Index := 128#32
  ![v976.toNat, 14, 128]
def k0_off34 (k0_t1 : Fin k0_t1_loop.trips) : Fin 3 → Nat :=
  let c0_i32 : BitVec 32 := 0#32
  let c1_i32 : BitVec 32 := 1#32
  let arg18 : BitVec 32 := Scf.iv c0_i32 c1_i32 k0_t1
  let v996 : Index := Scalar.indexCast arg18
  let c15_569 : Index := 15#32
  let c128_570 : Index := 128#32
  ![v996.toNat, 15, 128]
def k0_off35 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1013 : Index := Scalar.indexCast arg18
  let c0_576 : Index := 0#32
  let c256_577 : Index := 256#32
  ![v1013.toNat, 0, 256]
def k0_off36 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1033 : Index := Scalar.indexCast arg18
  let c1_584 : Index := 1#32
  let c256_585 : Index := 256#32
  ![v1033.toNat, 1, 256]
def k0_off37 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1053 : Index := Scalar.indexCast arg18
  let c2_592 : Index := 2#32
  let c256_593 : Index := 256#32
  ![v1053.toNat, 2, 256]
def k0_off38 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1073 : Index := Scalar.indexCast arg18
  let c3_600 : Index := 3#32
  let c256_601 : Index := 256#32
  ![v1073.toNat, 3, 256]
def k0_off39 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1093 : Index := Scalar.indexCast arg18
  let c4_608 : Index := 4#32
  let c256_609 : Index := 256#32
  ![v1093.toNat, 4, 256]
def k0_off40 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1113 : Index := Scalar.indexCast arg18
  let c5_616 : Index := 5#32
  let c256_617 : Index := 256#32
  ![v1113.toNat, 5, 256]
def k0_off41 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1133 : Index := Scalar.indexCast arg18
  let c6_624 : Index := 6#32
  let c256_625 : Index := 256#32
  ![v1133.toNat, 6, 256]
def k0_off42 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1153 : Index := Scalar.indexCast arg18
  let c7_632 : Index := 7#32
  let c256_633 : Index := 256#32
  ![v1153.toNat, 7, 256]
def k0_off43 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1173 : Index := Scalar.indexCast arg18
  let c8_640 : Index := 8#32
  let c256_641 : Index := 256#32
  ![v1173.toNat, 8, 256]
def k0_off44 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1193 : Index := Scalar.indexCast arg18
  let c9_648 : Index := 9#32
  let c256_649 : Index := 256#32
  ![v1193.toNat, 9, 256]
def k0_off45 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1213 : Index := Scalar.indexCast arg18
  let c10_656 : Index := 10#32
  let c256_657 : Index := 256#32
  ![v1213.toNat, 10, 256]
def k0_off46 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1233 : Index := Scalar.indexCast arg18
  let c11_664 : Index := 11#32
  let c256_665 : Index := 256#32
  ![v1233.toNat, 11, 256]
def k0_off47 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1253 : Index := Scalar.indexCast arg18
  let c12_672 : Index := 12#32
  let c256_673 : Index := 256#32
  ![v1253.toNat, 12, 256]
def k0_off48 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1273 : Index := Scalar.indexCast arg18
  let c13_680 : Index := 13#32
  let c256_681 : Index := 256#32
  ![v1273.toNat, 13, 256]
def k0_off49 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1293 : Index := Scalar.indexCast arg18
  let c14_688 : Index := 14#32
  let c256_689 : Index := 256#32
  ![v1293.toNat, 14, 256]
def k0_off50 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1313 : Index := Scalar.indexCast arg18
  let c15_696 : Index := 15#32
  let c256_697 : Index := 256#32
  ![v1313.toNat, 15, 256]
def k0_off51 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1330 : Index := Scalar.indexCast arg18
  let c0_703 : Index := 0#32
  let c384_704 : Index := 384#32
  ![v1330.toNat, 0, 384]
def k0_off52 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1350 : Index := Scalar.indexCast arg18
  let c1_711 : Index := 1#32
  let c384_712 : Index := 384#32
  ![v1350.toNat, 1, 384]
def k0_off53 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1370 : Index := Scalar.indexCast arg18
  let c2_719 : Index := 2#32
  let c384_720 : Index := 384#32
  ![v1370.toNat, 2, 384]
def k0_off54 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1390 : Index := Scalar.indexCast arg18
  let c3_727 : Index := 3#32
  let c384_728 : Index := 384#32
  ![v1390.toNat, 3, 384]
def k0_off55 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1410 : Index := Scalar.indexCast arg18
  let c4_735 : Index := 4#32
  let c384_736 : Index := 384#32
  ![v1410.toNat, 4, 384]
def k0_off56 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1430 : Index := Scalar.indexCast arg18
  let c5_743 : Index := 5#32
  let c384_744 : Index := 384#32
  ![v1430.toNat, 5, 384]
def k0_off57 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1450 : Index := Scalar.indexCast arg18
  let c6_751 : Index := 6#32
  let c384_752 : Index := 384#32
  ![v1450.toNat, 6, 384]
def k0_off58 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1470 : Index := Scalar.indexCast arg18
  let c7_759 : Index := 7#32
  let c384_760 : Index := 384#32
  ![v1470.toNat, 7, 384]
def k0_off59 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1490 : Index := Scalar.indexCast arg18
  let c8_767 : Index := 8#32
  let c384_768 : Index := 384#32
  ![v1490.toNat, 8, 384]
def k0_off60 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1510 : Index := Scalar.indexCast arg18
  let c9_775 : Index := 9#32
  let c384_776 : Index := 384#32
  ![v1510.toNat, 9, 384]
def k0_off61 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1530 : Index := Scalar.indexCast arg18
  let c10_783 : Index := 10#32
  let c384_784 : Index := 384#32
  ![v1530.toNat, 10, 384]
def k0_off62 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1550 : Index := Scalar.indexCast arg18
  let c11_791 : Index := 11#32
  let c384_792 : Index := 384#32
  ![v1550.toNat, 11, 384]
def k0_off63 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1570 : Index := Scalar.indexCast arg18
  let c12_799 : Index := 12#32
  let c384_800 : Index := 384#32
  ![v1570.toNat, 12, 384]
def k0_off64 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1590 : Index := Scalar.indexCast arg18
  let c13_807 : Index := 13#32
  let c384_808 : Index := 384#32
  ![v1590.toNat, 13, 384]
def k0_off65 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1610 : Index := Scalar.indexCast arg18
  let c14_815 : Index := 14#32
  let c384_816 : Index := 384#32
  ![v1610.toNat, 14, 384]
def k0_off66 (k0_t1 : Fin k0_t1_loop.trips) : Fin 3 → Nat :=
  let c0_i32 : BitVec 32 := 0#32
  let c1_i32 : BitVec 32 := 1#32
  let arg18 : BitVec 32 := Scf.iv c0_i32 c1_i32 k0_t1
  let v1630 : Index := Scalar.indexCast arg18
  let c15_823 : Index := 15#32
  let c384_824 : Index := 384#32
  ![v1630.toNat, 15, 384]
@[reducible] def k0_t2_loop : Scf.Loop 32 :=
  let c0_i32_39 : BitVec 32 := 0#32
  let c8_i32 : BitVec 32 := 8#32
  let v61 : BitVec 32 := Scalar.addi c0_i32_39 c8_i32
  let c1_i32_40 : BitVec 32 := 1#32
  ⟨c0_i32_39, v61, c1_i32_40⟩
def k0_off67 (k0_t2 : Fin k0_t2_loop.trips) : Fin 3 → Nat :=
  let c2_i32 : BitVec 32 := 2#32
  let c0_i32_39 : BitVec 32 := 0#32
  let c1_i32_40 : BitVec 32 := 1#32
  let arg18 : BitVec 32 := Scf.iv c0_i32_39 c1_i32_40 k0_t2
  let v362 : BitVec 32 := Scalar.muli c2_i32 arg18
  let v363 : Index := Scalar.indexCast v362
  let c0_323 : Index := 0#32
  let c0_324 : Index := 0#32
  ![v363.toNat, 0, 0]
def k0_off68 (k0_t2 : Fin k0_t2_loop.trips) : Fin 3 → Nat :=
  let c2_i32_325 : BitVec 32 := 2#32
  let c0_i32_39 : BitVec 32 := 0#32
  let c1_i32_40 : BitVec 32 := 1#32
  let arg18 : BitVec 32 := Scf.iv c0_i32_39 c1_i32_40 k0_t2
  let v366 : BitVec 32 := Scalar.muli c2_i32_325 arg18
  let c1_i32_326 : BitVec 32 := 1#32
  let v367 : BitVec 32 := Scalar.addi v366 c1_i32_326
  let v368 : Index := Scalar.indexCast v367
  let c0_327 : Index := 0#32
  let c0_328 : Index := 0#32
  ![v368.toNat, 0, 0]
def k0_off69 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v639 : Index := Scalar.indexCast arg18
  let c0_392 : Index := 0#32
  let c0_393 : Index := 0#32
  ![v639.toNat, 0, 0]
def k0_off70 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v780 : Index := Scalar.indexCast arg18
  let c1_429 : Index := 1#32
  let c0_430 : Index := 0#32
  ![v780.toNat, 1, 0]
def k0_off71 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v921 : Index := Scalar.indexCast arg18
  let c2_466 : Index := 2#32
  let c0_467 : Index := 0#32
  ![v921.toNat, 2, 0]
def k0_off72 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1062 : Index := Scalar.indexCast arg18
  let c3_503 : Index := 3#32
  let c0_504 : Index := 0#32
  ![v1062.toNat, 3, 0]
def k0_off73 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1203 : Index := Scalar.indexCast arg18
  let c4_540 : Index := 4#32
  let c0_541 : Index := 0#32
  ![v1203.toNat, 4, 0]
def k0_off74 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1344 : Index := Scalar.indexCast arg18
  let c5_577 : Index := 5#32
  let c0_578 : Index := 0#32
  ![v1344.toNat, 5, 0]
def k0_off75 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1485 : Index := Scalar.indexCast arg18
  let c6_614 : Index := 6#32
  let c0_615 : Index := 0#32
  ![v1485.toNat, 6, 0]
def k0_off76 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1626 : Index := Scalar.indexCast arg18
  let c7_651 : Index := 7#32
  let c0_652 : Index := 0#32
  ![v1626.toNat, 7, 0]
def k0_off77 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1767 : Index := Scalar.indexCast arg18
  let c8 : Index := 8#32
  let c0_688 : Index := 0#32
  ![v1767.toNat, 8, 0]
def k0_off78 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v1908 : Index := Scalar.indexCast arg18
  let c9 : Index := 9#32
  let c0_724 : Index := 0#32
  ![v1908.toNat, 9, 0]
def k0_off79 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2049 : Index := Scalar.indexCast arg18
  let c10 : Index := 10#32
  let c0_760 : Index := 0#32
  ![v2049.toNat, 10, 0]
def k0_off80 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2190 : Index := Scalar.indexCast arg18
  let c11 : Index := 11#32
  let c0_796 : Index := 0#32
  ![v2190.toNat, 11, 0]
def k0_off81 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2331 : Index := Scalar.indexCast arg18
  let c12 : Index := 12#32
  let c0_832 : Index := 0#32
  ![v2331.toNat, 12, 0]
def k0_off82 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2472 : Index := Scalar.indexCast arg18
  let c13 : Index := 13#32
  let c0_868 : Index := 0#32
  ![v2472.toNat, 13, 0]
def k0_off83 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2613 : Index := Scalar.indexCast arg18
  let c14 : Index := 14#32
  let c0_904 : Index := 0#32
  ![v2613.toNat, 14, 0]
def k0_off84 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v2754 : Index := Scalar.indexCast arg18
  let c15 : Index := 15#32
  let c0_940 : Index := 0#32
  ![v2754.toNat, 15, 0]
def k0_off85 (k0_t2 : Fin k0_t2_loop.trips) : Fin 3 → Nat :=
  let c2_i32_943 : BitVec 32 := 2#32
  let c0_i32_39 : BitVec 32 := 0#32
  let c1_i32_40 : BitVec 32 := 1#32
  let arg18 : BitVec 32 := Scf.iv c0_i32_39 c1_i32_40 k0_t2
  let v2762 : BitVec 32 := Scalar.muli c2_i32_943 arg18
  let v2763 : Index := Scalar.indexCast v2762
  let c0_944 : Index := 0#32
  let c128_945 : Index := 128#32
  ![v2763.toNat, 0, 128]
def k0_off86 (k0_t2 : Fin k0_t2_loop.trips) : Fin 3 → Nat :=
  let c2_i32_946 : BitVec 32 := 2#32
  let c0_i32_39 : BitVec 32 := 0#32
  let c1_i32_40 : BitVec 32 := 1#32
  let arg18 : BitVec 32 := Scf.iv c0_i32_39 c1_i32_40 k0_t2
  let v2766 : BitVec 32 := Scalar.muli c2_i32_946 arg18
  let c1_i32_947 : BitVec 32 := 1#32
  let v2767 : BitVec 32 := Scalar.addi v2766 c1_i32_947
  let v2768 : Index := Scalar.indexCast v2767
  let c0_948 : Index := 0#32
  let c128_949 : Index := 128#32
  ![v2768.toNat, 0, 128]
def k0_off87 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3039 : Index := Scalar.indexCast arg18
  let c0_1013 : Index := 0#32
  let c128_1014 : Index := 128#32
  ![v3039.toNat, 0, 128]
def k0_off88 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3180 : Index := Scalar.indexCast arg18
  let c1_1050 : Index := 1#32
  let c128_1051 : Index := 128#32
  ![v3180.toNat, 1, 128]
def k0_off89 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3321 : Index := Scalar.indexCast arg18
  let c2_1087 : Index := 2#32
  let c128_1088 : Index := 128#32
  ![v3321.toNat, 2, 128]
def k0_off90 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3462 : Index := Scalar.indexCast arg18
  let c3_1124 : Index := 3#32
  let c128_1125 : Index := 128#32
  ![v3462.toNat, 3, 128]
def k0_off91 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3603 : Index := Scalar.indexCast arg18
  let c4_1161 : Index := 4#32
  let c128_1162 : Index := 128#32
  ![v3603.toNat, 4, 128]
def k0_off92 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3744 : Index := Scalar.indexCast arg18
  let c5_1198 : Index := 5#32
  let c128_1199 : Index := 128#32
  ![v3744.toNat, 5, 128]
def k0_off93 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v3885 : Index := Scalar.indexCast arg18
  let c6_1235 : Index := 6#32
  let c128_1236 : Index := 128#32
  ![v3885.toNat, 6, 128]
def k0_off94 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4026 : Index := Scalar.indexCast arg18
  let c7_1272 : Index := 7#32
  let c128_1273 : Index := 128#32
  ![v4026.toNat, 7, 128]
def k0_off95 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4167 : Index := Scalar.indexCast arg18
  let c8_1309 : Index := 8#32
  let c128_1310 : Index := 128#32
  ![v4167.toNat, 8, 128]
def k0_off96 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4308 : Index := Scalar.indexCast arg18
  let c9_1346 : Index := 9#32
  let c128_1347 : Index := 128#32
  ![v4308.toNat, 9, 128]
def k0_off97 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4449 : Index := Scalar.indexCast arg18
  let c10_1383 : Index := 10#32
  let c128_1384 : Index := 128#32
  ![v4449.toNat, 10, 128]
def k0_off98 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4590 : Index := Scalar.indexCast arg18
  let c11_1420 : Index := 11#32
  let c128_1421 : Index := 128#32
  ![v4590.toNat, 11, 128]
def k0_off99 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4731 : Index := Scalar.indexCast arg18
  let c12_1457 : Index := 12#32
  let c128_1458 : Index := 128#32
  ![v4731.toNat, 12, 128]
def k0_off100 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v4872 : Index := Scalar.indexCast arg18
  let c13_1494 : Index := 13#32
  let c128_1495 : Index := 128#32
  ![v4872.toNat, 13, 128]
def k0_off101 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5013 : Index := Scalar.indexCast arg18
  let c14_1531 : Index := 14#32
  let c128_1532 : Index := 128#32
  ![v5013.toNat, 14, 128]
def k0_off102 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5154 : Index := Scalar.indexCast arg18
  let c15_1568 : Index := 15#32
  let c128_1569 : Index := 128#32
  ![v5154.toNat, 15, 128]
def k0_off103 (k0_t2 : Fin k0_t2_loop.trips) : Fin 3 → Nat :=
  let c2_i32_1572 : BitVec 32 := 2#32
  let c0_i32_39 : BitVec 32 := 0#32
  let c1_i32_40 : BitVec 32 := 1#32
  let arg18 : BitVec 32 := Scf.iv c0_i32_39 c1_i32_40 k0_t2
  let v5162 : BitVec 32 := Scalar.muli c2_i32_1572 arg18
  let v5163 : Index := Scalar.indexCast v5162
  let c0_1573 : Index := 0#32
  let c256_1574 : Index := 256#32
  ![v5163.toNat, 0, 256]
def k0_off104 (k0_t2 : Fin k0_t2_loop.trips) : Fin 3 → Nat :=
  let c2_i32_1575 : BitVec 32 := 2#32
  let c0_i32_39 : BitVec 32 := 0#32
  let c1_i32_40 : BitVec 32 := 1#32
  let arg18 : BitVec 32 := Scf.iv c0_i32_39 c1_i32_40 k0_t2
  let v5166 : BitVec 32 := Scalar.muli c2_i32_1575 arg18
  let c1_i32_1576 : BitVec 32 := 1#32
  let v5167 : BitVec 32 := Scalar.addi v5166 c1_i32_1576
  let v5168 : Index := Scalar.indexCast v5167
  let c0_1577 : Index := 0#32
  let c256_1578 : Index := 256#32
  ![v5168.toNat, 0, 256]
def k0_off105 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5439 : Index := Scalar.indexCast arg18
  let c0_1642 : Index := 0#32
  let c256_1643 : Index := 256#32
  ![v5439.toNat, 0, 256]
def k0_off106 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5580 : Index := Scalar.indexCast arg18
  let c1_1679 : Index := 1#32
  let c256_1680 : Index := 256#32
  ![v5580.toNat, 1, 256]
def k0_off107 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5721 : Index := Scalar.indexCast arg18
  let c2_1716 : Index := 2#32
  let c256_1717 : Index := 256#32
  ![v5721.toNat, 2, 256]
def k0_off108 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v5862 : Index := Scalar.indexCast arg18
  let c3_1753 : Index := 3#32
  let c256_1754 : Index := 256#32
  ![v5862.toNat, 3, 256]
def k0_off109 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6003 : Index := Scalar.indexCast arg18
  let c4_1790 : Index := 4#32
  let c256_1791 : Index := 256#32
  ![v6003.toNat, 4, 256]
def k0_off110 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6144 : Index := Scalar.indexCast arg18
  let c5_1827 : Index := 5#32
  let c256_1828 : Index := 256#32
  ![v6144.toNat, 5, 256]
def k0_off111 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6285 : Index := Scalar.indexCast arg18
  let c6_1864 : Index := 6#32
  let c256_1865 : Index := 256#32
  ![v6285.toNat, 6, 256]
def k0_off112 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6426 : Index := Scalar.indexCast arg18
  let c7_1901 : Index := 7#32
  let c256_1902 : Index := 256#32
  ![v6426.toNat, 7, 256]
def k0_off113 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6567 : Index := Scalar.indexCast arg18
  let c8_1938 : Index := 8#32
  let c256_1939 : Index := 256#32
  ![v6567.toNat, 8, 256]
def k0_off114 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6708 : Index := Scalar.indexCast arg18
  let c9_1975 : Index := 9#32
  let c256_1976 : Index := 256#32
  ![v6708.toNat, 9, 256]
def k0_off115 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6849 : Index := Scalar.indexCast arg18
  let c10_2012 : Index := 10#32
  let c256_2013 : Index := 256#32
  ![v6849.toNat, 10, 256]
def k0_off116 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v6990 : Index := Scalar.indexCast arg18
  let c11_2049 : Index := 11#32
  let c256_2050 : Index := 256#32
  ![v6990.toNat, 11, 256]
def k0_off117 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7131 : Index := Scalar.indexCast arg18
  let c12_2086 : Index := 12#32
  let c256_2087 : Index := 256#32
  ![v7131.toNat, 12, 256]
def k0_off118 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7272 : Index := Scalar.indexCast arg18
  let c13_2123 : Index := 13#32
  let c256_2124 : Index := 256#32
  ![v7272.toNat, 13, 256]
def k0_off119 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7413 : Index := Scalar.indexCast arg18
  let c14_2160 : Index := 14#32
  let c256_2161 : Index := 256#32
  ![v7413.toNat, 14, 256]
def k0_off120 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7554 : Index := Scalar.indexCast arg18
  let c15_2197 : Index := 15#32
  let c256_2198 : Index := 256#32
  ![v7554.toNat, 15, 256]
def k0_off121 (k0_t2 : Fin k0_t2_loop.trips) : Fin 3 → Nat :=
  let c2_i32_2201 : BitVec 32 := 2#32
  let c0_i32_39 : BitVec 32 := 0#32
  let c1_i32_40 : BitVec 32 := 1#32
  let arg18 : BitVec 32 := Scf.iv c0_i32_39 c1_i32_40 k0_t2
  let v7562 : BitVec 32 := Scalar.muli c2_i32_2201 arg18
  let v7563 : Index := Scalar.indexCast v7562
  let c0_2202 : Index := 0#32
  let c384_2203 : Index := 384#32
  ![v7563.toNat, 0, 384]
def k0_off122 (k0_t2 : Fin k0_t2_loop.trips) : Fin 3 → Nat :=
  let c2_i32_2204 : BitVec 32 := 2#32
  let c0_i32_39 : BitVec 32 := 0#32
  let c1_i32_40 : BitVec 32 := 1#32
  let arg18 : BitVec 32 := Scf.iv c0_i32_39 c1_i32_40 k0_t2
  let v7566 : BitVec 32 := Scalar.muli c2_i32_2204 arg18
  let c1_i32_2205 : BitVec 32 := 1#32
  let v7567 : BitVec 32 := Scalar.addi v7566 c1_i32_2205
  let v7568 : Index := Scalar.indexCast v7567
  let c0_2206 : Index := 0#32
  let c384_2207 : Index := 384#32
  ![v7568.toNat, 0, 384]
def k0_off123 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7839 : Index := Scalar.indexCast arg18
  let c0_2271 : Index := 0#32
  let c384_2272 : Index := 384#32
  ![v7839.toNat, 0, 384]
def k0_off124 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v7980 : Index := Scalar.indexCast arg18
  let c1_2308 : Index := 1#32
  let c384_2309 : Index := 384#32
  ![v7980.toNat, 1, 384]
def k0_off125 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8121 : Index := Scalar.indexCast arg18
  let c2_2345 : Index := 2#32
  let c384_2346 : Index := 384#32
  ![v8121.toNat, 2, 384]
def k0_off126 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8262 : Index := Scalar.indexCast arg18
  let c3_2382 : Index := 3#32
  let c384_2383 : Index := 384#32
  ![v8262.toNat, 3, 384]
def k0_off127 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8403 : Index := Scalar.indexCast arg18
  let c4_2419 : Index := 4#32
  let c384_2420 : Index := 384#32
  ![v8403.toNat, 4, 384]
def k0_off128 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8544 : Index := Scalar.indexCast arg18
  let c5_2456 : Index := 5#32
  let c384_2457 : Index := 384#32
  ![v8544.toNat, 5, 384]
def k0_off129 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8685 : Index := Scalar.indexCast arg18
  let c6_2493 : Index := 6#32
  let c384_2494 : Index := 384#32
  ![v8685.toNat, 6, 384]
def k0_off130 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8826 : Index := Scalar.indexCast arg18
  let c7_2530 : Index := 7#32
  let c384_2531 : Index := 384#32
  ![v8826.toNat, 7, 384]
def k0_off131 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v8967 : Index := Scalar.indexCast arg18
  let c8_2567 : Index := 8#32
  let c384_2568 : Index := 384#32
  ![v8967.toNat, 8, 384]
def k0_off132 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9108 : Index := Scalar.indexCast arg18
  let c9_2604 : Index := 9#32
  let c384_2605 : Index := 384#32
  ![v9108.toNat, 9, 384]
def k0_off133 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9249 : Index := Scalar.indexCast arg18
  let c10_2641 : Index := 10#32
  let c384_2642 : Index := 384#32
  ![v9249.toNat, 10, 384]
def k0_off134 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9390 : Index := Scalar.indexCast arg18
  let c11_2678 : Index := 11#32
  let c384_2679 : Index := 384#32
  ![v9390.toNat, 11, 384]
def k0_off135 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9531 : Index := Scalar.indexCast arg18
  let c12_2715 : Index := 12#32
  let c384_2716 : Index := 384#32
  ![v9531.toNat, 12, 384]
def k0_off136 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9672 : Index := Scalar.indexCast arg18
  let c13_2752 : Index := 13#32
  let c384_2753 : Index := 384#32
  ![v9672.toNat, 13, 384]
def k0_off137 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9813 : Index := Scalar.indexCast arg18
  let c14_2789 : Index := 14#32
  let c384_2790 : Index := 384#32
  ![v9813.toNat, 14, 384]
def k0_off138 (k0_t2 : Fin k0_t2_loop.trips) : Fin 3 → Nat :=
  let c0_i32_39 : BitVec 32 := 0#32
  let c1_i32_40 : BitVec 32 := 1#32
  let arg18 : BitVec 32 := Scf.iv c0_i32_39 c1_i32_40 k0_t2
  let v9954 : Index := Scalar.indexCast arg18
  let c15_2826 : Index := 15#32
  let c384_2827 : Index := 384#32
  ![v9954.toNat, 15, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RouteReferenceIdeal.lean ====
abbrev S16384x1024 : Shape := ⟨2, ![16384, 1024]⟩
abbrev S8x6x1024 : Shape := ⟨3, ![8, 6, 1024]⟩
abbrev S1024x1024 : Shape := ⟨2, ![1024, 1024]⟩
abbrev S1024 : Shape := ⟨1, ![1024]⟩
abbrev S1024x2048 : Shape := ⟨2, ![1024, 2048]⟩
abbrev S8x2x128x128 : Shape := ⟨4, ![8, 2, 128, 128]⟩
abbrev S8192x1024 : Shape := ⟨2, ![8192, 1024]⟩
abbrev S32x256x1024 : Shape := ⟨3, ![32, 256, 1024]⟩
abbrev S1x1x1024 : Shape := ⟨3, ![1, 1, 1024]⟩
abbrev S2x4096x1024 : Shape := ⟨3, ![2, 4096, 1024]⟩
abbrev S2x1x1024 : Shape := ⟨3, ![2, 1, 1024]⟩
abbrev S2x1024 : Shape := ⟨2, ![2, 1024]⟩
abbrev S_ : Shape := ⟨0, ![]⟩
abbrev S32x256 : Shape := ⟨2, ![32, 256]⟩
abbrev S32x256x1 : Shape := ⟨3, ![32, 256, 1]⟩
abbrev S2x4096 : Shape := ⟨2, ![2, 4096]⟩
abbrev S2x4096x1 : Shape := ⟨3, ![2, 4096, 1]⟩

abbrev nBuf : Space → Nat
  | .hbm => 94
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S8x6x1024, .f32⟩
  | .hbm, ⟨3, _⟩ => ⟨S1024x1024, .f32⟩
  | .hbm, ⟨4, _⟩ => ⟨S1024, .f32⟩
  | .hbm, ⟨5, _⟩ => ⟨S1024x2048, .f32⟩
  | .hbm, ⟨6, _⟩ => ⟨S8x2x128x128, .f32⟩
  | .hbm, ⟨7, _⟩ => ⟨S16384x1024, .f32⟩
  | .hbm, ⟨8, _⟩ => ⟨S16384x1024, .f32⟩
  | .hbm, ⟨9, _⟩ => ⟨S8192x1024, .f32⟩
  | .hbm, ⟨10, _⟩ => ⟨S32x256x1024, .f32⟩
  | .hbm, ⟨11, _⟩ => ⟨S1x1x1024, .f32⟩
  | .hbm, ⟨12, _⟩ => ⟨S1024, .f32⟩
  | .hbm, ⟨13, _⟩ => ⟨S8192x1024, .f32⟩
  | .hbm, ⟨14, _⟩ => ⟨S32x256x1024, .f32⟩
  | .hbm, ⟨15, _⟩ => ⟨S1x1x1024, .f32⟩
  | .hbm, ⟨16, _⟩ => ⟨S32x256x1024, .f32⟩
  | .hbm, ⟨17, _⟩ => ⟨S32x256x1024, .f32⟩
  | .hbm, ⟨18, _⟩ => ⟨S32x256x1024, .f32⟩
  | .hbm, ⟨19, _⟩ => ⟨S8192x1024, .f32⟩
  | .hbm, ⟨20, _⟩ => ⟨S2x4096x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S8192x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S32x256x1024, .f32⟩
  | .hbm, ⟨30, _⟩ => ⟨S_, .f32⟩
  | .hbm, ⟨31, _⟩ => ⟨S32x256, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S32x256x1, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1x1x1024, .f32⟩
  | .hbm, ⟨51, _⟩ => ⟨S32x256x1024, .f32⟩
  | .hbm, ⟨52, _⟩ => ⟨S32x256x1024, .f32⟩
  | .hbm, ⟨53, _⟩ => ⟨S1x1x1024, .f32⟩
  | .hbm, ⟨54, _⟩ => ⟨S1024, .f32⟩
  | .hbm, ⟨55, _⟩ => ⟨S1x1x1024, .f32⟩
  | .hbm, ⟨56, _⟩ => ⟨S32x256x1024, .f32⟩
  | .hbm, ⟨57, _⟩ => ⟨S32x256x1024, .f32⟩
  | .hbm, ⟨58, _⟩ => ⟨S2x4096x1024, .f32⟩
  | .hbm, ⟨59, _⟩ => ⟨S_, .f32⟩
  | .hbm, ⟨60, _⟩ => ⟨S2x4096, .f32⟩
  | .hbm, ⟨61, _⟩ => ⟨S2x4096x1, .f32⟩
  | .hbm, ⟨62, _⟩ => ⟨S_, .f32⟩
  | .hbm, ⟨63, _⟩ => ⟨S2x4096x1, .f32⟩
  | .hbm, ⟨64, _⟩ => ⟨S2x4096x1, .f32⟩
  | .hbm, ⟨65, _⟩ => ⟨S_, .f32⟩
  | .hbm, ⟨66, _⟩ => ⟨S2x4096x1, .f32⟩
  | .hbm, ⟨67, _⟩ => ⟨S2x4096x1, .f32⟩
  | .hbm, ⟨68, _⟩ => ⟨S2x4096x1, .f32⟩
  | .hbm, ⟨69, _⟩ => ⟨S2x4096x1024, .f32⟩
  | .hbm, ⟨70, _⟩ => ⟨S2x4096x1024, .f32⟩
  | .hbm, ⟨71, _⟩ => ⟨S1x1x1024, .f32⟩
  | .hbm, ⟨72, _⟩ => ⟨S2x4096x1024, .f32⟩
  | .hbm, ⟨73, _⟩ => ⟨S2x4096x1024, .f32⟩
  | .hbm, ⟨74, _⟩ => ⟨S2x1x1024, .f32⟩
  | .hbm, ⟨75, _⟩ => ⟨S2x1024, .f32⟩
  | .hbm, ⟨76, _⟩ => ⟨S2x1x1024, .f32⟩
  | .hbm, ⟨77, _⟩ => ⟨S_, .f32⟩
  | .hbm, ⟨78, _⟩ => ⟨S2x1x1024, .f32⟩
  | .hbm, ⟨79, _⟩ => ⟨S2x1x1024, .f32⟩
  | .hbm, ⟨80, _⟩ => ⟨S2x4096x1024, .f32⟩
  | .hbm, ⟨81, _⟩ => ⟨S2x4096x1024, .f32⟩
  | .hbm, ⟨82, _⟩ => ⟨S2x1x1024, .f32⟩
  | .hbm, ⟨83, _⟩ => ⟨S2x1024, .f32⟩
  | .hbm, ⟨84, _⟩ => ⟨S2x1x1024, .f32⟩
  | .hbm, ⟨85, _⟩ => ⟨S2x4096x1024, .f32⟩
  | .hbm, ⟨86, _⟩ => ⟨S2x4096x1024, .f32⟩
  | .hbm, ⟨87, _⟩ => ⟨S8192x1024, .f32⟩
  | .hbm, ⟨88, _⟩ => ⟨S8192x1024, .f32⟩
  | .hbm, ⟨89, _⟩ => ⟨S16384x1024, .f32⟩
  | .hbm, ⟨90, _⟩ => ⟨S8192x1024, .f32⟩
  | .hbm, ⟨91, _⟩ => ⟨S8192x1024, .f32⟩
  | .hbm, ⟨92, _⟩ => ⟨S16384x1024, .f32⟩
  | .hbm, ⟨93, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩

abbrev nD : Nat := 1
abbrev τ : Topo := Topo.v7x

variable {F : FTy → Type} [FloatOps F]
-- ==== ContextAttention.lean ====
abbrev S8192x3072 : Shape := ⟨2, ![8192, 3072]⟩
abbrev S1x4x64 : Shape := ⟨3, ![1, 4, 64]⟩
abbrev S1x128 : Shape := ⟨2, ![1, 128]⟩
abbrev S2x128 : Shape := ⟨2, ![2, 128]⟩
abbrev S4x64 : Shape := ⟨2, ![4, 64]⟩
abbrev S128 : Shape := ⟨1, ![128]⟩
abbrev S8192x1024 : Shape := ⟨2, ![8192, 1024]⟩
abbrev S256x3072 : Shape := ⟨2, ![256, 3072]⟩
abbrev S256x1024 : Shape := ⟨2, ![256, 1024]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S1x4x64, .f32⟩
  | .hbm, ⟨2, _⟩ => ⟨S1x128, .f32⟩
  | .hbm, ⟨3, _⟩ => ⟨S2x128, .bf16⟩
  | .hbm, ⟨4, _⟩ => ⟨S4x64, .f32⟩
  | .hbm, ⟨5, _⟩ => ⟨S128, .f32⟩
  | .hbm, ⟨6, _⟩ => ⟨S1x128, .f32⟩
  | .hbm, ⟨7, _⟩ => ⟨S8192x1024, .bf16⟩
  | .local _ .vmem, ⟨0, _⟩ => ⟨S256x3072, .bf16⟩
  | .local _ .vmem, ⟨1, _⟩ => ⟨S256x3072, .bf16⟩
  | .local _ .vmem, ⟨2, _⟩ => ⟨S2x128, .bf16⟩
  | .local _ .vmem, ⟨3, _⟩ => ⟨S4x64, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ContextAttentionReferenceIdeal.lean ====
abbrev S8192x3072 : Shape := ⟨2, ![8192, 3072]⟩
abbrev S1x4x64 : Shape := ⟨3, ![1, 4, 64]⟩
abbrev S1x128 : Shape := ⟨2, ![1, 128]⟩
abbrev S32x256x3072 : Shape := ⟨3, ![32, 256, 3072]⟩
abbrev S32x256x1024 : Shape := ⟨3, ![32, 256, 1024]⟩
abbrev S32x256x8x2x64 : Shape := ⟨5, ![32, 256, 8, 2, 64]⟩
abbrev S32x256x8x128 : Shape := ⟨4, ![32, 256, 8, 128]⟩
abbrev S4x64 : Shape := ⟨2, ![4, 64]⟩
abbrev S1x64 : Shape := ⟨2, ![1, 64]⟩
abbrev S64 : Shape := ⟨1, ![64]⟩
abbrev S_ : Shape := ⟨0, ![]⟩
abbrev S32x256x8x1x64 : Shape := ⟨5, ![32, 256, 8, 1, 64]⟩
abbrev S32x256x8x64 : Shape := ⟨4, ![32, 256, 8, 64]⟩
abbrev S32x8x256x256 : Shape := ⟨4, ![32, 8, 256, 256]⟩
abbrev S32x8x256 : Shape := ⟨3, ![32, 8, 256]⟩
abbrev S32x8x256x1 : Shape := ⟨4, ![32, 8, 256, 1]⟩
abbrev S32x8x128x256 : Shape := ⟨4, ![32, 8, 128, 256]⟩
abbrev S128 : Shape := ⟨1, ![128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S8192x1024 : Shape := ⟨2, ![8192, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1x4x64, .f32⟩
  | .hbm, ⟨2, _⟩ => ⟨S1x128, .f32⟩
  | .hbm, ⟨3, _⟩ => ⟨S8192x3072, .f32⟩
  | .hbm, ⟨4, _⟩ => ⟨S32x256x3072, .f32⟩
  | .hbm, ⟨5, _⟩ => ⟨S32x256x1024, .f32⟩
  | .hbm, ⟨6, _⟩ => ⟨S32x256x1024, .f32⟩
  | .hbm, ⟨7, _⟩ => ⟨S32x256x1024, .f32⟩
  | .hbm, ⟨8, _⟩ => ⟨S32x256x8x2x64, .f32⟩
  | .hbm, ⟨9, _⟩ => ⟨S32x256x8x2x64, .f32⟩
  | .hbm, ⟨10, _⟩ => ⟨S32x256x8x128, .f32⟩
  | .hbm, ⟨11, _⟩ => ⟨S4x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x256x8x1x64, .f32⟩
  | .hbm, ⟨32, _⟩ => ⟨S32x256x8x64, .f32⟩
  | .hbm, ⟨33, _⟩ => ⟨S32x256x8x1x64, .f32⟩
  | .hbm, ⟨34, _⟩ => ⟨S32x256x8x64, .f32⟩
  | .hbm, ⟨35, _⟩ => ⟨S32x8x256x256, .f32⟩
  | .hbm, ⟨36, _⟩ => ⟨S_, .f32⟩
  | .hbm, ⟨37, _⟩ => ⟨S32x8x256, .f32⟩
  | .hbm, ⟨38, _⟩ => ⟨S_, .f32⟩
  | .hbm, ⟨39, _⟩ => ⟨S32x8x256, .f32⟩
  | .hbm, ⟨40, _⟩ => ⟨S32x8x256, .f32⟩
  | .hbm, ⟨41, _⟩ => ⟨S32x8x256x1, .f32⟩
  | .hbm, ⟨42, _⟩ => ⟨S32x8x256x256, .f32⟩
  | .hbm, ⟨43, _⟩ => ⟨S32x8x256x256, .f32⟩
  | .hbm, ⟨44, _⟩ => ⟨S32x8x256x256, .f32⟩
  | .hbm, ⟨45, _⟩ => ⟨S_, .f32⟩
  | .hbm, ⟨46, _⟩ => ⟨S32x8x256, .f32⟩
  | .hbm, ⟨47, _⟩ => ⟨S32x8x256x1, .f32⟩
  | .hbm, ⟨48, _⟩ => ⟨S32x8x256x256, .f32⟩
  | .hbm, ⟨49, _⟩ => ⟨S32x8x256x256, .f32⟩
  | .hbm, ⟨50, _⟩ => ⟨S32x8x128x256, .f32⟩
  | .hbm, ⟨51, _⟩ => ⟨S32x256x8x128, .f32⟩
  | .hbm, ⟨52, _⟩ => ⟨S32x256x8x1x64, .f32⟩
  | .hbm, ⟨53, _⟩ => ⟨S32x256x8x64, .f32⟩
  | .hbm, ⟨54, _⟩ => ⟨S32x256x8x1x64, .f32⟩
  | .hbm, ⟨55, _⟩ => ⟨S32x256x8x64, .f32⟩
  | .hbm, ⟨56, _⟩ => ⟨S32x8x256x256, .f32⟩
  | .hbm, ⟨57, _⟩ => ⟨S_, .f32⟩
  | .hbm, ⟨58, _⟩ => ⟨S32x8x256, .f32⟩
  | .hbm, ⟨59, _⟩ => ⟨S_, .f32⟩
  | .hbm, ⟨60, _⟩ => ⟨S32x8x256, .f32⟩
  | .hbm, ⟨61, _⟩ => ⟨S32x8x256, .f32⟩
  | .hbm, ⟨62, _⟩ => ⟨S32x8x256x1, .f32⟩
  | .hbm, ⟨63, _⟩ => ⟨S32x8x256x256, .f32⟩
  | .hbm, ⟨64, _⟩ => ⟨S32x8x256x256, .f32⟩
  | .hbm, ⟨65, _⟩ => ⟨S32x8x256x256, .f32⟩
  | .hbm, ⟨66, _⟩ => ⟨S_, .f32⟩
  | .hbm, ⟨67, _⟩ => ⟨S32x8x256, .f32⟩
  | .hbm, ⟨68, _⟩ => ⟨S32x8x256x1, .f32⟩
  | .hbm, ⟨69, _⟩ => ⟨S32x8x256x256, .f32⟩
  | .hbm, ⟨70, _⟩ => ⟨S32x8x256x256, .f32⟩
  | .hbm, ⟨71, _⟩ => ⟨S32x8x128x256, .f32⟩
  | .hbm, ⟨72, _⟩ => ⟨S32x256x8x128, .f32⟩
  | .hbm, ⟨73, _⟩ => ⟨S32x256x8x128, .f32⟩
  | .hbm, ⟨74, _⟩ => ⟨S32x256x8x128, .f32⟩
  | .hbm, ⟨75, _⟩ => ⟨S32x256x8x128, .f32⟩
  | .hbm, ⟨76, _⟩ => ⟨S128, .f32⟩
  | .hbm, ⟨77, _⟩ => ⟨S32x256x8x128, .f32⟩
  | .hbm, ⟨78, _⟩ => ⟨S_, .f32⟩
  | .hbm, ⟨79, _⟩ => ⟨S32x256x8, .f32⟩
  | .hbm, ⟨80, _⟩ => ⟨S32x256x8x1, .f32⟩
  | .hbm, ⟨81, _⟩ => ⟨S_, .f32⟩
  | .hbm, ⟨82, _⟩ => ⟨S32x256x8x1, .f32⟩
  | .hbm, ⟨83, _⟩ => ⟨S32x256x8x1, .f32⟩
  | .hbm, ⟨84, _⟩ => ⟨S_, .f32⟩
  | .hbm, ⟨85, _⟩ => ⟨S32x256x8x1, .f32⟩
  | .hbm, ⟨86, _⟩ => ⟨S32x256x8x1, .f32⟩
  | .hbm, ⟨87, _⟩ => ⟨S32x256x8x1, .f32⟩
  | .hbm, ⟨88, _⟩ => ⟨S32x256x8x128, .f32⟩
  | .hbm, ⟨89, _⟩ => ⟨S32x256x8x128, .f32⟩
  | .hbm, ⟨90, _⟩ => ⟨S1x1x1x128, .f32⟩
  | .hbm, ⟨91, _⟩ => ⟨S32x256x8x128, .f32⟩
  | .hbm, ⟨92, _⟩ => ⟨S32x256x8x128, .f32⟩
  | .hbm, ⟨93, _⟩ => ⟨S_, .f32⟩
  | .hbm, ⟨94, _⟩ => ⟨S32x256x8x128, .f32⟩
  | .hbm, ⟨95, _⟩ => ⟨S32x256x8x128, .f32⟩
  | .hbm, ⟨96, _⟩ => ⟨S8192x1024, .f32⟩
  | .hbm, ⟨97, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_7 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_8 : Ref sig .tc := ⟨.hbm, 78, rfl⟩
abbrev main_v66 : Ref sig .tc := ⟨.hbm, 79, rfl⟩
abbrev main_v67 : Ref sig .tc := ⟨.hbm, 80, rfl⟩
abbrev main_cst_9 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_11 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== PlainContextAttention.lean ====
abbrev S8192x3072 : Shape := ⟨2, ![8192, 3072]⟩
abbrev S2x128 : Shape := ⟨2, ![2, 128]⟩
abbrev S8192x1024 : Shape := ⟨2, ![8192, 1024]⟩
abbrev S256x3072 : Shape := ⟨2, ![256, 3072]⟩
abbrev S256x1024 : Shape := ⟨2, ![256, 1024]⟩
abbrev S256x128 : Shape := ⟨2, ![256, 128]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x3072, .bf16⟩
  | .hbm, ⟨1, _⟩ => ⟨S2x128, .bf16⟩
  | .hbm, ⟨2, _⟩ => ⟨S8192x1024, .bf16⟩
  | .local _ .vmem, ⟨0, _⟩ => ⟨S256x3072, .bf16⟩
  | .local _ .vmem, ⟨1, _⟩ => ⟨S256x3072, .bf16⟩
  | .local _ .vmem, ⟨2, _⟩ => ⟨S2x128, .bf16⟩
  | .local _ .vmem, ⟨3, _⟩ => ⟨S256x1024, .bf16⟩
  | .local _ .vmem, ⟨4, _⟩ => ⟨S256x1024, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PlainContextAttentionReferenceIdeal.lean ====
abbrev S8192x3072 : Shape := ⟨2, ![8192, 3072]⟩
abbrev S32x256x3072 : Shape := ⟨3, ![32, 256, 3072]⟩
abbrev S32x256x1024 : Shape := ⟨3, ![32, 256, 1024]⟩
abbrev S32x256x16x64 : Shape := ⟨4, ![32, 256, 16, 64]⟩
abbrev S32x16x256x256 : Shape := ⟨4, ![32, 16, 256, 256]⟩
abbrev S_ : Shape := ⟨0, ![]⟩
abbrev S32x16x256 : Shape := ⟨3, ![32, 16, 256]⟩
abbrev S32x16x256x1 : Shape := ⟨4, ![32, 16, 256, 1]⟩
abbrev S32x16x64x256 : Shape := ⟨4, ![32, 16, 64, 256]⟩
abbrev S8192x1024 : Shape := ⟨2, ![8192, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x3072, .f32⟩
  | .hbm, ⟨2, _⟩ => ⟨S32x256x3072, .f32⟩
  | .hbm, ⟨3, _⟩ => ⟨S32x256x1024, .f32⟩
  | .hbm, ⟨4, _⟩ => ⟨S32x256x1024, .f32⟩
  | .hbm, ⟨5, _⟩ => ⟨S32x256x1024, .f32⟩
  | .hbm, ⟨6, _⟩ => ⟨S32x256x16x64, .f32⟩
  | .hbm, ⟨7, _⟩ => ⟨S32x256x16x64, .f32⟩
  | .hbm, ⟨8, _⟩ => ⟨S32x256x16x64, .f32⟩
  | .hbm, ⟨9, _⟩ => ⟨S32x16x256x256, .f32⟩
  | .hbm, ⟨10, _⟩ => ⟨S_, .f32⟩
  | .hbm, ⟨11, _⟩ => ⟨S32x16x256, .f32⟩
  | .hbm, ⟨12, _⟩ => ⟨S_, .f32⟩
  | .hbm, ⟨13, _⟩ => ⟨S32x16x256, .f32⟩
  | .hbm, ⟨14, _⟩ => ⟨S32x16x256, .f32⟩
  | .hbm, ⟨15, _⟩ => ⟨S32x16x256x1, .f32⟩
  | .hbm, ⟨16, _⟩ => ⟨S32x16x256x256, .f32⟩
  | .hbm, ⟨17, _⟩ => ⟨S32x16x256x256, .f32⟩
  | .hbm, ⟨18, _⟩ => ⟨S32x16x256x256, .f32⟩
  | .hbm, ⟨19, _⟩ => ⟨S_, .f32⟩
  | .hbm, ⟨20, _⟩ => ⟨S32x16x256, .f32⟩
  | .hbm, ⟨21, _⟩ => ⟨S32x16x256x1, .f32⟩
  | .hbm, ⟨22, _⟩ => ⟨S32x16x256x256, .f32⟩
  | .hbm, ⟨23, _⟩ => ⟨S32x16x256x256, .f32⟩
  | .hbm, ⟨24, _⟩ => ⟨S32x16x64x256, .f32⟩
  | .hbm, ⟨25, _⟩ => ⟨S32x256x16x64, .f32⟩
  | .hbm, ⟨26, _⟩ => ⟨S8192x1024, .f32⟩
  | .hbm, ⟨27, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.Softmax.lean ====
/-
  A softmax-weighted sum computed block of keys by block of keys, over the extended reals. `Run n σ V m l a` says that
  after the first `n` keys the running maximum `m`, the running denominator `l` and the running weighted sum `a` belong
  to one another: either nothing was read yet, or `m` is some real `M`, `l` is `∑ exp (σ i - M)` and `a` is
  `∑ exp (σ i - M) * V i`. Which real `M` is does not matter: the quotient `a / l` is the same for every one. The scores
  `σ` are real, the values `V` are any extended reals.
-/
module

public import Idealize.ShloMosaic.PureOps.Ideal
public import Mathlib.Algebra.BigOperators.Intervals

@[expose] public section

noncomputable section

namespace Cert.Softmax

open Idealize.ShloMosaic Finset

/-- A finite sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a finite sum of extended reals. -/
theorem mul_sum_coe {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The maximum of a nonempty finite family of reals, taken from `⊥`, is real. -/
theorem fold_max_coe {b : ℕ} (hb : 0 < b) (s : Fin b → EReal) (σ : Fin b → ℝ) (h : ∀ j, s j = (σ j : EReal)) :
    ∃ M : ℝ, (Finset.univ.fold max ⊥ s) = (M : EReal) := by
  have key : ∀ t : Finset (Fin b), t.Nonempty → ∃ M : ℝ, t.fold max ⊥ s = (M : EReal) := by
    intro t ht
    induction ht using Finset.Nonempty.cons_induction with
    | singleton a => exact ⟨σ a, by simp [h a]⟩
    | cons a t ha ht ih =>
      obtain ⟨M, hM⟩ := ih
      exact ⟨max (σ a) M, by rw [Finset.fold_cons, hM, h a]; exact (EReal.coe_strictMono.monotone.map_max).symm⟩
  exact key _ ⟨⟨0, hb⟩, Finset.mem_univ _⟩

/-- The running maximum, denominator and weighted sum after the first `n` keys. -/
def Run (n : ℕ) (σ : ℕ → ℝ) (V : ℕ → EReal) (m l a : EReal) : Prop :=
  (n = 0 ∧ m = ⊥ ∧ l = 0 ∧ a = 0)
  ∨ ∃ M : ℝ, m = (M : EReal) ∧ 0 < n ∧ l = ((∑ i ∈ range n, Real.exp (σ i - M) : ℝ) : EReal)
      ∧ a = ∑ i ∈ range n, ((Real.exp (σ i - M) : ℝ) : EReal) * V i

theorem Run.zero (σ : ℕ → ℝ) (V : ℕ → EReal) : Run 0 σ V ⊥ 0 0 := .inl ⟨rfl, rfl, rfl, rfl⟩

/-- One block of `b` keys, read from key `n` on: the maximum moves to `m'`, the old sums are scaled by `exp (m - m')`,
    and the block's own terms are added. -/
theorem Run.step {n b : ℕ} (hb : 0 < b) {σ : ℕ → ℝ} {V : ℕ → EReal} {m l a : EReal} (h : Run n σ V m l a)
    (s v : Fin b → EReal) (hs : ∀ j : Fin b, s j = (σ (n + j) : EReal)) (hv : ∀ j : Fin b, v j = V (n + j)) :
    Run (n + b) σ V (max m (Finset.univ.fold max ⊥ s))
      (Ideal.exp (m - max m (Finset.univ.fold max ⊥ s)) * l
        + ∑ j, Ideal.exp (s j - max m (Finset.univ.fold max ⊥ s)))
      (Ideal.exp (m - max m (Finset.univ.fold max ⊥ s)) * a
        + ∑ j, Ideal.exp (s j - max m (Finset.univ.fold max ⊥ s)) * v j) := by
  obtain ⟨B, hB⟩ := fold_max_coe hb s (fun j => σ (n + j)) hs
  rw [hB]
  have hexp : ∀ (N : ℝ) (j : Fin b), Ideal.exp (s j - (N : EReal)) = ((Real.exp (σ (n + j) - N) : ℝ) : EReal) := by
    intro N j; rw [hs j, ← EReal.coe_sub, Ideal.exp_coe]
  rcases h with ⟨rfl, rfl, rfl, rfl⟩ | ⟨M, rfl, hn, rfl, rfl⟩
  · right
    refine ⟨B, by simp, by omega, ?_, ?_⟩
    · rw [max_eq_right bot_le, mul_zero, zero_add, coe_sum, Finset.sum_range, ← (finCongr (Nat.zero_add b).symm).sum_comp]
      exact Finset.sum_congr rfl fun j _ => by rw [hexp]; simp
    · rw [max_eq_right bot_le, mul_zero, zero_add, Finset.sum_range, ← (finCongr (Nat.zero_add b).symm).sum_comp]
      exact Finset.sum_congr rfl fun j _ => by rw [hexp, hv]; simp
  · right
    have hN : max (M : EReal) (B : EReal) = ((max M B : ℝ) : EReal) := (EReal.coe_strictMono.monotone.map_max).symm
    rw [hN]
    generalize max M B = N
    have ha : Ideal.exp ((M : EReal) - (N : EReal)) = ((Real.exp (M - N) : ℝ) : EReal) := by
      rw [← EReal.coe_sub, Ideal.exp_coe]
    have hmul : ∀ i : ℕ, Real.exp (M - N) * Real.exp (σ i - M) = Real.exp (σ i - N) := by
      intro i; rw [← Real.exp_add]; congr 1; ring
    refine ⟨N, rfl, by omega, ?_, ?_⟩
    · rw [ha, ← EReal.coe_mul, Finset.mul_sum, Finset.sum_range_add, EReal.coe_add]
      congr 1
      · congr 1; exact Finset.sum_congr rfl fun i _ => hmul i
      · rw [coe_sum, Finset.sum_range]; exact Finset.sum_congr rfl fun j _ => hexp N j
    · rw [ha, mul_sum_coe _ _ (Real.exp_pos _).le, Finset.sum_range_add]
      congr 1
      · exact Finset.sum_congr rfl fun i _ => by rw [← mul_assoc, ← EReal.coe_mul, hmul]
      · rw [Finset.sum_range]; exact Finset.sum_congr rfl fun j _ => by rw [hexp, hv]

/-- What the blocks give at the end is the softmax-weighted sum, whatever real the exponents are taken from. -/
theorem Run.quotient {n : ℕ} (hn : 0 < n) {σ : ℕ → ℝ} {V : ℕ → EReal} {m l a : EReal} (h : Run n σ V m l a) (B : ℝ) :
    Ideal.div a l = ∑ i ∈ range n,
      Ideal.div (((Real.exp (σ i - B) : ℝ) : EReal)) ((∑ k ∈ range n, Real.exp (σ k - B) : ℝ) : EReal) * V i := by
  rcases h with ⟨h0, -⟩ | ⟨M, rfl, -, rfl, rfl⟩
  · omega
  have hpos : ∀ N : ℝ, 0 < ∑ k ∈ range n, Real.exp (σ k - N) := fun N =>
    Finset.sum_pos (fun i _ => Real.exp_pos _) ⟨0, Finset.mem_range.2 hn⟩
  have hsum : ∑ k ∈ range n, Real.exp (σ k - M) = Real.exp (B - M) * ∑ k ∈ range n, Real.exp (σ k - B) := by
    rw [Finset.mul_sum]
    exact Finset.sum_congr rfl fun i _ => by rw [← Real.exp_add]; congr 1; ring
  rw [Ideal.div_coe (hpos M).ne', mul_comm, mul_sum_coe _ _ (by have := hpos M; positivity)]
  refine Finset.sum_congr rfl fun i _ => ?_
  rw [Ideal.div_coe (hpos B).ne', ← mul_assoc, ← EReal.coe_mul, ← EReal.coe_mul]
  congr 2
  rw [hsum, show σ i - M = (B - M) + (σ i - B) by ring, Real.exp_add]
  have h1 := (Real.exp_pos (B - M)).ne'
  have h2 := (hpos B).ne'
  field_simp

end Cert.Softmax

end
-- ==== Proof.Spec.lean ====
/-
  The latents' differential attention as a function of its argument arrays, entry by entry over the extended reals: the
  scores and values of one latent row by key number (4096 latents of its batch, then 512 cached keys), the row's
  softmax-weighted sum, and the normalised difference of the two. Finite queries and keys make every score real.
-/
module

public import proofs.«01_k».proof.Proof.Softmax
public import Idealize.ShloMosaic.Lib.Pointwise
public import Idealize.ShloMosaic.PureOps.Ideal

@[expose] public section

noncomputable section

namespace Cert.Latent

open Idealize.ShloMosaic Cert.Softmax

/-- The projections' rows: batch `b`, latent `i`. -/
def row (b : Fin 2) (i : Fin 4096) : Fin 8192 := ⟨b * 4096 + i, by omega⟩

/-- The projections' columns: queries, keys or values (`s`), head `h`, lane `x`. -/
def col (s : Fin 3) (h : Fin 8) (x : Fin 128) : Fin 3072 := ⟨s * 1024 + (h * 128 + x), by omega⟩

/-- Lane `x` of half `p` of a head. -/
def lane (p : Fin 2) (x : Fin 64) : Fin 128 := ⟨p * 64 + x, by omega⟩

abbrev Proj := Vec Ideal ⟨2, ![8192, 3072]⟩ .bf16
abbrev Cache := Vec Ideal ⟨5, ![2, 1, 512, 8, 128]⟩ .f32

/-- Half `p`'s score of latent `i`'s query against key `j` of the 4096 latents and the 512 cached ones. -/
def score (X : Proj) (K : Cache) (p : Fin 2) (b : Fin 2) (h : Fin 8) (i : Fin 4096) (j : ℕ) : EReal :=
  if hj : j < 4096 then ∑ x : Fin 64, X (ix2 (row b i) (col 0 h (lane p x))) * X (ix2 (row b ⟨j, hj⟩) (col 1 h (lane p x)))
  else if hj : j - 4096 < 512 then ∑ x : Fin 64, X (ix2 (row b i) (col 0 h (lane p x))) * K (ix5 b 0 ⟨j - 4096, hj⟩ h (lane p x))
  else 0

/-- Value `j` at lane `c`. -/
def value (X : Proj) (V : Cache) (b : Fin 2) (h : Fin 8) (c : Fin 128) (j : ℕ) : EReal :=
  if hj : j < 4096 then X (ix2 (row b ⟨j, hj⟩) (col 2 h c))
  else if hj : j - 4096 < 512 then V (ix5 b 0 ⟨j - 4096, hj⟩ h c)
  else 0

/-- The softmax-weighted sum of the first `n` values under the scores `σ`, exponents taken from `B`. -/
def attend (n : ℕ) (σ : ℕ → ℝ) (B : ℝ) (V : ℕ → EReal) : EReal :=
  ∑ i ∈ Finset.range n, Ideal.div ((Real.exp (σ i - B) : ℝ) : EReal) ((∑ k ∈ Finset.range n, Real.exp (σ k - B) : ℝ) : EReal) * V i

/-- The weight of the second attention, from its four vectors. -/
def lam (a b c d : Fin 64 → EReal) : EReal :=
  Ideal.exp (∑ x, a x * b x) - Ideal.exp (∑ x, c x * d x) + Ideal.ofBits .f32 1052116297#32

/-- A row divided by its root mean square, times the gains and the constant `1 - init`. -/
def normed (o g : Fin 128 → EReal) (c : Fin 128) : EReal :=
  o c * Ideal.rsqrt (Ideal.div (∑ x, o x * o x) (Ideal.ofBits .f32 1124073472#32) + Ideal.ofBits .f32 897988541#32) * g c
    * Ideal.ofBits .f32 1059388764#32

/-- The entry at lane `c` of latent `i`'s head `h`, the exponents taken from `B 0` and `B 1`. -/
def entry (X : Proj) (K V : Cache) (L : Vec Ideal ⟨3, ![1, 4, 64]⟩ .f32) (G : Vec Ideal ⟨2, ![1, 128]⟩ .f32)
    (σ : Fin 2 → ℕ → ℝ) (B : Fin 2 → ℝ) (b : Fin 2) (h : Fin 8) (c : Fin 128) : EReal :=
  normed (fun x => attend 4608 (σ 0) (B 0) (value X V b h x)
      - lam (fun x => L (ix3 0 0 x)) (fun x => L (ix3 0 1 x)) (fun x => L (ix3 0 2 x)) (fun x => L (ix3 0 3 x))
        * attend 4608 (σ 1) (B 1) (value X V b h x))
    (fun x => G (ix2 0 x)) c

/-- The queries and keys among the projections, and the cached keys, are real numbers. -/
def Finite (X : Proj) (K : Cache) : Prop :=
  (∀ (r : Fin 8192) (c : Fin 3072), c.val < 2048 → ∃ a : ℝ, X (ix2 r c) = (a : EReal)) ∧ ∀ i, ∃ a : ℝ, K i = (a : EReal)

theorem dot_real {f g : Fin 64 → EReal} (hf : ∀ x, ∃ a : ℝ, f x = (a : EReal)) (hg : ∀ x, ∃ a : ℝ, g x = (a : EReal)) :
    ∃ a : ℝ, ∑ x, f x * g x = (a : EReal) := by
  choose a ha using hf
  choose b hb using hg
  exact ⟨∑ x, a x * b x, by rw [coe_sum]; exact Finset.sum_congr rfl fun x _ => by rw [ha, hb, EReal.coe_mul]⟩

theorem score_real {X : Proj} {K : Cache} (H : Finite X K) (p b : Fin 2) (h : Fin 8) (i : Fin 4096) :
    ∃ σ : ℕ → ℝ, ∀ j, score X K p b h i j = (σ j : EReal) := by
  have key : ∀ j, ∃ a : ℝ, score X K p b h i j = (a : EReal) := by
    intro j
    unfold score
    split
    · exact dot_real (fun x => H.1 _ _ (by simp only [col, lane]; omega)) (fun x => H.1 _ _ (by simp only [col, lane]; omega))
    · split
      · exact dot_real (fun x => H.1 _ _ (by simp only [col, lane]; omega)) (fun x => H.2 _)
      · exact ⟨0, rfl⟩
  choose σ hσ using key
  exact ⟨σ, hσ⟩

/-- The softmax of real scores taken over `Fin n`, and its weighted sum cut at `a`, is `attend`. -/
theorem attend_eq {n a b : ℕ} (hn : a + b = n) (σ : ℕ → ℝ) (B : ℝ) (s : Fin n → EReal) (hs : ∀ j : Fin n, s j = (σ j : EReal))
    (V : ℕ → EReal) (va : Fin a → EReal) (vb : Fin b → EReal) (hva : ∀ j : Fin a, va j = V j) (hvb : ∀ j : Fin b, vb j = V (a + j)) :
    ∑ x : Fin a, va x * Ideal.div (Ideal.exp (s ⟨x, by omega⟩ - (B : EReal))) (∑ k, Ideal.exp (s k - (B : EReal)))
      + ∑ x : Fin b, vb x * Ideal.div (Ideal.exp (s ⟨a + x, by omega⟩ - (B : EReal))) (∑ k, Ideal.exp (s k - (B : EReal)))
      = attend n σ B V := by
  subst hn
  have he : ∀ k : Fin (a + b), Ideal.exp (s k - (B : EReal)) = ((Real.exp (σ k - B) : ℝ) : EReal) := by
    intro k; rw [hs k, ← EReal.coe_sub, Ideal.exp_coe]
  have hd : (∑ k, Ideal.exp (s k - (B : EReal))) = ((∑ k ∈ Finset.range (a + b), Real.exp (σ k - B) : ℝ) : EReal) := by
    rw [Finset.sum_range, coe_sum]; exact Finset.sum_congr rfl fun k _ => he k
  unfold attend
  rw [hd]
  generalize ((∑ k ∈ Finset.range (a + b), Real.exp (σ k - B) : ℝ) : EReal) = D
  rw [Finset.sum_range, Fin.sum_univ_add]
  refine congrArg₂ (· + ·) (Finset.sum_congr rfl fun x _ => ?_) (Finset.sum_congr rfl fun x _ => ?_)
  · rw [he, hva, mul_comm]; rfl
  · rw [he, hvb, mul_comm]; rfl

end Cert.Latent

end
-- ==== Proof.Finite.lean ====
/- What the precondition says: the queries and keys among the projections, and the cached keys, are real numbers. -/
module

public import proofs.«01_k».proof.Defs
public import proofs.«01_k».proof.Proof.Spec
public import Idealize.ShloMosaic.Lib.Pointwise

@[expose] public section

set_option maxRecDepth 16384

noncomputable section

namespace Cert.Latent

open Idealize.ShloMosaic

/-- A number whose absolute value is below +∞ is a real number. -/
theorem real_of_abs_lt (a : EReal) (h : BitVec.ofBool (decide (max a (-a) < ⊤)) = 1#1) : ∃ r : ℝ, a = (r : EReal) := by
  induction a with
  | bot => simp at h
  | top => simp at h
  | coe r => exact ⟨r, rfl⟩

variable [Cert.Pre_finite_queries_and_keys.Facts]

/-- The predicate's two conjuncts, read at every element. -/
theorem finite_of_pre (X : Proj) (K U' : Cache) (L : Vec Ideal Cert.Pre_finite_queries_and_keys.S1x4x64 .f32)
    (G : Vec Ideal Cert.Pre_finite_queries_and_keys.S1x128 .f32)
    (h1 : (Cert.Pre_finite_queries_and_keys.fn (F := Ideal) X K U' L G).1 = fun _ => 1#1)
    (h2 : (Cert.Pre_finite_queries_and_keys.fn (F := Ideal) X K U' L G).2 = fun _ => 1#1) : Finite X K := by
  have t16 : Ideal.ofBits .bf16 (0x7F80#16) = (⊤ : EReal) := by simp [Ideal.ofBits, Ideal.ieee]
  have t32 : Ideal.ofBits .f32 (0x7F800000#32) = (⊤ : EReal) := by simp [Ideal.ofBits, Ideal.ieee]
  constructor
  · intro r c hc
    have e := congrFun h1 (ix2 r ⟨c.val, hc⟩)
    unfold Cert.Pre_finite_queries_and_keys.fn at e
    have q : extractStridedSlice Cert.Pre_finite_queries_and_keys.S8192x2048 ![0, 0] X
        Cert.Pre_finite_queries_and_keys.Facts.slices_S8192x3072_S8192x2048_0_0 (ix2 r ⟨c.val, hc⟩) = X (ix2 r c) :=
      congrArg X (by funext a; fin_cases a <;> exact Fin.ext (by simp))
    change BitVec.ofBool (decide (max (extractStridedSlice Cert.Pre_finite_queries_and_keys.S8192x2048 ![0, 0] X
        Cert.Pre_finite_queries_and_keys.Facts.slices_S8192x3072_S8192x2048_0_0 (ix2 r ⟨c.val, hc⟩))
      (-(extractStridedSlice Cert.Pre_finite_queries_and_keys.S8192x2048 ![0, 0] X
        Cert.Pre_finite_queries_and_keys.Facts.slices_S8192x3072_S8192x2048_0_0 (ix2 r ⟨c.val, hc⟩))) < Ideal.ofBits .bf16 (0x7F80#16))) = 1#1 at e
    rw [t16, q] at e
    exact real_of_abs_lt _ e
  · intro i
    have e := congrFun h2 i
    unfold Cert.Pre_finite_queries_and_keys.fn at e
    change BitVec.ofBool (decide (max (K i) (-(K i)) < Ideal.ofBits .f32 (0x7F800000#32))) = 1#1 at e
    rw [t32] at e
    exact real_of_abs_lt _ e

end Cert.Latent

end
-- ==== Proof.Block.lean ====
/-
  The latents' differential attention: what one grid point's body leaves in its output block, as one closed term of the
  blocks it reads. The key/value loop is a recursion on its trips (`state`), each trip one update of the two running
  softmaxes (`trip`); the context keys are one more such update (`last`).
-/
module

public import proofs.«01_k».proof.Proof.Gen.KernelIdeal.Value
public import Idealize.ShloMosaic.Lib.Pipeline.Value
public import Idealize.ShloMosaic.PureOps.Ideal

@[expose] public section

set_option maxRecDepth 16384

noncomputable section

namespace Cert.KernelIdeal.Block

open Cert.KernelIdeal Cert.KernelIdeal.Gen Idealize.ShloMosaic Idealize.ShloMosaic.TcCoe Idealize.SL.Sem Idealize.ShloMosaic.Tactic

variable {F : FTy → Type} [FloatOps F]

/-- The two running softmaxes: a maximum, a denominator and a weighted sum each. -/
abbrev Carry (F : FTy → Type) := FVec F S512x1 .f32 × FVec F S512x1 .f32 × FVec F S512x128 .f32 × FVec F S512x1 .f32 × FVec F S512x1 .f32 × FVec F S512x128 .f32

/-- One trip over the key block `k` and the value block `v`. -/
def trip (q : Vec F S512x128 .bf16) (w1 w2 : Vec F S1x128 .bf16) (k v : Vec F S512x128 .bf16) (a : Carry F) : Carry F :=
  (k0_pay9 q w1 a.1 k, k0_pay12 q w1 a.1 a.2.1 k, k0_pay13 q w1 a.1 a.2.2.1 k v,
   k0_pay15 q w2 a.2.2.2.1 k, k0_pay18 q w2 a.2.2.2.1 a.2.2.2.2.1 k, k0_pay19 q w2 a.2.2.2.1 a.2.2.2.2.2 k v)

/-- The rows of the keys (or values) that trip `t` loads. -/
def kblk (x : Vec F S4096x128 .bf16) (t : Fin k0_t1_loop.trips) : Vec F S512x128 .bf16 :=
  View.ld x (Rect.unit (s := S4096x128) (k0_off1 t) S512x128.size (k0_off1_inb t))

/-- The trip the run found is `trip`. -/
theorem trip_eq (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S512x128 .bf16) (harg11 : arg11.IsWhole) (v17 : Vec F S512x128 .bf16) (v18 : Vec F S1x128 .bf16) (v21 : Vec F S1x128 .bf16)
    (x1 x2 : Vec F S4096x128 .bf16) (k : Fin k0_t1_loop.trips) (acc : Carry F) :
    tripR_k0_t1 𝒱 c bd i arg3 harg3 arg4 harg4 arg5 harg5 arg6 harg6 arg7 harg7 arg8 harg8 arg9 harg9 arg10 harg10 arg11 harg11 v17 v18 v21 (harg4.unread x1) (harg5.unread x2) k acc
      = trip v17 v18 v21 (kblk x1 k) (kblk x2 k) acc := by
  unfold tripR_k0_t1 trip_k0_t1
  dsimp only
  sl_unfold_words
  simp only [View.readAt_eq_ld, harg4.read_unread, harg5.read_unread]
  rfl

/-- The carried value before trip `n`. -/
def state (q : Vec F S512x128 .bf16) (w1 w2 : Vec F S1x128 .bf16) (x1 x2 : Vec F S4096x128 .bf16) : ℕ → Carry F
  | 0 => (k0_pay5 (F := F), k0_pay6 (F := F), k0_pay7 (F := F), k0_pay5 (F := F), k0_pay6 (F := F), k0_pay7 (F := F))
  | n + 1 => if h : n < k0_t1_loop.trips then trip q w1 w2 (kblk x1 ⟨n, h⟩) (kblk x2 ⟨n, h⟩) (state q w1 w2 x1 x2 n) else state q w1 w2 x1 x2 n

theorem state_eq (𝒱 : Variants) (c : Dev nD) (bd : Option 𝒱.V) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S512x128 .bf16) (harg11 : arg11.IsWhole) (v17 : Vec F S512x128 .bf16) (v18 : Vec F S1x128 .bf16) (v21 : Vec F S1x128 .bf16)
    (x1 x2 : Vec F S4096x128 .bf16) (n : ℕ) (hn : n ≤ k0_t1_loop.trips) :
    st_k0_t1 𝒱 c bd i arg3 harg3 arg4 harg4 arg5 harg5 arg6 harg6 arg7 harg7 arg8 harg8 arg9 harg9 arg10 harg10 arg11 harg11 v17 v18 v21 (harg4.unread x1) (harg5.unread x2) (k0_pay5 (F := F), k0_pay6 (F := F), k0_pay7 (F := F), k0_pay5 (F := F), k0_pay6 (F := F), k0_pay7 (F := F)) n
      = state v17 v18 v21 x1 x2 n := by
  induction n with
  | zero => rfl
  | succ n ih =>
    have h : n < k0_t1_loop.trips := hn
    refine (st_k0_t1_succ 𝒱 c bd i arg3 harg3 arg4 harg4 arg5 harg5 arg6 harg6 arg7 harg7 arg8 harg8 arg9 harg9 arg10 harg10 arg11 harg11 v17 v18 v21 (harg4.unread x1) (harg5.unread x2) _ ⟨n, h⟩).trans ?_
    rw [trip_eq]
    dsimp only
    rw [ih (Nat.le_of_succ_le hn)]
    simp only [state, dif_pos h]

theorem hz2 : (![0, 0] : Fin 2 → Nat) = fun _ => 0 := funext fun a => by fin_cases a <;> rfl
theorem hz3 : (![0, 0, 0] : Fin 3 → Nat) = fun _ => 0 := funext fun a => by fin_cases a <;> rfl

/-- The first and the second row of the half masks. -/
def mask1 (x5 : Vec F S2x128 .bf16) : Vec F S1x128 .bf16 := View.ld x5 (Rect.unit (s := S2x128) ![0, 0] S1x128.size inb_S2x128_S1x128_0_0)
def mask2 (x5 : Vec F S2x128 .bf16) : Vec F S1x128 .bf16 := View.ld x5 (Rect.unit (s := S2x128) ![1, 0] S1x128.size inb_S2x128_S1x128_1_0)

/-- The carried value after the context keys. -/
def last (x0 : Vec F S512x128 .bf16) (x1 x2 : Vec F S4096x128 .bf16) (x3 x4 : Vec F S1x512x128 .bf16) (x5 : Vec F S2x128 .bf16) : Carry F :=
  trip x0 (mask1 x5) (mask2 x5) (k0_pay20 x3) (k0_pay21 x4) (state x0 (mask1 x5) (mask2 x5) x1 x2 k0_t1_loop.trips)

/-- The difference of the two attentions' quotients. -/
def diff (lam : FVec F S1x1 .f32) (a : Carry F) : FVec F S512x128 .f32 :=
  subf (divf a.2.2.1 (broadcastTo S512x128 a.2.1 broadcasts_S512x1_S512x128))
    (mulf (broadcastTo S512x128 lam broadcasts_S1x1_S512x128)
      (divf a.2.2.2.2.2 (broadcastTo S512x128 a.2.2.2.2.1 broadcasts_S512x1_S512x128)))

/-- What the body leaves in the output block, normalised row by row. -/
theorem out_eq (c : Dev nD) (i : grid0.Coords) (arg3 : Memref sig .tc .vmem S512x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x512x128 .bf16) (harg6 : arg6.IsWhole) (arg7 : Memref sig .tc .vmem S1x512x128 .bf16) (harg7 : arg7.IsWhole) (arg8 : Memref sig .tc .vmem S2x128 .bf16) (harg8 : arg8.IsWhole) (arg9 : Memref sig .tc .vmem S4x64 .f32) (harg9 : arg9.IsWhole) (arg10 : Memref sig .tc .vmem S1x128 .f32) (harg10 : arg10.IsWhole) (arg11 : Memref sig .tc .vmem S512x128 .bf16) (harg11 : arg11.IsWhole)
    (x0 : Vec Ideal S512x128 .bf16) (x1 : Vec Ideal S4096x128 .bf16) (x2 : Vec Ideal S4096x128 .bf16) (x3 : Vec Ideal S1x512x128 .bf16) (x4 : Vec Ideal S1x512x128 .bf16) (x5 : Vec Ideal S2x128 .bf16) (x6 : Vec Ideal S4x64 .f32) (x7 : Vec Ideal S1x128 .f32) :
    out0_A_8 c i arg3 harg3 arg4 harg4 arg5 harg5 arg6 harg6 arg7 harg7 arg8 harg8 arg9 harg9 arg10 harg10 arg11 harg11 x0 x1 x2 x3 x4 x5 x6 x7
      = k0_pay1 (diff (k0_pay2 x6) (last x0 x1 x2 x3 x4 x5)) (k0_pay23 x7)
          (shapeCast S512x1 (multiReduction .add [1] S512 (mulf (diff (k0_pay2 x6) (last x0 x1 x2 x3 x4 x5)) (diff (k0_pay2 x6) (last x0 x1 x2 x3 x4 x5))) 0x00000000#32 reduces_S512x128_S512 (.inl rfl) rfl) shapeCasts_S512_S512x1)
          (FloatOps.ofBits FTy.f32 1124073472#32) := by
  unfold out0_A_8
  rw [View.read_writes_eq_canon _ _ _ (cover0_A_8 c i arg3 harg3 arg4 harg4 arg5 harg5 arg6 harg6 arg7 harg7 arg8 harg8 arg9 harg9 arg10 harg10 arg11 harg11 x0 x1 x2 x3 x4 x5 x6 x7)]
  unfold kernelRun0_A
  dsimp only
  sl_unfold_words
  simp only [View.readAt_eq_ld, harg3.read_unread, harg4.read_unread, harg5.read_unread, harg6.read_unread, harg7.read_unread, harg8.read_unread, harg9.read_unread, harg10.read_unread]
  rw [View.canon_unit_zero hz2]
  simp only [View.ld_unit_zero (S := S512x128) hz2, View.ld_unit_zero (S := S4x64) hz2, View.ld_unit_zero (S := S1x128) hz2, View.ld_unit_zero (S := S1x512x128) hz3]
  rw [state_eq (hn := le_rfl)]
  rfl

end Cert.KernelIdeal.Block

end
-- ==== Proof.Row.lean ====
/-
  One row of the output block, over the reals: the two quotients are softmax-weighted sums over the 4096 + 512 keys
  (`Softmax.Run`), and the block's entry is their normalised difference.
-/
module

public import proofs.«01_k».proof.Proof.Block
public import proofs.«01_k».proof.Proof.Spec
public import Idealize.ShloMosaic.Lib.Pointwise

@[expose] public section

set_option maxRecDepth 16384

noncomputable section

namespace Cert.KernelIdeal.Row

open Cert.KernelIdeal Cert.KernelIdeal.Gen Cert.KernelIdeal.Block Idealize.ShloMosaic Cert.Softmax Cert.Latent

theorem score_apply (q : Vec Ideal S512x128 .bf16) (w : Vec Ideal S1x128 .bf16) (k : Vec Ideal S512x128 .bf16) (r j : Fin 512) :
    k0_pay8 q w k (ix2 r j) = ∑ x : Fin 128, q (ix2 r x) * w (ix2 0 x) * k (ix2 j x) := by
  pointwise [k0_pay8, k0_pay3]

theorem ofBits_neg_inf : Ideal.ofBits .f32 4286578688#32 = ⊥ := by
  simp [Ideal.ofBits, Ideal.ieee]

theorem max_apply (q : Vec Ideal S512x128 .bf16) (w : Vec Ideal S1x128 .bf16) (m : FVec Ideal S512x1 .f32) (k : Vec Ideal S512x128 .bf16) (r : Fin 512) :
    k0_pay9 q w m k (ix2 r 0) = max (m (ix2 r 0)) (Finset.univ.fold max ⊥ fun j => k0_pay8 q w k (ix2 r j)) := by
  pointwise [k0_pay9]
  rw [ofBits_neg_inf]

theorem den_apply (q : Vec Ideal S512x128 .bf16) (w : Vec Ideal S1x128 .bf16) (m l : FVec Ideal S512x1 .f32) (k : Vec Ideal S512x128 .bf16) (r : Fin 512) :
    k0_pay12 q w m l k (ix2 r 0) = Ideal.exp (m (ix2 r 0) - k0_pay9 q w m k (ix2 r 0)) * l (ix2 r 0)
      + ∑ x, Ideal.exp (k0_pay8 q w k (ix2 r x) - k0_pay9 q w m k (ix2 r 0)) := by
  pointwise [k0_pay12, k0_pay10, k0_pay11]

theorem num_apply (q : Vec Ideal S512x128 .bf16) (w : Vec Ideal S1x128 .bf16) (m : FVec Ideal S512x1 .f32) (a : FVec Ideal S512x128 .f32)
    (k v : Vec Ideal S512x128 .bf16) (r : Fin 512) (c : Fin 128) :
    k0_pay13 q w m a k v (ix2 r c) = Ideal.exp (m (ix2 r 0) - k0_pay9 q w m k (ix2 r 0)) * a (ix2 r c)
      + ∑ x, Ideal.exp (k0_pay8 q w k (ix2 r x) - k0_pay9 q w m k (ix2 r 0)) * v (ix2 x c) := by
  pointwise [k0_pay13, k0_pay10, k0_pay11]

/-- One trip of one half, at a row and a column. -/
theorem half_step {n : ℕ} {σ : ℕ → ℝ} {V : ℕ → EReal} (q : Vec Ideal S512x128 .bf16) (w : Vec Ideal S1x128 .bf16)
    (m l : FVec Ideal S512x1 .f32) (a : FVec Ideal S512x128 .f32) (k v : Vec Ideal S512x128 .bf16) (r : Fin 512) (c : Fin 128)
    (h : Run n σ V (m (ix2 r 0)) (l (ix2 r 0)) (a (ix2 r c)))
    (hs : ∀ j : Fin 512, ∑ x : Fin 128, q (ix2 r x) * w (ix2 0 x) * k (ix2 j x) = (σ (n + j) : EReal))
    (hv : ∀ j : Fin 512, v (ix2 j c) = V (n + j)) :
    Run (n + 512) σ V (k0_pay9 q w m k (ix2 r 0)) (k0_pay12 q w m l k (ix2 r 0)) (k0_pay13 q w m a k v (ix2 r c)) := by
  have := h.step (b := 512) (by decide) (fun j => k0_pay8 q w k (ix2 r j)) (fun j => v (ix2 j c))
    (fun j => (score_apply q w k r j).trans (hs j)) hv
  rw [den_apply, num_apply, max_apply]
  exact this

/-- Both halves of one trip. -/
def Both (n : ℕ) (σ1 σ2 : ℕ → ℝ) (V : ℕ → EReal) (r : Fin 512) (c : Fin 128) (a : Carry Ideal) : Prop :=
  Run n σ1 V (a.1 (ix2 r 0)) (a.2.1 (ix2 r 0)) (a.2.2.1 (ix2 r c))
  ∧ Run n σ2 V (a.2.2.2.1 (ix2 r 0)) (a.2.2.2.2.1 (ix2 r 0)) (a.2.2.2.2.2 (ix2 r c))

theorem trip_both {n : ℕ} {σ1 σ2 : ℕ → ℝ} {V : ℕ → EReal} (q : Vec Ideal S512x128 .bf16) (w1 w2 : Vec Ideal S1x128 .bf16)
    (k v : Vec Ideal S512x128 .bf16) (a : Carry Ideal) (r : Fin 512) (c : Fin 128) (h : Both n σ1 σ2 V r c a)
    (h1 : ∀ j : Fin 512, ∑ x : Fin 128, q (ix2 r x) * w1 (ix2 0 x) * k (ix2 j x) = (σ1 (n + j) : EReal))
    (h2 : ∀ j : Fin 512, ∑ x : Fin 128, q (ix2 r x) * w2 (ix2 0 x) * k (ix2 j x) = (σ2 (n + j) : EReal))
    (hv : ∀ j : Fin 512, v (ix2 j c) = V (n + j)) : Both (n + 512) σ1 σ2 V r c (trip q w1 w2 k v a) :=
  ⟨half_step q w1 _ _ _ k v r c h.1 h1 hv, half_step q w2 _ _ _ k v r c h.2 h2 hv⟩

theorem trips_eq : k0_t1_loop.trips = 8 := by decide +kernel

theorem off_eq : ∀ t : Fin k0_t1_loop.trips, k0_off1 t = ![512 * t.val, 0] := by decide +kernel

theorem kblk_apply (x : Vec Ideal S4096x128 .bf16) (t : Fin k0_t1_loop.trips) (j : Fin 512) (d : Fin 128) :
    kblk x t (ix2 j d) = x (ix2 ⟨512 * t.val + j.val, by have h : t.val < 8 := trips_eq ▸ t.isLt; have := j.isLt; omega⟩ d) := by
  unfold kblk
  rw [View.ld_unit]
  refine congrArg x (funext fun a => ?_)
  have e := off_eq t
  fin_cases a
  · exact Fin.ext (by show k0_off1 t 0 + j.val = _; rw [e]; rfl)
  · exact Fin.ext (by show k0_off1 t 1 + d.val = _; rw [e]; simp)

theorem state_both {σ1 σ2 : ℕ → ℝ} {V : ℕ → EReal} (q : Vec Ideal S512x128 .bf16) (w1 w2 : Vec Ideal S1x128 .bf16)
    (x1 x2 : Vec Ideal S4096x128 .bf16) (r : Fin 512) (c : Fin 128)
    (h1 : ∀ j : Fin 4096, ∑ x : Fin 128, q (ix2 r x) * w1 (ix2 0 x) * x1 (ix2 j x) = (σ1 j : EReal))
    (h2 : ∀ j : Fin 4096, ∑ x : Fin 128, q (ix2 r x) * w2 (ix2 0 x) * x1 (ix2 j x) = (σ2 j : EReal))
    (hv : ∀ j : Fin 4096, x2 (ix2 j c) = V j) :
    ∀ n : ℕ, n ≤ k0_t1_loop.trips → Both (512 * n) σ1 σ2 V r c (state q w1 w2 x1 x2 n) := by
  intro n
  induction n with
  | zero =>
    intro _
    have h5 : (k0_pay5 (F := Ideal)) (ix2 r 0) = ⊥ := by pointwise [k0_pay5]; exact ofBits_neg_inf
    have h6 : (k0_pay6 (F := Ideal)) (ix2 r 0) = 0 := by pointwise [k0_pay6]
    have h7 : (k0_pay7 (F := Ideal)) (ix2 r c) = 0 := by pointwise [k0_pay7]
    constructor
    · show Run (512 * 0) σ1 V ((k0_pay5 (F := Ideal)) (ix2 r 0)) ((k0_pay6 (F := Ideal)) (ix2 r 0)) ((k0_pay7 (F := Ideal)) (ix2 r c)); rw [h5, h6, h7]; exact Run.zero _ _
    · show Run (512 * 0) σ2 V ((k0_pay5 (F := Ideal)) (ix2 r 0)) ((k0_pay6 (F := Ideal)) (ix2 r 0)) ((k0_pay7 (F := Ideal)) (ix2 r c)); rw [h5, h6, h7]; exact Run.zero _ _
  | succ n ih =>
    intro hn
    have hlt : n < k0_t1_loop.trips := hn
    have e : state q w1 w2 x1 x2 (n + 1) = trip q w1 w2 (kblk x1 ⟨n, hlt⟩) (kblk x2 ⟨n, hlt⟩) (state q w1 w2 x1 x2 n) := by
      simp only [state, dif_pos hlt]
    rw [e, show 512 * (n + 1) = 512 * n + 512 by ring]
    refine trip_both q w1 w2 _ _ _ r c (ih (Nat.le_of_succ_le hn)) (fun j => ?_) (fun j => ?_) (fun j => ?_)
    · simp only [kblk_apply]; exact h1 _
    · simp only [kblk_apply]; exact h2 _
    · simp only [kblk_apply]; exact hv _

theorem last_both {σ1 σ2 : ℕ → ℝ} {V : ℕ → EReal} (x0 : Vec Ideal S512x128 .bf16)
    (x1 x2 : Vec Ideal S4096x128 .bf16) (x3 x4 : Vec Ideal S1x512x128 .bf16) (x5 : Vec Ideal S2x128 .bf16) (r : Fin 512) (c : Fin 128)
    (h1 : ∀ j : Fin 4096, ∑ x : Fin 128, x0 (ix2 r x) * x5 (ix2 0 x) * x1 (ix2 j x) = (σ1 j : EReal))
    (h2 : ∀ j : Fin 4096, ∑ x : Fin 128, x0 (ix2 r x) * x5 (ix2 1 x) * x1 (ix2 j x) = (σ2 j : EReal))
    (hv : ∀ j : Fin 4096, x2 (ix2 j c) = V j)
    (h1' : ∀ j : Fin 512, ∑ x : Fin 128, x0 (ix2 r x) * x5 (ix2 0 x) * x3 (ix3 0 j x) = (σ1 (4096 + j) : EReal))
    (h2' : ∀ j : Fin 512, ∑ x : Fin 128, x0 (ix2 r x) * x5 (ix2 1 x) * x3 (ix3 0 j x) = (σ2 (4096 + j) : EReal))
    (hv' : ∀ j : Fin 512, x4 (ix3 0 j c) = V (4096 + j)) : Both 4608 σ1 σ2 V r c (last x0 x1 x2 x3 x4 x5) := by
  have m1 : ∀ x : Fin 128, mask1 x5 (ix2 0 x) = x5 (ix2 0 x) := by
    intro x; unfold mask1; rw [View.ld_unit]
    exact congrArg x5 (funext fun a => by fin_cases a <;> exact Fin.ext (by simp))
  have m2 : ∀ x : Fin 128, mask2 x5 (ix2 0 x) = x5 (ix2 1 x) := by
    intro x; unfold mask2; rw [View.ld_unit]
    exact congrArg x5 (funext fun a => by fin_cases a <;> exact Fin.ext (by simp))
  have hst := state_both (σ1 := σ1) (σ2 := σ2) (V := V) x0 (mask1 x5) (mask2 x5) x1 x2 r c (by simpa only [m1] using h1) (by simpa only [m2] using h2) hv
    k0_t1_loop.trips le_rfl
  have e : 512 * k0_t1_loop.trips = 4096 := by rw [trips_eq]
  rw [e] at hst
  have p20 : ∀ (j : Fin 512) (x : Fin 128), k0_pay20 x3 (ix2 j x) = x3 (ix3 0 j x) := by intro j x; pointwise [k0_pay20]
  have p21 : ∀ (j : Fin 512) (x : Fin 128), k0_pay21 x4 (ix2 j x) = x4 (ix3 0 j x) := by intro j x; pointwise [k0_pay21]
  exact trip_both x0 _ _ _ _ _ r c hst (by simpa only [m1, p20] using h1') (by simpa only [m2, p20] using h2') (by simpa only [p21] using hv')

theorem diff_apply (lam : FVec Ideal S1x1 .f32) (a : Carry Ideal) (r : Fin 512) (c : Fin 128) :
    diff lam a (ix2 r c) = Ideal.div (a.2.2.1 (ix2 r c)) (a.2.1 (ix2 r 0))
      - lam (ix2 0 0) * Ideal.div (a.2.2.2.2.2 (ix2 r c)) (a.2.2.2.2.1 (ix2 r 0)) := by
  pointwise [diff]

theorem lam_apply (x6 : Vec Ideal S4x64 .f32) :
    k0_pay2 x6 (ix2 0 0) = lam (fun x => x6 (ix2 0 x)) (fun x => x6 (ix2 1 x)) (fun x => x6 (ix2 2 x)) (fun x => x6 (ix2 3 x)) := by
  pointwise [k0_pay2, lam]

theorem norm_apply (o : FVec Ideal S512x128 .f32) (x7 : Vec Ideal S1x128 .f32) (r : Fin 512) (c : Fin 128) :
    k0_pay1 o (k0_pay23 x7)
          (shapeCast S512x1 (multiReduction .add [1] S512 (mulf o o) 0x00000000#32 reduces_S512x128_S512 (.inl rfl) rfl) shapeCasts_S512_S512x1)
          (FloatOps.ofBits FTy.f32 1124073472#32) (ix2 r c) = normed (fun x => o (ix2 r x)) (fun x => x7 (ix2 0 x)) c := by
  pointwise [k0_pay1, k0_pay23, normed]

/-- The block's entry at row `r`, column `c`. -/
theorem block_apply {σ1 σ2 : ℕ → ℝ} {V : Fin 128 → ℕ → EReal} (x0 : Vec Ideal S512x128 .bf16)
    (x1 x2 : Vec Ideal S4096x128 .bf16) (x3 x4 : Vec Ideal S1x512x128 .bf16) (x5 : Vec Ideal S2x128 .bf16)
    (x6 : Vec Ideal S4x64 .f32) (x7 : Vec Ideal S1x128 .f32) (r : Fin 512) (B1 B2 : ℝ)
    (h1 : ∀ j : Fin 4096, ∑ x : Fin 128, x0 (ix2 r x) * x5 (ix2 0 x) * x1 (ix2 j x) = (σ1 j : EReal))
    (h2 : ∀ j : Fin 4096, ∑ x : Fin 128, x0 (ix2 r x) * x5 (ix2 1 x) * x1 (ix2 j x) = (σ2 j : EReal))
    (hv : ∀ (c : Fin 128) (j : Fin 4096), x2 (ix2 j c) = V c j)
    (h1' : ∀ j : Fin 512, ∑ x : Fin 128, x0 (ix2 r x) * x5 (ix2 0 x) * x3 (ix3 0 j x) = (σ1 (4096 + j) : EReal))
    (h2' : ∀ j : Fin 512, ∑ x : Fin 128, x0 (ix2 r x) * x5 (ix2 1 x) * x3 (ix3 0 j x) = (σ2 (4096 + j) : EReal))
    (hv' : ∀ (c : Fin 128) (j : Fin 512), x4 (ix3 0 j c) = V c (4096 + j)) (c : Fin 128) :
    k0_pay1 (diff (k0_pay2 x6) (last x0 x1 x2 x3 x4 x5)) (k0_pay23 x7)
          (shapeCast S512x1 (multiReduction .add [1] S512 (mulf (diff (k0_pay2 x6) (last x0 x1 x2 x3 x4 x5)) (diff (k0_pay2 x6) (last x0 x1 x2 x3 x4 x5))) 0x00000000#32 reduces_S512x128_S512 (.inl rfl) rfl) shapeCasts_S512_S512x1)
          (FloatOps.ofBits FTy.f32 1124073472#32) (ix2 r c)
      = normed (fun x => attend 4608 σ1 B1 (V x)
          - lam (fun x => x6 (ix2 0 x)) (fun x => x6 (ix2 1 x)) (fun x => x6 (ix2 2 x)) (fun x => x6 (ix2 3 x)) * attend 4608 σ2 B2 (V x))
          (fun x => x7 (ix2 0 x)) c := by
  refine (norm_apply _ x7 r c).trans ?_
  refine congrArg (fun o => normed o (fun x => x7 (ix2 0 x)) c) (funext fun x => ?_)
  have hb := last_both (V := V x) x0 x1 x2 x3 x4 x5 r x h1 h2 (hv x) h1' h2' (hv' x)
  rw [diff_apply, lam_apply, hb.1.quotient (by norm_num) B1, hb.2.quotient (by norm_num) B2]
  rfl

end Cert.KernelIdeal.Row

end
-- ==== Proof.Reference.lean ====
/-
  The reference's result, entry by entry: `Latent.entry` of the argument arrays.
-/
module

public import proofs.«01_k».proof.Proof.Spec
public import proofs.«01_k».proof.Proof.Gen.ReferenceIdeal
public import proofs.«01_k».proof.Proof.Gen.ReferenceIdeal.Read

@[expose] public section

set_option maxRecDepth 16384

noncomputable section

namespace Cert.ReferenceIdeal.Entry

open Cert.ReferenceIdeal.Read Cert.ReferenceIdeal Cert.ReferenceIdeal.Gen Idealize.ShloMosaic Cert.Softmax Cert.Latent

variable (X : Proj) (K V : Cache) (L : Vec Ideal S1x4x64 .f32) (G : Vec Ideal S1x128 .f32)

theorem query1 (b : Fin 2) (i : Fin 4096) (h : Fin 8) (x : Fin 64) : val_main_v28 X (ix4 b i h x) = X (ix2 (row b i) (col 0 h (lane 0 x))) := by
  pointwise [val_main_v28, val_main_v27, val_main_v5, val_main_v2, val_main_v1, val_main_v0]
  congr 2 <;> simp [row, col, lane]
theorem query2 (b : Fin 2) (i : Fin 4096) (h : Fin 8) (x : Fin 64) : val_main_v54 X (ix4 b i h x) = X (ix2 (row b i) (col 0 h (lane 1 x))) := by
  pointwise [val_main_v54, val_main_v53, val_main_v5, val_main_v2, val_main_v1, val_main_v0]
  congr 2 <;> simp [row, col, lane, Nat.add_assoc]
theorem key1 (b : Fin 2) (i : Fin 4096) (h : Fin 8) (x : Fin 64) : val_main_v30 X (ix4 b i h x) = X (ix2 (row b i) (col 1 h (lane 0 x))) := by
  pointwise [val_main_v30, val_main_v29, val_main_v6, val_main_v3, val_main_v1, val_main_v0]
  congr 2 <;> simp [row, col, lane, Nat.add_assoc]
theorem key2 (b : Fin 2) (i : Fin 4096) (h : Fin 8) (x : Fin 64) : val_main_v56 X (ix4 b i h x) = X (ix2 (row b i) (col 1 h (lane 1 x))) := by
  pointwise [val_main_v56, val_main_v55, val_main_v6, val_main_v3, val_main_v1, val_main_v0]
  congr 2 <;> simp [row, col, lane, Nat.add_assoc]
theorem cached1 (b : Fin 2) (i : Fin 512) (h : Fin 8) (x : Fin 64) : val_main_v31 K (ix4 b i h x) = K (ix5 b 0 i h (lane 0 x)) := by
  pointwise [val_main_v31, val_main_v8]
  congr 2 <;> simp [lane]
theorem cached2 (b : Fin 2) (i : Fin 512) (h : Fin 8) (x : Fin 64) : val_main_v57 K (ix4 b i h x) = K (ix5 b 0 i h (lane 1 x)) := by
  pointwise [val_main_v57, val_main_v8]
  congr 2 <;> simp [lane]
theorem value_own (b : Fin 2) (i : Fin 4096) (h : Fin 8) (x : Fin 128) : val_main_v7 X (ix4 b i h x) = X (ix2 (row b i) (col 2 h x)) := by
  pointwise [val_main_v7, val_main_v4, val_main_v1, val_main_v0]
  congr 2 <;> simp [row, col]
theorem value_cached (b : Fin 2) (i : Fin 512) (h : Fin 8) (x : Fin 128) : val_main_v9 V (ix4 b i h x) = V (ix5 b 0 i h x) := by
  pointwise [val_main_v9]

theorem score1 (b : Fin 2) (h : Fin 8) (i : Fin 4096) (j : Fin 4608) : val_main_v34 X K (ix4 b h i j) = score X K 0 b h i j := by
  pointwise [val_main_v34]
  unfold score
  split
  · pointwise [val_main_v32]
    simp only [query1, key1]
  · rw [dif_pos (by omega)]
    pointwise [val_main_v33]
    simp only [query1, cached1]
theorem score2 (b : Fin 2) (h : Fin 8) (i : Fin 4096) (j : Fin 4608) : val_main_v60 X K (ix4 b h i j) = score X K 1 b h i j := by
  pointwise [val_main_v60]
  unfold score
  split
  · pointwise [val_main_v58]
    simp only [query2, key2]
  · rw [dif_pos (by omega)]
    pointwise [val_main_v59]
    simp only [query2, cached2]

theorem ofBits_neg_inf : Ideal.ofBits .f32 4286578688#32 = ⊥ := by
  simp [Ideal.ofBits, Ideal.ieee]

theorem max1 (b : Fin 2) (h : Fin 8) (i : Fin 4096) :
    val_main_v35 X K (ix3 b h i) = Finset.univ.fold max ⊥ fun j => val_main_v34 X K (ix4 b h i j) := by
  pointwise [val_main_v35]
  rw [val_main_cst_2_apply]
  exact congrArg (fun z => Finset.univ.fold max z fun j => val_main_v34 X K (ix4 b h i j)) ofBits_neg_inf
theorem max2 (b : Fin 2) (h : Fin 8) (i : Fin 4096) :
    val_main_v61 X K (ix3 b h i) = Finset.univ.fold max ⊥ fun j => val_main_v60 X K (ix4 b h i j) := by
  pointwise [val_main_v61]
  rw [val_main_cst_5_apply]
  exact congrArg (fun z => Finset.univ.fold max z fun j => val_main_v60 X K (ix4 b h i j)) ofBits_neg_inf

theorem bot1 (i : S2x8x4096.Idx) : val_main_v36 (F := Ideal) i = ⊥ := (val_main_v36_apply i).trans ofBits_neg_inf
theorem bot2 (i : S2x8x4096.Idx) : val_main_v62 (F := Ideal) i = ⊥ := (val_main_v62_apply i).trans ofBits_neg_inf

theorem top1 (b : Fin 2) (h : Fin 8) (i : Fin 4096) : val_main_v37 X K (ix3 b h i) = val_main_v35 X K (ix3 b h i) := by
  rw [val_main_v37_apply, bot1]
  generalize val_main_v35 X K (ix3 b h i) = z
  exact max_eq_right bot_le
theorem top2 (b : Fin 2) (h : Fin 8) (i : Fin 4096) : val_main_v63 X K (ix3 b h i) = val_main_v61 X K (ix3 b h i) := by
  rw [val_main_v63_apply, bot2]
  generalize val_main_v61 X K (ix3 b h i) = z
  exact max_eq_right bot_le

theorem prob1 (b : Fin 2) (h : Fin 8) (i : Fin 4096) (j : Fin 4608) :
    val_main_v45 X K (ix4 b h i j) = Ideal.div (Ideal.exp (val_main_v34 X K (ix4 b h i j) - val_main_v37 X K (ix3 b h i)))
      (∑ x, Ideal.exp (val_main_v34 X K (ix4 b h i x) - val_main_v37 X K (ix3 b h i))) := by
  pointwise [val_main_v45, val_main_v44, val_main_v43, val_main_v42, val_main_v41, val_main_v40, val_main_v39, val_main_v38, val_main_cst_4]
theorem prob2 (b : Fin 2) (h : Fin 8) (i : Fin 4096) (j : Fin 4608) :
    val_main_v71 X K (ix4 b h i j) = Ideal.div (Ideal.exp (val_main_v60 X K (ix4 b h i j) - val_main_v63 X K (ix3 b h i)))
      (∑ x, Ideal.exp (val_main_v60 X K (ix4 b h i x) - val_main_v63 X K (ix3 b h i))) := by
  pointwise [val_main_v71, val_main_v70, val_main_v69, val_main_v68, val_main_v67, val_main_v66, val_main_v65, val_main_v64, val_main_cst_7]

theorem sum1 (b : Fin 2) (i : Fin 4096) (h : Fin 8) (c : Fin 128) : val_main_v52 X K V (ix4 b i h c)
    = ∑ x, val_main_v7 X (ix4 b x h c) * val_main_v45 X K (ix4 b h i ⟨x, by omega⟩)
      + ∑ x, val_main_v9 V (ix4 b x h c) * val_main_v45 X K (ix4 b h i ⟨4096 + x, by omega⟩) := by
  pointwise [val_main_v52, val_main_v51, val_main_v50, val_main_v49, val_main_v48, val_main_v47, val_main_v46]
theorem sum2 (b : Fin 2) (i : Fin 4096) (h : Fin 8) (c : Fin 128) : val_main_v78 X K V (ix4 b i h c)
    = ∑ x, val_main_v7 X (ix4 b x h c) * val_main_v71 X K (ix4 b h i ⟨x, by omega⟩)
      + ∑ x, val_main_v9 V (ix4 b x h c) * val_main_v71 X K (ix4 b h i ⟨4096 + x, by omega⟩) := by
  pointwise [val_main_v78, val_main_v77, val_main_v76, val_main_v75, val_main_v74, val_main_v73, val_main_v72]

theorem attend1 (b : Fin 2) (h : Fin 8) (i : Fin 4096) {σ : ℕ → ℝ} (hσ : ∀ j, score X K 0 b h i j = (σ j : EReal)) :
    ∃ B : ℝ, ∀ c, val_main_v52 X K V (ix4 b i h c) = attend 4608 σ B (value X V b h c) := by
  have hs : ∀ j : Fin 4608, val_main_v34 X K (ix4 b h i j) = (σ j : EReal) := fun j => (score1 X K b h i j).trans (hσ j)
  obtain ⟨B, hB⟩ := fold_max_coe (by norm_num) (fun j : Fin 4608 => val_main_v34 X K (ix4 b h i j)) (fun j => σ j) hs
  refine ⟨B, fun c => ?_⟩
  rw [sum1]
  simp only [prob1, top1, max1, hB]
  exact attend_eq (a := 4096) (b := 512) rfl σ B (fun j => val_main_v34 X K (ix4 b h i j)) hs (value X V b h c)
    (fun x => val_main_v7 X (ix4 b x h c)) (fun x => val_main_v9 V (ix4 b x h c))
    (fun j => by rw [value_own]; unfold value; rw [dif_pos j.isLt])
    (fun j => by rw [value_cached]; unfold value; rw [dif_neg (by omega), dif_pos (by omega)]; exact congrArg (fun q => V (ix5 b 0 q h c)) (Fin.ext (by simp)))
theorem attend2 (b : Fin 2) (h : Fin 8) (i : Fin 4096) {σ : ℕ → ℝ} (hσ : ∀ j, score X K 1 b h i j = (σ j : EReal)) :
    ∃ B : ℝ, ∀ c, val_main_v78 X K V (ix4 b i h c) = attend 4608 σ B (value X V b h c) := by
  have hs : ∀ j : Fin 4608, val_main_v60 X K (ix4 b h i j) = (σ j : EReal) := fun j => (score2 X K b h i j).trans (hσ j)
  obtain ⟨B, hB⟩ := fold_max_coe (by norm_num) (fun j : Fin 4608 => val_main_v60 X K (ix4 b h i j)) (fun j => σ j) hs
  refine ⟨B, fun c => ?_⟩
  rw [sum2]
  simp only [prob2, top2, max2, hB]
  exact attend_eq (a := 4096) (b := 512) rfl σ B (fun j => val_main_v60 X K (ix4 b h i j)) hs (value X V b h c)
    (fun x => val_main_v7 X (ix4 b x h c)) (fun x => val_main_v9 V (ix4 b x h c))
    (fun j => by rw [value_own]; unfold value; rw [dif_pos j.isLt])
    (fun j => by rw [value_cached]; unfold value; rw [dif_neg (by omega), dif_pos (by omega)]; exact congrArg (fun q => V (ix5 b 0 q h c)) (Fin.ext (by simp)))

theorem weight : val_main_v26 L ix0 = lam (fun x => L (ix3 0 0 x)) (fun x => L (ix3 0 1 x)) (fun x => L (ix3 0 2 x)) (fun x => L (ix3 0 3 x)) := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_cst,
    val_main_cst_0, val_main_cst_1, lam]

theorem difference (b : Fin 2) (i : Fin 4096) (h : Fin 8) (c : Fin 128) : val_main_v81 X K V L (ix4 b i h c)
    = val_main_v52 X K V (ix4 b i h c) - val_main_v26 L ix0 * val_main_v78 X K V (ix4 b i h c) := by
  pointwise [val_main_v81, val_main_v80, val_main_v79]

theorem norm (b : Fin 2) (i : Fin 4096) (h : Fin 8) (c : Fin 128) : val_main_v97 X K V L G (ix4 b i h c)
    = normed (fun x => val_main_v81 X K V L (ix4 b i h x)) (fun x => G (ix2 0 x)) c := by
  pointwise [val_main_v97, val_main_v96, val_main_v95, val_main_v94, val_main_v93, val_main_v92, val_main_v91, val_main_v90, val_main_v89,
    val_main_v88, val_main_v87, val_main_v86, val_main_v85, val_main_v84, val_main_v83, val_main_v82, val_main_cst_8, val_main_cst_9,
    val_main_cst_10, val_main_cst_11, normed]

/-- The reference's entry for batch `b`, latent `i`, head `h`, lane `c`. -/
theorem result (b : Fin 2) (i : Fin 4096) (h : Fin 8) {σ : Fin 2 → ℕ → ℝ} (hσ : ∀ p j, score X K p b h i j = (σ p j : EReal)) :
    ∃ B : Fin 2 → ℝ, ∀ c : Fin 128, val_main_v99 X K V L G (ix2 (row b i) ⟨h * 128 + c, by omega⟩) = entry X K V L G σ B b h c := by
  obtain ⟨B1, h1⟩ := attend1 X K V b h i (hσ 0)
  obtain ⟨B2, h2⟩ := attend2 X K V b h i (hσ 1)
  refine ⟨![B1, B2], fun c => ?_⟩
  have hr : val_main_v99 X K V L G (ix2 (row b i) ⟨h * 128 + c, by omega⟩) = val_main_v97 X K V L G (ix4 b i h c) := by
    unfold row
    pointwise [val_main_v99, val_main_v98]
  rw [hr, norm]
  unfold entry
  refine congrArg (fun o => normed o (fun x => G (ix2 0 x)) c) (funext fun x => ?_)
  rw [difference, h1, h2, weight]
  rfl

end Cert.ReferenceIdeal.Entry

end
-- ==== Proof.Windows.lean ====
/-
  The kernel's input blocks at a grid point, entry by entry in terms of the argument arrays.
-/
module

public import proofs.«01_k».proof.Proof.Spec
public import proofs.«01_k».proof.Proof.Gen.KernelIdeal
public import proofs.«01_k».proof.Proof.Gen.KernelIdeal.Frame
public import proofs.«01_k».proof.Proof.Gen.KernelIdeal.Value
public import Idealize.ShloMosaic.Lib.Pipeline.ValueKit

@[expose] public section

set_option maxRecDepth 16384

noncomputable section

namespace Cert.KernelIdeal.Windows

open Cert.KernelIdeal Cert.KernelIdeal.Gen Idealize.ShloMosaic Idealize.ShloMosaic.TcCoe Cert.Latent

variable (m : (ℓ : Loc nD τ sig) → Buf (Elt Ideal) ℓ) (c : Dev nD)

/-- The arguments on core `c`: projections, cached keys, cached values, the weight's vectors, the gains. -/
abbrev X : Proj := m ((c : Thread nD τ).loc main_arg0)
abbrev K : Cache := m ((c : Thread nD τ).loc main_arg1)
abbrev U : Cache := m ((c : Thread nD τ).loc main_arg2)
abbrev L : Vec Ideal S1x4x64 .f32 := m ((c : Thread nD τ).loc main_arg3)
abbrev G : Vec Ideal S1x128 .f32 := m ((c : Thread nD τ).loc main_arg4)

/-- The point's batch, head and query block. -/
def batch (t : Fin cfg0.N) : Fin 2 := ⟨(grid0.coords t 0).val, (grid0.coords t 0).isLt⟩
def head (t : Fin cfg0.N) : Fin 8 := ⟨(grid0.coords t 1).val, (grid0.coords t 1).isLt⟩
def qblock (t : Fin cfg0.N) : Fin 8 := ⟨(grid0.coords t 2).val, (grid0.coords t 2).isLt⟩
/-- Row `r` of the point's query block, as a latent of the batch. -/
def latent (t : Fin cfg0.N) (r : Fin 512) : Fin 4096 := ⟨qblock t * 512 + r, by omega⟩

theorem e0 : ∀ t : Fin cfg0.N, win0_0.index t = ![(grid0.coords t 0).val * 8 + (grid0.coords t 2).val, (grid0.coords t 1).val] :=
  (by decide +kernel : ∀ t : Fin grid0.N, win0_0.index t = ![(grid0.coords t 0).val * 8 + (grid0.coords t 2).val, (grid0.coords t 1).val])
theorem e1 : ∀ t : Fin cfg0.N, win0_1.index t = ![(grid0.coords t 0).val, 8 + (grid0.coords t 1).val] :=
  (by decide +kernel : ∀ t : Fin grid0.N, win0_1.index t = ![(grid0.coords t 0).val, 8 + (grid0.coords t 1).val])
theorem e2 : ∀ t : Fin cfg0.N, win0_2.index t = ![(grid0.coords t 0).val, 16 + (grid0.coords t 1).val] :=
  (by decide +kernel : ∀ t : Fin grid0.N, win0_2.index t = ![(grid0.coords t 0).val, 16 + (grid0.coords t 1).val])
theorem e3 : ∀ t : Fin cfg0.N, win0_3.index t = ![(grid0.coords t 0).val, 0, (grid0.coords t 1).val] :=
  (by decide +kernel : ∀ t : Fin grid0.N, win0_3.index t = ![(grid0.coords t 0).val, 0, (grid0.coords t 1).val])
theorem e4 : ∀ t : Fin cfg0.N, win0_4.index t = ![(grid0.coords t 0).val, 0, (grid0.coords t 1).val] :=
  (by decide +kernel : ∀ t : Fin grid0.N, win0_4.index t = ![(grid0.coords t 0).val, 0, (grid0.coords t 1).val])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![0, 0] := (by decide +kernel : ∀ t : Fin grid0.N, win0_7.index t = ![0, 0])
theorem e8 : ∀ t : Fin cfg0.N, win0_8.index t = ![(grid0.coords t 0).val * 8 + (grid0.coords t 2).val, (grid0.coords t 1).val] :=
  (by decide +kernel : ∀ t : Fin grid0.N, win0_8.index t = ![(grid0.coords t 0).val * 8 + (grid0.coords t 2).val, (grid0.coords t 1).val])

theorem queries (t : Fin cfg0.N) (r : Fin 512) (x : Fin 128) :
    (iblk m c 0 t : Vec Ideal S512x128 .bf16) (ix2 r x) = X m c (ix2 (row (batch t) (latent t r)) (col 0 (head t) x)) := by
  blk_simp [iblk]
  rw [V_main_arg0]
  unfold row col latent batch head qblock
  blk_ext [e0]

theorem keys (t : Fin cfg0.N) (r : Fin 4096) (x : Fin 128) :
    (iblk m c 1 t : Vec Ideal S4096x128 .bf16) (ix2 r x) = X m c (ix2 (row (batch t) r) (col 1 (head t) x)) := by
  blk_simp [iblk]
  rw [V_main_arg0]
  unfold row col batch head
  blk_ext [e1]

theorem values (t : Fin cfg0.N) (r : Fin 4096) (x : Fin 128) :
    (iblk m c 2 t : Vec Ideal S4096x128 .bf16) (ix2 r x) = X m c (ix2 (row (batch t) r) (col 2 (head t) x)) := by
  blk_simp [iblk]
  rw [V_main_arg0]
  unfold row col batch head
  blk_ext [e2]

theorem V_v5 (b : Fin 2) (j : Fin 512) (h : Fin 8) (x : Fin 128) :
    V m c main_v5 (ix3 b j ⟨h * 128 + x, by omega⟩) = K m c (ix5 b 0 j h x) := by
  have : V m c main_v5 = (truncf (F := Ideal) .bf16 (shapeCast S2x512x1024 (shapeCast S2x512x8x128 (K m c) shapeCasts_S2x1x512x8x128_S2x512x8x128) shapeCasts_S2x512x8x128_S2x512x1024) bitsLt_bf16_f32 : Vec Ideal S2x512x1024 .bf16) := by
    unfold V hostOps0
    after_results_simp <;> rfl
  rw [this]
  pointwise []
theorem V_v8 (b : Fin 2) (j : Fin 512) (h : Fin 8) (x : Fin 128) :
    V m c main_v8 (ix3 b j ⟨h * 128 + x, by omega⟩) = U m c (ix5 b 0 j h x) := by
  have : V m c main_v8 = (truncf (F := Ideal) .bf16 (shapeCast S2x512x1024 (shapeCast S2x512x8x128 (U m c) shapeCasts_S2x1x512x8x128_S2x512x8x128) shapeCasts_S2x512x8x128_S2x512x1024) bitsLt_bf16_f32 : Vec Ideal S2x512x1024 .bf16) := by
    unfold V hostOps0
    after_results_simp <;> rfl
  rw [this]
  pointwise []
theorem V_v0 (p : Fin 4) (x : Fin 64) : V m c main_v0 (ix2 p x) = L m c (ix3 0 p x) := by
  have : V m c main_v0 = (shapeCast S4x64 (L m c) shapeCasts_S1x4x64_S4x64 : Vec Ideal S4x64 .f32) := by
    unfold V hostOps0
    after_results_simp <;> rfl
  rw [this]
  pointwise []
theorem V_v2 (x : Fin 128) : V m c main_v2 (ix2 0 x) = G m c (ix2 0 x) := by
  have : V m c main_v2 = (shapeCast S1x128 (shapeCast S128 (G m c) shapeCasts_S1x128_S128) shapeCasts_S128_S1x128 : Vec Ideal S1x128 .f32) := by
    unfold V hostOps0
    after_results_simp <;> rfl
  rw [this]
  pointwise []
theorem V_cst : V m c main_cst = (fun i => FloatOps.ofBits (F := Ideal) .bf16 (lit0 (S2x128.rowMajor i)) : FVec Ideal S2x128 .bf16) := by
  unfold V hostOps0
  after_results_simp <;> rfl

theorem cached_keys (t : Fin cfg0.N) (j : Fin 512) (x : Fin 128) :
    (iblk m c 3 t : Vec Ideal S1x512x128 .bf16) (ix3 0 j x) = K m c (ix5 (batch t) 0 j (head t) x) := by
  rw [← V_v5]
  blk_simp [iblk]
  unfold batch head
  blk_ext [e3]
theorem cached_values (t : Fin cfg0.N) (j : Fin 512) (x : Fin 128) :
    (iblk m c 4 t : Vec Ideal S1x512x128 .bf16) (ix3 0 j x) = U m c (ix5 (batch t) 0 j (head t) x) := by
  rw [← V_v8]
  blk_simp [iblk]
  unfold batch head
  blk_ext [e4]
theorem vectors (t : Fin cfg0.N) (p : Fin 4) (x : Fin 64) :
    (iblk m c 6 t : Vec Ideal S4x64 .f32) (ix2 p x) = L m c (ix3 0 p x) := by
  rw [← V_v0]
  blk_simp [iblk]
  blk_ext [e6]
theorem gains (t : Fin cfg0.N) (x : Fin 128) :
    (iblk m c 7 t : Vec Ideal S1x128 .f32) (ix2 0 x) = G m c (ix2 0 x) := by
  rw [← V_v2]
  blk_simp [iblk]
  blk_ext [e7]

theorem ofBits_one : Ideal.ofBits .bf16 0x3F80#16 = 1 := by
  simp [Ideal.ofBits, Ideal.ieee]
  rw [← EReal.coe_mul, ← EReal.coe_one]
  norm_num
theorem ofBits_zero : Ideal.ofBits .bf16 0x0000#16 = 0 := by
  simp [Ideal.ofBits, Ideal.ieee]

theorem lit_eq : ∀ i : Fin 256, lit0 i = if (i.val < 64 ∨ 192 ≤ i.val) then 0x3F80#16 else 0x0000#16 := by decide +kernel

theorem lit_at (i : Fin 256) (n : ℕ) (h : i.val = n) : lit0 i = if (n < 64 ∨ 192 ≤ n) then 0x3F80#16 else 0x0000#16 := by
  subst h; exact lit_eq i

/-- Half `p`'s mask: one on the half's lanes, zero elsewhere. -/
theorem masks (t : Fin cfg0.N) (p : Fin 2) (x : Fin 128) :
    (iblk m c 5 t : Vec Ideal S2x128 .bf16) (ix2 p x) = if x.val / 64 = p.val then (1 : EReal) else (0 : EReal) := by
  have h : (iblk m c 5 t : Vec Ideal S2x128 .bf16) (ix2 p x) = V m c main_cst (ix2 p x) := by
    blk_simp [iblk]
    blk_ext [e5]
  rw [h, V_cst]
  have hr : (S2x128.rowMajor (ix2 p x)).val = p * 128 + x := by rw [Shape.rowMajor_val_two]; rfl
  show Ideal.ofBits .bf16 (lit0 (S2x128.rowMajor (ix2 p x))) = _
  refine (congrArg (Ideal.ofBits .bf16) (lit_at _ _ hr)).trans ?_
  split <;> split <;> first | exact ofBits_one | exact ofBits_zero | omega

/-- A masked product over the 128 lanes is the product over the half's 64. -/
theorem masked_dot (w : Fin 128 → EReal) (p : Fin 2) (hw : ∀ x, w x = if x.val / 64 = p.val then 1 else 0) (q k : Fin 128 → EReal) :
    ∑ x, q x * w x * k x = ∑ x : Fin 64, q (lane p x) * k (lane p x) := by
  have hs : ∀ f : Fin 128 → EReal, ∑ x, f x = ∑ x : Fin 64, f (lane 0 x) + ∑ x : Fin 64, f (lane 1 x) := by
    intro f
    rw [show (∑ x : Fin 128, f x) = ∑ x : Fin (64 + 64), f x from rfl, Fin.sum_univ_add]
    refine congrArg₂ (· + ·) (Finset.sum_congr rfl fun x _ => congrArg f (Fin.ext ?_)) (Finset.sum_congr rfl fun x _ => congrArg f (Fin.ext ?_)) <;>
      simp [lane, Nat.add_comm]
  rw [hs]
  have h0 : ∀ (p' : Fin 2) (x : Fin 64), w (lane p' x) = if p' = p then 1 else 0 := by
    intro p' x
    rw [hw]
    have : (lane p' x).val / 64 = p'.val := by simp only [lane]; omega
    rw [this]; simp only [Fin.ext_iff]
  simp only [h0]
  fin_cases p <;> simp

end Cert.KernelIdeal.Windows

end
-- ==== Proof.Value.lean ====
/-
  The kernel's result array is the reference's, when the queries and the keys are finite.
-/
module

public import proofs.«01_k».proof.Proof.Row
public import proofs.«01_k».proof.Proof.Reference
public import proofs.«01_k».proof.Proof.Windows

@[expose] public section

set_option maxRecDepth 16384

noncomputable section

namespace Cert.KernelIdeal.Value

open Cert.KernelIdeal Cert.KernelIdeal.Gen Cert.KernelIdeal.Windows Idealize.ShloMosaic Idealize.ShloMosaic.TcCoe Cert.Latent

variable (m : (ℓ : Loc nD τ sig) → Buf (Elt Ideal) ℓ) (c : Dev nD)

/-- A block computed from these rows of the arguments, entry by entry. -/
theorem block_of {X : Proj} {K U : Cache} {L : Vec Ideal S1x4x64 .f32} {G : Vec Ideal S1x128 .f32} {b : Fin 2} {h : Fin 8} {i : Fin 4096}
    (x0 : Vec Ideal S512x128 .bf16) (x1 x2 : Vec Ideal S4096x128 .bf16) (x3 x4 : Vec Ideal S1x512x128 .bf16) (x5 : Vec Ideal S2x128 .bf16)
    (x6 : Vec Ideal S4x64 .f32) (x7 : Vec Ideal S1x128 .f32) (r : Fin 512)
    (h0 : ∀ y, x0 (ix2 r y) = X (ix2 (row b i) (col 0 h y))) (h1 : ∀ j y, x1 (ix2 j y) = X (ix2 (row b j) (col 1 h y)))
    (h2 : ∀ j y, x2 (ix2 j y) = X (ix2 (row b j) (col 2 h y))) (h3 : ∀ j y, x3 (ix3 0 j y) = K (ix5 b 0 j h y))
    (h4 : ∀ j y, x4 (ix3 0 j y) = U (ix5 b 0 j h y)) (h5 : ∀ p y, x5 (ix2 p y) = if y.val / 64 = p.val then (1 : EReal) else (0 : EReal))
    (h6 : ∀ p y, x6 (ix2 p y) = L (ix3 0 p y)) (h7 : ∀ y, x7 (ix2 0 y) = G (ix2 0 y))
    {σ : Fin 2 → ℕ → ℝ} (B : Fin 2 → ℝ) (hσ : ∀ p j, score X K p b h i j = (σ p j : EReal)) (x : Fin 128) :
    k0_pay1 (Block.diff (k0_pay2 x6) (Block.last x0 x1 x2 x3 x4 x5)) (k0_pay23 x7)
          (shapeCast S512x1 (multiReduction .add [1] S512 (mulf (Block.diff (k0_pay2 x6) (Block.last x0 x1 x2 x3 x4 x5)) (Block.diff (k0_pay2 x6) (Block.last x0 x1 x2 x3 x4 x5))) 0x00000000#32 reduces_S512x128_S512 (.inl rfl) rfl) shapeCasts_S512_S512x1)
          (FloatOps.ofBits FTy.f32 1124073472#32) (ix2 r x)
      = entry X K U L G σ B b h x := by
  have hown : ∀ (p : Fin 2) (j : Fin 4096), ∑ y : Fin 128, x0 (ix2 r y) * x5 (ix2 p y) * x1 (ix2 j y) = (σ p j : EReal) := by
    intro p j
    rw [← hσ, masked_dot (fun y => x5 (ix2 p y)) p (h5 p) (fun y => x0 (ix2 r y)) (fun y => x1 (ix2 j y))]
    unfold score
    rw [dif_pos j.isLt]
    exact Finset.sum_congr rfl fun y _ => congrArg₂ (· * ·) (h0 _) (h1 j _)
  have hcached : ∀ (p : Fin 2) (j : Fin 512), ∑ y : Fin 128, x0 (ix2 r y) * x5 (ix2 p y) * x3 (ix3 0 j y) = (σ p (4096 + j) : EReal) := by
    intro p j
    rw [← hσ, masked_dot (fun y => x5 (ix2 p y)) p (h5 p) (fun y => x0 (ix2 r y)) (fun y => x3 (ix3 0 j y))]
    unfold score
    rw [dif_neg (by omega), dif_pos (by omega)]
    refine Finset.sum_congr rfl fun y _ => congrArg₂ (· * ·) (h0 _) ((h3 j _).trans ?_)
    exact congrArg (fun q => K (ix5 b 0 q h (lane p y))) (Fin.ext (by simp))
  refine (Row.block_apply (V := value X U b h) x0 x1 x2 x3 x4 x5 x6 x7 r (B 0) (B 1) (hown 0) (hown 1)
    (fun y j => (h2 j y).trans ?_) (hcached 0) (hcached 1) (fun y j => (h4 j y).trans ?_) x).trans ?_
  · unfold value; rw [dif_pos j.isLt]
  · unfold value
    rw [dif_neg (by omega), dif_pos (by omega)]
    exact congrArg (fun q => U (ix5 b 0 q h y)) (Fin.ext (by simp))
  · unfold entry
    simp only [h6, h7]

/-- The block a point computes, entry by entry. -/
theorem block (t : Fin cfg0.N) (r : Fin 512) {σ : Fin 2 → ℕ → ℝ} (B : Fin 2 → ℝ)
    (hσ : ∀ p j, score (X m c) (K m c) p (batch t) (head t) (latent t r) j = (σ p j : EReal)) (x : Fin 128) :
    outsAt0 m c t (ix2 r x) = entry (X m c) (K m c) (U m c) (L m c) (G m c) σ B (batch t) (head t) x := by
  unfold outsAt0
  rw [Block.out_eq]
  exact block_of (iblk m c 0 t) (iblk m c 1 t) (iblk m c 2 t) (iblk m c 3 t) (iblk m c 4 t) (iblk m c 5 t) (iblk m c 6 t) (iblk m c 7 t) r
    (queries m c t r) (keys m c t) (values m c t) (cached_keys m c t) (cached_values m c t) (masks m c t) (vectors m c t) (gains m c t) B hσ x

/-- The result array after the run, as the reference's term of the argument arrays. -/
theorem final (H : Finite (X m c) (K m c)) :
    (dats m 0 c).arrAt 8 cfg0.N = Cert.ReferenceIdeal.Read.val_main_v99 (F := Ideal) (X m c) (K m c) (U m c) (L m c) (G m c) := by
  refine (dats m 0 c).arrAt_eq_of_covers 8 _ (by decide +kernel) fun t hf y => ?_
  blk_simp
  rw [after0_8]
  revert y
  show ∀ y : S512x128.Idx, _
  intro y
  obtain ⟨r, x, rfl⟩ : ∃ (r : Fin 512) (x : Fin 128), y = ix2 r x := ⟨y 0, y 1, by funext a; fin_cases a <;> rfl⟩
  have hs : ∀ p : Fin 2, ∃ σ : ℕ → ℝ, ∀ j, score (X m c) (K m c) p (batch t) (head t) (latent t r) j = (σ j : EReal) :=
    fun p => score_real H p _ _ _
  choose σ hσ using hs
  obtain ⟨B, hB⟩ := Cert.ReferenceIdeal.Entry.result (X m c) (K m c) (U m c) (L m c) (G m c) (batch t) (latent t r) (head t) hσ
  have hemb : ((cfg0.win 8).blk t).view.emb (ix2 r x) = ix2 (row (batch t) (latent t r)) ⟨(head t).val * 128 + x, by omega⟩ := by
    unfold row latent batch head qblock
    blk_ext [e8]
  refine (block m c t r B hσ x).trans ((hB x).symm.trans ?_)
  exact congrArg (Cert.ReferenceIdeal.Read.val_main_v99 (F := Ideal) (X m c) (K m c) (U m c) (L m c) (G m c)) hemb.symm

end Cert.KernelIdeal.Value

end
-- ==== Proof.ProjectSpec.lean ====
/-
  What a fused query, key and value projection computes, entry by entry: a token's row is normalised and modulated,
  multiplied with the weights, and each half of a query's or key's head is normalised again.
-/
module

public import Idealize.ShloMosaic.Lib.Pointwise

@[expose] public section

set_option maxRecDepth 16384

noncomputable section

namespace Cert.Projection

open Idealize.ShloMosaic

/-- The constant the roots are kept away from zero by. -/
abbrev eps : EReal := Ideal.ofBits .f32 897988541#32

/-- A row divided by its root mean square, times the gains, times one plus the scales, plus the shifts. -/
def modnorm (x g sc sh : Fin 1024 → EReal) (j : Fin 1024) : EReal :=
  x j * Ideal.rsqrt (Ideal.div (∑ k, x k * x k) (Ideal.ofBits .f32 1149239296#32) + eps) * g j
    * (1 + sc j) + sh j

/-- Half `p` of a group of 128 lanes: its lane `x`. -/
def lane (p : Fin 2) (x : Fin 64) : Fin 128 := ⟨p * 64 + x, by omega⟩

/-- A lane of 128 within its half. -/
def within (x : Fin 128) : Fin 64 := ⟨x % 64, by omega⟩

/-- The half a lane lies in. -/
def half (x : Fin 128) : Fin 2 := ⟨x / 64, by omega⟩

theorem lane_half (x : Fin 128) : lane (half x) (within x) = x := Fin.ext (by simp only [lane, half, within]; omega)

theorem half_lane (p : Fin 2) (x : Fin 64) : half (lane p x) = p := Fin.ext (by simp only [lane, half]; omega)
theorem within_lane (p : Fin 2) (x : Fin 64) : within (lane p x) = x := Fin.ext (by simp only [lane, within]; omega)

/-- The 128 lanes' entry `x`, divided by the root mean square of its half and multiplied with the gain. -/
def halfnorm (y : Fin 128 → EReal) (g : Fin 64 → EReal) (x : Fin 128) : EReal :=
  y x * Ideal.rsqrt (Ideal.div (∑ j : Fin 64, y (lane (half x) j) * y (lane (half x) j)) (Ideal.ofBits .f32 1115684864#32) + eps)
    * g (within x)

/-- The factor of the queries. -/
abbrev eighth : EReal := Ideal.ofBits .f32 1040187392#32

/-- One column of a token's projections: its row normalised and modulated, times the weights' column. -/
def proj {N : ℕ} (x g sc sh : Fin 1024 → EReal) (w : Fin 1024 → Fin N → EReal) (c : Fin N) : EReal :=
  ∑ j, modnorm x g sc sh j * w j c

/-- Lane `x` of group `n` of the projections' columns. -/
def col (n : Fin 24) (x : Fin 128) : Fin 3072 := ⟨n * 128 + x, by omega⟩

/-- The output's entry at column group `n`, lane `x`: queries, then keys, then values. -/
def entry (y : Fin 3072 → EReal) (gq gk : Fin 64 → EReal) (n : Fin 24) (x : Fin 128) : EReal :=
  if n.val < 8 then halfnorm (fun j => y (col n j)) gq x * eighth
  else if n.val < 16 then halfnorm (fun j => y (col n j)) gk x
  else y (col n x)

theorem ofBits_64th : Ideal.ofBits .f32 1015021568#32 = ((1 / 64 : ℝ) : EReal) := by
  simp [Ideal.ofBits, Ideal.ieee]
  rw [← EReal.coe_mul]
  norm_num
theorem ofBits_64 : Ideal.ofBits .f32 1115684864#32 = ((64 : ℝ) : EReal) := by
  simp [Ideal.ofBits, Ideal.ieee]
  rw [← EReal.coe_mul]
  norm_num

/-- Multiplying with 1/64 is dividing by 64. -/
theorem mul_64th (z : EReal) : z * Ideal.ofBits .f32 1015021568#32 = Ideal.div z (Ideal.ofBits .f32 1115684864#32) := by
  rw [ofBits_64th, ofBits_64]
  unfold Ideal.div
  have h : ((64 : ℝ) : EReal) ≠ 0 := by norm_cast
  rw [if_neg h, one_div, EReal.coe_inv]

/-- The sum over the 128 lanes, each weighted by whether it lies in the half of `x`, is the sum over the half. -/
theorem sum_mask (f : Fin 128 → EReal) (b : Fin 128 → EReal) (x : Fin 128)
    (hb : ∀ j : Fin 128, b j = if j.val / 64 = x.val / 64 then 1 else 0) :
    ∑ j, f j * b j = ∑ j : Fin 64, f (lane (half x) j) := by
  have hs : ∀ f : Fin 128 → EReal, ∑ x, f x = ∑ x : Fin 64, f (lane 0 x) + ∑ x : Fin 64, f (lane 1 x) := by
    intro f
    rw [show (∑ x : Fin 128, f x) = ∑ x : Fin (64 + 64), f x from rfl, Fin.sum_univ_add]
    refine congrArg₂ (· + ·) (Finset.sum_congr rfl fun x _ => congrArg f (Fin.ext ?_)) (Finset.sum_congr rfl fun x _ => congrArg f (Fin.ext ?_)) <;>
      simp [lane, Nat.add_comm]
  rw [hs]
  have h0 : ∀ (p : Fin 2) (j : Fin 64), b (lane p j) = if p = half x then 1 else 0 := by
    intro p j
    rw [hb]
    have : (lane p j).val / 64 = p.val := by simp only [lane]; omega
    rw [this]; simp only [Fin.ext_iff, half]
  simp only [h0]
  generalize half x = p
  fin_cases p <;> simp

end Cert.Projection
-- ==== Proof.ProjectBlock.lean ====
/-
  One block of the projections the kernel computes, entry by entry: `Projection.entry` of the block's rows.
-/
module

public import proofs.«01_k».proof.Proof.ProjectSpec
public import proofs.«01_k».proof.Proof.Gen.ProjectIdeal
public import proofs.«01_k».proof.Proof.Gen.ProjectIdeal.Frame
public import proofs.«01_k».proof.Proof.Gen.ProjectIdeal.Value
public import Idealize.ShloMosaic.Lib.Pipeline.ValueKit

@[expose] public section

set_option maxRecDepth 16384

noncomputable section

namespace Cert.ProjectIdeal.Block

open Cert.ProjectIdeal Cert.ProjectIdeal.Gen Idealize.ShloMosaic Cert.Projection

/-- The block's rows normalised, modulated and projected. -/
theorem proj_apply (x : Vec Ideal S512x1024 .f32) (g : Vec Ideal S1x1024 .f32) (sc sh : Vec Ideal S1x1x1024 .f32)
    (w : Vec Ideal S1024x3072 .bf16) (r : Fin 512) (c : Fin 3072) :
    k0_pay1 x g sc sh w (ix2 r c)
      = proj (fun j => x (ix2 r j)) (fun j => g (ix2 0 j)) (fun j => sc (ix3 0 0 j)) (fun j => sh (ix3 0 0 j)) (fun j c => w (ix2 j c)) c := by
  pointwise [k0_pay1]
  rfl

/-- The mask of the two halves: `B` is one where row and column lie in the same half, zero elsewhere. -/
def Halves (B : Vec Ideal S128x128 .f32) : Prop := ∀ j x : Fin 128, B (ix2 j x) = if j.val / 64 = x.val / 64 then 1 else 0

/-- The gains of one half, repeated for both. -/
def Repeats (G : Vec Ideal S1x128 .f32) (g : Fin 64 → EReal) : Prop := ∀ x : Fin 128, G (ix2 0 x) = g (within x)

/-- A group's entry, normalised through the mask, is normalised by its half. -/
theorem masked {B : Vec Ideal S128x128 .f32} {G : Vec Ideal S1x128 .f32} {g : Fin 64 → EReal} (hB : Halves B) (hG : Repeats G g)
    (y : Fin 128 → EReal) (x : Fin 128) :
    y x * Ideal.rsqrt ((∑ j, y j * y j * B (ix2 j x)) * Ideal.ofBits .f32 1015021568#32 + eps) * G (ix2 0 x) = halfnorm y g x := by
  rw [sum_mask (fun j => y j * y j) (fun j => B (ix2 j x)) x (fun j => hB j x), mul_64th, hG]
  rfl

variable (Y : FVec Ideal S512x3072 .f32) (B : Vec Ideal S128x128 .f32) (G : Vec Ideal S1x128 .f32) (g : Fin 64 → EReal)
  (hB : Halves B) (hG : Repeats G g)
include hB hG

theorem query0 (a0 : Vec Ideal S512x1024 .f32) (a : Vec Ideal S1x1024 .f32) (sc sh : Vec Ideal S1x1x1024 .f32) (w : Vec Ideal S1024x3072 .bf16)
    (r : Fin 512) (x : Fin 128) :
    k0_pay6 (k0_pay2 G) (k0_pay3 a0 a sc sh w) (k0_pay4 a0 a sc sh w B) (k0_pay5 (F := Ideal)) (ix2 r x)
      = halfnorm (fun j => k0_pay1 a0 a sc sh w (ix2 r (col 0 j))) g x * eighth := by
  rw [← masked hB hG]
  pointwise [k0_pay6, k0_pay2, k0_pay3, k0_pay4, k0_pay5]
  generalize k0_pay1 a0 a sc sh w = Y
  have e : ∀ x : Fin 128, (⟨x.val, by omega⟩ : Fin 3072) = col 0 x := fun x => Fin.ext (by simp [col])
  simp only [e]
theorem query1 (r : Fin 512) (x : Fin 128) : (k0_pay7 Y B G) (ix2 r x) = halfnorm (fun j => Y (ix2 r (col 1 j))) g x * eighth := by
  rw [← masked hB hG]
  pointwise [k0_pay7]
  rfl
theorem query2 (r : Fin 512) (x : Fin 128) : (k0_pay9 (k0_pay8 Y B G)) (ix2 r x) = halfnorm (fun j => Y (ix2 r (col 2 j))) g x * eighth := by
  rw [← masked hB hG]
  pointwise [k0_pay9, k0_pay8]
  rfl
theorem query3 (r : Fin 512) (x : Fin 128) : (k0_pay10 Y B G) (ix2 r x) = halfnorm (fun j => Y (ix2 r (col 3 j))) g x * eighth := by
  rw [← masked hB hG]
  pointwise [k0_pay10]
  rfl
theorem query4 (r : Fin 512) (x : Fin 128) : (k0_pay11 Y B G) (ix2 r x) = halfnorm (fun j => Y (ix2 r (col 4 j))) g x * eighth := by
  rw [← masked hB hG]
  pointwise [k0_pay11]
  rfl
theorem query5 (r : Fin 512) (x : Fin 128) : (k0_pay12 Y B G) (ix2 r x) = halfnorm (fun j => Y (ix2 r (col 5 j))) g x * eighth := by
  rw [← masked hB hG]
  pointwise [k0_pay12]
  rfl
theorem query6 (r : Fin 512) (x : Fin 128) : (k0_pay13 Y B G) (ix2 r x) = halfnorm (fun j => Y (ix2 r (col 6 j))) g x * eighth := by
  rw [← masked hB hG]
  pointwise [k0_pay13]
  rfl
theorem query7 (r : Fin 512) (x : Fin 128) : (k0_pay17 (k0_pay14 G) (k0_pay15 Y) (k0_pay16 Y B)) (ix2 r x) = halfnorm (fun j => Y (ix2 r (col 7 j))) g x * eighth := by
  rw [← masked hB hG]
  pointwise [k0_pay17, k0_pay14, k0_pay15, k0_pay16]
  rfl
theorem key0 (r : Fin 512) (x : Fin 128) : (k0_pay18 Y B G) (ix2 r x) = halfnorm (fun j => Y (ix2 r (col 8 j))) g x := by
  rw [← masked hB hG]
  pointwise [k0_pay18]
  rfl
theorem key1 (r : Fin 512) (x : Fin 128) : (k0_pay19 Y B G) (ix2 r x) = halfnorm (fun j => Y (ix2 r (col 9 j))) g x := by
  rw [← masked hB hG]
  pointwise [k0_pay19]
  rfl
theorem key2 (r : Fin 512) (x : Fin 128) : (k0_pay23 B (k0_pay20 G) (k0_pay21 Y) (k0_pay22 Y)) (ix2 r x) = halfnorm (fun j => Y (ix2 r (col 10 j))) g x := by
  rw [← masked hB hG]
  pointwise [k0_pay23, k0_pay20, k0_pay21, k0_pay22]
  rfl
theorem key3 (r : Fin 512) (x : Fin 128) : (k0_pay24 Y B G) (ix2 r x) = halfnorm (fun j => Y (ix2 r (col 11 j))) g x := by
  rw [← masked hB hG]
  pointwise [k0_pay24]
  rfl
theorem key4 (r : Fin 512) (x : Fin 128) : (k0_pay25 Y B G) (ix2 r x) = halfnorm (fun j => Y (ix2 r (col 12 j))) g x := by
  rw [← masked hB hG]
  pointwise [k0_pay25]
  rfl
theorem key5 (r : Fin 512) (x : Fin 128) : (k0_pay29 (k0_pay26 G) (k0_pay27 Y) (k0_pay28 Y B) (Scalar.ofBits .f32 0x358637BD#32)) (ix2 r x) = halfnorm (fun j => Y (ix2 r (col 13 j))) g x := by
  rw [← masked hB hG]
  pointwise [k0_pay29, k0_pay26, k0_pay27, k0_pay28]
  rfl
theorem key6 (r : Fin 512) (x : Fin 128) : (k0_pay30 Y B G) (ix2 r x) = halfnorm (fun j => Y (ix2 r (col 14 j))) g x := by
  rw [← masked hB hG]
  pointwise [k0_pay30]
  rfl
theorem key7 (r : Fin 512) (x : Fin 128) : (k0_pay31 Y B G) (ix2 r x) = halfnorm (fun j => Y (ix2 r (col 15 j))) g x := by
  rw [← masked hB hG]
  pointwise [k0_pay31]
  rfl
omit hB hG
theorem value0 (r : Fin 512) (x : Fin 128) : k0_pay32 Y (ix2 r x) = Y (ix2 r (col 16 x)) := by
  pointwise [k0_pay32]
  rfl
theorem value1 (r : Fin 512) (x : Fin 128) : k0_pay33 Y (ix2 r x) = Y (ix2 r (col 17 x)) := by
  pointwise [k0_pay33]
  rfl
theorem value2 (r : Fin 512) (x : Fin 128) : k0_pay34 Y (ix2 r x) = Y (ix2 r (col 18 x)) := by
  pointwise [k0_pay34]
  rfl
theorem value3 (r : Fin 512) (x : Fin 128) : k0_pay35 Y (ix2 r x) = Y (ix2 r (col 19 x)) := by
  pointwise [k0_pay35]
  rfl
theorem value4 (r : Fin 512) (x : Fin 128) : k0_pay36 Y (ix2 r x) = Y (ix2 r (col 20 x)) := by
  pointwise [k0_pay36]
  rfl
theorem value5 (r : Fin 512) (x : Fin 128) : k0_pay37 Y (ix2 r x) = Y (ix2 r (col 21 x)) := by
  pointwise [k0_pay37]
  rfl
theorem value6 (r : Fin 512) (x : Fin 128) : k0_pay38 Y (ix2 r x) = Y (ix2 r (col 22 x)) := by
  pointwise [k0_pay38]
  rfl
theorem value7 (r : Fin 512) (x : Fin 128) : k0_pay39 Y (ix2 r x) = Y (ix2 r (col 23 x)) := by
  pointwise [k0_pay39]
  rfl

variable (x0 : Vec Ideal S512x1024 .f32) (x1 : Vec Ideal S1x6x1024 .f32) (x2 : Vec Ideal S1x1024 .f32) (x3 : Vec Ideal S1024x3072 .bf16)
  (x4 x5 : Vec Ideal S1x128 .f32) (x6 : Vec Ideal S128x128 .f32)

/-- The block's projections: row `r`, all columns. -/
abbrev yrow (r : Fin 512) : Fin 3072 → EReal :=
  proj (fun j => x0 (ix2 r j)) (fun j => x2 (ix2 0 j)) (fun j => x1 (ix3 0 1 j)) (fun j => x1 (ix3 0 0 j)) (fun j c => x3 (ix2 j c))

theorem y_apply (r : Fin 512) (c : Fin 3072) : k0_pay56 x0 x1 x2 x3 x4 x5 x6 (ix2 r c) = yrow x0 x1 x2 x3 r c := by
  have h0 : View.ld x0 r0_0 = x0 := View.ld_unit_lit _ x0 (by decide)
  have h1 : View.ld x2 r0_1 = x2 := View.ld_unit_lit _ x2 (by decide)
  have h4 : View.ld x3 r0_4 = x3 := View.ld_unit_lit _ x3 (by decide)
  have h2 : ∀ j : Fin 1024, View.ld x1 r0_2 (ix3 0 0 j) = x1 (ix3 0 1 j) := fun j => View.ld_unit_apply_of _ _ _ _ _ _ fun a => by fin_cases a <;> simp [ix3]
  have h3 : ∀ j : Fin 1024, View.ld x1 r0_3 (ix3 0 0 j) = x1 (ix3 0 0 j) := fun j => View.ld_unit_apply_of _ _ _ _ _ _ fun a => by fin_cases a <;> simp [ix3]
  unfold k0_pay56
  rw [proj_apply, h0, h1, h4]
  simp only [h2, h3]

theorem ld_gq : View.ld x4 r0_6 = x4 := View.ld_unit_lit _ x4 (by decide)
theorem ld_bd : View.ld x6 r0_5 = x6 := View.ld_unit_lit _ x6 (by decide)

/-- A column of the block as its group's number and its lane. -/
def group (c : Fin 3072) : Fin 24 := ⟨c / 128, by omega⟩
def inner (c : Fin 3072) : Fin 128 := ⟨c % 128, by omega⟩
theorem group_col (n : Fin 24) (x : Fin 128) : group (col n x) = n := Fin.ext (by simp only [group, col]; omega)
theorem inner_col (n : Fin 24) (x : Fin 128) : inner (col n x) = x := Fin.ext (by simp only [inner, col]; omega)

/-- The concatenated block. -/
def E7 (gq gk : Fin 64 → EReal) : Vec Ideal S512x3072 .bf16 := fun i => entry (yrow x0 x1 x2 x3 (i 0)) gq gk (group (i 1)) (inner (i 1))

theorem E7_col (gq gk : Fin 64 → EReal) (r : Fin 512) (n : Fin 24) (x : Fin 128) :
    E7 x0 x1 x2 x3 gq gk (ix2 r (col n x)) = entry (yrow x0 x1 x2 x3 r) gq gk n x := by
  show entry (yrow x0 x1 x2 x3 r) gq gk (group (col n x)) (inner (col n x)) = _
  rw [group_col, inner_col]

/-- A piece of the concatenated block is group `n`. -/
theorem in_group (gq gk : Fin 64 → EReal) (n : Fin 24) (off : ℕ) (inb : ∀ a, (![0, off] : Fin 2 → ℕ) a + S512x128.size a ≤ S512x3072.size a)
    (p : Vec Ideal S512x128 .bf16) (ho : off = n.val * 128)
    (h : ∀ (r : Fin 512) (x : Fin 128), p (ix2 r x) = entry (yrow x0 x1 x2 x3 r) gq gk n x) :
    ∀ i : S512x128.Idx, p i = E7 x0 x1 x2 x3 gq gk ((Rect.unit (s := S512x3072) ![0, off] S512x128.size inb).emb i) := by
  intro i
  obtain ⟨r, x, rfl⟩ : ∃ (r : Fin 512) (x : Fin 128), i = ix2 r x := ⟨i 0, i 1, by funext a; fin_cases a <;> rfl⟩
  rw [h, ← E7_col]
  refine congrArg (E7 x0 x1 x2 x3 gq gk) (funext fun a => Fin.ext ?_)
  subst ho
  fin_cases a
  · show r.val = 0 + 1 * r.val; omega
  · show n.val * 128 + x.val = n.val * 128 + 1 * x.val; omega

theorem canon7 {gq gk : Fin 64 → EReal} (hB : Halves x6) (hq : Repeats x4 gq) (hk : Repeats x5 gk) (i : S512x3072.Idx) :
    out0_7 x0 x1 x2 x3 x4 x5 x6 i = E7 x0 x1 x2 x3 gq gk i := by
  unfold out0_7
  refine View.canon_apply_of_pieces (E7 x0 x1 x2 x3 gq gk) _ ?_ i (cover0_7 _ _ _ _ _ _ _ _ _ _ _ _ _ _ _ _ _ _ _ _ _ _ _ _ i)
  intro pc hpc
  rcases List.mem_cons.mp hpc with rfl | hpc
  · refine in_group x0 x1 x2 x3 gq gk 23 2944 inb_S512x3072_S512x128_0_2944 _ (by decide) fun r x => ?_
    show k0_pay55 (k0_pay72 x0 x1 x2 x3 x4 x5 x6) (ix2 r x) = yrow x0 x1 x2 x3 r (col 23 x)
    rw [← y_apply x0 x1 x2 x3 x4 x5 x6]
    exact value7 (k0_pay56 x0 x1 x2 x3 x4 x5 x6) r x
  rcases List.mem_cons.mp hpc with rfl | hpc
  · refine in_group x0 x1 x2 x3 gq gk 22 2816 inb_S512x3072_S512x128_0_2816 _ (by decide) fun r x => ?_
    show k0_pay54 (k0_pay71 x0 x1 x2 x3 x4 x5 x6) (ix2 r x) = yrow x0 x1 x2 x3 r (col 22 x)
    rw [← y_apply x0 x1 x2 x3 x4 x5 x6]
    exact value6 (k0_pay56 x0 x1 x2 x3 x4 x5 x6) r x
  rcases List.mem_cons.mp hpc with rfl | hpc
  · refine in_group x0 x1 x2 x3 gq gk 21 2688 inb_S512x3072_S512x128_0_2688 _ (by decide) fun r x => ?_
    show k0_pay53 (k0_pay70 x0 x1 x2 x3 x4 x5 x6) (ix2 r x) = yrow x0 x1 x2 x3 r (col 21 x)
    rw [← y_apply x0 x1 x2 x3 x4 x5 x6]
    exact value5 (k0_pay56 x0 x1 x2 x3 x4 x5 x6) r x
  rcases List.mem_cons.mp hpc with rfl | hpc
  · refine in_group x0 x1 x2 x3 gq gk 20 2560 inb_S512x3072_S512x128_0_2560 _ (by decide) fun r x => ?_
    show k0_pay52 (k0_pay69 x0 x1 x2 x3 x4 x5 x6) (ix2 r x) = yrow x0 x1 x2 x3 r (col 20 x)
    rw [← y_apply x0 x1 x2 x3 x4 x5 x6]
    exact value4 (k0_pay56 x0 x1 x2 x3 x4 x5 x6) r x
  rcases List.mem_cons.mp hpc with rfl | hpc
  · refine in_group x0 x1 x2 x3 gq gk 19 2432 inb_S512x3072_S512x128_0_2432 _ (by decide) fun r x => ?_
    show k0_pay51 (k0_pay68 x0 x1 x2 x3 x4 x5 x6) (ix2 r x) = yrow x0 x1 x2 x3 r (col 19 x)
    rw [← y_apply x0 x1 x2 x3 x4 x5 x6]
    exact value3 (k0_pay56 x0 x1 x2 x3 x4 x5 x6) r x
  rcases List.mem_cons.mp hpc with rfl | hpc
  · refine in_group x0 x1 x2 x3 gq gk 18 2304 inb_S512x3072_S512x128_0_2304 _ (by decide) fun r x => ?_
    show k0_pay50 (k0_pay67 x0 x1 x2 x3 x4 x5 x6) (ix2 r x) = yrow x0 x1 x2 x3 r (col 18 x)
    rw [← y_apply x0 x1 x2 x3 x4 x5 x6]
    exact value2 (k0_pay56 x0 x1 x2 x3 x4 x5 x6) r x
  rcases List.mem_cons.mp hpc with rfl | hpc
  · refine in_group x0 x1 x2 x3 gq gk 17 2176 inb_S512x3072_S512x128_0_2176 _ (by decide) fun r x => ?_
    show k0_pay49 (k0_pay66 x0 x1 x2 x3 x4 x5 x6) (ix2 r x) = yrow x0 x1 x2 x3 r (col 17 x)
    rw [← y_apply x0 x1 x2 x3 x4 x5 x6]
    exact value1 (k0_pay56 x0 x1 x2 x3 x4 x5 x6) r x
  rcases List.mem_cons.mp hpc with rfl | hpc
  · refine in_group x0 x1 x2 x3 gq gk 16 2048 inb_S512x3072_S512x128_0_2048 _ (by decide) fun r x => ?_
    show k0_pay48 (k0_pay65 x0 x1 x2 x3 x4 x5 x6) (ix2 r x) = yrow x0 x1 x2 x3 r (col 16 x)
    rw [← y_apply x0 x1 x2 x3 x4 x5 x6]
    exact value0 (k0_pay56 x0 x1 x2 x3 x4 x5 x6) r x
  rcases List.mem_cons.mp hpc with rfl | hpc
  · refine in_group x0 x1 x2 x3 gq gk 15 1920 inb_S512x3072_S512x128_0_1920 _ (by decide) fun r x => ?_
    refine (key7 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 14 1792 inb_S512x3072_S512x128_0_1792 _ (by decide) fun r x => ?_
    refine (key6 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 13 1664 inb_S512x3072_S512x128_0_1664 _ (by decide) fun r x => ?_
    refine (key5 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 12 1536 inb_S512x3072_S512x128_0_1536 _ (by decide) fun r x => ?_
    refine (key4 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 11 1408 inb_S512x3072_S512x128_0_1408 _ (by decide) fun r x => ?_
    refine (key3 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 10 1280 inb_S512x3072_S512x128_0_1280 _ (by decide) fun r x => ?_
    refine (key2 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 9 1152 inb_S512x3072_S512x128_0_1152 _ (by decide) fun r x => ?_
    refine (key1 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 8 1024 inb_S512x3072_S512x128_0_1024 _ (by decide) fun r x => ?_
    refine (key0 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_group x0 x1 x2 x3 gq gk 7 896 inb_S512x3072_S512x128_0_896 _ (by decide) fun r x => ?_
    refine (query7 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 6 768 inb_S512x3072_S512x128_0_768 _ (by decide) fun r x => ?_
    refine (query6 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 5 640 inb_S512x3072_S512x128_0_640 _ (by decide) fun r x => ?_
    refine (query5 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 4 512 inb_S512x3072_S512x128_0_512 _ (by decide) fun r x => ?_
    refine (query4 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 3 384 inb_S512x3072_S512x128_0_384 _ (by decide) fun r x => ?_
    refine (query3 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 2 256 inb_S512x3072_S512x128_0_256 _ (by decide) fun r x => ?_
    refine (query2 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 1 128 inb_S512x3072_S512x128_0_128 _ (by decide) fun r x => ?_
    refine (query1 (k0_pay56 x0 x1 x2 x3 x4 x5 x6) (View.ld x6 r0_5) (View.ld x4 r0_6) gq (by rw [ld_bd]; exact hB) (by rw [ld_gq]; exact hq) r x).trans ?_
    simp only [y_apply]
    rfl
  rcases List.mem_cons.mp hpc with rfl | hpc
  · refine in_group x0 x1 x2 x3 gq gk 0 0 inb_S512x3072_S512x128_0_0 _ (by decide) fun r x => ?_
    refine (query0 (View.ld x6 r0_5) (View.ld x4 r0_6) gq (by rw [ld_bd]; exact hB) (by rw [ld_gq]; exact hq) _ _ _ _ _ r x).trans ?_
    have e : ∀ c, k0_pay1 (View.ld x0 r0_0) (View.ld x2 r0_1) (View.ld x1 r0_2) (View.ld x1 r0_3) (View.ld x3 r0_4) (ix2 r c) = yrow x0 x1 x2 x3 r c :=
      y_apply x0 x1 x2 x3 x4 x5 x6 r
    simp only [e]
    rfl
  exact absurd hpc List.not_mem_nil

/-- The key and value blocks: group `o + n` of the projections at group `n`. -/
def E8 (gk : Fin 64 → EReal) : Vec Ideal S512x1024 .f32 := fun i =>
  halfnorm (fun j => yrow x0 x1 x2 x3 (i 0) (col ⟨8 + (i 1).val / 128, by have := (i 1).isLt; dsimp at this; omega⟩ j)) gk ⟨(i 1).val % 128, by omega⟩
def E9 : Vec Ideal S512x1024 .f32 := fun i =>
  yrow x0 x1 x2 x3 (i 0) (col ⟨16 + (i 1).val / 128, by have := (i 1).isLt; dsimp at this; omega⟩ ⟨(i 1).val % 128, by omega⟩)

theorem E8_col (gk : Fin 64 → EReal) (r : Fin 512) (n : Fin 8) (x : Fin 128) :
    E8 x0 x1 x2 x3 gk (ix2 r ⟨n * 128 + x, by omega⟩) = halfnorm (fun j => yrow x0 x1 x2 x3 r (col ⟨8 + n, by omega⟩ j)) gk x := by
  have h1 : (⟨8 + (n.val * 128 + x.val) / 128, by omega⟩ : Fin 24) = ⟨8 + n.val, by omega⟩ := Fin.ext (by dsimp only; omega)
  have h2 : (⟨(n.val * 128 + x.val) % 128, by omega⟩ : Fin 128) = x := Fin.ext (by dsimp only; omega)
  show halfnorm (fun j => yrow x0 x1 x2 x3 r (col ⟨8 + (n.val * 128 + x.val) / 128, _⟩ j)) gk ⟨(n.val * 128 + x.val) % 128, _⟩ = _
  rw [h1, h2]
theorem E9_col (r : Fin 512) (n : Fin 8) (x : Fin 128) :
    E9 x0 x1 x2 x3 (ix2 r ⟨n * 128 + x, by omega⟩) = yrow x0 x1 x2 x3 r (col ⟨16 + n, by omega⟩ x) := by
  have h1 : (⟨16 + (n.val * 128 + x.val) / 128, by omega⟩ : Fin 24) = ⟨16 + n.val, by omega⟩ := Fin.ext (by dsimp only; omega)
  have h2 : (⟨(n.val * 128 + x.val) % 128, by omega⟩ : Fin 128) = x := Fin.ext (by dsimp only; omega)
  show yrow x0 x1 x2 x3 r (col ⟨16 + (n.val * 128 + x.val) / 128, _⟩ ⟨(n.val * 128 + x.val) % 128, _⟩) = _
  rw [h1, h2]

omit x0 x1 x2 x3 x4 x5 x6 in
/-- A piece of the key or value block is one group of it. -/
theorem in_head (E : Vec Ideal S512x1024 .f32) (n : Fin 8) (off : ℕ) (inb : ∀ a, (![0, off] : Fin 2 → ℕ) a + S512x128.size a ≤ S512x1024.size a)
    (p : Vec Ideal S512x128 .f32) (ho : off = n.val * 128)
    (h : ∀ (r : Fin 512) (x : Fin 128), p (ix2 r x) = E (ix2 r ⟨n * 128 + x, by omega⟩)) :
    ∀ i : S512x128.Idx, p i = E ((Rect.unit (s := S512x1024) ![0, off] S512x128.size inb).emb i) := by
  intro i
  obtain ⟨r, x, rfl⟩ : ∃ (r : Fin 512) (x : Fin 128), i = ix2 r x := ⟨i 0, i 1, by funext a; fin_cases a <;> rfl⟩
  rw [h]
  refine congrArg E (funext fun a => Fin.ext ?_)
  subst ho
  fin_cases a
  · show r.val = 0 + 1 * r.val; omega
  · show n.val * 128 + x.val = n.val * 128 + 1 * x.val; omega

theorem canon8 {gk : Fin 64 → EReal} (hB : Halves x6) (hk : Repeats x5 gk) (i : S512x1024.Idx) :
    out0_8 x0 x1 x2 x3 x4 x5 x6 i = E8 x0 x1 x2 x3 gk i := by
  unfold out0_8
  refine View.canon_apply_of_pieces (E8 x0 x1 x2 x3 gk) _ ?_ i (cover0_8 _ _ _ _ _ _ _ _ i)
  intro pc hpc
  rcases List.mem_cons.mp hpc with rfl | hpc
  · refine in_head (E8 x0 x1 x2 x3 gk) 7 896 inb_S512x1024_S512x128_0_896 _ (by decide) fun r x => ?_
    rw [E8_col]
    refine (key7 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 6 768 inb_S512x1024_S512x128_0_768 _ (by decide) fun r x => ?_
    rw [E8_col]
    refine (key6 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 5 640 inb_S512x1024_S512x128_0_640 _ (by decide) fun r x => ?_
    rw [E8_col]
    refine (key5 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 4 512 inb_S512x1024_S512x128_0_512 _ (by decide) fun r x => ?_
    rw [E8_col]
    refine (key4 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 3 384 inb_S512x1024_S512x128_0_384 _ (by decide) fun r x => ?_
    rw [E8_col]
    refine (key3 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 2 256 inb_S512x1024_S512x128_0_256 _ (by decide) fun r x => ?_
    rw [E8_col]
    refine (key2 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 1 128 inb_S512x1024_S512x128_0_128 _ (by decide) fun r x => ?_
    rw [E8_col]
    refine (key1 (k0_pay56 x0 x1 x2 x3 x4 x5 x6) (View.ld x6 r0_5) (View.ld x5 r0_6) gk (by rw [ld_bd]; exact hB) (by rw [ld_gq]; exact hk) r x).trans ?_
    simp only [y_apply]
    rfl
  rcases List.mem_cons.mp hpc with rfl | hpc
  · refine in_head (E8 x0 x1 x2 x3 gk) 0 0 inb_S512x1024_S512x128_0_0 _ (by decide) fun r x => ?_
    rw [E8_col]
    refine (key0 (k0_pay56 x0 x1 x2 x3 x4 x5 x6) (View.ld x6 r0_5) (View.ld x5 r0_6) gk (by rw [ld_bd]; exact hB) (by rw [ld_gq]; exact hk) r x).trans ?_
    simp only [y_apply]
    rfl
  exact absurd hpc List.not_mem_nil

theorem canon9 (i : S512x1024.Idx) : out0_9 x0 x1 x2 x3 x4 x5 x6 i = E9 x0 x1 x2 x3 i := by
  unfold out0_9
  refine View.canon_apply_of_pieces (E9 x0 x1 x2 x3) _ ?_ i (cover0_9 _ _ _ _ _ _ _ _ i)
  intro pc hpc
  rcases List.mem_cons.mp hpc with rfl | hpc
  · refine in_head (E9 x0 x1 x2 x3) 7 896 inb_S512x1024_S512x128_0_896 _ (by decide) fun r x => ?_
    rw [E9_col, ← y_apply x0 x1 x2 x3 x4 x5 x6]
    exact value7 (k0_pay56 x0 x1 x2 x3 x4 x5 x6) r x
  rcases List.mem_cons.mp hpc with rfl | hpc
  · refine in_head (E9 x0 x1 x2 x3) 6 768 inb_S512x1024_S512x128_0_768 _ (by decide) fun r x => ?_
    rw [E9_col, ← y_apply x0 x1 x2 x3 x4 x5 x6]
    exact value6 (k0_pay56 x0 x1 x2 x3 x4 x5 x6) r x
  rcases List.mem_cons.mp hpc with rfl | hpc
  · refine in_head (E9 x0 x1 x2 x3) 5 640 inb_S512x1024_S512x128_0_640 _ (by decide) fun r x => ?_
    rw [E9_col, ← y_apply x0 x1 x2 x3 x4 x5 x6]
    exact value5 (k0_pay56 x0 x1 x2 x3 x4 x5 x6) r x
  rcases List.mem_cons.mp hpc with rfl | hpc
  · refine in_head (E9 x0 x1 x2 x3) 4 512 inb_S512x1024_S512x128_0_512 _ (by decide) fun r x => ?_
    rw [E9_col, ← y_apply x0 x1 x2 x3 x4 x5 x6]
    exact value4 (k0_pay56 x0 x1 x2 x3 x4 x5 x6) r x
  rcases List.mem_cons.mp hpc with rfl | hpc
  · refine in_head (E9 x0 x1 x2 x3) 3 384 inb_S512x1024_S512x128_0_384 _ (by decide) fun r x => ?_
    rw [E9_col, ← y_apply x0 x1 x2 x3 x4 x5 x6]
    exact value3 (k0_pay56 x0 x1 x2 x3 x4 x5 x6) r x
  rcases List.mem_cons.mp hpc with rfl | hpc
  · refine in_head (E9 x0 x1 x2 x3) 2 256 inb_S512x1024_S512x128_0_256 _ (by decide) fun r x => ?_
    rw [E9_col, ← y_apply x0 x1 x2 x3 x4 x5 x6]
    exact value2 (k0_pay56 x0 x1 x2 x3 x4 x5 x6) r x
  rcases List.mem_cons.mp hpc with rfl | hpc
  · refine in_head (E9 x0 x1 x2 x3) 1 128 inb_S512x1024_S512x128_0_128 _ (by decide) fun r x => ?_
    rw [E9_col, ← y_apply x0 x1 x2 x3 x4 x5 x6]
    exact value1 (k0_pay56 x0 x1 x2 x3 x4 x5 x6) r x
  rcases List.mem_cons.mp hpc with rfl | hpc
  · refine in_head (E9 x0 x1 x2 x3) 0 0 inb_S512x1024_S512x128_0_0 _ (by decide) fun r x => ?_
    rw [E9_col, ← y_apply x0 x1 x2 x3 x4 x5 x6]
    exact value0 (k0_pay56 x0 x1 x2 x3 x4 x5 x6) r x
  exact absurd hpc List.not_mem_nil

end Cert.ProjectIdeal.Block

end
-- ==== Proof.ProjectMask.lean ====
/-
  The table of the projection kernel's mask: one where row and column lie in the same half of the 128 lanes.
-/
module

public import proofs.«01_k».proof.Proof.Gen.ProjectIdeal

@[expose] public section

set_option maxRecDepth 16384

namespace Cert.ProjectIdeal.Mask

open Cert.ProjectIdeal Idealize.ShloMosaic

/-- The mask's bits. -/
theorem lit_eq : ∀ k : Fin 16384, lit0 k = if k.val / 128 / 64 = k.val % 128 / 64 then 0x3F800000#32 else 0x00000000#32 := by decide +kernel
theorem lit_at (k : Fin 16384) (p x : Fin 128) (h : k.val = p * 128 + x) : lit0 k = if p.val / 64 = x.val / 64 then 0x3F800000#32 else 0x00000000#32 := by
  rw [lit_eq, show k.val / 128 = p by omega, show k.val % 128 = x by omega]

end Cert.ProjectIdeal.Mask

end
-- ==== Proof.ProjectWindows.lean ====
/-
  The projection kernel's input blocks at a grid point, entry by entry in terms of the argument arrays.
-/
module

public import proofs.«01_k».proof.Proof.ProjectSpec
public import proofs.«01_k».proof.Proof.ProjectMask
public import proofs.«01_k».proof.Proof.Gen.ProjectIdeal
public import proofs.«01_k».proof.Proof.Gen.ProjectIdeal.Frame
public import proofs.«01_k».proof.Proof.Gen.ProjectIdeal.Value
public import Idealize.ShloMosaic.Lib.Pipeline.ValueKit

@[expose] public section

set_option maxRecDepth 16384

noncomputable section

namespace Cert.ProjectIdeal.Windows

open Cert.ProjectIdeal Cert.ProjectIdeal.Gen Idealize.ShloMosaic Idealize.ShloMosaic.TcCoe Cert.Projection

variable (m : (ℓ : Loc nD τ sig) → Buf (Elt Ideal) ℓ) (c : Dev nD)

/-- The arguments on core `c`: activations, modulation, gains of the rows, weights, gains of the queries and of the keys. -/
abbrev X : Vec Ideal S16384x1024 .f32 := m ((c : Thread nD τ).loc main_arg0)
abbrev M : Vec Ideal S8x6x1024 .f32 := m ((c : Thread nD τ).loc main_arg1)
abbrev G : Vec Ideal S1024 .f32 := m ((c : Thread nD τ).loc main_arg2)
abbrev W : Vec Ideal S1024x3072 .f32 := m ((c : Thread nD τ).loc main_arg3)
abbrev gq : Vec Ideal S64 .f32 := m ((c : Thread nD τ).loc main_arg4)
abbrev gk : Vec Ideal S64 .f32 := m ((c : Thread nD τ).loc main_arg5)

/-- The point's tile of rows. -/
def tile (t : Fin cfg0.N) : Fin 16 := ⟨(grid0.coords t 0).val, (grid0.coords t 0).isLt⟩

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0, 0] := (by decide +kernel : ∀ t : Fin grid0.N, win0_1.index t = ![0, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![(grid0.coords t 0).val, 0] :=
  (by decide +kernel : ∀ t : Fin grid0.N, win0_7.index t = ![(grid0.coords t 0).val, 0])
theorem e8 : ∀ t : Fin cfg0.N, win0_8.index t = ![(grid0.coords t 0).val, 0] :=
  (by decide +kernel : ∀ t : Fin grid0.N, win0_8.index t = ![(grid0.coords t 0).val, 0])
theorem e9 : ∀ t : Fin cfg0.N, win0_9.index t = ![(grid0.coords t 0).val, 0] :=
  (by decide +kernel : ∀ t : Fin grid0.N, win0_9.index t = ![(grid0.coords t 0).val, 0])

theorem ofBits_one : Ideal.ofBits .f32 0x3F800000#32 = 1 := by
  simp [Ideal.ofBits, Ideal.ieee]
  rw [← EReal.coe_mul, ← EReal.coe_one]
  norm_num
theorem ofBits_zero : Ideal.ofBits .f32 0x00000000#32 = 0 := by
  simp [Ideal.ofBits, Ideal.ieee]

theorem rows (t : Fin cfg0.N) (r : Fin 512) (j : Fin 1024) :
    (iblk m c 0 t : Vec Ideal S512x1024 .f32) (ix2 r j) = X m c (ix2 ⟨tile t * 512 + r, by omega⟩ j) := by
  blk_simp [iblk]
  rw [V_main_arg0]
  unfold tile
  blk_ext [e0]

theorem modulation (t : Fin cfg0.N) (p : Fin 6) (j : Fin 1024) :
    (iblk m c 1 t : Vec Ideal S1x6x1024 .f32) (ix3 0 p j) = M m c (ix3 0 p j) := by
  blk_simp [iblk]
  rw [V_main_arg1]
  blk_ext [e1]

theorem V_v0 (j : Fin 1024) : V m c main_v0 (ix2 0 j) = G m c (ix1 j) := by
  have : V m c main_v0 = (shapeCast S1x1024 (G m c) shapeCasts_S1024_S1x1024 : Vec Ideal S1x1024 .f32) := by
    unfold V hostOps0
    after_results_simp <;> rfl
  rw [this]
  pointwise []
theorem V_v1 (j : Fin 1024) (k : Fin 3072) : V m c main_v1 (ix2 j k) = W m c (ix2 j k) := by
  have : V m c main_v1 = (truncf (F := Ideal) .bf16 (W m c) bitsLt_bf16_f32 : Vec Ideal S1024x3072 .bf16) := by
    unfold V hostOps0
    after_results_simp <;> rfl
  rw [this]
  pointwise []
/-- The gains of one half, written twice. -/
theorem twice (g : Vec Ideal S64 .f32) (x : Fin 128) :
    (shapeCast S1x128 (concatenate S128 0 [⟨S64, g⟩, ⟨S64, g⟩] concatenates_S64_S64_S128_d0) shapeCasts_S128_S1x128 : Vec Ideal S1x128 .f32) (ix2 0 x)
      = g (ix1 (within x)) := by
  pointwise []
  split
  next h => exact congrArg g (congrArg ix1 (Fin.ext (by simp only [within]; omega)))
  next h => exact congrArg g (congrArg ix1 (Fin.ext (by simp only [within]; omega)))
theorem V_v3 (x : Fin 128) : V m c main_v3 (ix2 0 x) = gq m c (ix1 (within x)) := by
  have : V m c main_v3 = (shapeCast S1x128 (concatenate S128 0 [⟨S64, gq m c⟩, ⟨S64, gq m c⟩] concatenates_S64_S64_S128_d0) shapeCasts_S128_S1x128 : Vec Ideal S1x128 .f32) := by
    unfold V hostOps0
    after_results_simp <;> rfl
  rw [this, twice]
theorem V_v5 (x : Fin 128) : V m c main_v5 (ix2 0 x) = gk m c (ix1 (within x)) := by
  have : V m c main_v5 = (shapeCast S1x128 (concatenate S128 0 [⟨S64, gk m c⟩, ⟨S64, gk m c⟩] concatenates_S64_S64_S128_d0) shapeCasts_S128_S1x128 : Vec Ideal S1x128 .f32) := by
    unfold V hostOps0
    after_results_simp <;> rfl
  rw [this, twice]
theorem V_cst : V m c main_cst = (fun i => FloatOps.ofBits (F := Ideal) .f32 (lit0 (S128x128.rowMajor i)) : FVec Ideal S128x128 .f32) := by
  unfold V hostOps0
  after_results_simp <;> rfl

theorem gains (t : Fin cfg0.N) (j : Fin 1024) : (iblk m c 2 t : Vec Ideal S1x1024 .f32) (ix2 0 j) = G m c (ix1 j) := by
  rw [← V_v0]
  blk_simp [iblk]
  blk_ext [e2]
theorem weights (t : Fin cfg0.N) (j : Fin 1024) (k : Fin 3072) : (iblk m c 3 t : Vec Ideal S1024x3072 .bf16) (ix2 j k) = W m c (ix2 j k) := by
  rw [← V_v1]
  blk_simp [iblk]
  blk_ext [e3]

theorem mask (t : Fin cfg0.N) (j x : Fin 128) :
    (iblk m c 6 t : Vec Ideal S128x128 .f32) (ix2 j x) = if j.val / 64 = x.val / 64 then (1 : EReal) else (0 : EReal) := by
  have h : (iblk m c 6 t : Vec Ideal S128x128 .f32) (ix2 j x) = V m c main_cst (ix2 j x) := by
    blk_simp [iblk]
    blk_ext [e6]
  rw [h, V_cst]
  have hr : (S128x128.rowMajor (ix2 j x)).val = j * 128 + x := by rw [Shape.rowMajor_val_two]; rfl
  show Ideal.ofBits .f32 (lit0 (S128x128.rowMajor (ix2 j x))) = _
  refine (congrArg (Ideal.ofBits .f32) (Mask.lit_at _ _ _ hr)).trans ?_
  split
  · exact ofBits_one
  · exact ofBits_zero

theorem query_gains (t : Fin cfg0.N) (x : Fin 128) : (iblk m c 4 t : Vec Ideal S1x128 .f32) (ix2 0 x) = gq m c (ix1 (within x)) := by
  rw [← V_v3]
  blk_simp [iblk]
  blk_ext [e4]
theorem key_gains (t : Fin cfg0.N) (x : Fin 128) : (iblk m c 5 t : Vec Ideal S1x128 .f32) (ix2 0 x) = gk m c (ix1 (within x)) := by
  rw [← V_v5]
  blk_simp [iblk]
  blk_ext [e5]

end Cert.ProjectIdeal.Windows

end
-- ==== Proof.ProjectReference.lean ====
/-
  The results of the reference's projections, entry by entry: `Projection.entry` of the tokens' rows.
-/
module

public import proofs.«01_k».proof.Proof.ProjectSpec
public import proofs.«01_k».proof.Proof.Gen.ProjectReferenceIdeal
public import proofs.«01_k».proof.Proof.Gen.ProjectReferenceIdeal.Read

@[expose] public section
set_option maxRecDepth 16384

noncomputable section

namespace Cert.ProjectReferenceIdeal.Entry

open Cert.ProjectReferenceIdeal.Read Cert.ProjectReferenceIdeal Cert.ProjectReferenceIdeal.Gen Idealize.ShloMosaic Cert.Projection

variable (X : Vec Ideal S16384x1024 .f32) (M : Vec Ideal S8x6x1024 .f32) (G : Vec Ideal S1024 .f32) (W : Vec Ideal S1024x3072 .f32)
  (gq gk : Vec Ideal S64 .f32)

theorem rows (b : Fin 32) (s : Fin 256) (j : Fin 1024) : val_main_v1 X (ix3 b s j) = X (ix2 ⟨b * 256 + s, by omega⟩ j) := by
  pointwise [val_main_v1, val_main_v0]

/-- The context's token `b`, `s` as a row of the activations. -/
def tok (b : Fin 32) (s : Fin 256) : Fin 16384 := ⟨b * 256 + s, by omega⟩

theorem normed (b : Fin 32) (s : Fin 256) (j : Fin 1024) : val_main_v26 X M G (ix3 b s j)
    = modnorm (fun j => X (ix2 (tok b s) j)) (fun j => G (ix1 j)) (fun j => M (ix3 0 1 j)) (fun j => M (ix3 0 0 j)) j := by
  pointwise [val_main_v26, val_main_v25, val_main_v24, val_main_v23, val_main_v22, val_main_v21, val_main_v20, val_main_v19, val_main_v18, val_main_v17, val_main_v16, val_main_v15, val_main_v14, val_main_v2, val_main_v3, val_main_v4, val_main_v5, val_main_cst_2, val_main_v13, val_main_v12, val_main_v11, val_main_v10, val_main_v9, val_main_v8, val_main_v7, val_main_v6, val_main_cst, val_main_cst_0, val_main_cst_1]
  simp only [rows]
  rfl

/-- The projections' columns at a context token. -/
abbrev y (b : Fin 32) (s : Fin 256) : Fin 3072 → EReal :=
  proj (fun j => X (ix2 (tok b s) j)) (fun j => G (ix1 j)) (fun j => M (ix3 0 1 j)) (fun j => M (ix3 0 0 j)) (fun j c => W (ix2 j c))

theorem projected (b : Fin 32) (s : Fin 256) (c : Fin 3072) : val_main_v27 X M G W (ix3 b s c) = y X M G W b s c := by
  pointwise [val_main_v27]
  simp only [normed]
  rfl

theorem query (b : Fin 32) (s : Fin 256) (h : Fin 8) (p : Fin 2) (x : Fin 64) :
    val_main_v31 X M G W (ix5 b s h p x) = y X M G W b s (col ⟨h, by omega⟩ (lane p x)) := by
  pointwise [val_main_v31, val_main_v28]
  rw [projected]
  exact congrArg (y X M G W b s) (Fin.ext (by simp [col, lane]; omega))

theorem key (b : Fin 32) (s : Fin 256) (h : Fin 8) (p : Fin 2) (x : Fin 64) :
    val_main_v45 X M G W (ix5 b s h p x) = y X M G W b s (col ⟨8 + h, by omega⟩ (lane p x)) := by
  pointwise [val_main_v45, val_main_v29]
  rw [projected]
  exact congrArg (y X M G W b s) (Fin.ext (by simp [col, lane]; omega))

theorem query_normed (b : Fin 32) (s : Fin 256) (h : Fin 8) (p : Fin 2) (x : Fin 64) :
    val_main_v60 X M G W gq (ix5 b s h p x) = halfnorm (fun j => y X M G W b s (col ⟨h, by omega⟩ j)) (fun j => gq (ix1 j)) (lane p x) * eighth := by
  pointwise [val_main_v60, val_main_v59, val_main_cst_9, val_main_v44, val_main_v43, val_main_v42, val_main_v41, val_main_v40, val_main_v39, val_main_v38, val_main_v37, val_main_v36, val_main_v35, val_main_v34, val_main_v33, val_main_v32, val_main_cst_3, val_main_cst_4, val_main_cst_5]
  simp only [query]
  unfold halfnorm
  rw [half_lane, within_lane]

theorem key_normed (b : Fin 32) (s : Fin 256) (h : Fin 8) (p : Fin 2) (x : Fin 64) :
    val_main_v58 X M G W gk (ix5 b s h p x) = halfnorm (fun j => y X M G W b s (col ⟨8 + h, by omega⟩ j)) (fun j => gk (ix1 j)) (lane p x) := by
  pointwise [val_main_v58, val_main_v57, val_main_v56, val_main_v55, val_main_v54, val_main_v53, val_main_v52, val_main_v51, val_main_v50, val_main_v49, val_main_v48, val_main_v47, val_main_v46, val_main_cst_6, val_main_cst_7, val_main_cst_8]
  simp only [key]
  unfold halfnorm
  rw [half_lane, within_lane]

/-- The key result. -/
theorem keys (b : Fin 32) (s : Fin 256) (h : Fin 8) (x : Fin 128) :
    val_main_v62 X M G W gk (ix2 ⟨b * 256 + s, by omega⟩ ⟨h * 128 + x, by omega⟩)
      = halfnorm (fun j => y X M G W b s (col ⟨8 + h, by omega⟩ j)) (fun j => gk (ix1 j)) x := by
  have e := key_normed X M G W gk b s h (half x) (within x)
  rw [lane_half] at e
  rw [← e]
  pointwise [val_main_v62]
  exact congrArg₂ (fun p q => val_main_v58 X M G W gk (ix5 b s h p q)) (Fin.ext (by simp [half]; omega)) (Fin.ext (by simp [within]; omega))

/-- The scaled queries. -/
theorem queries (b : Fin 32) (s : Fin 256) (h : Fin 8) (x : Fin 128) :
    val_main_v61 X M G W gq (ix2 ⟨b * 256 + s, by omega⟩ ⟨h * 128 + x, by omega⟩)
      = halfnorm (fun j => y X M G W b s (col ⟨h, by omega⟩ j)) (fun j => gq (ix1 j)) x * eighth := by
  have e := query_normed X M G W gq b s h (half x) (within x)
  rw [lane_half] at e
  rw [← e]
  pointwise [val_main_v61]
  exact congrArg₂ (fun p q => val_main_v60 X M G W gq (ix5 b s h p q)) (Fin.ext (by simp [half]; omega)) (Fin.ext (by simp [within]; omega))

/-- The value result. -/
theorem values (b : Fin 32) (s : Fin 256) (h : Fin 8) (x : Fin 128) :
    val_main_v63 X M G W (ix2 ⟨b * 256 + s, by omega⟩ ⟨h * 128 + x, by omega⟩) = y X M G W b s (col ⟨16 + h, by omega⟩ x) := by
  pointwise [val_main_v63, val_main_v30]
  rw [projected]
  exact congrArg (y X M G W b s) (Fin.ext (by simp [col]; omega))

theorem lt_keys (k : Fin 8) : 8 + k.val < 24 := by omega
theorem lt_values (k : Fin 8) : 16 + k.val < 24 := by omega

/-- The concatenated result. -/
theorem result (b : Fin 32) (s : Fin 256) (n : Fin 24) (x : Fin 128) :
    val_main_v65 X M G W gq gk (ix2 ⟨b * 256 + s, by omega⟩ (col n x))
      = entry (y X M G W b s) (fun j => gq (ix1 j)) (fun j => gk (ix1 j)) n x := by
  unfold entry
  have hn := n.isLt
  have hx := x.isLt
  rw [val_main_v65_apply, show ∀ z : EReal, FloatOps.truncf (F := Ideal) (φ := .f32) .bf16 bitsLt_bf16_f32 z = z from fun _ => rfl]
  split
  next h =>
    rw [← queries X M G W gq b s ⟨n, h⟩ x]
    unfold col
    pointwise [val_main_v64]
    rw [dif_pos (by omega)]
  split
  next h _ =>
    obtain ⟨k, rfl⟩ : ∃ k : Fin 8, n = ⟨8 + k, lt_keys k⟩ := ⟨⟨n - 8, by omega⟩, Fin.ext (by simp; omega)⟩
    rw [← keys X M G W gk b s k x]
    unfold col
    pointwise [val_main_v64]
    rw [dif_neg (by omega), dif_pos (by omega)]
    exact congrArg (fun q => val_main_v62 X M G W gk (ix2 _ q)) (Fin.ext (by simp; omega))
  next h _ =>
    obtain ⟨k, rfl⟩ : ∃ k : Fin 8, n = ⟨16 + k, lt_values k⟩ := ⟨⟨n - 16, by omega⟩, Fin.ext (by simp; omega)⟩
    rw [← values X M G W b s k x]
    unfold col
    pointwise [val_main_v64]
    rw [dif_neg (by omega), dif_neg (by omega)]
    exact congrArg (fun q => val_main_v63 X M G W (ix2 _ q)) (Fin.ext (by simp; omega))

end Cert.ProjectReferenceIdeal.Entry

end
-- ==== Proof.ProjectValue.lean ====
/-
  The projection kernel's results after its run, as the reference's terms of the argument arrays.
-/
module

public import proofs.«01_k».proof.Proof.ProjectBlock
public import proofs.«01_k».proof.Proof.ProjectWindows
public import proofs.«01_k».proof.Proof.ProjectReference

@[expose] public section

set_option maxRecDepth 16384

noncomputable section

namespace Cert.ProjectIdeal.Final

open Cert.ProjectIdeal Cert.ProjectIdeal.Gen Cert.ProjectIdeal.Windows Idealize.ShloMosaic Idealize.ShloMosaic.TcCoe Cert.Projection
open Cert.ProjectReferenceIdeal.Read (val_main_v65 val_main_v62 val_main_v63)

variable (m : (ℓ : Loc nD τ sig) → Buf (Elt Ideal) ℓ) (c : Dev nD)

/-- Row `r` of the point's tile, as a row of the results and as the reference's batch and position. -/
def row (t : Fin cfg0.N) (r : Fin 512) : Fin 8192 := ⟨tile t * 512 + r, by omega⟩
def batch (t : Fin cfg0.N) (r : Fin 512) : Fin 32 := ⟨(tile t * 512 + r) / 256, by omega⟩
def position (t : Fin cfg0.N) (r : Fin 512) : Fin 256 := ⟨(tile t * 512 + r) % 256, by omega⟩

theorem row_eq (t : Fin cfg0.N) (r : Fin 512) : (⟨batch t r * 256 + position t r, by omega⟩ : Fin 8192) = row t r :=
  Fin.ext (by simp only [batch, position, row]; omega)

/-- The block's projections are the reference's. -/
theorem yrow_eq (t : Fin cfg0.N) (r : Fin 512) :
    Block.yrow (iblk m c 0 t) (iblk m c 1 t) (iblk m c 2 t) (iblk m c 3 t) r
      = Cert.ProjectReferenceIdeal.Entry.y (X m c) (M m c) (G m c) (W m c) (batch t r) (position t r) := by
  have e : (⟨tile t * 512 + r, by omega⟩ : Fin 16384) = Cert.ProjectReferenceIdeal.Entry.tok (batch t r) (position t r) :=
    Fin.ext (by simp only [batch, position, Cert.ProjectReferenceIdeal.Entry.tok]; omega)
  have h0 : ∀ j, (iblk m c 0 t : Vec Ideal S512x1024 .f32) (ix2 r j) = X m c (ix2 (Cert.ProjectReferenceIdeal.Entry.tok (batch t r) (position t r)) j) :=
    fun j => by rw [rows, e]
  unfold Block.yrow Cert.ProjectReferenceIdeal.Entry.y
  rw [funext h0, funext (gains m c t), funext (modulation m c t 1), funext (modulation m c t 0),
    funext fun j => funext (weights m c t j)]

theorem out7 : (dats m 0 c).arrAt 7 cfg0.N = val_main_v65 (F := Ideal) (X m c) (M m c) (G m c) (W m c) (gq m c) (gk m c) := by
  refine (dats m 0 c).arrAt_eq_of_covers 7 _ (by decide +kernel) fun t hf y => ?_
  blk_simp
  rw [after0_7]
  revert y
  show ∀ y : S512x3072.Idx, _
  intro y
  obtain ⟨r, n, x, rfl⟩ : ∃ (r : Fin 512) (n : Fin 24) (x : Fin 128), y = ix2 r (col n x) :=
    ⟨y 0, Block.group (y 1), Block.inner (y 1), by
      funext a
      fin_cases a
      · rfl
      · exact Fin.ext (by show (y 1).val = (y 1).val / 128 * 128 + (y 1).val % 128; omega)⟩
  have hemb : ((cfg0.win 7).blk t).view.emb (ix2 r (col n x)) = ix2 (row t r) (col n x) := by
    unfold row tile
    blk_ext [e7]
  refine (Block.canon7 (iblk m c 0 t) (iblk m c 1 t) (iblk m c 2 t) (iblk m c 3 t) (iblk m c 4 t) (iblk m c 5 t) (iblk m c 6 t)
    (gq := fun j => gq m c (ix1 j)) (gk := fun j => gk m c (ix1 j)) (mask m c t) (query_gains m c t) (key_gains m c t) _).trans ?_
  rw [Block.E7_col, yrow_eq, ← Cert.ProjectReferenceIdeal.Entry.result, row_eq]
  exact congrArg (val_main_v65 (F := Ideal) (X m c) (M m c) (G m c) (W m c) (gq m c) (gk m c)) hemb.symm

theorem split (y : S512x1024.Idx) : ∃ (r : Fin 512) (n : Fin 8) (x : Fin 128), y = ix2 r ⟨n * 128 + x, by omega⟩ :=
  ⟨y 0, ⟨(y 1).val / 128, by have : (y 1).val < 1024 := (y 1).isLt; omega⟩, ⟨(y 1).val % 128, by omega⟩, by
    funext a
    fin_cases a
    · rfl
    · exact Fin.ext (by show (y 1).val = (y 1).val / 128 * 128 + (y 1).val % 128; omega)⟩

theorem out8 : (dats m 0 c).arrAt 8 cfg0.N = val_main_v62 (F := Ideal) (X m c) (M m c) (G m c) (W m c) (gk m c) := by
  refine (dats m 0 c).arrAt_eq_of_covers 8 _ (by decide +kernel) fun t hf y => ?_
  blk_simp
  rw [after0_8]
  revert y
  show ∀ y : S512x1024.Idx, _
  intro y
  obtain ⟨r, n, x, rfl⟩ := split y
  have hemb : ((cfg0.win 8).blk t).view.emb (ix2 r ⟨n * 128 + x, by omega⟩) = ix2 (row t r) ⟨n * 128 + x, by omega⟩ := by
    unfold row tile
    blk_ext [e8]
  refine (Block.canon8 (iblk m c 0 t) (iblk m c 1 t) (iblk m c 2 t) (iblk m c 3 t) (iblk m c 4 t) (iblk m c 5 t) (iblk m c 6 t)
    (gk := fun j => gk m c (ix1 j)) (mask m c t) (key_gains m c t) _).trans ?_
  rw [Block.E8_col, yrow_eq, ← Cert.ProjectReferenceIdeal.Entry.keys, row_eq]
  exact congrArg (val_main_v62 (F := Ideal) (X m c) (M m c) (G m c) (W m c) (gk m c)) hemb.symm

theorem out9 : (dats m 0 c).arrAt 9 cfg0.N = val_main_v63 (F := Ideal) (X m c) (M m c) (G m c) (W m c) := by
  refine (dats m 0 c).arrAt_eq_of_covers 9 _ (by decide +kernel) fun t hf y => ?_
  blk_simp
  rw [after0_9]
  revert y
  show ∀ y : S512x1024.Idx, _
  intro y
  obtain ⟨r, n, x, rfl⟩ := split y
  have hemb : ((cfg0.win 9).blk t).view.emb (ix2 r ⟨n * 128 + x, by omega⟩) = ix2 (row t r) ⟨n * 128 + x, by omega⟩ := by
    unfold row tile
    blk_ext [e9]
  refine (Block.canon9 (iblk m c 0 t) (iblk m c 1 t) (iblk m c 2 t) (iblk m c 3 t) (iblk m c 4 t) (iblk m c 5 t) (iblk m c 6 t) _).trans ?_
  rw [Block.E9_col, yrow_eq, ← Cert.ProjectReferenceIdeal.Entry.values, row_eq]
  exact congrArg (val_main_v63 (F := Ideal) (X m c) (M m c) (G m c) (W m c)) hemb.symm

end Cert.ProjectIdeal.Final

end
-- ==== Proof.ProjectPacked.lean ====
/-
  The packed results of the four projections that follow the contexts' one: the kernels' mask, doubled gains and
  rotation tables against each half of a head, and which group of lanes holds what.
-/
module

public import proofs.«01_k».proof.Proof.ProjectSpec

@[expose] public section

set_option maxRecDepth 16384

noncomputable section

namespace Cert.Projection

open Idealize.ShloMosaic

/-- The mask of the two halves: one where row and column lie in the same half, zero elsewhere. -/
def Halves (b : Fin 128 → Fin 128 → EReal) : Prop := ∀ j x : Fin 128, b j x = if j.val / 64 = x.val / 64 then 1 else 0

/-- The gains of one half, repeated for both. -/
def Repeats (G : Fin 128 → EReal) (g : Fin 64 → EReal) : Prop := ∀ x : Fin 128, G x = g (within x)

/-- A group's entry, normalised through the mask, is normalised by its half. -/
theorem masked_apply {b : Fin 128 → Fin 128 → EReal} {G : Fin 128 → EReal} {g : Fin 64 → EReal} (hB : Halves b) (hG : Repeats G g)
    (y : Fin 128 → EReal) (x : Fin 128) :
    y x * Ideal.rsqrt ((∑ j, y j * y j * b j x) * Ideal.ofBits .f32 1015021568#32 + eps) * G x = halfnorm y g x := by
  rw [sum_mask (fun j => y j * y j) (fun j => b j x) x (fun j => hB j x), mul_64th, hG]
  rfl

/-- The lane 16 above and the lane 16 below, around the 128. -/
def up (x : Fin 128) : Fin 128 := ⟨(x + 128 - 112) % 128, by omega⟩
def down (x : Fin 128) : Fin 128 := ⟨(x + 128 - 16) % 128, by omega⟩

/-- The same lane of the other half. -/
def other (x : Fin 128) : Fin 128 := ⟨(x + 128 - 64) % 128, by omega⟩

/-- The rotation of each 32 lanes: lane `x` of the first 16 goes with the lane 16 above, negated, lane `x` of the last 16
    with the lane 16 below. -/
def turn (y : Fin 128 → EReal) (co si : Fin 64 → EReal) (x : Fin 128) : EReal :=
  y x * co (within x) + (if x.val % 32 < 16 then -y (up x) else y (down x)) * si (within x)

/-- The three tables of a row: the cosines of both halves, the negated sines on the first 16 of each 32 lanes, and the
    sines on the last 16. -/
def Tables (C A D : Fin 128 → EReal) (co si : Fin 64 → EReal) : Prop :=
  ∀ x : Fin 128, C x = co (within x) ∧ A x = (if x.val % 32 < 16 then -si (within x) else 0) ∧ D x = (if x.val % 32 < 16 then 0 else si (within x))

/-- The rotation through the three tables. -/
theorem turned {C A D : Fin 128 → EReal} {co si : Fin 64 → EReal} (h : Tables C A D co si) (y : Fin 128 → EReal) (x : Fin 128) :
    y x * C x + y (up x) * A x + y (down x) * D x = turn y co si x := by
  obtain ⟨hC, hA, hD⟩ := h x
  rw [hC, hA, hD]
  unfold turn
  split
  · rw [mul_zero, add_zero, mul_neg, neg_mul]
  · rw [mul_zero, add_zero]

/-- Equal arguments give equal values. -/
theorem congr3 {α β γ δ : Type} (f : α → β → γ → δ) {a a' : α} {b b' : β} {c c' : γ} (ha : a = a') (hb : b = b') (hc : c = c') :
    f a b c = f a' b' c' := by
  rw [ha, hb, hc]

/-- Lane `x` of group `n` of 1536 columns, and of 2048. -/
def wcol (n : Fin 12) (x : Fin 128) : Fin 1536 := ⟨n * 128 + x, by omega⟩
def ocol (n : Fin 16) (x : Fin 128) : Fin 2048 := ⟨n * 128 + x, by omega⟩

/-- The output's entry at group `n` of 24, lane `x`: queries through `fq`, then keys through `fk`, then values. -/
def packed (y : Fin 3072 → EReal) (fq fk : (Fin 128 → EReal) → Fin 128 → EReal) (n : Fin 24) (x : Fin 128) : EReal :=
  if n.val < 8 then fq (fun j => y (col n j)) x * eighth
  else if n.val < 16 then fk (fun j => y (col n j)) x
  else y (col n x)

/-- The output's entry at group `n` of 16, lane `x`: eight groups of queries, two of keys, the same with their halves
    exchanged, two of values, the same with their halves exchanged. -/
def windowed (y : Fin 1536 → EReal) (fq fk : (Fin 128 → EReal) → Fin 128 → EReal) (n : Fin 16) (x : Fin 128) : EReal :=
  if _ : n.val < 8 then fq (fun j => y (wcol ⟨n, by omega⟩ j)) x * eighth
  else if _ : n.val < 10 then fk (fun j => y (wcol ⟨n, by omega⟩ j)) x
  else if _ : n.val < 12 then fk (fun j => y (wcol ⟨n - 2, by omega⟩ j)) (other x)
  else if _ : n.val < 14 then y (wcol ⟨n - 2, by omega⟩ x)
  else y (wcol ⟨n - 4, by omega⟩ (other x))

end Cert.Projection

end
-- ==== Proof.LatentProjectBlock.lean ====
/-
  One block of the latents' projection of layer 2, entry by entry: `Projection.packed` of the block's rows.
-/
module

public import proofs.«01_k».proof.Proof.ProjectPacked
public import proofs.«01_k».proof.Proof.Gen.LatentProjectIdeal
public import proofs.«01_k».proof.Proof.Gen.LatentProjectIdeal.Frame
public import proofs.«01_k».proof.Proof.Gen.LatentProjectIdeal.Value
public import Idealize.ShloMosaic.Lib.Pipeline.ValueKit

@[expose] public section

set_option maxRecDepth 16384

noncomputable section

namespace Cert.LatentProjectIdeal.Block

open Cert.LatentProjectIdeal Cert.LatentProjectIdeal.Gen Idealize.ShloMosaic Cert.Projection

/-- The block's rows normalised, modulated and projected. -/
theorem proj_apply (x : Vec Ideal S512x1024 .f32) (g : Vec Ideal S1x1024 .f32) (sc sh : Vec Ideal S1x1x1024 .f32)
    (w : Vec Ideal S1024x3072 .bf16) (r : Fin 512) (c : Fin 3072) :
    k0_pay3 x g sc sh w (ix2 r c)
      = proj (fun j => x (ix2 r j)) (fun j => g (ix2 0 j)) (fun j => sc (ix3 0 0 j)) (fun j => sh (ix3 0 0 j)) (fun j c => w (ix2 j c)) c := by
  pointwise [k0_pay3]
  rfl

variable (Y : FVec Ideal S512x3072 .f32) (B : Vec Ideal S128x128 .f32) (G : Vec Ideal S1x128 .f32) (g : Fin 64 → EReal)
  (hB : Halves fun j x => B (ix2 j x)) (hG : Repeats (fun x => G (ix2 0 x)) g)
include hB hG
theorem query7_0 (a0 : Vec Ideal S512x1024 .f32) (a1 : Vec Ideal S1x1024 .f32) (a2 a3 : Vec Ideal S1x1x1024 .f32) (a4 : Vec Ideal S1024x3072 .bf16)
    (r : Fin 512) (x : Fin 128) :
    k0_pay8 (k0_pay4 G) (k0_pay5 a0 a1 a2 a3 a4) (k0_pay6 a0 a1 a2 a3 a4 B) (k0_pay7 (F := Ideal)) (ix2 r x)
      = halfnorm (fun j => (k0_pay3 a0 a1 a2 a3 a4) (ix2 r (col 0 j))) g x * eighth := by
  rw [← masked_apply hB hG]
  pointwise [k0_pay4, k0_pay5, k0_pay6, k0_pay7, k0_pay8]
  generalize k0_pay3 a0 a1 a2 a3 a4 = Y
  have e : ∀ x : Fin 128, (⟨x.val, by omega⟩ : Fin 3072) = col 0 x := fun x => Fin.ext (by simp [col])
  simp only [e]
theorem query7_1 (r : Fin 512) (x : Fin 128) :
    k0_pay9 Y B G (ix2 r x)
      = halfnorm (fun j => Y (ix2 r (col 1 j))) g x * eighth := by
  rw [← masked_apply hB hG]
  pointwise [k0_pay9]
  rfl
theorem query7_2 (r : Fin 512) (x : Fin 128) :
    k0_pay11 (k0_pay10 Y B G) (ix2 r x)
      = halfnorm (fun j => Y (ix2 r (col 2 j))) g x * eighth := by
  rw [← masked_apply hB hG]
  pointwise [k0_pay10, k0_pay11]
  rfl
theorem query7_3 (r : Fin 512) (x : Fin 128) :
    k0_pay12 Y B G (ix2 r x)
      = halfnorm (fun j => Y (ix2 r (col 3 j))) g x * eighth := by
  rw [← masked_apply hB hG]
  pointwise [k0_pay12]
  rfl
theorem query7_4 (r : Fin 512) (x : Fin 128) :
    k0_pay13 Y B G (ix2 r x)
      = halfnorm (fun j => Y (ix2 r (col 4 j))) g x * eighth := by
  rw [← masked_apply hB hG]
  pointwise [k0_pay13]
  rfl
theorem query7_5 (r : Fin 512) (x : Fin 128) :
    k0_pay14 Y B G (ix2 r x)
      = halfnorm (fun j => Y (ix2 r (col 5 j))) g x * eighth := by
  rw [← masked_apply hB hG]
  pointwise [k0_pay14]
  rfl
theorem query7_6 (r : Fin 512) (x : Fin 128) :
    k0_pay15 Y B G (ix2 r x)
      = halfnorm (fun j => Y (ix2 r (col 6 j))) g x * eighth := by
  rw [← masked_apply hB hG]
  pointwise [k0_pay15]
  rfl
theorem query7_7 (r : Fin 512) (x : Fin 128) :
    k0_pay19 (k0_pay16 G) (k0_pay17 Y) (k0_pay18 Y B) (ix2 r x)
      = halfnorm (fun j => Y (ix2 r (col 7 j))) g x * eighth := by
  rw [← masked_apply hB hG]
  pointwise [k0_pay16, k0_pay17, k0_pay18, k0_pay19]
  rfl
theorem key7_8 (r : Fin 512) (x : Fin 128) :
    k0_pay42 (k0_pay20 Y B G) (ix2 r x)
      = halfnorm (fun j => Y (ix2 r (col 8 j))) g x := by
  rw [← masked_apply hB hG]
  pointwise [k0_pay20, k0_pay42]
  rfl
theorem key7_9 (r : Fin 512) (x : Fin 128) :
    k0_pay43 (k0_pay21 Y B G) (ix2 r x)
      = halfnorm (fun j => Y (ix2 r (col 9 j))) g x := by
  rw [← masked_apply hB hG]
  pointwise [k0_pay21, k0_pay43]
  rfl
theorem key7_10 (r : Fin 512) (x : Fin 128) :
    k0_pay44 (k0_pay25 B (k0_pay22 G) (k0_pay23 Y) (k0_pay24 Y)) (ix2 r x)
      = halfnorm (fun j => Y (ix2 r (col 10 j))) g x := by
  rw [← masked_apply hB hG]
  pointwise [k0_pay22, k0_pay23, k0_pay24, k0_pay25, k0_pay44]
  rfl
theorem key7_11 (r : Fin 512) (x : Fin 128) :
    k0_pay45 (k0_pay26 Y B G) (ix2 r x)
      = halfnorm (fun j => Y (ix2 r (col 11 j))) g x := by
  rw [← masked_apply hB hG]
  pointwise [k0_pay26, k0_pay45]
  rfl
theorem key7_12 (r : Fin 512) (x : Fin 128) :
    k0_pay46 (k0_pay27 Y B G) (ix2 r x)
      = halfnorm (fun j => Y (ix2 r (col 12 j))) g x := by
  rw [← masked_apply hB hG]
  pointwise [k0_pay27, k0_pay46]
  rfl
theorem key7_13 (r : Fin 512) (x : Fin 128) :
    k0_pay47 (k0_pay31 (k0_pay28 G) (k0_pay29 Y) (k0_pay30 Y B) (Scalar.ofBits .f32 0x358637BD#32)) (ix2 r x)
      = halfnorm (fun j => Y (ix2 r (col 13 j))) g x := by
  rw [← masked_apply hB hG]
  pointwise [k0_pay28, k0_pay29, k0_pay30, k0_pay31, k0_pay47]
  rfl
theorem key7_14 (r : Fin 512) (x : Fin 128) :
    k0_pay48 (k0_pay32 Y B G) (ix2 r x)
      = halfnorm (fun j => Y (ix2 r (col 14 j))) g x := by
  rw [← masked_apply hB hG]
  pointwise [k0_pay32, k0_pay48]
  rfl
theorem key7_15 (r : Fin 512) (x : Fin 128) :
    k0_pay49 (k0_pay33 Y B G) (ix2 r x)
      = halfnorm (fun j => Y (ix2 r (col 15 j))) g x := by
  rw [← masked_apply hB hG]
  pointwise [k0_pay33, k0_pay49]
  rfl
omit hB hG
theorem value7_16 (r : Fin 512) (x : Fin 128) :
    k0_pay50 (k0_pay34 Y) (ix2 r x)
      = Y (ix2 r (col 16 x)) := by
  pointwise [k0_pay34, k0_pay50]
  rfl
theorem value7_17 (r : Fin 512) (x : Fin 128) :
    k0_pay51 (k0_pay35 Y) (ix2 r x)
      = Y (ix2 r (col 17 x)) := by
  pointwise [k0_pay35, k0_pay51]
  rfl
theorem value7_18 (r : Fin 512) (x : Fin 128) :
    k0_pay52 (k0_pay36 Y) (ix2 r x)
      = Y (ix2 r (col 18 x)) := by
  pointwise [k0_pay36, k0_pay52]
  rfl
theorem value7_19 (r : Fin 512) (x : Fin 128) :
    k0_pay53 (k0_pay37 Y) (ix2 r x)
      = Y (ix2 r (col 19 x)) := by
  pointwise [k0_pay37, k0_pay53]
  rfl
theorem value7_20 (r : Fin 512) (x : Fin 128) :
    k0_pay54 (k0_pay38 Y) (ix2 r x)
      = Y (ix2 r (col 20 x)) := by
  pointwise [k0_pay38, k0_pay54]
  rfl
theorem value7_21 (r : Fin 512) (x : Fin 128) :
    k0_pay55 (k0_pay39 Y) (ix2 r x)
      = Y (ix2 r (col 21 x)) := by
  pointwise [k0_pay39, k0_pay55]
  rfl
theorem value7_22 (r : Fin 512) (x : Fin 128) :
    k0_pay1 (k0_pay40 Y) (ix2 r x)
      = Y (ix2 r (col 22 x)) := by
  pointwise [k0_pay1, k0_pay40]
  rfl
theorem value7_23 (r : Fin 512) (x : Fin 128) :
    k0_pay2 (k0_pay41 Y) (ix2 r x)
      = Y (ix2 r (col 23 x)) := by
  pointwise [k0_pay2, k0_pay41]
  rfl

variable (x0 : Vec Ideal S512x1024 .f32) (x1 : Vec Ideal S1x6x1024 .f32) (x2 : Vec Ideal S1x1024 .f32) (x3 : Vec Ideal S1024x3072 .bf16)
  (x4 x5 : Vec Ideal S1x128 .f32) (x6 : Vec Ideal S128x128 .f32)

/-- The block's projections: row `r`, all columns. -/
abbrev yrow (r : Fin 512) : Fin 3072 → EReal :=
  proj (fun j => x0 (ix2 r j)) (fun j => x2 (ix2 0 j)) (fun j => x1 (ix3 0 1 j)) (fun j => x1 (ix3 0 0 j)) (fun j c => x3 (ix2 j c))

theorem y_apply (r : Fin 512) (c : Fin 3072) : k0_pay56 x0 x1 x2 x3 x4 x5 x6 (ix2 r c) = yrow x0 x1 x2 x3 r c := by
  have h0 : View.ld x0 r0_0 = x0 := View.ld_unit_lit _ x0 (by decide)
  have h1 : View.ld x2 r0_1 = x2 := View.ld_unit_lit _ x2 (by decide)
  have h4 : View.ld x3 r0_4 = x3 := View.ld_unit_lit _ x3 (by decide)
  have h2 : ∀ j : Fin 1024, View.ld x1 r0_2 (ix3 0 0 j) = x1 (ix3 0 1 j) := fun j => View.ld_unit_apply_of _ _ _ _ _ _ fun a => by fin_cases a <;> simp [ix3]
  have h3 : ∀ j : Fin 1024, View.ld x1 r0_3 (ix3 0 0 j) = x1 (ix3 0 0 j) := fun j => View.ld_unit_apply_of _ _ _ _ _ _ fun a => by fin_cases a <;> simp [ix3]
  unfold k0_pay56
  rw [proj_apply, h0, h1, h4]
  simp only [h2, h3]

theorem ld_gains : View.ld x4 r0_6 = x4 := View.ld_unit_lit _ x4 (by decide)
theorem ld_mask : View.ld x6 r0_5 = x6 := View.ld_unit_lit _ x6 (by decide)

/-- A column of the block as its group's number and its lane. -/
def group (c : Fin 3072) : Fin 24 := ⟨c / 128, by omega⟩
def inner (c : Fin 3072) : Fin 128 := ⟨c % 128, by omega⟩
theorem group_col (n : Fin 24) (x : Fin 128) : group (col n x) = n := Fin.ext (by simp only [group, col]; omega)
theorem inner_col (n : Fin 24) (x : Fin 128) : inner (col n x) = x := Fin.ext (by simp only [inner, col]; omega)

/-- The concatenated block. -/
def E (gq gk : Fin 64 → EReal) : Vec Ideal S512x3072 .bf16 := fun i =>
  packed (yrow x0 x1 x2 x3 (i 0)) (fun y => halfnorm y gq) (fun y => halfnorm y gk) (group (i 1)) (inner (i 1))

theorem E_col (gq gk : Fin 64 → EReal) (r : Fin 512) (n : Fin 24) (x : Fin 128) :
    E x0 x1 x2 x3 gq gk (ix2 r (col n x)) = packed (yrow x0 x1 x2 x3 r) (fun y => halfnorm y gq) (fun y => halfnorm y gk) n x := by
  show packed (yrow x0 x1 x2 x3 r) (fun y => halfnorm y gq) (fun y => halfnorm y gk) (group (col n x)) (inner (col n x)) = _
  rw [group_col, inner_col]

/-- A piece of the concatenated block is group `n`. -/
theorem in_group (gq gk : Fin 64 → EReal) (n : Fin 24) (off : ℕ) (inb : ∀ a, (![0, off] : Fin 2 → ℕ) a + S512x128.size a ≤ S512x3072.size a)
    (p : Vec Ideal S512x128 .bf16) (ho : off = n.val * 128)
    (h : ∀ (r : Fin 512) (x : Fin 128), p (ix2 r x) = packed (yrow x0 x1 x2 x3 r) (fun y => halfnorm y gq) (fun y => halfnorm y gk) n x) :
    ∀ i : S512x128.Idx, p i = E x0 x1 x2 x3 gq gk ((Rect.unit (s := S512x3072) ![0, off] S512x128.size inb).emb i) := by
  intro i
  obtain ⟨r, x, rfl⟩ : ∃ (r : Fin 512) (x : Fin 128), i = ix2 r x := ⟨i 0, i 1, by funext a; fin_cases a <;> rfl⟩
  rw [h, ← E_col]
  refine congrArg (E x0 x1 x2 x3 gq gk) (funext fun a => Fin.ext ?_)
  subst ho
  fin_cases a
  · show r.val = 0 + 1 * r.val; omega
  · show n.val * 128 + x.val = n.val * 128 + 1 * x.val; omega

theorem canon7 {gq gk : Fin 64 → EReal} (hB : Halves fun j x => x6 (ix2 j x))
    (hq : Repeats (fun x => x4 (ix2 0 x)) gq) (hk : Repeats (fun x => x5 (ix2 0 x)) gk)
    (i : S512x3072.Idx) : out0_7 x0 x1 x2 x3 x4 x5 x6 i = E x0 x1 x2 x3 gq gk i := by
  unfold out0_7
  refine View.canon_apply_of_pieces (E x0 x1 x2 x3 gq gk) _ ?_ i (cover0_7 _ _ _ _ _ _ _ _ _ _ _ _ _ _ _ _ _ _ _ _ _ _ _ _ i)
  intro pc hpc
  rcases List.mem_cons.mp hpc with rfl | hpc
  · refine in_group x0 x1 x2 x3 gq gk 23 2944 inb_S512x3072_S512x128_0_2944 _ (by decide) fun r x => ?_
    refine (value7_23 (k0_pay56 x0 x1 x2 x3 x4 x5 x6) r x).trans ?_
    simp only [y_apply]
    rfl
  rcases List.mem_cons.mp hpc with rfl | hpc
  · refine in_group x0 x1 x2 x3 gq gk 22 2816 inb_S512x3072_S512x128_0_2816 _ (by decide) fun r x => ?_
    refine (value7_22 (k0_pay56 x0 x1 x2 x3 x4 x5 x6) r x).trans ?_
    simp only [y_apply]
    rfl
  rcases List.mem_cons.mp hpc with rfl | hpc
  · refine in_group x0 x1 x2 x3 gq gk 21 2688 inb_S512x3072_S512x128_0_2688 _ (by decide) fun r x => ?_
    refine (value7_21 (k0_pay56 x0 x1 x2 x3 x4 x5 x6) r x).trans ?_
    simp only [y_apply]
    rfl
  rcases List.mem_cons.mp hpc with rfl | hpc
  · refine in_group x0 x1 x2 x3 gq gk 20 2560 inb_S512x3072_S512x128_0_2560 _ (by decide) fun r x => ?_
    refine (value7_20 (k0_pay56 x0 x1 x2 x3 x4 x5 x6) r x).trans ?_
    simp only [y_apply]
    rfl
  rcases List.mem_cons.mp hpc with rfl | hpc
  · refine in_group x0 x1 x2 x3 gq gk 19 2432 inb_S512x3072_S512x128_0_2432 _ (by decide) fun r x => ?_
    refine (value7_19 (k0_pay56 x0 x1 x2 x3 x4 x5 x6) r x).trans ?_
    simp only [y_apply]
    rfl
  rcases List.mem_cons.mp hpc with rfl | hpc
  · refine in_group x0 x1 x2 x3 gq gk 18 2304 inb_S512x3072_S512x128_0_2304 _ (by decide) fun r x => ?_
    refine (value7_18 (k0_pay56 x0 x1 x2 x3 x4 x5 x6) r x).trans ?_
    simp only [y_apply]
    rfl
  rcases List.mem_cons.mp hpc with rfl | hpc
  · refine in_group x0 x1 x2 x3 gq gk 17 2176 inb_S512x3072_S512x128_0_2176 _ (by decide) fun r x => ?_
    refine (value7_17 (k0_pay56 x0 x1 x2 x3 x4 x5 x6) r x).trans ?_
    simp only [y_apply]
    rfl
  rcases List.mem_cons.mp hpc with rfl | hpc
  · refine in_group x0 x1 x2 x3 gq gk 16 2048 inb_S512x3072_S512x128_0_2048 _ (by decide) fun r x => ?_
    refine (value7_16 (k0_pay56 x0 x1 x2 x3 x4 x5 x6) r x).trans ?_
    simp only [y_apply]
    rfl
  rcases List.mem_cons.mp hpc with rfl | hpc
  · refine in_group x0 x1 x2 x3 gq gk 15 1920 inb_S512x3072_S512x128_0_1920 _ (by decide) fun r x => ?_
    refine (key7_15 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 14 1792 inb_S512x3072_S512x128_0_1792 _ (by decide) fun r x => ?_
    refine (key7_14 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 13 1664 inb_S512x3072_S512x128_0_1664 _ (by decide) fun r x => ?_
    refine (key7_13 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 12 1536 inb_S512x3072_S512x128_0_1536 _ (by decide) fun r x => ?_
    refine (key7_12 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 11 1408 inb_S512x3072_S512x128_0_1408 _ (by decide) fun r x => ?_
    refine (key7_11 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 10 1280 inb_S512x3072_S512x128_0_1280 _ (by decide) fun r x => ?_
    refine (key7_10 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 9 1152 inb_S512x3072_S512x128_0_1152 _ (by decide) fun r x => ?_
    refine (key7_9 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 8 1024 inb_S512x3072_S512x128_0_1024 _ (by decide) fun r x => ?_
    refine (key7_8 (k0_pay56 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 7 896 inb_S512x3072_S512x128_0_896 _ (by decide) fun r x => ?_
    refine (query7_7 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 6 768 inb_S512x3072_S512x128_0_768 _ (by decide) fun r x => ?_
    refine (query7_6 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 5 640 inb_S512x3072_S512x128_0_640 _ (by decide) fun r x => ?_
    refine (query7_5 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 4 512 inb_S512x3072_S512x128_0_512 _ (by decide) fun r x => ?_
    refine (query7_4 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 3 384 inb_S512x3072_S512x128_0_384 _ (by decide) fun r x => ?_
    refine (query7_3 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 2 256 inb_S512x3072_S512x128_0_256 _ (by decide) fun r x => ?_
    refine (query7_2 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 1 128 inb_S512x3072_S512x128_0_128 _ (by decide) fun r x => ?_
    refine (query7_1 (k0_pay56 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 0 0 inb_S512x3072_S512x128_0_0 _ (by decide) fun r x => ?_
    refine (query7_0 (View.ld x6 r0_5) (View.ld x4 r0_6) gq (by rw [ld_mask]; exact hB) (by rw [ld_gains]; exact hq) _ _ _ _ _ r x).trans ?_
    have e : ∀ c, k0_pay3 (View.ld x0 r0_0) (View.ld x2 r0_1) (View.ld x1 r0_2) (View.ld x1 r0_3) (View.ld x3 r0_4) (ix2 r c) = yrow x0 x1 x2 x3 r c :=
      y_apply x0 x1 x2 x3 x4 x5 x6 r
    simp only [e]
    rfl
  exact absurd hpc List.not_mem_nil

end Cert.LatentProjectIdeal.Block

end
-- ==== Proof.LatentProjectMask.lean ====
/-
  The table of this projection kernel's mask is the one of the contexts' projection.
-/
module

public import proofs.«01_k».proof.Proof.ProjectMask
public import proofs.«01_k».proof.Proof.Gen.LatentProjectIdeal

@[expose] public section

set_option maxRecDepth 16384

namespace Cert.LatentProjectIdeal.Mask

open Idealize.ShloMosaic

theorem lit_at (k : Fin 16384) (p x : Fin 128) (h : k.val = p * 128 + x) :
    Cert.LatentProjectIdeal.lit0 k = if p.val / 64 = x.val / 64 then 0x3F800000#32 else 0x00000000#32 :=
  Cert.ProjectIdeal.Mask.lit_at k p x h

end Cert.LatentProjectIdeal.Mask

end
-- ==== Proof.LatentProjectWindows.lean ====
/-
  The input blocks of the latents' projection of layer 2 at a grid point, entry by entry in terms of the argument arrays.
-/
module

public import proofs.«01_k».proof.Proof.ProjectPacked
public import proofs.«01_k».proof.Proof.LatentProjectMask
public import proofs.«01_k».proof.Proof.Gen.LatentProjectIdeal
public import proofs.«01_k».proof.Proof.Gen.LatentProjectIdeal.Frame
public import proofs.«01_k».proof.Proof.Gen.LatentProjectIdeal.Value
public import Idealize.ShloMosaic.Lib.Pipeline.ValueKit

@[expose] public section

set_option maxRecDepth 16384

noncomputable section

namespace Cert.LatentProjectIdeal.Windows

open Cert.LatentProjectIdeal Cert.LatentProjectIdeal.Gen Idealize.ShloMosaic Idealize.ShloMosaic.TcCoe Cert.Projection

variable (m : (ℓ : Loc nD τ sig) → Buf (Elt Ideal) ℓ) (c : Dev nD)

/-- The arguments on core `c`: activations, modulation, gains of the rows, weights, gains of the queries and of the keys. -/
abbrev X : Vec Ideal S16384x1024 .f32 := m ((c : Thread nD τ).loc main_arg0)
abbrev M : Vec Ideal S8x6x1024 .f32 := m ((c : Thread nD τ).loc main_arg1)
abbrev G : Vec Ideal S1024 .f32 := m ((c : Thread nD τ).loc main_arg2)
abbrev W : Vec Ideal S1024x3072 .f32 := m ((c : Thread nD τ).loc main_arg3)
abbrev gq : Vec Ideal S64 .f32 := m ((c : Thread nD τ).loc main_arg4)
abbrev gk : Vec Ideal S64 .f32 := m ((c : Thread nD τ).loc main_arg5)

/-- The point's tile of rows. -/
def tile (t : Fin cfg0.N) : Fin 16 := ⟨(grid0.coords t 0).val, (grid0.coords t 0).isLt⟩

theorem e0 : ∀ t : Fin cfg0.N, win0_0.index t = ![(grid0.coords t 0).val + 16, 0] :=
  (by decide +kernel : ∀ t : Fin grid0.N, win0_0.index t = ![(grid0.coords t 0).val + 16, 0])
theorem e1 : ∀ t : Fin cfg0.N, win0_1.index t = ![(grid0.coords t 0).val / 8 + 1, 0, 0] :=
  (by decide +kernel : ∀ t : Fin grid0.N, win0_1.index t = ![(grid0.coords t 0).val / 8 + 1, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![(grid0.coords t 0).val, 0] :=
  (by decide +kernel : ∀ t : Fin grid0.N, win0_7.index t = ![(grid0.coords t 0).val, 0])

theorem ofBits_one : Ideal.ofBits .f32 0x3F800000#32 = 1 := by
  simp [Ideal.ofBits, Ideal.ieee]
  rw [← EReal.coe_mul, ← EReal.coe_one]
  norm_num
theorem ofBits_zero : Ideal.ofBits .f32 0x00000000#32 = 0 := by
  simp [Ideal.ofBits, Ideal.ieee]

theorem rows (t : Fin cfg0.N) (r : Fin 512) (j : Fin 1024) :
    (iblk m c 0 t : Vec Ideal S512x1024 .f32) (ix2 r j) = X m c (ix2 ⟨(tile t + 16) * 512 + r, by omega⟩ j) := by
  blk_simp [iblk]
  rw [V_main_arg0]
  unfold tile
  blk_ext [e0]

theorem modulation (t : Fin cfg0.N) (p : Fin 6) (j : Fin 1024) :
    (iblk m c 1 t : Vec Ideal S1x6x1024 .f32) (ix3 0 p j) = M m c (ix3 ⟨tile t / 8 + 1, by omega⟩ p j) := by
  blk_simp [iblk]
  rw [V_main_arg1]
  unfold tile
  blk_ext [e1]

theorem V_v0 (j : Fin 1024) : V m c main_v0 (ix2 0 j) = G m c (ix1 j) := by
  have : V m c main_v0 = (shapeCast S1x1024 (G m c) shapeCasts_S1024_S1x1024 : Vec Ideal S1x1024 .f32) := by
    unfold V hostOps0
    after_results_simp <;> rfl
  rw [this]
  pointwise []
theorem V_v1 (j : Fin 1024) (k : Fin 3072) : V m c main_v1 (ix2 j k) = W m c (ix2 j k) := by
  have : V m c main_v1 = (truncf (F := Ideal) .bf16 (W m c) bitsLt_bf16_f32 : Vec Ideal S1024x3072 .bf16) := by
    unfold V hostOps0
    after_results_simp <;> rfl
  rw [this]
  pointwise []
/-- The gains of one half, written twice. -/
theorem twice (g : Vec Ideal S64 .f32) (x : Fin 128) :
    (shapeCast S1x128 (concatenate S128 0 [⟨S64, g⟩, ⟨S64, g⟩] concatenates_S64_S64_S128_d0) shapeCasts_S128_S1x128 : Vec Ideal S1x128 .f32) (ix2 0 x)
      = g (ix1 (within x)) := by
  pointwise []
  split
  next h => exact congrArg g (congrArg ix1 (Fin.ext (by simp only [within]; omega)))
  next h => exact congrArg g (congrArg ix1 (Fin.ext (by simp only [within]; omega)))
theorem V_v3 (x : Fin 128) : V m c main_v3 (ix2 0 x) = gq m c (ix1 (within x)) := by
  have : V m c main_v3 = (shapeCast S1x128 (concatenate S128 0 [⟨S64, gq m c⟩, ⟨S64, gq m c⟩] concatenates_S64_S64_S128_d0) shapeCasts_S128_S1x128 : Vec Ideal S1x128 .f32) := by
    unfold V hostOps0
    after_results_simp <;> rfl
  rw [this, twice]
theorem V_v5 (x : Fin 128) : V m c main_v5 (ix2 0 x) = gk m c (ix1 (within x)) := by
  have : V m c main_v5 = (shapeCast S1x128 (concatenate S128 0 [⟨S64, gk m c⟩, ⟨S64, gk m c⟩] concatenates_S64_S64_S128_d0) shapeCasts_S128_S1x128 : Vec Ideal S1x128 .f32) := by
    unfold V hostOps0
    after_results_simp <;> rfl
  rw [this, twice]
theorem V_cst : V m c main_cst = (fun i => FloatOps.ofBits (F := Ideal) .f32 (lit0 (S128x128.rowMajor i)) : FVec Ideal S128x128 .f32) := by
  unfold V hostOps0
  after_results_simp <;> rfl

theorem gains (t : Fin cfg0.N) (j : Fin 1024) : (iblk m c 2 t : Vec Ideal S1x1024 .f32) (ix2 0 j) = G m c (ix1 j) := by
  rw [← V_v0]
  blk_simp [iblk]
  blk_ext [e2]
theorem weights (t : Fin cfg0.N) (j : Fin 1024) (k : Fin 3072) : (iblk m c 3 t : Vec Ideal S1024x3072 .bf16) (ix2 j k) = W m c (ix2 j k) := by
  rw [← V_v1]
  blk_simp [iblk]
  blk_ext [e3]

theorem mask (t : Fin cfg0.N) (j x : Fin 128) :
    (iblk m c 6 t : Vec Ideal S128x128 .f32) (ix2 j x) = if j.val / 64 = x.val / 64 then (1 : EReal) else (0 : EReal) := by
  have h : (iblk m c 6 t : Vec Ideal S128x128 .f32) (ix2 j x) = V m c main_cst (ix2 j x) := by
    blk_simp [iblk]
    blk_ext [e6]
  rw [h, V_cst]
  have hr : (S128x128.rowMajor (ix2 j x)).val = j * 128 + x := by rw [Shape.rowMajor_val_two]; rfl
  show Ideal.ofBits .f32 (lit0 (S128x128.rowMajor (ix2 j x))) = _
  refine (congrArg (Ideal.ofBits .f32) (Mask.lit_at _ _ _ hr)).trans ?_
  split
  · exact ofBits_one
  · exact ofBits_zero

theorem query_gains (t : Fin cfg0.N) (x : Fin 128) : (iblk m c 4 t : Vec Ideal S1x128 .f32) (ix2 0 x) = gq m c (ix1 (within x)) := by
  rw [← V_v3]
  blk_simp [iblk]
  blk_ext [e4]
theorem key_gains (t : Fin cfg0.N) (x : Fin 128) : (iblk m c 5 t : Vec Ideal S1x128 .f32) (ix2 0 x) = gk m c (ix1 (within x)) := by
  rw [← V_v5]
  blk_simp [iblk]
  blk_ext [e5]

end Cert.LatentProjectIdeal.Windows

end
-- ==== Proof.LatentProjectReference.lean ====
/-
  The results of the reference of the latents' projections, entry by entry: `Projection.packed` of the tokens' rows.
-/
module

public import proofs.«01_k».proof.Proof.ProjectPacked
public import proofs.«01_k».proof.Proof.Gen.LatentProjectReferenceIdeal
public import proofs.«01_k».proof.Proof.Gen.LatentProjectReferenceIdeal.Read

@[expose] public section
set_option maxRecDepth 16384

noncomputable section

namespace Cert.LatentProjectReferenceIdeal.Entry

open Cert.LatentProjectReferenceIdeal.Read Cert.LatentProjectReferenceIdeal Cert.LatentProjectReferenceIdeal.Gen Idealize.ShloMosaic Cert.Projection

variable (X : Vec Ideal S16384x1024 .f32) (M : Vec Ideal S8x6x1024 .f32) (G : Vec Ideal S1024 .f32) (W : Vec Ideal S1024x3072 .f32)
  (gq gk : Vec Ideal S64 .f32)

/-- The token `b`, `s` as a row of the activations. -/
def tok (b : Fin 2) (s : Fin 4096) : Fin 16384 := ⟨b * 4096 + s + 8192, by omega⟩

theorem rows (b : Fin 2) (s : Fin 4096) (j : Fin 1024) : val_main_v1 X (ix3 b s j) = X (ix2 (tok b s) j) := by
  pointwise [val_main_v1, val_main_v0]
  exact congrArg (fun q => X (ix2 q j)) (Fin.ext (by simp [tok] <;> omega))

theorem normed (b : Fin 2) (s : Fin 4096) (j : Fin 1024) : val_main_v26 X M G (ix3 b s j)
    = modnorm (fun j => X (ix2 (tok b s) j)) (fun j => G (ix1 j)) (fun j => M (ix3 ⟨1 + b, by omega⟩ 1 j)) (fun j => M (ix3 ⟨1 + b, by omega⟩ 0 j)) j := by
  pointwise [val_main_v26, val_main_v25, val_main_v24, val_main_v23, val_main_v22, val_main_v21, val_main_cst_2, val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2]
  simp only [rows]
  rfl

/-- The projections' columns at a token. -/
abbrev y (b : Fin 2) (s : Fin 4096) : Fin 3072 → EReal :=
  proj (fun j => X (ix2 (tok b s) j)) (fun j => G (ix1 j)) (fun j => M (ix3 ⟨1 + b, by omega⟩ 1 j)) (fun j => M (ix3 ⟨1 + b, by omega⟩ 0 j)) (fun j c => W (ix2 j c))

theorem projected (b : Fin 2) (s : Fin 4096) (c : Fin 3072) : val_main_v27 X M G W (ix3 b s c) = y X M G W b s c := by
  pointwise [val_main_v27]
  simp only [normed]
  rfl

theorem query (b : Fin 2) (s : Fin 4096) (h : Fin 8) (p : Fin 2) (x : Fin 64) :
    val_main_v31 X M G W (ix4 b s ⟨h * 2 + p, by omega⟩ x) = y X M G W b s (col ⟨h, by omega⟩ (lane p x)) := by
  pointwise [val_main_v31, val_main_v28]
  rw [projected]
  exact congrArg (y X M G W b s) (Fin.ext (by simp [col, lane]; omega))

theorem key (b : Fin 2) (s : Fin 4096) (h : Fin 8) (p : Fin 2) (x : Fin 64) :
    val_main_v45 X M G W (ix4 b s ⟨h * 2 + p, by omega⟩ x) = y X M G W b s (col ⟨8 + h, by omega⟩ (lane p x)) := by
  pointwise [val_main_v45, val_main_v29]
  rw [projected]
  exact congrArg (y X M G W b s) (Fin.ext (by simp [col, lane]; omega))

theorem query_normed (b : Fin 2) (s : Fin 4096) (h : Fin 8) (p : Fin 2) (x : Fin 64) :
    val_main_v44 X M G W gq (ix4 b s ⟨h * 2 + p, by omega⟩ x) = halfnorm (fun j => y X M G W b s (col ⟨h, by omega⟩ j)) (fun j => gq (ix1 j)) (lane p x) := by
  pointwise [val_main_v44, val_main_v43, val_main_v42, val_main_v41, val_main_v40, val_main_v39, val_main_v38, val_main_v37, val_main_cst_5, val_main_v36, val_main_v35, val_main_cst_4, val_main_v34, val_main_v33, val_main_cst_3, val_main_v32]
  simp only [query]
  unfold halfnorm
  rw [half_lane, within_lane]

theorem key_normed (b : Fin 2) (s : Fin 4096) (h : Fin 8) (p : Fin 2) (x : Fin 64) :
    val_main_v58 X M G W gk (ix4 b s ⟨h * 2 + p, by omega⟩ x) = halfnorm (fun j => y X M G W b s (col ⟨8 + h, by omega⟩ j)) (fun j => gk (ix1 j)) (lane p x) := by
  pointwise [val_main_v58, val_main_v57, val_main_v56, val_main_v55, val_main_v54, val_main_v53, val_main_v52, val_main_v51, val_main_cst_8, val_main_v50, val_main_v49, val_main_cst_7, val_main_v48, val_main_v47, val_main_cst_6, val_main_v46]
  simp only [key]
  unfold halfnorm
  rw [half_lane, within_lane]

theorem query_scaled (b : Fin 2) (s : Fin 4096) (h : Fin 8) (p : Fin 2) (x : Fin 64) :
    val_main_v60 X M G W gq (ix4 b s ⟨h * 2 + p, by omega⟩ x) = halfnorm (fun j => y X M G W b s (col ⟨h, by omega⟩ j)) (fun j => gq (ix1 j)) (lane p x) * eighth := by
  pointwise [val_main_v60, val_main_v59, val_main_cst_9]
  rw [query_normed]

/-- The scaled queries. -/
theorem queries (b : Fin 2) (s : Fin 4096) (h : Fin 8) (x : Fin 128) :
    val_main_v61 X M G W gq (ix2 ⟨b * 4096 + s, by omega⟩ ⟨h * 128 + x, by omega⟩)
      = halfnorm (fun j => y X M G W b s (col ⟨h, by omega⟩ j)) (fun j => gq (ix1 j)) x * eighth := by
  have e := query_scaled X M G W gq b s h (half x) (within x)
  rw [lane_half] at e
  rw [← e]
  pointwise [val_main_v61]
  exact congrArg₂ (fun u v => val_main_v60 X M G W gq (ix4 b s u v)) (Fin.ext (by simp [half]; omega)) (Fin.ext (by simp [within]; omega))

/-- The keys. -/
theorem keys (b : Fin 2) (s : Fin 4096) (h : Fin 8) (x : Fin 128) :
    val_main_v62 X M G W gk (ix2 ⟨b * 4096 + s, by omega⟩ ⟨h * 128 + x, by omega⟩)
      = halfnorm (fun j => y X M G W b s (col ⟨8 + h, by omega⟩ j)) (fun j => gk (ix1 j)) x := by
  have e := key_normed X M G W gk b s h (half x) (within x)
  rw [lane_half] at e
  rw [← e]
  pointwise [val_main_v62]
  exact congrArg₂ (fun u v => val_main_v58 X M G W gk (ix4 b s u v)) (Fin.ext (by simp [half]; omega)) (Fin.ext (by simp [within]; omega))

/-- The values. -/
theorem values (b : Fin 2) (s : Fin 4096) (h : Fin 8) (x : Fin 128) :
    val_main_v63 X M G W (ix2 ⟨b * 4096 + s, by omega⟩ ⟨h * 128 + x, by omega⟩) = y X M G W b s (col ⟨16 + h, by omega⟩ x) := by
  pointwise [val_main_v63, val_main_v30]
  rw [projected]
  exact congrArg (y X M G W b s) (Fin.ext (by simp [col]; omega))

/-- The concatenated result. -/
theorem result (b : Fin 2) (s : Fin 4096) (n : Fin 24) (x : Fin 128) :
    val_main_v65 X M G W gq gk (ix2 ⟨b * 4096 + s, by omega⟩ (col n x))
      = packed (y X M G W b s) (fun z => halfnorm z (fun j => gq (ix1 j))) (fun z => halfnorm z (fun j => gk (ix1 j))) n x := by
  unfold packed
  have hn := n.isLt
  have hx := x.isLt
  rw [val_main_v65_apply, show ∀ z : EReal, FloatOps.truncf (F := Ideal) (φ := .f32) .bf16 bitsLt_bf16_f32 z = z from fun _ => rfl]
  split
  next h =>
    refine Eq.trans ?_ (queries X M G W gq b s ⟨n, h⟩ x)
    unfold col
    pointwise [val_main_v64]
    rw [dif_pos (by omega)]
  split
  next h _ =>
    refine Eq.trans ?_ ((keys X M G W gk b s ⟨n - 8, by omega⟩ x).trans (congrArg (fun c => halfnorm (fun j => y X M G W b s (col c j)) (fun j => gk (ix1 j)) x) (Fin.ext (by simp; omega))))
    unfold col
    pointwise [val_main_v64]
    rw [dif_neg (by omega), dif_pos (by omega)]
    exact congrArg (fun q => val_main_v62 X M G W gk (ix2 _ q)) (Fin.ext (by simp; omega))
  next h _ =>
    refine Eq.trans ?_ ((values X M G W b s ⟨n - 16, by omega⟩ x).trans (congrArg (fun c => y X M G W b s (col c x)) (Fin.ext (by simp; omega))))
    unfold col
    pointwise [val_main_v64]
    rw [dif_neg (by omega), dif_neg (by omega)]
    exact congrArg (fun q => val_main_v63 X M G W (ix2 _ q)) (Fin.ext (by simp; omega))

end Cert.LatentProjectReferenceIdeal.Entry

end
-- ==== Proof.LatentProjectValue.lean ====
/-
  The results after the run of the latents' projection kernel, as the reference's terms of the argument arrays.
-/
module

public import proofs.«01_k».proof.Proof.LatentProjectBlock
public import proofs.«01_k».proof.Proof.LatentProjectWindows
public import proofs.«01_k».proof.Proof.LatentProjectReference

@[expose] public section

set_option maxRecDepth 16384

noncomputable section

namespace Cert.LatentProjectIdeal.Final

open Cert.LatentProjectIdeal Cert.LatentProjectIdeal.Gen Cert.LatentProjectIdeal.Windows Idealize.ShloMosaic Idealize.ShloMosaic.TcCoe Cert.Projection
open Cert.LatentProjectReferenceIdeal.Read (val_main_v65)

variable (m : (ℓ : Loc nD τ sig) → Buf (Elt Ideal) ℓ) (c : Dev nD)

/-- Row `r` of the point's tile, as a row of the results and as the reference's batch and position. -/
def row (t : Fin cfg0.N) (r : Fin 512) : Fin 8192 := ⟨tile t * 512 + r, by omega⟩
def batch (t : Fin cfg0.N) (r : Fin 512) : Fin 2 := ⟨tile t / 8, by omega⟩
def position (t : Fin cfg0.N) (r : Fin 512) : Fin 4096 := ⟨tile t % 8 * 512 + r, by omega⟩

theorem row_eq (t : Fin cfg0.N) (r : Fin 512) : (⟨batch t r * 4096 + position t r, by omega⟩ : Fin 8192) = row t r :=
  Fin.ext (by simp only [batch, position, row]; omega)

/-- The block's projections are the reference's. -/
theorem yrow_eq (t : Fin cfg0.N) (r : Fin 512) :
    Block.yrow (iblk m c 0 t) (iblk m c 1 t) (iblk m c 2 t) (iblk m c 3 t) r
      = Cert.LatentProjectReferenceIdeal.Entry.y (X m c) (M m c) (G m c) (W m c) (batch t r) (position t r) := by
  have e : (⟨(tile t + 16) * 512 + r, by omega⟩ : Fin 16384) = Cert.LatentProjectReferenceIdeal.Entry.tok (batch t r) (position t r) :=
    Fin.ext (by simp only [batch, position, Cert.LatentProjectReferenceIdeal.Entry.tok]; omega)
  have h0 : ∀ j, (iblk m c 0 t : Vec Ideal S512x1024 .f32) (ix2 r j) = X m c (ix2 (Cert.LatentProjectReferenceIdeal.Entry.tok (batch t r) (position t r)) j) :=
    fun j => by rw [rows, e]
  have em : ∀ p j, (iblk m c 1 t : Vec Ideal S1x6x1024 .f32) (ix3 0 p j) = M m c (ix3 ⟨1 + batch t r, by omega⟩ p j) :=
    fun p j => (modulation m c t p j).trans (congrArg (fun q => M m c (ix3 q p j)) (Fin.ext (by simp only [batch]; omega)))
  unfold Block.yrow Cert.LatentProjectReferenceIdeal.Entry.y
  rw [funext h0, funext (gains m c t), funext (em 1), funext (em 0),
    funext fun j => funext (weights m c t j)]

theorem out7 : (dats m 0 c).arrAt 7 cfg0.N = val_main_v65 (F := Ideal) (X m c) (M m c) (G m c) (W m c) (gq m c) (gk m c) := by
  refine (dats m 0 c).arrAt_eq_of_covers 7 _ (by decide +kernel) fun t hf y => ?_
  blk_simp
  rw [after0_7]
  revert y
  show ∀ y : S512x3072.Idx, _
  intro y
  obtain ⟨r, n, x, rfl⟩ : ∃ (r : Fin 512) (n : Fin 24) (x : Fin 128), y = ix2 r (col n x) :=
    ⟨y 0, Block.group (y 1), Block.inner (y 1), by
      funext a
      fin_cases a
      · rfl
      · exact Fin.ext (by show (y 1).val = (y 1).val / 128 * 128 + (y 1).val % 128; omega)⟩
  have hemb : ((cfg0.win 7).blk t).view.emb (ix2 r (col n x)) = ix2 (row t r) (col n x) := by
    unfold row tile
    blk_ext [e7]
  refine (Block.canon7 (iblk m c 0 t) (iblk m c 1 t) (iblk m c 2 t) (iblk m c 3 t) (iblk m c 4 t) (iblk m c 5 t) (iblk m c 6 t)
    (gq := fun j => gq m c (ix1 j)) (gk := fun j => gk m c (ix1 j)) (mask m c t) (query_gains m c t) (key_gains m c t) _).trans ?_
  rw [Block.E_col, yrow_eq]
  refine (Cert.LatentProjectReferenceIdeal.Entry.result (X m c) (M m c) (G m c) (W m c) (gq m c) (gk m c) (batch t r) (position t r) n x).symm.trans ?_
  rw [row_eq]
  exact congrArg (val_main_v65 (F := Ideal) (X m c) (M m c) (G m c) (W m c) (gq m c) (gk m c)) hemb.symm

end Cert.LatentProjectIdeal.Final

end
-- ==== Proof.RotatedProjectBlock.lean ====
/-
  One block of the latents' projection of layer 1, entry by entry: `Projection.packed` of the block's rows.
-/
module

public import proofs.«01_k».proof.Proof.ProjectPacked
public import proofs.«01_k».proof.Proof.Gen.RotatedProjectIdeal
public import proofs.«01_k».proof.Proof.Gen.RotatedProjectIdeal.Frame
public import proofs.«01_k».proof.Proof.Gen.RotatedProjectIdeal.Value
public import Idealize.ShloMosaic.Lib.Pipeline.ValueKit

@[expose] public section

set_option maxRecDepth 16384

noncomputable section

namespace Cert.RotatedProjectIdeal.Block

open Cert.RotatedProjectIdeal Cert.RotatedProjectIdeal.Gen Idealize.ShloMosaic Cert.Projection

/-- The block's rows normalised, modulated and projected. -/
theorem proj_apply (x : Vec Ideal S512x1024 .f32) (g : Vec Ideal S1x1024 .f32) (sc sh : Vec Ideal S1x1x1024 .f32)
    (w : Vec Ideal S1024x3072 .bf16) (r : Fin 512) (c : Fin 3072) :
    k0_pay10 x g sc sh w (ix2 r c)
      = proj (fun j => x (ix2 r j)) (fun j => g (ix2 0 j)) (fun j => sc (ix3 0 0 j)) (fun j => sh (ix3 0 0 j)) (fun j c => w (ix2 j c)) c := by
  pointwise [k0_pay10]
  rfl

variable (Y : FVec Ideal S512x3072 .f32) (B : Vec Ideal S128x128 .f32) (G : Vec Ideal S1x128 .f32) (g : Fin 64 → EReal)
  (hB : Halves fun j x => B (ix2 j x)) (hG : Repeats (fun x => G (ix2 0 x)) g)
  (C A D : Vec Ideal S512x128 .f32) (co si : Fin 512 → Fin 64 → EReal)
  (hT : ∀ r, Tables (fun x => C (ix2 r x)) (fun x => A (ix2 r x)) (fun x => D (ix2 r x)) (co r) (si r))
include hB hG hT
theorem query10_0 (a0 : Vec Ideal S512x1024 .f32) (a1 : Vec Ideal S1x1024 .f32) (a2 a3 : Vec Ideal S1x1x1024 .f32) (a4 : Vec Ideal S1024x3072 .bf16)
    (r : Fin 512) (x : Fin 128) :
    k0_pay15 (k0_pay11 G) (k0_pay12 a0 a1 a2 a3 a4) (k0_pay13 a0 a1 a2 a3 a4 B) (k0_pay14 (F := Ideal)) C A D (ix2 r x)
      = turn (halfnorm (fun j => (k0_pay10 a0 a1 a2 a3 a4) (ix2 r (col 0 j))) g) (co r) (si r) x * eighth := by
  rw [← turned (hT r)]
  simp only [← masked_apply hB hG]
  pointwise [k0_pay11, k0_pay12, k0_pay13, k0_pay14, k0_pay15]
  generalize k0_pay10 a0 a1 a2 a3 a4 = Y
  have e : ∀ x : Fin 128, (⟨x.val, by omega⟩ : Fin 3072) = col 0 x := fun x => Fin.ext (by simp [col])
  have eu : ∀ x : Fin 128, (⟨(x.val + 128 - 112) % 128, by omega⟩ : Fin 3072) = col 0 (up x) := fun x => Fin.ext (by simp [col, up])
  have ed : ∀ x : Fin 128, (⟨(x.val + 128 - 16) % 128, by omega⟩ : Fin 3072) = col 0 (down x) := fun x => Fin.ext (by simp [col, down])
  simp only [e, eu, ed]
  rfl
theorem query10_1 (r : Fin 512) (x : Fin 128) :
    k0_pay18 (k0_pay16 Y B G) (k0_pay17 Y B G C) A D (ix2 r x)
      = turn (halfnorm (fun j => Y (ix2 r (col 1 j))) g) (co r) (si r) x * eighth := by
  rw [← turned (hT r)]
  simp only [← masked_apply hB hG]
  pointwise [k0_pay16, k0_pay17, k0_pay18]
  rfl
theorem query10_2 (r : Fin 512) (x : Fin 128) :
    k0_pay22 (k0_pay20 Y B G C A) (k0_pay21 Y B G) D (ix2 r x)
      = turn (halfnorm (fun j => Y (ix2 r (col 2 j))) g) (co r) (si r) x * eighth := by
  rw [← turned (hT r)]
  simp only [← masked_apply hB hG]
  pointwise [k0_pay19, k0_pay20, k0_pay21, k0_pay22]
  rfl
theorem query10_3 (r : Fin 512) (x : Fin 128) :
    k0_pay23 Y B G C A D (ix2 r x)
      = turn (halfnorm (fun j => Y (ix2 r (col 3 j))) g) (co r) (si r) x * eighth := by
  rw [← turned (hT r)]
  simp only [← masked_apply hB hG]
  pointwise [k0_pay23]
  rfl
theorem query10_4 (r : Fin 512) (x : Fin 128) :
    k0_pay24 Y B G C A D (ix2 r x)
      = turn (halfnorm (fun j => Y (ix2 r (col 4 j))) g) (co r) (si r) x * eighth := by
  rw [← turned (hT r)]
  simp only [← masked_apply hB hG]
  pointwise [k0_pay24]
  rfl
theorem query10_5 (r : Fin 512) (x : Fin 128) :
    k0_pay28 (k0_pay25 G) (k0_pay26 Y) (k0_pay27 Y B) C A D (ix2 r x)
      = turn (halfnorm (fun j => Y (ix2 r (col 5 j))) g) (co r) (si r) x * eighth := by
  rw [← turned (hT r)]
  simp only [← masked_apply hB hG]
  pointwise [k0_pay25, k0_pay26, k0_pay27, k0_pay28]
  rfl
theorem query10_6 (r : Fin 512) (x : Fin 128) :
    k0_pay32 (k0_pay29 Y B G) (k0_pay30 Y B G C) (k0_pay31 Y B G) A D (ix2 r x)
      = turn (halfnorm (fun j => Y (ix2 r (col 6 j))) g) (co r) (si r) x * eighth := by
  rw [← turned (hT r)]
  simp only [← masked_apply hB hG]
  pointwise [k0_pay29, k0_pay30, k0_pay31, k0_pay32]
  rfl
theorem query10_7 (r : Fin 512) (x : Fin 128) :
    k0_pay35 (k0_pay33 Y B G C A D) (k0_pay34 (F := Ideal)) (ix2 r x)
      = turn (halfnorm (fun j => Y (ix2 r (col 7 j))) g) (co r) (si r) x * eighth := by
  rw [← turned (hT r)]
  simp only [← masked_apply hB hG]
  pointwise [k0_pay33, k0_pay34, k0_pay35]
  rfl
theorem key10_8 (r : Fin 512) (x : Fin 128) :
    k0_pay60 (k0_pay36 Y B G C A D) (ix2 r x)
      = turn (halfnorm (fun j => Y (ix2 r (col 8 j))) g) (co r) (si r) x := by
  rw [← turned (hT r)]
  simp only [← masked_apply hB hG]
  pointwise [k0_pay36, k0_pay60]
  rfl
theorem key10_9 (r : Fin 512) (x : Fin 128) :
    k0_pay61 (k0_pay40 (k0_pay37 G) (k0_pay38 Y) (k0_pay39 Y B) C A D) (ix2 r x)
      = turn (halfnorm (fun j => Y (ix2 r (col 9 j))) g) (co r) (si r) x := by
  rw [← turned (hT r)]
  simp only [← masked_apply hB hG]
  pointwise [k0_pay37, k0_pay38, k0_pay39, k0_pay40, k0_pay61]
  rfl
theorem key10_10 (r : Fin 512) (x : Fin 128) :
    k0_pay62 (k0_pay44 (k0_pay42 Y B G C A) (k0_pay43 Y B G) D) (ix2 r x)
      = turn (halfnorm (fun j => Y (ix2 r (col 10 j))) g) (co r) (si r) x := by
  rw [← turned (hT r)]
  simp only [← masked_apply hB hG]
  pointwise [k0_pay41, k0_pay42, k0_pay43, k0_pay44, k0_pay62]
  rfl
theorem key10_11 (r : Fin 512) (x : Fin 128) :
    k0_pay63 (k0_pay45 Y B G C A D) (ix2 r x)
      = turn (halfnorm (fun j => Y (ix2 r (col 11 j))) g) (co r) (si r) x := by
  rw [← turned (hT r)]
  simp only [← masked_apply hB hG]
  pointwise [k0_pay45, k0_pay63]
  rfl
theorem key10_12 (r : Fin 512) (x : Fin 128) :
    k0_pay64 (k0_pay47 (k0_pay46 Y B G) C A D) (ix2 r x)
      = turn (halfnorm (fun j => Y (ix2 r (col 12 j))) g) (co r) (si r) x := by
  rw [← turned (hT r)]
  simp only [← masked_apply hB hG]
  pointwise [k0_pay46, k0_pay47, k0_pay64]
  rfl
theorem key10_13 (r : Fin 512) (x : Fin 128) :
    k0_pay65 (k0_pay48 Y B G C A D) (ix2 r x)
      = turn (halfnorm (fun j => Y (ix2 r (col 13 j))) g) (co r) (si r) x := by
  rw [← turned (hT r)]
  simp only [← masked_apply hB hG]
  pointwise [k0_pay48, k0_pay65]
  rfl
theorem key10_14 (r : Fin 512) (x : Fin 128) :
    k0_pay66 (k0_pay49 Y B G C A D) (ix2 r x)
      = turn (halfnorm (fun j => Y (ix2 r (col 14 j))) g) (co r) (si r) x := by
  rw [← turned (hT r)]
  simp only [← masked_apply hB hG]
  pointwise [k0_pay49, k0_pay66]
  rfl
theorem key10_15 (r : Fin 512) (x : Fin 128) :
    k0_pay1 (k0_pay51 (k0_pay50 Y B G) C A D) (ix2 r x)
      = turn (halfnorm (fun j => Y (ix2 r (col 15 j))) g) (co r) (si r) x := by
  rw [← turned (hT r)]
  simp only [← masked_apply hB hG]
  pointwise [k0_pay1, k0_pay50, k0_pay51]
  rfl
omit hB hG hT
theorem value10_16 (r : Fin 512) (x : Fin 128) :
    k0_pay2 (k0_pay52 Y) (ix2 r x)
      = Y (ix2 r (col 16 x)) := by
  pointwise [k0_pay2, k0_pay52]
  rfl
theorem value10_17 (r : Fin 512) (x : Fin 128) :
    k0_pay3 (k0_pay53 Y) (ix2 r x)
      = Y (ix2 r (col 17 x)) := by
  pointwise [k0_pay3, k0_pay53]
  rfl
theorem value10_18 (r : Fin 512) (x : Fin 128) :
    k0_pay4 (k0_pay54 Y) (ix2 r x)
      = Y (ix2 r (col 18 x)) := by
  pointwise [k0_pay4, k0_pay54]
  rfl
theorem value10_19 (r : Fin 512) (x : Fin 128) :
    k0_pay5 (k0_pay55 Y) (ix2 r x)
      = Y (ix2 r (col 19 x)) := by
  pointwise [k0_pay5, k0_pay55]
  rfl
theorem value10_20 (r : Fin 512) (x : Fin 128) :
    k0_pay6 (k0_pay56 Y) (ix2 r x)
      = Y (ix2 r (col 20 x)) := by
  pointwise [k0_pay6, k0_pay56]
  rfl
theorem value10_21 (r : Fin 512) (x : Fin 128) :
    k0_pay7 (k0_pay57 Y) (ix2 r x)
      = Y (ix2 r (col 21 x)) := by
  pointwise [k0_pay7, k0_pay57]
  rfl
theorem value10_22 (r : Fin 512) (x : Fin 128) :
    k0_pay8 (k0_pay58 Y) (ix2 r x)
      = Y (ix2 r (col 22 x)) := by
  pointwise [k0_pay8, k0_pay58]
  rfl
theorem value10_23 (r : Fin 512) (x : Fin 128) :
    k0_pay9 (k0_pay59 Y) (ix2 r x)
      = Y (ix2 r (col 23 x)) := by
  pointwise [k0_pay9, k0_pay59]
  rfl

variable (x0 : Vec Ideal S512x1024 .f32) (x1 : Vec Ideal S1x6x1024 .f32) (x2 : Vec Ideal S1x1024 .f32) (x3 : Vec Ideal S1024x3072 .bf16)
  (x4 x5 : Vec Ideal S1x128 .f32) (x6 : Vec Ideal S128x128 .f32) (x7 x8 x9 : Vec Ideal S512x128 .f32)

/-- The block's projections: row `r`, all columns. -/
abbrev yrow (r : Fin 512) : Fin 3072 → EReal :=
  proj (fun j => x0 (ix2 r j)) (fun j => x2 (ix2 0 j)) (fun j => x1 (ix3 0 1 j)) (fun j => x1 (ix3 0 0 j)) (fun j c => x3 (ix2 j c))

theorem y_apply (r : Fin 512) (c : Fin 3072) : k0_pay67 x0 x1 x2 x3 x4 x5 x6 x7 x8 x9 (ix2 r c) = yrow x0 x1 x2 x3 r c := by
  have h0 : View.ld x0 r0_0 = x0 := View.ld_unit_lit _ x0 (by decide)
  have h1 : View.ld x2 r0_1 = x2 := View.ld_unit_lit _ x2 (by decide)
  have h4 : View.ld x3 r0_4 = x3 := View.ld_unit_lit _ x3 (by decide)
  have h2 : ∀ j : Fin 1024, View.ld x1 r0_2 (ix3 0 0 j) = x1 (ix3 0 1 j) := fun j => View.ld_unit_apply_of _ _ _ _ _ _ fun a => by fin_cases a <;> simp [ix3]
  have h3 : ∀ j : Fin 1024, View.ld x1 r0_3 (ix3 0 0 j) = x1 (ix3 0 0 j) := fun j => View.ld_unit_apply_of _ _ _ _ _ _ fun a => by fin_cases a <;> simp [ix3]
  unfold k0_pay67
  rw [proj_apply, h0, h1, h4]
  simp only [h2, h3]

theorem ld_gains : View.ld x4 r0_6 = x4 := View.ld_unit_lit _ x4 (by decide)
theorem ld_mask : View.ld x6 r0_5 = x6 := View.ld_unit_lit _ x6 (by decide)
theorem ld_table : View.ld x7 r0_7 = x7 := View.ld_unit_lit _ x7 (by decide)

/-- A column of the block as its group's number and its lane. -/
def group (c : Fin 3072) : Fin 24 := ⟨c / 128, by omega⟩
def inner (c : Fin 3072) : Fin 128 := ⟨c % 128, by omega⟩
theorem group_col (n : Fin 24) (x : Fin 128) : group (col n x) = n := Fin.ext (by simp only [group, col]; omega)
theorem inner_col (n : Fin 24) (x : Fin 128) : inner (col n x) = x := Fin.ext (by simp only [inner, col]; omega)

/-- The concatenated block. -/
def E (gq gk : Fin 64 → EReal) (co si : Fin 512 → Fin 64 → EReal) : Vec Ideal S512x3072 .bf16 := fun i =>
  packed (yrow x0 x1 x2 x3 (i 0)) (fun y => turn (halfnorm y gq) (co (i 0)) (si (i 0))) (fun y => turn (halfnorm y gk) (co (i 0)) (si (i 0))) (group (i 1)) (inner (i 1))

theorem E_col (gq gk : Fin 64 → EReal) (co si : Fin 512 → Fin 64 → EReal) (r : Fin 512) (n : Fin 24) (x : Fin 128) :
    E x0 x1 x2 x3 gq gk co si (ix2 r (col n x)) = packed (yrow x0 x1 x2 x3 r) (fun y => turn (halfnorm y gq) (co r) (si r)) (fun y => turn (halfnorm y gk) (co r) (si r)) n x := by
  show packed (yrow x0 x1 x2 x3 r) (fun y => turn (halfnorm y gq) (co r) (si r)) (fun y => turn (halfnorm y gk) (co r) (si r)) (group (col n x)) (inner (col n x)) = _
  rw [group_col, inner_col]

/-- A piece of the concatenated block is group `n`. -/
theorem in_group (gq gk : Fin 64 → EReal) (co si : Fin 512 → Fin 64 → EReal) (n : Fin 24) (off : ℕ) (inb : ∀ a, (![0, off] : Fin 2 → ℕ) a + S512x128.size a ≤ S512x3072.size a)
    (p : Vec Ideal S512x128 .bf16) (ho : off = n.val * 128)
    (h : ∀ (r : Fin 512) (x : Fin 128), p (ix2 r x) = packed (yrow x0 x1 x2 x3 r) (fun y => turn (halfnorm y gq) (co r) (si r)) (fun y => turn (halfnorm y gk) (co r) (si r)) n x) :
    ∀ i : S512x128.Idx, p i = E x0 x1 x2 x3 gq gk co si ((Rect.unit (s := S512x3072) ![0, off] S512x128.size inb).emb i) := by
  intro i
  obtain ⟨r, x, rfl⟩ : ∃ (r : Fin 512) (x : Fin 128), i = ix2 r x := ⟨i 0, i 1, by funext a; fin_cases a <;> rfl⟩
  rw [h, ← E_col]
  refine congrArg (E x0 x1 x2 x3 gq gk co si) (funext fun a => Fin.ext ?_)
  subst ho
  fin_cases a
  · show r.val = 0 + 1 * r.val; omega
  · show n.val * 128 + x.val = n.val * 128 + 1 * x.val; omega

theorem canon10 {gq gk : Fin 64 → EReal} {co si : Fin 512 → Fin 64 → EReal} (hB : Halves fun j x => x6 (ix2 j x))
    (hq : Repeats (fun x => x4 (ix2 0 x)) gq) (hk : Repeats (fun x => x5 (ix2 0 x)) gk)
    (hT : ∀ r, Tables (fun x => x7 (ix2 r x)) (fun x => x8 (ix2 r x)) (fun x => x9 (ix2 r x)) (co r) (si r))
    (i : S512x3072.Idx) : out0_10 x0 x1 x2 x3 x4 x5 x6 x7 x8 x9 i = E x0 x1 x2 x3 gq gk co si i := by
  unfold out0_10
  refine View.canon_apply_of_pieces (E x0 x1 x2 x3 gq gk co si) _ ?_ i (cover0_10 _ _ _ _ _ _ _ _ _ _ _ _ _ _ _ _ _ _ _ _ _ _ _ _ i)
  intro pc hpc
  rcases List.mem_cons.mp hpc with rfl | hpc
  · refine in_group x0 x1 x2 x3 gq gk co si 23 2944 inb_S512x3072_S512x128_0_2944 _ (by decide) fun r x => ?_
    refine (value10_23 (k0_pay67 x0 x1 x2 x3 x4 x5 x6 x7 x8 x9) r x).trans ?_
    simp only [y_apply]
    rfl
  rcases List.mem_cons.mp hpc with rfl | hpc
  · refine in_group x0 x1 x2 x3 gq gk co si 22 2816 inb_S512x3072_S512x128_0_2816 _ (by decide) fun r x => ?_
    refine (value10_22 (k0_pay67 x0 x1 x2 x3 x4 x5 x6 x7 x8 x9) r x).trans ?_
    simp only [y_apply]
    rfl
  rcases List.mem_cons.mp hpc with rfl | hpc
  · refine in_group x0 x1 x2 x3 gq gk co si 21 2688 inb_S512x3072_S512x128_0_2688 _ (by decide) fun r x => ?_
    refine (value10_21 (k0_pay67 x0 x1 x2 x3 x4 x5 x6 x7 x8 x9) r x).trans ?_
    simp only [y_apply]
    rfl
  rcases List.mem_cons.mp hpc with rfl | hpc
  · refine in_group x0 x1 x2 x3 gq gk co si 20 2560 inb_S512x3072_S512x128_0_2560 _ (by decide) fun r x => ?_
    refine (value10_20 (k0_pay67 x0 x1 x2 x3 x4 x5 x6 x7 x8 x9) r x).trans ?_
    simp only [y_apply]
    rfl
  rcases List.mem_cons.mp hpc with rfl | hpc
  · refine in_group x0 x1 x2 x3 gq gk co si 19 2432 inb_S512x3072_S512x128_0_2432 _ (by decide) fun r x => ?_
    refine (value10_19 (k0_pay67 x0 x1 x2 x3 x4 x5 x6 x7 x8 x9) r x).trans ?_
    simp only [y_apply]
    rfl
  rcases List.mem_cons.mp hpc with rfl | hpc
  · refine in_group x0 x1 x2 x3 gq gk co si 18 2304 inb_S512x3072_S512x128_0_2304 _ (by decide) fun r x => ?_
    refine (value10_18 (k0_pay67 x0 x1 x2 x3 x4 x5 x6 x7 x8 x9) r x).trans ?_
    simp only [y_apply]
    rfl
  rcases List.mem_cons.mp hpc with rfl | hpc
  · refine in_group x0 x1 x2 x3 gq gk co si 17 2176 inb_S512x3072_S512x128_0_2176 _ (by decide) fun r x => ?_
    refine (value10_17 (k0_pay67 x0 x1 x2 x3 x4 x5 x6 x7 x8 x9) r x).trans ?_
    simp only [y_apply]
    rfl
  rcases List.mem_cons.mp hpc with rfl | hpc
  · refine in_group x0 x1 x2 x3 gq gk co si 16 2048 inb_S512x3072_S512x128_0_2048 _ (by decide) fun r x => ?_
    refine (value10_16 (k0_pay67 x0 x1 x2 x3 x4 x5 x6 x7 x8 x9) r x).trans ?_
    simp only [y_apply]
    rfl
  rcases List.mem_cons.mp hpc with rfl | hpc
  · refine in_group x0 x1 x2 x3 gq gk co si 15 1920 inb_S512x3072_S512x128_0_1920 _ (by decide) fun r x => ?_
    refine (key10_15 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 14 1792 inb_S512x3072_S512x128_0_1792 _ (by decide) fun r x => ?_
    refine (key10_14 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 13 1664 inb_S512x3072_S512x128_0_1664 _ (by decide) fun r x => ?_
    refine (key10_13 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 12 1536 inb_S512x3072_S512x128_0_1536 _ (by decide) fun r x => ?_
    refine (key10_12 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 11 1408 inb_S512x3072_S512x128_0_1408 _ (by decide) fun r x => ?_
    refine (key10_11 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 10 1280 inb_S512x3072_S512x128_0_1280 _ (by decide) fun r x => ?_
    refine (key10_10 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 9 1152 inb_S512x3072_S512x128_0_1152 _ (by decide) fun r x => ?_
    refine (key10_9 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 8 1024 inb_S512x3072_S512x128_0_1024 _ (by decide) fun r x => ?_
    refine (key10_8 (k0_pay67 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 7 896 inb_S512x3072_S512x128_0_896 _ (by decide) fun r x => ?_
    refine (query10_7 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 6 768 inb_S512x3072_S512x128_0_768 _ (by decide) fun r x => ?_
    refine (query10_6 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 5 640 inb_S512x3072_S512x128_0_640 _ (by decide) fun r x => ?_
    refine (query10_5 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 4 512 inb_S512x3072_S512x128_0_512 _ (by decide) fun r x => ?_
    refine (query10_4 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 3 384 inb_S512x3072_S512x128_0_384 _ (by decide) fun r x => ?_
    refine (query10_3 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 2 256 inb_S512x3072_S512x128_0_256 _ (by decide) fun r x => ?_
    refine (query10_2 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 1 128 inb_S512x3072_S512x128_0_128 _ (by decide) fun r x => ?_
    refine (query10_1 (k0_pay67 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 0 0 inb_S512x3072_S512x128_0_0 _ (by decide) fun r x => ?_
    refine (query10_0 (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) _ _ _ _ _ r x).trans ?_
    have e : ∀ c, k0_pay10 (View.ld x0 r0_0) (View.ld x2 r0_1) (View.ld x1 r0_2) (View.ld x1 r0_3) (View.ld x3 r0_4) (ix2 r c) = yrow x0 x1 x2 x3 r c :=
      y_apply x0 x1 x2 x3 x4 x5 x6 x7 x8 x9 r
    simp only [e]
    rfl
  exact absurd hpc List.not_mem_nil

end Cert.RotatedProjectIdeal.Block

end
-- ==== Proof.RotatedProjectMask.lean ====
/-
  The table of this projection kernel's mask is the one of the contexts' projection.
-/
module

public import proofs.«01_k».proof.Proof.ProjectMask
public import proofs.«01_k».proof.Proof.Gen.RotatedProjectIdeal

@[expose] public section

set_option maxRecDepth 16384

namespace Cert.RotatedProjectIdeal.Mask

open Idealize.ShloMosaic

theorem lit_at (k : Fin 16384) (p x : Fin 128) (h : k.val = p * 128 + x) :
    Cert.RotatedProjectIdeal.lit0 k = if p.val / 64 = x.val / 64 then 0x3F800000#32 else 0x00000000#32 :=
  Cert.ProjectIdeal.Mask.lit_at k p x h

end Cert.RotatedProjectIdeal.Mask

end
-- ==== Proof.RotatedProjectWindows.lean ====
/-
  The input blocks of the latents' projection of layer 1 at a grid point, entry by entry in terms of the argument arrays.
-/
module

public import proofs.«01_k».proof.Proof.ProjectPacked
public import proofs.«01_k».proof.Proof.RotatedProjectMask
public import proofs.«01_k».proof.Proof.Gen.RotatedProjectIdeal
public import proofs.«01_k».proof.Proof.Gen.RotatedProjectIdeal.Frame
public import proofs.«01_k».proof.Proof.Gen.RotatedProjectIdeal.Value
public import Idealize.ShloMosaic.Lib.Pipeline.ValueKit

@[expose] public section

set_option maxRecDepth 16384

noncomputable section

namespace Cert.RotatedProjectIdeal.Windows

open Cert.RotatedProjectIdeal Cert.RotatedProjectIdeal.Gen Idealize.ShloMosaic Idealize.ShloMosaic.TcCoe Cert.Projection

variable (m : (ℓ : Loc nD τ sig) → Buf (Elt Ideal) ℓ) (c : Dev nD)

/-- The arguments on core `c`: activations, modulation, gains of the rows, weights, gains of the queries and of the keys,
    cosines and sines. -/
abbrev X : Vec Ideal S16384x1024 .f32 := m ((c : Thread nD τ).loc main_arg0)
abbrev M : Vec Ideal S8x6x1024 .f32 := m ((c : Thread nD τ).loc main_arg1)
abbrev G : Vec Ideal S1024 .f32 := m ((c : Thread nD τ).loc main_arg2)
abbrev W : Vec Ideal S1024x3072 .f32 := m ((c : Thread nD τ).loc main_arg3)
abbrev gq : Vec Ideal S64 .f32 := m ((c : Thread nD τ).loc main_arg4)
abbrev gk : Vec Ideal S64 .f32 := m ((c : Thread nD τ).loc main_arg5)

abbrev co : Vec Ideal S4096x64 .f32 := m ((c : Thread nD τ).loc main_arg6)
abbrev si : Vec Ideal S4096x64 .f32 := m ((c : Thread nD τ).loc main_arg7)

/-- The point's tile of rows. -/
def tile (t : Fin cfg0.N) : Fin 16 := ⟨(grid0.coords t 0).val, (grid0.coords t 0).isLt⟩

theorem e0 : ∀ t : Fin cfg0.N, win0_0.index t = ![(grid0.coords t 0).val + 16, 0] :=
  (by decide +kernel : ∀ t : Fin grid0.N, win0_0.index t = ![(grid0.coords t 0).val + 16, 0])
theorem e1 : ∀ t : Fin cfg0.N, win0_1.index t = ![(grid0.coords t 0).val / 8 + 1, 0, 0] :=
  (by decide +kernel : ∀ t : Fin grid0.N, win0_1.index t = ![(grid0.coords t 0).val / 8 + 1, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![(grid0.coords t 0).val % 8, 0] :=
  (by decide +kernel : ∀ t : Fin grid0.N, win0_7.index t = ![(grid0.coords t 0).val % 8, 0])
theorem e8 : ∀ t : Fin cfg0.N, win0_8.index t = ![(grid0.coords t 0).val % 8, 0] :=
  (by decide +kernel : ∀ t : Fin grid0.N, win0_8.index t = ![(grid0.coords t 0).val % 8, 0])
theorem e9 : ∀ t : Fin cfg0.N, win0_9.index t = ![(grid0.coords t 0).val % 8, 0] :=
  (by decide +kernel : ∀ t : Fin grid0.N, win0_9.index t = ![(grid0.coords t 0).val % 8, 0])
theorem e10 : ∀ t : Fin cfg0.N, win0_10.index t = ![(grid0.coords t 0).val, 0] :=
  (by decide +kernel : ∀ t : Fin grid0.N, win0_10.index t = ![(grid0.coords t 0).val, 0])

theorem ofBits_one : Ideal.ofBits .f32 0x3F800000#32 = 1 := by
  simp [Ideal.ofBits, Ideal.ieee]
  rw [← EReal.coe_mul, ← EReal.coe_one]
  norm_num
theorem ofBits_zero : Ideal.ofBits .f32 0x00000000#32 = 0 := by
  simp [Ideal.ofBits, Ideal.ieee]

theorem rows (t : Fin cfg0.N) (r : Fin 512) (j : Fin 1024) :
    (iblk m c 0 t : Vec Ideal S512x1024 .f32) (ix2 r j) = X m c (ix2 ⟨(tile t + 16) * 512 + r, by omega⟩ j) := by
  blk_simp [iblk]
  rw [V_main_arg0]
  unfold tile
  blk_ext [e0]

theorem modulation (t : Fin cfg0.N) (p : Fin 6) (j : Fin 1024) :
    (iblk m c 1 t : Vec Ideal S1x6x1024 .f32) (ix3 0 p j) = M m c (ix3 ⟨tile t / 8 + 1, by omega⟩ p j) := by
  blk_simp [iblk]
  rw [V_main_arg1]
  unfold tile
  blk_ext [e1]

theorem V_v0 (j : Fin 1024) : V m c main_v0 (ix2 0 j) = G m c (ix1 j) := by
  have : V m c main_v0 = (shapeCast S1x1024 (G m c) shapeCasts_S1024_S1x1024 : Vec Ideal S1x1024 .f32) := by
    unfold V hostOps0 hostOps0_1 hostOps0_2 hostOps0_3 hostOps0_4
    simp only [List.flatten_cons, List.flatten_nil, List.append_nil, List.cons_append, List.nil_append]
    after_results_simp <;> rfl
  rw [this]
  pointwise []
theorem V_v1 (j : Fin 1024) (k : Fin 3072) : V m c main_v1 (ix2 j k) = W m c (ix2 j k) := by
  have : V m c main_v1 = (truncf (F := Ideal) .bf16 (W m c) bitsLt_bf16_f32 : Vec Ideal S1024x3072 .bf16) := by
    unfold V hostOps0 hostOps0_1 hostOps0_2 hostOps0_3 hostOps0_4
    simp only [List.flatten_cons, List.flatten_nil, List.append_nil, List.cons_append, List.nil_append]
    after_results_simp <;> rfl
  rw [this]
  pointwise []
/-- The gains of one half, written twice. -/
theorem twice (g : Vec Ideal S64 .f32) (x : Fin 128) :
    (shapeCast S1x128 (concatenate S128 0 [⟨S64, g⟩, ⟨S64, g⟩] concatenates_S64_S64_S128_d0) shapeCasts_S128_S1x128 : Vec Ideal S1x128 .f32) (ix2 0 x)
      = g (ix1 (within x)) := by
  pointwise []
  split
  next h => exact congrArg g (congrArg ix1 (Fin.ext (by simp only [within]; omega)))
  next h => exact congrArg g (congrArg ix1 (Fin.ext (by simp only [within]; omega)))
theorem V_v3 (x : Fin 128) : V m c main_v3 (ix2 0 x) = gq m c (ix1 (within x)) := by
  have : V m c main_v3 = (shapeCast S1x128 (concatenate S128 0 [⟨S64, gq m c⟩, ⟨S64, gq m c⟩] concatenates_S64_S64_S128_d0) shapeCasts_S128_S1x128 : Vec Ideal S1x128 .f32) := by
    unfold V hostOps0 hostOps0_1 hostOps0_2 hostOps0_3 hostOps0_4
    simp only [List.flatten_cons, List.flatten_nil, List.append_nil, List.cons_append, List.nil_append]
    after_results_simp <;> rfl
  rw [this, twice]
theorem V_v5 (x : Fin 128) : V m c main_v5 (ix2 0 x) = gk m c (ix1 (within x)) := by
  have : V m c main_v5 = (shapeCast S1x128 (concatenate S128 0 [⟨S64, gk m c⟩, ⟨S64, gk m c⟩] concatenates_S64_S64_S128_d0) shapeCasts_S128_S1x128 : Vec Ideal S1x128 .f32) := by
    unfold V hostOps0 hostOps0_1 hostOps0_2 hostOps0_3 hostOps0_4
    simp only [List.flatten_cons, List.flatten_nil, List.append_nil, List.cons_append, List.nil_append]
    after_results_simp <;> rfl
  rw [this, twice]
theorem V_cst : V m c main_cst = (fun i => FloatOps.ofBits (F := Ideal) .f32 (lit0 (S128x128.rowMajor i)) : FVec Ideal S128x128 .f32) := by
  unfold V hostOps0 hostOps0_1 hostOps0_2 hostOps0_3 hostOps0_4
  simp only [List.flatten_cons, List.flatten_nil, List.append_nil, List.cons_append, List.nil_append]
  after_results_simp <;> rfl

/-- The first 16 of each 32 lanes. -/
theorem first_lanes : ∀ x : Fin 64, lit1 x = if x.val % 32 < 16 then 1#1 else 0#1 := by decide

/-- Two copies of a table side by side. -/
theorem doubled (T : Vec Ideal S4096x64 .f32) (s : Fin 4096) (x : Fin 128) :
    (concatenate S4096x128 1 [⟨S4096x64, T⟩, ⟨S4096x64, T⟩] concatenates_S4096x64_S4096x64_S4096x128_d1 : Vec Ideal S4096x128 .f32) (ix2 s x)
      = T (ix2 s (within x)) := by
  pointwise []
  split
  next h => exact congrArg T (congrArg (ix2 s) (Fin.ext (by simp only [within]; omega)))
  next h => exact congrArg T (congrArg (ix2 s) (Fin.ext (by simp only [within]; omega)))

theorem lane_bit (s : Fin 4096) (x : Fin 64) :
    (broadcastInDim S4096x64 ![1] bcast_S64_S4096x64_1 (fun i => lit1 (S64.rowMajor i) : IVec S64 1) : IVec S4096x64 1) (ix2 s x)
      = if x.val % 32 < 16 then 1#1 else 0#1 := by
  rw [← first_lanes]
  exact congrArg lit1 (Fin.ext (Shape.rowMajor_val_one _))

/-- The sines negated on the first 16 lanes of each 32, zero elsewhere. -/
def below (T : Vec Ideal S4096x64 .f32) : Vec Ideal S4096x64 .f32 :=
  select (broadcastInDim S4096x64 ![1] bcast_S64_S4096x64_1 (fun i => lit1 (S64.rowMajor i))) (Host.negf (F := Ideal) (φ := .f32) T)
    (broadcastInDim S4096x64 ![] bcast_S_S4096x64 (constant S_ .f32 0x00000000#32 : FVec Ideal S_ .f32))
/-- The sines on the last 16 lanes of each 32, zero elsewhere. -/
def above (T : Vec Ideal S4096x64 .f32) : Vec Ideal S4096x64 .f32 :=
  select (broadcastInDim S4096x64 ![1] bcast_S64_S4096x64_1 (fun i => lit1 (S64.rowMajor i)))
    (broadcastInDim S4096x64 ![] bcast_S_S4096x64 (constant S_ .f32 0x00000000#32 : FVec Ideal S_ .f32)) T

theorem below_apply (T : Vec Ideal S4096x64 .f32) (s : Fin 4096) (x : Fin 64) :
    below T (ix2 s x) = if x.val % 32 < 16 then -T (ix2 s x) else 0 := by
  show Scalar.select ((broadcastInDim S4096x64 ![1] bcast_S64_S4096x64_1 (fun i => lit1 (S64.rowMajor i) : IVec S64 1) : IVec S4096x64 1) (ix2 s x))
    (-T (ix2 s x) : EReal) (Ideal.ofBits .f32 0x00000000#32 : EReal) = _
  rw [lane_bit]
  unfold Scalar.select
  by_cases hx : x.val % 32 < 16
  · rw [if_pos hx, if_pos hx]
    rfl
  · rw [if_neg hx, if_neg hx]
    exact ofBits_zero
theorem above_apply (T : Vec Ideal S4096x64 .f32) (s : Fin 4096) (x : Fin 64) :
    above T (ix2 s x) = if x.val % 32 < 16 then 0 else T (ix2 s x) := by
  show Scalar.select ((broadcastInDim S4096x64 ![1] bcast_S64_S4096x64_1 (fun i => lit1 (S64.rowMajor i) : IVec S64 1) : IVec S4096x64 1) (ix2 s x))
    (Ideal.ofBits .f32 0x00000000#32 : EReal) (T (ix2 s x) : EReal) = _
  rw [lane_bit]
  unfold Scalar.select
  by_cases hx : x.val % 32 < 16
  · rw [if_pos hx, if_pos hx]
    exact ofBits_zero
  · rw [if_neg hx, if_neg hx]
    rfl

theorem V_v9 : V m c main_v9 = (concatenate S4096x128 1 [⟨S4096x64, co m c⟩, ⟨S4096x64, co m c⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp <;> rfl
theorem V_v10 : V m c main_v10 = (concatenate S4096x128 1 [⟨S4096x64, below (si m c)⟩, ⟨S4096x64, below (si m c)⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp
  after_results_loop
  refine congrArg (fun T : Vec Ideal S4096x64 .f32 => (concatenate S4096x128 1 [⟨S4096x64, T⟩, ⟨S4096x64, T⟩] concatenates_S4096x64_S4096x64_S4096x128_d1 : Vec Ideal S4096x128 .f32)) ?_
  simp only [StableHlo.TRef.ofBuf, StableHlo.TRef.toBuf, cast_cast, cast_eq, id_eq]
  rfl
theorem V_v11 : V m c main_v11 = (concatenate S4096x128 1 [⟨S4096x64, above (si m c)⟩, ⟨S4096x64, above (si m c)⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp
  after_results_loop
  refine congrArg (fun T : Vec Ideal S4096x64 .f32 => (concatenate S4096x128 1 [⟨S4096x64, T⟩, ⟨S4096x64, T⟩] concatenates_S4096x64_S4096x64_S4096x128_d1 : Vec Ideal S4096x128 .f32)) ?_
  simp only [StableHlo.TRef.ofBuf, StableHlo.TRef.toBuf, cast_cast, cast_eq, id_eq]
  rfl

/-- The position of the tile's row `r`. -/
def position (t : Fin cfg0.N) (r : Fin 512) : Fin 4096 := ⟨tile t % 8 * 512 + r, by omega⟩

theorem cosines (t : Fin cfg0.N) (r : Fin 512) (x : Fin 128) :
    (iblk m c 7 t : Vec Ideal S512x128 .f32) (ix2 r x) = co m c (ix2 (position t r) (within x)) := by
  rw [← doubled (co m c), ← V_v9]
  blk_simp [iblk]
  unfold position tile
  blk_ext [e7]
theorem sines_below (t : Fin cfg0.N) (r : Fin 512) (x : Fin 128) :
    (iblk m c 8 t : Vec Ideal S512x128 .f32) (ix2 r x) = below (si m c) (ix2 (position t r) (within x)) := by
  rw [← doubled (below (si m c)), ← V_v10]
  blk_simp [iblk]
  unfold position tile
  blk_ext [e8]
theorem sines_above (t : Fin cfg0.N) (r : Fin 512) (x : Fin 128) :
    (iblk m c 9 t : Vec Ideal S512x128 .f32) (ix2 r x) = above (si m c) (ix2 (position t r) (within x)) := by
  rw [← doubled (above (si m c)), ← V_v11]
  blk_simp [iblk]
  unfold position tile
  blk_ext [e9]

/-- The tile's rotation tables. -/
theorem tables (t : Fin cfg0.N) (r : Fin 512) :
    Tables (fun x => (iblk m c 7 t : Vec Ideal S512x128 .f32) (ix2 r x)) (fun x => (iblk m c 8 t : Vec Ideal S512x128 .f32) (ix2 r x))
      (fun x => (iblk m c 9 t : Vec Ideal S512x128 .f32) (ix2 r x)) (fun x => co m c (ix2 (position t r) x)) (fun x => si m c (ix2 (position t r) x)) := by
  intro x
  have e : (within x).val % 32 = x.val % 32 := by simp only [within]; omega
  refine ⟨cosines m c t r x, (sines_below m c t r x).trans ?_, (sines_above m c t r x).trans ?_⟩
  · rw [below_apply, e]
  · rw [above_apply, e]

theorem gains (t : Fin cfg0.N) (j : Fin 1024) : (iblk m c 2 t : Vec Ideal S1x1024 .f32) (ix2 0 j) = G m c (ix1 j) := by
  rw [← V_v0]
  blk_simp [iblk]
  blk_ext [e2]
theorem weights (t : Fin cfg0.N) (j : Fin 1024) (k : Fin 3072) : (iblk m c 3 t : Vec Ideal S1024x3072 .bf16) (ix2 j k) = W m c (ix2 j k) := by
  rw [← V_v1]
  blk_simp [iblk]
  blk_ext [e3]

theorem mask (t : Fin cfg0.N) (j x : Fin 128) :
    (iblk m c 6 t : Vec Ideal S128x128 .f32) (ix2 j x) = if j.val / 64 = x.val / 64 then (1 : EReal) else (0 : EReal) := by
  have h : (iblk m c 6 t : Vec Ideal S128x128 .f32) (ix2 j x) = V m c main_cst (ix2 j x) := by
    blk_simp [iblk]
    blk_ext [e6]
  rw [h, V_cst]
  have hr : (S128x128.rowMajor (ix2 j x)).val = j * 128 + x := by rw [Shape.rowMajor_val_two]; rfl
  show Ideal.ofBits .f32 (lit0 (S128x128.rowMajor (ix2 j x))) = _
  refine (congrArg (Ideal.ofBits .f32) (Mask.lit_at _ _ _ hr)).trans ?_
  split
  · exact ofBits_one
  · exact ofBits_zero

theorem query_gains (t : Fin cfg0.N) (x : Fin 128) : (iblk m c 4 t : Vec Ideal S1x128 .f32) (ix2 0 x) = gq m c (ix1 (within x)) := by
  rw [← V_v3]
  blk_simp [iblk]
  blk_ext [e4]
theorem key_gains (t : Fin cfg0.N) (x : Fin 128) : (iblk m c 5 t : Vec Ideal S1x128 .f32) (ix2 0 x) = gk m c (ix1 (within x)) := by
  rw [← V_v5]
  blk_simp [iblk]
  blk_ext [e5]

end Cert.RotatedProjectIdeal.Windows

end
-- ==== Proof.RotatedProjectReference.lean ====
/-
  The results of the reference of the latents' rotated projections, entry by entry: `Projection.packed` of the tokens' rows.
-/
module

public import proofs.«01_k».proof.Proof.ProjectPacked
public import proofs.«01_k».proof.Proof.Gen.RotatedProjectReferenceIdeal
public import proofs.«01_k».proof.Proof.Gen.RotatedProjectReferenceIdeal.Read

@[expose] public section
set_option maxRecDepth 16384

noncomputable section

namespace Cert.RotatedProjectReferenceIdeal.Entry

open Cert.RotatedProjectReferenceIdeal.Read Cert.RotatedProjectReferenceIdeal Cert.RotatedProjectReferenceIdeal.Gen Idealize.ShloMosaic Cert.Projection

variable (X : Vec Ideal S16384x1024 .f32) (M : Vec Ideal S8x6x1024 .f32) (G : Vec Ideal S1024 .f32) (W : Vec Ideal S1024x3072 .f32)
  (gq gk : Vec Ideal S64 .f32) (co si : Vec Ideal S4096x64 .f32)

/-- The token `b`, `s` as a row of the activations. -/
def tok (b : Fin 2) (s : Fin 4096) : Fin 16384 := ⟨b * 4096 + s + 8192, by omega⟩

theorem rows (b : Fin 2) (s : Fin 4096) (j : Fin 1024) : val_main_v1 X (ix3 b s j) = X (ix2 (tok b s) j) := by
  pointwise [val_main_v1, val_main_v0]
  exact congrArg (fun q => X (ix2 q j)) (Fin.ext (by simp [tok] <;> omega))

theorem normed (b : Fin 2) (s : Fin 4096) (j : Fin 1024) : val_main_v26 X M G (ix3 b s j)
    = modnorm (fun j => X (ix2 (tok b s) j)) (fun j => G (ix1 j)) (fun j => M (ix3 ⟨1 + b, by omega⟩ 1 j)) (fun j => M (ix3 ⟨1 + b, by omega⟩ 0 j)) j := by
  pointwise [val_main_v26, val_main_v25, val_main_v24, val_main_v23, val_main_v22, val_main_v21, val_main_cst_2, val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2]
  simp only [rows]
  rfl

/-- The projections' columns at a token. -/
abbrev y (b : Fin 2) (s : Fin 4096) : Fin 3072 → EReal :=
  proj (fun j => X (ix2 (tok b s) j)) (fun j => G (ix1 j)) (fun j => M (ix3 ⟨1 + b, by omega⟩ 1 j)) (fun j => M (ix3 ⟨1 + b, by omega⟩ 0 j)) (fun j c => W (ix2 j c))

theorem projected (b : Fin 2) (s : Fin 4096) (c : Fin 3072) : val_main_v27 X M G W (ix3 b s c) = y X M G W b s c := by
  pointwise [val_main_v27]
  simp only [normed]
  rfl

theorem query (b : Fin 2) (s : Fin 4096) (h : Fin 8) (p : Fin 2) (x : Fin 64) :
    val_main_v31 X M G W (ix5 b s h p x) = y X M G W b s (col ⟨h, by omega⟩ (lane p x)) := by
  pointwise [val_main_v31, val_main_v28]
  rw [projected]
  exact congrArg (y X M G W b s) (Fin.ext (by simp [col, lane]; omega))

theorem key (b : Fin 2) (s : Fin 4096) (h : Fin 8) (p : Fin 2) (x : Fin 64) :
    val_main_v63 X M G W (ix5 b s h p x) = y X M G W b s (col ⟨8 + h, by omega⟩ (lane p x)) := by
  pointwise [val_main_v63, val_main_v29]
  rw [projected]
  exact congrArg (y X M G W b s) (Fin.ext (by simp [col, lane]; omega))

theorem query_normed (b : Fin 2) (s : Fin 4096) (h : Fin 8) (p : Fin 2) (x : Fin 64) :
    val_main_v44 X M G W gq (ix5 b s h p x) = halfnorm (fun j => y X M G W b s (col ⟨h, by omega⟩ j)) (fun j => gq (ix1 j)) (lane p x) := by
  pointwise [val_main_v44, val_main_v43, val_main_v42, val_main_v41, val_main_v40, val_main_v39, val_main_v38, val_main_v37, val_main_cst_5, val_main_v36, val_main_v35, val_main_cst_4, val_main_v34, val_main_v33, val_main_cst_3, val_main_v32]
  simp only [query]
  unfold halfnorm
  rw [half_lane, within_lane]

theorem key_normed (b : Fin 2) (s : Fin 4096) (h : Fin 8) (p : Fin 2) (x : Fin 64) :
    val_main_v76 X M G W gk (ix5 b s h p x) = halfnorm (fun j => y X M G W b s (col ⟨8 + h, by omega⟩ j)) (fun j => gk (ix1 j)) (lane p x) := by
  pointwise [val_main_v76, val_main_v75, val_main_v74, val_main_v73, val_main_v72, val_main_v71, val_main_v70, val_main_v69, val_main_cst_8, val_main_v68, val_main_v67, val_main_cst_7, val_main_v66, val_main_v65, val_main_cst_6, val_main_v64]
  simp only [key]
  unfold halfnorm
  rw [half_lane, within_lane]

/-- The lane 16 above and the lane 16 below, around the 64. -/
def above (x : Fin 64) : Fin 64 := ⟨(x + 16) % 64, by omega⟩
def below (x : Fin 64) : Fin 64 := ⟨(x + 48) % 64, by omega⟩

theorem lane_above (p : Fin 2) (x : Fin 64) (hx : x.val % 32 < 16) : lane p (above x) = up (lane p x) :=
  Fin.ext (by simp only [lane, above, up]; omega)
theorem lane_below (p : Fin 2) (x : Fin 64) (hx : ¬ x.val % 32 < 16) : lane p (below x) = down (lane p x) :=
  Fin.ext (by simp only [lane, below, down]; omega)
theorem lane_32 (p : Fin 2) (x : Fin 64) : (lane p x).val % 32 = x.val % 32 := by simp only [lane]; omega

theorem query_rotated (b : Fin 2) (s : Fin 4096) (h : Fin 8) (p : Fin 2) (x : Fin 64) :
    val_main_v55 X M G W gq (ix5 b s h p x)
      = if x.val % 32 < 16 then -val_main_v44 X M G W gq (ix5 b s h p (above x)) else val_main_v44 X M G W gq (ix5 b s h p (below x)) := by
  have hx := x.isLt
  pointwise [val_main_v55, val_main_v54, val_main_v53, val_main_v52, val_main_v51, val_main_v50, val_main_v49, val_main_v48, val_main_v47, val_main_v46, val_main_v45]
  split_ifs
  all_goals first
    | (exfalso; omega)
    | exact congrArg (fun q => -val_main_v44 X M G W gq (ix5 b s h p q)) (Fin.ext (by simp only [above]; omega))
    | exact congrArg (fun q => val_main_v44 X M G W gq (ix5 b s h p q)) (Fin.ext (by simp only [below]; omega))
    | (refine Eq.trans ?_ (if_pos (by omega)).symm
       exact congrArg (fun q => -val_main_v44 X M G W gq (ix5 b s h p q)) (Fin.ext (by simp only [above]; omega)))
    | (refine Eq.trans ?_ (if_neg (by omega)).symm
       exact congrArg (fun q => val_main_v44 X M G W gq (ix5 b s h p q)) (Fin.ext (by simp only [below]; omega)))

theorem key_rotated (b : Fin 2) (s : Fin 4096) (h : Fin 8) (p : Fin 2) (x : Fin 64) :
    val_main_v87 X M G W gk (ix5 b s h p x)
      = if x.val % 32 < 16 then -val_main_v76 X M G W gk (ix5 b s h p (above x)) else val_main_v76 X M G W gk (ix5 b s h p (below x)) := by
  have hx := x.isLt
  pointwise [val_main_v87, val_main_v86, val_main_v85, val_main_v84, val_main_v83, val_main_v82, val_main_v81, val_main_v80, val_main_v79, val_main_v78, val_main_v77]
  split_ifs
  all_goals first
    | (exfalso; omega)
    | exact congrArg (fun q => -val_main_v76 X M G W gk (ix5 b s h p q)) (Fin.ext (by simp only [above]; omega))
    | exact congrArg (fun q => val_main_v76 X M G W gk (ix5 b s h p q)) (Fin.ext (by simp only [below]; omega))
    | (refine Eq.trans ?_ (if_pos (by omega)).symm
       exact congrArg (fun q => -val_main_v76 X M G W gk (ix5 b s h p q)) (Fin.ext (by simp only [above]; omega)))
    | (refine Eq.trans ?_ (if_neg (by omega)).symm
       exact congrArg (fun q => val_main_v76 X M G W gk (ix5 b s h p q)) (Fin.ext (by simp only [below]; omega)))

theorem query_turned (b : Fin 2) (s : Fin 4096) (h : Fin 8) (p : Fin 2) (x : Fin 64) :
    val_main_v62 X M G W gq co si (ix5 b s h p x) = turn (halfnorm (fun j => y X M G W b s (col ⟨h, by omega⟩ j)) (fun j => gq (ix1 j)))
      (fun j => co (ix2 s j)) (fun j => si (ix2 s j)) (lane p x) := by
  pointwise [val_main_v62, val_main_v61, val_main_v60, val_main_v59, val_main_v58, val_main_v57, val_main_v56]
  rw [query_rotated, query_normed]
  unfold turn
  rw [within_lane, lane_32]
  split
  next hx => rw [query_normed, lane_above p x hx]
  next hx => rw [query_normed, lane_below p x hx]

theorem key_turned (b : Fin 2) (s : Fin 4096) (h : Fin 8) (p : Fin 2) (x : Fin 64) :
    val_main_v94 X M G W gk co si (ix5 b s h p x) = turn (halfnorm (fun j => y X M G W b s (col ⟨8 + h, by omega⟩ j)) (fun j => gk (ix1 j)))
      (fun j => co (ix2 s j)) (fun j => si (ix2 s j)) (lane p x) := by
  pointwise [val_main_v94, val_main_v93, val_main_v92, val_main_v91, val_main_v90, val_main_v89, val_main_v88]
  rw [key_rotated, key_normed]
  unfold turn
  rw [within_lane, lane_32]
  split
  next hx => rw [key_normed, lane_above p x hx]
  next hx => rw [key_normed, lane_below p x hx]

theorem query_scaled (b : Fin 2) (s : Fin 4096) (h : Fin 8) (p : Fin 2) (x : Fin 64) :
    val_main_v96 X M G W gq co si (ix5 b s h p x) = turn (halfnorm (fun j => y X M G W b s (col ⟨h, by omega⟩ j)) (fun j => gq (ix1 j))) (fun j => co (ix2 s j)) (fun j => si (ix2 s j)) (lane p x) * eighth := by
  pointwise [val_main_v96, val_main_v95, val_main_cst_9]
  rw [query_turned]

/-- The scaled queries. -/
theorem queries (b : Fin 2) (s : Fin 4096) (h : Fin 8) (x : Fin 128) :
    val_main_v97 X M G W gq co si (ix2 ⟨b * 4096 + s, by omega⟩ ⟨h * 128 + x, by omega⟩)
      = turn (halfnorm (fun j => y X M G W b s (col ⟨h, by omega⟩ j)) (fun j => gq (ix1 j))) (fun j => co (ix2 s j)) (fun j => si (ix2 s j)) x * eighth := by
  have e := query_scaled X M G W gq co si b s h (half x) (within x)
  rw [lane_half] at e
  rw [← e]
  pointwise [val_main_v97]
  exact congrArg₂ (fun u v => val_main_v96 X M G W gq co si (ix5 b s h u v)) (Fin.ext (by simp [half]; omega)) (Fin.ext (by simp [within]; omega))

/-- The keys. -/
theorem keys (b : Fin 2) (s : Fin 4096) (h : Fin 8) (x : Fin 128) :
    val_main_v98 X M G W gk co si (ix2 ⟨b * 4096 + s, by omega⟩ ⟨h * 128 + x, by omega⟩)
      = turn (halfnorm (fun j => y X M G W b s (col ⟨8 + h, by omega⟩ j)) (fun j => gk (ix1 j))) (fun j => co (ix2 s j)) (fun j => si (ix2 s j)) x := by
  have e := key_turned X M G W gk co si b s h (half x) (within x)
  rw [lane_half] at e
  rw [← e]
  pointwise [val_main_v98]
  exact congrArg₂ (fun u v => val_main_v94 X M G W gk co si (ix5 b s h u v)) (Fin.ext (by simp [half]; omega)) (Fin.ext (by simp [within]; omega))

/-- The values. -/
theorem values (b : Fin 2) (s : Fin 4096) (h : Fin 8) (x : Fin 128) :
    val_main_v99 X M G W (ix2 ⟨b * 4096 + s, by omega⟩ ⟨h * 128 + x, by omega⟩) = y X M G W b s (col ⟨16 + h, by omega⟩ x) := by
  pointwise [val_main_v99, val_main_v30]
  rw [projected]
  exact congrArg (y X M G W b s) (Fin.ext (by simp [col]; omega))

/-- The concatenated result. -/
theorem result (b : Fin 2) (s : Fin 4096) (n : Fin 24) (x : Fin 128) :
    val_main_v101 X M G W gq gk co si (ix2 ⟨b * 4096 + s, by omega⟩ (col n x))
      = packed (y X M G W b s) (fun z => turn (halfnorm z (fun j => gq (ix1 j))) (fun j => co (ix2 s j)) (fun j => si (ix2 s j))) (fun z => turn (halfnorm z (fun j => gk (ix1 j))) (fun j => co (ix2 s j)) (fun j => si (ix2 s j))) n x := by
  unfold packed
  have hn := n.isLt
  have hx := x.isLt
  rw [val_main_v101_apply, show ∀ z : EReal, FloatOps.truncf (F := Ideal) (φ := .f32) .bf16 bitsLt_bf16_f32 z = z from fun _ => rfl]
  split
  next h =>
    refine Eq.trans ?_ (queries X M G W gq co si b s ⟨n, h⟩ x)
    unfold col
    pointwise [val_main_v100]
    rw [dif_pos (by omega)]
  split
  next h _ =>
    refine Eq.trans ?_ ((keys X M G W gk co si b s ⟨n - 8, by omega⟩ x).trans (congrArg (fun c => turn (halfnorm (fun j => y X M G W b s (col c j)) (fun j => gk (ix1 j))) (fun j => co (ix2 s j)) (fun j => si (ix2 s j)) x) (Fin.ext (by simp; omega))))
    unfold col
    pointwise [val_main_v100]
    rw [dif_neg (by omega), dif_pos (by omega)]
    exact congrArg (fun q => val_main_v98 X M G W gk co si (ix2 _ q)) (Fin.ext (by simp; omega))
  next h _ =>
    refine Eq.trans ?_ ((values X M G W b s ⟨n - 16, by omega⟩ x).trans (congrArg (fun c => y X M G W b s (col c x)) (Fin.ext (by simp; omega))))
    unfold col
    pointwise [val_main_v100]
    rw [dif_neg (by omega), dif_neg (by omega)]
    exact congrArg (fun q => val_main_v99 X M G W (ix2 _ q)) (Fin.ext (by simp; omega))

end Cert.RotatedProjectReferenceIdeal.Entry

end
-- ==== Proof.RotatedProjectValue.lean ====
/-
  The results after the run of the latents' rotated projection kernel, as the reference's terms of the argument arrays.
-/
module

public import proofs.«01_k».proof.Proof.RotatedProjectBlock
public import proofs.«01_k».proof.Proof.RotatedProjectWindows
public import proofs.«01_k».proof.Proof.RotatedProjectReference

@[expose] public section

set_option maxRecDepth 16384

noncomputable section

namespace Cert.RotatedProjectIdeal.Final

open Cert.RotatedProjectIdeal Cert.RotatedProjectIdeal.Gen Cert.RotatedProjectIdeal.Windows Idealize.ShloMosaic Idealize.ShloMosaic.TcCoe Cert.Projection
open Cert.RotatedProjectReferenceIdeal.Read (val_main_v101)

variable (m : (ℓ : Loc nD τ sig) → Buf (Elt Ideal) ℓ) (c : Dev nD)

/-- Row `r` of the point's tile, as a row of the results and as the reference's batch and position. -/
def row (t : Fin cfg0.N) (r : Fin 512) : Fin 8192 := ⟨tile t * 512 + r, by omega⟩
def batch (t : Fin cfg0.N) (r : Fin 512) : Fin 2 := ⟨tile t / 8, by omega⟩

theorem row_eq (t : Fin cfg0.N) (r : Fin 512) : (⟨batch t r * 4096 + position t r, by omega⟩ : Fin 8192) = row t r :=
  Fin.ext (by simp only [batch, position, row]; omega)

/-- The block's projections are the reference's. -/
theorem yrow_eq (t : Fin cfg0.N) (r : Fin 512) :
    Block.yrow (iblk m c 0 t) (iblk m c 1 t) (iblk m c 2 t) (iblk m c 3 t) r
      = Cert.RotatedProjectReferenceIdeal.Entry.y (X m c) (M m c) (G m c) (W m c) (batch t r) (position t r) := by
  have e : (⟨(tile t + 16) * 512 + r, by omega⟩ : Fin 16384) = Cert.RotatedProjectReferenceIdeal.Entry.tok (batch t r) (position t r) :=
    Fin.ext (by simp only [batch, position, Cert.RotatedProjectReferenceIdeal.Entry.tok]; omega)
  have h0 : ∀ j, (iblk m c 0 t : Vec Ideal S512x1024 .f32) (ix2 r j) = X m c (ix2 (Cert.RotatedProjectReferenceIdeal.Entry.tok (batch t r) (position t r)) j) :=
    fun j => by rw [rows, e]
  have em : ∀ p j, (iblk m c 1 t : Vec Ideal S1x6x1024 .f32) (ix3 0 p j) = M m c (ix3 ⟨1 + batch t r, by omega⟩ p j) :=
    fun p j => (modulation m c t p j).trans (congrArg (fun q => M m c (ix3 q p j)) (Fin.ext (by simp only [batch]; omega)))
  unfold Block.yrow Cert.RotatedProjectReferenceIdeal.Entry.y
  rw [funext h0, funext (gains m c t), funext (em 1), funext (em 0),
    funext fun j => funext (weights m c t j)]

theorem out10 : (dats m 0 c).arrAt 10 cfg0.N = val_main_v101 (F := Ideal) (X m c) (M m c) (G m c) (W m c) (gq m c) (gk m c) (co m c) (si m c) := by
  refine (dats m 0 c).arrAt_eq_of_covers 10 _ (by decide +kernel) fun t hf y => ?_
  blk_simp
  rw [after0_10]
  revert y
  show ∀ y : S512x3072.Idx, _
  intro y
  obtain ⟨r, n, x, rfl⟩ : ∃ (r : Fin 512) (n : Fin 24) (x : Fin 128), y = ix2 r (col n x) :=
    ⟨y 0, Block.group (y 1), Block.inner (y 1), by
      funext a
      fin_cases a
      · rfl
      · exact Fin.ext (by show (y 1).val = (y 1).val / 128 * 128 + (y 1).val % 128; omega)⟩
  have hemb : ((cfg0.win 10).blk t).view.emb (ix2 r (col n x)) = ix2 (row t r) (col n x) := by
    unfold row tile
    blk_ext [e10]
  refine (Block.canon10 (iblk m c 0 t) (iblk m c 1 t) (iblk m c 2 t) (iblk m c 3 t) (iblk m c 4 t) (iblk m c 5 t) (iblk m c 6 t) (iblk m c 7 t) (iblk m c 8 t) (iblk m c 9 t)
    (gq := fun j => gq m c (ix1 j)) (gk := fun j => gk m c (ix1 j))
    (co := (fun r x => co m c (ix2 (position t r) x))) (si := (fun r x => si m c (ix2 (position t r) x))) (mask m c t) (query_gains m c t) (key_gains m c t) (tables m c t) _).trans ?_
  rw [Block.E_col, yrow_eq]
  refine (Cert.RotatedProjectReferenceIdeal.Entry.result (X m c) (M m c) (G m c) (W m c) (gq m c) (gk m c) (co m c) (si m c) (batch t r) (position t r) n x).symm.trans ?_
  rw [row_eq]
  exact congrArg (val_main_v101 (F := Ideal) (X m c) (M m c) (G m c) (W m c) (gq m c) (gk m c) (co m c) (si m c)) hemb.symm

end Cert.RotatedProjectIdeal.Final

end
-- ==== Proof.WindowProjectBlock.lean ====
/-
  One block of the contexts' projection of layers 0 and 3, entry by entry: `Projection.windowed` of the block's rows.
-/
module

public import proofs.«01_k».proof.Proof.ProjectPacked
public import proofs.«01_k».proof.Proof.Gen.WindowProjectIdeal
public import proofs.«01_k».proof.Proof.Gen.WindowProjectIdeal.Frame
public import proofs.«01_k».proof.Proof.Gen.WindowProjectIdeal.Value
public import Idealize.ShloMosaic.Lib.Pipeline.ValueKit

@[expose] public section

set_option maxRecDepth 16384

noncomputable section

namespace Cert.WindowProjectIdeal.Block

open Cert.WindowProjectIdeal Cert.WindowProjectIdeal.Gen Idealize.ShloMosaic Cert.Projection

/-- The block's rows normalised, modulated and projected. -/
theorem proj_apply (x : Vec Ideal S512x1024 .f32) (g : Vec Ideal S1x1024 .f32) (sc sh : Vec Ideal S1x1x1024 .f32)
    (w : Vec Ideal S1024x1536 .bf16) (r : Fin 512) (c : Fin 1536) :
    k0_pay1 x g sc sh w (ix2 r c)
      = proj (fun j => x (ix2 r j)) (fun j => g (ix2 0 j)) (fun j => sc (ix3 0 0 j)) (fun j => sh (ix3 0 0 j)) (fun j c => w (ix2 j c)) c := by
  pointwise [k0_pay1]
  rfl

variable (Y : FVec Ideal S512x1536 .f32) (B : Vec Ideal S128x128 .f32) (G : Vec Ideal S1x128 .f32) (g : Fin 64 → EReal)
  (hB : Halves fun j x => B (ix2 j x)) (hG : Repeats (fun x => G (ix2 0 x)) g)
include hB hG
theorem query7_0 (a0 : Vec Ideal S512x1024 .f32) (a1 : Vec Ideal S1x1024 .f32) (a2 a3 : Vec Ideal S1x1x1024 .f32) (a4 : Vec Ideal S1024x1536 .bf16)
    (r : Fin 512) (x : Fin 128) :
    k0_pay6 (k0_pay2 G) (k0_pay3 a0 a1 a2 a3 a4) (k0_pay4 a0 a1 a2 a3 a4 B) (k0_pay5 (F := Ideal)) (ix2 r x)
      = halfnorm (fun j => (k0_pay1 a0 a1 a2 a3 a4) (ix2 r (wcol 0 j))) g x * eighth := by
  rw [← masked_apply hB hG]
  pointwise [k0_pay2, k0_pay3, k0_pay4, k0_pay5, k0_pay6]
  generalize k0_pay1 a0 a1 a2 a3 a4 = Y
  have e : ∀ x : Fin 128, (⟨x.val, by omega⟩ : Fin 1536) = wcol 0 x := fun x => Fin.ext (by simp [wcol])
  simp only [e]
theorem query7_1 (r : Fin 512) (x : Fin 128) :
    k0_pay7 Y B G (ix2 r x)
      = halfnorm (fun j => Y (ix2 r (wcol 1 j))) g x * eighth := by
  rw [← masked_apply hB hG]
  pointwise [k0_pay7]
  rfl
theorem query7_2 (r : Fin 512) (x : Fin 128) :
    k0_pay9 (k0_pay8 Y B G) (ix2 r x)
      = halfnorm (fun j => Y (ix2 r (wcol 2 j))) g x * eighth := by
  rw [← masked_apply hB hG]
  pointwise [k0_pay8, k0_pay9]
  rfl
theorem query7_3 (r : Fin 512) (x : Fin 128) :
    k0_pay10 Y B G (ix2 r x)
      = halfnorm (fun j => Y (ix2 r (wcol 3 j))) g x * eighth := by
  rw [← masked_apply hB hG]
  pointwise [k0_pay10]
  rfl
theorem query7_4 (r : Fin 512) (x : Fin 128) :
    k0_pay11 Y B G (ix2 r x)
      = halfnorm (fun j => Y (ix2 r (wcol 4 j))) g x * eighth := by
  rw [← masked_apply hB hG]
  pointwise [k0_pay11]
  rfl
theorem query7_5 (r : Fin 512) (x : Fin 128) :
    k0_pay12 Y B G (ix2 r x)
      = halfnorm (fun j => Y (ix2 r (wcol 5 j))) g x * eighth := by
  rw [← masked_apply hB hG]
  pointwise [k0_pay12]
  rfl
theorem query7_6 (r : Fin 512) (x : Fin 128) :
    k0_pay13 Y B G (ix2 r x)
      = halfnorm (fun j => Y (ix2 r (wcol 6 j))) g x * eighth := by
  rw [← masked_apply hB hG]
  pointwise [k0_pay13]
  rfl
theorem query7_7 (r : Fin 512) (x : Fin 128) :
    k0_pay17 (k0_pay14 G) (k0_pay15 Y) (k0_pay16 Y B) (ix2 r x)
      = halfnorm (fun j => Y (ix2 r (wcol 7 j))) g x * eighth := by
  rw [← masked_apply hB hG]
  pointwise [k0_pay14, k0_pay15, k0_pay16, k0_pay17]
  rfl
theorem key7_8 (r : Fin 512) (x : Fin 128) :
    k0_pay24 (k0_pay18 Y B G) (ix2 r x)
      = halfnorm (fun j => Y (ix2 r (wcol 8 j))) g x := by
  rw [← masked_apply hB hG]
  pointwise [k0_pay18, k0_pay24]
  rfl
theorem key7_9 (r : Fin 512) (x : Fin 128) :
    k0_pay25 (k0_pay19 Y B G) (ix2 r x)
      = halfnorm (fun j => Y (ix2 r (wcol 9 j))) g x := by
  rw [← masked_apply hB hG]
  pointwise [k0_pay19, k0_pay25]
  rfl
theorem key7_10 (r : Fin 512) (x : Fin 128) :
    k0_pay26 (k0_pay22 Y B G) (ix2 r x)
      = halfnorm (fun j => Y (ix2 r (wcol 8 j))) g (other x) := by
  rw [← masked_apply hB hG]
  pointwise [k0_pay18, k0_pay22, k0_pay26]
  rfl
theorem key7_11 (r : Fin 512) (x : Fin 128) :
    k0_pay27 (k0_pay23 Y B G) (ix2 r x)
      = halfnorm (fun j => Y (ix2 r (wcol 9 j))) g (other x) := by
  rw [← masked_apply hB hG]
  pointwise [k0_pay19, k0_pay23, k0_pay27]
  rfl
theorem key8_0 (r : Fin 512) (x : Fin 128) :
    k0_pay18 Y B G (ix2 r x)
      = halfnorm (fun j => Y (ix2 r (wcol 8 j))) g x := by
  rw [← masked_apply hB hG]
  pointwise [k0_pay18]
  rfl
theorem key8_1 (r : Fin 512) (x : Fin 128) :
    k0_pay19 Y B G (ix2 r x)
      = halfnorm (fun j => Y (ix2 r (wcol 9 j))) g x := by
  rw [← masked_apply hB hG]
  pointwise [k0_pay19]
  rfl
omit hB hG
theorem value7_12 (r : Fin 512) (x : Fin 128) :
    k0_pay28 (k0_pay20 Y) (ix2 r x)
      = Y (ix2 r (wcol 10 x)) := by
  pointwise [k0_pay20, k0_pay28]
  rfl
theorem value7_13 (r : Fin 512) (x : Fin 128) :
    k0_pay29 (k0_pay21 Y) (ix2 r x)
      = Y (ix2 r (wcol 11 x)) := by
  pointwise [k0_pay21, k0_pay29]
  rfl
theorem value7_14 (r : Fin 512) (x : Fin 128) :
    k0_pay30 (k0_pay20 Y) (ix2 r x)
      = Y (ix2 r (wcol 10 (other x))) := by
  pointwise [k0_pay20, k0_pay30]
  rfl
theorem value7_15 (r : Fin 512) (x : Fin 128) :
    k0_pay31 (k0_pay21 Y) (ix2 r x)
      = Y (ix2 r (wcol 11 (other x))) := by
  pointwise [k0_pay21, k0_pay31]
  rfl
theorem value9_0 (r : Fin 512) (x : Fin 128) :
    k0_pay20 Y (ix2 r x)
      = Y (ix2 r (wcol 10 x)) := by
  pointwise [k0_pay20]
  rfl
theorem value9_1 (r : Fin 512) (x : Fin 128) :
    k0_pay21 Y (ix2 r x)
      = Y (ix2 r (wcol 11 x)) := by
  pointwise [k0_pay21]
  rfl

variable (x0 : Vec Ideal S512x1024 .f32) (x1 : Vec Ideal S1x6x1024 .f32) (x2 : Vec Ideal S1x1024 .f32) (x3 : Vec Ideal S1024x1536 .bf16)
  (x4 x5 : Vec Ideal S1x128 .f32) (x6 : Vec Ideal S128x128 .f32)

/-- The block's projections: row `r`, all columns. -/
abbrev yrow (r : Fin 512) : Fin 1536 → EReal :=
  proj (fun j => x0 (ix2 r j)) (fun j => x2 (ix2 0 j)) (fun j => x1 (ix3 0 1 j)) (fun j => x1 (ix3 0 0 j)) (fun j c => x3 (ix2 j c))

theorem y_apply (r : Fin 512) (c : Fin 1536) : k0_pay32 x0 x1 x2 x3 x4 x5 x6 (ix2 r c) = yrow x0 x1 x2 x3 r c := by
  have h0 : View.ld x0 r0_0 = x0 := View.ld_unit_lit _ x0 (by decide)
  have h1 : View.ld x2 r0_1 = x2 := View.ld_unit_lit _ x2 (by decide)
  have h4 : View.ld x3 r0_4 = x3 := View.ld_unit_lit _ x3 (by decide)
  have h2 : ∀ j : Fin 1024, View.ld x1 r0_2 (ix3 0 0 j) = x1 (ix3 0 1 j) := fun j => View.ld_unit_apply_of _ _ _ _ _ _ fun a => by fin_cases a <;> simp [ix3]
  have h3 : ∀ j : Fin 1024, View.ld x1 r0_3 (ix3 0 0 j) = x1 (ix3 0 0 j) := fun j => View.ld_unit_apply_of _ _ _ _ _ _ fun a => by fin_cases a <;> simp [ix3]
  unfold k0_pay32
  rw [proj_apply, h0, h1, h4]
  simp only [h2, h3]

theorem ld_gains : View.ld x4 r0_6 = x4 := View.ld_unit_lit _ x4 (by decide)
theorem ld_mask : View.ld x6 r0_5 = x6 := View.ld_unit_lit _ x6 (by decide)

/-- A column of the block as its group's number and its lane. -/
def group (c : Fin 2048) : Fin 16 := ⟨c / 128, by omega⟩
def inner (c : Fin 2048) : Fin 128 := ⟨c % 128, by omega⟩
theorem group_col (n : Fin 16) (x : Fin 128) : group (ocol n x) = n := Fin.ext (by simp only [group, ocol]; omega)
theorem inner_col (n : Fin 16) (x : Fin 128) : inner (ocol n x) = x := Fin.ext (by simp only [inner, ocol]; omega)

/-- The concatenated block. -/
def E (gq gk : Fin 64 → EReal) : Vec Ideal S512x2048 .bf16 := fun i =>
  windowed (yrow x0 x1 x2 x3 (i 0)) (fun y => halfnorm y gq) (fun y => halfnorm y gk) (group (i 1)) (inner (i 1))

theorem E_col (gq gk : Fin 64 → EReal) (r : Fin 512) (n : Fin 16) (x : Fin 128) :
    E x0 x1 x2 x3 gq gk (ix2 r (ocol n x)) = windowed (yrow x0 x1 x2 x3 r) (fun y => halfnorm y gq) (fun y => halfnorm y gk) n x := by
  show windowed (yrow x0 x1 x2 x3 r) (fun y => halfnorm y gq) (fun y => halfnorm y gk) (group (ocol n x)) (inner (ocol n x)) = _
  rw [group_col, inner_col]

/-- A piece of the concatenated block is group `n`. -/
theorem in_group (gq gk : Fin 64 → EReal) (n : Fin 16) (off : ℕ) (inb : ∀ a, (![0, off] : Fin 2 → ℕ) a + S512x128.size a ≤ S512x2048.size a)
    (p : Vec Ideal S512x128 .bf16) (ho : off = n.val * 128)
    (h : ∀ (r : Fin 512) (x : Fin 128), p (ix2 r x) = windowed (yrow x0 x1 x2 x3 r) (fun y => halfnorm y gq) (fun y => halfnorm y gk) n x) :
    ∀ i : S512x128.Idx, p i = E x0 x1 x2 x3 gq gk ((Rect.unit (s := S512x2048) ![0, off] S512x128.size inb).emb i) := by
  intro i
  obtain ⟨r, x, rfl⟩ : ∃ (r : Fin 512) (x : Fin 128), i = ix2 r x := ⟨i 0, i 1, by funext a; fin_cases a <;> rfl⟩
  rw [h, ← E_col]
  refine congrArg (E x0 x1 x2 x3 gq gk) (funext fun a => Fin.ext ?_)
  subst ho
  fin_cases a
  · show r.val = 0 + 1 * r.val; omega
  · show n.val * 128 + x.val = n.val * 128 + 1 * x.val; omega

theorem canon7 {gq gk : Fin 64 → EReal} (hB : Halves fun j x => x6 (ix2 j x))
    (hq : Repeats (fun x => x4 (ix2 0 x)) gq) (hk : Repeats (fun x => x5 (ix2 0 x)) gk)
    (i : S512x2048.Idx) : out0_7 x0 x1 x2 x3 x4 x5 x6 i = E x0 x1 x2 x3 gq gk i := by
  unfold out0_7
  refine View.canon_apply_of_pieces (E x0 x1 x2 x3 gq gk) _ ?_ i (cover0_7 _ _ _ _ _ _ _ _ _ _ _ _ _ _ _ _ i)
  intro pc hpc
  rcases List.mem_cons.mp hpc with rfl | hpc
  · refine in_group x0 x1 x2 x3 gq gk 15 1920 inb_S512x2048_S512x128_0_1920 _ (by decide) fun r x => ?_
    refine (value7_15 (k0_pay32 x0 x1 x2 x3 x4 x5 x6) r x).trans ?_
    simp only [y_apply]
    rfl
  rcases List.mem_cons.mp hpc with rfl | hpc
  · refine in_group x0 x1 x2 x3 gq gk 14 1792 inb_S512x2048_S512x128_0_1792 _ (by decide) fun r x => ?_
    refine (value7_14 (k0_pay32 x0 x1 x2 x3 x4 x5 x6) r x).trans ?_
    simp only [y_apply]
    rfl
  rcases List.mem_cons.mp hpc with rfl | hpc
  · refine in_group x0 x1 x2 x3 gq gk 13 1664 inb_S512x2048_S512x128_0_1664 _ (by decide) fun r x => ?_
    refine (value7_13 (k0_pay32 x0 x1 x2 x3 x4 x5 x6) r x).trans ?_
    simp only [y_apply]
    rfl
  rcases List.mem_cons.mp hpc with rfl | hpc
  · refine in_group x0 x1 x2 x3 gq gk 12 1536 inb_S512x2048_S512x128_0_1536 _ (by decide) fun r x => ?_
    refine (value7_12 (k0_pay32 x0 x1 x2 x3 x4 x5 x6) r x).trans ?_
    simp only [y_apply]
    rfl
  rcases List.mem_cons.mp hpc with rfl | hpc
  · refine in_group x0 x1 x2 x3 gq gk 11 1408 inb_S512x2048_S512x128_0_1408 _ (by decide) fun r x => ?_
    refine (key7_11 (k0_pay32 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 10 1280 inb_S512x2048_S512x128_0_1280 _ (by decide) fun r x => ?_
    refine (key7_10 (k0_pay32 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 9 1152 inb_S512x2048_S512x128_0_1152 _ (by decide) fun r x => ?_
    refine (key7_9 (k0_pay32 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 8 1024 inb_S512x2048_S512x128_0_1024 _ (by decide) fun r x => ?_
    refine (key7_8 (k0_pay32 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_group x0 x1 x2 x3 gq gk 7 896 inb_S512x2048_S512x128_0_896 _ (by decide) fun r x => ?_
    refine (query7_7 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 6 768 inb_S512x2048_S512x128_0_768 _ (by decide) fun r x => ?_
    refine (query7_6 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 5 640 inb_S512x2048_S512x128_0_640 _ (by decide) fun r x => ?_
    refine (query7_5 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 4 512 inb_S512x2048_S512x128_0_512 _ (by decide) fun r x => ?_
    refine (query7_4 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 3 384 inb_S512x2048_S512x128_0_384 _ (by decide) fun r x => ?_
    refine (query7_3 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 2 256 inb_S512x2048_S512x128_0_256 _ (by decide) fun r x => ?_
    refine (query7_2 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 1 128 inb_S512x2048_S512x128_0_128 _ (by decide) fun r x => ?_
    refine (query7_1 (k0_pay32 x0 x1 x2 x3 x4 x5 x6) (View.ld x6 r0_5) (View.ld x4 r0_6) gq (by rw [ld_mask]; exact hB) (by rw [ld_gains]; exact hq) r x).trans ?_
    simp only [y_apply]
    rfl
  rcases List.mem_cons.mp hpc with rfl | hpc
  · refine in_group x0 x1 x2 x3 gq gk 0 0 inb_S512x2048_S512x128_0_0 _ (by decide) fun r x => ?_
    refine (query7_0 (View.ld x6 r0_5) (View.ld x4 r0_6) gq (by rw [ld_mask]; exact hB) (by rw [ld_gains]; exact hq) _ _ _ _ _ r x).trans ?_
    have e : ∀ c, k0_pay1 (View.ld x0 r0_0) (View.ld x2 r0_1) (View.ld x1 r0_2) (View.ld x1 r0_3) (View.ld x3 r0_4) (ix2 r c) = yrow x0 x1 x2 x3 r c :=
      y_apply x0 x1 x2 x3 x4 x5 x6 r
    simp only [e]
    rfl
  exact absurd hpc List.not_mem_nil

/-- The key and value blocks: the keys' and the values' groups of the projections. -/
def E8 (gk : Fin 64 → EReal) : Vec Ideal S512x256 .f32 := fun i =>
  halfnorm (fun j => yrow x0 x1 x2 x3 (i 0) (wcol ⟨8 + (i 1).val / 128, by have := (i 1).isLt; dsimp at this; omega⟩ j)) gk ⟨(i 1).val % 128, by omega⟩
def E9 : Vec Ideal S512x256 .f32 := fun i =>
  yrow x0 x1 x2 x3 (i 0) (wcol ⟨10 + (i 1).val / 128, by have := (i 1).isLt; dsimp at this; omega⟩ ⟨(i 1).val % 128, by omega⟩)

theorem E8_col (gk : Fin 64 → EReal) (r : Fin 512) (n : Fin 2) (x : Fin 128) :
    E8 x0 x1 x2 x3 gk (ix2 r ⟨n * 128 + x, by omega⟩) = halfnorm (fun j => yrow x0 x1 x2 x3 r (wcol ⟨8 + n, by omega⟩ j)) gk x := by
  have h1 : (⟨8 + (n.val * 128 + x.val) / 128, by omega⟩ : Fin 12) = ⟨8 + n.val, by omega⟩ := Fin.ext (by dsimp only; omega)
  have h2 : (⟨(n.val * 128 + x.val) % 128, by omega⟩ : Fin 128) = x := Fin.ext (by dsimp only; omega)
  show halfnorm (fun j => yrow x0 x1 x2 x3 r (wcol ⟨8 + (n.val * 128 + x.val) / 128, _⟩ j)) gk ⟨(n.val * 128 + x.val) % 128, _⟩ = _
  rw [h1, h2]
theorem E9_col (r : Fin 512) (n : Fin 2) (x : Fin 128) :
    E9 x0 x1 x2 x3 (ix2 r ⟨n * 128 + x, by omega⟩) = yrow x0 x1 x2 x3 r (wcol ⟨10 + n, by omega⟩ x) := by
  have h1 : (⟨10 + (n.val * 128 + x.val) / 128, by omega⟩ : Fin 12) = ⟨10 + n.val, by omega⟩ := Fin.ext (by dsimp only; omega)
  have h2 : (⟨(n.val * 128 + x.val) % 128, by omega⟩ : Fin 128) = x := Fin.ext (by dsimp only; omega)
  show yrow x0 x1 x2 x3 r (wcol ⟨10 + (n.val * 128 + x.val) / 128, _⟩ ⟨(n.val * 128 + x.val) % 128, _⟩) = _
  rw [h1, h2]

omit x0 x1 x2 x3 x4 x5 x6 in
/-- A piece of the key or value block is one group of it. -/
theorem in_head (E : Vec Ideal S512x256 .f32) (n : Fin 2) (off : ℕ) (inb : ∀ a, (![0, off] : Fin 2 → ℕ) a + S512x128.size a ≤ S512x256.size a)
    (p : Vec Ideal S512x128 .f32) (ho : off = n.val * 128)
    (h : ∀ (r : Fin 512) (x : Fin 128), p (ix2 r x) = E (ix2 r ⟨n * 128 + x, by omega⟩)) :
    ∀ i : S512x128.Idx, p i = E ((Rect.unit (s := S512x256) ![0, off] S512x128.size inb).emb i) := by
  intro i
  obtain ⟨r, x, rfl⟩ : ∃ (r : Fin 512) (x : Fin 128), i = ix2 r x := ⟨i 0, i 1, by funext a; fin_cases a <;> rfl⟩
  rw [h]
  refine congrArg E (funext fun a => Fin.ext ?_)
  subst ho
  fin_cases a
  · show r.val = 0 + 1 * r.val; omega
  · show n.val * 128 + x.val = n.val * 128 + 1 * x.val; omega

theorem canon8 {gk : Fin 64 → EReal} (hB : Halves fun j x => x6 (ix2 j x)) (hk : Repeats (fun x => x5 (ix2 0 x)) gk) (i : S512x256.Idx) :
    out0_8 x0 x1 x2 x3 x4 x5 x6 i = E8 x0 x1 x2 x3 gk i := by
  unfold out0_8
  refine View.canon_apply_of_pieces (E8 x0 x1 x2 x3 gk) _ ?_ i (cover0_8 _ _ i)
  intro pc hpc
  rcases List.mem_cons.mp hpc with rfl | hpc
  · refine in_head (E8 x0 x1 x2 x3 gk) 1 128 inb_S512x256_S512x128_0_128 _ (by decide) fun r x => ?_
    rw [E8_col]
    refine (key8_1 (k0_pay32 x0 x1 x2 x3 x4 x5 x6) (View.ld x6 r0_5) (View.ld x5 r0_6) gk (by rw [ld_mask]; exact hB) (by rw [ld_gains]; exact hk) r x).trans ?_
    simp only [y_apply]
    rfl
  rcases List.mem_cons.mp hpc with rfl | hpc
  · refine in_head (E8 x0 x1 x2 x3 gk) 0 0 inb_S512x256_S512x128_0_0 _ (by decide) fun r x => ?_
    rw [E8_col]
    refine (key8_0 (k0_pay32 x0 x1 x2 x3 x4 x5 x6) (View.ld x6 r0_5) (View.ld x5 r0_6) gk (by rw [ld_mask]; exact hB) (by rw [ld_gains]; exact hk) r x).trans ?_
    simp only [y_apply]
    rfl
  exact absurd hpc List.not_mem_nil

theorem canon9 (i : S512x256.Idx) : out0_9 x0 x1 x2 x3 x4 x5 x6 i = E9 x0 x1 x2 x3 i := by
  unfold out0_9
  refine View.canon_apply_of_pieces (E9 x0 x1 x2 x3) _ ?_ i (cover0_9 _ _ i)
  intro pc hpc
  rcases List.mem_cons.mp hpc with rfl | hpc
  · refine in_head (E9 x0 x1 x2 x3) 1 128 inb_S512x256_S512x128_0_128 _ (by decide) fun r x => ?_
    rw [E9_col]
    refine (value9_1 (k0_pay32 x0 x1 x2 x3 x4 x5 x6) r x).trans ?_
    simp only [y_apply]
    rfl
  rcases List.mem_cons.mp hpc with rfl | hpc
  · refine in_head (E9 x0 x1 x2 x3) 0 0 inb_S512x256_S512x128_0_0 _ (by decide) fun r x => ?_
    rw [E9_col]
    refine (value9_0 (k0_pay32 x0 x1 x2 x3 x4 x5 x6) r x).trans ?_
    simp only [y_apply]
    rfl
  exact absurd hpc List.not_mem_nil

end Cert.WindowProjectIdeal.Block

end
-- ==== Proof.WindowProjectMask.lean ====
/-
  The table of this projection kernel's mask is the one of the contexts' projection.
-/
module

public import proofs.«01_k».proof.Proof.ProjectMask
public import proofs.«01_k».proof.Proof.Gen.WindowProjectIdeal

@[expose] public section

set_option maxRecDepth 16384

namespace Cert.WindowProjectIdeal.Mask

open Idealize.ShloMosaic

theorem lit_at (k : Fin 16384) (p x : Fin 128) (h : k.val = p * 128 + x) :
    Cert.WindowProjectIdeal.lit0 k = if p.val / 64 = x.val / 64 then 0x3F800000#32 else 0x00000000#32 :=
  Cert.ProjectIdeal.Mask.lit_at k p x h

end Cert.WindowProjectIdeal.Mask

end
-- ==== Proof.WindowProjectWindows.lean ====
/-
  The input blocks of the contexts' projection of layers 0 and 3 at a grid point, entry by entry in terms of the argument arrays.
-/
module

public import proofs.«01_k».proof.Proof.ProjectPacked
public import proofs.«01_k».proof.Proof.WindowProjectMask
public import proofs.«01_k».proof.Proof.Gen.WindowProjectIdeal
public import proofs.«01_k».proof.Proof.Gen.WindowProjectIdeal.Frame
public import proofs.«01_k».proof.Proof.Gen.WindowProjectIdeal.Value
public import Idealize.ShloMosaic.Lib.Pipeline.ValueKit

@[expose] public section

set_option maxRecDepth 16384

noncomputable section

namespace Cert.WindowProjectIdeal.Windows

open Cert.WindowProjectIdeal Cert.WindowProjectIdeal.Gen Idealize.ShloMosaic Idealize.ShloMosaic.TcCoe Cert.Projection

variable (m : (ℓ : Loc nD τ sig) → Buf (Elt Ideal) ℓ) (c : Dev nD)

/-- The arguments on core `c`: activations, modulation, gains of the rows, weights, gains of the queries and of the keys. -/
abbrev X : Vec Ideal S16384x1024 .f32 := m ((c : Thread nD τ).loc main_arg0)
abbrev M : Vec Ideal S8x6x1024 .f32 := m ((c : Thread nD τ).loc main_arg1)
abbrev G : Vec Ideal S1024 .f32 := m ((c : Thread nD τ).loc main_arg2)
abbrev W : Vec Ideal S1024x1536 .f32 := m ((c : Thread nD τ).loc main_arg3)
abbrev gq : Vec Ideal S64 .f32 := m ((c : Thread nD τ).loc main_arg4)
abbrev gk : Vec Ideal S64 .f32 := m ((c : Thread nD τ).loc main_arg5)

/-- The point's tile of rows. -/
def tile (t : Fin cfg0.N) : Fin 16 := ⟨(grid0.coords t 0).val, (grid0.coords t 0).isLt⟩

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0, 0] := (by decide +kernel : ∀ t : Fin grid0.N, win0_1.index t = ![0, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![(grid0.coords t 0).val, 0] :=
  (by decide +kernel : ∀ t : Fin grid0.N, win0_7.index t = ![(grid0.coords t 0).val, 0])
theorem e8 : ∀ t : Fin cfg0.N, win0_8.index t = ![(grid0.coords t 0).val, 0] :=
  (by decide +kernel : ∀ t : Fin grid0.N, win0_8.index t = ![(grid0.coords t 0).val, 0])
theorem e9 : ∀ t : Fin cfg0.N, win0_9.index t = ![(grid0.coords t 0).val, 0] :=
  (by decide +kernel : ∀ t : Fin grid0.N, win0_9.index t = ![(grid0.coords t 0).val, 0])

theorem ofBits_one : Ideal.ofBits .f32 0x3F800000#32 = 1 := by
  simp [Ideal.ofBits, Ideal.ieee]
  rw [← EReal.coe_mul, ← EReal.coe_one]
  norm_num
theorem ofBits_zero : Ideal.ofBits .f32 0x00000000#32 = 0 := by
  simp [Ideal.ofBits, Ideal.ieee]

theorem rows (t : Fin cfg0.N) (r : Fin 512) (j : Fin 1024) :
    (iblk m c 0 t : Vec Ideal S512x1024 .f32) (ix2 r j) = X m c (ix2 ⟨tile t * 512 + r, by omega⟩ j) := by
  blk_simp [iblk]
  rw [V_main_arg0]
  unfold tile
  blk_ext [e0]

theorem modulation (t : Fin cfg0.N) (p : Fin 6) (j : Fin 1024) :
    (iblk m c 1 t : Vec Ideal S1x6x1024 .f32) (ix3 0 p j) = M m c (ix3 0 p j) := by
  blk_simp [iblk]
  rw [V_main_arg1]
  blk_ext [e1]

theorem V_v0 (j : Fin 1024) : V m c main_v0 (ix2 0 j) = G m c (ix1 j) := by
  have : V m c main_v0 = (shapeCast S1x1024 (G m c) shapeCasts_S1024_S1x1024 : Vec Ideal S1x1024 .f32) := by
    unfold V hostOps0
    after_results_simp <;> rfl
  rw [this]
  pointwise []
theorem V_v1 (j : Fin 1024) (k : Fin 1536) : V m c main_v1 (ix2 j k) = W m c (ix2 j k) := by
  have : V m c main_v1 = (truncf (F := Ideal) .bf16 (W m c) bitsLt_bf16_f32 : Vec Ideal S1024x1536 .bf16) := by
    unfold V hostOps0
    after_results_simp <;> rfl
  rw [this]
  pointwise []
/-- The gains of one half, written twice. -/
theorem twice (g : Vec Ideal S64 .f32) (x : Fin 128) :
    (shapeCast S1x128 (concatenate S128 0 [⟨S64, g⟩, ⟨S64, g⟩] concatenates_S64_S64_S128_d0) shapeCasts_S128_S1x128 : Vec Ideal S1x128 .f32) (ix2 0 x)
      = g (ix1 (within x)) := by
  pointwise []
  split
  next h => exact congrArg g (congrArg ix1 (Fin.ext (by simp only [within]; omega)))
  next h => exact congrArg g (congrArg ix1 (Fin.ext (by simp only [within]; omega)))
theorem V_v3 (x : Fin 128) : V m c main_v3 (ix2 0 x) = gq m c (ix1 (within x)) := by
  have : V m c main_v3 = (shapeCast S1x128 (concatenate S128 0 [⟨S64, gq m c⟩, ⟨S64, gq m c⟩] concatenates_S64_S64_S128_d0) shapeCasts_S128_S1x128 : Vec Ideal S1x128 .f32) := by
    unfold V hostOps0
    after_results_simp <;> rfl
  rw [this, twice]
theorem V_v5 (x : Fin 128) : V m c main_v5 (ix2 0 x) = gk m c (ix1 (within x)) := by
  have : V m c main_v5 = (shapeCast S1x128 (concatenate S128 0 [⟨S64, gk m c⟩, ⟨S64, gk m c⟩] concatenates_S64_S64_S128_d0) shapeCasts_S128_S1x128 : Vec Ideal S1x128 .f32) := by
    unfold V hostOps0
    after_results_simp <;> rfl
  rw [this, twice]
theorem V_cst : V m c main_cst = (fun i => FloatOps.ofBits (F := Ideal) .f32 (lit0 (S128x128.rowMajor i)) : FVec Ideal S128x128 .f32) := by
  unfold V hostOps0
  after_results_simp <;> rfl

theorem gains (t : Fin cfg0.N) (j : Fin 1024) : (iblk m c 2 t : Vec Ideal S1x1024 .f32) (ix2 0 j) = G m c (ix1 j) := by
  rw [← V_v0]
  blk_simp [iblk]
  blk_ext [e2]
theorem weights (t : Fin cfg0.N) (j : Fin 1024) (k : Fin 1536) : (iblk m c 3 t : Vec Ideal S1024x1536 .bf16) (ix2 j k) = W m c (ix2 j k) := by
  rw [← V_v1]
  blk_simp [iblk]
  blk_ext [e3]

theorem mask (t : Fin cfg0.N) (j x : Fin 128) :
    (iblk m c 6 t : Vec Ideal S128x128 .f32) (ix2 j x) = if j.val / 64 = x.val / 64 then (1 : EReal) else (0 : EReal) := by
  have h : (iblk m c 6 t : Vec Ideal S128x128 .f32) (ix2 j x) = V m c main_cst (ix2 j x) := by
    blk_simp [iblk]
    blk_ext [e6]
  rw [h, V_cst]
  have hr : (S128x128.rowMajor (ix2 j x)).val = j * 128 + x := by rw [Shape.rowMajor_val_two]; rfl
  show Ideal.ofBits .f32 (lit0 (S128x128.rowMajor (ix2 j x))) = _
  refine (congrArg (Ideal.ofBits .f32) (Mask.lit_at _ _ _ hr)).trans ?_
  split
  · exact ofBits_one
  · exact ofBits_zero

theorem query_gains (t : Fin cfg0.N) (x : Fin 128) : (iblk m c 4 t : Vec Ideal S1x128 .f32) (ix2 0 x) = gq m c (ix1 (within x)) := by
  rw [← V_v3]
  blk_simp [iblk]
  blk_ext [e4]
theorem key_gains (t : Fin cfg0.N) (x : Fin 128) : (iblk m c 5 t : Vec Ideal S1x128 .f32) (ix2 0 x) = gk m c (ix1 (within x)) := by
  rw [← V_v5]
  blk_simp [iblk]
  blk_ext [e5]

end Cert.WindowProjectIdeal.Windows

end
-- ==== Proof.WindowProjectReference.lean ====
/-
  The results of the reference of the contexts' windowed projections, entry by entry: `Projection.windowed` of the tokens' rows.
-/
module

public import proofs.«01_k».proof.Proof.ProjectPacked
public import proofs.«01_k».proof.Proof.Gen.WindowProjectReferenceIdeal
public import proofs.«01_k».proof.Proof.Gen.WindowProjectReferenceIdeal.Read

@[expose] public section
set_option maxRecDepth 16384

noncomputable section

namespace Cert.WindowProjectReferenceIdeal.Entry

open Cert.WindowProjectReferenceIdeal.Read Cert.WindowProjectReferenceIdeal Cert.WindowProjectReferenceIdeal.Gen Idealize.ShloMosaic Cert.Projection

variable (X : Vec Ideal S16384x1024 .f32) (M : Vec Ideal S8x6x1024 .f32) (G : Vec Ideal S1024 .f32) (W : Vec Ideal S1024x1536 .f32)
  (gq gk : Vec Ideal S64 .f32)

/-- The token `b`, `s` as a row of the activations. -/
def tok (b : Fin 32) (s : Fin 256) : Fin 16384 := ⟨b * 256 + s, by omega⟩

theorem rows (b : Fin 32) (s : Fin 256) (j : Fin 1024) : val_main_v1 X (ix3 b s j) = X (ix2 (tok b s) j) := by
  pointwise [val_main_v1, val_main_v0]
  exact congrArg (fun q => X (ix2 q j)) (Fin.ext (by simp [tok] <;> omega))

theorem normed (b : Fin 32) (s : Fin 256) (j : Fin 1024) : val_main_v26 X M G (ix3 b s j)
    = modnorm (fun j => X (ix2 (tok b s) j)) (fun j => G (ix1 j)) (fun j => M (ix3 0 1 j)) (fun j => M (ix3 0 0 j)) j := by
  pointwise [val_main_v26, val_main_v25, val_main_v24, val_main_v23, val_main_v22, val_main_v21, val_main_v20, val_main_v19, val_main_cst_2, val_main_v18, val_main_v17, val_main_v16, val_main_v15, val_main_v14, val_main_v13, val_main_v12, val_main_v11, val_main_cst_1, val_main_v10, val_main_v9, val_main_cst_0, val_main_v8, val_main_v7, val_main_cst, val_main_v6, val_main_v5, val_main_v4, val_main_v3, val_main_v2]
  simp only [rows]
  rfl

/-- The projections' columns at a token. -/
abbrev y (b : Fin 32) (s : Fin 256) : Fin 1536 → EReal :=
  proj (fun j => X (ix2 (tok b s) j)) (fun j => G (ix1 j)) (fun j => M (ix3 0 1 j)) (fun j => M (ix3 0 0 j)) (fun j c => W (ix2 j c))

theorem projected (b : Fin 32) (s : Fin 256) (c : Fin 1536) : val_main_v27 X M G W (ix3 b s c) = y X M G W b s c := by
  pointwise [val_main_v27]
  simp only [normed]
  rfl

theorem query (b : Fin 32) (s : Fin 256) (h : Fin 8) (p : Fin 2) (x : Fin 64) :
    val_main_v31 X M G W (ix5 b s ⟨h / 2, by omega⟩ ⟨h % 2 * 2 + p, by omega⟩ x) = y X M G W b s (wcol ⟨h, by omega⟩ (lane p x)) := by
  pointwise [val_main_v31, val_main_v28]
  rw [projected]
  exact congrArg (y X M G W b s) (Fin.ext (by simp [wcol, lane]; omega))

theorem key (b : Fin 32) (s : Fin 256) (h : Fin 2) (p : Fin 2) (x : Fin 64) :
    val_main_v45 X M G W (ix4 b s ⟨h * 2 + p, by omega⟩ x) = y X M G W b s (wcol ⟨8 + h, by omega⟩ (lane p x)) := by
  pointwise [val_main_v45, val_main_v29]
  rw [projected]
  exact congrArg (y X M G W b s) (Fin.ext (by simp [wcol, lane]; omega))

theorem query_normed (b : Fin 32) (s : Fin 256) (h : Fin 8) (p : Fin 2) (x : Fin 64) :
    val_main_v44 X M G W gq (ix5 b s ⟨h / 2, by omega⟩ ⟨h % 2 * 2 + p, by omega⟩ x) = halfnorm (fun j => y X M G W b s (wcol ⟨h, by omega⟩ j)) (fun j => gq (ix1 j)) (lane p x) := by
  pointwise [val_main_v44, val_main_v43, val_main_v42, val_main_v41, val_main_v40, val_main_v39, val_main_v38, val_main_v37, val_main_cst_5, val_main_v36, val_main_v35, val_main_cst_4, val_main_v34, val_main_v33, val_main_cst_3, val_main_v32]
  simp only [query]
  unfold halfnorm
  rw [half_lane, within_lane]

theorem key_normed (b : Fin 32) (s : Fin 256) (h : Fin 2) (p : Fin 2) (x : Fin 64) :
    val_main_v58 X M G W gk (ix4 b s ⟨h * 2 + p, by omega⟩ x) = halfnorm (fun j => y X M G W b s (wcol ⟨8 + h, by omega⟩ j)) (fun j => gk (ix1 j)) (lane p x) := by
  pointwise [val_main_v58, val_main_v57, val_main_v56, val_main_v55, val_main_v54, val_main_v53, val_main_v52, val_main_v51, val_main_cst_8, val_main_v50, val_main_v49, val_main_cst_7, val_main_v48, val_main_v47, val_main_cst_6, val_main_v46]
  simp only [key]
  unfold halfnorm
  rw [half_lane, within_lane]

theorem query_scaled (b : Fin 32) (s : Fin 256) (h : Fin 8) (p : Fin 2) (x : Fin 64) :
    val_main_v60 X M G W gq (ix5 b s ⟨h / 2, by omega⟩ ⟨h % 2 * 2 + p, by omega⟩ x) = halfnorm (fun j => y X M G W b s (wcol ⟨h, by omega⟩ j)) (fun j => gq (ix1 j)) (lane p x) * eighth := by
  pointwise [val_main_v60, val_main_v59, val_main_cst_9]
  rw [query_normed]

/-- The scaled queries. -/
theorem queries (b : Fin 32) (s : Fin 256) (h : Fin 8) (x : Fin 128) :
    val_main_v61 X M G W gq (ix2 ⟨b * 256 + s, by omega⟩ ⟨h * 128 + x, by omega⟩)
      = halfnorm (fun j => y X M G W b s (wcol ⟨h, by omega⟩ j)) (fun j => gq (ix1 j)) x * eighth := by
  have e := query_scaled X M G W gq b s h (half x) (within x)
  rw [lane_half] at e
  rw [← e]
  pointwise [val_main_v61]
  exact congr3 (fun t u v => val_main_v60 X M G W gq (ix5 b s t u v)) (Fin.ext (by simp [half]; omega)) (Fin.ext (by simp [half]; omega)) (Fin.ext (by simp [within]; omega))

/-- The keys. -/
theorem keys (b : Fin 32) (s : Fin 256) (h : Fin 2) (x : Fin 128) :
    val_main_v62 X M G W gk (ix2 ⟨b * 256 + s, by omega⟩ ⟨h * 128 + x, by omega⟩)
      = halfnorm (fun j => y X M G W b s (wcol ⟨8 + h, by omega⟩ j)) (fun j => gk (ix1 j)) x := by
  have e := key_normed X M G W gk b s h (half x) (within x)
  rw [lane_half] at e
  rw [← e]
  pointwise [val_main_v62]
  exact congrArg₂ (fun u v => val_main_v58 X M G W gk (ix4 b s u v)) (Fin.ext (by simp [half]; omega)) (Fin.ext (by simp [within]; omega))

/-- The values. -/
theorem values (b : Fin 32) (s : Fin 256) (h : Fin 2) (x : Fin 128) :
    val_main_v63 X M G W (ix2 ⟨b * 256 + s, by omega⟩ ⟨h * 128 + x, by omega⟩) = y X M G W b s (wcol ⟨10 + h, by omega⟩ x) := by
  pointwise [val_main_v63, val_main_v30]
  rw [projected]
  exact congrArg (y X M G W b s) (Fin.ext (by simp [wcol]; omega))

/-- The keys with the halves of each group exchanged. -/
theorem keys_swapped (b : Fin 32) (s : Fin 256) (h : Fin 2) (x : Fin 128) :
    val_main_v68 X M G W gk (ix2 ⟨b * 256 + s, by omega⟩ ⟨h * 128 + x, by omega⟩) = val_main_v62 X M G W gk (ix2 ⟨b * 256 + s, by omega⟩ ⟨h * 128 + (other x).val, by omega⟩) := by
  have hx := x.isLt
  have hh := h.isLt
  pointwise [val_main_v68, val_main_v67, val_main_v66, val_main_v65, val_main_v64]
  split_ifs
  all_goals
    refine congrArg₂ (fun u v => val_main_v62 X M G W gk (ix2 u v)) (Fin.ext ?_) (Fin.ext ?_)
    · simp <;> omega
    · simp [other] <;> omega

/-- The values with the halves of each group exchanged. -/
theorem values_swapped (b : Fin 32) (s : Fin 256) (h : Fin 2) (x : Fin 128) :
    val_main_v73 X M G W (ix2 ⟨b * 256 + s, by omega⟩ ⟨h * 128 + x, by omega⟩) = val_main_v63 X M G W (ix2 ⟨b * 256 + s, by omega⟩ ⟨h * 128 + (other x).val, by omega⟩) := by
  have hx := x.isLt
  have hh := h.isLt
  pointwise [val_main_v73, val_main_v72, val_main_v71, val_main_v70, val_main_v69]
  split_ifs
  all_goals
    refine congrArg₂ (fun u v => val_main_v63 X M G W (ix2 u v)) (Fin.ext ?_) (Fin.ext ?_)
    · simp <;> omega
    · simp [other] <;> omega

/-- The concatenated result. -/
theorem result (b : Fin 32) (s : Fin 256) (n : Fin 16) (x : Fin 128) :
    val_main_v75 X M G W gq gk (ix2 ⟨b * 256 + s, by omega⟩ (ocol n x))
      = windowed (y X M G W b s) (fun z => halfnorm z (fun j => gq (ix1 j))) (fun z => halfnorm z (fun j => gk (ix1 j))) n x := by
  unfold windowed
  have hn := n.isLt
  have hx := x.isLt
  rw [val_main_v75_apply, show ∀ z : EReal, FloatOps.truncf (F := Ideal) (φ := .f32) .bf16 bitsLt_bf16_f32 z = z from fun _ => rfl]
  split
  next h =>
    refine Eq.trans ?_ ((queries X M G W gq b s ⟨n, by omega⟩ x))
    unfold ocol
    pointwise [val_main_v74]
    rw [dif_pos (by omega)]
  split
  next h _ =>
    refine Eq.trans ?_ ((keys X M G W gk b s ⟨n - 8, by omega⟩ x).trans (congrArg (fun c => halfnorm (fun j => y X M G W b s (wcol c j)) (fun j => gk (ix1 j)) x) (Fin.ext (by simp; omega))))
    unfold ocol
    pointwise [val_main_v74]
    rw [dif_neg (by omega), dif_pos (by omega)]
    exact congrArg (fun q => val_main_v62 X M G W gk (ix2 _ q)) (Fin.ext (by simp <;> omega))
  split
  next h _ _ =>
    refine Eq.trans ?_ (((keys_swapped X M G W gk b s ⟨n - 10, by omega⟩ x).trans (keys X M G W gk b s ⟨n - 10, by omega⟩ (other x))).trans (congrArg (fun c => halfnorm (fun j => y X M G W b s (wcol c j)) (fun j => gk (ix1 j)) (other x)) (Fin.ext (by simp; omega))))
    unfold ocol
    pointwise [val_main_v74]
    rw [dif_neg (by omega), dif_neg (by omega), dif_pos (by omega)]
    exact congrArg (fun q => val_main_v68 X M G W gk (ix2 _ q)) (Fin.ext (by simp <;> omega))
  split
  next h _ _ _ =>
    refine Eq.trans ?_ ((values X M G W b s ⟨n - 12, by omega⟩ x).trans (congrArg (fun c => y X M G W b s (wcol c x)) (Fin.ext (by simp; omega))))
    unfold ocol
    pointwise [val_main_v74]
    rw [dif_neg (by omega), dif_neg (by omega), dif_neg (by omega), dif_pos (by omega)]
    exact congrArg (fun q => val_main_v63 X M G W (ix2 _ q)) (Fin.ext (by simp <;> omega))
  next h _ _ _ =>
    refine Eq.trans ?_ (((values_swapped X M G W b s ⟨n - 14, by omega⟩ x).trans (values X M G W b s ⟨n - 14, by omega⟩ (other x))).trans (congrArg (fun c => y X M G W b s (wcol c (other x))) (Fin.ext (by simp; omega))))
    unfold ocol
    pointwise [val_main_v74]
    rw [dif_neg (by omega), dif_neg (by omega), dif_neg (by omega), dif_neg (by omega)]
    exact congrArg (fun q => val_main_v73 X M G W (ix2 _ q)) (Fin.ext (by simp <;> omega))

end Cert.WindowProjectReferenceIdeal.Entry

end
-- ==== Proof.WindowProjectValue.lean ====
/-
  The results after the run of the contexts' windowed projection kernel, as the reference's terms of the argument arrays.
-/
module

public import proofs.«01_k».proof.Proof.WindowProjectBlock
public import proofs.«01_k».proof.Proof.WindowProjectWindows
public import proofs.«01_k».proof.Proof.WindowProjectReference

@[expose] public section

set_option maxRecDepth 16384

noncomputable section

namespace Cert.WindowProjectIdeal.Final

open Cert.WindowProjectIdeal Cert.WindowProjectIdeal.Gen Cert.WindowProjectIdeal.Windows Idealize.ShloMosaic Idealize.ShloMosaic.TcCoe Cert.Projection
open Cert.WindowProjectReferenceIdeal.Read (val_main_v75 val_main_v62 val_main_v63)

variable (m : (ℓ : Loc nD τ sig) → Buf (Elt Ideal) ℓ) (c : Dev nD)

/-- Row `r` of the point's tile, as a row of the results and as the reference's batch and position. -/
def row (t : Fin cfg0.N) (r : Fin 512) : Fin 8192 := ⟨tile t * 512 + r, by omega⟩
def batch (t : Fin cfg0.N) (r : Fin 512) : Fin 32 := ⟨(tile t * 512 + r) / 256, by omega⟩
def position (t : Fin cfg0.N) (r : Fin 512) : Fin 256 := ⟨(tile t * 512 + r) % 256, by omega⟩

theorem row_eq (t : Fin cfg0.N) (r : Fin 512) : (⟨batch t r * 256 + position t r, by omega⟩ : Fin 8192) = row t r :=
  Fin.ext (by simp only [batch, position, row]; omega)

/-- The block's projections are the reference's. -/
theorem yrow_eq (t : Fin cfg0.N) (r : Fin 512) :
    Block.yrow (iblk m c 0 t) (iblk m c 1 t) (iblk m c 2 t) (iblk m c 3 t) r
      = Cert.WindowProjectReferenceIdeal.Entry.y (X m c) (M m c) (G m c) (W m c) (batch t r) (position t r) := by
  have e : (⟨tile t * 512 + r, by omega⟩ : Fin 16384) = Cert.WindowProjectReferenceIdeal.Entry.tok (batch t r) (position t r) :=
    Fin.ext (by simp only [batch, position, Cert.WindowProjectReferenceIdeal.Entry.tok]; omega)
  have h0 : ∀ j, (iblk m c 0 t : Vec Ideal S512x1024 .f32) (ix2 r j) = X m c (ix2 (Cert.WindowProjectReferenceIdeal.Entry.tok (batch t r) (position t r)) j) :=
    fun j => by rw [rows, e]
  have em : ∀ p j, (iblk m c 1 t : Vec Ideal S1x6x1024 .f32) (ix3 0 p j) = M m c (ix3 0 p j) := fun p j => modulation m c t p j
  unfold Block.yrow Cert.WindowProjectReferenceIdeal.Entry.y
  rw [funext h0, funext (gains m c t), funext (em 1), funext (em 0),
    funext fun j => funext (weights m c t j)]

theorem out7 : (dats m 0 c).arrAt 7 cfg0.N = val_main_v75 (F := Ideal) (X m c) (M m c) (G m c) (W m c) (gq m c) (gk m c) := by
  refine (dats m 0 c).arrAt_eq_of_covers 7 _ (by decide +kernel) fun t hf y => ?_
  blk_simp
  rw [after0_7]
  revert y
  show ∀ y : S512x2048.Idx, _
  intro y
  obtain ⟨r, n, x, rfl⟩ : ∃ (r : Fin 512) (n : Fin 16) (x : Fin 128), y = ix2 r (ocol n x) :=
    ⟨y 0, Block.group (y 1), Block.inner (y 1), by
      funext a
      fin_cases a
      · rfl
      · exact Fin.ext (by show (y 1).val = (y 1).val / 128 * 128 + (y 1).val % 128; omega)⟩
  have hemb : ((cfg0.win 7).blk t).view.emb (ix2 r (ocol n x)) = ix2 (row t r) (ocol n x) := by
    unfold row tile
    blk_ext [e7]
  refine (Block.canon7 (iblk m c 0 t) (iblk m c 1 t) (iblk m c 2 t) (iblk m c 3 t) (iblk m c 4 t) (iblk m c 5 t) (iblk m c 6 t)
    (gq := fun j => gq m c (ix1 j)) (gk := fun j => gk m c (ix1 j)) (mask m c t) (query_gains m c t) (key_gains m c t) _).trans ?_
  rw [Block.E_col, yrow_eq]
  refine (Cert.WindowProjectReferenceIdeal.Entry.result (X m c) (M m c) (G m c) (W m c) (gq m c) (gk m c) (batch t r) (position t r) n x).symm.trans ?_
  rw [row_eq]
  exact congrArg (val_main_v75 (F := Ideal) (X m c) (M m c) (G m c) (W m c) (gq m c) (gk m c)) hemb.symm

theorem split (y : S512x256.Idx) : ∃ (r : Fin 512) (n : Fin 2) (x : Fin 128), y = ix2 r ⟨n * 128 + x, by omega⟩ :=
  ⟨y 0, ⟨(y 1).val / 128, by have : (y 1).val < 256 := (y 1).isLt; omega⟩, ⟨(y 1).val % 128, by omega⟩, by
    funext a
    fin_cases a
    · rfl
    · exact Fin.ext (by show (y 1).val = (y 1).val / 128 * 128 + (y 1).val % 128; omega)⟩

theorem out8 : (dats m 0 c).arrAt 8 cfg0.N = val_main_v62 (F := Ideal) (X m c) (M m c) (G m c) (W m c) (gk m c) := by
  refine (dats m 0 c).arrAt_eq_of_covers 8 _ (by decide +kernel) fun t hf y => ?_
  blk_simp
  rw [after0_8]
  revert y
  show ∀ y : S512x256.Idx, _
  intro y
  obtain ⟨r, n, x, rfl⟩ := split y
  have hemb : ((cfg0.win 8).blk t).view.emb (ix2 r ⟨n * 128 + x, by omega⟩) = ix2 (row t r) ⟨n * 128 + x, by omega⟩ := by
    unfold row tile
    blk_ext [e8]
  refine (Block.canon8 (iblk m c 0 t) (iblk m c 1 t) (iblk m c 2 t) (iblk m c 3 t) (iblk m c 4 t) (iblk m c 5 t) (iblk m c 6 t)
    (gk := fun j => gk m c (ix1 j)) (mask m c t) (key_gains m c t) _).trans ?_
  rw [Block.E8_col, yrow_eq]
  refine (Cert.WindowProjectReferenceIdeal.Entry.keys (X m c) (M m c) (G m c) (W m c) (gk m c) (batch t r) (position t r) n x).symm.trans ?_
  rw [row_eq]
  exact congrArg (val_main_v62 (F := Ideal) (X m c) (M m c) (G m c) (W m c) (gk m c)) hemb.symm

theorem out9 : (dats m 0 c).arrAt 9 cfg0.N = val_main_v63 (F := Ideal) (X m c) (M m c) (G m c) (W m c) := by
  refine (dats m 0 c).arrAt_eq_of_covers 9 _ (by decide +kernel) fun t hf y => ?_
  blk_simp
  rw [after0_9]
  revert y
  show ∀ y : S512x256.Idx, _
  intro y
  obtain ⟨r, n, x, rfl⟩ := split y
  have hemb : ((cfg0.win 9).blk t).view.emb (ix2 r ⟨n * 128 + x, by omega⟩) = ix2 (row t r) ⟨n * 128 + x, by omega⟩ := by
    unfold row tile
    blk_ext [e9]
  refine (Block.canon9 (iblk m c 0 t) (iblk m c 1 t) (iblk m c 2 t) (iblk m c 3 t) (iblk m c 4 t) (iblk m c 5 t) (iblk m c 6 t) _).trans ?_
  rw [Block.E9_col, yrow_eq]
  refine (Cert.WindowProjectReferenceIdeal.Entry.values (X m c) (M m c) (G m c) (W m c) (batch t r) (position t r) n x).symm.trans ?_
  rw [row_eq]
  exact congrArg (val_main_v63 (F := Ideal) (X m c) (M m c) (G m c) (W m c)) hemb.symm

end Cert.WindowProjectIdeal.Final

end
-- ==== Proof.RotatedWindowProjectBlock.lean ====
/-
  One block of the latents' projection of layers 0 and 3, entry by entry: `Projection.windowed` of the block's rows.
-/
module

public import proofs.«01_k».proof.Proof.ProjectPacked
public import proofs.«01_k».proof.Proof.Gen.RotatedWindowProjectIdeal
public import proofs.«01_k».proof.Proof.Gen.RotatedWindowProjectIdeal.Frame
public import proofs.«01_k».proof.Proof.Gen.RotatedWindowProjectIdeal.Value
public import Idealize.ShloMosaic.Lib.Pipeline.ValueKit

@[expose] public section

set_option maxRecDepth 16384

noncomputable section

namespace Cert.RotatedWindowProjectIdeal.Block

open Cert.RotatedWindowProjectIdeal Cert.RotatedWindowProjectIdeal.Gen Idealize.ShloMosaic Cert.Projection

/-- The block's rows normalised, modulated and projected. -/
theorem proj_apply (x : Vec Ideal S512x1024 .f32) (g : Vec Ideal S1x1024 .f32) (sc sh : Vec Ideal S1x1x1024 .f32)
    (w : Vec Ideal S1024x1536 .bf16) (r : Fin 512) (c : Fin 1536) :
    k0_pay3 x g sc sh w (ix2 r c)
      = proj (fun j => x (ix2 r j)) (fun j => g (ix2 0 j)) (fun j => sc (ix3 0 0 j)) (fun j => sh (ix3 0 0 j)) (fun j c => w (ix2 j c)) c := by
  pointwise [k0_pay3]
  rfl

variable (Y : FVec Ideal S512x1536 .f32) (B : Vec Ideal S128x128 .f32) (G : Vec Ideal S1x128 .f32) (g : Fin 64 → EReal)
  (hB : Halves fun j x => B (ix2 j x)) (hG : Repeats (fun x => G (ix2 0 x)) g)
  (C A D : Vec Ideal S512x128 .f32) (co si : Fin 512 → Fin 64 → EReal)
  (hT : ∀ r, Tables (fun x => C (ix2 r x)) (fun x => A (ix2 r x)) (fun x => D (ix2 r x)) (co r) (si r))
include hB hG hT
theorem query10_0 (a0 : Vec Ideal S512x1024 .f32) (a1 : Vec Ideal S1x1024 .f32) (a2 a3 : Vec Ideal S1x1x1024 .f32) (a4 : Vec Ideal S1024x1536 .bf16)
    (r : Fin 512) (x : Fin 128) :
    k0_pay8 (k0_pay4 G) (k0_pay5 a0 a1 a2 a3 a4) (k0_pay6 a0 a1 a2 a3 a4 B) (k0_pay7 (F := Ideal)) C A D (ix2 r x)
      = turn (halfnorm (fun j => (k0_pay3 a0 a1 a2 a3 a4) (ix2 r (wcol 0 j))) g) (co r) (si r) x * eighth := by
  rw [← turned (hT r)]
  simp only [← masked_apply hB hG]
  pointwise [k0_pay4, k0_pay5, k0_pay6, k0_pay7, k0_pay8]
  generalize k0_pay3 a0 a1 a2 a3 a4 = Y
  have e : ∀ x : Fin 128, (⟨x.val, by omega⟩ : Fin 1536) = wcol 0 x := fun x => Fin.ext (by simp [wcol])
  have eu : ∀ x : Fin 128, (⟨(x.val + 128 - 112) % 128, by omega⟩ : Fin 1536) = wcol 0 (up x) := fun x => Fin.ext (by simp [wcol, up])
  have ed : ∀ x : Fin 128, (⟨(x.val + 128 - 16) % 128, by omega⟩ : Fin 1536) = wcol 0 (down x) := fun x => Fin.ext (by simp [wcol, down])
  simp only [e, eu, ed]
  rfl
theorem query10_1 (r : Fin 512) (x : Fin 128) :
    k0_pay11 (k0_pay9 Y B G) (k0_pay10 Y B G C) A D (ix2 r x)
      = turn (halfnorm (fun j => Y (ix2 r (wcol 1 j))) g) (co r) (si r) x * eighth := by
  rw [← turned (hT r)]
  simp only [← masked_apply hB hG]
  pointwise [k0_pay9, k0_pay10, k0_pay11]
  rfl
theorem query10_2 (r : Fin 512) (x : Fin 128) :
    k0_pay15 (k0_pay13 Y B G C A) (k0_pay14 Y B G) D (ix2 r x)
      = turn (halfnorm (fun j => Y (ix2 r (wcol 2 j))) g) (co r) (si r) x * eighth := by
  rw [← turned (hT r)]
  simp only [← masked_apply hB hG]
  pointwise [k0_pay12, k0_pay13, k0_pay14, k0_pay15]
  rfl
theorem query10_3 (r : Fin 512) (x : Fin 128) :
    k0_pay16 Y B G C A D (ix2 r x)
      = turn (halfnorm (fun j => Y (ix2 r (wcol 3 j))) g) (co r) (si r) x * eighth := by
  rw [← turned (hT r)]
  simp only [← masked_apply hB hG]
  pointwise [k0_pay16]
  rfl
theorem query10_4 (r : Fin 512) (x : Fin 128) :
    k0_pay17 Y B G C A D (ix2 r x)
      = turn (halfnorm (fun j => Y (ix2 r (wcol 4 j))) g) (co r) (si r) x * eighth := by
  rw [← turned (hT r)]
  simp only [← masked_apply hB hG]
  pointwise [k0_pay17]
  rfl
theorem query10_5 (r : Fin 512) (x : Fin 128) :
    k0_pay21 (k0_pay18 G) (k0_pay19 Y) (k0_pay20 Y B) C A D (ix2 r x)
      = turn (halfnorm (fun j => Y (ix2 r (wcol 5 j))) g) (co r) (si r) x * eighth := by
  rw [← turned (hT r)]
  simp only [← masked_apply hB hG]
  pointwise [k0_pay18, k0_pay19, k0_pay20, k0_pay21]
  rfl
theorem query10_6 (r : Fin 512) (x : Fin 128) :
    k0_pay25 (k0_pay22 Y B G) (k0_pay23 Y B G C) (k0_pay24 Y B G) A D (ix2 r x)
      = turn (halfnorm (fun j => Y (ix2 r (wcol 6 j))) g) (co r) (si r) x * eighth := by
  rw [← turned (hT r)]
  simp only [← masked_apply hB hG]
  pointwise [k0_pay22, k0_pay23, k0_pay24, k0_pay25]
  rfl
theorem query10_7 (r : Fin 512) (x : Fin 128) :
    k0_pay28 (k0_pay26 Y B G C A D) (k0_pay27 (F := Ideal)) (ix2 r x)
      = turn (halfnorm (fun j => Y (ix2 r (wcol 7 j))) g) (co r) (si r) x * eighth := by
  rw [← turned (hT r)]
  simp only [← masked_apply hB hG]
  pointwise [k0_pay26, k0_pay27, k0_pay28]
  rfl
theorem key10_8 (r : Fin 512) (x : Fin 128) :
    k0_pay38 (k0_pay29 Y B G C A D) (ix2 r x)
      = turn (halfnorm (fun j => Y (ix2 r (wcol 8 j))) g) (co r) (si r) x := by
  rw [← turned (hT r)]
  simp only [← masked_apply hB hG]
  pointwise [k0_pay29, k0_pay38]
  rfl
theorem key10_9 (r : Fin 512) (x : Fin 128) :
    k0_pay39 (k0_pay30 G) (k0_pay31 Y) (k0_pay32 Y B) C A D (ix2 r x)
      = turn (halfnorm (fun j => Y (ix2 r (wcol 9 j))) g) (co r) (si r) x := by
  rw [← turned (hT r)]
  simp only [← masked_apply hB hG]
  pointwise [k0_pay30, k0_pay31, k0_pay32, k0_pay33, k0_pay39]
  rfl
theorem key10_10 (r : Fin 512) (x : Fin 128) :
    k0_pay40 (k0_pay29 Y B G C A D) (ix2 r x)
      = turn (halfnorm (fun j => Y (ix2 r (wcol 8 j))) g) (co r) (si r) (other x) := by
  rw [← turned (hT r)]
  simp only [← masked_apply hB hG]
  pointwise [k0_pay29, k0_pay40]
  rfl
theorem key10_11 (r : Fin 512) (x : Fin 128) :
    k0_pay41 (k0_pay30 G) (k0_pay31 Y) (k0_pay32 Y B) C A D (ix2 r x)
      = turn (halfnorm (fun j => Y (ix2 r (wcol 9 j))) g) (co r) (si r) (other x) := by
  rw [← turned (hT r)]
  simp only [← masked_apply hB hG]
  pointwise [k0_pay30, k0_pay31, k0_pay32, k0_pay33, k0_pay41]
  rfl
omit hB hG hT
theorem value10_12 (r : Fin 512) (x : Fin 128) :
    k0_pay42 Y (ix2 r x)
      = Y (ix2 r (wcol 10 x)) := by
  pointwise [k0_pay34, k0_pay42]
  rfl
theorem value10_13 (r : Fin 512) (x : Fin 128) :
    k0_pay43 Y (ix2 r x)
      = Y (ix2 r (wcol 11 x)) := by
  pointwise [k0_pay35, k0_pay43]
  rfl
theorem value10_14 (r : Fin 512) (x : Fin 128) :
    k0_pay1 (k0_pay36 Y) (ix2 r x)
      = Y (ix2 r (wcol 10 (other x))) := by
  pointwise [k0_pay1, k0_pay34, k0_pay36]
  rfl
theorem value10_15 (r : Fin 512) (x : Fin 128) :
    k0_pay2 (k0_pay37 Y) (ix2 r x)
      = Y (ix2 r (wcol 11 (other x))) := by
  pointwise [k0_pay2, k0_pay35, k0_pay37]
  rfl

variable (x0 : Vec Ideal S512x1024 .f32) (x1 : Vec Ideal S1x6x1024 .f32) (x2 : Vec Ideal S1x1024 .f32) (x3 : Vec Ideal S1024x1536 .bf16)
  (x4 x5 : Vec Ideal S1x128 .f32) (x6 : Vec Ideal S128x128 .f32) (x7 x8 x9 : Vec Ideal S512x128 .f32)

/-- The block's projections: row `r`, all columns. -/
abbrev yrow (r : Fin 512) : Fin 1536 → EReal :=
  proj (fun j => x0 (ix2 r j)) (fun j => x2 (ix2 0 j)) (fun j => x1 (ix3 0 1 j)) (fun j => x1 (ix3 0 0 j)) (fun j c => x3 (ix2 j c))

theorem y_apply (r : Fin 512) (c : Fin 1536) : k0_pay44 x0 x1 x2 x3 x4 x5 x6 x7 x8 x9 (ix2 r c) = yrow x0 x1 x2 x3 r c := by
  have h0 : View.ld x0 r0_0 = x0 := View.ld_unit_lit _ x0 (by decide)
  have h1 : View.ld x2 r0_1 = x2 := View.ld_unit_lit _ x2 (by decide)
  have h4 : View.ld x3 r0_4 = x3 := View.ld_unit_lit _ x3 (by decide)
  have h2 : ∀ j : Fin 1024, View.ld x1 r0_2 (ix3 0 0 j) = x1 (ix3 0 1 j) := fun j => View.ld_unit_apply_of _ _ _ _ _ _ fun a => by fin_cases a <;> simp [ix3]
  have h3 : ∀ j : Fin 1024, View.ld x1 r0_3 (ix3 0 0 j) = x1 (ix3 0 0 j) := fun j => View.ld_unit_apply_of _ _ _ _ _ _ fun a => by fin_cases a <;> simp [ix3]
  unfold k0_pay44
  rw [proj_apply, h0, h1, h4]
  simp only [h2, h3]

theorem ld_gains : View.ld x4 r0_6 = x4 := View.ld_unit_lit _ x4 (by decide)
theorem ld_mask : View.ld x6 r0_5 = x6 := View.ld_unit_lit _ x6 (by decide)
theorem ld_table : View.ld x7 r0_7 = x7 := View.ld_unit_lit _ x7 (by decide)

/-- A column of the block as its group's number and its lane. -/
def group (c : Fin 2048) : Fin 16 := ⟨c / 128, by omega⟩
def inner (c : Fin 2048) : Fin 128 := ⟨c % 128, by omega⟩
theorem group_col (n : Fin 16) (x : Fin 128) : group (ocol n x) = n := Fin.ext (by simp only [group, ocol]; omega)
theorem inner_col (n : Fin 16) (x : Fin 128) : inner (ocol n x) = x := Fin.ext (by simp only [inner, ocol]; omega)

/-- The concatenated block. -/
def E (gq gk : Fin 64 → EReal) (co si : Fin 512 → Fin 64 → EReal) : Vec Ideal S512x2048 .bf16 := fun i =>
  windowed (yrow x0 x1 x2 x3 (i 0)) (fun y => turn (halfnorm y gq) (co (i 0)) (si (i 0))) (fun y => turn (halfnorm y gk) (co (i 0)) (si (i 0))) (group (i 1)) (inner (i 1))

theorem E_col (gq gk : Fin 64 → EReal) (co si : Fin 512 → Fin 64 → EReal) (r : Fin 512) (n : Fin 16) (x : Fin 128) :
    E x0 x1 x2 x3 gq gk co si (ix2 r (ocol n x)) = windowed (yrow x0 x1 x2 x3 r) (fun y => turn (halfnorm y gq) (co r) (si r)) (fun y => turn (halfnorm y gk) (co r) (si r)) n x := by
  show windowed (yrow x0 x1 x2 x3 r) (fun y => turn (halfnorm y gq) (co r) (si r)) (fun y => turn (halfnorm y gk) (co r) (si r)) (group (ocol n x)) (inner (ocol n x)) = _
  rw [group_col, inner_col]

/-- A piece of the concatenated block is group `n`. -/
theorem in_group (gq gk : Fin 64 → EReal) (co si : Fin 512 → Fin 64 → EReal) (n : Fin 16) (off : ℕ) (inb : ∀ a, (![0, off] : Fin 2 → ℕ) a + S512x128.size a ≤ S512x2048.size a)
    (p : Vec Ideal S512x128 .bf16) (ho : off = n.val * 128)
    (h : ∀ (r : Fin 512) (x : Fin 128), p (ix2 r x) = windowed (yrow x0 x1 x2 x3 r) (fun y => turn (halfnorm y gq) (co r) (si r)) (fun y => turn (halfnorm y gk) (co r) (si r)) n x) :
    ∀ i : S512x128.Idx, p i = E x0 x1 x2 x3 gq gk co si ((Rect.unit (s := S512x2048) ![0, off] S512x128.size inb).emb i) := by
  intro i
  obtain ⟨r, x, rfl⟩ : ∃ (r : Fin 512) (x : Fin 128), i = ix2 r x := ⟨i 0, i 1, by funext a; fin_cases a <;> rfl⟩
  rw [h, ← E_col]
  refine congrArg (E x0 x1 x2 x3 gq gk co si) (funext fun a => Fin.ext ?_)
  subst ho
  fin_cases a
  · show r.val = 0 + 1 * r.val; omega
  · show n.val * 128 + x.val = n.val * 128 + 1 * x.val; omega

theorem canon10 {gq gk : Fin 64 → EReal} {co si : Fin 512 → Fin 64 → EReal} (hB : Halves fun j x => x6 (ix2 j x))
    (hq : Repeats (fun x => x4 (ix2 0 x)) gq) (hk : Repeats (fun x => x5 (ix2 0 x)) gk)
    (hT : ∀ r, Tables (fun x => x7 (ix2 r x)) (fun x => x8 (ix2 r x)) (fun x => x9 (ix2 r x)) (co r) (si r))
    (i : S512x2048.Idx) : out0_10 x0 x1 x2 x3 x4 x5 x6 x7 x8 x9 i = E x0 x1 x2 x3 gq gk co si i := by
  unfold out0_10
  refine View.canon_apply_of_pieces (E x0 x1 x2 x3 gq gk co si) _ ?_ i (cover0_10 _ _ _ _ _ _ _ _ _ _ _ _ _ _ _ _ i)
  intro pc hpc
  rcases List.mem_cons.mp hpc with rfl | hpc
  · refine in_group x0 x1 x2 x3 gq gk co si 15 1920 inb_S512x2048_S512x128_0_1920 _ (by decide) fun r x => ?_
    refine (value10_15 (k0_pay44 x0 x1 x2 x3 x4 x5 x6 x7 x8 x9) r x).trans ?_
    simp only [y_apply]
    rfl
  rcases List.mem_cons.mp hpc with rfl | hpc
  · refine in_group x0 x1 x2 x3 gq gk co si 14 1792 inb_S512x2048_S512x128_0_1792 _ (by decide) fun r x => ?_
    refine (value10_14 (k0_pay44 x0 x1 x2 x3 x4 x5 x6 x7 x8 x9) r x).trans ?_
    simp only [y_apply]
    rfl
  rcases List.mem_cons.mp hpc with rfl | hpc
  · refine in_group x0 x1 x2 x3 gq gk co si 13 1664 inb_S512x2048_S512x128_0_1664 _ (by decide) fun r x => ?_
    refine (value10_13 (k0_pay44 x0 x1 x2 x3 x4 x5 x6 x7 x8 x9) r x).trans ?_
    simp only [y_apply]
    rfl
  rcases List.mem_cons.mp hpc with rfl | hpc
  · refine in_group x0 x1 x2 x3 gq gk co si 12 1536 inb_S512x2048_S512x128_0_1536 _ (by decide) fun r x => ?_
    refine (value10_12 (k0_pay44 x0 x1 x2 x3 x4 x5 x6 x7 x8 x9) r x).trans ?_
    simp only [y_apply]
    rfl
  rcases List.mem_cons.mp hpc with rfl | hpc
  · refine in_group x0 x1 x2 x3 gq gk co si 11 1408 inb_S512x2048_S512x128_0_1408 _ (by decide) fun r x => ?_
    refine (key10_11 (k0_pay44 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 10 1280 inb_S512x2048_S512x128_0_1280 _ (by decide) fun r x => ?_
    refine (key10_10 (k0_pay44 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 9 1152 inb_S512x2048_S512x128_0_1152 _ (by decide) fun r x => ?_
    refine (key10_9 (k0_pay44 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 8 1024 inb_S512x2048_S512x128_0_1024 _ (by decide) fun r x => ?_
    refine (key10_8 (k0_pay44 x0 x1 x2 x3 x4 x5 x6 x7 x8 x9) (View.ld x6 r0_5) (View.ld x5 r0_6) gk (by rw [ld_mask]; exact hB) (by rw [ld_gains]; exact hk) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 7 896 inb_S512x2048_S512x128_0_896 _ (by decide) fun r x => ?_
    refine (query10_7 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 6 768 inb_S512x2048_S512x128_0_768 _ (by decide) fun r x => ?_
    refine (query10_6 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 5 640 inb_S512x2048_S512x128_0_640 _ (by decide) fun r x => ?_
    refine (query10_5 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 4 512 inb_S512x2048_S512x128_0_512 _ (by decide) fun r x => ?_
    refine (query10_4 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 3 384 inb_S512x2048_S512x128_0_384 _ (by decide) fun r x => ?_
    refine (query10_3 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 2 256 inb_S512x2048_S512x128_0_256 _ (by decide) fun r x => ?_
    refine (query10_2 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 1 128 inb_S512x2048_S512x128_0_128 _ (by decide) fun r x => ?_
    refine (query10_1 (k0_pay44 x0 x1 x2 x3 x4 x5 x6 x7 x8 x9) (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) r x).trans ?_
    simp only [y_apply]
    rfl
  rcases List.mem_cons.mp hpc with rfl | hpc
  · refine in_group x0 x1 x2 x3 gq gk co si 0 0 inb_S512x2048_S512x128_0_0 _ (by decide) fun r x => ?_
    refine (query10_0 (View.ld x6 r0_5) (View.ld x4 r0_6) gq (by rw [ld_mask]; exact hB) (by rw [ld_gains]; exact hq) (View.ld x7 r0_7) (View.ld x8 r0_7) (View.ld x9 r0_7) co si (fun r => by rw [ld_table x7, ld_table x8, ld_table x9]; exact hT r) _ _ _ _ _ r x).trans ?_
    have e : ∀ c, k0_pay3 (View.ld x0 r0_0) (View.ld x2 r0_1) (View.ld x1 r0_2) (View.ld x1 r0_3) (View.ld x3 r0_4) (ix2 r c) = yrow x0 x1 x2 x3 r c :=
      y_apply x0 x1 x2 x3 x4 x5 x6 x7 x8 x9 r
    simp only [e]
    rfl
  exact absurd hpc List.not_mem_nil

end Cert.RotatedWindowProjectIdeal.Block

end
-- ==== Proof.RotatedWindowProjectMask.lean ====
/-
  The table of this projection kernel's mask is the one of the contexts' projection.
-/
module

public import proofs.«01_k».proof.Proof.ProjectMask
public import proofs.«01_k».proof.Proof.Gen.RotatedWindowProjectIdeal

@[expose] public section

set_option maxRecDepth 16384

namespace Cert.RotatedWindowProjectIdeal.Mask

open Idealize.ShloMosaic

theorem lit_at (k : Fin 16384) (p x : Fin 128) (h : k.val = p * 128 + x) :
    Cert.RotatedWindowProjectIdeal.lit0 k = if p.val / 64 = x.val / 64 then 0x3F800000#32 else 0x00000000#32 :=
  Cert.ProjectIdeal.Mask.lit_at k p x h

end Cert.RotatedWindowProjectIdeal.Mask

end
-- ==== Proof.RotatedWindowProjectWindows.lean ====
/-
  The input blocks of the latents' projection of layers 0 and 3 at a grid point, entry by entry in terms of the argument arrays.
-/
module

public import proofs.«01_k».proof.Proof.ProjectPacked
public import proofs.«01_k».proof.Proof.RotatedWindowProjectMask
public import proofs.«01_k».proof.Proof.Gen.RotatedWindowProjectIdeal
public import proofs.«01_k».proof.Proof.Gen.RotatedWindowProjectIdeal.Frame
public import proofs.«01_k».proof.Proof.Gen.RotatedWindowProjectIdeal.Value
public import Idealize.ShloMosaic.Lib.Pipeline.ValueKit

@[expose] public section

set_option maxRecDepth 16384

noncomputable section

namespace Cert.RotatedWindowProjectIdeal.Windows

open Cert.RotatedWindowProjectIdeal Cert.RotatedWindowProjectIdeal.Gen Idealize.ShloMosaic Idealize.ShloMosaic.TcCoe Cert.Projection

variable (m : (ℓ : Loc nD τ sig) → Buf (Elt Ideal) ℓ) (c : Dev nD)

/-- The arguments on core `c`: activations, modulation, gains of the rows, weights, gains of the queries and of the keys,
    cosines and sines. -/
abbrev X : Vec Ideal S16384x1024 .f32 := m ((c : Thread nD τ).loc main_arg0)
abbrev M : Vec Ideal S8x6x1024 .f32 := m ((c : Thread nD τ).loc main_arg1)
abbrev G : Vec Ideal S1024 .f32 := m ((c : Thread nD τ).loc main_arg2)
abbrev W : Vec Ideal S1024x1536 .f32 := m ((c : Thread nD τ).loc main_arg3)
abbrev gq : Vec Ideal S64 .f32 := m ((c : Thread nD τ).loc main_arg4)
abbrev gk : Vec Ideal S64 .f32 := m ((c : Thread nD τ).loc main_arg5)

abbrev co : Vec Ideal S4096x64 .f32 := m ((c : Thread nD τ).loc main_arg6)
abbrev si : Vec Ideal S4096x64 .f32 := m ((c : Thread nD τ).loc main_arg7)

/-- The point's tile of rows. -/
def tile (t : Fin cfg0.N) : Fin 16 := ⟨(grid0.coords t 0).val, (grid0.coords t 0).isLt⟩

theorem e0 : ∀ t : Fin cfg0.N, win0_0.index t = ![(grid0.coords t 0).val + 16, 0] :=
  (by decide +kernel : ∀ t : Fin grid0.N, win0_0.index t = ![(grid0.coords t 0).val + 16, 0])
theorem e1 : ∀ t : Fin cfg0.N, win0_1.index t = ![(grid0.coords t 0).val / 8 + 1, 0, 0] :=
  (by decide +kernel : ∀ t : Fin grid0.N, win0_1.index t = ![(grid0.coords t 0).val / 8 + 1, 0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![(grid0.coords t 0).val % 8, 0] :=
  (by decide +kernel : ∀ t : Fin grid0.N, win0_7.index t = ![(grid0.coords t 0).val % 8, 0])
theorem e8 : ∀ t : Fin cfg0.N, win0_8.index t = ![(grid0.coords t 0).val % 8, 0] :=
  (by decide +kernel : ∀ t : Fin grid0.N, win0_8.index t = ![(grid0.coords t 0).val % 8, 0])
theorem e9 : ∀ t : Fin cfg0.N, win0_9.index t = ![(grid0.coords t 0).val % 8, 0] :=
  (by decide +kernel : ∀ t : Fin grid0.N, win0_9.index t = ![(grid0.coords t 0).val % 8, 0])
theorem e10 : ∀ t : Fin cfg0.N, win0_10.index t = ![(grid0.coords t 0).val, 0] :=
  (by decide +kernel : ∀ t : Fin grid0.N, win0_10.index t = ![(grid0.coords t 0).val, 0])

theorem ofBits_one : Ideal.ofBits .f32 0x3F800000#32 = 1 := by
  simp [Ideal.ofBits, Ideal.ieee]
  rw [← EReal.coe_mul, ← EReal.coe_one]
  norm_num
theorem ofBits_zero : Ideal.ofBits .f32 0x00000000#32 = 0 := by
  simp [Ideal.ofBits, Ideal.ieee]

theorem rows (t : Fin cfg0.N) (r : Fin 512) (j : Fin 1024) :
    (iblk m c 0 t : Vec Ideal S512x1024 .f32) (ix2 r j) = X m c (ix2 ⟨(tile t + 16) * 512 + r, by omega⟩ j) := by
  blk_simp [iblk]
  rw [V_main_arg0]
  unfold tile
  blk_ext [e0]

theorem modulation (t : Fin cfg0.N) (p : Fin 6) (j : Fin 1024) :
    (iblk m c 1 t : Vec Ideal S1x6x1024 .f32) (ix3 0 p j) = M m c (ix3 ⟨tile t / 8 + 1, by omega⟩ p j) := by
  blk_simp [iblk]
  rw [V_main_arg1]
  unfold tile
  blk_ext [e1]

theorem V_v0 (j : Fin 1024) : V m c main_v0 (ix2 0 j) = G m c (ix1 j) := by
  have : V m c main_v0 = (shapeCast S1x1024 (G m c) shapeCasts_S1024_S1x1024 : Vec Ideal S1x1024 .f32) := by
    unfold V hostOps0 hostOps0_1 hostOps0_2 hostOps0_3 hostOps0_4
    simp only [List.flatten_cons, List.flatten_nil, List.append_nil, List.cons_append, List.nil_append]
    after_results_simp <;> rfl
  rw [this]
  pointwise []
theorem V_v1 (j : Fin 1024) (k : Fin 1536) : V m c main_v1 (ix2 j k) = W m c (ix2 j k) := by
  have : V m c main_v1 = (truncf (F := Ideal) .bf16 (W m c) bitsLt_bf16_f32 : Vec Ideal S1024x1536 .bf16) := by
    unfold V hostOps0 hostOps0_1 hostOps0_2 hostOps0_3 hostOps0_4
    simp only [List.flatten_cons, List.flatten_nil, List.append_nil, List.cons_append, List.nil_append]
    after_results_simp <;> rfl
  rw [this]
  pointwise []
/-- The gains of one half, written twice. -/
theorem twice (g : Vec Ideal S64 .f32) (x : Fin 128) :
    (shapeCast S1x128 (concatenate S128 0 [⟨S64, g⟩, ⟨S64, g⟩] concatenates_S64_S64_S128_d0) shapeCasts_S128_S1x128 : Vec Ideal S1x128 .f32) (ix2 0 x)
      = g (ix1 (within x)) := by
  pointwise []
  split
  next h => exact congrArg g (congrArg ix1 (Fin.ext (by simp only [within]; omega)))
  next h => exact congrArg g (congrArg ix1 (Fin.ext (by simp only [within]; omega)))
theorem V_v3 (x : Fin 128) : V m c main_v3 (ix2 0 x) = gq m c (ix1 (within x)) := by
  have : V m c main_v3 = (shapeCast S1x128 (concatenate S128 0 [⟨S64, gq m c⟩, ⟨S64, gq m c⟩] concatenates_S64_S64_S128_d0) shapeCasts_S128_S1x128 : Vec Ideal S1x128 .f32) := by
    unfold V hostOps0 hostOps0_1 hostOps0_2 hostOps0_3 hostOps0_4
    simp only [List.flatten_cons, List.flatten_nil, List.append_nil, List.cons_append, List.nil_append]
    after_results_simp <;> rfl
  rw [this, twice]
theorem V_v5 (x : Fin 128) : V m c main_v5 (ix2 0 x) = gk m c (ix1 (within x)) := by
  have : V m c main_v5 = (shapeCast S1x128 (concatenate S128 0 [⟨S64, gk m c⟩, ⟨S64, gk m c⟩] concatenates_S64_S64_S128_d0) shapeCasts_S128_S1x128 : Vec Ideal S1x128 .f32) := by
    unfold V hostOps0 hostOps0_1 hostOps0_2 hostOps0_3 hostOps0_4
    simp only [List.flatten_cons, List.flatten_nil, List.append_nil, List.cons_append, List.nil_append]
    after_results_simp <;> rfl
  rw [this, twice]
theorem V_cst : V m c main_cst = (fun i => FloatOps.ofBits (F := Ideal) .f32 (lit0 (S128x128.rowMajor i)) : FVec Ideal S128x128 .f32) := by
  unfold V hostOps0 hostOps0_1 hostOps0_2 hostOps0_3 hostOps0_4
  simp only [List.flatten_cons, List.flatten_nil, List.append_nil, List.cons_append, List.nil_append]
  after_results_simp <;> rfl

/-- The first 16 of each 32 lanes. -/
theorem first_lanes : ∀ x : Fin 64, lit1 x = if x.val % 32 < 16 then 1#1 else 0#1 := by decide

/-- Two copies of a table side by side. -/
theorem doubled (T : Vec Ideal S4096x64 .f32) (s : Fin 4096) (x : Fin 128) :
    (concatenate S4096x128 1 [⟨S4096x64, T⟩, ⟨S4096x64, T⟩] concatenates_S4096x64_S4096x64_S4096x128_d1 : Vec Ideal S4096x128 .f32) (ix2 s x)
      = T (ix2 s (within x)) := by
  pointwise []
  split
  next h => exact congrArg T (congrArg (ix2 s) (Fin.ext (by simp only [within]; omega)))
  next h => exact congrArg T (congrArg (ix2 s) (Fin.ext (by simp only [within]; omega)))

theorem lane_bit (s : Fin 4096) (x : Fin 64) :
    (broadcastInDim S4096x64 ![1] bcast_S64_S4096x64_1 (fun i => lit1 (S64.rowMajor i) : IVec S64 1) : IVec S4096x64 1) (ix2 s x)
      = if x.val % 32 < 16 then 1#1 else 0#1 := by
  rw [← first_lanes]
  exact congrArg lit1 (Fin.ext (Shape.rowMajor_val_one _))

/-- The sines negated on the first 16 lanes of each 32, zero elsewhere. -/
def below (T : Vec Ideal S4096x64 .f32) : Vec Ideal S4096x64 .f32 :=
  select (broadcastInDim S4096x64 ![1] bcast_S64_S4096x64_1 (fun i => lit1 (S64.rowMajor i))) (Host.negf (F := Ideal) (φ := .f32) T)
    (broadcastInDim S4096x64 ![] bcast_S_S4096x64 (constant S_ .f32 0x00000000#32 : FVec Ideal S_ .f32))
/-- The sines on the last 16 lanes of each 32, zero elsewhere. -/
def above (T : Vec Ideal S4096x64 .f32) : Vec Ideal S4096x64 .f32 :=
  select (broadcastInDim S4096x64 ![1] bcast_S64_S4096x64_1 (fun i => lit1 (S64.rowMajor i)))
    (broadcastInDim S4096x64 ![] bcast_S_S4096x64 (constant S_ .f32 0x00000000#32 : FVec Ideal S_ .f32)) T

theorem below_apply (T : Vec Ideal S4096x64 .f32) (s : Fin 4096) (x : Fin 64) :
    below T (ix2 s x) = if x.val % 32 < 16 then -T (ix2 s x) else 0 := by
  show Scalar.select ((broadcastInDim S4096x64 ![1] bcast_S64_S4096x64_1 (fun i => lit1 (S64.rowMajor i) : IVec S64 1) : IVec S4096x64 1) (ix2 s x))
    (-T (ix2 s x) : EReal) (Ideal.ofBits .f32 0x00000000#32 : EReal) = _
  rw [lane_bit]
  unfold Scalar.select
  by_cases hx : x.val % 32 < 16
  · rw [if_pos hx, if_pos hx]
    rfl
  · rw [if_neg hx, if_neg hx]
    exact ofBits_zero
theorem above_apply (T : Vec Ideal S4096x64 .f32) (s : Fin 4096) (x : Fin 64) :
    above T (ix2 s x) = if x.val % 32 < 16 then 0 else T (ix2 s x) := by
  show Scalar.select ((broadcastInDim S4096x64 ![1] bcast_S64_S4096x64_1 (fun i => lit1 (S64.rowMajor i) : IVec S64 1) : IVec S4096x64 1) (ix2 s x))
    (Ideal.ofBits .f32 0x00000000#32 : EReal) (T (ix2 s x) : EReal) = _
  rw [lane_bit]
  unfold Scalar.select
  by_cases hx : x.val % 32 < 16
  · rw [if_pos hx, if_pos hx]
    exact ofBits_zero
  · rw [if_neg hx, if_neg hx]
    rfl

theorem V_v9 : V m c main_v9 = (concatenate S4096x128 1 [⟨S4096x64, co m c⟩, ⟨S4096x64, co m c⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp <;> rfl
theorem V_v10 : V m c main_v10 = (concatenate S4096x128 1 [⟨S4096x64, below (si m c)⟩, ⟨S4096x64, below (si m c)⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp
  after_results_loop
  refine congrArg (fun T : Vec Ideal S4096x64 .f32 => (concatenate S4096x128 1 [⟨S4096x64, T⟩, ⟨S4096x64, T⟩] concatenates_S4096x64_S4096x64_S4096x128_d1 : Vec Ideal S4096x128 .f32)) ?_
  simp only [StableHlo.TRef.ofBuf, StableHlo.TRef.toBuf, cast_cast, cast_eq, id_eq]
  rfl
theorem V_v11 : V m c main_v11 = (concatenate S4096x128 1 [⟨S4096x64, above (si m c)⟩, ⟨S4096x64, above (si m c)⟩] concatenates_S4096x64_S4096x64_S4096x128_d1 : Vec Ideal S4096x128 .f32) := by
  unfold V hostOps0 hostOps0_1 hostOps0_2 hostOps0_3 hostOps0_4
  simp only [List.flatten_cons, List.flatten_nil, List.append_nil, List.cons_append, List.nil_append]
  after_results_simp
  after_results_loop
  refine congrArg (fun T : Vec Ideal S4096x64 .f32 => (concatenate S4096x128 1 [⟨S4096x64, T⟩, ⟨S4096x64, T⟩] concatenates_S4096x64_S4096x64_S4096x128_d1 : Vec Ideal S4096x128 .f32)) ?_
  simp only [StableHlo.TRef.ofBuf, StableHlo.TRef.toBuf, cast_cast, cast_eq, id_eq]
  rfl

/-- The position of the tile's row `r`. -/
def position (t : Fin cfg0.N) (r : Fin 512) : Fin 4096 := ⟨tile t % 8 * 512 + r, by omega⟩

theorem cosines (t : Fin cfg0.N) (r : Fin 512) (x : Fin 128) :
    (iblk m c 7 t : Vec Ideal S512x128 .f32) (ix2 r x) = co m c (ix2 (position t r) (within x)) := by
  rw [← doubled (co m c), ← V_v9]
  blk_simp [iblk]
  unfold position tile
  blk_ext [e7]
theorem sines_below (t : Fin cfg0.N) (r : Fin 512) (x : Fin 128) :
    (iblk m c 8 t : Vec Ideal S512x128 .f32) (ix2 r x) = below (si m c) (ix2 (position t r) (within x)) := by
  rw [← doubled (below (si m c)), ← V_v10]
  blk_simp [iblk]
  unfold position tile
  blk_ext [e8]
theorem sines_above (t : Fin cfg0.N) (r : Fin 512) (x : Fin 128) :
    (iblk m c 9 t : Vec Ideal S512x128 .f32) (ix2 r x) = above (si m c) (ix2 (position t r) (within x)) := by
  rw [← doubled (above (si m c)), ← V_v11]
  blk_simp [iblk]
  unfold position tile
  blk_ext [e9]

/-- The tile's rotation tables. -/
theorem tables (t : Fin cfg0.N) (r : Fin 512) :
    Tables (fun x => (iblk m c 7 t : Vec Ideal S512x128 .f32) (ix2 r x)) (fun x => (iblk m c 8 t : Vec Ideal S512x128 .f32) (ix2 r x))
      (fun x => (iblk m c 9 t : Vec Ideal S512x128 .f32) (ix2 r x)) (fun x => co m c (ix2 (position t r) x)) (fun x => si m c (ix2 (position t r) x)) := by
  intro x
  have e : (within x).val % 32 = x.val % 32 := by simp only [within]; omega
  refine ⟨cosines m c t r x, (sines_below m c t r x).trans ?_, (sines_above m c t r x).trans ?_⟩
  · rw [below_apply, e]
  · rw [above_apply, e]

theorem gains (t : Fin cfg0.N) (j : Fin 1024) : (iblk m c 2 t : Vec Ideal S1x1024 .f32) (ix2 0 j) = G m c (ix1 j) := by
  rw [← V_v0]
  blk_simp [iblk]
  blk_ext [e2]
theorem weights (t : Fin cfg0.N) (j : Fin 1024) (k : Fin 1536) : (iblk m c 3 t : Vec Ideal S1024x1536 .bf16) (ix2 j k) = W m c (ix2 j k) := by
  rw [← V_v1]
  blk_simp [iblk]
  blk_ext [e3]

theorem mask (t : Fin cfg0.N) (j x : Fin 128) :
    (iblk m c 6 t : Vec Ideal S128x128 .f32) (ix2 j x) = if j.val / 64 = x.val / 64 then (1 : EReal) else (0 : EReal) := by
  have h : (iblk m c 6 t : Vec Ideal S128x128 .f32) (ix2 j x) = V m c main_cst (ix2 j x) := by
    blk_simp [iblk]
    blk_ext [e6]
  rw [h, V_cst]
  have hr : (S128x128.rowMajor (ix2 j x)).val = j * 128 + x := by rw [Shape.rowMajor_val_two]; rfl
  show Ideal.ofBits .f32 (lit0 (S128x128.rowMajor (ix2 j x))) = _
  refine (congrArg (Ideal.ofBits .f32) (Mask.lit_at _ _ _ hr)).trans ?_
  split
  · exact ofBits_one
  · exact ofBits_zero

theorem query_gains (t : Fin cfg0.N) (x : Fin 128) : (iblk m c 4 t : Vec Ideal S1x128 .f32) (ix2 0 x) = gq m c (ix1 (within x)) := by
  rw [← V_v3]
  blk_simp [iblk]
  blk_ext [e4]
theorem key_gains (t : Fin cfg0.N) (x : Fin 128) : (iblk m c 5 t : Vec Ideal S1x128 .f32) (ix2 0 x) = gk m c (ix1 (within x)) := by
  rw [← V_v5]
  blk_simp [iblk]
  blk_ext [e5]

end Cert.RotatedWindowProjectIdeal.Windows

end
-- ==== Proof.RotatedWindowProjectReference.lean ====
/-
  The results of the reference of the latents' rotated windowed projections, entry by entry: `Projection.windowed` of the tokens' rows.
-/
module

public import proofs.«01_k».proof.Proof.ProjectPacked
public import proofs.«01_k».proof.Proof.Gen.RotatedWindowProjectReferenceIdeal
public import proofs.«01_k».proof.Proof.Gen.RotatedWindowProjectReferenceIdeal.Read

@[expose] public section
set_option maxRecDepth 16384

noncomputable section

namespace Cert.RotatedWindowProjectReferenceIdeal.Entry

open Cert.RotatedWindowProjectReferenceIdeal.Read Cert.RotatedWindowProjectReferenceIdeal Cert.RotatedWindowProjectReferenceIdeal.Gen Idealize.ShloMosaic Cert.Projection

variable (X : Vec Ideal S16384x1024 .f32) (M : Vec Ideal S8x6x1024 .f32) (G : Vec Ideal S1024 .f32) (W : Vec Ideal S1024x1536 .f32)
  (gq gk : Vec Ideal S64 .f32) (co si : Vec Ideal S4096x64 .f32)

/-- The token `b`, `s` as a row of the activations. -/
def tok (b : Fin 2) (s : Fin 4096) : Fin 16384 := ⟨b * 4096 + s + 8192, by omega⟩

theorem rows (b : Fin 2) (s : Fin 4096) (j : Fin 1024) : val_main_v1 X (ix3 b s j) = X (ix2 (tok b s) j) := by
  pointwise [val_main_v1, val_main_v0]
  exact congrArg (fun q => X (ix2 q j)) (Fin.ext (by simp [tok] <;> omega))

theorem normed (b : Fin 2) (s : Fin 4096) (j : Fin 1024) : val_main_v26 X M G (ix3 b s j)
    = modnorm (fun j => X (ix2 (tok b s) j)) (fun j => G (ix1 j)) (fun j => M (ix3 ⟨1 + b, by omega⟩ 1 j)) (fun j => M (ix3 ⟨1 + b, by omega⟩ 0 j)) j := by
  pointwise [val_main_v26, val_main_v25, val_main_v24, val_main_v23, val_main_v22, val_main_v21, val_main_cst_2, val_main_v20, val_main_v19, val_main_v18, val_main_v17, val_main_v16, val_main_v15, val_main_v14, val_main_v13, val_main_cst_1, val_main_v12, val_main_v11, val_main_cst_0, val_main_v10, val_main_v9, val_main_cst, val_main_v8, val_main_v7, val_main_v6, val_main_v5, val_main_v4, val_main_v3, val_main_v2]
  simp only [rows]
  rfl

/-- The projections' columns at a token. -/
abbrev y (b : Fin 2) (s : Fin 4096) : Fin 1536 → EReal :=
  proj (fun j => X (ix2 (tok b s) j)) (fun j => G (ix1 j)) (fun j => M (ix3 ⟨1 + b, by omega⟩ 1 j)) (fun j => M (ix3 ⟨1 + b, by omega⟩ 0 j)) (fun j c => W (ix2 j c))

theorem projected (b : Fin 2) (s : Fin 4096) (c : Fin 1536) : val_main_v27 X M G W (ix3 b s c) = y X M G W b s c := by
  pointwise [val_main_v27]
  simp only [normed]
  rfl

theorem query (b : Fin 2) (s : Fin 4096) (h : Fin 8) (p : Fin 2) (x : Fin 64) :
    val_main_v31 X M G W (ix5 b s ⟨h / 2, by omega⟩ ⟨h % 2 * 2 + p, by omega⟩ x) = y X M G W b s (wcol ⟨h, by omega⟩ (lane p x)) := by
  pointwise [val_main_v31, val_main_v28]
  rw [projected]
  exact congrArg (y X M G W b s) (Fin.ext (by simp [wcol, lane]; omega))

theorem key (b : Fin 2) (s : Fin 4096) (h : Fin 2) (p : Fin 2) (x : Fin 64) :
    val_main_v63 X M G W (ix4 b s ⟨h * 2 + p, by omega⟩ x) = y X M G W b s (wcol ⟨8 + h, by omega⟩ (lane p x)) := by
  pointwise [val_main_v63, val_main_v29]
  rw [projected]
  exact congrArg (y X M G W b s) (Fin.ext (by simp [wcol, lane]; omega))

theorem query_normed (b : Fin 2) (s : Fin 4096) (h : Fin 8) (p : Fin 2) (x : Fin 64) :
    val_main_v44 X M G W gq (ix5 b s ⟨h / 2, by omega⟩ ⟨h % 2 * 2 + p, by omega⟩ x) = halfnorm (fun j => y X M G W b s (wcol ⟨h, by omega⟩ j)) (fun j => gq (ix1 j)) (lane p x) := by
  pointwise [val_main_v44, val_main_v43, val_main_v42, val_main_v41, val_main_v40, val_main_v39, val_main_v38, val_main_v37, val_main_cst_5, val_main_v36, val_main_v35, val_main_cst_4, val_main_v34, val_main_v33, val_main_cst_3, val_main_v32]
  simp only [query]
  unfold halfnorm
  rw [half_lane, within_lane]

theorem key_normed (b : Fin 2) (s : Fin 4096) (h : Fin 2) (p : Fin 2) (x : Fin 64) :
    val_main_v76 X M G W gk (ix4 b s ⟨h * 2 + p, by omega⟩ x) = halfnorm (fun j => y X M G W b s (wcol ⟨8 + h, by omega⟩ j)) (fun j => gk (ix1 j)) (lane p x) := by
  pointwise [val_main_v76, val_main_v75, val_main_v74, val_main_v73, val_main_v72, val_main_v71, val_main_v70, val_main_v69, val_main_cst_8, val_main_v68, val_main_v67, val_main_cst_7, val_main_v66, val_main_v65, val_main_cst_6, val_main_v64]
  simp only [key]
  unfold halfnorm
  rw [half_lane, within_lane]

/-- The lane 16 above and the lane 16 below, around the 64. -/
def above (x : Fin 64) : Fin 64 := ⟨(x + 16) % 64, by omega⟩
def below (x : Fin 64) : Fin 64 := ⟨(x + 48) % 64, by omega⟩

theorem lane_above (p : Fin 2) (x : Fin 64) (hx : x.val % 32 < 16) : lane p (above x) = up (lane p x) :=
  Fin.ext (by simp only [lane, above, up]; omega)
theorem lane_below (p : Fin 2) (x : Fin 64) (hx : ¬ x.val % 32 < 16) : lane p (below x) = down (lane p x) :=
  Fin.ext (by simp only [lane, below, down]; omega)
theorem lane_32 (p : Fin 2) (x : Fin 64) : (lane p x).val % 32 = x.val % 32 := by simp only [lane]; omega

theorem query_rotated (b : Fin 2) (s : Fin 4096) (h : Fin 8) (p : Fin 2) (x : Fin 64) :
    val_main_v55 X M G W gq (ix5 b s ⟨h / 2, by omega⟩ ⟨h % 2 * 2 + p, by omega⟩ x)
      = if x.val % 32 < 16 then -val_main_v44 X M G W gq (ix5 b s ⟨h / 2, by omega⟩ ⟨h % 2 * 2 + p, by omega⟩ (above x)) else val_main_v44 X M G W gq (ix5 b s ⟨h / 2, by omega⟩ ⟨h % 2 * 2 + p, by omega⟩ (below x)) := by
  have hx := x.isLt
  pointwise [val_main_v55, val_main_v54, val_main_v53, val_main_v52, val_main_v51, val_main_v50, val_main_v49, val_main_v48, val_main_v47, val_main_v46, val_main_v45]
  split_ifs
  all_goals first
    | (exfalso; omega)
    | exact congrArg (fun q => -val_main_v44 X M G W gq (ix5 b s ⟨h / 2, by omega⟩ ⟨h % 2 * 2 + p, by omega⟩ q)) (Fin.ext (by simp only [above]; omega))
    | exact congrArg (fun q => val_main_v44 X M G W gq (ix5 b s ⟨h / 2, by omega⟩ ⟨h % 2 * 2 + p, by omega⟩ q)) (Fin.ext (by simp only [below]; omega))
    | (refine Eq.trans ?_ (if_pos (by omega)).symm
       exact congrArg (fun q => -val_main_v44 X M G W gq (ix5 b s ⟨h / 2, by omega⟩ ⟨h % 2 * 2 + p, by omega⟩ q)) (Fin.ext (by simp only [above]; omega)))
    | (refine Eq.trans ?_ (if_neg (by omega)).symm
       exact congrArg (fun q => val_main_v44 X M G W gq (ix5 b s ⟨h / 2, by omega⟩ ⟨h % 2 * 2 + p, by omega⟩ q)) (Fin.ext (by simp only [below]; omega)))

theorem key_rotated (b : Fin 2) (s : Fin 4096) (h : Fin 2) (p : Fin 2) (x : Fin 64) :
    val_main_v87 X M G W gk (ix4 b s ⟨h * 2 + p, by omega⟩ x)
      = if x.val % 32 < 16 then -val_main_v76 X M G W gk (ix4 b s ⟨h * 2 + p, by omega⟩ (above x)) else val_main_v76 X M G W gk (ix4 b s ⟨h * 2 + p, by omega⟩ (below x)) := by
  have hx := x.isLt
  pointwise [val_main_v87, val_main_v86, val_main_v85, val_main_v84, val_main_v83, val_main_v82, val_main_v81, val_main_v80, val_main_v79, val_main_v78, val_main_v77]
  split_ifs
  all_goals first
    | (exfalso; omega)
    | exact congrArg (fun q => -val_main_v76 X M G W gk (ix4 b s ⟨h * 2 + p, by omega⟩ q)) (Fin.ext (by simp only [above]; omega))
    | exact congrArg (fun q => val_main_v76 X M G W gk (ix4 b s ⟨h * 2 + p, by omega⟩ q)) (Fin.ext (by simp only [below]; omega))
    | (refine Eq.trans ?_ (if_pos (by omega)).symm
       exact congrArg (fun q => -val_main_v76 X M G W gk (ix4 b s ⟨h * 2 + p, by omega⟩ q)) (Fin.ext (by simp only [above]; omega)))
    | (refine Eq.trans ?_ (if_neg (by omega)).symm
       exact congrArg (fun q => val_main_v76 X M G W gk (ix4 b s ⟨h * 2 + p, by omega⟩ q)) (Fin.ext (by simp only [below]; omega)))

theorem query_turned (b : Fin 2) (s : Fin 4096) (h : Fin 8) (p : Fin 2) (x : Fin 64) :
    val_main_v62 X M G W gq co si (ix5 b s ⟨h / 2, by omega⟩ ⟨h % 2 * 2 + p, by omega⟩ x) = turn (halfnorm (fun j => y X M G W b s (wcol ⟨h, by omega⟩ j)) (fun j => gq (ix1 j)))
      (fun j => co (ix2 s j)) (fun j => si (ix2 s j)) (lane p x) := by
  pointwise [val_main_v62, val_main_v61, val_main_v60, val_main_v59, val_main_v58, val_main_v57, val_main_v56]
  rw [query_rotated, query_normed]
  unfold turn
  rw [within_lane, lane_32]
  split
  next hx => rw [query_normed, lane_above p x hx]
  next hx => rw [query_normed, lane_below p x hx]

theorem key_turned (b : Fin 2) (s : Fin 4096) (h : Fin 2) (p : Fin 2) (x : Fin 64) :
    val_main_v94 X M G W gk co si (ix4 b s ⟨h * 2 + p, by omega⟩ x) = turn (halfnorm (fun j => y X M G W b s (wcol ⟨8 + h, by omega⟩ j)) (fun j => gk (ix1 j)))
      (fun j => co (ix2 s j)) (fun j => si (ix2 s j)) (lane p x) := by
  pointwise [val_main_v94, val_main_v93, val_main_v92, val_main_v91, val_main_v90, val_main_v89, val_main_v88]
  rw [key_rotated, key_normed]
  unfold turn
  rw [within_lane, lane_32]
  split
  next hx => rw [key_normed, lane_above p x hx]
  next hx => rw [key_normed, lane_below p x hx]

theorem query_scaled (b : Fin 2) (s : Fin 4096) (h : Fin 8) (p : Fin 2) (x : Fin 64) :
    val_main_v96 X M G W gq co si (ix5 b s ⟨h / 2, by omega⟩ ⟨h % 2 * 2 + p, by omega⟩ x) = turn (halfnorm (fun j => y X M G W b s (wcol ⟨h, by omega⟩ j)) (fun j => gq (ix1 j))) (fun j => co (ix2 s j)) (fun j => si (ix2 s j)) (lane p x) * eighth := by
  pointwise [val_main_v96, val_main_v95, val_main_cst_9]
  rw [query_turned]

/-- The scaled queries. -/
theorem queries (b : Fin 2) (s : Fin 4096) (h : Fin 8) (x : Fin 128) :
    val_main_v97 X M G W gq co si (ix2 ⟨b * 4096 + s, by omega⟩ ⟨h * 128 + x, by omega⟩)
      = turn (halfnorm (fun j => y X M G W b s (wcol ⟨h, by omega⟩ j)) (fun j => gq (ix1 j))) (fun j => co (ix2 s j)) (fun j => si (ix2 s j)) x * eighth := by
  have e := query_scaled X M G W gq co si b s h (half x) (within x)
  rw [lane_half] at e
  rw [← e]
  pointwise [val_main_v97]
  exact congr3 (fun t u v => val_main_v96 X M G W gq co si (ix5 b s t u v)) (Fin.ext (by simp [half]; omega)) (Fin.ext (by simp [half]; omega)) (Fin.ext (by simp [within]; omega))

/-- The keys. -/
theorem keys (b : Fin 2) (s : Fin 4096) (h : Fin 2) (x : Fin 128) :
    val_main_v98 X M G W gk co si (ix2 ⟨b * 4096 + s, by omega⟩ ⟨h * 128 + x, by omega⟩)
      = turn (halfnorm (fun j => y X M G W b s (wcol ⟨8 + h, by omega⟩ j)) (fun j => gk (ix1 j))) (fun j => co (ix2 s j)) (fun j => si (ix2 s j)) x := by
  have e := key_turned X M G W gk co si b s h (half x) (within x)
  rw [lane_half] at e
  rw [← e]
  pointwise [val_main_v98]
  exact congrArg₂ (fun u v => val_main_v94 X M G W gk co si (ix4 b s u v)) (Fin.ext (by simp [half]; omega)) (Fin.ext (by simp [within]; omega))

/-- The values. -/
theorem values (b : Fin 2) (s : Fin 4096) (h : Fin 2) (x : Fin 128) :
    val_main_v99 X M G W (ix2 ⟨b * 4096 + s, by omega⟩ ⟨h * 128 + x, by omega⟩) = y X M G W b s (wcol ⟨10 + h, by omega⟩ x) := by
  pointwise [val_main_v99, val_main_v30]
  rw [projected]
  exact congrArg (y X M G W b s) (Fin.ext (by simp [wcol]; omega))

/-- The keys with the halves of each group exchanged. -/
theorem keys_swapped (b : Fin 2) (s : Fin 4096) (h : Fin 2) (x : Fin 128) :
    val_main_v104 X M G W gk co si (ix2 ⟨b * 4096 + s, by omega⟩ ⟨h * 128 + x, by omega⟩) = val_main_v98 X M G W gk co si (ix2 ⟨b * 4096 + s, by omega⟩ ⟨h * 128 + (other x).val, by omega⟩) := by
  have hx := x.isLt
  have hh := h.isLt
  pointwise [val_main_v104, val_main_v103, val_main_v102, val_main_v101, val_main_v100]
  split_ifs
  all_goals
    refine congrArg₂ (fun u v => val_main_v98 X M G W gk co si (ix2 u v)) (Fin.ext ?_) (Fin.ext ?_)
    · simp <;> omega
    · simp [other] <;> omega

/-- The values with the halves of each group exchanged. -/
theorem values_swapped (b : Fin 2) (s : Fin 4096) (h : Fin 2) (x : Fin 128) :
    val_main_v109 X M G W (ix2 ⟨b * 4096 + s, by omega⟩ ⟨h * 128 + x, by omega⟩) = val_main_v99 X M G W (ix2 ⟨b * 4096 + s, by omega⟩ ⟨h * 128 + (other x).val, by omega⟩) := by
  have hx := x.isLt
  have hh := h.isLt
  pointwise [val_main_v109, val_main_v108, val_main_v107, val_main_v106, val_main_v105]
  split_ifs
  all_goals
    refine congrArg₂ (fun u v => val_main_v99 X M G W (ix2 u v)) (Fin.ext ?_) (Fin.ext ?_)
    · simp <;> omega
    · simp [other] <;> omega

/-- The concatenated result. -/
theorem result (b : Fin 2) (s : Fin 4096) (n : Fin 16) (x : Fin 128) :
    val_main_v111 X M G W gq gk co si (ix2 ⟨b * 4096 + s, by omega⟩ (ocol n x))
      = windowed (y X M G W b s) (fun z => turn (halfnorm z (fun j => gq (ix1 j))) (fun j => co (ix2 s j)) (fun j => si (ix2 s j))) (fun z => turn (halfnorm z (fun j => gk (ix1 j))) (fun j => co (ix2 s j)) (fun j => si (ix2 s j))) n x := by
  unfold windowed
  have hn := n.isLt
  have hx := x.isLt
  rw [val_main_v111_apply, show ∀ z : EReal, FloatOps.truncf (F := Ideal) (φ := .f32) .bf16 bitsLt_bf16_f32 z = z from fun _ => rfl]
  split
  next h =>
    refine Eq.trans ?_ ((queries X M G W gq co si b s ⟨n, by omega⟩ x))
    unfold ocol
    pointwise [val_main_v110]
    rw [dif_pos (by omega)]
  split
  next h _ =>
    refine Eq.trans ?_ ((keys X M G W gk co si b s ⟨n - 8, by omega⟩ x).trans (congrArg (fun c => turn (halfnorm (fun j => y X M G W b s (wcol c j)) (fun j => gk (ix1 j))) (fun j => co (ix2 s j)) (fun j => si (ix2 s j)) x) (Fin.ext (by simp; omega))))
    unfold ocol
    pointwise [val_main_v110]
    rw [dif_neg (by omega), dif_pos (by omega)]
    exact congrArg (fun q => val_main_v98 X M G W gk co si (ix2 _ q)) (Fin.ext (by simp <;> omega))
  split
  next h _ _ =>
    refine Eq.trans ?_ (((keys_swapped X M G W gk co si b s ⟨n - 10, by omega⟩ x).trans (keys X M G W gk co si b s ⟨n - 10, by omega⟩ (other x))).trans (congrArg (fun c => turn (halfnorm (fun j => y X M G W b s (wcol c j)) (fun j => gk (ix1 j))) (fun j => co (ix2 s j)) (fun j => si (ix2 s j)) (other x)) (Fin.ext (by simp; omega))))
    unfold ocol
    pointwise [val_main_v110]
    rw [dif_neg (by omega), dif_neg (by omega), dif_pos (by omega)]
    exact congrArg (fun q => val_main_v104 X M G W gk co si (ix2 _ q)) (Fin.ext (by simp <;> omega))
  split
  next h _ _ _ =>
    refine Eq.trans ?_ ((values X M G W b s ⟨n - 12, by omega⟩ x).trans (congrArg (fun c => y X M G W b s (wcol c x)) (Fin.ext (by simp; omega))))
    unfold ocol
    pointwise [val_main_v110]
    rw [dif_neg (by omega), dif_neg (by omega), dif_neg (by omega), dif_pos (by omega)]
    exact congrArg (fun q => val_main_v99 X M G W (ix2 _ q)) (Fin.ext (by simp <;> omega))
  next h _ _ _ =>
    refine Eq.trans ?_ (((values_swapped X M G W b s ⟨n - 14, by omega⟩ x).trans (values X M G W b s ⟨n - 14, by omega⟩ (other x))).trans (congrArg (fun c => y X M G W b s (wcol c (other x))) (Fin.ext (by simp; omega))))
    unfold ocol
    pointwise [val_main_v110]
    rw [dif_neg (by omega), dif_neg (by omega), dif_neg (by omega), dif_neg (by omega)]
    exact congrArg (fun q => val_main_v109 X M G W (ix2 _ q)) (Fin.ext (by simp <;> omega))

end Cert.RotatedWindowProjectReferenceIdeal.Entry

end
-- ==== Proof.RotatedWindowProjectValue.lean ====
/-
  The results after the run of the latents' rotated windowed projection kernel, as the reference's terms of the argument arrays.
-/
module

public import proofs.«01_k».proof.Proof.RotatedWindowProjectBlock
public import proofs.«01_k».proof.Proof.RotatedWindowProjectWindows
public import proofs.«01_k».proof.Proof.RotatedWindowProjectReference

@[expose] public section

set_option maxRecDepth 16384

noncomputable section

namespace Cert.RotatedWindowProjectIdeal.Final

open Cert.RotatedWindowProjectIdeal Cert.RotatedWindowProjectIdeal.Gen Cert.RotatedWindowProjectIdeal.Windows Idealize.ShloMosaic Idealize.ShloMosaic.TcCoe Cert.Projection
open Cert.RotatedWindowProjectReferenceIdeal.Read (val_main_v111)

variable (m : (ℓ : Loc nD τ sig) → Buf (Elt Ideal) ℓ) (c : Dev nD)

/-- Row `r` of the point's tile, as a row of the results and as the reference's batch and position. -/
def row (t : Fin cfg0.N) (r : Fin 512) : Fin 8192 := ⟨tile t * 512 + r, by omega⟩
def batch (t : Fin cfg0.N) (r : Fin 512) : Fin 2 := ⟨tile t / 8, by omega⟩

theorem row_eq (t : Fin cfg0.N) (r : Fin 512) : (⟨batch t r * 4096 + position t r, by omega⟩ : Fin 8192) = row t r :=
  Fin.ext (by simp only [batch, position, row]; omega)

/-- The block's projections are the reference's. -/
theorem yrow_eq (t : Fin cfg0.N) (r : Fin 512) :
    Block.yrow (iblk m c 0 t) (iblk m c 1 t) (iblk m c 2 t) (iblk m c 3 t) r
      = Cert.RotatedWindowProjectReferenceIdeal.Entry.y (X m c) (M m c) (G m c) (W m c) (batch t r) (position t r) := by
  have e : (⟨(tile t + 16) * 512 + r, by omega⟩ : Fin 16384) = Cert.RotatedWindowProjectReferenceIdeal.Entry.tok (batch t r) (position t r) :=
    Fin.ext (by simp only [batch, position, Cert.RotatedWindowProjectReferenceIdeal.Entry.tok]; omega)
  have h0 : ∀ j, (iblk m c 0 t : Vec Ideal S512x1024 .f32) (ix2 r j) = X m c (ix2 (Cert.RotatedWindowProjectReferenceIdeal.Entry.tok (batch t r) (position t r)) j) :=
    fun j => by rw [rows, e]
  have em : ∀ p j, (iblk m c 1 t : Vec Ideal S1x6x1024 .f32) (ix3 0 p j) = M m c (ix3 ⟨1 + batch t r, by omega⟩ p j) :=
    fun p j => (modulation m c t p j).trans (congrArg (fun q => M m c (ix3 q p j)) (Fin.ext (by simp only [batch]; omega)))
  unfold Block.yrow Cert.RotatedWindowProjectReferenceIdeal.Entry.y
  rw [funext h0, funext (gains m c t), funext (em 1), funext (em 0),
    funext fun j => funext (weights m c t j)]

theorem out10 : (dats m 0 c).arrAt 10 cfg0.N = val_main_v111 (F := Ideal) (X m c) (M m c) (G m c) (W m c) (gq m c) (gk m c) (co m c) (si m c) := by
  refine (dats m 0 c).arrAt_eq_of_covers 10 _ (by decide +kernel) fun t hf y => ?_
  blk_simp
  rw [after0_10]
  revert y
  show ∀ y : S512x2048.Idx, _
  intro y
  obtain ⟨r, n, x, rfl⟩ : ∃ (r : Fin 512) (n : Fin 16) (x : Fin 128), y = ix2 r (ocol n x) :=
    ⟨y 0, Block.group (y 1), Block.inner (y 1), by
      funext a
      fin_cases a
      · rfl
      · exact Fin.ext (by show (y 1).val = (y 1).val / 128 * 128 + (y 1).val % 128; omega)⟩
  have hemb : ((cfg0.win 10).blk t).view.emb (ix2 r (ocol n x)) = ix2 (row t r) (ocol n x) := by
    unfold row tile
    blk_ext [e10]
  refine (Block.canon10 (iblk m c 0 t) (iblk m c 1 t) (iblk m c 2 t) (iblk m c 3 t) (iblk m c 4 t) (iblk m c 5 t) (iblk m c 6 t) (iblk m c 7 t) (iblk m c 8 t) (iblk m c 9 t)
    (gq := fun j => gq m c (ix1 j)) (gk := fun j => gk m c (ix1 j))
    (co := (fun r x => co m c (ix2 (position t r) x))) (si := (fun r x => si m c (ix2 (position t r) x))) (mask m c t) (query_gains m c t) (key_gains m c t) (tables m c t) _).trans ?_
  rw [Block.E_col, yrow_eq]
  refine (Cert.RotatedWindowProjectReferenceIdeal.Entry.result (X m c) (M m c) (G m c) (W m c) (gq m c) (gk m c) (co m c) (si m c) (batch t r) (position t r) n x).symm.trans ?_
  rw [row_eq]
  exact congrArg (val_main_v111 (F := Ideal) (X m c) (M m c) (G m c) (W m c) (gq m c) (gk m c) (co m c) (si m c)) hemb.symm

end Cert.RotatedWindowProjectIdeal.Final

end
-- ==== Proof.RouteSpec.lean ====
/-
  What the output projection adds to a token's row, and the row in front of the experts, entry by entry.
-/
module

public import proofs.«01_k».proof.Proof.ProjectSpec

@[expose] public section

noncomputable section

namespace Cert.Projection

/-- A row plus the gates times the attention's row multiplied with the weights. -/
def outproj (x gate o : Fin 1024 → EReal) (w : Fin 1024 → Fin 1024 → EReal) (j : Fin 1024) : EReal :=
  x j + gate j * ∑ k, o k * w k j

/-- The row of the modulation that a token takes: the contexts the first, the latents that of their sample. -/
def modrow (t : Fin 16384) : Fin 8 := ⟨if t.val < 8192 then 0 else 1 + (t.val - 8192) / 4096, by have := t.isLt; split <;> omega⟩

end Cert.Projection

end
-- ==== Proof.RouteBlock.lean ====
/-
  One block of the output projection, entry by entry: the rows after it, and the rows in front of the experts.
-/
module

public import proofs.«01_k».proof.Proof.RouteSpec
public import proofs.«01_k».proof.Proof.Gen.RouteIdeal
public import proofs.«01_k».proof.Proof.Gen.RouteIdeal.Frame
public import proofs.«01_k».proof.Proof.Gen.RouteIdeal.Value
public import Idealize.ShloMosaic.Lib.Pipeline.ValueKit

@[expose] public section

set_option maxRecDepth 16384

noncomputable section

namespace Cert.RouteIdeal.Block

open Cert.RouteIdeal Cert.RouteIdeal.Gen Idealize.ShloMosaic Idealize.ShloMosaic.TcCoe Idealize.SL.Sem Idealize.ShloMosaic.Tactic Cert.Projection

section
variable {F : FTy → Type} [FloatOps F]

theorem hz2 : (![0, 0] : Fin 2 → Nat) = fun _ => 0 := funext fun a => by fin_cases a <;> rfl

/-- The rows of the modulation that the body loads: the gate, the scale and the shift. -/
def gate (x2 : Vec F S1x6x1024 .f32) : Vec F S1x1x1024 .f32 := View.ld x2 (Rect.unit (s := S1x6x1024) ![0, 2, 0] S1x1x1024.size inb_S1x6x1024_S1x1x1024_0_2_0)
def scale (x2 : Vec F S1x6x1024 .f32) : Vec F S1x1x1024 .f32 := View.ld x2 (Rect.unit (s := S1x6x1024) ![0, 4, 0] S1x1x1024.size inb_S1x6x1024_S1x1x1024_0_4_0)
def shift (x2 : Vec F S1x6x1024 .f32) : Vec F S1x1x1024 .f32 := View.ld x2 (Rect.unit (s := S1x6x1024) ![0, 3, 0] S1x1x1024.size inb_S1x6x1024_S1x1x1024_0_3_0)

/-- What the body leaves in the first output's block. -/
theorem out7_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x6x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S16x128x128 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x128 .i32) (harg10 : arg10.IsWhole) (arg11 : Memref sig .tc .vmem S512x128 .i32) (harg11 : arg11.IsWhole) (arg12 : Memref sig .tc .vmem S512x128 .f32) (harg12 : arg12.IsWhole) (arg13 : Memref sig .tc .vmem S2048x512 .bf16) (harg13 : arg13.IsWhole) (arg14 : Memref sig .tc .vmem S16x16x512 .f32) (harg14 : arg14.IsWhole) (arg15 : Memref sig .tc .vmem S16x16x512 .f32) (harg15 : arg15.IsWhole) (arg16 : Memref sig .tc .vmem S8x16x512 .f32) (harg16 : arg16.IsWhole) (arg17 : Memref sig .tc .vmem S8x16x512 .f32) (harg17 : arg17.IsWhole)
    (x0 : Vec F S512x1024 .f32) (x1 : Vec F S512x1024 .bf16) (x2 : Vec F S1x6x1024 .f32) (x3 : Vec F S1024x1024 .bf16) (x4 : Vec F S1x1024 .f32) (x5 : Vec F S2048x1024 .bf16) (x6 : Vec F S16x128x128 .bf16) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
      = k0_pay2278 x0 (gate x2) x1 x3 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  unfold kernelRun0_A
  dsimp only
  sl_unfold_words
  simp only [View.readAt_eq_ld, harg1.read_unread, harg2.read_unread, harg3.read_unread, harg4.read_unread, harg5.read_unread]
  rw [View.canon_unit_zero hz2]
  simp only [View.ld_unit_zero (S := S512x1024) hz2, View.ld_unit_zero (S := S1024x1024) hz2, View.ld_unit_zero (S := S1x1024) hz2]
  rfl

/-- What the body leaves in the second output's block. -/
theorem out8_eq (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S1x6x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2048x1024 .bf16) (harg6 : arg6.IsWhole) (arg7 : Memref sig .tc .vmem S16x128x128 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x128 .i32) (harg10 : arg10.IsWhole) (arg11 : Memref sig .tc .vmem S512x128 .i32) (harg11 : arg11.IsWhole) (arg12 : Memref sig .tc .vmem S512x128 .f32) (harg12 : arg12.IsWhole) (arg13 : Memref sig .tc .vmem S2048x512 .bf16) (harg13 : arg13.IsWhole) (arg14 : Memref sig .tc .vmem S16x16x512 .f32) (harg14 : arg14.IsWhole) (arg15 : Memref sig .tc .vmem S16x16x512 .f32) (harg15 : arg15.IsWhole) (arg16 : Memref sig .tc .vmem S8x16x512 .f32) (harg16 : arg16.IsWhole) (arg17 : Memref sig .tc .vmem S8x16x512 .f32) (harg17 : arg17.IsWhole)
    (x0 : Vec F S512x1024 .f32) (x1 : Vec F S512x1024 .bf16) (x2 : Vec F S1x6x1024 .f32) (x3 : Vec F S1024x1024 .bf16) (x4 : Vec F S1x1024 .f32) (x5 : Vec F S2048x1024 .bf16) (x6 : Vec F S16x128x128 .bf16) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6
      = k0_pay2281 (k0_pay2279 x0 (gate x2) x1 x3 x4 (scale x2)) (k0_pay2280 (shift x2)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6)]
  unfold kernelRun0_A
  dsimp only
  sl_unfold_words
  simp only [View.readAt_eq_ld, harg1.read_unread, harg2.read_unread, harg3.read_unread, harg4.read_unread, harg5.read_unread]
  rw [View.canon_unit_zero hz2]
  simp only [View.ld_unit_zero (S := S512x1024) hz2, View.ld_unit_zero (S := S1024x1024) hz2, View.ld_unit_zero (S := S1x1024) hz2]
  rfl

end

theorem gate_apply (x2 : Vec Ideal S1x6x1024 .f32) (j : Fin 1024) : gate x2 (ix3 0 0 j) = x2 (ix3 0 2 j) :=
  congrArg x2 (funext fun a => Fin.ext (by fin_cases a <;> first | rfl | (simp [Rect.emb, Rect.unit]) ))
theorem scale_apply (x2 : Vec Ideal S1x6x1024 .f32) (j : Fin 1024) : scale x2 (ix3 0 0 j) = x2 (ix3 0 4 j) :=
  congrArg x2 (funext fun a => Fin.ext (by fin_cases a <;> first | rfl | (simp [Rect.emb, Rect.unit]) ))
theorem shift_apply (x2 : Vec Ideal S1x6x1024 .f32) (j : Fin 1024) : shift x2 (ix3 0 0 j) = x2 (ix3 0 3 j) :=
  congrArg x2 (funext fun a => Fin.ext (by fin_cases a <;> first | rfl | (simp [Rect.emb, Rect.unit]) ))

/-- The block's row after the output projection. -/
abbrev xrow (x0 : Vec Ideal S512x1024 .f32) (x1 : Vec Ideal S512x1024 .bf16) (x2 : Vec Ideal S1x6x1024 .f32) (x3 : Vec Ideal S1024x1024 .bf16)
    (r : Fin 512) : Fin 1024 → EReal :=
  outproj (fun j => x0 (ix2 r j)) (fun j => x2 (ix3 0 2 j)) (fun k => x1 (ix2 r k)) (fun k j => x3 (ix2 k j))

variable (x0 : Vec Ideal S512x1024 .f32) (x1 : Vec Ideal S512x1024 .bf16) (x2 : Vec Ideal S1x6x1024 .f32) (x3 : Vec Ideal S1024x1024 .bf16)
  (x4 : Vec Ideal S1x1024 .f32)

theorem first_apply (r : Fin 512) (j : Fin 1024) : k0_pay2278 x0 (gate x2) x1 x3 (ix2 r j) = xrow x0 x1 x2 x3 r j := by
  pointwise [k0_pay2278]
  rw [gate_apply]
  rfl

theorem second_apply (r : Fin 512) (j : Fin 1024) :
    k0_pay2281 (k0_pay2279 x0 (gate x2) x1 x3 x4 (scale x2)) (k0_pay2280 (shift x2)) (ix2 r j)
      = modnorm (xrow x0 x1 x2 x3 r) (fun j => x4 (ix2 0 j)) (fun j => x2 (ix3 0 4 j)) (fun j => x2 (ix3 0 3 j)) j := by
  pointwise [k0_pay2281, k0_pay2279, k0_pay2280]
  simp only [first_apply, scale_apply, shift_apply]
  rfl

end Cert.RouteIdeal.Block

end
-- ==== Proof.RouteWindows.lean ====
/-
  The input blocks of the output projection and routing at a grid point, entry by entry in terms of the argument arrays.
-/
module

public import proofs.«01_k».proof.Proof.RouteSpec
public import proofs.«01_k».proof.Proof.Gen.RouteIdeal
public import proofs.«01_k».proof.Proof.Gen.RouteIdeal.Frame
public import proofs.«01_k».proof.Proof.Gen.RouteIdeal.Value
public import Idealize.ShloMosaic.Lib.Pipeline.ValueKit

@[expose] public section

set_option maxRecDepth 16384

noncomputable section

namespace Cert.RouteIdeal.Windows

open Cert.RouteIdeal Cert.RouteIdeal.Gen Idealize.ShloMosaic Idealize.ShloMosaic.TcCoe Cert.Projection

variable (m : (ℓ : Loc nD τ sig) → Buf (Elt Ideal) ℓ) (c : Dev nD)

/-- The arguments on core `c` that the first two results depend on: activations, attention, modulation, weights, gains. -/
abbrev X : Vec Ideal S16384x1024 .f32 := m ((c : Thread nD τ).loc main_arg0)
abbrev O : Vec Ideal S16384x1024 .bf16 := m ((c : Thread nD τ).loc main_arg1)
abbrev M : Vec Ideal S8x6x1024 .f32 := m ((c : Thread nD τ).loc main_arg2)
abbrev W : Vec Ideal S1024x1024 .f32 := m ((c : Thread nD τ).loc main_arg3)
abbrev G : Vec Ideal S1024 .f32 := m ((c : Thread nD τ).loc main_arg4)

/-- The point's tile of rows. -/
def tile (t : Fin cfg0.N) : Fin 32 := ⟨(grid0.coords t 0).val, (grid0.coords t 0).isLt⟩
/-- Row `r` of the point's tile. -/
def row (t : Fin cfg0.N) (r : Fin 512) : Fin 16384 := ⟨tile t * 512 + r, by omega⟩
/-- The row of the modulation for the tile. -/
def mrow (a : ℕ) : ℕ := if a < 16 then 0 else 1 + (a - 16) / 8

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![(grid0.coords t 0).val, 0] :=
  (by decide +kernel : ∀ t : Fin grid0.N, win0_1.index t = ![(grid0.coords t 0).val, 0])
theorem e2 : ∀ t : Fin cfg0.N, win0_2.index t = ![mrow (grid0.coords t 0).val, 0, 0] :=
  (by decide +kernel : ∀ t : Fin grid0.N, win0_2.index t = ![mrow (grid0.coords t 0).val, 0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e7 : ∀ t : Fin cfg0.N, win0_7.index t = ![(grid0.coords t 0).val, 0] :=
  (by decide +kernel : ∀ t : Fin grid0.N, win0_7.index t = ![(grid0.coords t 0).val, 0])
theorem e8 : ∀ t : Fin cfg0.N, win0_8.index t = ![(grid0.coords t 0).val, 0] :=
  (by decide +kernel : ∀ t : Fin grid0.N, win0_8.index t = ![(grid0.coords t 0).val, 0])

theorem mrow_lt (t : Fin cfg0.N) : mrow (tile t) < 8 := by
  have := (tile t).isLt
  unfold mrow
  split <;> omega

/-- The rows of one tile take the same row of the modulation. -/
theorem modrow_row (t : Fin cfg0.N) (r : Fin 512) : modrow (row t r) = ⟨mrow (tile t), mrow_lt t⟩ := by
  have ht := (tile t).isLt
  have hr := r.isLt
  refine Fin.ext ?_
  show (if (tile t).val * 512 + r.val < 8192 then 0 else 1 + ((tile t).val * 512 + r.val - 8192) / 4096) = mrow (tile t).val
  unfold mrow
  by_cases h : (tile t).val < 16
  · rw [if_pos h, if_pos (by omega)]
  · rw [if_neg h, if_neg (by omega)]
    omega

theorem rows (t : Fin cfg0.N) (r : Fin 512) (j : Fin 1024) :
    (iblk m c 0 t : Vec Ideal S512x1024 .f32) (ix2 r j) = X m c (ix2 (row t r) j) := by
  blk_simp [iblk]
  rw [V_main_arg0]
  unfold row tile
  blk_ext [e0]

theorem attention (t : Fin cfg0.N) (r : Fin 512) (j : Fin 1024) :
    (iblk m c 1 t : Vec Ideal S512x1024 .bf16) (ix2 r j) = O m c (ix2 (row t r) j) := by
  blk_simp [iblk]
  rw [V_main_arg1]
  unfold row tile
  blk_ext [e1]

theorem modulation (t : Fin cfg0.N) (r : Fin 512) (p : Fin 6) (j : Fin 1024) :
    (iblk m c 2 t : Vec Ideal S1x6x1024 .f32) (ix3 0 p j) = M m c (ix3 (modrow (row t r)) p j) := by
  rw [modrow_row]
  blk_simp [iblk]
  rw [V_main_arg2]
  unfold tile
  blk_ext [e2]

theorem V_v4 (j : Fin 1024) (k : Fin 1024) : V m c main_v4 (ix2 j k) = W m c (ix2 j k) := by
  have : V m c main_v4 = (truncf (F := Ideal) .bf16 (W m c) bitsLt_bf16_f32 : Vec Ideal S1024x1024 .bf16) := by
    unfold V hostOps0
    after_results_simp <;> rfl
  rw [this]
  pointwise []
theorem V_v5 (j : Fin 1024) : V m c main_v5 (ix2 0 j) = G m c (ix1 j) := by
  have : V m c main_v5 = (shapeCast S1x1024 (G m c) shapeCasts_S1024_S1x1024 : Vec Ideal S1x1024 .f32) := by
    unfold V hostOps0
    after_results_simp <;> rfl
  rw [this]
  pointwise []

theorem weights (t : Fin cfg0.N) (j : Fin 1024) (k : Fin 1024) : (iblk m c 3 t : Vec Ideal S1024x1024 .bf16) (ix2 j k) = W m c (ix2 j k) := by
  rw [← V_v4]
  blk_simp [iblk]
  blk_ext [e3]
theorem gains (t : Fin cfg0.N) (j : Fin 1024) : (iblk m c 4 t : Vec Ideal S1x1024 .f32) (ix2 0 j) = G m c (ix1 j) := by
  rw [← V_v5]
  blk_simp [iblk]
  blk_ext [e4]

end Cert.RouteIdeal.Windows

end
-- ==== Proof.RouteReference.lean ====
/-
  The results of the output projection's reference, entry by entry.
-/
module

public import proofs.«01_k».proof.Proof.RouteSpec
public import proofs.«01_k».proof.Proof.Gen.RouteReferenceIdeal
public import proofs.«01_k».proof.Proof.Gen.RouteReferenceIdeal.Read

@[expose] public section
set_option maxRecDepth 16384

noncomputable section

namespace Cert.RouteReferenceIdeal.Entry

open Cert.RouteReferenceIdeal.Read Cert.RouteReferenceIdeal Cert.RouteReferenceIdeal.Gen Idealize.ShloMosaic Cert.Projection

variable (X : Vec Ideal S16384x1024 .f32) (O : Vec Ideal S16384x1024 .bf16) (M : Vec Ideal S8x6x1024 .f32) (W : Vec Ideal S1024x1024 .f32)
  (G : Vec Ideal S1024 .f32)

/-- The token's row after the output projection, with the modulation's row `b`. -/
abbrev x (b : Fin 8) (t : Fin 16384) : Fin 1024 → EReal :=
  outproj (fun j => X (ix2 t j)) (fun j => M (ix3 b 2 j)) (fun k => O (ix2 t k)) (fun k j => W (ix2 k j))

/-- The row in front of the experts. -/
abbrev h (b : Fin 8) (t : Fin 16384) : Fin 1024 → EReal :=
  modnorm (x X O M W b t) (fun j => G (ix1 j)) (fun j => M (ix3 b 4 j)) (fun j => M (ix3 b 3 j))

theorem product (t : Fin 16384) (j : Fin 1024) : val_main_v1 O W (ix2 t j) = ∑ k : Fin 1024, O (ix2 t k) * W (ix2 k j) := by
  pointwise [val_main_v1, val_main_v0]

/-- The contexts' token `b`, `s` as a row. -/
def ctx (b : Fin 32) (s : Fin 256) : Fin 16384 := ⟨b * 256 + s, by omega⟩
/-- The latents' token `b`, `s` as a row. -/
def lat (b : Fin 2) (s : Fin 4096) : Fin 16384 := ⟨b * 4096 + s + 8192, by omega⟩

theorem x_ctx (b : Fin 32) (s : Fin 256) (j : Fin 1024) : val_main_v11 X O M W (ix3 b s j) = x X O M W 0 (ctx b s) j := by
  pointwise [val_main_v11, val_main_v10, val_main_v9, val_main_v8, val_main_v7, val_main_v6, val_main_v5, val_main_v4, val_main_v3, val_main_v2]
  rw [product]
  rfl

theorem x_lat (b : Fin 2) (s : Fin 4096) (j : Fin 1024) : val_main_v21 X O M W (ix3 b s j) = x X O M W ⟨1 + b, by omega⟩ (lat b s) j := by
  have e : (⟨8192 + (b * 4096 + s), by omega⟩ : Fin 16384) = lat b s := Fin.ext (by simp only [lat]; omega)
  have e' : (⟨b * 4096 + s + 8192, by omega⟩ : Fin 16384) = lat b s := rfl
  pointwise [val_main_v21, val_main_v20, val_main_v19, val_main_v18, val_main_v17, val_main_v16, val_main_v15, val_main_v14, val_main_v13, val_main_v12]
  rw [product]
  first
    | rfl
    | (simp only [e, e']; rfl)

theorem h_ctx (b : Fin 32) (s : Fin 256) (j : Fin 1024) : val_main_v46 X O M W G (ix3 b s j) = h X O M W G 0 (ctx b s) j := by
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_cst, val_main_cst_0, val_main_cst_1, val_main_cst_2, val_main_cst_3, val_main_cst_4, val_main_cst_5, val_main_cst_6]
  simp only [x_ctx]
  rfl

theorem h_lat (b : Fin 2) (s : Fin 4096) (j : Fin 1024) : val_main_v71 X O M W G (ix3 b s j) = h X O M W G ⟨1 + b, by omega⟩ (lat b s) j := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_cst, val_main_cst_0, val_main_cst_1, val_main_cst_2, val_main_cst_3, val_main_cst_4, val_main_cst_5, val_main_cst_6]
  simp only [x_lat]
  rfl

theorem modrow_ctx (b : Fin 32) (s : Fin 256) : modrow (ctx b s) = 0 :=
  Fin.ext (by have : (ctx b s).val < 8192 := (by simp only [ctx]; omega); simp only [modrow, if_pos this]; rfl)
theorem modrow_lat (b : Fin 2) (s : Fin 4096) : modrow (lat b s) = ⟨1 + b, by omega⟩ :=
  Fin.ext (by have : ¬ (lat b s).val < 8192 := (by simp only [lat]; omega); show (if (lat b s).val < 8192 then 0 else 1 + ((lat b s).val - 8192) / 4096) = 1 + b.val; rw [if_neg this]; simp only [lat]; omega)

/-- The first result. -/
theorem result_x (t : Fin 16384) (j : Fin 1024) : val_main_v74 X O M W (ix2 t j) = x X O M W (modrow t) t j := by
  have ht := t.isLt
  by_cases hl : t.val < 8192
  · obtain ⟨b, s, rfl⟩ : ∃ (b : Fin 32) (s : Fin 256), t = ctx b s :=
      ⟨⟨t / 256, by omega⟩, ⟨t % 256, by omega⟩, Fin.ext (by simp only [ctx]; omega)⟩
    rw [modrow_ctx, ← x_ctx]
    pointwise [val_main_v74, val_main_v72]
    rw [dif_pos hl]
    exact congrArg₂ (fun u v => val_main_v11 X O M W (ix3 u v j)) (Fin.ext (by simp only [ctx]; omega)) (Fin.ext (by simp only [ctx]; omega))
  · obtain ⟨b, s, rfl⟩ : ∃ (b : Fin 2) (s : Fin 4096), t = lat b s :=
      ⟨⟨(t - 8192) / 4096, by omega⟩, ⟨(t - 8192) % 4096, by omega⟩, Fin.ext (by simp only [lat]; omega)⟩
    rw [modrow_lat, ← x_lat]
    pointwise [val_main_v74, val_main_v73]
    rw [dif_neg hl]
    exact congrArg₂ (fun u v => val_main_v21 X O M W (ix3 u v j)) (Fin.ext (by simp only [lat]; omega)) (Fin.ext (by simp only [lat]; omega))

/-- The second result. -/
theorem result_h (t : Fin 16384) (j : Fin 1024) : val_main_v78 X O M W G (ix2 t j) = h X O M W G (modrow t) t j := by
  have ht := t.isLt
  rw [val_main_v78_apply, show ∀ z : EReal, FloatOps.truncf (F := Ideal) (φ := .f32) .bf16 bitsLt_bf16_f32 z = z from fun _ => rfl]
  by_cases hl : t.val < 8192
  · obtain ⟨b, s, rfl⟩ : ∃ (b : Fin 32) (s : Fin 256), t = ctx b s :=
      ⟨⟨t / 256, by omega⟩, ⟨t % 256, by omega⟩, Fin.ext (by simp only [ctx]; omega)⟩
    rw [modrow_ctx, ← h_ctx]
    pointwise [val_main_v77, val_main_v75]
    rw [dif_pos hl]
    exact congrArg₂ (fun u v => val_main_v46 X O M W G (ix3 u v j)) (Fin.ext (by simp only [ctx]; omega)) (Fin.ext (by simp only [ctx]; omega))
  · obtain ⟨b, s, rfl⟩ : ∃ (b : Fin 2) (s : Fin 4096), t = lat b s :=
      ⟨⟨(t - 8192) / 4096, by omega⟩, ⟨(t - 8192) % 4096, by omega⟩, Fin.ext (by simp only [lat]; omega)⟩
    rw [modrow_lat, ← h_lat]
    pointwise [val_main_v77, val_main_v76]
    rw [dif_neg hl]
    exact congrArg₂ (fun u v => val_main_v71 X O M W G (ix3 u v j)) (Fin.ext (by simp only [lat]; omega)) (Fin.ext (by simp only [lat]; omega))

end Cert.RouteReferenceIdeal.Entry

end
-- ==== Proof.RouteValue.lean ====
/-
  The first two results after the run of the output projection and routing, as the reference's terms of the argument arrays.
-/
module

public import proofs.«01_k».proof.Proof.RouteBlock
public import proofs.«01_k».proof.Proof.RouteWindows
public import proofs.«01_k».proof.Proof.RouteReference

@[expose] public section

set_option maxRecDepth 16384

noncomputable section

namespace Cert.RouteIdeal.Final

open Cert.RouteIdeal Cert.RouteIdeal.Gen Cert.RouteIdeal.Windows Idealize.ShloMosaic Idealize.ShloMosaic.TcCoe Cert.Projection
open Cert.RouteReferenceIdeal.Read (val_main_v74 val_main_v78)

variable (m : (ℓ : Loc nD τ sig) → Buf (Elt Ideal) ℓ) (c : Dev nD)

/-- The block's rows after the output projection are the reference's. -/
theorem xrow_eq (t : Fin cfg0.N) (r : Fin 512) :
    Block.xrow (iblk m c 0 t) (iblk m c 1 t) (iblk m c 2 t) (iblk m c 3 t) r
      = Cert.RouteReferenceIdeal.Entry.x (X m c) (O m c) (M m c) (W m c) (modrow (row t r)) (row t r) := by
  unfold Block.xrow Cert.RouteReferenceIdeal.Entry.x
  rw [funext (rows m c t r), funext (attention m c t r), funext (modulation m c t r 2), funext fun k => funext (weights m c t k)]

/-- The first two blocks a point computes, entry by entry. -/
theorem block7 (t : Fin cfg0.N) (r : Fin 512) (j : Fin 1024) :
    (outsAt0 m c t).1 (ix2 r j) = Cert.RouteReferenceIdeal.Entry.x (X m c) (O m c) (M m c) (W m c) (modrow (row t r)) (row t r) j := by
  unfold outsAt0
  dsimp only
  rw [Block.out7_eq]
  refine (Block.first_apply (iblk m c 0 t) (iblk m c 1 t) (iblk m c 2 t) (iblk m c 3 t) r j).trans ?_
  rw [xrow_eq]
theorem block8 (t : Fin cfg0.N) (r : Fin 512) (j : Fin 1024) :
    (outsAt0 m c t).2.1 (ix2 r j) = Cert.RouteReferenceIdeal.Entry.h (X m c) (O m c) (M m c) (W m c) (G m c) (modrow (row t r)) (row t r) j := by
  unfold outsAt0
  dsimp only
  rw [Block.out8_eq]
  refine (Block.second_apply (iblk m c 0 t) (iblk m c 1 t) (iblk m c 2 t) (iblk m c 3 t) (iblk m c 4 t) r j).trans ?_
  rw [xrow_eq, funext (gains m c t), funext (modulation m c t r 4), funext (modulation m c t r 3)]

theorem out7 : (dats m 0 c).arrAt 7 cfg0.N = val_main_v74 (F := Ideal) (X m c) (O m c) (M m c) (W m c) := by
  refine (dats m 0 c).arrAt_eq_of_covers 7 _ (by decide +kernel) fun t hf y => ?_
  blk_simp
  rw [after0_7]
  revert y
  show ∀ y : S512x1024.Idx, _
  intro y
  obtain ⟨r, j, rfl⟩ : ∃ (r : Fin 512) (j : Fin 1024), y = ix2 r j := ⟨y 0, y 1, by funext a; fin_cases a <;> rfl⟩
  have hemb : ((cfg0.win 7).blk t).view.emb (ix2 r j) = ix2 (row t r) j := by
    unfold row tile
    blk_ext [e7]
  refine (block7 m c t r j).trans ((Cert.RouteReferenceIdeal.Entry.result_x (X m c) (O m c) (M m c) (W m c) (row t r) j).symm.trans ?_)
  exact congrArg (val_main_v74 (F := Ideal) (X m c) (O m c) (M m c) (W m c)) hemb.symm

theorem out8 : (dats m 0 c).arrAt 8 cfg0.N = val_main_v78 (F := Ideal) (X m c) (O m c) (M m c) (W m c) (G m c) := by
  refine (dats m 0 c).arrAt_eq_of_covers 8 _ (by decide +kernel) fun t hf y => ?_
  blk_simp
  rw [after0_8]
  revert y
  show ∀ y : S512x1024.Idx, _
  intro y
  obtain ⟨r, j, rfl⟩ : ∃ (r : Fin 512) (j : Fin 1024), y = ix2 r j := ⟨y 0, y 1, by funext a; fin_cases a <;> rfl⟩
  have hemb : ((cfg0.win 8).blk t).view.emb (ix2 r j) = ix2 (row t r) j := by
    unfold row tile
    blk_ext [e8]
  refine (block8 m c t r j).trans ((Cert.RouteReferenceIdeal.Entry.result_h (X m c) (O m c) (M m c) (W m c) (G m c) (row t r) j).symm.trans ?_)
  exact congrArg (val_main_v78 (F := Ideal) (X m c) (O m c) (M m c) (W m c) (G m c)) hemb.symm

end Cert.RouteIdeal.Final

end
-- ==== Proof.ContextSpec.lean ====
/-
  The contexts' differential attention as a function of its argument arrays, entry by entry over the extended reals: one
  softmax over the 256 keys of the row's own context for each half of a head, and the normalised difference of the two.
-/
module

public import proofs.«01_k».proof.Proof.Spec

@[expose] public section

noncomputable section

namespace Cert.Context

open Idealize.ShloMosaic Cert.Softmax Cert.Latent

/-- The projections' rows: context `b`, position `i`. -/
def crow (b : Fin 32) (i : Fin 256) : Fin 8192 := ⟨b * 256 + i, by omega⟩

/-- Half `p`'s score of position `i`'s query against key `j`. -/
def cscore (X : Proj) (p : Fin 2) (b : Fin 32) (h : Fin 8) (i j : Fin 256) : EReal :=
  ∑ x : Fin 64, X (ix2 (crow b i) (col 0 h (lane p x))) * X (ix2 (crow b j) (col 1 h (lane p x)))

/-- Value `j` at lane `c`. -/
def cvalue (X : Proj) (b : Fin 32) (h : Fin 8) (c : Fin 128) (j : ℕ) : EReal :=
  if hj : j < 256 then X (ix2 (crow b ⟨j, hj⟩) (col 2 h c)) else 0

/-- The entry at lane `c` of position `i`'s head `h`, the exponents taken from `B 0` and `B 1`. -/
def centry (X : Proj) (L : Vec Ideal ⟨3, ![1, 4, 64]⟩ .f32) (G : Vec Ideal ⟨2, ![1, 128]⟩ .f32)
    (σ : Fin 2 → ℕ → ℝ) (B : Fin 2 → ℝ) (b : Fin 32) (h : Fin 8) (c : Fin 128) : EReal :=
  normed (fun x => attend 256 (σ 0) (B 0) (cvalue X b h x)
      - lam (fun x => L (ix3 0 0 x)) (fun x => L (ix3 0 1 x)) (fun x => L (ix3 0 2 x)) (fun x => L (ix3 0 3 x))
        * attend 256 (σ 1) (B 1) (cvalue X b h x))
    (fun x => G (ix2 0 x)) c

/-- The queries and keys among the projections are real numbers. -/
def CFinite (X : Proj) : Prop := ∀ (r : Fin 8192) (c : Fin 3072), c.val < 2048 → ∃ a : ℝ, X (ix2 r c) = (a : EReal)

theorem cscore_real {X : Proj} (H : CFinite X) (p : Fin 2) (b : Fin 32) (h : Fin 8) (i : Fin 256) :
    ∃ σ : ℕ → ℝ, ∀ j : Fin 256, cscore X p b h i j = (σ j : EReal) := by
  have key : ∀ j, ∃ a : ℝ, cscore X p b h i j = (a : EReal) := fun j =>
    dot_real (fun x => H _ _ (by simp only [col, lane]; omega)) (fun x => H _ _ (by simp only [col, lane]; omega))
  choose σ hσ using key
  exact ⟨fun n => if hn : n < 256 then σ ⟨n, hn⟩ else 0, fun j => by rw [hσ]; simp only [dif_pos j.isLt]⟩

/-- A weighted sum over `n` real scores, divided at the end, is `attend`. -/
theorem quotient_eq {n : ℕ} (hn : 0 < n) {σ : ℕ → ℝ} {V : ℕ → EReal} (s v : Fin n → EReal) (hs : ∀ j : Fin n, s j = (σ j : EReal))
    (hv : ∀ j : Fin n, v j = V j) (B : ℝ) :
    Ideal.div (∑ j, Ideal.exp (s j - Finset.univ.fold max ⊥ s) * v j) (∑ j, Ideal.exp (s j - Finset.univ.fold max ⊥ s))
      = attend n σ B V := by
  obtain ⟨M, hM⟩ := fold_max_coe hn s (fun j => σ j) hs
  rw [hM]
  have hexp : ∀ j : Fin n, Ideal.exp (s j - (M : EReal)) = ((Real.exp (σ j - M) : ℝ) : EReal) := by
    intro j; rw [hs j, ← EReal.coe_sub, Ideal.exp_coe]
  have hrun : Run n σ V (M : EReal) (∑ j, Ideal.exp (s j - (M : EReal))) (∑ j, Ideal.exp (s j - (M : EReal)) * v j) := by
    refine .inr ⟨M, rfl, hn, ?_, ?_⟩
    · rw [coe_sum, Finset.sum_range]; exact Finset.sum_congr rfl fun j _ => hexp j
    · rw [Finset.sum_range]; exact Finset.sum_congr rfl fun j _ => by rw [hexp, hv]
  exact hrun.quotient hn B

/-- The same weighted sum, every weight divided first. -/
theorem weights_eq {n : ℕ} {σ : ℕ → ℝ} {V : ℕ → EReal} (s v : Fin n → EReal) (hs : ∀ j : Fin n, s j = (σ j : EReal))
    (hv : ∀ j : Fin n, v j = V j) (B : ℝ) :
    ∑ j, v j * Ideal.div (Ideal.exp (s j - (B : EReal))) (∑ k, Ideal.exp (s k - (B : EReal))) = attend n σ B V := by
  have he : ∀ k : Fin n, Ideal.exp (s k - (B : EReal)) = ((Real.exp (σ k - B) : ℝ) : EReal) := by
    intro k; rw [hs k, ← EReal.coe_sub, Ideal.exp_coe]
  have hd : (∑ k, Ideal.exp (s k - (B : EReal))) = ((∑ k ∈ Finset.range n, Real.exp (σ k - B) : ℝ) : EReal) := by
    rw [Finset.sum_range, coe_sum]; exact Finset.sum_congr rfl fun k _ => he k
  unfold attend
  rw [hd]
  generalize ((∑ k ∈ Finset.range n, Real.exp (σ k - B) : ℝ) : EReal) = D
  rw [Finset.sum_range]
  exact Finset.sum_congr rfl fun x _ => by rw [he, hv, mul_comm]

end Cert.Context

end
-- ==== Proof.ContextFinite.lean ====
/- What the contexts' precondition says: the queries and keys among the projections are real numbers. -/
module

public import proofs.«01_k».proof.Defs
public import proofs.«01_k».proof.Proof.ContextSpec
public import proofs.«01_k».proof.Proof.Finite

@[expose] public section

set_option maxRecDepth 16384

noncomputable section

namespace Cert.Context

open Idealize.ShloMosaic Cert.Latent

variable [Cert.Pre_finite_context_queries_and_keys.Facts]

/-- The predicate, read at every element. -/
theorem finite_of_pre (X : Proj) (L : Vec Ideal Cert.Pre_finite_context_queries_and_keys.S1x4x64 .f32) (G : Vec Ideal Cert.Pre_finite_context_queries_and_keys.S1x128 .f32)
    (h : Cert.Pre_finite_context_queries_and_keys.fn (F := Ideal) X L G = fun _ => 1#1) : CFinite X := by
  have t16 : Ideal.ofBits .bf16 (0x7F80#16) = (⊤ : EReal) := by simp [Ideal.ofBits, Ideal.ieee]
  intro r c hc
  have e := congrFun h (ix2 r ⟨c.val, hc⟩)
  unfold Cert.Pre_finite_context_queries_and_keys.fn at e
  have q : extractStridedSlice Cert.Pre_finite_context_queries_and_keys.S8192x2048 ![0, 0] X
      Cert.Pre_finite_context_queries_and_keys.Facts.slices_S8192x3072_S8192x2048_0_0 (ix2 r ⟨c.val, hc⟩) = X (ix2 r c) :=
    congrArg X (by funext a; fin_cases a <;> exact Fin.ext (by simp))
  change BitVec.ofBool (decide (max (extractStridedSlice Cert.Pre_finite_context_queries_and_keys.S8192x2048 ![0, 0] X
      Cert.Pre_finite_context_queries_and_keys.Facts.slices_S8192x3072_S8192x2048_0_0 (ix2 r ⟨c.val, hc⟩))
    (-(extractStridedSlice Cert.Pre_finite_context_queries_and_keys.S8192x2048 ![0, 0] X
      Cert.Pre_finite_context_queries_and_keys.Facts.slices_S8192x3072_S8192x2048_0_0 (ix2 r ⟨c.val, hc⟩))) < Ideal.ofBits .bf16 (0x7F80#16))) = 1#1 at e
  rw [t16, q] at e
  exact real_of_abs_lt _ e

end Cert.Context

end
-- ==== Proof.ContextBlock.lean ====
/-
  One context's block of the differential attention the kernel computes, entry by entry in terms of the blocks it reads.
  The eight heads are the same function of their own columns.
-/
module

public import proofs.«01_k».proof.Proof.ContextSpec
public import proofs.«01_k».proof.Proof.Gen.ContextAttentionIdeal
public import proofs.«01_k».proof.Proof.Gen.ContextAttentionIdeal.Frame
public import proofs.«01_k».proof.Proof.Gen.ContextAttentionIdeal.Value
public import Idealize.ShloMosaic.Lib.Pipeline.ValueKit

@[expose] public section

set_option maxRecDepth 16384

noncomputable section

namespace Cert.ContextAttentionIdeal.Block

open Cert.ContextAttentionIdeal Cert.ContextAttentionIdeal.Gen Idealize.ShloMosaic Cert.Latent Cert.Context

theorem ofBits_neg_inf : Ideal.ofBits .f32 4286578688#32 = ⊥ := by
  simp [Ideal.ofBits, Ideal.ieee]

/-- The softmax-weighted sum of one half, from its scores and values. -/
def soft (s v : Fin 256 → EReal) : EReal :=
  Ideal.div (∑ j, Ideal.exp (s j - Finset.univ.fold max ⊥ s) * v j) (∑ j, Ideal.exp (s j - Finset.univ.fold max ⊥ s))

section Heads

variable (lm : FVec Ideal S1x1 .f32) (q k v : Vec Ideal S256x128 .bf16) (w w1 w2 : Vec Ideal S1x128 .bf16) (g : Vec Ideal S1x128 .f32)

theorem score_apply (r j : Fin 256) : k0_pay4 q k w (ix2 r j) = ∑ x : Fin 128, q (ix2 r x) * w (ix2 0 x) * k (ix2 j x) := by
  pointwise [k0_pay4]

/-- One half from its score matrix. -/
def half (s : FVec Ideal S256x256 .f32) (v : FVec Ideal S256x128 .bf16) : FVec Ideal S256x128 .f32 :=
  have e := exp (subf s (broadcastTo S256x256 (shapeCast S256x1 (multiReduction .maximumf [1] S256 s 0xFF800000#32 reduces_S256x256_S256 (.inl rfl) rfl) shapeCasts_S256_S256x1) broadcasts_S256x1_S256x256))
  divf (matmul dot_S256x256_S256x128_S256x128_1_0_0_1_n_n none (truncf .bf16 e bitsLt_bf16_f32) v (constant S256x128 .f32 0x00000000#32))
    (broadcastTo S256x128 (shapeCast S256x1 (multiReduction .add [1] S256 e 0x00000000#32 reduces_S256x256_S256 (.inl rfl) rfl) shapeCasts_S256_S256x1) broadcasts_S256x1_S256x128)

theorem half_eq : k0_pay3 q k v w = half (k0_pay4 q k w) v := rfl

theorem half_apply (s : FVec Ideal S256x256 .f32) (v : FVec Ideal S256x128 .bf16) (r : Fin 256) (c : Fin 128) :
    half s v (ix2 r c) = soft (fun j => s (ix2 r j)) (fun j => v (ix2 j c)) := by
  pointwise [half, soft]
  rw [ofBits_neg_inf]

theorem soft_apply (r : Fin 256) (c : Fin 128) :
    k0_pay3 q k v w (ix2 r c) = soft (fun j => ∑ x : Fin 128, q (ix2 r x) * w (ix2 0 x) * k (ix2 j x)) (fun j => v (ix2 j c)) := by
  rw [half_eq, half_apply]
  simp only [score_apply]

theorem difference_eq : k0_pay9 lm q k v w1 w2
    = subf (k0_pay3 q k v w1) (mulf (broadcastTo S256x128 lm broadcasts_S1x1_S256x128) (k0_pay3 q k v w2)) := rfl

theorem difference_apply (r : Fin 256) (c : Fin 128) : k0_pay9 lm q k v w1 w2 (ix2 r c)
    = k0_pay3 q k v w1 (ix2 r c) - lm (ix2 0 0) * k0_pay3 q k v w2 (ix2 r c) := by
  rw [difference_eq]
  generalize k0_pay3 q k v w1 = a
  generalize k0_pay3 q k v w2 = b
  pointwise []

theorem norm_apply (o : FVec Ideal S256x128 .f32) (r : Fin 256) (c : Fin 128) :
    k0_pay10 o g (ix2 r c) = normed (fun x => o (ix2 r x)) (fun x => g (ix2 0 x)) c := by
  pointwise [k0_pay10, normed]

/-- One head, as the third is spelt. -/
abbrev head : FVec Ideal S256x128 .bf16 := k0_pay10 (k0_pay9 lm q k v w1 w2) g

theorem head0 : k0_pay5 lm v (k0_pay3 q k v w1) (k0_pay4 q k w2) g = head lm q k v w1 w2 g := rfl
theorem head1 : k0_pay8 (k0_pay7 lm q k v (k0_pay6 q k w1) w2 g) = head lm q k v w1 w2 g := rfl
theorem head3 : k0_pay13 lm q k v (k0_pay11 q k v w1) (k0_pay12 w2) g = head lm q k v w1 w2 g := rfl
theorem head4 : k0_pay16 (k0_pay15 lm q k v (k0_pay14 w1) w2 g) = head lm q k v w1 w2 g := rfl
theorem head5 : k0_pay20 (k0_pay17 q k v w1) (k0_pay18 q k v w2) (k0_pay19 lm) g = head lm q k v w1 w2 g := rfl
theorem head6 : k0_pay22 lm q k v (k0_pay21 q k v w1) w2 g = head lm q k v w1 w2 g := rfl
theorem head7 : k0_pay1 (k0_pay23 lm q k v w1 w2) (k0_pay24 g) (k0_pay25 lm q k v w1 w2) = head lm q k v w1 w2 g := rfl

theorem lam_apply (x2 : Vec Ideal S4x64 .f32) :
    k0_pay2 x2 (ix2 0 0) = lam (fun x => x2 (ix2 0 x)) (fun x => x2 (ix2 1 x)) (fun x => x2 (ix2 2 x)) (fun x => x2 (ix2 3 x)) := by
  pointwise [k0_pay2, lam]

end Heads

variable (x0 : Vec Ideal S256x3072 .bf16) (x1 : Vec Ideal S2x128 .bf16) (x2 : Vec Ideal S4x64 .f32) (x3 : Vec Ideal S1x128 .f32)

/-- Half `p` of head `h` at row `r`, lane `c`, from the block. -/
def khalf (p : Fin 2) (h : Fin 8) (r : Fin 256) (c : Fin 128) : EReal :=
  soft (fun j => ∑ x : Fin 128, x0 (ix2 r (col 0 h x)) * x1 (ix2 p x) * x0 (ix2 j (col 1 h x))) (fun j => x0 (ix2 j (col 2 h c)))

/-- Head `h` at row `r`, lane `c`, from the block. -/
def kentry (h : Fin 8) (r : Fin 256) (c : Fin 128) : EReal :=
  normed (fun x => khalf x0 x1 0 h r x
      - lam (fun x => x2 (ix2 0 x)) (fun x => x2 (ix2 1 x)) (fun x => x2 (ix2 2 x)) (fun x => x2 (ix2 3 x)) * khalf x0 x1 1 h r x)
    (fun x => x3 (ix2 0 x)) c

theorem head_apply (q k v : Vec Ideal S256x128 .bf16) (h : Fin 8) (hq : ∀ r x, q (ix2 r x) = x0 (ix2 r (col 0 h x)))
    (hk : ∀ r x, k (ix2 r x) = x0 (ix2 r (col 1 h x))) (hv : ∀ r x, v (ix2 r x) = x0 (ix2 r (col 2 h x))) (r : Fin 256) (c : Fin 128) :
    head (k0_pay26 x0 x1 x2 x3) q k v (View.ld x1 r0_4) (View.ld x1 r0_5) (View.ld x3 r0_6) (ix2 r c) = kentry x0 x1 x2 x3 h r c := by
  have h3 : View.ld x3 r0_6 = x3 := View.ld_unit_lit _ x3 (by decide)
  have h2 : View.ld x2 r0_0 = x2 := View.ld_unit_lit _ x2 (by decide)
  have m0 : ∀ x : Fin 128, View.ld x1 r0_4 (ix2 0 x) = x1 (ix2 0 x) := fun x => View.ld_unit_apply_of _ _ _ _ _ _ fun a => by fin_cases a <;> simp [ix2]
  have m1 : ∀ x : Fin 128, View.ld x1 r0_5 (ix2 0 x) = x1 (ix2 1 x) := fun x => View.ld_unit_apply_of _ _ _ _ _ _ fun a => by fin_cases a <;> simp [ix2]
  refine (norm_apply _ _ r c).trans ?_
  rw [h3]
  unfold kentry khalf
  refine congrArg (fun o => normed o (fun x => x3 (ix2 0 x)) c) (funext fun x => ?_)
  rw [difference_apply, soft_apply, soft_apply]
  unfold k0_pay26
  rw [lam_apply, h2]
  simp only [hq, hk, hv, m0, m1]

/-- A column of the block as its head and its lane. -/
def ocol (h : Fin 8) (x : Fin 128) : Fin 1024 := ⟨h * 128 + x, by omega⟩
def hd (c : Fin 1024) : Fin 8 := ⟨c / 128, by omega⟩
def ln (c : Fin 1024) : Fin 128 := ⟨c % 128, by omega⟩
theorem hd_ocol (h : Fin 8) (x : Fin 128) : hd (ocol h x) = h := Fin.ext (by simp only [hd, ocol]; omega)
theorem ln_ocol (h : Fin 8) (x : Fin 128) : ln (ocol h x) = x := Fin.ext (by simp only [ln, ocol]; omega)

/-- The block of the eight heads side by side. -/
def E : Vec Ideal S256x1024 .bf16 := fun i => kentry x0 x1 x2 x3 (hd (i 1)) (i 0) (ln (i 1))

theorem E_ocol (r : Fin 256) (h : Fin 8) (x : Fin 128) : E x0 x1 x2 x3 (ix2 r (ocol h x)) = kentry x0 x1 x2 x3 h r x := by
  show kentry x0 x1 x2 x3 (hd (ocol h x)) r (ln (ocol h x)) = _
  rw [hd_ocol, ln_ocol]

/-- A piece of the block is head `h`. -/
theorem in_head (h : Fin 8) (off : ℕ) (inb : ∀ a, (![0, off] : Fin 2 → ℕ) a + S256x128.size a ≤ S256x1024.size a)
    (p : Vec Ideal S256x128 .bf16) (ho : off = h.val * 128) (hp : ∀ (r : Fin 256) (x : Fin 128), p (ix2 r x) = kentry x0 x1 x2 x3 h r x) :
    ∀ i : S256x128.Idx, p i = E x0 x1 x2 x3 ((Rect.unit (s := S256x1024) ![0, off] S256x128.size inb).emb i) := by
  intro i
  obtain ⟨r, x, rfl⟩ : ∃ (r : Fin 256) (x : Fin 128), i = ix2 r x := ⟨i 0, i 1, by funext a; fin_cases a <;> rfl⟩
  rw [hp, ← E_ocol]
  refine congrArg (E x0 x1 x2 x3) (funext fun a => Fin.ext ?_)
  subst ho
  fin_cases a
  · show r.val = 0 + 1 * r.val; omega
  · show h.val * 128 + x.val = h.val * 128 + 1 * x.val; omega

/-- The columns a head's load reads. -/
theorem ld_cols (s : Fin 3) (h : Fin 8) (off : ℕ) (inb : ∀ a, (![0, off] : Fin 2 → ℕ) a + S256x128.size a ≤ S256x3072.size a)
    (ho : off = s.val * 1024 + h.val * 128) (r : Fin 256) (x : Fin 128) :
    View.ld x0 (Rect.unit (s := S256x3072) ![0, off] S256x128.size inb) (ix2 r x) = x0 (ix2 r (col s h x)) := by
  subst ho
  refine View.ld_unit_apply_of _ _ _ _ _ _ fun a => ?_
  fin_cases a
  · simp [ix2]
  · simp [ix2, col, Nat.add_assoc]

theorem canon4 (i : S256x1024.Idx) : out0_4 x0 x1 x2 x3 i = E x0 x1 x2 x3 i := by
  unfold out0_4
  refine View.canon_apply_of_pieces (E x0 x1 x2 x3) _ ?_ i (cover0_4 _ _ _ _ _ _ _ _ i)
  intro pc hpc
  rcases List.mem_cons.mp hpc with rfl | hpc
  · refine in_head x0 x1 x2 x3 7 896 inb_S256x1024_S256x128_0_896 _ (by decide) fun r x => ?_
    exact (congrFun (head7 _ _ _ _ _ _ _) _).trans (head_apply x0 x1 x2 x3 _ _ _ 7 (ld_cols x0 0 7 896 inb_S256x3072_S256x128_0_896 (by decide)) (ld_cols x0 1 7 1920 inb_S256x3072_S256x128_0_1920 (by decide)) (ld_cols x0 2 7 2944 inb_S256x3072_S256x128_0_2944 (by decide)) r x)
  rcases List.mem_cons.mp hpc with rfl | hpc
  · refine in_head x0 x1 x2 x3 6 768 inb_S256x1024_S256x128_0_768 _ (by decide) fun r x => ?_
    exact (congrFun (head6 _ _ _ _ _ _ _) _).trans (head_apply x0 x1 x2 x3 _ _ _ 6 (ld_cols x0 0 6 768 inb_S256x3072_S256x128_0_768 (by decide)) (ld_cols x0 1 6 1792 inb_S256x3072_S256x128_0_1792 (by decide)) (ld_cols x0 2 6 2816 inb_S256x3072_S256x128_0_2816 (by decide)) r x)
  rcases List.mem_cons.mp hpc with rfl | hpc
  · refine in_head x0 x1 x2 x3 5 640 inb_S256x1024_S256x128_0_640 _ (by decide) fun r x => ?_
    exact (congrFun (head5 _ _ _ _ _ _ _) _).trans (head_apply x0 x1 x2 x3 _ _ _ 5 (ld_cols x0 0 5 640 inb_S256x3072_S256x128_0_640 (by decide)) (ld_cols x0 1 5 1664 inb_S256x3072_S256x128_0_1664 (by decide)) (ld_cols x0 2 5 2688 inb_S256x3072_S256x128_0_2688 (by decide)) r x)
  rcases List.mem_cons.mp hpc with rfl | hpc
  · refine in_head x0 x1 x2 x3 4 512 inb_S256x1024_S256x128_0_512 _ (by decide) fun r x => ?_
    exact (congrFun (head4 _ _ _ _ _ _ _) _).trans (head_apply x0 x1 x2 x3 _ _ _ 4 (ld_cols x0 0 4 512 inb_S256x3072_S256x128_0_512 (by decide)) (ld_cols x0 1 4 1536 inb_S256x3072_S256x128_0_1536 (by decide)) (ld_cols x0 2 4 2560 inb_S256x3072_S256x128_0_2560 (by decide)) r x)
  rcases List.mem_cons.mp hpc with rfl | hpc
  · refine in_head x0 x1 x2 x3 3 384 inb_S256x1024_S256x128_0_384 _ (by decide) fun r x => ?_
    exact (congrFun (head3 _ _ _ _ _ _ _) _).trans (head_apply x0 x1 x2 x3 _ _ _ 3 (ld_cols x0 0 3 384 inb_S256x3072_S256x128_0_384 (by decide)) (ld_cols x0 1 3 1408 inb_S256x3072_S256x128_0_1408 (by decide)) (ld_cols x0 2 3 2432 inb_S256x3072_S256x128_0_2432 (by decide)) r x)
  rcases List.mem_cons.mp hpc with rfl | hpc
  · refine in_head x0 x1 x2 x3 2 256 inb_S256x1024_S256x128_0_256 _ (by decide) fun r x => ?_
    exact head_apply x0 x1 x2 x3 _ _ _ 2 (ld_cols x0 0 2 256 inb_S256x3072_S256x128_0_256 (by decide)) (ld_cols x0 1 2 1280 inb_S256x3072_S256x128_0_1280 (by decide)) (ld_cols x0 2 2 2304 inb_S256x3072_S256x128_0_2304 (by decide)) r x
  rcases List.mem_cons.mp hpc with rfl | hpc
  · refine in_head x0 x1 x2 x3 1 128 inb_S256x1024_S256x128_0_128 _ (by decide) fun r x => ?_
    exact (congrFun (head1 _ _ _ _ _ _ _) _).trans (head_apply x0 x1 x2 x3 _ _ _ 1 (ld_cols x0 0 1 128 inb_S256x3072_S256x128_0_128 (by decide)) (ld_cols x0 1 1 1152 inb_S256x3072_S256x128_0_1152 (by decide)) (ld_cols x0 2 1 2176 inb_S256x3072_S256x128_0_2176 (by decide)) r x)
  rcases List.mem_cons.mp hpc with rfl | hpc
  · refine in_head x0 x1 x2 x3 0 0 inb_S256x1024_S256x128_0_0 _ (by decide) fun r x => ?_
    exact (congrFun (head0 _ _ _ _ _ _ _) _).trans (head_apply x0 x1 x2 x3 _ _ _ 0 (ld_cols x0 0 0 0 inb_S256x3072_S256x128_0_0 (by decide)) (ld_cols x0 1 0 1024 inb_S256x3072_S256x128_0_1024 (by decide)) (ld_cols x0 2 0 2048 inb_S256x3072_S256x128_0_2048 (by decide)) r x)
  exact absurd hpc List.not_mem_nil

end Cert.ContextAttentionIdeal.Block

end
-- ==== Proof.ContextReference.lean ====
/-
  The reference's result for the contexts' attention, entry by entry: `Context.centry` of the argument arrays.
-/
module

public import proofs.«01_k».proof.Proof.ContextSpec
public import proofs.«01_k».proof.Proof.Gen.ContextAttentionReferenceIdeal
public import proofs.«01_k».proof.Proof.Gen.ContextAttentionReferenceIdeal.Read

@[expose] public section

set_option maxRecDepth 16384

noncomputable section

namespace Cert.ContextAttentionReferenceIdeal.Entry

open Cert.ContextAttentionReferenceIdeal.Read Cert.ContextAttentionReferenceIdeal Cert.ContextAttentionReferenceIdeal.Gen Idealize.ShloMosaic
open Cert.Softmax Cert.Latent Cert.Context

variable (X : Proj) (L : Vec Ideal S1x4x64 .f32) (G : Vec Ideal S1x128 .f32)

theorem query1 (b : Fin 32) (i : Fin 256) (h : Fin 8) (x : Fin 64) : val_main_v26 X (ix4 b i h x) = X (ix2 (crow b i) (col 0 h (lane 0 x))) := by
  pointwise [val_main_v26, val_main_v25, val_main_v5, val_main_v2, val_main_v1, val_main_v0]
  congr 2 <;> simp [crow, col, lane, Nat.add_assoc]
theorem key1 (b : Fin 32) (i : Fin 256) (h : Fin 8) (x : Fin 64) : val_main_v28 X (ix4 b i h x) = X (ix2 (crow b i) (col 1 h (lane 0 x))) := by
  pointwise [val_main_v28, val_main_v27, val_main_v6, val_main_v3, val_main_v1, val_main_v0]
  congr 2 <;> simp [crow, col, lane, Nat.add_assoc]
theorem query2 (b : Fin 32) (i : Fin 256) (h : Fin 8) (x : Fin 64) : val_main_v44 X (ix4 b i h x) = X (ix2 (crow b i) (col 0 h (lane 1 x))) := by
  pointwise [val_main_v44, val_main_v43, val_main_v5, val_main_v2, val_main_v1, val_main_v0]
  congr 2 <;> simp [crow, col, lane, Nat.add_assoc]
theorem key2 (b : Fin 32) (i : Fin 256) (h : Fin 8) (x : Fin 64) : val_main_v46 X (ix4 b i h x) = X (ix2 (crow b i) (col 1 h (lane 1 x))) := by
  pointwise [val_main_v46, val_main_v45, val_main_v6, val_main_v3, val_main_v1, val_main_v0]
  congr 2 <;> simp [crow, col, lane, Nat.add_assoc]
theorem values (b : Fin 32) (i : Fin 256) (h : Fin 8) (x : Fin 128) : val_main_v7 X (ix4 b i h x) = X (ix2 (crow b i) (col 2 h x)) := by
  pointwise [val_main_v7, val_main_v4, val_main_v1, val_main_v0]
  congr 2 <;> simp [crow, col]

theorem ofBits_neg_inf : Ideal.ofBits .f32 4286578688#32 = ⊥ := by
  simp [Ideal.ofBits, Ideal.ieee]

theorem score1 (b : Fin 32) (h : Fin 8) (i j : Fin 256) : val_main_v29 X (ix4 b h i j) = cscore X 0 b h i j := by
  pointwise [val_main_v29]
  unfold cscore
  simp only [query1, key1]
theorem max1 (b : Fin 32) (h : Fin 8) (i : Fin 256) :
    val_main_v30 X (ix3 b h i) = Finset.univ.fold max ⊥ fun j => val_main_v29 X (ix4 b h i j) := by
  pointwise [val_main_v30]
  rw [val_main_cst_2_apply]
  exact congrArg (fun z => Finset.univ.fold max z fun j => val_main_v29 X (ix4 b h i j)) ofBits_neg_inf
theorem bot1 (i : S32x8x256.Idx) : val_main_v31 (F := Ideal) i = ⊥ := (val_main_v31_apply i).trans ofBits_neg_inf
theorem top1 (b : Fin 32) (h : Fin 8) (i : Fin 256) : val_main_v32 X (ix3 b h i) = val_main_v30 X (ix3 b h i) := by
  rw [val_main_v32_apply, bot1]
  generalize val_main_v30 X (ix3 b h i) = z
  exact max_eq_right bot_le
theorem prob1 (b : Fin 32) (h : Fin 8) (i j : Fin 256) :
    val_main_v40 X (ix4 b h i j) = Ideal.div (Ideal.exp (val_main_v29 X (ix4 b h i j) - val_main_v32 X (ix3 b h i)))
      (∑ x, Ideal.exp (val_main_v29 X (ix4 b h i x) - val_main_v32 X (ix3 b h i))) := by
  pointwise [val_main_v40, val_main_v39, val_main_v38, val_main_v37, val_main_v36, val_main_v35, val_main_v34, val_main_v33, val_main_cst_4]
theorem sum1 (b : Fin 32) (i : Fin 256) (h : Fin 8) (c : Fin 128) : val_main_v42 X (ix4 b i h c)
    = ∑ x, val_main_v7 X (ix4 b x h c) * val_main_v40 X (ix4 b h i x) := by
  pointwise [val_main_v42, val_main_v41]
theorem attend1 (b : Fin 32) (h : Fin 8) (i : Fin 256) {σ : ℕ → ℝ} (hσ : ∀ j : Fin 256, cscore X 0 b h i j = (σ j : EReal)) :
    ∃ B : ℝ, ∀ c, val_main_v42 X (ix4 b i h c) = attend 256 σ B (cvalue X b h c) := by
  have hs : ∀ j : Fin 256, val_main_v29 X (ix4 b h i j) = (σ j : EReal) := fun j => (score1 X b h i j).trans (hσ j)
  obtain ⟨B, hB⟩ := fold_max_coe (by norm_num) (fun j : Fin 256 => val_main_v29 X (ix4 b h i j)) (fun j => σ j) hs
  refine ⟨B, fun c => ?_⟩
  rw [sum1]
  simp only [prob1, top1, max1, hB]
  exact weights_eq (fun j => val_main_v29 X (ix4 b h i j)) (fun x => val_main_v7 X (ix4 b x h c)) hs
    (fun j => by rw [values]; unfold cvalue; rw [dif_pos j.isLt]) B

theorem score2 (b : Fin 32) (h : Fin 8) (i j : Fin 256) : val_main_v47 X (ix4 b h i j) = cscore X 1 b h i j := by
  pointwise [val_main_v47]
  unfold cscore
  simp only [query2, key2]
theorem max2 (b : Fin 32) (h : Fin 8) (i : Fin 256) :
    val_main_v48 X (ix3 b h i) = Finset.univ.fold max ⊥ fun j => val_main_v47 X (ix4 b h i j) := by
  pointwise [val_main_v48]
  rw [val_main_cst_5_apply]
  exact congrArg (fun z => Finset.univ.fold max z fun j => val_main_v47 X (ix4 b h i j)) ofBits_neg_inf
theorem bot2 (i : S32x8x256.Idx) : val_main_v49 (F := Ideal) i = ⊥ := (val_main_v49_apply i).trans ofBits_neg_inf
theorem top2 (b : Fin 32) (h : Fin 8) (i : Fin 256) : val_main_v50 X (ix3 b h i) = val_main_v48 X (ix3 b h i) := by
  rw [val_main_v50_apply, bot2]
  generalize val_main_v48 X (ix3 b h i) = z
  exact max_eq_right bot_le
theorem prob2 (b : Fin 32) (h : Fin 8) (i j : Fin 256) :
    val_main_v58 X (ix4 b h i j) = Ideal.div (Ideal.exp (val_main_v47 X (ix4 b h i j) - val_main_v50 X (ix3 b h i)))
      (∑ x, Ideal.exp (val_main_v47 X (ix4 b h i x) - val_main_v50 X (ix3 b h i))) := by
  pointwise [val_main_v58, val_main_v57, val_main_v56, val_main_v55, val_main_v54, val_main_v53, val_main_v52, val_main_v51, val_main_cst_7]
theorem sum2 (b : Fin 32) (i : Fin 256) (h : Fin 8) (c : Fin 128) : val_main_v60 X (ix4 b i h c)
    = ∑ x, val_main_v7 X (ix4 b x h c) * val_main_v58 X (ix4 b h i x) := by
  pointwise [val_main_v60, val_main_v59]
theorem attend2 (b : Fin 32) (h : Fin 8) (i : Fin 256) {σ : ℕ → ℝ} (hσ : ∀ j : Fin 256, cscore X 1 b h i j = (σ j : EReal)) :
    ∃ B : ℝ, ∀ c, val_main_v60 X (ix4 b i h c) = attend 256 σ B (cvalue X b h c) := by
  have hs : ∀ j : Fin 256, val_main_v47 X (ix4 b h i j) = (σ j : EReal) := fun j => (score2 X b h i j).trans (hσ j)
  obtain ⟨B, hB⟩ := fold_max_coe (by norm_num) (fun j : Fin 256 => val_main_v47 X (ix4 b h i j)) (fun j => σ j) hs
  refine ⟨B, fun c => ?_⟩
  rw [sum2]
  simp only [prob2, top2, max2, hB]
  exact weights_eq (fun j => val_main_v47 X (ix4 b h i j)) (fun x => val_main_v7 X (ix4 b x h c)) hs
    (fun j => by rw [values]; unfold cvalue; rw [dif_pos j.isLt]) B

theorem weight : val_main_v24 L ix0 = lam (fun x => L (ix3 0 0 x)) (fun x => L (ix3 0 1 x)) (fun x => L (ix3 0 2 x)) (fun x => L (ix3 0 3 x)) := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst,
    val_main_cst_0, val_main_cst_1, lam]

theorem difference (b : Fin 32) (i : Fin 256) (h : Fin 8) (c : Fin 128) : val_main_v63 X L (ix4 b i h c)
    = val_main_v42 X (ix4 b i h c) - val_main_v24 L ix0 * val_main_v60 X (ix4 b i h c) := by
  pointwise [val_main_v63, val_main_v62, val_main_v61]

theorem norm (b : Fin 32) (i : Fin 256) (h : Fin 8) (c : Fin 128) : val_main_v79 X L G (ix4 b i h c)
    = normed (fun x => val_main_v63 X L (ix4 b i h x)) (fun x => G (ix2 0 x)) c := by
  pointwise [val_main_v79, val_main_v78, val_main_v77, val_main_v76, val_main_v75, val_main_v74, val_main_v73, val_main_v72, val_main_v71, val_main_v70, val_main_v69, val_main_v68, val_main_v67, val_main_v66, val_main_v65, val_main_v64, val_main_cst_8, val_main_cst_9,
    val_main_cst_10, val_main_cst_11, normed]

/-- The reference's entry for context `b`, position `i`, head `h`, lane `c`. -/
theorem result (b : Fin 32) (i : Fin 256) (h : Fin 8) {σ : Fin 2 → ℕ → ℝ} (hσ : ∀ p (j : Fin 256), cscore X p b h i j = (σ p j : EReal)) :
    ∃ B : Fin 2 → ℝ, ∀ c : Fin 128, val_main_v81 X L G (ix2 (crow b i) ⟨h * 128 + c, by omega⟩) = centry X L G σ B b h c := by
  obtain ⟨B1, h1⟩ := attend1 X b h i (hσ 0)
  obtain ⟨B2, h2⟩ := attend2 X b h i (hσ 1)
  refine ⟨![B1, B2], fun c => ?_⟩
  have hr : val_main_v81 X L G (ix2 (crow b i) ⟨h * 128 + c, by omega⟩) = val_main_v79 X L G (ix4 b i h c) := by
    unfold crow
    pointwise [val_main_v81, val_main_v80]
  rw [hr, norm]
  unfold centry
  refine congrArg (fun o => normed o (fun x => G (ix2 0 x)) c) (funext fun x => ?_)
  rw [difference, h1, h2, weight]
  rfl

end Cert.ContextAttentionReferenceIdeal.Entry

end
-- ==== Proof.ContextValue.lean ====
/-
  The contexts' differential attention: the kernel's input blocks entry by entry in terms of the argument arrays, and its
  result array as the reference's term, when the queries and the keys are finite.
-/
module

public import proofs.«01_k».proof.Proof.ContextBlock
public import proofs.«01_k».proof.Proof.ContextReference
public import proofs.«01_k».proof.Proof.Windows

@[expose] public section

set_option maxRecDepth 16384

noncomputable section

namespace Cert.ContextAttentionIdeal.Final

open Cert.ContextAttentionIdeal Cert.ContextAttentionIdeal.Gen Idealize.ShloMosaic Idealize.ShloMosaic.TcCoe Cert.Latent Cert.Context
open Cert.KernelIdeal.Windows (masked_dot ofBits_one ofBits_zero)

variable (m : (ℓ : Loc nD τ sig) → Buf (Elt Ideal) ℓ) (c : Dev nD)

/-- The arguments on core `c`: projections, the weight's vectors, the gains. -/
abbrev X : Proj := m ((c : Thread nD τ).loc main_arg0)
abbrev L : Vec Ideal S1x4x64 .f32 := m ((c : Thread nD τ).loc main_arg1)
abbrev G : Vec Ideal S1x128 .f32 := m ((c : Thread nD τ).loc main_arg2)

/-- The point's context. -/
def ctx (t : Fin cfg0.N) : Fin 32 := ⟨(grid0.coords t 0).val, (grid0.coords t 0).isLt⟩

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] := (by decide +kernel : ∀ t : Fin grid0.N, win0_1.index t = ![0, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![(grid0.coords t 0).val, 0] :=
  (by decide +kernel : ∀ t : Fin grid0.N, win0_4.index t = ![(grid0.coords t 0).val, 0])

theorem rows (t : Fin cfg0.N) (r : Fin 256) (x : Fin 3072) :
    (iblk m c 0 t : Vec Ideal S256x3072 .bf16) (ix2 r x) = X m c (ix2 (crow (ctx t) r) x) := by
  blk_simp [iblk]
  rw [V_main_arg0]
  unfold crow ctx
  blk_ext [e0]

theorem V_v0 (p : Fin 4) (x : Fin 64) : V m c main_v0 (ix2 p x) = L m c (ix3 0 p x) := by
  have : V m c main_v0 = (shapeCast S4x64 (L m c) shapeCasts_S1x4x64_S4x64 : Vec Ideal S4x64 .f32) := by
    unfold V hostOps0
    after_results_simp <;> rfl
  rw [this]
  pointwise []
theorem V_v2 (x : Fin 128) : V m c main_v2 (ix2 0 x) = G m c (ix2 0 x) := by
  have : V m c main_v2 = (shapeCast S1x128 (shapeCast S128 (G m c) shapeCasts_S1x128_S128) shapeCasts_S128_S1x128 : Vec Ideal S1x128 .f32) := by
    unfold V hostOps0
    after_results_simp <;> rfl
  rw [this]
  pointwise []
theorem V_cst : V m c main_cst = (fun i => FloatOps.ofBits (F := Ideal) .bf16 (lit0 (S2x128.rowMajor i)) : FVec Ideal S2x128 .bf16) := by
  unfold V hostOps0
  after_results_simp <;> rfl

theorem vectors (t : Fin cfg0.N) (p : Fin 4) (x : Fin 64) :
    (iblk m c 2 t : Vec Ideal S4x64 .f32) (ix2 p x) = L m c (ix3 0 p x) := by
  rw [← V_v0]
  blk_simp [iblk]
  blk_ext [e2]
theorem gains (t : Fin cfg0.N) (x : Fin 128) :
    (iblk m c 3 t : Vec Ideal S1x128 .f32) (ix2 0 x) = G m c (ix2 0 x) := by
  rw [← V_v2]
  blk_simp [iblk]
  blk_ext [e3]

theorem lit_eq : ∀ i : Fin 256, lit0 i = if (i.val < 64 ∨ 192 ≤ i.val) then 0x3F80#16 else 0x0000#16 := by decide +kernel

theorem lit_at (i : Fin 256) (n : ℕ) (h : i.val = n) : lit0 i = if (n < 64 ∨ 192 ≤ n) then 0x3F80#16 else 0x0000#16 := by
  subst h; exact lit_eq i

/-- Half `p`'s mask: one on the half's lanes, zero elsewhere. -/
theorem masks (t : Fin cfg0.N) (p : Fin 2) (x : Fin 128) :
    (iblk m c 1 t : Vec Ideal S2x128 .bf16) (ix2 p x) = if x.val / 64 = p.val then (1 : EReal) else (0 : EReal) := by
  have h : (iblk m c 1 t : Vec Ideal S2x128 .bf16) (ix2 p x) = V m c main_cst (ix2 p x) := by
    blk_simp [iblk]
    blk_ext [e1]
  rw [h, V_cst]
  have hr : (S2x128.rowMajor (ix2 p x)).val = p * 128 + x := by rw [Shape.rowMajor_val_two]; rfl
  show Ideal.ofBits .bf16 (lit0 (S2x128.rowMajor (ix2 p x))) = _
  refine (congrArg (Ideal.ofBits .bf16) (lit_at _ _ hr)).trans ?_
  split <;> split <;> first | exact ofBits_one | exact ofBits_zero | omega

/-- A block computed from these rows of the arguments, entry by entry. -/
theorem entry_of {X : Proj} {L : Vec Ideal S1x4x64 .f32} {G : Vec Ideal S1x128 .f32} {b : Fin 32} {h : Fin 8} {r : Fin 256}
    (x0 : Vec Ideal S256x3072 .bf16) (x1 : Vec Ideal S2x128 .bf16) (x2 : Vec Ideal S4x64 .f32) (x3 : Vec Ideal S1x128 .f32)
    (h0 : ∀ j y, x0 (ix2 j y) = X (ix2 (crow b j) y))
    (h1 : ∀ p y, x1 (ix2 p y) = if y.val / 64 = p.val then (1 : EReal) else (0 : EReal))
    (h2 : ∀ p y, x2 (ix2 p y) = L (ix3 0 p y)) (h3 : ∀ y, x3 (ix2 0 y) = G (ix2 0 y))
    {σ : Fin 2 → ℕ → ℝ} (B : Fin 2 → ℝ) (hσ : ∀ p (j : Fin 256), cscore X p b h r j = (σ p j : EReal)) (x : Fin 128) :
    Block.kentry x0 x1 x2 x3 h r x = centry X L G σ B b h x := by
  have hh : ∀ (p : Fin 2) (x : Fin 128), Block.khalf x0 x1 p h r x = attend 256 (σ p) (B p) (cvalue X b h x) := by
    intro p x
    refine quotient_eq (by norm_num) _ _ (fun j => ?_) (fun j => ?_) (B p)
    · refine (masked_dot (fun y => x1 (ix2 p y)) p (h1 p) (fun y => x0 (ix2 r (col 0 h y))) (fun y => x0 (ix2 j (col 1 h y)))).trans ?_
      rw [← hσ]
      unfold cscore
      exact Finset.sum_congr rfl fun y _ => congrArg₂ (· * ·) (h0 _ _) (h0 _ _)
    · refine (h0 _ _).trans ?_
      unfold cvalue
      rw [dif_pos j.isLt]
  unfold Block.kentry centry
  simp only [hh, h2, h3]

/-- The result array after the run, as the reference's term of the argument arrays. -/
theorem out (H : CFinite (X m c)) :
    (dats m 0 c).arrAt 4 cfg0.N = Cert.ContextAttentionReferenceIdeal.Read.val_main_v81 (F := Ideal) (X m c) (L m c) (G m c) := by
  refine (dats m 0 c).arrAt_eq_of_covers 4 _ (by decide +kernel) fun t hf y => ?_
  blk_simp
  rw [after0_4]
  revert y
  show ∀ y : S256x1024.Idx, _
  intro y
  obtain ⟨r, h, x, rfl⟩ : ∃ (r : Fin 256) (h : Fin 8) (x : Fin 128), y = ix2 r (Block.ocol h x) :=
    ⟨y 0, Block.hd (y 1), Block.ln (y 1), by
      funext a
      fin_cases a
      · rfl
      · exact Fin.ext (by show (y 1).val = (y 1).val / 128 * 128 + (y 1).val % 128; omega)⟩
  have hs : ∀ p : Fin 2, ∃ σ : ℕ → ℝ, ∀ j : Fin 256, cscore (X m c) p (ctx t) h r j = (σ j : EReal) := fun p => cscore_real H p _ _ _
  choose σ hσ using hs
  obtain ⟨B, hB⟩ := Cert.ContextAttentionReferenceIdeal.Entry.result (X m c) (L m c) (G m c) (ctx t) r h hσ
  have hemb : ((cfg0.win 4).blk t).view.emb (ix2 r (Block.ocol h x)) = ix2 (crow (ctx t) r) ⟨h.val * 128 + x, by omega⟩ := by
    unfold crow ctx Block.ocol
    blk_ext [e4]
  have hk : out0_4 (iblk m c 0 t) (iblk m c 1 t) (iblk m c 2 t) (iblk m c 3 t) (ix2 r (Block.ocol h x))
      = centry (X m c) (L m c) (G m c) σ B (ctx t) h x :=
    (Block.canon4 _ _ _ _ _).trans ((Block.E_ocol _ _ _ _ r h x).trans
      (entry_of (iblk m c 0 t) (iblk m c 1 t) (iblk m c 2 t) (iblk m c 3 t) (rows m c t) (masks m c t) (vectors m c t) (gains m c t) B hσ x))
  refine hk.trans ((hB x).symm.trans ?_)
  exact congrArg (Cert.ContextAttentionReferenceIdeal.Read.val_main_v81 (F := Ideal) (X m c) (L m c) (G m c)) hemb.symm

end Cert.ContextAttentionIdeal.Final

end
-- ==== Proof.PlainContextFinite.lean ====
/- What the plain attention's precondition says: the queries and keys among the projections are real numbers. -/
module

public import proofs.«01_k».proof.Defs
public import proofs.«01_k».proof.Proof.ContextSpec
public import proofs.«01_k».proof.Proof.Finite

@[expose] public section

set_option maxRecDepth 16384

noncomputable section

namespace Cert.Context

open Idealize.ShloMosaic Cert.Latent

variable [Cert.Pre_finite_plain_queries_and_keys.Facts]

/-- The predicate, read at every element. -/
theorem finite_of_plain_pre (X : Proj)
    (h : Cert.Pre_finite_plain_queries_and_keys.fn (F := Ideal) X = fun _ => 1#1) : CFinite X := by
  have t16 : Ideal.ofBits .bf16 (0x7F80#16) = (⊤ : EReal) := by simp [Ideal.ofBits, Ideal.ieee]
  intro r c hc
  have e := congrFun h (ix2 r ⟨c.val, hc⟩)
  unfold Cert.Pre_finite_plain_queries_and_keys.fn at e
  have q : extractStridedSlice Cert.Pre_finite_plain_queries_and_keys.S8192x2048 ![0, 0] X
      Cert.Pre_finite_plain_queries_and_keys.Facts.slices_S8192x3072_S8192x2048_0_0 (ix2 r ⟨c.val, hc⟩) = X (ix2 r c) :=
    congrArg X (by funext a; fin_cases a <;> exact Fin.ext (by simp))
  change BitVec.ofBool (decide (max (extractStridedSlice Cert.Pre_finite_plain_queries_and_keys.S8192x2048 ![0, 0] X
      Cert.Pre_finite_plain_queries_and_keys.Facts.slices_S8192x3072_S8192x2048_0_0 (ix2 r ⟨c.val, hc⟩))
    (-(extractStridedSlice Cert.Pre_finite_plain_queries_and_keys.S8192x2048 ![0, 0] X
      Cert.Pre_finite_plain_queries_and_keys.Facts.slices_S8192x3072_S8192x2048_0_0 (ix2 r ⟨c.val, hc⟩))) < Ideal.ofBits .bf16 (0x7F80#16))) = 1#1 at e
  rw [t16, q] at e
  exact real_of_abs_lt _ e

end Cert.Context

end
-- ==== Proof.PlainContextBlock.lean ====
/-
  One context's block of the plain attention the kernel computes, entry by entry in terms of the blocks it reads. The eight
  pairs of heads are the same function of their own columns.
-/
module

public import proofs.«01_k».proof.Proof.ContextBlock
public import proofs.«01_k».proof.Proof.Gen.PlainContextAttentionIdeal
public import proofs.«01_k».proof.Proof.Gen.PlainContextAttentionIdeal.Frame
public import proofs.«01_k».proof.Proof.Gen.PlainContextAttentionIdeal.Value
public import Idealize.ShloMosaic.Lib.Pipeline.ValueKit

@[expose] public section

set_option maxRecDepth 16384

noncomputable section

namespace Cert.PlainContextAttentionIdeal.Block

open Cert.PlainContextAttentionIdeal Cert.PlainContextAttentionIdeal.Gen Idealize.ShloMosaic Cert.Latent Cert.Context
open Cert.ContextAttentionIdeal.Block (soft ofBits_neg_inf ocol hd ln hd_ocol ln_ocol)

section Heads

variable (k v q : Vec Ideal S256x128 .bf16) (w w1 w2 : Vec Ideal S1x128 .bf16)

theorem score_apply (r j : Fin 256) : k0_pay16 k q w (ix2 r j) = ∑ x : Fin 128, q (ix2 r x) * w (ix2 0 x) * k (ix2 j x) := by
  pointwise [k0_pay16]

/-- One half from its score matrix. -/
def half (s : FVec Ideal S256x256 .f32) (v : FVec Ideal S256x128 .bf16) : FVec Ideal S256x128 .f32 :=
  have e := exp (subf s (broadcastTo S256x256 (shapeCast S256x1 (multiReduction .maximumf [1] S256 s 0xFF800000#32 reduces_S256x256_S256 (.inl rfl) rfl) shapeCasts_S256_S256x1) broadcasts_S256x1_S256x256))
  divf (matmul dot_S256x256_S256x128_S256x128_1_0_0_1_n_n none (truncf .bf16 e bitsLt_bf16_f32) v (constant S256x128 .f32 0x00000000#32))
    (broadcastTo S256x128 (shapeCast S256x1 (multiReduction .add [1] S256 e 0x00000000#32 reduces_S256x256_S256 (.inl rfl) rfl) shapeCasts_S256_S256x1) broadcasts_S256x1_S256x128)

theorem half_eq : k0_pay4 k v q w = half (k0_pay16 k q w) v := rfl

theorem half_apply (s : FVec Ideal S256x256 .f32) (v : FVec Ideal S256x128 .bf16) (r : Fin 256) (c : Fin 128) :
    half s v (ix2 r c) = soft (fun j => s (ix2 r j)) (fun j => v (ix2 j c)) := by
  pointwise [half, soft]
  rw [ofBits_neg_inf]

theorem soft_apply (r : Fin 256) (c : Fin 128) :
    k0_pay4 k v q w (ix2 r c) = soft (fun j => ∑ x : Fin 128, q (ix2 r x) * w (ix2 0 x) * k (ix2 j x)) (fun j => v (ix2 j c)) := by
  rw [half_eq, half_apply]
  simp only [score_apply]

theorem below : ∀ c : Fin 128, IntOp.cmpi CmpIPredicate.slt (BitVec.ofNat 32 c.val) 64#32 = if c.val < 64 then 1#1 else 0#1 := by decide

/-- The lower 64 lanes are the first half's, the upper the second's. -/
theorem pick_apply (a b : FVec Ideal S256x128 .f32) (r : Fin 256) (c : Fin 128) :
    k0_pay6 a b (iota .tc S256x128 32 [1] iota_S256x128_d1_w32) (ix2 r c) = if c.val < 64 then a (ix2 r c) else b (ix2 r c) := by
  pointwise [k0_pay6]
  rw [below]
  split
  · exact if_pos rfl
  · exact if_neg (by decide)

/-- A pair of heads, as the second is spelt. -/
abbrev head : FVec Ideal S256x128 .bf16 :=
  k0_pay6 (k0_pay4 k v q w1) (k0_pay4 k v q w2) (iota .tc S256x128 32 [1] iota_S256x128_d1_w32)

theorem head0 : k0_pay3 (k0_pay2 k v q w1 q w2) = head k v q w1 w2 := rfl
theorem head1 : k0_pay6 (k0_pay4 k v q w1) (k0_pay5 k v q w2) (iota .tc S256x128 32 [1] iota_S256x128_d1_w32) = head k v q w1 w2 := rfl
theorem head2 : k0_pay11 v (k0_pay7 k v q w1) (k0_pay9 k q w2) (k0_pay10 k q w2) (constant S256x128 .f32 0x00000000#32) = head k v q w1 w2 := rfl
theorem head3 : k0_pay14 v (k0_pay12 k v q w1) (k0_pay13 k q w2) = head k v q w1 w2 := rfl
theorem head4 : k0_pay18 v (k0_pay15 k v q w1) (k0_pay16 k q w2) (k0_pay17 k q w2) = head k v q w1 w2 := rfl
theorem head5 : k0_pay21 k v (k0_pay19 k v q w1) (k0_pay20 q w2) (constant S256x256 .f32 0x00000000#32) = head k v q w1 w2 := rfl
theorem head6 : k0_pay23 k v (k0_pay22 k v q w1) q w2 = head k v q w1 w2 := rfl
theorem head7 : k0_pay1 k v (k0_pay24 k v q w1) q w2 = head k v q w1 w2 := rfl

end Heads

variable (x0 : Vec Ideal S256x3072 .bf16) (x1 : Vec Ideal S2x128 .bf16)

/-- Half `p` of the pair `h` at row `r`, lane `c`, from the block. -/
def khalf (p : Fin 2) (h : Fin 8) (r : Fin 256) (c : Fin 128) : EReal :=
  soft (fun j => ∑ x : Fin 128, x0 (ix2 r (col 0 h x)) * x1 (ix2 p x) * x0 (ix2 j (col 1 h x))) (fun j => x0 (ix2 j (col 2 h c)))

/-- The pair `h` at row `r`, lane `c`, from the block. -/
def kentry (h : Fin 8) (r : Fin 256) (c : Fin 128) : EReal := if c.val < 64 then khalf x0 x1 0 h r c else khalf x0 x1 1 h r c

theorem head_apply (k v q : Vec Ideal S256x128 .bf16) (h : Fin 8) (hk : ∀ r x, k (ix2 r x) = x0 (ix2 r (col 1 h x)))
    (hv : ∀ r x, v (ix2 r x) = x0 (ix2 r (col 2 h x))) (hq : ∀ r x, q (ix2 r x) = x0 (ix2 r (col 0 h x))) (r : Fin 256) (c : Fin 128) :
    head k v q (View.ld x1 r0_3) (View.ld x1 r0_4) (ix2 r c) = kentry x0 x1 h r c := by
  have m0 : ∀ x : Fin 128, View.ld x1 r0_3 (ix2 0 x) = x1 (ix2 0 x) := fun x => View.ld_unit_apply_of _ _ _ _ _ _ fun a => by fin_cases a <;> simp [ix2]
  have m1 : ∀ x : Fin 128, View.ld x1 r0_4 (ix2 0 x) = x1 (ix2 1 x) := fun x => View.ld_unit_apply_of _ _ _ _ _ _ fun a => by fin_cases a <;> simp [ix2]
  refine (pick_apply _ _ r c).trans ?_
  unfold kentry khalf
  rw [soft_apply, soft_apply]
  simp only [hq, hk, hv, m0, m1]

/-- The block of the eight pairs side by side. -/
def E : Vec Ideal S256x1024 .bf16 := fun i => kentry x0 x1 (hd (i 1)) (i 0) (ln (i 1))

theorem E_ocol (r : Fin 256) (h : Fin 8) (x : Fin 128) : E x0 x1 (ix2 r (ocol h x)) = kentry x0 x1 h r x := by
  show kentry x0 x1 (hd (ocol h x)) r (ln (ocol h x)) = _
  rw [hd_ocol, ln_ocol]

/-- A piece of the block is the pair `h`. -/
theorem in_head (h : Fin 8) (off : ℕ) (inb : ∀ a, (![0, off] : Fin 2 → ℕ) a + S256x128.size a ≤ S256x1024.size a)
    (p : Vec Ideal S256x128 .bf16) (ho : off = h.val * 128) (hp : ∀ (r : Fin 256) (x : Fin 128), p (ix2 r x) = kentry x0 x1 h r x) :
    ∀ i : S256x128.Idx, p i = E x0 x1 ((Rect.unit (s := S256x1024) ![0, off] S256x128.size inb).emb i) := by
  intro i
  obtain ⟨r, x, rfl⟩ : ∃ (r : Fin 256) (x : Fin 128), i = ix2 r x := ⟨i 0, i 1, by funext a; fin_cases a <;> rfl⟩
  rw [hp, ← E_ocol]
  refine congrArg (E x0 x1) (funext fun a => Fin.ext ?_)
  subst ho
  fin_cases a
  · show r.val = 0 + 1 * r.val; omega
  · show h.val * 128 + x.val = h.val * 128 + 1 * x.val; omega

/-- The columns a pair's load reads. -/
theorem ld_cols (s : Fin 3) (h : Fin 8) (off : ℕ) (inb : ∀ a, (![0, off] : Fin 2 → ℕ) a + S256x128.size a ≤ S256x3072.size a)
    (ho : off = s.val * 1024 + h.val * 128) (r : Fin 256) (x : Fin 128) :
    View.ld x0 (Rect.unit (s := S256x3072) ![0, off] S256x128.size inb) (ix2 r x) = x0 (ix2 r (col s h x)) := by
  subst ho
  refine View.ld_unit_apply_of _ _ _ _ _ _ fun a => ?_
  fin_cases a
  · simp [ix2]
  · simp [ix2, col, Nat.add_assoc]

theorem canon2 (i : S256x1024.Idx) : out0_2 x0 x1 i = E x0 x1 i := by
  unfold out0_2
  refine View.canon_apply_of_pieces (E x0 x1) _ ?_ i (cover0_2 _ _ _ _ _ _ _ _ i)
  intro pc hpc
  rcases List.mem_cons.mp hpc with rfl | hpc
  · refine in_head x0 x1 7 896 inb_S256x1024_S256x128_0_896 _ (by decide) fun r x => ?_
    exact (congrFun (head7 _ _ _ _ _) _).trans (head_apply x0 x1 _ _ _ 7 (ld_cols x0 1 7 1920 inb_S256x3072_S256x128_0_1920 (by decide)) (ld_cols x0 2 7 2944 inb_S256x3072_S256x128_0_2944 (by decide)) (ld_cols x0 0 7 896 inb_S256x3072_S256x128_0_896 (by decide)) r x)
  rcases List.mem_cons.mp hpc with rfl | hpc
  · refine in_head x0 x1 6 768 inb_S256x1024_S256x128_0_768 _ (by decide) fun r x => ?_
    exact (congrFun (head6 _ _ _ _ _) _).trans (head_apply x0 x1 _ _ _ 6 (ld_cols x0 1 6 1792 inb_S256x3072_S256x128_0_1792 (by decide)) (ld_cols x0 2 6 2816 inb_S256x3072_S256x128_0_2816 (by decide)) (ld_cols x0 0 6 768 inb_S256x3072_S256x128_0_768 (by decide)) r x)
  rcases List.mem_cons.mp hpc with rfl | hpc
  · refine in_head x0 x1 5 640 inb_S256x1024_S256x128_0_640 _ (by decide) fun r x => ?_
    exact (congrFun (head5 _ _ _ _ _) _).trans (head_apply x0 x1 _ _ _ 5 (ld_cols x0 1 5 1664 inb_S256x3072_S256x128_0_1664 (by decide)) (ld_cols x0 2 5 2688 inb_S256x3072_S256x128_0_2688 (by decide)) (ld_cols x0 0 5 640 inb_S256x3072_S256x128_0_640 (by decide)) r x)
  rcases List.mem_cons.mp hpc with rfl | hpc
  · refine in_head x0 x1 4 512 inb_S256x1024_S256x128_0_512 _ (by decide) fun r x => ?_
    exact (congrFun (head4 _ _ _ _ _) _).trans (head_apply x0 x1 _ _ _ 4 (ld_cols x0 1 4 1536 inb_S256x3072_S256x128_0_1536 (by decide)) (ld_cols x0 2 4 2560 inb_S256x3072_S256x128_0_2560 (by decide)) (ld_cols x0 0 4 512 inb_S256x3072_S256x128_0_512 (by decide)) r x)
  rcases List.mem_cons.mp hpc with rfl | hpc
  · refine in_head x0 x1 3 384 inb_S256x1024_S256x128_0_384 _ (by decide) fun r x => ?_
    exact (congrFun (head3 _ _ _ _ _) _).trans (head_apply x0 x1 _ _ _ 3 (ld_cols x0 1 3 1408 inb_S256x3072_S256x128_0_1408 (by decide)) (ld_cols x0 2 3 2432 inb_S256x3072_S256x128_0_2432 (by decide)) (ld_cols x0 0 3 384 inb_S256x3072_S256x128_0_384 (by decide)) r x)
  rcases List.mem_cons.mp hpc with rfl | hpc
  · refine in_head x0 x1 2 256 inb_S256x1024_S256x128_0_256 _ (by decide) fun r x => ?_
    exact (congrFun (head2 _ _ _ _ _) _).trans (head_apply x0 x1 _ _ _ 2 (ld_cols x0 1 2 1280 inb_S256x3072_S256x128_0_1280 (by decide)) (ld_cols x0 2 2 2304 inb_S256x3072_S256x128_0_2304 (by decide)) (ld_cols x0 0 2 256 inb_S256x3072_S256x128_0_256 (by decide)) r x)
  rcases List.mem_cons.mp hpc with rfl | hpc
  · refine in_head x0 x1 1 128 inb_S256x1024_S256x128_0_128 _ (by decide) fun r x => ?_
    exact (congrFun (head1 _ _ _ _ _) _).trans (head_apply x0 x1 _ _ _ 1 (ld_cols x0 1 1 1152 inb_S256x3072_S256x128_0_1152 (by decide)) (ld_cols x0 2 1 2176 inb_S256x3072_S256x128_0_2176 (by decide)) (ld_cols x0 0 1 128 inb_S256x3072_S256x128_0_128 (by decide)) r x)
  rcases List.mem_cons.mp hpc with rfl | hpc
  · refine in_head x0 x1 0 0 inb_S256x1024_S256x128_0_0 _ (by decide) fun r x => ?_
    exact (congrFun (head0 _ _ _ _ _) _).trans (head_apply x0 x1 _ _ _ 0 (ld_cols x0 1 0 1024 inb_S256x3072_S256x128_0_1024 (by decide)) (ld_cols x0 2 0 2048 inb_S256x3072_S256x128_0_2048 (by decide)) (ld_cols x0 0 0 0 inb_S256x3072_S256x128_0_0 (by decide)) r x)
  exact absurd hpc List.not_mem_nil

end Cert.PlainContextAttentionIdeal.Block

end
-- ==== Proof.PlainContextReference.lean ====
/-
  The reference's result for the contexts' plain attention, entry by entry.
-/
module

public import proofs.«01_k».proof.Proof.ContextSpec
public import proofs.«01_k».proof.Proof.Gen.PlainContextAttentionReferenceIdeal
public import proofs.«01_k».proof.Proof.Gen.PlainContextAttentionReferenceIdeal.Read

@[expose] public section

set_option maxRecDepth 16384

noncomputable section

namespace Cert.PlainContextAttentionReferenceIdeal.Entry

open Cert.PlainContextAttentionReferenceIdeal.Read Cert.PlainContextAttentionReferenceIdeal Cert.PlainContextAttentionReferenceIdeal.Gen
open Idealize.ShloMosaic Cert.Softmax Cert.Latent Cert.Context

variable (X : Proj)

/-- The head that is half `p` of the pair `h`. -/
def hix (h : Fin 8) (p : Fin 2) : Fin 16 := ⟨2 * h + p, by omega⟩

theorem queries (b : Fin 32) (i : Fin 256) (h : Fin 8) (p : Fin 2) (x : Fin 64) : val_main_v5 X (ix4 b i (hix h p) x) = X (ix2 (crow b i) (col 0 h (lane p x))) := by
  unfold hix
  pointwise [val_main_v5, val_main_v2, val_main_v1, val_main_v0]
  congr 2 <;> simp [crow, col, lane] <;> omega
theorem keys (b : Fin 32) (i : Fin 256) (h : Fin 8) (p : Fin 2) (x : Fin 64) : val_main_v6 X (ix4 b i (hix h p) x) = X (ix2 (crow b i) (col 1 h (lane p x))) := by
  unfold hix
  pointwise [val_main_v6, val_main_v3, val_main_v1, val_main_v0]
  congr 2 <;> simp [crow, col, lane] <;> omega
theorem values (b : Fin 32) (i : Fin 256) (h : Fin 8) (p : Fin 2) (x : Fin 64) : val_main_v7 X (ix4 b i (hix h p) x) = X (ix2 (crow b i) (col 2 h (lane p x))) := by
  unfold hix
  pointwise [val_main_v7, val_main_v4, val_main_v1, val_main_v0]
  congr 2 <;> simp [crow, col, lane] <;> omega

theorem ofBits_neg_inf : Ideal.ofBits .f32 4286578688#32 = ⊥ := by
  simp [Ideal.ofBits, Ideal.ieee]

theorem score (b : Fin 32) (h : Fin 8) (p : Fin 2) (i j : Fin 256) : val_main_v8 X (ix4 b (hix h p) i j) = cscore X p b h i j := by
  pointwise [val_main_v8]
  unfold cscore
  simp only [queries, keys]
theorem maximum (b : Fin 32) (h : Fin 16) (i : Fin 256) :
    val_main_v9 X (ix3 b h i) = Finset.univ.fold max ⊥ fun j => val_main_v8 X (ix4 b h i j) := by
  pointwise [val_main_v9]
  rw [val_main_cst_apply]
  exact congrArg (fun z => Finset.univ.fold max z fun j => val_main_v8 X (ix4 b h i j)) ofBits_neg_inf
theorem bottom (i : S32x16x256.Idx) : val_main_v10 (F := Ideal) i = ⊥ := (val_main_v10_apply i).trans ofBits_neg_inf
theorem top (b : Fin 32) (h : Fin 16) (i : Fin 256) : val_main_v11 X (ix3 b h i) = val_main_v9 X (ix3 b h i) := by
  rw [val_main_v11_apply, bottom]
  generalize val_main_v9 X (ix3 b h i) = z
  exact max_eq_right bot_le
theorem prob (b : Fin 32) (h : Fin 16) (i j : Fin 256) :
    val_main_v19 X (ix4 b h i j) = Ideal.div (Ideal.exp (val_main_v8 X (ix4 b h i j) - val_main_v11 X (ix3 b h i)))
      (∑ x, Ideal.exp (val_main_v8 X (ix4 b h i x) - val_main_v11 X (ix3 b h i))) := by
  pointwise [val_main_v19, val_main_v18, val_main_v17, val_main_v16, val_main_v15, val_main_v14, val_main_v13, val_main_v12, val_main_cst_1]
theorem total (b : Fin 32) (i : Fin 256) (h : Fin 16) (c : Fin 64) : val_main_v21 X (ix4 b i h c)
    = ∑ x, val_main_v7 X (ix4 b x h c) * val_main_v19 X (ix4 b h i x) := by
  pointwise [val_main_v21, val_main_v20]

theorem laid (b : Fin 32) (i : Fin 256) (h : Fin 16) (y : Fin 64) :
    val_main_v23 X (ix2 (crow b i) ⟨h * 64 + y, by omega⟩) = val_main_v21 X (ix4 b i h y) := by
  unfold crow
  pointwise [val_main_v23, val_main_v22]

/-- The reference's entries for context `b`, position `i`, half `p` of the pair `h`. -/
theorem result (b : Fin 32) (i : Fin 256) (h : Fin 8) (p : Fin 2) {σ : ℕ → ℝ} (hσ : ∀ j : Fin 256, cscore X p b h i j = (σ j : EReal)) :
    ∃ B : ℝ, ∀ y : Fin 64, val_main_v23 X (ix2 (crow b i) ⟨h * 128 + lane p y, by omega⟩) = attend 256 σ B (cvalue X b h (lane p y)) := by
  have hs : ∀ j : Fin 256, val_main_v8 X (ix4 b (hix h p) i j) = (σ j : EReal) := fun j => (score X b h p i j).trans (hσ j)
  obtain ⟨B, hB⟩ := fold_max_coe (by norm_num) (fun j : Fin 256 => val_main_v8 X (ix4 b (hix h p) i j)) (fun j => σ j) hs
  refine ⟨B, fun y => ?_⟩
  have hr : val_main_v23 X (ix2 (crow b i) ⟨h * 128 + lane p y, by omega⟩) = val_main_v21 X (ix4 b i (hix h p) y) := by
    have he : (⟨h * 128 + lane p y, by omega⟩ : Fin 1024) = ⟨(hix h p).val * 64 + y, by omega⟩ := Fin.ext (by simp only [lane, hix]; omega)
    rw [he, laid]
  rw [hr, total]
  simp only [prob, top, maximum, hB]
  exact weights_eq (fun j => val_main_v8 X (ix4 b (hix h p) i j)) (fun x => val_main_v7 X (ix4 b x (hix h p) y)) hs
    (fun j => by rw [values]; unfold cvalue; rw [dif_pos j.isLt]) B

end Cert.PlainContextAttentionReferenceIdeal.Entry

end
-- ==== Proof.PlainContextValue.lean ====
/-
  The contexts' plain attention: the kernel's input blocks entry by entry in terms of the argument arrays, and its
  result array as the reference's term, when the queries and the keys are finite.
-/
module

public import proofs.«01_k».proof.Proof.PlainContextBlock
public import proofs.«01_k».proof.Proof.PlainContextReference
public import proofs.«01_k».proof.Proof.Windows

@[expose] public section

set_option maxRecDepth 16384

noncomputable section

namespace Cert.PlainContextAttentionIdeal.Final

open Cert.PlainContextAttentionIdeal Cert.PlainContextAttentionIdeal.Gen Idealize.ShloMosaic Idealize.ShloMosaic.TcCoe Cert.Latent Cert.Context
open Cert.KernelIdeal.Windows (masked_dot ofBits_one ofBits_zero)
open Cert.ContextAttentionIdeal.Block (ocol)

variable (m : (ℓ : Loc nD τ sig) → Buf (Elt Ideal) ℓ) (c : Dev nD)

/-- The arguments on core `c`: the projections. -/
abbrev X : Proj := m ((c : Thread nD τ).loc main_arg0)

/-- The point's context. -/
def ctx (t : Fin cfg0.N) : Fin 32 := ⟨(grid0.coords t 0).val, (grid0.coords t 0).isLt⟩

theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, 0] := (by decide +kernel : ∀ t : Fin grid0.N, win0_1.index t = ![0, 0])
theorem e2 : ∀ t : Fin cfg0.N, win0_2.index t = ![(grid0.coords t 0).val, 0] :=
  (by decide +kernel : ∀ t : Fin grid0.N, win0_2.index t = ![(grid0.coords t 0).val, 0])

theorem rows (t : Fin cfg0.N) (r : Fin 256) (x : Fin 3072) :
    (iblk m c 0 t : Vec Ideal S256x3072 .bf16) (ix2 r x) = X m c (ix2 (crow (ctx t) r) x) := by
  blk_simp [iblk]
  rw [V_main_arg0]
  unfold crow ctx
  blk_ext [e0]

theorem V_cst : V m c main_cst = (fun i => FloatOps.ofBits (F := Ideal) .bf16 (lit0 (S2x128.rowMajor i)) : FVec Ideal S2x128 .bf16) := by
  unfold V hostOps0
  after_results_simp <;> rfl

theorem lit_eq : ∀ i : Fin 256, lit0 i = if (i.val < 64 ∨ 192 ≤ i.val) then 0x3F80#16 else 0x0000#16 := by decide +kernel

theorem lit_at (i : Fin 256) (n : ℕ) (h : i.val = n) : lit0 i = if (n < 64 ∨ 192 ≤ n) then 0x3F80#16 else 0x0000#16 := by
  subst h; exact lit_eq i

/-- Half `p`'s mask: one on the half's lanes, zero elsewhere. -/
theorem masks (t : Fin cfg0.N) (p : Fin 2) (x : Fin 128) :
    (iblk m c 1 t : Vec Ideal S2x128 .bf16) (ix2 p x) = if x.val / 64 = p.val then (1 : EReal) else (0 : EReal) := by
  have h : (iblk m c 1 t : Vec Ideal S2x128 .bf16) (ix2 p x) = V m c main_cst (ix2 p x) := by
    blk_simp [iblk]
    blk_ext [e1]
  rw [h, V_cst]
  have hr : (S2x128.rowMajor (ix2 p x)).val = p * 128 + x := by rw [Shape.rowMajor_val_two]; rfl
  show Ideal.ofBits .bf16 (lit0 (S2x128.rowMajor (ix2 p x))) = _
  refine (congrArg (Ideal.ofBits .bf16) (lit_at _ _ hr)).trans ?_
  split <;> split <;> first | exact ofBits_one | exact ofBits_zero | omega

/-- One half of a block computed from these rows of the arguments, entry by entry. -/
theorem entry_of {X : Proj} {b : Fin 32} {h : Fin 8} {r : Fin 256} (x0 : Vec Ideal S256x3072 .bf16) (x1 : Vec Ideal S2x128 .bf16)
    (h0 : ∀ j y, x0 (ix2 j y) = X (ix2 (crow b j) y))
    (h1 : ∀ p y, x1 (ix2 p y) = if y.val / 64 = p.val then (1 : EReal) else (0 : EReal))
    (p : Fin 2) {σ : ℕ → ℝ} (B : ℝ) (hσ : ∀ j : Fin 256, cscore X p b h r j = (σ j : EReal)) (y : Fin 64) :
    Block.kentry x0 x1 h r (lane p y) = attend 256 σ B (cvalue X b h (lane p y)) := by
  have hh : Block.khalf x0 x1 p h r (lane p y) = attend 256 σ B (cvalue X b h (lane p y)) := by
    refine quotient_eq (by norm_num) _ _ (fun j => ?_) (fun j => ?_) B
    · refine (masked_dot (fun y => x1 (ix2 p y)) p (h1 p) (fun y => x0 (ix2 r (col 0 h y))) (fun y => x0 (ix2 j (col 1 h y)))).trans ?_
      rw [← hσ]
      unfold cscore
      exact Finset.sum_congr rfl fun y _ => congrArg₂ (· * ·) (h0 _ _) (h0 _ _)
    · refine (h0 _ _).trans ?_
      unfold cvalue
      rw [dif_pos j.isLt]
  unfold Block.kentry
  rcases (by omega : p.val = 0 ∨ p.val = 1) with hp | hp
  · have e : p = 0 := Fin.ext hp
    subst e
    rw [if_pos (by simp only [lane]; omega), hh]
  · have e : p = 1 := Fin.ext hp
    subst e
    rw [if_neg (by simp only [lane]; omega), hh]

/-- The result array after the run, as the reference's term of the argument array. -/
theorem out (H : CFinite (X m c)) :
    (dats m 0 c).arrAt 2 cfg0.N = Cert.PlainContextAttentionReferenceIdeal.Read.val_main_v23 (F := Ideal) (X m c) := by
  refine (dats m 0 c).arrAt_eq_of_covers 2 _ (by decide +kernel) fun t hf y => ?_
  blk_simp
  rw [after0_2]
  revert y
  show ∀ y : S256x1024.Idx, _
  intro y
  obtain ⟨r, h, p, x, rfl⟩ : ∃ (r : Fin 256) (h : Fin 8) (p : Fin 2) (x : Fin 64), y = ix2 r (ocol h (lane p x)) :=
    ⟨y 0, ⟨(y 1).val / 128, by have := (y 1).isLt; change (y 1).val < 1024 at this; omega⟩, ⟨(y 1).val / 64 % 2, by omega⟩,
      ⟨(y 1).val % 64, by omega⟩, by
      funext a
      fin_cases a
      · rfl
      · exact Fin.ext (by show (y 1).val = (y 1).val / 128 * 128 + ((y 1).val / 64 % 2 * 64 + (y 1).val % 64); omega)⟩
  obtain ⟨σ, hσ⟩ := cscore_real H p (ctx t) h r
  obtain ⟨B, hB⟩ := Cert.PlainContextAttentionReferenceIdeal.Entry.result (X m c) (ctx t) r h p hσ
  have hemb : ((cfg0.win 2).blk t).view.emb (ix2 r (ocol h (lane p x))) = ix2 (crow (ctx t) r) ⟨h.val * 128 + lane p x, by omega⟩ := by
    unfold crow ctx ocol
    blk_ext [e2]
  have hk : out0_2 (iblk m c 0 t) (iblk m c 1 t) (ix2 r (ocol h (lane p x))) = attend 256 σ B (cvalue (X m c) (ctx t) h (lane p x)) :=
    (Block.canon2 _ _ _).trans ((Block.E_ocol _ _ r h (lane p x)).trans
      (entry_of (iblk m c 0 t) (iblk m c 1 t) (rows m c t) (masks m c t) p B hσ x))
  refine hk.trans ((hB x).symm.trans ?_)
  exact congrArg (Cert.PlainContextAttentionReferenceIdeal.Read.val_main_v23 (F := Ideal) (X m c)) hemb.symm

end Cert.PlainContextAttentionIdeal.Final

end
-- ==== Proof.lean ====
/- The certificate: each program terminates without fault, keeps its arguments and leaves every semaphore counter at
   zero; each ideal program is its kernel over the extended reals; and the kernels' results are the references', of the
   latents' attention from real queries and keys, of the projections and of the rows in front of the experts from any arguments. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_queries_and_keys
public import proofs.«01_k».proof.Proof.Gen.Pre_finite_context_queries_and_keys
public import proofs.«01_k».proof.Proof.Finite
public import proofs.«01_k».proof.Proof.Value
public import Idealize.ShloMosaic.Lib.Claim
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.ProjectReferenceIdeal.Read
public import proofs.«01_k».proof.Proof.ProjectValue
public import proofs.«01_k».proof.Proof.Gen.LatentProject
public import proofs.«01_k».proof.Proof.Gen.LatentProject.Skeleton
public import proofs.«01_k».proof.Proof.Gen.LatentProject.Launch
public import proofs.«01_k».proof.Proof.Gen.LatentProject.Points
public import proofs.«01_k».proof.Proof.Gen.LatentProject.Frame
public import proofs.«01_k».proof.Proof.Gen.LatentProjectIdeal
public import proofs.«01_k».proof.Proof.Gen.LatentProjectIdeal.Skeleton
public import proofs.«01_k».proof.Proof.Gen.LatentProjectIdeal.Launch
public import proofs.«01_k».proof.Proof.Gen.LatentProjectIdeal.Points
public import proofs.«01_k».proof.Proof.Gen.LatentProjectIdeal.Frame
public import proofs.«01_k».proof.Proof.Gen.LatentProjectIdeal.Value
public import proofs.«01_k».proof.Proof.Gen.LatentProjectReferenceIdeal
public import proofs.«01_k».proof.Proof.Gen.LatentProjectReferenceIdeal.Run
public import proofs.«01_k».proof.Proof.Gen.LatentProjectReferenceIdeal.Read
public import proofs.«01_k».proof.Proof.LatentProjectValue
public import proofs.«01_k».proof.Proof.Gen.RotatedProject
public import proofs.«01_k».proof.Proof.Gen.RotatedProject.Skeleton
public import proofs.«01_k».proof.Proof.Gen.RotatedProject.Launch
public import proofs.«01_k».proof.Proof.Gen.RotatedProject.Points
public import proofs.«01_k».proof.Proof.Gen.RotatedProject.Frame
public import proofs.«01_k».proof.Proof.Gen.RotatedProjectIdeal
public import proofs.«01_k».proof.Proof.Gen.RotatedProjectIdeal.Skeleton
public import proofs.«01_k».proof.Proof.Gen.RotatedProjectIdeal.Launch
public import proofs.«01_k».proof.Proof.Gen.RotatedProjectIdeal.Points
public import proofs.«01_k».proof.Proof.Gen.RotatedProjectIdeal.Frame
public import proofs.«01_k».proof.Proof.Gen.RotatedProjectIdeal.Value
public import proofs.«01_k».proof.Proof.Gen.RotatedProjectReferenceIdeal
public import proofs.«01_k».proof.Proof.Gen.RotatedProjectReferenceIdeal.Run
public import proofs.«01_k».proof.Proof.Gen.RotatedProjectReferenceIdeal.Read
public import proofs.«01_k».proof.Proof.RotatedProjectValue
public import proofs.«01_k».proof.Proof.Gen.WindowProject
public import proofs.«01_k».proof.Proof.Gen.WindowProject.Skeleton
public import proofs.«01_k».proof.Proof.Gen.WindowProject.Launch
public import proofs.«01_k».proof.Proof.Gen.WindowProject.Points
public import proofs.«01_k».proof.Proof.Gen.WindowProject.Frame
public import proofs.«01_k».proof.Proof.Gen.WindowProjectIdeal
public import proofs.«01_k».proof.Proof.Gen.WindowProjectIdeal.Skeleton
public import proofs.«01_k».proof.Proof.Gen.WindowProjectIdeal.Launch
public import proofs.«01_k».proof.Proof.Gen.WindowProjectIdeal.Points
public import proofs.«01_k».proof.Proof.Gen.WindowProjectIdeal.Frame
public import proofs.«01_k».proof.Proof.Gen.WindowProjectIdeal.Value
public import proofs.«01_k».proof.Proof.Gen.WindowProjectReferenceIdeal
public import proofs.«01_k».proof.Proof.Gen.WindowProjectReferenceIdeal.Run
public import proofs.«01_k».proof.Proof.Gen.WindowProjectReferenceIdeal.Read
public import proofs.«01_k».proof.Proof.WindowProjectValue
public import proofs.«01_k».proof.Proof.Gen.RotatedWindowProject
public import proofs.«01_k».proof.Proof.Gen.RotatedWindowProject.Skeleton
public import proofs.«01_k».proof.Proof.Gen.RotatedWindowProject.Launch
public import proofs.«01_k».proof.Proof.Gen.RotatedWindowProject.Points
public import proofs.«01_k».proof.Proof.Gen.RotatedWindowProject.Frame
public import proofs.«01_k».proof.Proof.Gen.RotatedWindowProjectIdeal
public import proofs.«01_k».proof.Proof.Gen.RotatedWindowProjectIdeal.Skeleton
public import proofs.«01_k».proof.Proof.Gen.RotatedWindowProjectIdeal.Launch
public import proofs.«01_k».proof.Proof.Gen.RotatedWindowProjectIdeal.Points
public import proofs.«01_k».proof.Proof.Gen.RotatedWindowProjectIdeal.Frame
public import proofs.«01_k».proof.Proof.Gen.RotatedWindowProjectIdeal.Value
public import proofs.«01_k».proof.Proof.Gen.RotatedWindowProjectReferenceIdeal
public import proofs.«01_k».proof.Proof.Gen.RotatedWindowProjectReferenceIdeal.Run
public import proofs.«01_k».proof.Proof.Gen.RotatedWindowProjectReferenceIdeal.Read
public import proofs.«01_k».proof.Proof.RotatedWindowProjectValue
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteIdeal.Value
public import proofs.«01_k».proof.Proof.Gen.RouteReferenceIdeal
public import proofs.«01_k».proof.Proof.Gen.RouteReferenceIdeal.Run
public import proofs.«01_k».proof.Proof.Gen.RouteReferenceIdeal.Read
public import proofs.«01_k».proof.Proof.RouteValue
public import proofs.«01_k».proof.Proof.Gen.ContextAttention
public import proofs.«01_k».proof.Proof.Gen.ContextAttention.Skeleton
public import proofs.«01_k».proof.Proof.Gen.ContextAttention.Launch
public import proofs.«01_k».proof.Proof.Gen.ContextAttention.Points
public import proofs.«01_k».proof.Proof.Gen.ContextAttention.Frame
public import proofs.«01_k».proof.Proof.Gen.ContextAttentionIdeal
public import proofs.«01_k».proof.Proof.Gen.ContextAttentionIdeal.Skeleton
public import proofs.«01_k».proof.Proof.Gen.ContextAttentionIdeal.Launch
public import proofs.«01_k».proof.Proof.Gen.ContextAttentionIdeal.Points
public import proofs.«01_k».proof.Proof.Gen.ContextAttentionIdeal.Frame
public import proofs.«01_k».proof.Proof.Gen.ContextAttentionIdeal.Value
public import proofs.«01_k».proof.Proof.Gen.ContextAttentionReferenceIdeal
public import proofs.«01_k».proof.Proof.Gen.ContextAttentionReferenceIdeal.Run
public import proofs.«01_k».proof.Proof.Gen.ContextAttentionReferenceIdeal.Read
public import proofs.«01_k».proof.Proof.ContextFinite
public import proofs.«01_k».proof.Proof.ContextValue
public import proofs.«01_k».proof.Proof.Gen.PlainContextAttention
public import proofs.«01_k».proof.Proof.Gen.PlainContextAttention.Skeleton
public import proofs.«01_k».proof.Proof.Gen.PlainContextAttention.Launch
public import proofs.«01_k».proof.Proof.Gen.PlainContextAttention.Points
public import proofs.«01_k».proof.Proof.Gen.PlainContextAttention.Frame
public import proofs.«01_k».proof.Proof.Gen.PlainContextAttentionIdeal
public import proofs.«01_k».proof.Proof.Gen.PlainContextAttentionIdeal.Skeleton
public import proofs.«01_k».proof.Proof.Gen.PlainContextAttentionIdeal.Launch
public import proofs.«01_k».proof.Proof.Gen.PlainContextAttentionIdeal.Points
public import proofs.«01_k».proof.Proof.Gen.PlainContextAttentionIdeal.Frame
public import proofs.«01_k».proof.Proof.Gen.PlainContextAttentionIdeal.Value
public import proofs.«01_k».proof.Proof.Gen.PlainContextAttentionReferenceIdeal
public import proofs.«01_k».proof.Proof.Gen.PlainContextAttentionReferenceIdeal.Run
public import proofs.«01_k».proof.Proof.Gen.PlainContextAttentionReferenceIdeal.Read
public import proofs.«01_k».proof.Proof.Gen.Pre_finite_plain_queries_and_keys
public import proofs.«01_k».proof.Proof.PlainContextFinite
public import proofs.«01_k».proof.Proof.PlainContextValue
public import Idealize.ShloMosaic.Adequacy
public import Idealize.ShloMosaic.Init

@[expose] public section

noncomputable section

namespace Cert.Proof

open Idealize.ShloMosaic Idealize.SL.Sem

/-- The reference of the latents' attention runs, keeps its arguments, and has no semaphore to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- From real queries and keys the latents' attention and its reference end with the same array. -/
theorem latent_attention : Cert.algebraic_KernelIdeal_ReferenceIdeal_pre_finite_queries_and_keys := by
  intro m g m' g' hpre hagree
  refine ⟨fun c => Cert.ReferenceIdeal.Read.val_main_v99 (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.KernelIdeal.Value.run_blocks (F := Ideal) m g)
    exact Cert.KernelIdeal.Value.final m c (Cert.Latent.finite_of_pre _ _ _ _ _ (hpre c).1 (hpre c).2)
  · refine (θ_run Cert.ReferenceIdeal.defs _ _).mono (fun r h c => ⟨(h c).1.trans ?_, (h c).2⟩) (Cert.ReferenceIdeal.Value.run (F := Ideal) m' g')
    refine (Cert.ReferenceIdeal.Read.val_main_v99_eq (F := Ideal) (StableHlo.launchContents m' c)).trans ?_
    show Cert.ReferenceIdeal.Read.val_main_v99 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    obtain ⟨h0, h1, h2, h3, h4⟩ := hagree c
    rw [h0, h1, h2, h3, h4]

/-- The reference of this projection runs, keeps its arguments, and has no semaphore to leave raised. -/
theorem projection_reference_frame (m : (ℓ : Loc Cert.ProjectReferenceIdeal.nD Cert.ProjectReferenceIdeal.τ Cert.ProjectReferenceIdeal.sig) → Buf (Elt Ideal) ℓ)
    (g : Dev Cert.ProjectReferenceIdeal.nD → PrngReg) :
    θ_run (Cert.ProjectReferenceIdeal.defs (F := Ideal)) (onTc (τ := Cert.ProjectReferenceIdeal.τ) (Cert.ProjectReferenceIdeal.main (F := Ideal))) ⟨m, fun _ => 0, g⟩
      (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5))
      ∧ r.2.sem = fun _ => 0) :=
  (θ_run Cert.ProjectReferenceIdeal.defs _ _).mono (fun r h => ⟨fun c => (h c).2.2.2, sem_eq_zero_of_no_sems (by decide) r.2⟩)
    (Cert.ProjectReferenceIdeal.Value.run (F := Ideal) m g)

/-- The contexts' projection and its reference end with the same three arrays. -/
theorem projection : Cert.algebraic_ProjectIdeal_ProjectReferenceIdeal := by
  intro m g m' g' _ hagree
  refine ⟨fun c => Cert.ProjectReferenceIdeal.Read.val_main_v65 (F := Ideal) (m ((c.tc : Thread Cert.ProjectIdeal.nD Cert.ProjectIdeal.τ).loc Cert.ProjectIdeal.main_arg0))
      (m ((c.tc : Thread Cert.ProjectIdeal.nD Cert.ProjectIdeal.τ).loc Cert.ProjectIdeal.main_arg1))
      (m ((c.tc : Thread Cert.ProjectIdeal.nD Cert.ProjectIdeal.τ).loc Cert.ProjectIdeal.main_arg2))
      (m ((c.tc : Thread Cert.ProjectIdeal.nD Cert.ProjectIdeal.τ).loc Cert.ProjectIdeal.main_arg3))
      (m ((c.tc : Thread Cert.ProjectIdeal.nD Cert.ProjectIdeal.τ).loc Cert.ProjectIdeal.main_arg4))
      (m ((c.tc : Thread Cert.ProjectIdeal.nD Cert.ProjectIdeal.τ).loc Cert.ProjectIdeal.main_arg5)),
    fun c => Cert.ProjectReferenceIdeal.Read.val_main_v62 (F := Ideal) (m ((c.tc : Thread Cert.ProjectIdeal.nD Cert.ProjectIdeal.τ).loc Cert.ProjectIdeal.main_arg0))
      (m ((c.tc : Thread Cert.ProjectIdeal.nD Cert.ProjectIdeal.τ).loc Cert.ProjectIdeal.main_arg1))
      (m ((c.tc : Thread Cert.ProjectIdeal.nD Cert.ProjectIdeal.τ).loc Cert.ProjectIdeal.main_arg2))
      (m ((c.tc : Thread Cert.ProjectIdeal.nD Cert.ProjectIdeal.τ).loc Cert.ProjectIdeal.main_arg3))
      (m ((c.tc : Thread Cert.ProjectIdeal.nD Cert.ProjectIdeal.τ).loc Cert.ProjectIdeal.main_arg5)),
    fun c => Cert.ProjectReferenceIdeal.Read.val_main_v63 (F := Ideal) (m ((c.tc : Thread Cert.ProjectIdeal.nD Cert.ProjectIdeal.τ).loc Cert.ProjectIdeal.main_arg0))
      (m ((c.tc : Thread Cert.ProjectIdeal.nD Cert.ProjectIdeal.τ).loc Cert.ProjectIdeal.main_arg1))
      (m ((c.tc : Thread Cert.ProjectIdeal.nD Cert.ProjectIdeal.τ).loc Cert.ProjectIdeal.main_arg2))
      (m ((c.tc : Thread Cert.ProjectIdeal.nD Cert.ProjectIdeal.τ).loc Cert.ProjectIdeal.main_arg3)), ?_, ?_⟩
  · exact (θ_run Cert.ProjectIdeal.defs _ _).mono (fun r h c => ⟨(h c).1.trans (Cert.ProjectIdeal.Final.out7 m c),
      (h c).2.1.trans (Cert.ProjectIdeal.Final.out8 m c),
      (h c).2.2.1.trans (Cert.ProjectIdeal.Final.out9 m c),
      (h c).2.2.2⟩)
      (Cert.ProjectIdeal.Value.run_blocks (F := Ideal) m g)
  · refine (θ_run Cert.ProjectReferenceIdeal.defs _ _).mono (fun r h c => ⟨(h c).1.trans ?_, (h c).2.1.trans ?_, (h c).2.2.1.trans ?_, (h c).2.2.2⟩) (Cert.ProjectReferenceIdeal.Value.run (F := Ideal) m' g')
    · refine (Cert.ProjectReferenceIdeal.Read.val_main_v65_eq (F := Ideal) m' c).trans ?_
      obtain ⟨h0, h1, h2, h3, h4, h5⟩ := hagree c
      rw [h0, h1, h2, h3, h4, h5]
    · refine (Cert.ProjectReferenceIdeal.Read.val_main_v62_eq (F := Ideal) m' c).trans ?_
      obtain ⟨h0, h1, h2, h3, h4, h5⟩ := hagree c
      rw [h0, h1, h2, h3, h5]
    · refine (Cert.ProjectReferenceIdeal.Read.val_main_v63_eq (F := Ideal) _ _ _ _).trans ?_
      obtain ⟨h0, h1, h2, h3, h4, h5⟩ := hagree c
      rw [h0, h1, h2, h3]

/-- The reference of this projection runs, keeps its arguments, and has no semaphore to leave raised. -/
theorem latent_projection_reference_frame (m : (ℓ : Loc Cert.LatentProjectReferenceIdeal.nD Cert.LatentProjectReferenceIdeal.τ Cert.LatentProjectReferenceIdeal.sig) → Buf (Elt Ideal) ℓ)
    (g : Dev Cert.LatentProjectReferenceIdeal.nD → PrngReg) :
    θ_run (Cert.LatentProjectReferenceIdeal.defs (F := Ideal)) (onTc (τ := Cert.LatentProjectReferenceIdeal.τ) (Cert.LatentProjectReferenceIdeal.main (F := Ideal))) ⟨m, fun _ => 0, g⟩
      (fun r => (∀ c : Dev Cert.LatentProjectReferenceIdeal.nD,
      r.2.mem ((c.tc : Thread Cert.LatentProjectReferenceIdeal.nD Cert.LatentProjectReferenceIdeal.τ).loc Cert.LatentProjectReferenceIdeal.main_arg0) = m ((c.tc : Thread Cert.LatentProjectReferenceIdeal.nD Cert.LatentProjectReferenceIdeal.τ).loc Cert.LatentProjectReferenceIdeal.main_arg0)
      ∧ r.2.mem ((c.tc : Thread Cert.LatentProjectReferenceIdeal.nD Cert.LatentProjectReferenceIdeal.τ).loc Cert.LatentProjectReferenceIdeal.main_arg1) = m ((c.tc : Thread Cert.LatentProjectReferenceIdeal.nD Cert.LatentProjectReferenceIdeal.τ).loc Cert.LatentProjectReferenceIdeal.main_arg1)
      ∧ r.2.mem ((c.tc : Thread Cert.LatentProjectReferenceIdeal.nD Cert.LatentProjectReferenceIdeal.τ).loc Cert.LatentProjectReferenceIdeal.main_arg2) = m ((c.tc : Thread Cert.LatentProjectReferenceIdeal.nD Cert.LatentProjectReferenceIdeal.τ).loc Cert.LatentProjectReferenceIdeal.main_arg2)
      ∧ r.2.mem ((c.tc : Thread Cert.LatentProjectReferenceIdeal.nD Cert.LatentProjectReferenceIdeal.τ).loc Cert.LatentProjectReferenceIdeal.main_arg3) = m ((c.tc : Thread Cert.LatentProjectReferenceIdeal.nD Cert.LatentProjectReferenceIdeal.τ).loc Cert.LatentProjectReferenceIdeal.main_arg3)
      ∧ r.2.mem ((c.tc : Thread Cert.LatentProjectReferenceIdeal.nD Cert.LatentProjectReferenceIdeal.τ).loc Cert.LatentProjectReferenceIdeal.main_arg4) = m ((c.tc : Thread Cert.LatentProjectReferenceIdeal.nD Cert.LatentProjectReferenceIdeal.τ).loc Cert.LatentProjectReferenceIdeal.main_arg4)
      ∧ r.2.mem ((c.tc : Thread Cert.LatentProjectReferenceIdeal.nD Cert.LatentProjectReferenceIdeal.τ).loc Cert.LatentProjectReferenceIdeal.main_arg5) = m ((c.tc : Thread Cert.LatentProjectReferenceIdeal.nD Cert.LatentProjectReferenceIdeal.τ).loc Cert.LatentProjectReferenceIdeal.main_arg5))
      ∧ r.2.sem = fun _ => 0) :=
  (θ_run Cert.LatentProjectReferenceIdeal.defs _ _).mono (fun r h => ⟨fun c => (h c).2, sem_eq_zero_of_no_sems (by decide) r.2⟩)
    (Cert.LatentProjectReferenceIdeal.Value.run (F := Ideal) m g)

/-- The latents' projection and its reference end with the same array. -/
theorem latent_projection : Cert.algebraic_LatentProjectIdeal_LatentProjectReferenceIdeal := by
  intro m g m' g' _ hagree
  refine ⟨fun c => Cert.LatentProjectReferenceIdeal.Read.val_main_v65 (F := Ideal) (m ((c.tc : Thread Cert.LatentProjectIdeal.nD Cert.LatentProjectIdeal.τ).loc Cert.LatentProjectIdeal.main_arg0))
      (m ((c.tc : Thread Cert.LatentProjectIdeal.nD Cert.LatentProjectIdeal.τ).loc Cert.LatentProjectIdeal.main_arg1))
      (m ((c.tc : Thread Cert.LatentProjectIdeal.nD Cert.LatentProjectIdeal.τ).loc Cert.LatentProjectIdeal.main_arg2))
      (m ((c.tc : Thread Cert.LatentProjectIdeal.nD Cert.LatentProjectIdeal.τ).loc Cert.LatentProjectIdeal.main_arg3))
      (m ((c.tc : Thread Cert.LatentProjectIdeal.nD Cert.LatentProjectIdeal.τ).loc Cert.LatentProjectIdeal.main_arg4))
      (m ((c.tc : Thread Cert.LatentProjectIdeal.nD Cert.LatentProjectIdeal.τ).loc Cert.LatentProjectIdeal.main_arg5)), ?_, ?_⟩
  · exact (θ_run Cert.LatentProjectIdeal.defs _ _).mono (fun r h c => ⟨(h c).1.trans (Cert.LatentProjectIdeal.Final.out7 m c),
      (h c).2⟩)
      (Cert.LatentProjectIdeal.Value.run_blocks (F := Ideal) m g)
  · refine (θ_run Cert.LatentProjectReferenceIdeal.defs _ _).mono (fun r h c => ⟨(h c).1.trans ?_, (h c).2⟩) (Cert.LatentProjectReferenceIdeal.Value.run (F := Ideal) m' g')
    · refine (Cert.LatentProjectReferenceIdeal.Read.val_main_v65_eq (F := Ideal) m' c).trans ?_
      obtain ⟨h0, h1, h2, h3, h4, h5⟩ := hagree c
      rw [h0, h1, h2, h3, h4, h5]

/-- The reference of this projection runs, keeps its arguments, and has no semaphore to leave raised. -/
theorem rotated_projection_reference_frame (m : (ℓ : Loc Cert.RotatedProjectReferenceIdeal.nD Cert.RotatedProjectReferenceIdeal.τ Cert.RotatedProjectReferenceIdeal.sig) → Buf (Elt Ideal) ℓ)
    (g : Dev Cert.RotatedProjectReferenceIdeal.nD → PrngReg) :
    θ_run (Cert.RotatedProjectReferenceIdeal.defs (F := Ideal)) (onTc (τ := Cert.RotatedProjectReferenceIdeal.τ) (Cert.RotatedProjectReferenceIdeal.main (F := Ideal))) ⟨m, fun _ => 0, g⟩
      (fun r => (∀ c : Dev Cert.RotatedProjectReferenceIdeal.nD,
      r.2.mem ((c.tc : Thread Cert.RotatedProjectReferenceIdeal.nD Cert.RotatedProjectReferenceIdeal.τ).loc Cert.RotatedProjectReferenceIdeal.main_arg0) = m ((c.tc : Thread Cert.RotatedProjectReferenceIdeal.nD Cert.RotatedProjectReferenceIdeal.τ).loc Cert.RotatedProjectReferenceIdeal.main_arg0)
      ∧ r.2.mem ((c.tc : Thread Cert.RotatedProjectReferenceIdeal.nD Cert.RotatedProjectReferenceIdeal.τ).loc Cert.RotatedProjectReferenceIdeal.main_arg1) = m ((c.tc : Thread Cert.RotatedProjectReferenceIdeal.nD Cert.RotatedProjectReferenceIdeal.τ).loc Cert.RotatedProjectReferenceIdeal.main_arg1)
      ∧ r.2.mem ((c.tc : Thread Cert.RotatedProjectReferenceIdeal.nD Cert.RotatedProjectReferenceIdeal.τ).loc Cert.RotatedProjectReferenceIdeal.main_arg2) = m ((c.tc : Thread Cert.RotatedProjectReferenceIdeal.nD Cert.RotatedProjectReferenceIdeal.τ).loc Cert.RotatedProjectReferenceIdeal.main_arg2)
      ∧ r.2.mem ((c.tc : Thread Cert.RotatedProjectReferenceIdeal.nD Cert.RotatedProjectReferenceIdeal.τ).loc Cert.RotatedProjectReferenceIdeal.main_arg3) = m ((c.tc : Thread Cert.RotatedProjectReferenceIdeal.nD Cert.RotatedProjectReferenceIdeal.τ).loc Cert.RotatedProjectReferenceIdeal.main_arg3)
      ∧ r.2.mem ((c.tc : Thread Cert.RotatedProjectReferenceIdeal.nD Cert.RotatedProjectReferenceIdeal.τ).loc Cert.RotatedProjectReferenceIdeal.main_arg4) = m ((c.tc : Thread Cert.RotatedProjectReferenceIdeal.nD Cert.RotatedProjectReferenceIdeal.τ).loc Cert.RotatedProjectReferenceIdeal.main_arg4)
      ∧ r.2.mem ((c.tc : Thread Cert.RotatedProjectReferenceIdeal.nD Cert.RotatedProjectReferenceIdeal.τ).loc Cert.RotatedProjectReferenceIdeal.main_arg5) = m ((c.tc : Thread Cert.RotatedProjectReferenceIdeal.nD Cert.RotatedProjectReferenceIdeal.τ).loc Cert.RotatedProjectReferenceIdeal.main_arg5)
      ∧ r.2.mem ((c.tc : Thread Cert.RotatedProjectReferenceIdeal.nD Cert.RotatedProjectReferenceIdeal.τ).loc Cert.RotatedProjectReferenceIdeal.main_arg6) = m ((c.tc : Thread Cert.RotatedProjectReferenceIdeal.nD Cert.RotatedProjectReferenceIdeal.τ).loc Cert.RotatedProjectReferenceIdeal.main_arg6)
      ∧ r.2.mem ((c.tc : Thread Cert.RotatedProjectReferenceIdeal.nD Cert.RotatedProjectReferenceIdeal.τ).loc Cert.RotatedProjectReferenceIdeal.main_arg7) = m ((c.tc : Thread Cert.RotatedProjectReferenceIdeal.nD Cert.RotatedProjectReferenceIdeal.τ).loc Cert.RotatedProjectReferenceIdeal.main_arg7))
      ∧ r.2.sem = fun _ => 0) :=
  (θ_run Cert.RotatedProjectReferenceIdeal.defs _ _).mono (fun r h => ⟨fun c => (h c).2, sem_eq_zero_of_no_sems (by decide) r.2⟩)
    (Cert.RotatedProjectReferenceIdeal.Value.run (F := Ideal) m g)

/-- The latents' rotated projection and its reference end with the same array. -/
theorem rotated_projection : Cert.algebraic_RotatedProjectIdeal_RotatedProjectReferenceIdeal := by
  intro m g m' g' _ hagree
  refine ⟨fun c => Cert.RotatedProjectReferenceIdeal.Read.val_main_v101 (F := Ideal) (m ((c.tc : Thread Cert.RotatedProjectIdeal.nD Cert.RotatedProjectIdeal.τ).loc Cert.RotatedProjectIdeal.main_arg0))
      (m ((c.tc : Thread Cert.RotatedProjectIdeal.nD Cert.RotatedProjectIdeal.τ).loc Cert.RotatedProjectIdeal.main_arg1))
      (m ((c.tc : Thread Cert.RotatedProjectIdeal.nD Cert.RotatedProjectIdeal.τ).loc Cert.RotatedProjectIdeal.main_arg2))
      (m ((c.tc : Thread Cert.RotatedProjectIdeal.nD Cert.RotatedProjectIdeal.τ).loc Cert.RotatedProjectIdeal.main_arg3))
      (m ((c.tc : Thread Cert.RotatedProjectIdeal.nD Cert.RotatedProjectIdeal.τ).loc Cert.RotatedProjectIdeal.main_arg4))
      (m ((c.tc : Thread Cert.RotatedProjectIdeal.nD Cert.RotatedProjectIdeal.τ).loc Cert.RotatedProjectIdeal.main_arg5))
      (m ((c.tc : Thread Cert.RotatedProjectIdeal.nD Cert.RotatedProjectIdeal.τ).loc Cert.RotatedProjectIdeal.main_arg6))
      (m ((c.tc : Thread Cert.RotatedProjectIdeal.nD Cert.RotatedProjectIdeal.τ).loc Cert.RotatedProjectIdeal.main_arg7)), ?_, ?_⟩
  · exact (θ_run Cert.RotatedProjectIdeal.defs _ _).mono (fun r h c => ⟨(h c).1.trans (Cert.RotatedProjectIdeal.Final.out10 m c),
      (h c).2⟩)
      (Cert.RotatedProjectIdeal.Value.run_blocks (F := Ideal) m g)
  · refine (θ_run Cert.RotatedProjectReferenceIdeal.defs _ _).mono (fun r h c => ⟨(h c).1.trans ?_, (h c).2⟩) (Cert.RotatedProjectReferenceIdeal.Value.run (F := Ideal) m' g')
    · refine (Cert.RotatedProjectReferenceIdeal.Read.val_main_v101_eq (F := Ideal) m' c).trans ?_
      obtain ⟨h0, h1, h2, h3, h4, h5, h6, h7⟩ := hagree c
      rw [h0, h1, h2, h3, h4, h5, h6, h7]

/-- The reference of this projection runs, keeps its arguments, and has no semaphore to leave raised. -/
theorem window_projection_reference_frame (m : (ℓ : Loc Cert.WindowProjectReferenceIdeal.nD Cert.WindowProjectReferenceIdeal.τ Cert.WindowProjectReferenceIdeal.sig) → Buf (Elt Ideal) ℓ)
    (g : Dev Cert.WindowProjectReferenceIdeal.nD → PrngReg) :
    θ_run (Cert.WindowProjectReferenceIdeal.defs (F := Ideal)) (onTc (τ := Cert.WindowProjectReferenceIdeal.τ) (Cert.WindowProjectReferenceIdeal.main (F := Ideal))) ⟨m, fun _ => 0, g⟩
      (fun r => (∀ c : Dev Cert.WindowProjectReferenceIdeal.nD,
      r.2.mem ((c.tc : Thread Cert.WindowProjectReferenceIdeal.nD Cert.WindowProjectReferenceIdeal.τ).loc Cert.WindowProjectReferenceIdeal.main_arg0) = m ((c.tc : Thread Cert.WindowProjectReferenceIdeal.nD Cert.WindowProjectReferenceIdeal.τ).loc Cert.WindowProjectReferenceIdeal.main_arg0)
      ∧ r.2.mem ((c.tc : Thread Cert.WindowProjectReferenceIdeal.nD Cert.WindowProjectReferenceIdeal.τ).loc Cert.WindowProjectReferenceIdeal.main_arg1) = m ((c.tc : Thread Cert.WindowProjectReferenceIdeal.nD Cert.WindowProjectReferenceIdeal.τ).loc Cert.WindowProjectReferenceIdeal.main_arg1)
      ∧ r.2.mem ((c.tc : Thread Cert.WindowProjectReferenceIdeal.nD Cert.WindowProjectReferenceIdeal.τ).loc Cert.WindowProjectReferenceIdeal.main_arg2) = m ((c.tc : Thread Cert.WindowProjectReferenceIdeal.nD Cert.WindowProjectReferenceIdeal.τ).loc Cert.WindowProjectReferenceIdeal.main_arg2)
      ∧ r.2.mem ((c.tc : Thread Cert.WindowProjectReferenceIdeal.nD Cert.WindowProjectReferenceIdeal.τ).loc Cert.WindowProjectReferenceIdeal.main_arg3) = m ((c.tc : Thread Cert.WindowProjectReferenceIdeal.nD Cert.WindowProjectReferenceIdeal.τ).loc Cert.WindowProjectReferenceIdeal.main_arg3)
      ∧ r.2.mem ((c.tc : Thread Cert.WindowProjectReferenceIdeal.nD Cert.WindowProjectReferenceIdeal.τ).loc Cert.WindowProjectReferenceIdeal.main_arg4) = m ((c.tc : Thread Cert.WindowProjectReferenceIdeal.nD Cert.WindowProjectReferenceIdeal.τ).loc Cert.WindowProjectReferenceIdeal.main_arg4)
      ∧ r.2.mem ((c.tc : Thread Cert.WindowProjectReferenceIdeal.nD Cert.WindowProjectReferenceIdeal.τ).loc Cert.WindowProjectReferenceIdeal.main_arg5) = m ((c.tc : Thread Cert.WindowProjectReferenceIdeal.nD Cert.WindowProjectReferenceIdeal.τ).loc Cert.WindowProjectReferenceIdeal.main_arg5))
      ∧ r.2.sem = fun _ => 0) :=
  (θ_run Cert.WindowProjectReferenceIdeal.defs _ _).mono (fun r h => ⟨fun c => (h c).2.2.2, sem_eq_zero_of_no_sems (by decide) r.2⟩)
    (Cert.WindowProjectReferenceIdeal.Value.run (F := Ideal) m g)

/-- The contexts' windowed projection and its reference end with the same three arrays. -/
theorem window_projection : Cert.algebraic_WindowProjectIdeal_WindowProjectReferenceIdeal := by
  intro m g m' g' _ hagree
  refine ⟨fun c => Cert.WindowProjectReferenceIdeal.Read.val_main_v75 (F := Ideal) (m ((c.tc : Thread Cert.WindowProjectIdeal.nD Cert.WindowProjectIdeal.τ).loc Cert.WindowProjectIdeal.main_arg0))
      (m ((c.tc : Thread Cert.WindowProjectIdeal.nD Cert.WindowProjectIdeal.τ).loc Cert.WindowProjectIdeal.main_arg1))
      (m ((c.tc : Thread Cert.WindowProjectIdeal.nD Cert.WindowProjectIdeal.τ).loc Cert.WindowProjectIdeal.main_arg2))
      (m ((c.tc : Thread Cert.WindowProjectIdeal.nD Cert.WindowProjectIdeal.τ).loc Cert.WindowProjectIdeal.main_arg3))
      (m ((c.tc : Thread Cert.WindowProjectIdeal.nD Cert.WindowProjectIdeal.τ).loc Cert.WindowProjectIdeal.main_arg4))
      (m ((c.tc : Thread Cert.WindowProjectIdeal.nD Cert.WindowProjectIdeal.τ).loc Cert.WindowProjectIdeal.main_arg5)),
    fun c => Cert.WindowProjectReferenceIdeal.Read.val_main_v62 (F := Ideal) (m ((c.tc : Thread Cert.WindowProjectIdeal.nD Cert.WindowProjectIdeal.τ).loc Cert.WindowProjectIdeal.main_arg0))
      (m ((c.tc : Thread Cert.WindowProjectIdeal.nD Cert.WindowProjectIdeal.τ).loc Cert.WindowProjectIdeal.main_arg1))
      (m ((c.tc : Thread Cert.WindowProjectIdeal.nD Cert.WindowProjectIdeal.τ).loc Cert.WindowProjectIdeal.main_arg2))
      (m ((c.tc : Thread Cert.WindowProjectIdeal.nD Cert.WindowProjectIdeal.τ).loc Cert.WindowProjectIdeal.main_arg3))
      (m ((c.tc : Thread Cert.WindowProjectIdeal.nD Cert.WindowProjectIdeal.τ).loc Cert.WindowProjectIdeal.main_arg5)),
    fun c => Cert.WindowProjectReferenceIdeal.Read.val_main_v63 (F := Ideal) (m ((c.tc : Thread Cert.WindowProjectIdeal.nD Cert.WindowProjectIdeal.τ).loc Cert.WindowProjectIdeal.main_arg0))
      (m ((c.tc : Thread Cert.WindowProjectIdeal.nD Cert.WindowProjectIdeal.τ).loc Cert.WindowProjectIdeal.main_arg1))
      (m ((c.tc : Thread Cert.WindowProjectIdeal.nD Cert.WindowProjectIdeal.τ).loc Cert.WindowProjectIdeal.main_arg2))
      (m ((c.tc : Thread Cert.WindowProjectIdeal.nD Cert.WindowProjectIdeal.τ).loc Cert.WindowProjectIdeal.main_arg3)), ?_, ?_⟩
  · exact (θ_run Cert.WindowProjectIdeal.defs _ _).mono (fun r h c => ⟨(h c).1.trans (Cert.WindowProjectIdeal.Final.out7 m c),
      (h c).2.1.trans (Cert.WindowProjectIdeal.Final.out8 m c),
      (h c).2.2.1.trans (Cert.WindowProjectIdeal.Final.out9 m c),
      (h c).2.2.2⟩)
      (Cert.WindowProjectIdeal.Value.run_blocks (F := Ideal) m g)
  · refine (θ_run Cert.WindowProjectReferenceIdeal.defs _ _).mono (fun r h c => ⟨(h c).1.trans ?_, (h c).2.1.trans ?_, (h c).2.2.1.trans ?_, (h c).2.2.2⟩) (Cert.WindowProjectReferenceIdeal.Value.run (F := Ideal) m' g')
    · refine (Cert.WindowProjectReferenceIdeal.Read.val_main_v75_eq (F := Ideal) m' c).trans ?_
      obtain ⟨h0, h1, h2, h3, h4, h5⟩ := hagree c
      rw [h0, h1, h2, h3, h4, h5]
    · refine (Cert.WindowProjectReferenceIdeal.Read.val_main_v62_eq (F := Ideal) m' c).trans ?_
      obtain ⟨h0, h1, h2, h3, h4, h5⟩ := hagree c
      rw [h0, h1, h2, h3, h5]
    · refine (Cert.WindowProjectReferenceIdeal.Read.val_main_v63_eq (F := Ideal) _ _ _ _).trans ?_
      obtain ⟨h0, h1, h2, h3, h4, h5⟩ := hagree c
      rw [h0, h1, h2, h3]

/-- The reference of this projection runs, keeps its arguments, and has no semaphore to leave raised. -/
theorem rotated_window_projection_reference_frame (m : (ℓ : Loc Cert.RotatedWindowProjectReferenceIdeal.nD Cert.RotatedWindowProjectReferenceIdeal.τ Cert.RotatedWindowProjectReferenceIdeal.sig) → Buf (Elt Ideal) ℓ)
    (g : Dev Cert.RotatedWindowProjectReferenceIdeal.nD → PrngReg) :
    θ_run (Cert.RotatedWindowProjectReferenceIdeal.defs (F := Ideal)) (onTc (τ := Cert.RotatedWindowProjectReferenceIdeal.τ) (Cert.RotatedWindowProjectReferenceIdeal.main (F := Ideal))) ⟨m, fun _ => 0, g⟩
      (fun r => (∀ c : Dev Cert.RotatedWindowProjectReferenceIdeal.nD,
      r.2.mem ((c.tc : Thread Cert.RotatedWindowProjectReferenceIdeal.nD Cert.RotatedWindowProjectReferenceIdeal.τ).loc Cert.RotatedWindowProjectReferenceIdeal.main_arg0) = m ((c.tc : Thread Cert.RotatedWindowProjectReferenceIdeal.nD Cert.RotatedWindowProjectReferenceIdeal.τ).loc Cert.RotatedWindowProjectReferenceIdeal.main_arg0)
      ∧ r.2.mem ((c.tc : Thread Cert.RotatedWindowProjectReferenceIdeal.nD Cert.RotatedWindowProjectReferenceIdeal.τ).loc Cert.RotatedWindowProjectReferenceIdeal.main_arg1) = m ((c.tc : Thread Cert.RotatedWindowProjectReferenceIdeal.nD Cert.RotatedWindowProjectReferenceIdeal.τ).loc Cert.RotatedWindowProjectReferenceIdeal.main_arg1)
      ∧ r.2.mem ((c.tc : Thread Cert.RotatedWindowProjectReferenceIdeal.nD Cert.RotatedWindowProjectReferenceIdeal.τ).loc Cert.RotatedWindowProjectReferenceIdeal.main_arg2) = m ((c.tc : Thread Cert.RotatedWindowProjectReferenceIdeal.nD Cert.RotatedWindowProjectReferenceIdeal.τ).loc Cert.RotatedWindowProjectReferenceIdeal.main_arg2)
      ∧ r.2.mem ((c.tc : Thread Cert.RotatedWindowProjectReferenceIdeal.nD Cert.RotatedWindowProjectReferenceIdeal.τ).loc Cert.RotatedWindowProjectReferenceIdeal.main_arg3) = m ((c.tc : Thread Cert.RotatedWindowProjectReferenceIdeal.nD Cert.RotatedWindowProjectReferenceIdeal.τ).loc Cert.RotatedWindowProjectReferenceIdeal.main_arg3)
      ∧ r.2.mem ((c.tc : Thread Cert.RotatedWindowProjectReferenceIdeal.nD Cert.RotatedWindowProjectReferenceIdeal.τ).loc Cert.RotatedWindowProjectReferenceIdeal.main_arg4) = m ((c.tc : Thread Cert.RotatedWindowProjectReferenceIdeal.nD Cert.RotatedWindowProjectReferenceIdeal.τ).loc Cert.RotatedWindowProjectReferenceIdeal.main_arg4)
      ∧ r.2.mem ((c.tc : Thread Cert.RotatedWindowProjectReferenceIdeal.nD Cert.RotatedWindowProjectReferenceIdeal.τ).loc Cert.RotatedWindowProjectReferenceIdeal.main_arg5) = m ((c.tc : Thread Cert.RotatedWindowProjectReferenceIdeal.nD Cert.RotatedWindowProjectReferenceIdeal.τ).loc Cert.RotatedWindowProjectReferenceIdeal.main_arg5)
      ∧ r.2.mem ((c.tc : Thread Cert.RotatedWindowProjectReferenceIdeal.nD Cert.RotatedWindowProjectReferenceIdeal.τ).loc Cert.RotatedWindowProjectReferenceIdeal.main_arg6) = m ((c.tc : Thread Cert.RotatedWindowProjectReferenceIdeal.nD Cert.RotatedWindowProjectReferenceIdeal.τ).loc Cert.RotatedWindowProjectReferenceIdeal.main_arg6)
      ∧ r.2.mem ((c.tc : Thread Cert.RotatedWindowProjectReferenceIdeal.nD Cert.RotatedWindowProjectReferenceIdeal.τ).loc Cert.RotatedWindowProjectReferenceIdeal.main_arg7) = m ((c.tc : Thread Cert.RotatedWindowProjectReferenceIdeal.nD Cert.RotatedWindowProjectReferenceIdeal.τ).loc Cert.RotatedWindowProjectReferenceIdeal.main_arg7))
      ∧ r.2.sem = fun _ => 0) :=
  (θ_run Cert.RotatedWindowProjectReferenceIdeal.defs _ _).mono (fun r h => ⟨fun c => (h c).2, sem_eq_zero_of_no_sems (by decide) r.2⟩)
    (Cert.RotatedWindowProjectReferenceIdeal.Value.run (F := Ideal) m g)

/-- The latents' rotated windowed projection and its reference end with the same array. -/
theorem rotated_window_projection : Cert.algebraic_RotatedWindowProjectIdeal_RotatedWindowProjectReferenceIdeal := by
  intro m g m' g' _ hagree
  refine ⟨fun c => Cert.RotatedWindowProjectReferenceIdeal.Read.val_main_v111 (F := Ideal) (m ((c.tc : Thread Cert.RotatedWindowProjectIdeal.nD Cert.RotatedWindowProjectIdeal.τ).loc Cert.RotatedWindowProjectIdeal.main_arg0))
      (m ((c.tc : Thread Cert.RotatedWindowProjectIdeal.nD Cert.RotatedWindowProjectIdeal.τ).loc Cert.RotatedWindowProjectIdeal.main_arg1))
      (m ((c.tc : Thread Cert.RotatedWindowProjectIdeal.nD Cert.RotatedWindowProjectIdeal.τ).loc Cert.RotatedWindowProjectIdeal.main_arg2))
      (m ((c.tc : Thread Cert.RotatedWindowProjectIdeal.nD Cert.RotatedWindowProjectIdeal.τ).loc Cert.RotatedWindowProjectIdeal.main_arg3))
      (m ((c.tc : Thread Cert.RotatedWindowProjectIdeal.nD Cert.RotatedWindowProjectIdeal.τ).loc Cert.RotatedWindowProjectIdeal.main_arg4))
      (m ((c.tc : Thread Cert.RotatedWindowProjectIdeal.nD Cert.RotatedWindowProjectIdeal.τ).loc Cert.RotatedWindowProjectIdeal.main_arg5))
      (m ((c.tc : Thread Cert.RotatedWindowProjectIdeal.nD Cert.RotatedWindowProjectIdeal.τ).loc Cert.RotatedWindowProjectIdeal.main_arg6))
      (m ((c.tc : Thread Cert.RotatedWindowProjectIdeal.nD Cert.RotatedWindowProjectIdeal.τ).loc Cert.RotatedWindowProjectIdeal.main_arg7)), ?_, ?_⟩
  · exact (θ_run Cert.RotatedWindowProjectIdeal.defs _ _).mono (fun r h c => ⟨(h c).1.trans (Cert.RotatedWindowProjectIdeal.Final.out10 m c),
      (h c).2⟩)
      (Cert.RotatedWindowProjectIdeal.Value.run_blocks (F := Ideal) m g)
  · refine (θ_run Cert.RotatedWindowProjectReferenceIdeal.defs _ _).mono (fun r h c => ⟨(h c).1.trans ?_, (h c).2⟩) (Cert.RotatedWindowProjectReferenceIdeal.Value.run (F := Ideal) m' g')
    · refine (Cert.RotatedWindowProjectReferenceIdeal.Read.val_main_v111_eq (F := Ideal) _).trans ?_
      show Cert.RotatedWindowProjectReferenceIdeal.Read.val_main_v111 (F := Ideal) (m' ((c.tc : Thread Cert.RotatedWindowProjectReferenceIdeal.nD Cert.RotatedWindowProjectReferenceIdeal.τ).loc Cert.RotatedWindowProjectReferenceIdeal.main_arg0)) (m' ((c.tc : Thread Cert.RotatedWindowProjectReferenceIdeal.nD Cert.RotatedWindowProjectReferenceIdeal.τ).loc Cert.RotatedWindowProjectReferenceIdeal.main_arg1)) (m' ((c.tc : Thread Cert.RotatedWindowProjectReferenceIdeal.nD Cert.RotatedWindowProjectReferenceIdeal.τ).loc Cert.RotatedWindowProjectReferenceIdeal.main_arg2)) (m' ((c.tc : Thread Cert.RotatedWindowProjectReferenceIdeal.nD Cert.RotatedWindowProjectReferenceIdeal.τ).loc Cert.RotatedWindowProjectReferenceIdeal.main_arg3)) (m' ((c.tc : Thread Cert.RotatedWindowProjectReferenceIdeal.nD Cert.RotatedWindowProjectReferenceIdeal.τ).loc Cert.RotatedWindowProjectReferenceIdeal.main_arg4)) (m' ((c.tc : Thread Cert.RotatedWindowProjectReferenceIdeal.nD Cert.RotatedWindowProjectReferenceIdeal.τ).loc Cert.RotatedWindowProjectReferenceIdeal.main_arg5)) (m' ((c.tc : Thread Cert.RotatedWindowProjectReferenceIdeal.nD Cert.RotatedWindowProjectReferenceIdeal.τ).loc Cert.RotatedWindowProjectReferenceIdeal.main_arg6)) (m' ((c.tc : Thread Cert.RotatedWindowProjectReferenceIdeal.nD Cert.RotatedWindowProjectReferenceIdeal.τ).loc Cert.RotatedWindowProjectReferenceIdeal.main_arg7)) = _
      obtain ⟨h0, h1, h2, h3, h4, h5, h6, h7⟩ := hagree c
      rw [h0, h1, h2, h3, h4, h5, h6, h7]

/-- The reference of this projection runs, keeps its arguments, and has no semaphore to leave raised. -/
theorem output_projection_reference_frame (m : (ℓ : Loc Cert.RouteReferenceIdeal.nD Cert.RouteReferenceIdeal.τ Cert.RouteReferenceIdeal.sig) → Buf (Elt Ideal) ℓ)
    (g : Dev Cert.RouteReferenceIdeal.nD → PrngReg) :
    θ_run (Cert.RouteReferenceIdeal.defs (F := Ideal)) (onTc (τ := Cert.RouteReferenceIdeal.τ) (Cert.RouteReferenceIdeal.main (F := Ideal))) ⟨m, fun _ => 0, g⟩
      (fun r => (∀ c : Dev Cert.RouteReferenceIdeal.nD,
      r.2.mem ((c.tc : Thread Cert.RouteReferenceIdeal.nD Cert.RouteReferenceIdeal.τ).loc Cert.RouteReferenceIdeal.main_arg0) = m ((c.tc : Thread Cert.RouteReferenceIdeal.nD Cert.RouteReferenceIdeal.τ).loc Cert.RouteReferenceIdeal.main_arg0)
      ∧ r.2.mem ((c.tc : Thread Cert.RouteReferenceIdeal.nD Cert.RouteReferenceIdeal.τ).loc Cert.RouteReferenceIdeal.main_arg1) = m ((c.tc : Thread Cert.RouteReferenceIdeal.nD Cert.RouteReferenceIdeal.τ).loc Cert.RouteReferenceIdeal.main_arg1)
      ∧ r.2.mem ((c.tc : Thread Cert.RouteReferenceIdeal.nD Cert.RouteReferenceIdeal.τ).loc Cert.RouteReferenceIdeal.main_arg2) = m ((c.tc : Thread Cert.RouteReferenceIdeal.nD Cert.RouteReferenceIdeal.τ).loc Cert.RouteReferenceIdeal.main_arg2)
      ∧ r.2.mem ((c.tc : Thread Cert.RouteReferenceIdeal.nD Cert.RouteReferenceIdeal.τ).loc Cert.RouteReferenceIdeal.main_arg3) = m ((c.tc : Thread Cert.RouteReferenceIdeal.nD Cert.RouteReferenceIdeal.τ).loc Cert.RouteReferenceIdeal.main_arg3)
      ∧ r.2.mem ((c.tc : Thread Cert.RouteReferenceIdeal.nD Cert.RouteReferenceIdeal.τ).loc Cert.RouteReferenceIdeal.main_arg4) = m ((c.tc : Thread Cert.RouteReferenceIdeal.nD Cert.RouteReferenceIdeal.τ).loc Cert.RouteReferenceIdeal.main_arg4)
      ∧ r.2.mem ((c.tc : Thread Cert.RouteReferenceIdeal.nD Cert.RouteReferenceIdeal.τ).loc Cert.RouteReferenceIdeal.main_arg5) = m ((c.tc : Thread Cert.RouteReferenceIdeal.nD Cert.RouteReferenceIdeal.τ).loc Cert.RouteReferenceIdeal.main_arg5)
      ∧ r.2.mem ((c.tc : Thread Cert.RouteReferenceIdeal.nD Cert.RouteReferenceIdeal.τ).loc Cert.RouteReferenceIdeal.main_arg6) = m ((c.tc : Thread Cert.RouteReferenceIdeal.nD Cert.RouteReferenceIdeal.τ).loc Cert.RouteReferenceIdeal.main_arg6))
      ∧ r.2.sem = fun _ => 0) :=
  (θ_run Cert.RouteReferenceIdeal.defs _ _).mono (fun r h => ⟨fun c => (h c).2.2, sem_eq_zero_of_no_sems (by decide) r.2⟩)
    (Cert.RouteReferenceIdeal.Value.run (F := Ideal) m g)

/-- The output projection with the routing, and its reference, end with the same two arrays: the rows after the projection and the rows in front of the experts. -/
theorem output_projection : Cert.algebraic_RouteIdeal_RouteReferenceIdeal := by
  intro m g m' g' _ hagree
  refine ⟨fun c => Cert.RouteReferenceIdeal.Read.val_main_v74 (F := Ideal) (m ((c.tc : Thread Cert.RouteIdeal.nD Cert.RouteIdeal.τ).loc Cert.RouteIdeal.main_arg0))
      (m ((c.tc : Thread Cert.RouteIdeal.nD Cert.RouteIdeal.τ).loc Cert.RouteIdeal.main_arg1))
      (m ((c.tc : Thread Cert.RouteIdeal.nD Cert.RouteIdeal.τ).loc Cert.RouteIdeal.main_arg2))
      (m ((c.tc : Thread Cert.RouteIdeal.nD Cert.RouteIdeal.τ).loc Cert.RouteIdeal.main_arg3)),
    fun c => Cert.RouteReferenceIdeal.Read.val_main_v78 (F := Ideal) (m ((c.tc : Thread Cert.RouteIdeal.nD Cert.RouteIdeal.τ).loc Cert.RouteIdeal.main_arg0))
      (m ((c.tc : Thread Cert.RouteIdeal.nD Cert.RouteIdeal.τ).loc Cert.RouteIdeal.main_arg1))
      (m ((c.tc : Thread Cert.RouteIdeal.nD Cert.RouteIdeal.τ).loc Cert.RouteIdeal.main_arg2))
      (m ((c.tc : Thread Cert.RouteIdeal.nD Cert.RouteIdeal.τ).loc Cert.RouteIdeal.main_arg3))
      (m ((c.tc : Thread Cert.RouteIdeal.nD Cert.RouteIdeal.τ).loc Cert.RouteIdeal.main_arg4)), ?_, ?_⟩
  · exact (θ_run Cert.RouteIdeal.defs _ _).mono (fun r h c => ⟨(h c).1.trans (Cert.RouteIdeal.Final.out7 m c),
      (h c).2.1.trans (Cert.RouteIdeal.Final.out8 m c),
      (h c).2.2.2.2.2⟩)
      (Cert.RouteIdeal.Value.run_blocks (F := Ideal) m g)
  · refine (θ_run Cert.RouteReferenceIdeal.defs _ _).mono (fun r h c => ⟨(h c).1.trans ?_, (h c).2.1.trans ?_, (h c).2.2⟩) (Cert.RouteReferenceIdeal.Value.run (F := Ideal) m' g')
    · refine (Cert.RouteReferenceIdeal.Read.val_main_v74_eq (F := Ideal) _ _ _ _).trans ?_
      obtain ⟨h0, h1, h2, h3, h4, h5, h6⟩ := hagree c
      rw [h0, h1, h2, h3]
    · refine (Cert.RouteReferenceIdeal.Read.val_main_v78_eq (F := Ideal) m' c).trans ?_
      obtain ⟨h0, h1, h2, h3, h4, h5, h6⟩ := hagree c
      rw [h0, h1, h2, h3, h4]

/-- The reference of the contexts' attention runs, keeps its arguments, and has no semaphore to leave raised. -/
theorem context_attention_reference_frame (m : (ℓ : Loc Cert.ContextAttentionReferenceIdeal.nD Cert.ContextAttentionReferenceIdeal.τ Cert.ContextAttentionReferenceIdeal.sig) → Buf (Elt Ideal) ℓ)
    (g : Dev Cert.ContextAttentionReferenceIdeal.nD → PrngReg) :
    θ_run (Cert.ContextAttentionReferenceIdeal.defs (F := Ideal)) (onTc (τ := Cert.ContextAttentionReferenceIdeal.τ) (Cert.ContextAttentionReferenceIdeal.main (F := Ideal))) ⟨m, fun _ => 0, g⟩
      (fun r => (∀ c : Dev Cert.ContextAttentionReferenceIdeal.nD,
      r.2.mem ((c.tc : Thread Cert.ContextAttentionReferenceIdeal.nD Cert.ContextAttentionReferenceIdeal.τ).loc Cert.ContextAttentionReferenceIdeal.main_arg0) = m ((c.tc : Thread Cert.ContextAttentionReferenceIdeal.nD Cert.ContextAttentionReferenceIdeal.τ).loc Cert.ContextAttentionReferenceIdeal.main_arg0)
      ∧ r.2.mem ((c.tc : Thread Cert.ContextAttentionReferenceIdeal.nD Cert.ContextAttentionReferenceIdeal.τ).loc Cert.ContextAttentionReferenceIdeal.main_arg1) = m ((c.tc : Thread Cert.ContextAttentionReferenceIdeal.nD Cert.ContextAttentionReferenceIdeal.τ).loc Cert.ContextAttentionReferenceIdeal.main_arg1)
      ∧ r.2.mem ((c.tc : Thread Cert.ContextAttentionReferenceIdeal.nD Cert.ContextAttentionReferenceIdeal.τ).loc Cert.ContextAttentionReferenceIdeal.main_arg2) = m ((c.tc : Thread Cert.ContextAttentionReferenceIdeal.nD Cert.ContextAttentionReferenceIdeal.τ).loc Cert.ContextAttentionReferenceIdeal.main_arg2))
      ∧ r.2.sem = fun _ => 0) :=
  (θ_run Cert.ContextAttentionReferenceIdeal.defs _ _).mono (fun r h => ⟨fun c => (h c).2, sem_eq_zero_of_no_sems (by decide) r.2⟩)
    (Cert.ContextAttentionReferenceIdeal.Value.run (F := Ideal) m g)

/-- The contexts' attention and its reference end with the same array, when the queries and the keys are finite. -/
theorem context_attention : Cert.algebraic_ContextAttentionIdeal_ContextAttentionReferenceIdeal_pre_finite_context_queries_and_keys := by
  intro m g m' g' hpre hagree
  refine ⟨fun c => Cert.ContextAttentionReferenceIdeal.Read.val_main_v81 (F := Ideal) (m ((c.tc : Thread Cert.ContextAttentionIdeal.nD Cert.ContextAttentionIdeal.τ).loc Cert.ContextAttentionIdeal.main_arg0)) (m ((c.tc : Thread Cert.ContextAttentionIdeal.nD Cert.ContextAttentionIdeal.τ).loc Cert.ContextAttentionIdeal.main_arg1)) (m ((c.tc : Thread Cert.ContextAttentionIdeal.nD Cert.ContextAttentionIdeal.τ).loc Cert.ContextAttentionIdeal.main_arg2)), ?_, ?_⟩
  · refine (θ_run Cert.ContextAttentionIdeal.defs _ _).mono (fun r h c => ⟨(h c).1.trans ?_, (h c).2⟩) (Cert.ContextAttentionIdeal.Value.run_blocks (F := Ideal) m g)
    exact Cert.ContextAttentionIdeal.Final.out m c (Cert.Context.finite_of_pre _ _ _ (hpre c))
  · refine (θ_run Cert.ContextAttentionReferenceIdeal.defs _ _).mono (fun r h c => ⟨(h c).1.trans ?_, (h c).2⟩) (Cert.ContextAttentionReferenceIdeal.Value.run (F := Ideal) m' g')
    refine (Cert.ContextAttentionReferenceIdeal.Read.val_main_v81_eq (F := Ideal) m' c).trans ?_
    obtain ⟨h0, h1, h2⟩ := hagree c
    rw [h0, h1, h2]

/-- The reference of the contexts' plain attention runs, keeps its arguments, and has no semaphore to leave raised. -/
theorem plain_context_attention_reference_frame (m : (ℓ : Loc Cert.PlainContextAttentionReferenceIdeal.nD Cert.PlainContextAttentionReferenceIdeal.τ Cert.PlainContextAttentionReferenceIdeal.sig) → Buf (Elt Ideal) ℓ)
    (g : Dev Cert.PlainContextAttentionReferenceIdeal.nD → PrngReg) :
    θ_run (Cert.PlainContextAttentionReferenceIdeal.defs (F := Ideal)) (onTc (τ := Cert.PlainContextAttentionReferenceIdeal.τ) (Cert.PlainContextAttentionReferenceIdeal.main (F := Ideal))) ⟨m, fun _ => 0, g⟩
      (fun r => (∀ c : Dev Cert.PlainContextAttentionReferenceIdeal.nD,
      r.2.mem ((c.tc : Thread Cert.PlainContextAttentionReferenceIdeal.nD Cert.PlainContextAttentionReferenceIdeal.τ).loc Cert.PlainContextAttentionReferenceIdeal.main_arg0) = m ((c.tc : Thread Cert.PlainContextAttentionReferenceIdeal.nD Cert.PlainContextAttentionReferenceIdeal.τ).loc Cert.PlainContextAttentionReferenceIdeal.main_arg0))
      ∧ r.2.sem = fun _ => 0) :=
  (θ_run Cert.PlainContextAttentionReferenceIdeal.defs _ _).mono (fun r h => ⟨fun c => (h c).2, sem_eq_zero_of_no_sems (by decide) r.2⟩)
    (Cert.PlainContextAttentionReferenceIdeal.Value.run (F := Ideal) m g)

/-- The contexts' plain attention and its reference end with the same array, under the precondition. -/
theorem plain_context_attention : Cert.algebraic_PlainContextAttentionIdeal_PlainContextAttentionReferenceIdeal_pre_finite_plain_queries_and_keys := by
  intro m g m' g' hpre hagree
  refine ⟨fun c => Cert.PlainContextAttentionReferenceIdeal.Read.val_main_v23 (F := Ideal) (m ((c.tc : Thread Cert.PlainContextAttentionIdeal.nD Cert.PlainContextAttentionIdeal.τ).loc Cert.PlainContextAttentionIdeal.main_arg0)), ?_, ?_⟩
  · refine (θ_run Cert.PlainContextAttentionIdeal.defs _ _).mono (fun r h c => ⟨(h c).1.trans ?_, (h c).2⟩) (Cert.PlainContextAttentionIdeal.Value.run_blocks (F := Ideal) m g)
    exact Cert.PlainContextAttentionIdeal.Final.out m c (Cert.Context.finite_of_plain_pre _ (hpre c))
  · refine (θ_run Cert.PlainContextAttentionReferenceIdeal.defs _ _).mono (fun r h c => ⟨(h c).1.trans ?_, (h c).2⟩) (Cert.PlainContextAttentionReferenceIdeal.Value.run (F := Ideal) m' g')
    refine (Cert.PlainContextAttentionReferenceIdeal.Read.val_main_v23_eq (F := Ideal) _).trans ?_
    show Cert.PlainContextAttentionReferenceIdeal.Read.val_main_v23 (F := Ideal) (m' ((c.tc : Thread Cert.PlainContextAttentionReferenceIdeal.nD Cert.PlainContextAttentionReferenceIdeal.τ).loc Cert.PlainContextAttentionReferenceIdeal.main_arg0)) = _
    have h0 := hagree c
    rw [h0]

/-- All the claims. -/
theorem claim : Cert.Claim :=
  ⟨Cert.Kernel.Gen.facts,
    Cert.KernelIdeal.Gen.facts,
    Cert.ReferenceIdeal.Gen.facts,
    Cert.Project.Gen.facts,
    Cert.ProjectIdeal.Gen.facts,
    Cert.ProjectReferenceIdeal.Gen.facts,
    Cert.LatentProject.Gen.facts,
    Cert.LatentProjectIdeal.Gen.facts,
    Cert.LatentProjectReferenceIdeal.Gen.facts,
    Cert.RotatedProject.Gen.facts,
    Cert.RotatedProjectIdeal.Gen.facts,
    Cert.RotatedProjectReferenceIdeal.Gen.facts,
    Cert.WindowProject.Gen.facts,
    Cert.WindowProjectIdeal.Gen.facts,
    Cert.WindowProjectReferenceIdeal.Gen.facts,
    Cert.RotatedWindowProject.Gen.facts,
    Cert.RotatedWindowProjectIdeal.Gen.facts,
    Cert.RotatedWindowProjectReferenceIdeal.Gen.facts,
    Cert.Route.Gen.facts,
    Cert.RouteIdeal.Gen.facts,
    Cert.RouteReferenceIdeal.Gen.facts,
    Cert.ContextAttention.Gen.facts,
    Cert.ContextAttentionIdeal.Gen.facts,
    Cert.ContextAttentionReferenceIdeal.Gen.facts,
    Cert.PlainContextAttention.Gen.facts,
    Cert.PlainContextAttentionIdeal.Gen.facts,
    Cert.PlainContextAttentionReferenceIdeal.Gen.facts,
    Cert.Pre_finite_queries_and_keys.Gen.facts,
    Cert.Pre_finite_context_queries_and_keys.Gen.facts,
    Cert.Pre_finite_plain_queries_and_keys.Gen.facts,
    fun m ρ _ => Cert.Kernel.Gen.frame m ρ, fun m ρ _ => Cert.KernelIdeal.Gen.frame m ρ, fun m ρ _ => Cert.KernelIdeal.Gen.frame m ρ,
    fun m ρ _ => reference_frame m ρ, fun m ρ _ => reference_frame m ρ,
    fun m ρ _ => Cert.Project.Gen.frame m ρ, fun m ρ _ => Cert.ProjectIdeal.Gen.frame m ρ, fun m ρ _ => projection_reference_frame m ρ,
    fun m ρ _ => Cert.LatentProject.Gen.frame m ρ, fun m ρ _ => Cert.LatentProjectIdeal.Gen.frame m ρ, fun m ρ _ => latent_projection_reference_frame m ρ,
    fun m ρ _ => Cert.RotatedProject.Gen.frame m ρ, fun m ρ _ => Cert.RotatedProjectIdeal.Gen.frame m ρ, fun m ρ _ => rotated_projection_reference_frame m ρ,
    fun m ρ _ => Cert.WindowProject.Gen.frame m ρ, fun m ρ _ => Cert.WindowProjectIdeal.Gen.frame m ρ, fun m ρ _ => window_projection_reference_frame m ρ,
    fun m ρ _ => Cert.RotatedWindowProject.Gen.frame m ρ, fun m ρ _ => Cert.RotatedWindowProjectIdeal.Gen.frame m ρ, fun m ρ _ => rotated_window_projection_reference_frame m ρ,
    fun m ρ _ => Cert.Route.Gen.frame m ρ, fun m ρ _ => Cert.RouteIdeal.Gen.frame m ρ, fun m ρ _ => output_projection_reference_frame m ρ,
    fun m ρ _ => Cert.ContextAttention.Gen.frame m ρ, fun m ρ _ => Cert.ContextAttentionIdeal.Gen.frame m ρ, fun m ρ _ => Cert.ContextAttentionIdeal.Gen.frame m ρ,
    fun m ρ _ => context_attention_reference_frame m ρ, fun m ρ _ => context_attention_reference_frame m ρ,
    fun m ρ _ => Cert.PlainContextAttention.Gen.frame m ρ, fun m ρ _ => Cert.PlainContextAttentionIdeal.Gen.frame m ρ, fun m ρ _ => Cert.PlainContextAttentionIdeal.Gen.frame m ρ,
    fun m ρ _ => plain_context_attention_reference_frame m ρ, fun m ρ _ => plain_context_attention_reference_frame m ρ,
    trivial, latent_attention, trivial, projection, trivial, latent_projection, trivial, rotated_projection, trivial, window_projection, trivial, rotated_window_projection, trivial, output_projection, trivial, context_attention, trivial, plain_context_attention⟩

end Cert.Proof

end
